-- ==== Defs.lean ====
def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_in_proj_finite [hPre_in_proj_finite : Cert.Pre_in_proj_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5))).1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5))).2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5))).2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5))).2.2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5))).2.2.2.2 = (fun _ => 1#1)

def Pre_InProjBwdRefIdeal (m : (ℓ : Loc Cert.InProjBwdRefIdeal.nD Cert.InProjBwdRefIdeal.τ Cert.InProjBwdRefIdeal.sig) → Buf (Elt Ideal) ℓ) : Prop :=
  True

def Pre_InProjBwdRefIdeal_in_proj_finite [hPre_in_proj_finite : Cert.Pre_in_proj_finite.Facts] (m : (ℓ : Loc Cert.InProjBwdRefIdeal.nD Cert.InProjBwdRefIdeal.τ Cert.InProjBwdRefIdeal.sig) → Buf (Elt Ideal) ℓ) : Prop :=
  ∀ c : Dev Cert.InProjBwdRefIdeal.nD,
    (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5))).1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5))).2.1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5))).2.2.1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5))).2.2.2.1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5))).2.2.2.2 = (fun _ => 1#1)

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_fox_finite [hPre_fox_finite : Cert.Pre_fox_finite.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.1 = (fun _ => 1#1)
    ∧ (Cert.Pre_fox_finite.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4))).2.2.2.2 = (fun _ => 1#1)

def Pre_FoxBwdRefIdeal (m : (ℓ : Loc Cert.FoxBwdRefIdeal.nD Cert.FoxBwdRefIdeal.τ Cert.FoxBwdRefIdeal.sig) → Buf (Elt Ideal) ℓ) : Prop :=
  True

def Pre_FoxBwdRefIdeal_fox_finite [hPre_fox_finite : Cert.Pre_fox_finite.Facts] (m : (ℓ : Loc Cert.FoxBwdRefIdeal.nD Cert.FoxBwdRefIdeal.τ Cert.FoxBwdRefIdeal.sig) → Buf (Elt Ideal) ℓ) : Prop :=
  ∀ c : Dev Cert.FoxBwdRefIdeal.nD,
    (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).1 = (fun _ => 1#1)
    ∧ (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.1 = (fun _ => 1#1)
    ∧ (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.1 = (fun _ => 1#1)
    ∧ (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.2.1 = (fun _ => 1#1)
    ∧ (Cert.Pre_fox_finite.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4))).2.2.2.2 = (fun _ => 1#1)

def Pre_PrepBwd (m : (ℓ : Loc Cert.PrepBwd.nD Cert.PrepBwd.τ Cert.PrepBwd.sig) → Buf (Elt Bits) ℓ) : Prop :=
  True

def Pre_PrepBwdIdeal (m : (ℓ : Loc Cert.PrepBwdIdeal.nD Cert.PrepBwdIdeal.τ Cert.PrepBwdIdeal.sig) → Buf (Elt Ideal) ℓ) : Prop :=
  True

def Pre_PrepBwdIdeal_prep_finite [hPre_prep_finite : Cert.Pre_prep_finite.Facts] (m : (ℓ : Loc Cert.PrepBwdIdeal.nD Cert.PrepBwdIdeal.τ Cert.PrepBwdIdeal.sig) → Buf (Elt Ideal) ℓ) : Prop :=
  ∀ c : Dev Cert.PrepBwdIdeal.nD,
    (Cert.Pre_prep_finite.fn (F := Ideal) (m ((c.tc : Thread Cert.PrepBwdIdeal.nD Cert.PrepBwdIdeal.τ).loc Cert.PrepBwdIdeal.main_arg0)) (m ((c.tc : Thread Cert.PrepBwdIdeal.nD Cert.PrepBwdIdeal.τ).loc Cert.PrepBwdIdeal.main_arg1)) (m ((c.tc : Thread Cert.PrepBwdIdeal.nD Cert.PrepBwdIdeal.τ).loc Cert.PrepBwdIdeal.main_arg2)) (m ((c.tc : Thread Cert.PrepBwdIdeal.nD Cert.PrepBwdIdeal.τ).loc Cert.PrepBwdIdeal.main_arg3)) (m ((c.tc : Thread Cert.PrepBwdIdeal.nD Cert.PrepBwdIdeal.τ).loc Cert.PrepBwdIdeal.main_arg4))).1 = (fun _ => 1#1)
    ∧ (Cert.Pre_prep_finite.fn (F := Ideal) (m ((c.tc : Thread Cert.PrepBwdIdeal.nD Cert.PrepBwdIdeal.τ).loc Cert.PrepBwdIdeal.main_arg0)) (m ((c.tc : Thread Cert.PrepBwdIdeal.nD Cert.PrepBwdIdeal.τ).loc Cert.PrepBwdIdeal.main_arg1)) (m ((c.tc : Thread Cert.PrepBwdIdeal.nD Cert.PrepBwdIdeal.τ).loc Cert.PrepBwdIdeal.main_arg2)) (m ((c.tc : Thread Cert.PrepBwdIdeal.nD Cert.PrepBwdIdeal.τ).loc Cert.PrepBwdIdeal.main_arg3)) (m ((c.tc : Thread Cert.PrepBwdIdeal.nD Cert.PrepBwdIdeal.τ).loc Cert.PrepBwdIdeal.main_arg4))).2.1 = (fun _ => 1#1)
    ∧ (Cert.Pre_prep_finite.fn (F := Ideal) (m ((c.tc : Thread Cert.PrepBwdIdeal.nD Cert.PrepBwdIdeal.τ).loc Cert.PrepBwdIdeal.main_arg0)) (m ((c.tc : Thread Cert.PrepBwdIdeal.nD Cert.PrepBwdIdeal.τ).loc Cert.PrepBwdIdeal.main_arg1)) (m ((c.tc : Thread Cert.PrepBwdIdeal.nD Cert.PrepBwdIdeal.τ).loc Cert.PrepBwdIdeal.main_arg2)) (m ((c.tc : Thread Cert.PrepBwdIdeal.nD Cert.PrepBwdIdeal.τ).loc Cert.PrepBwdIdeal.main_arg3)) (m ((c.tc : Thread Cert.PrepBwdIdeal.nD Cert.PrepBwdIdeal.τ).loc Cert.PrepBwdIdeal.main_arg4))).2.2.1 = (fun _ => 1#1)
    ∧ (Cert.Pre_prep_finite.fn (F := Ideal) (m ((c.tc : Thread Cert.PrepBwdIdeal.nD Cert.PrepBwdIdeal.τ).loc Cert.PrepBwdIdeal.main_arg0)) (m ((c.tc : Thread Cert.PrepBwdIdeal.nD Cert.PrepBwdIdeal.τ).loc Cert.PrepBwdIdeal.main_arg1)) (m ((c.tc : Thread Cert.PrepBwdIdeal.nD Cert.PrepBwdIdeal.τ).loc Cert.PrepBwdIdeal.main_arg2)) (m ((c.tc : Thread Cert.PrepBwdIdeal.nD Cert.PrepBwdIdeal.τ).loc Cert.PrepBwdIdeal.main_arg3)) (m ((c.tc : Thread Cert.PrepBwdIdeal.nD Cert.PrepBwdIdeal.τ).loc Cert.PrepBwdIdeal.main_arg4))).2.2.2.1 = (fun _ => 1#1)
    ∧ (Cert.Pre_prep_finite.fn (F := Ideal) (m ((c.tc : Thread Cert.PrepBwdIdeal.nD Cert.PrepBwdIdeal.τ).loc Cert.PrepBwdIdeal.main_arg0)) (m ((c.tc : Thread Cert.PrepBwdIdeal.nD Cert.PrepBwdIdeal.τ).loc Cert.PrepBwdIdeal.main_arg1)) (m ((c.tc : Thread Cert.PrepBwdIdeal.nD Cert.PrepBwdIdeal.τ).loc Cert.PrepBwdIdeal.main_arg2)) (m ((c.tc : Thread Cert.PrepBwdIdeal.nD Cert.PrepBwdIdeal.τ).loc Cert.PrepBwdIdeal.main_arg3)) (m ((c.tc : Thread Cert.PrepBwdIdeal.nD Cert.PrepBwdIdeal.τ).loc Cert.PrepBwdIdeal.main_arg4))).2.2.2.2 = (fun _ => 1#1)

def Pre_PrepBwdRefIdeal (m : (ℓ : Loc Cert.PrepBwdRefIdeal.nD Cert.PrepBwdRefIdeal.τ Cert.PrepBwdRefIdeal.sig) → Buf (Elt Ideal) ℓ) : Prop :=
  True

def Pre_PrepBwdRefIdeal_prep_finite [hPre_prep_finite : Cert.Pre_prep_finite.Facts] (m : (ℓ : Loc Cert.PrepBwdRefIdeal.nD Cert.PrepBwdRefIdeal.τ Cert.PrepBwdRefIdeal.sig) → Buf (Elt Ideal) ℓ) : Prop :=
  ∀ c : Dev Cert.PrepBwdRefIdeal.nD,
    (Cert.Pre_prep_finite.fn (F := Ideal) (m ((c.tc : Thread Cert.PrepBwdRefIdeal.nD Cert.PrepBwdRefIdeal.τ).loc Cert.PrepBwdRefIdeal.main_arg0)) (m ((c.tc : Thread Cert.PrepBwdRefIdeal.nD Cert.PrepBwdRefIdeal.τ).loc Cert.PrepBwdRefIdeal.main_arg1)) (m ((c.tc : Thread Cert.PrepBwdRefIdeal.nD Cert.PrepBwdRefIdeal.τ).loc Cert.PrepBwdRefIdeal.main_arg2)) (m ((c.tc : Thread Cert.PrepBwdRefIdeal.nD Cert.PrepBwdRefIdeal.τ).loc Cert.PrepBwdRefIdeal.main_arg3)) (m ((c.tc : Thread Cert.PrepBwdRefIdeal.nD Cert.PrepBwdRefIdeal.τ).loc Cert.PrepBwdRefIdeal.main_arg4))).1 = (fun _ => 1#1)
    ∧ (Cert.Pre_prep_finite.fn (F := Ideal) (m ((c.tc : Thread Cert.PrepBwdRefIdeal.nD Cert.PrepBwdRefIdeal.τ).loc Cert.PrepBwdRefIdeal.main_arg0)) (m ((c.tc : Thread Cert.PrepBwdRefIdeal.nD Cert.PrepBwdRefIdeal.τ).loc Cert.PrepBwdRefIdeal.main_arg1)) (m ((c.tc : Thread Cert.PrepBwdRefIdeal.nD Cert.PrepBwdRefIdeal.τ).loc Cert.PrepBwdRefIdeal.main_arg2)) (m ((c.tc : Thread Cert.PrepBwdRefIdeal.nD Cert.PrepBwdRefIdeal.τ).loc Cert.PrepBwdRefIdeal.main_arg3)) (m ((c.tc : Thread Cert.PrepBwdRefIdeal.nD Cert.PrepBwdRefIdeal.τ).loc Cert.PrepBwdRefIdeal.main_arg4))).2.1 = (fun _ => 1#1)
    ∧ (Cert.Pre_prep_finite.fn (F := Ideal) (m ((c.tc : Thread Cert.PrepBwdRefIdeal.nD Cert.PrepBwdRefIdeal.τ).loc Cert.PrepBwdRefIdeal.main_arg0)) (m ((c.tc : Thread Cert.PrepBwdRefIdeal.nD Cert.PrepBwdRefIdeal.τ).loc Cert.PrepBwdRefIdeal.main_arg1)) (m ((c.tc : Thread Cert.PrepBwdRefIdeal.nD Cert.PrepBwdRefIdeal.τ).loc Cert.PrepBwdRefIdeal.main_arg2)) (m ((c.tc : Thread Cert.PrepBwdRefIdeal.nD Cert.PrepBwdRefIdeal.τ).loc Cert.PrepBwdRefIdeal.main_arg3)) (m ((c.tc : Thread Cert.PrepBwdRefIdeal.nD Cert.PrepBwdRefIdeal.τ).loc Cert.PrepBwdRefIdeal.main_arg4))).2.2.1 = (fun _ => 1#1)
    ∧ (Cert.Pre_prep_finite.fn (F := Ideal) (m ((c.tc : Thread Cert.PrepBwdRefIdeal.nD Cert.PrepBwdRefIdeal.τ).loc Cert.PrepBwdRefIdeal.main_arg0)) (m ((c.tc : Thread Cert.PrepBwdRefIdeal.nD Cert.PrepBwdRefIdeal.τ).loc Cert.PrepBwdRefIdeal.main_arg1)) (m ((c.tc : Thread Cert.PrepBwdRefIdeal.nD Cert.PrepBwdRefIdeal.τ).loc Cert.PrepBwdRefIdeal.main_arg2)) (m ((c.tc : Thread Cert.PrepBwdRefIdeal.nD Cert.PrepBwdRefIdeal.τ).loc Cert.PrepBwdRefIdeal.main_arg3)) (m ((c.tc : Thread Cert.PrepBwdRefIdeal.nD Cert.PrepBwdRefIdeal.τ).loc Cert.PrepBwdRefIdeal.main_arg4))).2.2.2.1 = (fun _ => 1#1)
    ∧ (Cert.Pre_prep_finite.fn (F := Ideal) (m ((c.tc : Thread Cert.PrepBwdRefIdeal.nD Cert.PrepBwdRefIdeal.τ).loc Cert.PrepBwdRefIdeal.main_arg0)) (m ((c.tc : Thread Cert.PrepBwdRefIdeal.nD Cert.PrepBwdRefIdeal.τ).loc Cert.PrepBwdRefIdeal.main_arg1)) (m ((c.tc : Thread Cert.PrepBwdRefIdeal.nD Cert.PrepBwdRefIdeal.τ).loc Cert.PrepBwdRefIdeal.main_arg2)) (m ((c.tc : Thread Cert.PrepBwdRefIdeal.nD Cert.PrepBwdRefIdeal.τ).loc Cert.PrepBwdRefIdeal.main_arg3)) (m ((c.tc : Thread Cert.PrepBwdRefIdeal.nD Cert.PrepBwdRefIdeal.τ).loc Cert.PrepBwdRefIdeal.main_arg4))).2.2.2.2 = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_out_finite [hPre_out_finite : Cert.Pre_out_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.2.1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.2.2.1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.2.2.2 = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_out_finite [hPre_out_finite : Cert.Pre_out_finite.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.2.1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.2.2.1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.2.2.2.1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.2.2.2.2.1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))).2.2.2.2.2.2 = (fun _ => 1#1)

def Pre_MlpStep (m : (ℓ : Loc Cert.MlpStep.nD Cert.MlpStep.τ Cert.MlpStep.sig) → Buf (Elt Bits) ℓ) : Prop :=
  True

def Pre_MlpStepIdeal (m : (ℓ : Loc Cert.MlpStepIdeal.nD Cert.MlpStepIdeal.τ Cert.MlpStepIdeal.sig) → Buf (Elt Ideal) ℓ) : Prop :=
  True

def Pre_MlpStepIdeal_mlp_finite [hPre_mlp_finite : Cert.Pre_mlp_finite.Facts] (m : (ℓ : Loc Cert.MlpStepIdeal.nD Cert.MlpStepIdeal.τ Cert.MlpStepIdeal.sig) → Buf (Elt Ideal) ℓ) : Prop :=
  ∀ c : Dev Cert.MlpStepIdeal.nD,
    (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.2.2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.2.2.2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.2.2.2.2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.2.2.2.2.2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.2.2.2.2.2.2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.2.2.2.2.2.2.2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.2.2.2.2.2.2.2.2.1 = (fun _ => 1#1)
    ∧ (Cert.Pre_mlp_finite.fn (F := Ideal) (m ((c.tc : Thread Cert.MlpStepIdeal.nD Cert.MlpStepIdeal.τ).loc Cert.MlpStepIdeal.main_arg0)) (m ((c.tc : Thread Cert.MlpStepIdeal.nD Cert.MlpStepIdeal.τ).loc Cert.MlpStepIdeal.main_arg1)) (m ((c.tc : Thread Cert.MlpStepIdeal.nD Cert.MlpStepIdeal.τ).loc Cert.MlpStepIdeal.main_arg2)) (m ((c.tc : Thread Cert.MlpStepIdeal.nD Cert.MlpStepIdeal.τ).loc Cert.MlpStepIdeal.main_arg3)) (m ((c.tc : Thread Cert.MlpStepIdeal.nD Cert.MlpStepIdeal.τ).loc Cert.MlpStepIdeal.main_arg4)) (m ((c.tc : Thread Cert.MlpStepIdeal.nD Cert.MlpStepIdeal.τ).loc Cert.MlpStepIdeal.main_arg5)) (m ((c.tc : Thread Cert.MlpStepIdeal.nD Cert.MlpStepIdeal.τ).loc Cert.MlpStepIdeal.main_arg6)) (m ((c.tc : Thread Cert.MlpStepIdeal.nD Cert.MlpStepIdeal.τ).loc Cert.MlpStepIdeal.main_arg7)) (m ((c.tc : Thread Cert.MlpStepIdeal.nD Cert.MlpStepIdeal.τ).loc Cert.MlpStepIdeal.main_arg8)) (m ((c.tc : Thread Cert.MlpStepIdeal.nD Cert.MlpStepIdeal.τ).loc Cert.MlpStepIdeal.main_arg9)) (m ((c.tc : Thread Cert.MlpStepIdeal.nD Cert.MlpStepIdeal.τ).loc Cert.MlpStepIdeal.main_arg10)) (m ((c.tc : Thread Cert.MlpStepIdeal.nD Cert.MlpStepIdeal.τ).loc Cert.MlpStepIdeal.main_arg11))).2.2.2.2.2.2.2.2.2.2.2 = (fun _ => 1#1)

def Pre_MlpStepRefIdeal (m : (ℓ : Loc Cert.MlpStepRefIdeal.nD Cert.MlpStepRefIdeal.τ Cert.MlpStepRefIdeal.sig) → Buf (Elt Ideal) ℓ) : Prop :=
  True

def Pre_MlpStepRefIdeal_mlp_finite [hPre_mlp_finite : Cert.Pre_mlp_finite.Facts] (m : (ℓ : Loc Cert.MlpStepRefIdeal.nD Cert.MlpStepRefIdeal.τ Cert.MlpStepRefIdeal.sig) → Buf (Elt Ideal) ℓ) : Prop :=
  ∀ c : Dev Cert.MlpStepRefIdeal.nD,
    (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.2.2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.2.2.2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.2.2.2.2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.2.2.2.2.2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.2.2.2.2.2.2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.2.2.2.2.2.2.2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.2.2.2.2.2.2.2.2.1 = (fun _ => 1#1)
    ∧ (Cert.Pre_mlp_finite.fn (F := Ideal) (m ((c.tc : Thread Cert.MlpStepRefIdeal.nD Cert.MlpStepRefIdeal.τ).loc Cert.MlpStepRefIdeal.main_arg0)) (m ((c.tc : Thread Cert.MlpStepRefIdeal.nD Cert.MlpStepRefIdeal.τ).loc Cert.MlpStepRefIdeal.main_arg1)) (m ((c.tc : Thread Cert.MlpStepRefIdeal.nD Cert.MlpStepRefIdeal.τ).loc Cert.MlpStepRefIdeal.main_arg2)) (m ((c.tc : Thread Cert.MlpStepRefIdeal.nD Cert.MlpStepRefIdeal.τ).loc Cert.MlpStepRefIdeal.main_arg3)) (m ((c.tc : Thread Cert.MlpStepRefIdeal.nD Cert.MlpStepRefIdeal.τ).loc Cert.MlpStepRefIdeal.main_arg4)) (m ((c.tc : Thread Cert.MlpStepRefIdeal.nD Cert.MlpStepRefIdeal.τ).loc Cert.MlpStepRefIdeal.main_arg5)) (m ((c.tc : Thread Cert.MlpStepRefIdeal.nD Cert.MlpStepRefIdeal.τ).loc Cert.MlpStepRefIdeal.main_arg6)) (m ((c.tc : Thread Cert.MlpStepRefIdeal.nD Cert.MlpStepRefIdeal.τ).loc Cert.MlpStepRefIdeal.main_arg7)) (m ((c.tc : Thread Cert.MlpStepRefIdeal.nD Cert.MlpStepRefIdeal.τ).loc Cert.MlpStepRefIdeal.main_arg8)) (m ((c.tc : Thread Cert.MlpStepRefIdeal.nD Cert.MlpStepRefIdeal.τ).loc Cert.MlpStepRefIdeal.main_arg9)) (m ((c.tc : Thread Cert.MlpStepRefIdeal.nD Cert.MlpStepRefIdeal.τ).loc Cert.MlpStepRefIdeal.main_arg10)) (m ((c.tc : Thread Cert.MlpStepRefIdeal.nD Cert.MlpStepRefIdeal.τ).loc Cert.MlpStepRefIdeal.main_arg11))).2.2.2.2.2.2.2.2.2.2.2 = (fun _ => 1#1)

def Pre_GatesBwdIdeal (m : (ℓ : Loc Cert.GatesBwdIdeal.nD Cert.GatesBwdIdeal.τ Cert.GatesBwdIdeal.sig) → Buf (Elt Ideal) ℓ) : Prop :=
  True

def Pre_GatesBwdIdeal_gates_finite [hPre_gates_finite : Cert.Pre_gates_finite.Facts] (m : (ℓ : Loc Cert.GatesBwdIdeal.nD Cert.GatesBwdIdeal.τ Cert.GatesBwdIdeal.sig) → Buf (Elt Ideal) ℓ) : Prop :=
  ∀ c : Dev Cert.GatesBwdIdeal.nD,
    (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.2.2.2.1 = (fun _ => 1#1)
    ∧ (Cert.Pre_gates_finite.fn (F := Ideal) (m ((c.tc : Thread Cert.GatesBwdIdeal.nD Cert.GatesBwdIdeal.τ).loc Cert.GatesBwdIdeal.main_arg0)) (m ((c.tc : Thread Cert.GatesBwdIdeal.nD Cert.GatesBwdIdeal.τ).loc Cert.GatesBwdIdeal.main_arg1)) (m ((c.tc : Thread Cert.GatesBwdIdeal.nD Cert.GatesBwdIdeal.τ).loc Cert.GatesBwdIdeal.main_arg2)) (m ((c.tc : Thread Cert.GatesBwdIdeal.nD Cert.GatesBwdIdeal.τ).loc Cert.GatesBwdIdeal.main_arg3)) (m ((c.tc : Thread Cert.GatesBwdIdeal.nD Cert.GatesBwdIdeal.τ).loc Cert.GatesBwdIdeal.main_arg4)) (m ((c.tc : Thread Cert.GatesBwdIdeal.nD Cert.GatesBwdIdeal.τ).loc Cert.GatesBwdIdeal.main_arg5)) (m ((c.tc : Thread Cert.GatesBwdIdeal.nD Cert.GatesBwdIdeal.τ).loc Cert.GatesBwdIdeal.main_arg6)) (m ((c.tc : Thread Cert.GatesBwdIdeal.nD Cert.GatesBwdIdeal.τ).loc Cert.GatesBwdIdeal.main_arg7))).2.2.2.2.2.2.2 = (fun _ => 1#1)

def Pre_GatesBwdRefIdeal (m : (ℓ : Loc Cert.GatesBwdRefIdeal.nD Cert.GatesBwdRefIdeal.τ Cert.GatesBwdRefIdeal.sig) → Buf (Elt Ideal) ℓ) : Prop :=
  True

def Pre_GatesBwdRefIdeal_gates_finite [hPre_gates_finite : Cert.Pre_gates_finite.Facts] (m : (ℓ : Loc Cert.GatesBwdRefIdeal.nD Cert.GatesBwdRefIdeal.τ Cert.GatesBwdRefIdeal.sig) → Buf (Elt Ideal) ℓ) : Prop :=
  ∀ c : Dev Cert.GatesBwdRefIdeal.nD,
    (Cert.Pre_gates_finite.fn (F := Ideal) (m ((c.tc : Thread Cert.GatesBwdRefIdeal.nD Cert.GatesBwdRefIdeal.τ).loc Cert.GatesBwdRefIdeal.main_arg0)) (m ((c.tc : Thread Cert.GatesBwdRefIdeal.nD Cert.GatesBwdRefIdeal.τ).loc Cert.GatesBwdRefIdeal.main_arg1)) (m ((c.tc : Thread Cert.GatesBwdRefIdeal.nD Cert.GatesBwdRefIdeal.τ).loc Cert.GatesBwdRefIdeal.main_arg2)) (m ((c.tc : Thread Cert.GatesBwdRefIdeal.nD Cert.GatesBwdRefIdeal.τ).loc Cert.GatesBwdRefIdeal.main_arg3)) (m ((c.tc : Thread Cert.GatesBwdRefIdeal.nD Cert.GatesBwdRefIdeal.τ).loc Cert.GatesBwdRefIdeal.main_arg4)) (m ((c.tc : Thread Cert.GatesBwdRefIdeal.nD Cert.GatesBwdRefIdeal.τ).loc Cert.GatesBwdRefIdeal.main_arg5)) (m ((c.tc : Thread Cert.GatesBwdRefIdeal.nD Cert.GatesBwdRefIdeal.τ).loc Cert.GatesBwdRefIdeal.main_arg6)) (m ((c.tc : Thread Cert.GatesBwdRefIdeal.nD Cert.GatesBwdRefIdeal.τ).loc Cert.GatesBwdRefIdeal.main_arg7))).1 = (fun _ => 1#1)
    ∧ (Cert.Pre_gates_finite.fn (F := Ideal) (m ((c.tc : Thread Cert.GatesBwdRefIdeal.nD Cert.GatesBwdRefIdeal.τ).loc Cert.GatesBwdRefIdeal.main_arg0)) (m ((c.tc : Thread Cert.GatesBwdRefIdeal.nD Cert.GatesBwdRefIdeal.τ).loc Cert.GatesBwdRefIdeal.main_arg1)) (m ((c.tc : Thread Cert.GatesBwdRefIdeal.nD Cert.GatesBwdRefIdeal.τ).loc Cert.GatesBwdRefIdeal.main_arg2)) (m ((c.tc : Thread Cert.GatesBwdRefIdeal.nD Cert.GatesBwdRefIdeal.τ).loc Cert.GatesBwdRefIdeal.main_arg3)) (m ((c.tc : Thread Cert.GatesBwdRefIdeal.nD Cert.GatesBwdRefIdeal.τ).loc Cert.GatesBwdRefIdeal.main_arg4)) (m ((c.tc : Thread Cert.GatesBwdRefIdeal.nD Cert.GatesBwdRefIdeal.τ).loc Cert.GatesBwdRefIdeal.main_arg5)) (m ((c.tc : Thread Cert.GatesBwdRefIdeal.nD Cert.GatesBwdRefIdeal.τ).loc Cert.GatesBwdRefIdeal.main_arg6)) (m ((c.tc : Thread Cert.GatesBwdRefIdeal.nD Cert.GatesBwdRefIdeal.τ).loc Cert.GatesBwdRefIdeal.main_arg7))).2.1 = (fun _ => 1#1)
    ∧ (Cert.Pre_gates_finite.fn (F := Ideal) (m ((c.tc : Thread Cert.GatesBwdRefIdeal.nD Cert.GatesBwdRefIdeal.τ).loc Cert.GatesBwdRefIdeal.main_arg0)) (m ((c.tc : Thread Cert.GatesBwdRefIdeal.nD Cert.GatesBwdRefIdeal.τ).loc Cert.GatesBwdRefIdeal.main_arg1)) (m ((c.tc : Thread Cert.GatesBwdRefIdeal.nD Cert.GatesBwdRefIdeal.τ).loc Cert.GatesBwdRefIdeal.main_arg2)) (m ((c.tc : Thread Cert.GatesBwdRefIdeal.nD Cert.GatesBwdRefIdeal.τ).loc Cert.GatesBwdRefIdeal.main_arg3)) (m ((c.tc : Thread Cert.GatesBwdRefIdeal.nD Cert.GatesBwdRefIdeal.τ).loc Cert.GatesBwdRefIdeal.main_arg4)) (m ((c.tc : Thread Cert.GatesBwdRefIdeal.nD Cert.GatesBwdRefIdeal.τ).loc Cert.GatesBwdRefIdeal.main_arg5)) (m ((c.tc : Thread Cert.GatesBwdRefIdeal.nD Cert.GatesBwdRefIdeal.τ).loc Cert.GatesBwdRefIdeal.main_arg6)) (m ((c.tc : Thread Cert.GatesBwdRefIdeal.nD Cert.GatesBwdRefIdeal.τ).loc Cert.GatesBwdRefIdeal.main_arg7))).2.2.1 = (fun _ => 1#1)
    ∧ (Cert.Pre_gates_finite.fn (F := Ideal) (m ((c.tc : Thread Cert.GatesBwdRefIdeal.nD Cert.GatesBwdRefIdeal.τ).loc Cert.GatesBwdRefIdeal.main_arg0)) (m ((c.tc : Thread Cert.GatesBwdRefIdeal.nD Cert.GatesBwdRefIdeal.τ).loc Cert.GatesBwdRefIdeal.main_arg1)) (m ((c.tc : Thread Cert.GatesBwdRefIdeal.nD Cert.GatesBwdRefIdeal.τ).loc Cert.GatesBwdRefIdeal.main_arg2)) (m ((c.tc : Thread Cert.GatesBwdRefIdeal.nD Cert.GatesBwdRefIdeal.τ).loc Cert.GatesBwdRefIdeal.main_arg3)) (m ((c.tc : Thread Cert.GatesBwdRefIdeal.nD Cert.GatesBwdRefIdeal.τ).loc Cert.GatesBwdRefIdeal.main_arg4)) (m ((c.tc : Thread Cert.GatesBwdRefIdeal.nD Cert.GatesBwdRefIdeal.τ).loc Cert.GatesBwdRefIdeal.main_arg5)) (m ((c.tc : Thread Cert.GatesBwdRefIdeal.nD Cert.GatesBwdRefIdeal.τ).loc Cert.GatesBwdRefIdeal.main_arg6)) (m ((c.tc : Thread Cert.GatesBwdRefIdeal.nD Cert.GatesBwdRefIdeal.τ).loc Cert.GatesBwdRefIdeal.main_arg7))).2.2.2.1 = (fun _ => 1#1)
    ∧ (Cert.Pre_gates_finite.fn (F := Ideal) (m ((c.tc : Thread Cert.GatesBwdRefIdeal.nD Cert.GatesBwdRefIdeal.τ).loc Cert.GatesBwdRefIdeal.main_arg0)) (m ((c.tc : Thread Cert.GatesBwdRefIdeal.nD Cert.GatesBwdRefIdeal.τ).loc Cert.GatesBwdRefIdeal.main_arg1)) (m ((c.tc : Thread Cert.GatesBwdRefIdeal.nD Cert.GatesBwdRefIdeal.τ).loc Cert.GatesBwdRefIdeal.main_arg2)) (m ((c.tc : Thread Cert.GatesBwdRefIdeal.nD Cert.GatesBwdRefIdeal.τ).loc Cert.GatesBwdRefIdeal.main_arg3)) (m ((c.tc : Thread Cert.GatesBwdRefIdeal.nD Cert.GatesBwdRefIdeal.τ).loc Cert.GatesBwdRefIdeal.main_arg4)) (m ((c.tc : Thread Cert.GatesBwdRefIdeal.nD Cert.GatesBwdRefIdeal.τ).loc Cert.GatesBwdRefIdeal.main_arg5)) (m ((c.tc : Thread Cert.GatesBwdRefIdeal.nD Cert.GatesBwdRefIdeal.τ).loc Cert.GatesBwdRefIdeal.main_arg6)) (m ((c.tc : Thread Cert.GatesBwdRefIdeal.nD Cert.GatesBwdRefIdeal.τ).loc Cert.GatesBwdRefIdeal.main_arg7))).2.2.2.2.1 = (fun _ => 1#1)
    ∧ (Cert.Pre_gates_finite.fn (F := Ideal) (m ((c.tc : Thread Cert.GatesBwdRefIdeal.nD Cert.GatesBwdRefIdeal.τ).loc Cert.GatesBwdRefIdeal.main_arg0)) (m ((c.tc : Thread Cert.GatesBwdRefIdeal.nD Cert.GatesBwdRefIdeal.τ).loc Cert.GatesBwdRefIdeal.main_arg1)) (m ((c.tc : Thread Cert.GatesBwdRefIdeal.nD Cert.GatesBwdRefIdeal.τ).loc Cert.GatesBwdRefIdeal.main_arg2)) (m ((c.tc : Thread Cert.GatesBwdRefIdeal.nD Cert.GatesBwdRefIdeal.τ).loc Cert.GatesBwdRefIdeal.main_arg3)) (m ((c.tc : Thread Cert.GatesBwdRefIdeal.nD Cert.GatesBwdRefIdeal.τ).loc Cert.GatesBwdRefIdeal.main_arg4)) (m ((c.tc : Thread Cert.GatesBwdRefIdeal.nD Cert.GatesBwdRefIdeal.τ).loc Cert.GatesBwdRefIdeal.main_arg5)) (m ((c.tc : Thread Cert.GatesBwdRefIdeal.nD Cert.GatesBwdRefIdeal.τ).loc Cert.GatesBwdRefIdeal.main_arg6)) (m ((c.tc : Thread Cert.GatesBwdRefIdeal.nD Cert.GatesBwdRefIdeal.τ).loc Cert.GatesBwdRefIdeal.main_arg7))).2.2.2.2.2.1 = (fun _ => 1#1)
    ∧ (Cert.Pre_gates_finite.fn (F := Ideal) (m ((c.tc : Thread Cert.GatesBwdRefIdeal.nD Cert.GatesBwdRefIdeal.τ).loc Cert.GatesBwdRefIdeal.main_arg0)) (m ((c.tc : Thread Cert.GatesBwdRefIdeal.nD Cert.GatesBwdRefIdeal.τ).loc Cert.GatesBwdRefIdeal.main_arg1)) (m ((c.tc : Thread Cert.GatesBwdRefIdeal.nD Cert.GatesBwdRefIdeal.τ).loc Cert.GatesBwdRefIdeal.main_arg2)) (m ((c.tc : Thread Cert.GatesBwdRefIdeal.nD Cert.GatesBwdRefIdeal.τ).loc Cert.GatesBwdRefIdeal.main_arg3)) (m ((c.tc : Thread Cert.GatesBwdRefIdeal.nD Cert.GatesBwdRefIdeal.τ).loc Cert.GatesBwdRefIdeal.main_arg4)) (m ((c.tc : Thread Cert.GatesBwdRefIdeal.nD Cert.GatesBwdRefIdeal.τ).loc Cert.GatesBwdRefIdeal.main_arg5)) (m ((c.tc : Thread Cert.GatesBwdRefIdeal.nD Cert.GatesBwdRefIdeal.τ).loc Cert.GatesBwdRefIdeal.main_arg6)) (m ((c.tc : Thread Cert.GatesBwdRefIdeal.nD Cert.GatesBwdRefIdeal.τ).loc Cert.GatesBwdRefIdeal.main_arg7))).2.2.2.2.2.2.1 = (fun _ => 1#1)
    ∧ (Cert.Pre_gates_finite.fn (F := Ideal) (m ((c.tc : Thread Cert.GatesBwdRefIdeal.nD Cert.GatesBwdRefIdeal.τ).loc Cert.GatesBwdRefIdeal.main_arg0)) (m ((c.tc : Thread Cert.GatesBwdRefIdeal.nD Cert.GatesBwdRefIdeal.τ).loc Cert.GatesBwdRefIdeal.main_arg1)) (m ((c.tc : Thread Cert.GatesBwdRefIdeal.nD Cert.GatesBwdRefIdeal.τ).loc Cert.GatesBwdRefIdeal.main_arg2)) (m ((c.tc : Thread Cert.GatesBwdRefIdeal.nD Cert.GatesBwdRefIdeal.τ).loc Cert.GatesBwdRefIdeal.main_arg3)) (m ((c.tc : Thread Cert.GatesBwdRefIdeal.nD Cert.GatesBwdRefIdeal.τ).loc Cert.GatesBwdRefIdeal.main_arg4)) (m ((c.tc : Thread Cert.GatesBwdRefIdeal.nD Cert.GatesBwdRefIdeal.τ).loc Cert.GatesBwdRefIdeal.main_arg5)) (m ((c.tc : Thread Cert.GatesBwdRefIdeal.nD Cert.GatesBwdRefIdeal.τ).loc Cert.GatesBwdRefIdeal.main_arg6)) (m ((c.tc : Thread Cert.GatesBwdRefIdeal.nD Cert.GatesBwdRefIdeal.τ).loc Cert.GatesBwdRefIdeal.main_arg7))).2.2.2.2.2.2.2 = (fun _ => 1#1)

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdIdeal_prepf_finite [hPre_prepf_finite : Cert.Pre_prepf_finite.Facts] (m : (ℓ : Loc Cert.PrepFwdIdeal.nD Cert.PrepFwdIdeal.τ Cert.PrepFwdIdeal.sig) → Buf (Elt Ideal) ℓ) : Prop :=
  ∀ c : Dev Cert.PrepFwdIdeal.nD,
    (Cert.Pre_prepf_finite.fn (F := Ideal) (m ((c.tc : Thread Cert.PrepFwdIdeal.nD Cert.PrepFwdIdeal.τ).loc Cert.PrepFwdIdeal.main_arg0)) (m ((c.tc : Thread Cert.PrepFwdIdeal.nD Cert.PrepFwdIdeal.τ).loc Cert.PrepFwdIdeal.main_arg1))).1 = (fun _ => 1#1)
    ∧ (Cert.Pre_prepf_finite.fn (F := Ideal) (m ((c.tc : Thread Cert.PrepFwdIdeal.nD Cert.PrepFwdIdeal.τ).loc Cert.PrepFwdIdeal.main_arg0)) (m ((c.tc : Thread Cert.PrepFwdIdeal.nD Cert.PrepFwdIdeal.τ).loc Cert.PrepFwdIdeal.main_arg1))).2 = (fun _ => 1#1)

def Pre_PrepFwdRefIdeal (m : (ℓ : Loc Cert.PrepFwdRefIdeal.nD Cert.PrepFwdRefIdeal.τ Cert.PrepFwdRefIdeal.sig) → Buf (Elt Ideal) ℓ) : Prop :=
  True

def Pre_PrepFwdRefIdeal_prepf_finite [hPre_prepf_finite : Cert.Pre_prepf_finite.Facts] (m : (ℓ : Loc Cert.PrepFwdRefIdeal.nD Cert.PrepFwdRefIdeal.τ Cert.PrepFwdRefIdeal.sig) → Buf (Elt Ideal) ℓ) : Prop :=
  ∀ c : Dev Cert.PrepFwdRefIdeal.nD,
    (Cert.Pre_prepf_finite.fn (F := Ideal) (m ((c.tc : Thread Cert.PrepFwdRefIdeal.nD Cert.PrepFwdRefIdeal.τ).loc Cert.PrepFwdRefIdeal.main_arg0)) (m ((c.tc : Thread Cert.PrepFwdRefIdeal.nD Cert.PrepFwdRefIdeal.τ).loc Cert.PrepFwdRefIdeal.main_arg1))).1 = (fun _ => 1#1)
    ∧ (Cert.Pre_prepf_finite.fn (F := Ideal) (m ((c.tc : Thread Cert.PrepFwdRefIdeal.nD Cert.PrepFwdRefIdeal.τ).loc Cert.PrepFwdRefIdeal.main_arg0)) (m ((c.tc : Thread Cert.PrepFwdRefIdeal.nD Cert.PrepFwdRefIdeal.τ).loc Cert.PrepFwdRefIdeal.main_arg1))).2 = (fun _ => 1#1)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5))
      ∧ r.2.sem = fun _ => 0)

def quiescent_InProjBwdIdeal_pre_in_proj_finite [hInProjBwdIdeal : Cert.InProjBwdIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_in_proj_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5))
      ∧ r.2.sem = fun _ => 0)

def quiescent_InProjBwdRefIdeal_pre_in_proj_finite [hInProjBwdRefIdeal : Cert.InProjBwdRefIdeal.Facts] [hPre_in_proj_finite : Cert.Pre_in_proj_finite.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal_in_proj_finite m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdIdeal_pre_fox_finite [hFoxBwdIdeal : Cert.FoxBwdIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_fox_finite m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ r.2.sem = fun _ => 0)

def quiescent_FoxBwdRefIdeal [hFoxBwdRefIdeal : Cert.FoxBwdRefIdeal.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_FoxBwdRefIdeal_pre_fox_finite [hFoxBwdRefIdeal : Cert.FoxBwdRefIdeal.Facts] [hPre_fox_finite : Cert.Pre_fox_finite.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal_fox_finite m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4))
      ∧ r.2.sem = fun _ => 0)

def quiescent_PrepBwd [hPrepBwd : Cert.PrepBwd.Facts] : Prop :=
  ∀ (m : (ℓ : Loc Cert.PrepBwd.nD Cert.PrepBwd.τ Cert.PrepBwd.sig) → Buf (Elt Bits) ℓ) (g : Dev Cert.PrepBwd.nD → PrngReg), Pre_PrepBwd m →
    θ_run (Cert.PrepBwd.defs (F := Bits)) (onTc (τ := Cert.PrepBwd.τ) (Cert.PrepBwd.main (F := Bits))) ⟨m, fun _ => 0, g⟩ (fun r => (∀ c : Dev Cert.PrepBwd.nD,
      r.2.mem ((c.tc : Thread Cert.PrepBwd.nD Cert.PrepBwd.τ).loc Cert.PrepBwd.main_arg0) = m ((c.tc : Thread Cert.PrepBwd.nD Cert.PrepBwd.τ).loc Cert.PrepBwd.main_arg0)
      ∧ r.2.mem ((c.tc : Thread Cert.PrepBwd.nD Cert.PrepBwd.τ).loc Cert.PrepBwd.main_arg1) = m ((c.tc : Thread Cert.PrepBwd.nD Cert.PrepBwd.τ).loc Cert.PrepBwd.main_arg1)
      ∧ r.2.mem ((c.tc : Thread Cert.PrepBwd.nD Cert.PrepBwd.τ).loc Cert.PrepBwd.main_arg2) = m ((c.tc : Thread Cert.PrepBwd.nD Cert.PrepBwd.τ).loc Cert.PrepBwd.main_arg2)
      ∧ r.2.mem ((c.tc : Thread Cert.PrepBwd.nD Cert.PrepBwd.τ).loc Cert.PrepBwd.main_arg3) = m ((c.tc : Thread Cert.PrepBwd.nD Cert.PrepBwd.τ).loc Cert.PrepBwd.main_arg3)
      ∧ r.2.mem ((c.tc : Thread Cert.PrepBwd.nD Cert.PrepBwd.τ).loc Cert.PrepBwd.main_arg4) = m ((c.tc : Thread Cert.PrepBwd.nD Cert.PrepBwd.τ).loc Cert.PrepBwd.main_arg4))
      ∧ r.2.sem = fun _ => 0)

def quiescent_PrepBwdIdeal [hPrepBwdIdeal : Cert.PrepBwdIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4))
      ∧ r.2.sem = fun _ => 0)

def quiescent_PrepBwdIdeal_pre_prep_finite [hPrepBwdIdeal : Cert.PrepBwdIdeal.Facts] [hPre_prep_finite : Cert.Pre_prep_finite.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal_prep_finite m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4))
      ∧ r.2.sem = fun _ => 0)

def quiescent_PrepBwdRefIdeal [hPrepBwdRefIdeal : Cert.PrepBwdRefIdeal.Facts] : Prop :=
  ∀ (m : (ℓ : Loc Cert.PrepBwdRefIdeal.nD Cert.PrepBwdRefIdeal.τ Cert.PrepBwdRefIdeal.sig) → Buf (Elt Ideal) ℓ) (g : Dev Cert.PrepBwdRefIdeal.nD → PrngReg), Pre_PrepBwdRefIdeal m →
    θ_run (Cert.PrepBwdRefIdeal.defs (F := Ideal)) (onTc (τ := Cert.PrepBwdRefIdeal.τ) (Cert.PrepBwdRefIdeal.main (F := Ideal))) ⟨m, fun _ => 0, g⟩ (fun r => (∀ c : Dev Cert.PrepBwdRefIdeal.nD,
      r.2.mem ((c.tc : Thread Cert.PrepBwdRefIdeal.nD Cert.PrepBwdRefIdeal.τ).loc Cert.PrepBwdRefIdeal.main_arg0) = m ((c.tc : Thread Cert.PrepBwdRefIdeal.nD Cert.PrepBwdRefIdeal.τ).loc Cert.PrepBwdRefIdeal.main_arg0)
      ∧ r.2.mem ((c.tc : Thread Cert.PrepBwdRefIdeal.nD Cert.PrepBwdRefIdeal.τ).loc Cert.PrepBwdRefIdeal.main_arg1) = m ((c.tc : Thread Cert.PrepBwdRefIdeal.nD Cert.PrepBwdRefIdeal.τ).loc Cert.PrepBwdRefIdeal.main_arg1)
      ∧ r.2.mem ((c.tc : Thread Cert.PrepBwdRefIdeal.nD Cert.PrepBwdRefIdeal.τ).loc Cert.PrepBwdRefIdeal.main_arg2) = m ((c.tc : Thread Cert.PrepBwdRefIdeal.nD Cert.PrepBwdRefIdeal.τ).loc Cert.PrepBwdRefIdeal.main_arg2)
      ∧ r.2.mem ((c.tc : Thread Cert.PrepBwdRefIdeal.nD Cert.PrepBwdRefIdeal.τ).loc Cert.PrepBwdRefIdeal.main_arg3) = m ((c.tc : Thread Cert.PrepBwdRefIdeal.nD Cert.PrepBwdRefIdeal.τ).loc Cert.PrepBwdRefIdeal.main_arg3)
      ∧ r.2.mem ((c.tc : Thread Cert.PrepBwdRefIdeal.nD Cert.PrepBwdRefIdeal.τ).loc Cert.PrepBwdRefIdeal.main_arg4) = m ((c.tc : Thread Cert.PrepBwdRefIdeal.nD Cert.PrepBwdRefIdeal.τ).loc Cert.PrepBwdRefIdeal.main_arg4))
      ∧ r.2.sem = fun _ => 0)

def quiescent_PrepBwdRefIdeal_pre_prep_finite [hPrepBwdRefIdeal : Cert.PrepBwdRefIdeal.Facts] [hPre_prep_finite : Cert.Pre_prep_finite.Facts] : Prop :=
  ∀ (m : (ℓ : Loc Cert.PrepBwdRefIdeal.nD Cert.PrepBwdRefIdeal.τ Cert.PrepBwdRefIdeal.sig) → Buf (Elt Ideal) ℓ) (g : Dev Cert.PrepBwdRefIdeal.nD → PrngReg), Pre_PrepBwdRefIdeal_prep_finite m →
    θ_run (Cert.PrepBwdRefIdeal.defs (F := Ideal)) (onTc (τ := Cert.PrepBwdRefIdeal.τ) (Cert.PrepBwdRefIdeal.main (F := Ideal))) ⟨m, fun _ => 0, g⟩ (fun r => (∀ c : Dev Cert.PrepBwdRefIdeal.nD,
      r.2.mem ((c.tc : Thread Cert.PrepBwdRefIdeal.nD Cert.PrepBwdRefIdeal.τ).loc Cert.PrepBwdRefIdeal.main_arg0) = m ((c.tc : Thread Cert.PrepBwdRefIdeal.nD Cert.PrepBwdRefIdeal.τ).loc Cert.PrepBwdRefIdeal.main_arg0)
      ∧ r.2.mem ((c.tc : Thread Cert.PrepBwdRefIdeal.nD Cert.PrepBwdRefIdeal.τ).loc Cert.PrepBwdRefIdeal.main_arg1) = m ((c.tc : Thread Cert.PrepBwdRefIdeal.nD Cert.PrepBwdRefIdeal.τ).loc Cert.PrepBwdRefIdeal.main_arg1)
      ∧ r.2.mem ((c.tc : Thread Cert.PrepBwdRefIdeal.nD Cert.PrepBwdRefIdeal.τ).loc Cert.PrepBwdRefIdeal.main_arg2) = m ((c.tc : Thread Cert.PrepBwdRefIdeal.nD Cert.PrepBwdRefIdeal.τ).loc Cert.PrepBwdRefIdeal.main_arg2)
      ∧ r.2.mem ((c.tc : Thread Cert.PrepBwdRefIdeal.nD Cert.PrepBwdRefIdeal.τ).loc Cert.PrepBwdRefIdeal.main_arg3) = m ((c.tc : Thread Cert.PrepBwdRefIdeal.nD Cert.PrepBwdRefIdeal.τ).loc Cert.PrepBwdRefIdeal.main_arg3)
      ∧ r.2.mem ((c.tc : Thread Cert.PrepBwdRefIdeal.nD Cert.PrepBwdRefIdeal.τ).loc Cert.PrepBwdRefIdeal.main_arg4) = m ((c.tc : Thread Cert.PrepBwdRefIdeal.nD Cert.PrepBwdRefIdeal.τ).loc Cert.PrepBwdRefIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdIdeal_pre_out_finite [hOutBwdIdeal : Cert.OutBwdIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_out_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_OutBwdRefIdeal_pre_out_finite [hOutBwdRefIdeal : Cert.OutBwdRefIdeal.Facts] [hPre_out_finite : Cert.Pre_out_finite.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_out_finite m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_MlpStep [hMlpStep : Cert.MlpStep.Facts] : Prop :=
  ∀ (m : (ℓ : Loc Cert.MlpStep.nD Cert.MlpStep.τ Cert.MlpStep.sig) → Buf (Elt Bits) ℓ) (g : Dev Cert.MlpStep.nD → PrngReg), Pre_MlpStep m →
    θ_run (Cert.MlpStep.defs (F := Bits)) (onTc (τ := Cert.MlpStep.τ) (Cert.MlpStep.main (F := Bits))) ⟨m, fun _ => 0, g⟩ (fun r => (∀ c : Dev Cert.MlpStep.nD,
      r.2.mem ((c.tc : Thread Cert.MlpStep.nD Cert.MlpStep.τ).loc Cert.MlpStep.main_arg0) = m ((c.tc : Thread Cert.MlpStep.nD Cert.MlpStep.τ).loc Cert.MlpStep.main_arg0)
      ∧ r.2.mem ((c.tc : Thread Cert.MlpStep.nD Cert.MlpStep.τ).loc Cert.MlpStep.main_arg1) = m ((c.tc : Thread Cert.MlpStep.nD Cert.MlpStep.τ).loc Cert.MlpStep.main_arg1)
      ∧ r.2.mem ((c.tc : Thread Cert.MlpStep.nD Cert.MlpStep.τ).loc Cert.MlpStep.main_arg2) = m ((c.tc : Thread Cert.MlpStep.nD Cert.MlpStep.τ).loc Cert.MlpStep.main_arg2)
      ∧ r.2.mem ((c.tc : Thread Cert.MlpStep.nD Cert.MlpStep.τ).loc Cert.MlpStep.main_arg3) = m ((c.tc : Thread Cert.MlpStep.nD Cert.MlpStep.τ).loc Cert.MlpStep.main_arg3)
      ∧ r.2.mem ((c.tc : Thread Cert.MlpStep.nD Cert.MlpStep.τ).loc Cert.MlpStep.main_arg4) = m ((c.tc : Thread Cert.MlpStep.nD Cert.MlpStep.τ).loc Cert.MlpStep.main_arg4)
      ∧ r.2.mem ((c.tc : Thread Cert.MlpStep.nD Cert.MlpStep.τ).loc Cert.MlpStep.main_arg5) = m ((c.tc : Thread Cert.MlpStep.nD Cert.MlpStep.τ).loc Cert.MlpStep.main_arg5)
      ∧ r.2.mem ((c.tc : Thread Cert.MlpStep.nD Cert.MlpStep.τ).loc Cert.MlpStep.main_arg6) = m ((c.tc : Thread Cert.MlpStep.nD Cert.MlpStep.τ).loc Cert.MlpStep.main_arg6)
      ∧ r.2.mem ((c.tc : Thread Cert.MlpStep.nD Cert.MlpStep.τ).loc Cert.MlpStep.main_arg7) = m ((c.tc : Thread Cert.MlpStep.nD Cert.MlpStep.τ).loc Cert.MlpStep.main_arg7)
      ∧ r.2.mem ((c.tc : Thread Cert.MlpStep.nD Cert.MlpStep.τ).loc Cert.MlpStep.main_arg8) = m ((c.tc : Thread Cert.MlpStep.nD Cert.MlpStep.τ).loc Cert.MlpStep.main_arg8)
      ∧ r.2.mem ((c.tc : Thread Cert.MlpStep.nD Cert.MlpStep.τ).loc Cert.MlpStep.main_arg9) = m ((c.tc : Thread Cert.MlpStep.nD Cert.MlpStep.τ).loc Cert.MlpStep.main_arg9)
      ∧ r.2.mem ((c.tc : Thread Cert.MlpStep.nD Cert.MlpStep.τ).loc Cert.MlpStep.main_arg10) = m ((c.tc : Thread Cert.MlpStep.nD Cert.MlpStep.τ).loc Cert.MlpStep.main_arg10)
      ∧ r.2.mem ((c.tc : Thread Cert.MlpStep.nD Cert.MlpStep.τ).loc Cert.MlpStep.main_arg11) = m ((c.tc : Thread Cert.MlpStep.nD Cert.MlpStep.τ).loc Cert.MlpStep.main_arg11))
      ∧ r.2.sem = fun _ => 0)

def quiescent_MlpStepIdeal [hMlpStepIdeal : Cert.MlpStepIdeal.Facts] : Prop :=
  ∀ (m : (ℓ : Loc Cert.MlpStepIdeal.nD Cert.MlpStepIdeal.τ Cert.MlpStepIdeal.sig) → Buf (Elt Ideal) ℓ) (g : Dev Cert.MlpStepIdeal.nD → PrngReg), Pre_MlpStepIdeal m →
    θ_run (Cert.MlpStepIdeal.defs (F := Ideal)) (onTc (τ := Cert.MlpStepIdeal.τ) (Cert.MlpStepIdeal.main (F := Ideal))) ⟨m, fun _ => 0, g⟩ (fun r => (∀ c : Dev Cert.MlpStepIdeal.nD,
      r.2.mem ((c.tc : Thread Cert.MlpStepIdeal.nD Cert.MlpStepIdeal.τ).loc Cert.MlpStepIdeal.main_arg0) = m ((c.tc : Thread Cert.MlpStepIdeal.nD Cert.MlpStepIdeal.τ).loc Cert.MlpStepIdeal.main_arg0)
      ∧ r.2.mem ((c.tc : Thread Cert.MlpStepIdeal.nD Cert.MlpStepIdeal.τ).loc Cert.MlpStepIdeal.main_arg1) = m ((c.tc : Thread Cert.MlpStepIdeal.nD Cert.MlpStepIdeal.τ).loc Cert.MlpStepIdeal.main_arg1)
      ∧ r.2.mem ((c.tc : Thread Cert.MlpStepIdeal.nD Cert.MlpStepIdeal.τ).loc Cert.MlpStepIdeal.main_arg2) = m ((c.tc : Thread Cert.MlpStepIdeal.nD Cert.MlpStepIdeal.τ).loc Cert.MlpStepIdeal.main_arg2)
      ∧ r.2.mem ((c.tc : Thread Cert.MlpStepIdeal.nD Cert.MlpStepIdeal.τ).loc Cert.MlpStepIdeal.main_arg3) = m ((c.tc : Thread Cert.MlpStepIdeal.nD Cert.MlpStepIdeal.τ).loc Cert.MlpStepIdeal.main_arg3)
      ∧ r.2.mem ((c.tc : Thread Cert.MlpStepIdeal.nD Cert.MlpStepIdeal.τ).loc Cert.MlpStepIdeal.main_arg4) = m ((c.tc : Thread Cert.MlpStepIdeal.nD Cert.MlpStepIdeal.τ).loc Cert.MlpStepIdeal.main_arg4)
      ∧ r.2.mem ((c.tc : Thread Cert.MlpStepIdeal.nD Cert.MlpStepIdeal.τ).loc Cert.MlpStepIdeal.main_arg5) = m ((c.tc : Thread Cert.MlpStepIdeal.nD Cert.MlpStepIdeal.τ).loc Cert.MlpStepIdeal.main_arg5)
      ∧ r.2.mem ((c.tc : Thread Cert.MlpStepIdeal.nD Cert.MlpStepIdeal.τ).loc Cert.MlpStepIdeal.main_arg6) = m ((c.tc : Thread Cert.MlpStepIdeal.nD Cert.MlpStepIdeal.τ).loc Cert.MlpStepIdeal.main_arg6)
      ∧ r.2.mem ((c.tc : Thread Cert.MlpStepIdeal.nD Cert.MlpStepIdeal.τ).loc Cert.MlpStepIdeal.main_arg7) = m ((c.tc : Thread Cert.MlpStepIdeal.nD Cert.MlpStepIdeal.τ).loc Cert.MlpStepIdeal.main_arg7)
      ∧ r.2.mem ((c.tc : Thread Cert.MlpStepIdeal.nD Cert.MlpStepIdeal.τ).loc Cert.MlpStepIdeal.main_arg8) = m ((c.tc : Thread Cert.MlpStepIdeal.nD Cert.MlpStepIdeal.τ).loc Cert.MlpStepIdeal.main_arg8)
      ∧ r.2.mem ((c.tc : Thread Cert.MlpStepIdeal.nD Cert.MlpStepIdeal.τ).loc Cert.MlpStepIdeal.main_arg9) = m ((c.tc : Thread Cert.MlpStepIdeal.nD Cert.MlpStepIdeal.τ).loc Cert.MlpStepIdeal.main_arg9)
      ∧ r.2.mem ((c.tc : Thread Cert.MlpStepIdeal.nD Cert.MlpStepIdeal.τ).loc Cert.MlpStepIdeal.main_arg10) = m ((c.tc : Thread Cert.MlpStepIdeal.nD Cert.MlpStepIdeal.τ).loc Cert.MlpStepIdeal.main_arg10)
      ∧ r.2.mem ((c.tc : Thread Cert.MlpStepIdeal.nD Cert.MlpStepIdeal.τ).loc Cert.MlpStepIdeal.main_arg11) = m ((c.tc : Thread Cert.MlpStepIdeal.nD Cert.MlpStepIdeal.τ).loc Cert.MlpStepIdeal.main_arg11))
      ∧ r.2.sem = fun _ => 0)

def quiescent_MlpStepIdeal_pre_mlp_finite [hMlpStepIdeal : Cert.MlpStepIdeal.Facts] [hPre_mlp_finite : Cert.Pre_mlp_finite.Facts] : Prop :=
  ∀ (m : (ℓ : Loc Cert.MlpStepIdeal.nD Cert.MlpStepIdeal.τ Cert.MlpStepIdeal.sig) → Buf (Elt Ideal) ℓ) (g : Dev Cert.MlpStepIdeal.nD → PrngReg), Pre_MlpStepIdeal_mlp_finite m →
    θ_run (Cert.MlpStepIdeal.defs (F := Ideal)) (onTc (τ := Cert.MlpStepIdeal.τ) (Cert.MlpStepIdeal.main (F := Ideal))) ⟨m, fun _ => 0, g⟩ (fun r => (∀ c : Dev Cert.MlpStepIdeal.nD,
      r.2.mem ((c.tc : Thread Cert.MlpStepIdeal.nD Cert.MlpStepIdeal.τ).loc Cert.MlpStepIdeal.main_arg0) = m ((c.tc : Thread Cert.MlpStepIdeal.nD Cert.MlpStepIdeal.τ).loc Cert.MlpStepIdeal.main_arg0)
      ∧ r.2.mem ((c.tc : Thread Cert.MlpStepIdeal.nD Cert.MlpStepIdeal.τ).loc Cert.MlpStepIdeal.main_arg1) = m ((c.tc : Thread Cert.MlpStepIdeal.nD Cert.MlpStepIdeal.τ).loc Cert.MlpStepIdeal.main_arg1)
      ∧ r.2.mem ((c.tc : Thread Cert.MlpStepIdeal.nD Cert.MlpStepIdeal.τ).loc Cert.MlpStepIdeal.main_arg2) = m ((c.tc : Thread Cert.MlpStepIdeal.nD Cert.MlpStepIdeal.τ).loc Cert.MlpStepIdeal.main_arg2)
      ∧ r.2.mem ((c.tc : Thread Cert.MlpStepIdeal.nD Cert.MlpStepIdeal.τ).loc Cert.MlpStepIdeal.main_arg3) = m ((c.tc : Thread Cert.MlpStepIdeal.nD Cert.MlpStepIdeal.τ).loc Cert.MlpStepIdeal.main_arg3)
      ∧ r.2.mem ((c.tc : Thread Cert.MlpStepIdeal.nD Cert.MlpStepIdeal.τ).loc Cert.MlpStepIdeal.main_arg4) = m ((c.tc : Thread Cert.MlpStepIdeal.nD Cert.MlpStepIdeal.τ).loc Cert.MlpStepIdeal.main_arg4)
      ∧ r.2.mem ((c.tc : Thread Cert.MlpStepIdeal.nD Cert.MlpStepIdeal.τ).loc Cert.MlpStepIdeal.main_arg5) = m ((c.tc : Thread Cert.MlpStepIdeal.nD Cert.MlpStepIdeal.τ).loc Cert.MlpStepIdeal.main_arg5)
      ∧ r.2.mem ((c.tc : Thread Cert.MlpStepIdeal.nD Cert.MlpStepIdeal.τ).loc Cert.MlpStepIdeal.main_arg6) = m ((c.tc : Thread Cert.MlpStepIdeal.nD Cert.MlpStepIdeal.τ).loc Cert.MlpStepIdeal.main_arg6)
      ∧ r.2.mem ((c.tc : Thread Cert.MlpStepIdeal.nD Cert.MlpStepIdeal.τ).loc Cert.MlpStepIdeal.main_arg7) = m ((c.tc : Thread Cert.MlpStepIdeal.nD Cert.MlpStepIdeal.τ).loc Cert.MlpStepIdeal.main_arg7)
      ∧ r.2.mem ((c.tc : Thread Cert.MlpStepIdeal.nD Cert.MlpStepIdeal.τ).loc Cert.MlpStepIdeal.main_arg8) = m ((c.tc : Thread Cert.MlpStepIdeal.nD Cert.MlpStepIdeal.τ).loc Cert.MlpStepIdeal.main_arg8)
      ∧ r.2.mem ((c.tc : Thread Cert.MlpStepIdeal.nD Cert.MlpStepIdeal.τ).loc Cert.MlpStepIdeal.main_arg9) = m ((c.tc : Thread Cert.MlpStepIdeal.nD Cert.MlpStepIdeal.τ).loc Cert.MlpStepIdeal.main_arg9)
      ∧ r.2.mem ((c.tc : Thread Cert.MlpStepIdeal.nD Cert.MlpStepIdeal.τ).loc Cert.MlpStepIdeal.main_arg10) = m ((c.tc : Thread Cert.MlpStepIdeal.nD Cert.MlpStepIdeal.τ).loc Cert.MlpStepIdeal.main_arg10)
      ∧ r.2.mem ((c.tc : Thread Cert.MlpStepIdeal.nD Cert.MlpStepIdeal.τ).loc Cert.MlpStepIdeal.main_arg11) = m ((c.tc : Thread Cert.MlpStepIdeal.nD Cert.MlpStepIdeal.τ).loc Cert.MlpStepIdeal.main_arg11))
      ∧ r.2.sem = fun _ => 0)

def quiescent_MlpStepRefIdeal [hMlpStepRefIdeal : Cert.MlpStepRefIdeal.Facts] : Prop :=
  ∀ (m : (ℓ : Loc Cert.MlpStepRefIdeal.nD Cert.MlpStepRefIdeal.τ Cert.MlpStepRefIdeal.sig) → Buf (Elt Ideal) ℓ) (g : Dev Cert.MlpStepRefIdeal.nD → PrngReg), Pre_MlpStepRefIdeal m →
    θ_run (Cert.MlpStepRefIdeal.defs (F := Ideal)) (onTc (τ := Cert.MlpStepRefIdeal.τ) (Cert.MlpStepRefIdeal.main (F := Ideal))) ⟨m, fun _ => 0, g⟩ (fun r => (∀ c : Dev Cert.MlpStepRefIdeal.nD,
      r.2.mem ((c.tc : Thread Cert.MlpStepRefIdeal.nD Cert.MlpStepRefIdeal.τ).loc Cert.MlpStepRefIdeal.main_arg0) = m ((c.tc : Thread Cert.MlpStepRefIdeal.nD Cert.MlpStepRefIdeal.τ).loc Cert.MlpStepRefIdeal.main_arg0)
      ∧ r.2.mem ((c.tc : Thread Cert.MlpStepRefIdeal.nD Cert.MlpStepRefIdeal.τ).loc Cert.MlpStepRefIdeal.main_arg1) = m ((c.tc : Thread Cert.MlpStepRefIdeal.nD Cert.MlpStepRefIdeal.τ).loc Cert.MlpStepRefIdeal.main_arg1)
      ∧ r.2.mem ((c.tc : Thread Cert.MlpStepRefIdeal.nD Cert.MlpStepRefIdeal.τ).loc Cert.MlpStepRefIdeal.main_arg2) = m ((c.tc : Thread Cert.MlpStepRefIdeal.nD Cert.MlpStepRefIdeal.τ).loc Cert.MlpStepRefIdeal.main_arg2)
      ∧ r.2.mem ((c.tc : Thread Cert.MlpStepRefIdeal.nD Cert.MlpStepRefIdeal.τ).loc Cert.MlpStepRefIdeal.main_arg3) = m ((c.tc : Thread Cert.MlpStepRefIdeal.nD Cert.MlpStepRefIdeal.τ).loc Cert.MlpStepRefIdeal.main_arg3)
      ∧ r.2.mem ((c.tc : Thread Cert.MlpStepRefIdeal.nD Cert.MlpStepRefIdeal.τ).loc Cert.MlpStepRefIdeal.main_arg4) = m ((c.tc : Thread Cert.MlpStepRefIdeal.nD Cert.MlpStepRefIdeal.τ).loc Cert.MlpStepRefIdeal.main_arg4)
      ∧ r.2.mem ((c.tc : Thread Cert.MlpStepRefIdeal.nD Cert.MlpStepRefIdeal.τ).loc Cert.MlpStepRefIdeal.main_arg5) = m ((c.tc : Thread Cert.MlpStepRefIdeal.nD Cert.MlpStepRefIdeal.τ).loc Cert.MlpStepRefIdeal.main_arg5)
      ∧ r.2.mem ((c.tc : Thread Cert.MlpStepRefIdeal.nD Cert.MlpStepRefIdeal.τ).loc Cert.MlpStepRefIdeal.main_arg6) = m ((c.tc : Thread Cert.MlpStepRefIdeal.nD Cert.MlpStepRefIdeal.τ).loc Cert.MlpStepRefIdeal.main_arg6)
      ∧ r.2.mem ((c.tc : Thread Cert.MlpStepRefIdeal.nD Cert.MlpStepRefIdeal.τ).loc Cert.MlpStepRefIdeal.main_arg7) = m ((c.tc : Thread Cert.MlpStepRefIdeal.nD Cert.MlpStepRefIdeal.τ).loc Cert.MlpStepRefIdeal.main_arg7)
      ∧ r.2.mem ((c.tc : Thread Cert.MlpStepRefIdeal.nD Cert.MlpStepRefIdeal.τ).loc Cert.MlpStepRefIdeal.main_arg8) = m ((c.tc : Thread Cert.MlpStepRefIdeal.nD Cert.MlpStepRefIdeal.τ).loc Cert.MlpStepRefIdeal.main_arg8)
      ∧ r.2.mem ((c.tc : Thread Cert.MlpStepRefIdeal.nD Cert.MlpStepRefIdeal.τ).loc Cert.MlpStepRefIdeal.main_arg9) = m ((c.tc : Thread Cert.MlpStepRefIdeal.nD Cert.MlpStepRefIdeal.τ).loc Cert.MlpStepRefIdeal.main_arg9)
      ∧ r.2.mem ((c.tc : Thread Cert.MlpStepRefIdeal.nD Cert.MlpStepRefIdeal.τ).loc Cert.MlpStepRefIdeal.main_arg10) = m ((c.tc : Thread Cert.MlpStepRefIdeal.nD Cert.MlpStepRefIdeal.τ).loc Cert.MlpStepRefIdeal.main_arg10)
      ∧ r.2.mem ((c.tc : Thread Cert.MlpStepRefIdeal.nD Cert.MlpStepRefIdeal.τ).loc Cert.MlpStepRefIdeal.main_arg11) = m ((c.tc : Thread Cert.MlpStepRefIdeal.nD Cert.MlpStepRefIdeal.τ).loc Cert.MlpStepRefIdeal.main_arg11))
      ∧ r.2.sem = fun _ => 0)

def quiescent_MlpStepRefIdeal_pre_mlp_finite [hMlpStepRefIdeal : Cert.MlpStepRefIdeal.Facts] [hPre_mlp_finite : Cert.Pre_mlp_finite.Facts] : Prop :=
  ∀ (m : (ℓ : Loc Cert.MlpStepRefIdeal.nD Cert.MlpStepRefIdeal.τ Cert.MlpStepRefIdeal.sig) → Buf (Elt Ideal) ℓ) (g : Dev Cert.MlpStepRefIdeal.nD → PrngReg), Pre_MlpStepRefIdeal_mlp_finite m →
    θ_run (Cert.MlpStepRefIdeal.defs (F := Ideal)) (onTc (τ := Cert.MlpStepRefIdeal.τ) (Cert.MlpStepRefIdeal.main (F := Ideal))) ⟨m, fun _ => 0, g⟩ (fun r => (∀ c : Dev Cert.MlpStepRefIdeal.nD,
      r.2.mem ((c.tc : Thread Cert.MlpStepRefIdeal.nD Cert.MlpStepRefIdeal.τ).loc Cert.MlpStepRefIdeal.main_arg0) = m ((c.tc : Thread Cert.MlpStepRefIdeal.nD Cert.MlpStepRefIdeal.τ).loc Cert.MlpStepRefIdeal.main_arg0)
      ∧ r.2.mem ((c.tc : Thread Cert.MlpStepRefIdeal.nD Cert.MlpStepRefIdeal.τ).loc Cert.MlpStepRefIdeal.main_arg1) = m ((c.tc : Thread Cert.MlpStepRefIdeal.nD Cert.MlpStepRefIdeal.τ).loc Cert.MlpStepRefIdeal.main_arg1)
      ∧ r.2.mem ((c.tc : Thread Cert.MlpStepRefIdeal.nD Cert.MlpStepRefIdeal.τ).loc Cert.MlpStepRefIdeal.main_arg2) = m ((c.tc : Thread Cert.MlpStepRefIdeal.nD Cert.MlpStepRefIdeal.τ).loc Cert.MlpStepRefIdeal.main_arg2)
      ∧ r.2.mem ((c.tc : Thread Cert.MlpStepRefIdeal.nD Cert.MlpStepRefIdeal.τ).loc Cert.MlpStepRefIdeal.main_arg3) = m ((c.tc : Thread Cert.MlpStepRefIdeal.nD Cert.MlpStepRefIdeal.τ).loc Cert.MlpStepRefIdeal.main_arg3)
      ∧ r.2.mem ((c.tc : Thread Cert.MlpStepRefIdeal.nD Cert.MlpStepRefIdeal.τ).loc Cert.MlpStepRefIdeal.main_arg4) = m ((c.tc : Thread Cert.MlpStepRefIdeal.nD Cert.MlpStepRefIdeal.τ).loc Cert.MlpStepRefIdeal.main_arg4)
      ∧ r.2.mem ((c.tc : Thread Cert.MlpStepRefIdeal.nD Cert.MlpStepRefIdeal.τ).loc Cert.MlpStepRefIdeal.main_arg5) = m ((c.tc : Thread Cert.MlpStepRefIdeal.nD Cert.MlpStepRefIdeal.τ).loc Cert.MlpStepRefIdeal.main_arg5)
      ∧ r.2.mem ((c.tc : Thread Cert.MlpStepRefIdeal.nD Cert.MlpStepRefIdeal.τ).loc Cert.MlpStepRefIdeal.main_arg6) = m ((c.tc : Thread Cert.MlpStepRefIdeal.nD Cert.MlpStepRefIdeal.τ).loc Cert.MlpStepRefIdeal.main_arg6)
      ∧ r.2.mem ((c.tc : Thread Cert.MlpStepRefIdeal.nD Cert.MlpStepRefIdeal.τ).loc Cert.MlpStepRefIdeal.main_arg7) = m ((c.tc : Thread Cert.MlpStepRefIdeal.nD Cert.MlpStepRefIdeal.τ).loc Cert.MlpStepRefIdeal.main_arg7)
      ∧ r.2.mem ((c.tc : Thread Cert.MlpStepRefIdeal.nD Cert.MlpStepRefIdeal.τ).loc Cert.MlpStepRefIdeal.main_arg8) = m ((c.tc : Thread Cert.MlpStepRefIdeal.nD Cert.MlpStepRefIdeal.τ).loc Cert.MlpStepRefIdeal.main_arg8)
      ∧ r.2.mem ((c.tc : Thread Cert.MlpStepRefIdeal.nD Cert.MlpStepRefIdeal.τ).loc Cert.MlpStepRefIdeal.main_arg9) = m ((c.tc : Thread Cert.MlpStepRefIdeal.nD Cert.MlpStepRefIdeal.τ).loc Cert.MlpStepRefIdeal.main_arg9)
      ∧ r.2.mem ((c.tc : Thread Cert.MlpStepRefIdeal.nD Cert.MlpStepRefIdeal.τ).loc Cert.MlpStepRefIdeal.main_arg10) = m ((c.tc : Thread Cert.MlpStepRefIdeal.nD Cert.MlpStepRefIdeal.τ).loc Cert.MlpStepRefIdeal.main_arg10)
      ∧ r.2.mem ((c.tc : Thread Cert.MlpStepRefIdeal.nD Cert.MlpStepRefIdeal.τ).loc Cert.MlpStepRefIdeal.main_arg11) = m ((c.tc : Thread Cert.MlpStepRefIdeal.nD Cert.MlpStepRefIdeal.τ).loc Cert.MlpStepRefIdeal.main_arg11))
      ∧ r.2.sem = fun _ => 0)

def quiescent_GatesBwdIdeal [hGatesBwdIdeal : Cert.GatesBwdIdeal.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg), Pre_GatesBwdIdeal m →
    θ_run (Cert.GatesBwdIdeal.defs (F := Ideal)) (onTc (τ := Cert.GatesBwdIdeal.τ) (Cert.GatesBwdIdeal.main (F := Ideal))) ⟨m, fun _ => 0, g⟩ (fun r => (∀ c : Dev Cert.GatesBwdIdeal.nD,
      r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
      ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
      ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
      ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3)
      ∧ r.2.mem ((c.tc : Thread Cert.GatesBwdIdeal.nD Cert.GatesBwdIdeal.τ).loc Cert.GatesBwdIdeal.main_arg4) = m ((c.tc : Thread Cert.GatesBwdIdeal.nD Cert.GatesBwdIdeal.τ).loc Cert.GatesBwdIdeal.main_arg4)
      ∧ r.2.mem ((c.tc : Thread Cert.GatesBwdIdeal.nD Cert.GatesBwdIdeal.τ).loc Cert.GatesBwdIdeal.main_arg5) = m ((c.tc : Thread Cert.GatesBwdIdeal.nD Cert.GatesBwdIdeal.τ).loc Cert.GatesBwdIdeal.main_arg5)
      ∧ r.2.mem ((c.tc : Thread Cert.GatesBwdIdeal.nD Cert.GatesBwdIdeal.τ).loc Cert.GatesBwdIdeal.main_arg6) = m ((c.tc : Thread Cert.GatesBwdIdeal.nD Cert.GatesBwdIdeal.τ).loc Cert.GatesBwdIdeal.main_arg6)
      ∧ r.2.mem ((c.tc : Thread Cert.GatesBwdIdeal.nD Cert.GatesBwdIdeal.τ).loc Cert.GatesBwdIdeal.main_arg7) = m ((c.tc : Thread Cert.GatesBwdIdeal.nD Cert.GatesBwdIdeal.τ).loc Cert.GatesBwdIdeal.main_arg7))
      ∧ r.2.sem = fun _ => 0)

def quiescent_GatesBwdIdeal_pre_gates_finite [hGatesBwdIdeal : Cert.GatesBwdIdeal.Facts] [hPre_gates_finite : Cert.Pre_gates_finite.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg), Pre_GatesBwdIdeal_gates_finite m →
    θ_run (Cert.GatesBwdIdeal.defs (F := Ideal)) (onTc (τ := Cert.GatesBwdIdeal.τ) (Cert.GatesBwdIdeal.main (F := Ideal))) ⟨m, fun _ => 0, g⟩ (fun r => (∀ c : Dev Cert.GatesBwdIdeal.nD,
      r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
      ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
      ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
      ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3)
      ∧ r.2.mem ((c.tc : Thread Cert.GatesBwdIdeal.nD Cert.GatesBwdIdeal.τ).loc Cert.GatesBwdIdeal.main_arg4) = m ((c.tc : Thread Cert.GatesBwdIdeal.nD Cert.GatesBwdIdeal.τ).loc Cert.GatesBwdIdeal.main_arg4)
      ∧ r.2.mem ((c.tc : Thread Cert.GatesBwdIdeal.nD Cert.GatesBwdIdeal.τ).loc Cert.GatesBwdIdeal.main_arg5) = m ((c.tc : Thread Cert.GatesBwdIdeal.nD Cert.GatesBwdIdeal.τ).loc Cert.GatesBwdIdeal.main_arg5)
      ∧ r.2.mem ((c.tc : Thread Cert.GatesBwdIdeal.nD Cert.GatesBwdIdeal.τ).loc Cert.GatesBwdIdeal.main_arg6) = m ((c.tc : Thread Cert.GatesBwdIdeal.nD Cert.GatesBwdIdeal.τ).loc Cert.GatesBwdIdeal.main_arg6)
      ∧ r.2.mem ((c.tc : Thread Cert.GatesBwdIdeal.nD Cert.GatesBwdIdeal.τ).loc Cert.GatesBwdIdeal.main_arg7) = m ((c.tc : Thread Cert.GatesBwdIdeal.nD Cert.GatesBwdIdeal.τ).loc Cert.GatesBwdIdeal.main_arg7))
      ∧ r.2.sem = fun _ => 0)

def quiescent_GatesBwdRefIdeal [hGatesBwdRefIdeal : Cert.GatesBwdRefIdeal.Facts] : Prop :=
  ∀ (m : (ℓ : Loc Cert.GatesBwdRefIdeal.nD Cert.GatesBwdRefIdeal.τ Cert.GatesBwdRefIdeal.sig) → Buf (Elt Ideal) ℓ) (g : Dev Cert.GatesBwdRefIdeal.nD → PrngReg), Pre_GatesBwdRefIdeal m →
    θ_run (Cert.GatesBwdRefIdeal.defs (F := Ideal)) (onTc (τ := Cert.GatesBwdRefIdeal.τ) (Cert.GatesBwdRefIdeal.main (F := Ideal))) ⟨m, fun _ => 0, g⟩ (fun r => (∀ c : Dev Cert.GatesBwdRefIdeal.nD,
      r.2.mem ((c.tc : Thread Cert.GatesBwdRefIdeal.nD Cert.GatesBwdRefIdeal.τ).loc Cert.GatesBwdRefIdeal.main_arg0) = m ((c.tc : Thread Cert.GatesBwdRefIdeal.nD Cert.GatesBwdRefIdeal.τ).loc Cert.GatesBwdRefIdeal.main_arg0)
      ∧ r.2.mem ((c.tc : Thread Cert.GatesBwdRefIdeal.nD Cert.GatesBwdRefIdeal.τ).loc Cert.GatesBwdRefIdeal.main_arg1) = m ((c.tc : Thread Cert.GatesBwdRefIdeal.nD Cert.GatesBwdRefIdeal.τ).loc Cert.GatesBwdRefIdeal.main_arg1)
      ∧ r.2.mem ((c.tc : Thread Cert.GatesBwdRefIdeal.nD Cert.GatesBwdRefIdeal.τ).loc Cert.GatesBwdRefIdeal.main_arg2) = m ((c.tc : Thread Cert.GatesBwdRefIdeal.nD Cert.GatesBwdRefIdeal.τ).loc Cert.GatesBwdRefIdeal.main_arg2)
      ∧ r.2.mem ((c.tc : Thread Cert.GatesBwdRefIdeal.nD Cert.GatesBwdRefIdeal.τ).loc Cert.GatesBwdRefIdeal.main_arg3) = m ((c.tc : Thread Cert.GatesBwdRefIdeal.nD Cert.GatesBwdRefIdeal.τ).loc Cert.GatesBwdRefIdeal.main_arg3)
      ∧ r.2.mem ((c.tc : Thread Cert.GatesBwdRefIdeal.nD Cert.GatesBwdRefIdeal.τ).loc Cert.GatesBwdRefIdeal.main_arg4) = m ((c.tc : Thread Cert.GatesBwdRefIdeal.nD Cert.GatesBwdRefIdeal.τ).loc Cert.GatesBwdRefIdeal.main_arg4)
      ∧ r.2.mem ((c.tc : Thread Cert.GatesBwdRefIdeal.nD Cert.GatesBwdRefIdeal.τ).loc Cert.GatesBwdRefIdeal.main_arg5) = m ((c.tc : Thread Cert.GatesBwdRefIdeal.nD Cert.GatesBwdRefIdeal.τ).loc Cert.GatesBwdRefIdeal.main_arg5)
      ∧ r.2.mem ((c.tc : Thread Cert.GatesBwdRefIdeal.nD Cert.GatesBwdRefIdeal.τ).loc Cert.GatesBwdRefIdeal.main_arg6) = m ((c.tc : Thread Cert.GatesBwdRefIdeal.nD Cert.GatesBwdRefIdeal.τ).loc Cert.GatesBwdRefIdeal.main_arg6)
      ∧ r.2.mem ((c.tc : Thread Cert.GatesBwdRefIdeal.nD Cert.GatesBwdRefIdeal.τ).loc Cert.GatesBwdRefIdeal.main_arg7) = m ((c.tc : Thread Cert.GatesBwdRefIdeal.nD Cert.GatesBwdRefIdeal.τ).loc Cert.GatesBwdRefIdeal.main_arg7))
      ∧ r.2.sem = fun _ => 0)

def quiescent_GatesBwdRefIdeal_pre_gates_finite [hGatesBwdRefIdeal : Cert.GatesBwdRefIdeal.Facts] [hPre_gates_finite : Cert.Pre_gates_finite.Facts] : Prop :=
  ∀ (m : (ℓ : Loc Cert.GatesBwdRefIdeal.nD Cert.GatesBwdRefIdeal.τ Cert.GatesBwdRefIdeal.sig) → Buf (Elt Ideal) ℓ) (g : Dev Cert.GatesBwdRefIdeal.nD → PrngReg), Pre_GatesBwdRefIdeal_gates_finite m →
    θ_run (Cert.GatesBwdRefIdeal.defs (F := Ideal)) (onTc (τ := Cert.GatesBwdRefIdeal.τ) (Cert.GatesBwdRefIdeal.main (F := Ideal))) ⟨m, fun _ => 0, g⟩ (fun r => (∀ c : Dev Cert.GatesBwdRefIdeal.nD,
      r.2.mem ((c.tc : Thread Cert.GatesBwdRefIdeal.nD Cert.GatesBwdRefIdeal.τ).loc Cert.GatesBwdRefIdeal.main_arg0) = m ((c.tc : Thread Cert.GatesBwdRefIdeal.nD Cert.GatesBwdRefIdeal.τ).loc Cert.GatesBwdRefIdeal.main_arg0)
      ∧ r.2.mem ((c.tc : Thread Cert.GatesBwdRefIdeal.nD Cert.GatesBwdRefIdeal.τ).loc Cert.GatesBwdRefIdeal.main_arg1) = m ((c.tc : Thread Cert.GatesBwdRefIdeal.nD Cert.GatesBwdRefIdeal.τ).loc Cert.GatesBwdRefIdeal.main_arg1)
      ∧ r.2.mem ((c.tc : Thread Cert.GatesBwdRefIdeal.nD Cert.GatesBwdRefIdeal.τ).loc Cert.GatesBwdRefIdeal.main_arg2) = m ((c.tc : Thread Cert.GatesBwdRefIdeal.nD Cert.GatesBwdRefIdeal.τ).loc Cert.GatesBwdRefIdeal.main_arg2)
      ∧ r.2.mem ((c.tc : Thread Cert.GatesBwdRefIdeal.nD Cert.GatesBwdRefIdeal.τ).loc Cert.GatesBwdRefIdeal.main_arg3) = m ((c.tc : Thread Cert.GatesBwdRefIdeal.nD Cert.GatesBwdRefIdeal.τ).loc Cert.GatesBwdRefIdeal.main_arg3)
      ∧ r.2.mem ((c.tc : Thread Cert.GatesBwdRefIdeal.nD Cert.GatesBwdRefIdeal.τ).loc Cert.GatesBwdRefIdeal.main_arg4) = m ((c.tc : Thread Cert.GatesBwdRefIdeal.nD Cert.GatesBwdRefIdeal.τ).loc Cert.GatesBwdRefIdeal.main_arg4)
      ∧ r.2.mem ((c.tc : Thread Cert.GatesBwdRefIdeal.nD Cert.GatesBwdRefIdeal.τ).loc Cert.GatesBwdRefIdeal.main_arg5) = m ((c.tc : Thread Cert.GatesBwdRefIdeal.nD Cert.GatesBwdRefIdeal.τ).loc Cert.GatesBwdRefIdeal.main_arg5)
      ∧ r.2.mem ((c.tc : Thread Cert.GatesBwdRefIdeal.nD Cert.GatesBwdRefIdeal.τ).loc Cert.GatesBwdRefIdeal.main_arg6) = m ((c.tc : Thread Cert.GatesBwdRefIdeal.nD Cert.GatesBwdRefIdeal.τ).loc Cert.GatesBwdRefIdeal.main_arg6)
      ∧ r.2.mem ((c.tc : Thread Cert.GatesBwdRefIdeal.nD Cert.GatesBwdRefIdeal.τ).loc Cert.GatesBwdRefIdeal.main_arg7) = m ((c.tc : Thread Cert.GatesBwdRefIdeal.nD Cert.GatesBwdRefIdeal.τ).loc Cert.GatesBwdRefIdeal.main_arg7))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1))
      ∧ r.2.sem = fun _ => 0)

def quiescent_PrepFwdIdeal_pre_prepf_finite [hPrepFwdIdeal : Cert.PrepFwdIdeal.Facts] [hPre_prepf_finite : Cert.Pre_prepf_finite.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal_prepf_finite m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1))
      ∧ r.2.sem = fun _ => 0)

def quiescent_PrepFwdRefIdeal_pre_prepf_finite [hPrepFwdRefIdeal : Cert.PrepFwdRefIdeal.Facts] [hPre_prepf_finite : Cert.Pre_prepf_finite.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal_prepf_finite m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1))
      ∧ r.2.sem = fun _ => 0)

def preserves_InProjBwd_InProjBwdIdeal : Prop :=
  True

def algebraic_InProjBwdIdeal_InProjBwdRefIdeal_pre_in_proj_finite [hInProjBwdIdeal : Cert.InProjBwdIdeal.Facts] [hInProjBwdRefIdeal : Cert.InProjBwdRefIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal_in_proj_finite m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)) →
    ∃ (v0 : (c : Dev Cert.InProjBwdIdeal.nD) → Buf (Elt Ideal) ((c.tc : Thread Cert.InProjBwdIdeal.nD Cert.InProjBwdIdeal.τ).loc Cert.InProjBwdIdeal.main_v16_0)) (v1 : (c : Dev Cert.InProjBwdIdeal.nD) → Buf (Elt Ideal) ((c.tc : Thread Cert.InProjBwdIdeal.nD Cert.InProjBwdIdeal.τ).loc Cert.InProjBwdIdeal.main_v16_1)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v16_0) = v0 c
          ∧ r.2.mem ((c.tc : Thread Cert.InProjBwdIdeal.nD Cert.InProjBwdIdeal.τ).loc Cert.InProjBwdIdeal.main_v16_1) = v1 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v68) = v0 c
          ∧ r.2.mem ((c.tc : Thread Cert.InProjBwdRefIdeal.nD Cert.InProjBwdRefIdeal.τ).loc Cert.InProjBwdRefIdeal.main_v72) = v1 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5))

def preserves_FoxBwd_FoxBwdIdeal : Prop :=
  IdealRules.named_const.Statement Cert.FoxBwdIdeal.κ "mask" .f32 0xF149F2CA#32 ⊥

def algebraic_FoxBwdIdeal_FoxBwdRefIdeal_pre_fox_finite [hFoxBwdIdeal : Cert.FoxBwdIdeal.Facts] [hFoxBwdRefIdeal : Cert.FoxBwdRefIdeal.Facts] [hPre_fox_finite : Cert.Pre_fox_finite.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxBwdRefIdeal.nD Cert.FoxBwdRefIdeal.τ Cert.FoxBwdRefIdeal.sig) → Buf (Elt Ideal) ℓ) (g' : Dev Cert.FoxBwdRefIdeal.nD → PrngReg), Pre_FoxBwdIdeal_fox_finite m →
    (∀ c : Dev Cert.FoxBwdIdeal.nD,
      m' ((c.tc : Thread Cert.FoxBwdRefIdeal.nD Cert.FoxBwdRefIdeal.τ).loc Cert.FoxBwdRefIdeal.main_arg0) = m ((c.tc : Thread Cert.FoxBwdIdeal.nD Cert.FoxBwdIdeal.τ).loc Cert.FoxBwdIdeal.main_arg0)
      ∧ m' ((c.tc : Thread Cert.FoxBwdRefIdeal.nD Cert.FoxBwdRefIdeal.τ).loc Cert.FoxBwdRefIdeal.main_arg1) = m ((c.tc : Thread Cert.FoxBwdIdeal.nD Cert.FoxBwdIdeal.τ).loc Cert.FoxBwdIdeal.main_arg1)
      ∧ m' ((c.tc : Thread Cert.FoxBwdRefIdeal.nD Cert.FoxBwdRefIdeal.τ).loc Cert.FoxBwdRefIdeal.main_arg2) = m ((c.tc : Thread Cert.FoxBwdIdeal.nD Cert.FoxBwdIdeal.τ).loc Cert.FoxBwdIdeal.main_arg2)
      ∧ m' ((c.tc : Thread Cert.FoxBwdRefIdeal.nD Cert.FoxBwdRefIdeal.τ).loc Cert.FoxBwdRefIdeal.main_arg3) = m ((c.tc : Thread Cert.FoxBwdIdeal.nD Cert.FoxBwdIdeal.τ).loc Cert.FoxBwdIdeal.main_arg3)
      ∧ m' ((c.tc : Thread Cert.FoxBwdRefIdeal.nD Cert.FoxBwdRefIdeal.τ).loc Cert.FoxBwdRefIdeal.main_arg4) = m ((c.tc : Thread Cert.FoxBwdIdeal.nD Cert.FoxBwdIdeal.τ).loc Cert.FoxBwdIdeal.main_arg4)) →
    ∃ (v0 : (c : Dev Cert.FoxBwdIdeal.nD) → Buf (Elt Ideal) ((c.tc : Thread Cert.FoxBwdIdeal.nD Cert.FoxBwdIdeal.τ).loc Cert.FoxBwdIdeal.main_v48_0)) (v1 : (c : Dev Cert.FoxBwdIdeal.nD) → Buf (Elt Ideal) ((c.tc : Thread Cert.FoxBwdIdeal.nD Cert.FoxBwdIdeal.τ).loc Cert.FoxBwdIdeal.main_v48_1)) (v2 : (c : Dev Cert.FoxBwdIdeal.nD) → Buf (Elt Ideal) ((c.tc : Thread Cert.FoxBwdIdeal.nD Cert.FoxBwdIdeal.τ).loc Cert.FoxBwdIdeal.main_v48_2)) (v3 : (c : Dev Cert.FoxBwdIdeal.nD) → Buf (Elt Ideal) ((c.tc : Thread Cert.FoxBwdIdeal.nD Cert.FoxBwdIdeal.τ).loc Cert.FoxBwdIdeal.main_v48_3)) (v4 : (c : Dev Cert.FoxBwdIdeal.nD) → Buf (Elt Ideal) ((c.tc : Thread Cert.FoxBwdIdeal.nD Cert.FoxBwdIdeal.τ).loc Cert.FoxBwdIdeal.main_v48_4)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v48_0) = v0 c
          ∧ r.2.mem ((c.tc : Thread Cert.FoxBwdIdeal.nD Cert.FoxBwdIdeal.τ).loc Cert.FoxBwdIdeal.main_v48_1) = v1 c
          ∧ r.2.mem ((c.tc : Thread Cert.FoxBwdIdeal.nD Cert.FoxBwdIdeal.τ).loc Cert.FoxBwdIdeal.main_v48_2) = v2 c
          ∧ r.2.mem ((c.tc : Thread Cert.FoxBwdIdeal.nD Cert.FoxBwdIdeal.τ).loc Cert.FoxBwdIdeal.main_v48_3) = v3 c
          ∧ r.2.mem ((c.tc : Thread Cert.FoxBwdIdeal.nD Cert.FoxBwdIdeal.τ).loc Cert.FoxBwdIdeal.main_v48_4) = v4 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4))
      ∧ θ_run (Cert.FoxBwdRefIdeal.defs (F := Ideal)) (onTc (τ := Cert.FoxBwdRefIdeal.τ) (Cert.FoxBwdRefIdeal.main (F := Ideal))) ⟨m', fun _ => 0, g'⟩ (fun r => ∀ c : Dev Cert.FoxBwdRefIdeal.nD,
          r.2.mem ((c.tc : Thread Cert.FoxBwdRefIdeal.nD Cert.FoxBwdRefIdeal.τ).loc Cert.FoxBwdRefIdeal.main_v80) = v0 c
          ∧ r.2.mem ((c.tc : Thread Cert.FoxBwdRefIdeal.nD Cert.FoxBwdRefIdeal.τ).loc Cert.FoxBwdRefIdeal.main_v81) = v1 c
          ∧ r.2.mem ((c.tc : Thread Cert.FoxBwdRefIdeal.nD Cert.FoxBwdRefIdeal.τ).loc Cert.FoxBwdRefIdeal.main_v82) = v2 c
          ∧ r.2.mem ((c.tc : Thread Cert.FoxBwdRefIdeal.nD Cert.FoxBwdRefIdeal.τ).loc Cert.FoxBwdRefIdeal.main_v86) = v3 c
          ∧ r.2.mem ((c.tc : Thread Cert.FoxBwdRefIdeal.nD Cert.FoxBwdRefIdeal.τ).loc Cert.FoxBwdRefIdeal.main_v79) = v4 c
          ∧ r.2.mem ((c.tc : Thread Cert.FoxBwdRefIdeal.nD Cert.FoxBwdRefIdeal.τ).loc Cert.FoxBwdRefIdeal.main_arg0) = m' ((c.tc : Thread Cert.FoxBwdRefIdeal.nD Cert.FoxBwdRefIdeal.τ).loc Cert.FoxBwdRefIdeal.main_arg0)
          ∧ r.2.mem ((c.tc : Thread Cert.FoxBwdRefIdeal.nD Cert.FoxBwdRefIdeal.τ).loc Cert.FoxBwdRefIdeal.main_arg1) = m' ((c.tc : Thread Cert.FoxBwdRefIdeal.nD Cert.FoxBwdRefIdeal.τ).loc Cert.FoxBwdRefIdeal.main_arg1)
          ∧ r.2.mem ((c.tc : Thread Cert.FoxBwdRefIdeal.nD Cert.FoxBwdRefIdeal.τ).loc Cert.FoxBwdRefIdeal.main_arg2) = m' ((c.tc : Thread Cert.FoxBwdRefIdeal.nD Cert.FoxBwdRefIdeal.τ).loc Cert.FoxBwdRefIdeal.main_arg2)
          ∧ r.2.mem ((c.tc : Thread Cert.FoxBwdRefIdeal.nD Cert.FoxBwdRefIdeal.τ).loc Cert.FoxBwdRefIdeal.main_arg3) = m' ((c.tc : Thread Cert.FoxBwdRefIdeal.nD Cert.FoxBwdRefIdeal.τ).loc Cert.FoxBwdRefIdeal.main_arg3)
          ∧ r.2.mem ((c.tc : Thread Cert.FoxBwdRefIdeal.nD Cert.FoxBwdRefIdeal.τ).loc Cert.FoxBwdRefIdeal.main_arg4) = m' ((c.tc : Thread Cert.FoxBwdRefIdeal.nD Cert.FoxBwdRefIdeal.τ).loc Cert.FoxBwdRefIdeal.main_arg4))

def preserves_PrepBwd_PrepBwdIdeal : Prop :=
  True

def algebraic_PrepBwdIdeal_PrepBwdRefIdeal_pre_prep_finite [hPrepBwdIdeal : Cert.PrepBwdIdeal.Facts] [hPrepBwdRefIdeal : Cert.PrepBwdRefIdeal.Facts] [hPre_prep_finite : Cert.Pre_prep_finite.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg)
    (m' : (ℓ : Loc Cert.PrepBwdRefIdeal.nD Cert.PrepBwdRefIdeal.τ Cert.PrepBwdRefIdeal.sig) → Buf (Elt Ideal) ℓ) (g' : Dev Cert.PrepBwdRefIdeal.nD → PrngReg), Pre_PrepBwdIdeal_prep_finite m →
    (∀ c : Dev Cert.PrepBwdIdeal.nD,
      m' ((c.tc : Thread Cert.PrepBwdRefIdeal.nD Cert.PrepBwdRefIdeal.τ).loc Cert.PrepBwdRefIdeal.main_arg0) = m ((c.tc : Thread Cert.PrepBwdIdeal.nD Cert.PrepBwdIdeal.τ).loc Cert.PrepBwdIdeal.main_arg0)
      ∧ m' ((c.tc : Thread Cert.PrepBwdRefIdeal.nD Cert.PrepBwdRefIdeal.τ).loc Cert.PrepBwdRefIdeal.main_arg1) = m ((c.tc : Thread Cert.PrepBwdIdeal.nD Cert.PrepBwdIdeal.τ).loc Cert.PrepBwdIdeal.main_arg1)
      ∧ m' ((c.tc : Thread Cert.PrepBwdRefIdeal.nD Cert.PrepBwdRefIdeal.τ).loc Cert.PrepBwdRefIdeal.main_arg2) = m ((c.tc : Thread Cert.PrepBwdIdeal.nD Cert.PrepBwdIdeal.τ).loc Cert.PrepBwdIdeal.main_arg2)
      ∧ m' ((c.tc : Thread Cert.PrepBwdRefIdeal.nD Cert.PrepBwdRefIdeal.τ).loc Cert.PrepBwdRefIdeal.main_arg3) = m ((c.tc : Thread Cert.PrepBwdIdeal.nD Cert.PrepBwdIdeal.τ).loc Cert.PrepBwdIdeal.main_arg3)
      ∧ m' ((c.tc : Thread Cert.PrepBwdRefIdeal.nD Cert.PrepBwdRefIdeal.τ).loc Cert.PrepBwdRefIdeal.main_arg4) = m ((c.tc : Thread Cert.PrepBwdIdeal.nD Cert.PrepBwdIdeal.τ).loc Cert.PrepBwdIdeal.main_arg4)) →
    ∃ (v0 : (c : Dev Cert.PrepBwdIdeal.nD) → Buf (Elt Ideal) ((c.tc : Thread Cert.PrepBwdIdeal.nD Cert.PrepBwdIdeal.τ).loc Cert.PrepBwdIdeal.main_v6_0)) (v1 : (c : Dev Cert.PrepBwdIdeal.nD) → Buf (Elt Ideal) ((c.tc : Thread Cert.PrepBwdIdeal.nD Cert.PrepBwdIdeal.τ).loc Cert.PrepBwdIdeal.main_v6_1)),
      θ_run (Cert.PrepBwdIdeal.defs (F := Ideal)) (onTc (τ := Cert.PrepBwdIdeal.τ) (Cert.PrepBwdIdeal.main (F := Ideal))) ⟨m, fun _ => 0, g⟩ (fun r => ∀ c : Dev Cert.PrepBwdIdeal.nD,
          r.2.mem ((c.tc : Thread Cert.PrepBwdIdeal.nD Cert.PrepBwdIdeal.τ).loc Cert.PrepBwdIdeal.main_v6_0) = v0 c
          ∧ r.2.mem ((c.tc : Thread Cert.PrepBwdIdeal.nD Cert.PrepBwdIdeal.τ).loc Cert.PrepBwdIdeal.main_v6_1) = v1 c
          ∧ r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
          ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
          ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
          ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
          ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4))
      ∧ θ_run (Cert.PrepBwdRefIdeal.defs (F := Ideal)) (onTc (τ := Cert.PrepBwdRefIdeal.τ) (Cert.PrepBwdRefIdeal.main (F := Ideal))) ⟨m', fun _ => 0, g'⟩ (fun r => ∀ c : Dev Cert.PrepBwdRefIdeal.nD,
          r.2.mem ((c.tc : Thread Cert.PrepBwdRefIdeal.nD Cert.PrepBwdRefIdeal.τ).loc Cert.PrepBwdRefIdeal.main_v147) = v0 c
          ∧ r.2.mem ((c.tc : Thread Cert.PrepBwdRefIdeal.nD Cert.PrepBwdRefIdeal.τ).loc Cert.PrepBwdRefIdeal.main_v146) = v1 c
          ∧ r.2.mem ((c.tc : Thread Cert.PrepBwdRefIdeal.nD Cert.PrepBwdRefIdeal.τ).loc Cert.PrepBwdRefIdeal.main_arg0) = m' ((c.tc : Thread Cert.PrepBwdRefIdeal.nD Cert.PrepBwdRefIdeal.τ).loc Cert.PrepBwdRefIdeal.main_arg0)
          ∧ r.2.mem ((c.tc : Thread Cert.PrepBwdRefIdeal.nD Cert.PrepBwdRefIdeal.τ).loc Cert.PrepBwdRefIdeal.main_arg1) = m' ((c.tc : Thread Cert.PrepBwdRefIdeal.nD Cert.PrepBwdRefIdeal.τ).loc Cert.PrepBwdRefIdeal.main_arg1)
          ∧ r.2.mem ((c.tc : Thread Cert.PrepBwdRefIdeal.nD Cert.PrepBwdRefIdeal.τ).loc Cert.PrepBwdRefIdeal.main_arg2) = m' ((c.tc : Thread Cert.PrepBwdRefIdeal.nD Cert.PrepBwdRefIdeal.τ).loc Cert.PrepBwdRefIdeal.main_arg2)
          ∧ r.2.mem ((c.tc : Thread Cert.PrepBwdRefIdeal.nD Cert.PrepBwdRefIdeal.τ).loc Cert.PrepBwdRefIdeal.main_arg3) = m' ((c.tc : Thread Cert.PrepBwdRefIdeal.nD Cert.PrepBwdRefIdeal.τ).loc Cert.PrepBwdRefIdeal.main_arg3)
          ∧ r.2.mem ((c.tc : Thread Cert.PrepBwdRefIdeal.nD Cert.PrepBwdRefIdeal.τ).loc Cert.PrepBwdRefIdeal.main_arg4) = m' ((c.tc : Thread Cert.PrepBwdRefIdeal.nD Cert.PrepBwdRefIdeal.τ).loc Cert.PrepBwdRefIdeal.main_arg4))

def preserves_OutBwd_OutBwdIdeal : Prop :=
  True

def algebraic_OutBwdIdeal_OutBwdRefIdeal_pre_out_finite [hOutBwdIdeal : Cert.OutBwdIdeal.Facts] [hOutBwdRefIdeal : Cert.OutBwdRefIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_out_finite m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)
      ∧ m' ((c.tc : Thread Cert.OutBwdRefIdeal.nD Cert.OutBwdRefIdeal.τ).loc Cert.OutBwdRefIdeal.main_arg6) = m ((c.tc : Thread Cert.OutBwdIdeal.nD Cert.OutBwdIdeal.τ).loc Cert.OutBwdIdeal.main_arg6)) →
    ∃ (v0 : (c : Dev Cert.OutBwdIdeal.nD) → Buf (Elt Ideal) ((c.tc : Thread Cert.OutBwdIdeal.nD Cert.OutBwdIdeal.τ).loc Cert.OutBwdIdeal.main_v17_0)) (v1 : (c : Dev Cert.OutBwdIdeal.nD) → Buf (Elt Ideal) ((c.tc : Thread Cert.OutBwdIdeal.nD Cert.OutBwdIdeal.τ).loc Cert.OutBwdIdeal.main_v17_1)) (v2 : (c : Dev Cert.OutBwdIdeal.nD) → Buf (Elt Ideal) ((c.tc : Thread Cert.OutBwdIdeal.nD Cert.OutBwdIdeal.τ).loc Cert.OutBwdIdeal.main_v17_2)) (v3 : (c : Dev Cert.OutBwdIdeal.nD) → Buf (Elt Ideal) ((c.tc : Thread Cert.OutBwdIdeal.nD Cert.OutBwdIdeal.τ).loc Cert.OutBwdIdeal.main_v17_3)) (v4 : (c : Dev Cert.OutBwdIdeal.nD) → Buf (Elt Ideal) ((c.tc : Thread Cert.OutBwdIdeal.nD Cert.OutBwdIdeal.τ).loc Cert.OutBwdIdeal.main_v17_4)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v17_0) = v0 c
          ∧ r.2.mem ((c.tc : Thread Cert.OutBwdIdeal.nD Cert.OutBwdIdeal.τ).loc Cert.OutBwdIdeal.main_v17_1) = v1 c
          ∧ r.2.mem ((c.tc : Thread Cert.OutBwdIdeal.nD Cert.OutBwdIdeal.τ).loc Cert.OutBwdIdeal.main_v17_2) = v2 c
          ∧ r.2.mem ((c.tc : Thread Cert.OutBwdIdeal.nD Cert.OutBwdIdeal.τ).loc Cert.OutBwdIdeal.main_v17_3) = v3 c
          ∧ r.2.mem ((c.tc : Thread Cert.OutBwdIdeal.nD Cert.OutBwdIdeal.τ).loc Cert.OutBwdIdeal.main_v17_4) = v4 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v92) = v0 c
          ∧ r.2.mem ((c.tc : Thread Cert.OutBwdRefIdeal.nD Cert.OutBwdRefIdeal.τ).loc Cert.OutBwdRefIdeal.main_v104) = v1 c
          ∧ r.2.mem ((c.tc : Thread Cert.OutBwdRefIdeal.nD Cert.OutBwdRefIdeal.τ).loc Cert.OutBwdRefIdeal.main_v66) = v2 c
          ∧ r.2.mem ((c.tc : Thread Cert.OutBwdRefIdeal.nD Cert.OutBwdRefIdeal.τ).loc Cert.OutBwdRefIdeal.main_v98) = v3 c
          ∧ r.2.mem ((c.tc : Thread Cert.OutBwdRefIdeal.nD Cert.OutBwdRefIdeal.τ).loc Cert.OutBwdRefIdeal.main_v103) = v4 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5)
          ∧ r.2.mem ((c.tc : Thread Cert.OutBwdRefIdeal.nD Cert.OutBwdRefIdeal.τ).loc Cert.OutBwdRefIdeal.main_arg6) = m' ((c.tc : Thread Cert.OutBwdRefIdeal.nD Cert.OutBwdRefIdeal.τ).loc Cert.OutBwdRefIdeal.main_arg6))

def preserves_MlpStep_MlpStepIdeal : Prop :=
  True

def algebraic_MlpStepIdeal_MlpStepRefIdeal_pre_mlp_finite [hMlpStepIdeal : Cert.MlpStepIdeal.Facts] [hMlpStepRefIdeal : Cert.MlpStepRefIdeal.Facts] [hPre_mlp_finite : Cert.Pre_mlp_finite.Facts] : Prop :=
  ∀ (m : (ℓ : Loc Cert.MlpStepIdeal.nD Cert.MlpStepIdeal.τ Cert.MlpStepIdeal.sig) → Buf (Elt Ideal) ℓ) (g : Dev Cert.MlpStepIdeal.nD → PrngReg)
    (m' : (ℓ : Loc Cert.MlpStepRefIdeal.nD Cert.MlpStepRefIdeal.τ Cert.MlpStepRefIdeal.sig) → Buf (Elt Ideal) ℓ) (g' : Dev Cert.MlpStepRefIdeal.nD → PrngReg), Pre_MlpStepIdeal_mlp_finite m →
    (∀ c : Dev Cert.MlpStepIdeal.nD,
      m' ((c.tc : Thread Cert.MlpStepRefIdeal.nD Cert.MlpStepRefIdeal.τ).loc Cert.MlpStepRefIdeal.main_arg0) = m ((c.tc : Thread Cert.MlpStepIdeal.nD Cert.MlpStepIdeal.τ).loc Cert.MlpStepIdeal.main_arg0)
      ∧ m' ((c.tc : Thread Cert.MlpStepRefIdeal.nD Cert.MlpStepRefIdeal.τ).loc Cert.MlpStepRefIdeal.main_arg1) = m ((c.tc : Thread Cert.MlpStepIdeal.nD Cert.MlpStepIdeal.τ).loc Cert.MlpStepIdeal.main_arg1)
      ∧ m' ((c.tc : Thread Cert.MlpStepRefIdeal.nD Cert.MlpStepRefIdeal.τ).loc Cert.MlpStepRefIdeal.main_arg2) = m ((c.tc : Thread Cert.MlpStepIdeal.nD Cert.MlpStepIdeal.τ).loc Cert.MlpStepIdeal.main_arg2)
      ∧ m' ((c.tc : Thread Cert.MlpStepRefIdeal.nD Cert.MlpStepRefIdeal.τ).loc Cert.MlpStepRefIdeal.main_arg3) = m ((c.tc : Thread Cert.MlpStepIdeal.nD Cert.MlpStepIdeal.τ).loc Cert.MlpStepIdeal.main_arg3)
      ∧ m' ((c.tc : Thread Cert.MlpStepRefIdeal.nD Cert.MlpStepRefIdeal.τ).loc Cert.MlpStepRefIdeal.main_arg4) = m ((c.tc : Thread Cert.MlpStepIdeal.nD Cert.MlpStepIdeal.τ).loc Cert.MlpStepIdeal.main_arg4)
      ∧ m' ((c.tc : Thread Cert.MlpStepRefIdeal.nD Cert.MlpStepRefIdeal.τ).loc Cert.MlpStepRefIdeal.main_arg5) = m ((c.tc : Thread Cert.MlpStepIdeal.nD Cert.MlpStepIdeal.τ).loc Cert.MlpStepIdeal.main_arg5)
      ∧ m' ((c.tc : Thread Cert.MlpStepRefIdeal.nD Cert.MlpStepRefIdeal.τ).loc Cert.MlpStepRefIdeal.main_arg6) = m ((c.tc : Thread Cert.MlpStepIdeal.nD Cert.MlpStepIdeal.τ).loc Cert.MlpStepIdeal.main_arg6)
      ∧ m' ((c.tc : Thread Cert.MlpStepRefIdeal.nD Cert.MlpStepRefIdeal.τ).loc Cert.MlpStepRefIdeal.main_arg7) = m ((c.tc : Thread Cert.MlpStepIdeal.nD Cert.MlpStepIdeal.τ).loc Cert.MlpStepIdeal.main_arg7)
      ∧ m' ((c.tc : Thread Cert.MlpStepRefIdeal.nD Cert.MlpStepRefIdeal.τ).loc Cert.MlpStepRefIdeal.main_arg8) = m ((c.tc : Thread Cert.MlpStepIdeal.nD Cert.MlpStepIdeal.τ).loc Cert.MlpStepIdeal.main_arg8)
      ∧ m' ((c.tc : Thread Cert.MlpStepRefIdeal.nD Cert.MlpStepRefIdeal.τ).loc Cert.MlpStepRefIdeal.main_arg9) = m ((c.tc : Thread Cert.MlpStepIdeal.nD Cert.MlpStepIdeal.τ).loc Cert.MlpStepIdeal.main_arg9)
      ∧ m' ((c.tc : Thread Cert.MlpStepRefIdeal.nD Cert.MlpStepRefIdeal.τ).loc Cert.MlpStepRefIdeal.main_arg10) = m ((c.tc : Thread Cert.MlpStepIdeal.nD Cert.MlpStepIdeal.τ).loc Cert.MlpStepIdeal.main_arg10)
      ∧ m' ((c.tc : Thread Cert.MlpStepRefIdeal.nD Cert.MlpStepRefIdeal.τ).loc Cert.MlpStepRefIdeal.main_arg11) = m ((c.tc : Thread Cert.MlpStepIdeal.nD Cert.MlpStepIdeal.τ).loc Cert.MlpStepIdeal.main_arg11)) →
    ∃ (v0 : (c : Dev Cert.MlpStepIdeal.nD) → Buf (Elt Ideal) ((c.tc : Thread Cert.MlpStepIdeal.nD Cert.MlpStepIdeal.τ).loc Cert.MlpStepIdeal.main_v15_0)) (v1 : (c : Dev Cert.MlpStepIdeal.nD) → Buf (Elt Ideal) ((c.tc : Thread Cert.MlpStepIdeal.nD Cert.MlpStepIdeal.τ).loc Cert.MlpStepIdeal.main_v15_1)) (v2 : (c : Dev Cert.MlpStepIdeal.nD) → Buf (Elt Ideal) ((c.tc : Thread Cert.MlpStepIdeal.nD Cert.MlpStepIdeal.τ).loc Cert.MlpStepIdeal.main_v15_2)) (v3 : (c : Dev Cert.MlpStepIdeal.nD) → Buf (Elt Ideal) ((c.tc : Thread Cert.MlpStepIdeal.nD Cert.MlpStepIdeal.τ).loc Cert.MlpStepIdeal.main_v15_3)) (v4 : (c : Dev Cert.MlpStepIdeal.nD) → Buf (Elt Ideal) ((c.tc : Thread Cert.MlpStepIdeal.nD Cert.MlpStepIdeal.τ).loc Cert.MlpStepIdeal.main_v15_4)) (v5 : (c : Dev Cert.MlpStepIdeal.nD) → Buf (Elt Ideal) ((c.tc : Thread Cert.MlpStepIdeal.nD Cert.MlpStepIdeal.τ).loc Cert.MlpStepIdeal.main_v15_5)) (v6 : (c : Dev Cert.MlpStepIdeal.nD) → Buf (Elt Ideal) ((c.tc : Thread Cert.MlpStepIdeal.nD Cert.MlpStepIdeal.τ).loc Cert.MlpStepIdeal.main_v15_6)) (v7 : (c : Dev Cert.MlpStepIdeal.nD) → Buf (Elt Ideal) ((c.tc : Thread Cert.MlpStepIdeal.nD Cert.MlpStepIdeal.τ).loc Cert.MlpStepIdeal.main_v15_7)) (v8 : (c : Dev Cert.MlpStepIdeal.nD) → Buf (Elt Ideal) ((c.tc : Thread Cert.MlpStepIdeal.nD Cert.MlpStepIdeal.τ).loc Cert.MlpStepIdeal.main_v15_8)) (v9 : (c : Dev Cert.MlpStepIdeal.nD) → Buf (Elt Ideal) ((c.tc : Thread Cert.MlpStepIdeal.nD Cert.MlpStepIdeal.τ).loc Cert.MlpStepIdeal.main_v15_9)),
      θ_run (Cert.MlpStepIdeal.defs (F := Ideal)) (onTc (τ := Cert.MlpStepIdeal.τ) (Cert.MlpStepIdeal.main (F := Ideal))) ⟨m, fun _ => 0, g⟩ (fun r => ∀ c : Dev Cert.MlpStepIdeal.nD,
          r.2.mem ((c.tc : Thread Cert.MlpStepIdeal.nD Cert.MlpStepIdeal.τ).loc Cert.MlpStepIdeal.main_v15_0) = v0 c
          ∧ r.2.mem ((c.tc : Thread Cert.MlpStepIdeal.nD Cert.MlpStepIdeal.τ).loc Cert.MlpStepIdeal.main_v15_1) = v1 c
          ∧ r.2.mem ((c.tc : Thread Cert.MlpStepIdeal.nD Cert.MlpStepIdeal.τ).loc Cert.MlpStepIdeal.main_v15_2) = v2 c
          ∧ r.2.mem ((c.tc : Thread Cert.MlpStepIdeal.nD Cert.MlpStepIdeal.τ).loc Cert.MlpStepIdeal.main_v15_3) = v3 c
          ∧ r.2.mem ((c.tc : Thread Cert.MlpStepIdeal.nD Cert.MlpStepIdeal.τ).loc Cert.MlpStepIdeal.main_v15_4) = v4 c
          ∧ r.2.mem ((c.tc : Thread Cert.MlpStepIdeal.nD Cert.MlpStepIdeal.τ).loc Cert.MlpStepIdeal.main_v15_5) = v5 c
          ∧ r.2.mem ((c.tc : Thread Cert.MlpStepIdeal.nD Cert.MlpStepIdeal.τ).loc Cert.MlpStepIdeal.main_v15_6) = v6 c
          ∧ r.2.mem ((c.tc : Thread Cert.MlpStepIdeal.nD Cert.MlpStepIdeal.τ).loc Cert.MlpStepIdeal.main_v15_7) = v7 c
          ∧ r.2.mem ((c.tc : Thread Cert.MlpStepIdeal.nD Cert.MlpStepIdeal.τ).loc Cert.MlpStepIdeal.main_v15_8) = v8 c
          ∧ r.2.mem ((c.tc : Thread Cert.MlpStepIdeal.nD Cert.MlpStepIdeal.τ).loc Cert.MlpStepIdeal.main_v15_9) = v9 c
          ∧ r.2.mem ((c.tc : Thread Cert.MlpStepIdeal.nD Cert.MlpStepIdeal.τ).loc Cert.MlpStepIdeal.main_arg0) = m ((c.tc : Thread Cert.MlpStepIdeal.nD Cert.MlpStepIdeal.τ).loc Cert.MlpStepIdeal.main_arg0)
          ∧ r.2.mem ((c.tc : Thread Cert.MlpStepIdeal.nD Cert.MlpStepIdeal.τ).loc Cert.MlpStepIdeal.main_arg1) = m ((c.tc : Thread Cert.MlpStepIdeal.nD Cert.MlpStepIdeal.τ).loc Cert.MlpStepIdeal.main_arg1)
          ∧ r.2.mem ((c.tc : Thread Cert.MlpStepIdeal.nD Cert.MlpStepIdeal.τ).loc Cert.MlpStepIdeal.main_arg2) = m ((c.tc : Thread Cert.MlpStepIdeal.nD Cert.MlpStepIdeal.τ).loc Cert.MlpStepIdeal.main_arg2)
          ∧ r.2.mem ((c.tc : Thread Cert.MlpStepIdeal.nD Cert.MlpStepIdeal.τ).loc Cert.MlpStepIdeal.main_arg3) = m ((c.tc : Thread Cert.MlpStepIdeal.nD Cert.MlpStepIdeal.τ).loc Cert.MlpStepIdeal.main_arg3)
          ∧ r.2.mem ((c.tc : Thread Cert.MlpStepIdeal.nD Cert.MlpStepIdeal.τ).loc Cert.MlpStepIdeal.main_arg4) = m ((c.tc : Thread Cert.MlpStepIdeal.nD Cert.MlpStepIdeal.τ).loc Cert.MlpStepIdeal.main_arg4)
          ∧ r.2.mem ((c.tc : Thread Cert.MlpStepIdeal.nD Cert.MlpStepIdeal.τ).loc Cert.MlpStepIdeal.main_arg5) = m ((c.tc : Thread Cert.MlpStepIdeal.nD Cert.MlpStepIdeal.τ).loc Cert.MlpStepIdeal.main_arg5)
          ∧ r.2.mem ((c.tc : Thread Cert.MlpStepIdeal.nD Cert.MlpStepIdeal.τ).loc Cert.MlpStepIdeal.main_arg6) = m ((c.tc : Thread Cert.MlpStepIdeal.nD Cert.MlpStepIdeal.τ).loc Cert.MlpStepIdeal.main_arg6)
          ∧ r.2.mem ((c.tc : Thread Cert.MlpStepIdeal.nD Cert.MlpStepIdeal.τ).loc Cert.MlpStepIdeal.main_arg7) = m ((c.tc : Thread Cert.MlpStepIdeal.nD Cert.MlpStepIdeal.τ).loc Cert.MlpStepIdeal.main_arg7)
          ∧ r.2.mem ((c.tc : Thread Cert.MlpStepIdeal.nD Cert.MlpStepIdeal.τ).loc Cert.MlpStepIdeal.main_arg8) = m ((c.tc : Thread Cert.MlpStepIdeal.nD Cert.MlpStepIdeal.τ).loc Cert.MlpStepIdeal.main_arg8)
          ∧ r.2.mem ((c.tc : Thread Cert.MlpStepIdeal.nD Cert.MlpStepIdeal.τ).loc Cert.MlpStepIdeal.main_arg9) = m ((c.tc : Thread Cert.MlpStepIdeal.nD Cert.MlpStepIdeal.τ).loc Cert.MlpStepIdeal.main_arg9)
          ∧ r.2.mem ((c.tc : Thread Cert.MlpStepIdeal.nD Cert.MlpStepIdeal.τ).loc Cert.MlpStepIdeal.main_arg10) = m ((c.tc : Thread Cert.MlpStepIdeal.nD Cert.MlpStepIdeal.τ).loc Cert.MlpStepIdeal.main_arg10)
          ∧ r.2.mem ((c.tc : Thread Cert.MlpStepIdeal.nD Cert.MlpStepIdeal.τ).loc Cert.MlpStepIdeal.main_arg11) = m ((c.tc : Thread Cert.MlpStepIdeal.nD Cert.MlpStepIdeal.τ).loc Cert.MlpStepIdeal.main_arg11))
      ∧ θ_run (Cert.MlpStepRefIdeal.defs (F := Ideal)) (onTc (τ := Cert.MlpStepRefIdeal.τ) (Cert.MlpStepRefIdeal.main (F := Ideal))) ⟨m', fun _ => 0, g'⟩ (fun r => ∀ c : Dev Cert.MlpStepRefIdeal.nD,
          r.2.mem ((c.tc : Thread Cert.MlpStepRefIdeal.nD Cert.MlpStepRefIdeal.τ).loc Cert.MlpStepRefIdeal.main_v188) = v0 c
          ∧ r.2.mem ((c.tc : Thread Cert.MlpStepRefIdeal.nD Cert.MlpStepRefIdeal.τ).loc Cert.MlpStepRefIdeal.main_v205) = v1 c
          ∧ r.2.mem ((c.tc : Thread Cert.MlpStepRefIdeal.nD Cert.MlpStepRefIdeal.τ).loc Cert.MlpStepRefIdeal.main_v206) = v2 c
          ∧ r.2.mem ((c.tc : Thread Cert.MlpStepRefIdeal.nD Cert.MlpStepRefIdeal.τ).loc Cert.MlpStepRefIdeal.main_v207) = v3 c
          ∧ r.2.mem ((c.tc : Thread Cert.MlpStepRefIdeal.nD Cert.MlpStepRefIdeal.τ).loc Cert.MlpStepRefIdeal.main_v208) = v4 c
          ∧ r.2.mem ((c.tc : Thread Cert.MlpStepRefIdeal.nD Cert.MlpStepRefIdeal.τ).loc Cert.MlpStepRefIdeal.main_v209) = v5 c
          ∧ r.2.mem ((c.tc : Thread Cert.MlpStepRefIdeal.nD Cert.MlpStepRefIdeal.τ).loc Cert.MlpStepRefIdeal.main_v210) = v6 c
          ∧ r.2.mem ((c.tc : Thread Cert.MlpStepRefIdeal.nD Cert.MlpStepRefIdeal.τ).loc Cert.MlpStepRefIdeal.main_v211) = v7 c
          ∧ r.2.mem ((c.tc : Thread Cert.MlpStepRefIdeal.nD Cert.MlpStepRefIdeal.τ).loc Cert.MlpStepRefIdeal.main_v212) = v8 c
          ∧ r.2.mem ((c.tc : Thread Cert.MlpStepRefIdeal.nD Cert.MlpStepRefIdeal.τ).loc Cert.MlpStepRefIdeal.main_v204) = v9 c
          ∧ r.2.mem ((c.tc : Thread Cert.MlpStepRefIdeal.nD Cert.MlpStepRefIdeal.τ).loc Cert.MlpStepRefIdeal.main_arg0) = m' ((c.tc : Thread Cert.MlpStepRefIdeal.nD Cert.MlpStepRefIdeal.τ).loc Cert.MlpStepRefIdeal.main_arg0)
          ∧ r.2.mem ((c.tc : Thread Cert.MlpStepRefIdeal.nD Cert.MlpStepRefIdeal.τ).loc Cert.MlpStepRefIdeal.main_arg1) = m' ((c.tc : Thread Cert.MlpStepRefIdeal.nD Cert.MlpStepRefIdeal.τ).loc Cert.MlpStepRefIdeal.main_arg1)
          ∧ r.2.mem ((c.tc : Thread Cert.MlpStepRefIdeal.nD Cert.MlpStepRefIdeal.τ).loc Cert.MlpStepRefIdeal.main_arg2) = m' ((c.tc : Thread Cert.MlpStepRefIdeal.nD Cert.MlpStepRefIdeal.τ).loc Cert.MlpStepRefIdeal.main_arg2)
          ∧ r.2.mem ((c.tc : Thread Cert.MlpStepRefIdeal.nD Cert.MlpStepRefIdeal.τ).loc Cert.MlpStepRefIdeal.main_arg3) = m' ((c.tc : Thread Cert.MlpStepRefIdeal.nD Cert.MlpStepRefIdeal.τ).loc Cert.MlpStepRefIdeal.main_arg3)
          ∧ r.2.mem ((c.tc : Thread Cert.MlpStepRefIdeal.nD Cert.MlpStepRefIdeal.τ).loc Cert.MlpStepRefIdeal.main_arg4) = m' ((c.tc : Thread Cert.MlpStepRefIdeal.nD Cert.MlpStepRefIdeal.τ).loc Cert.MlpStepRefIdeal.main_arg4)
          ∧ r.2.mem ((c.tc : Thread Cert.MlpStepRefIdeal.nD Cert.MlpStepRefIdeal.τ).loc Cert.MlpStepRefIdeal.main_arg5) = m' ((c.tc : Thread Cert.MlpStepRefIdeal.nD Cert.MlpStepRefIdeal.τ).loc Cert.MlpStepRefIdeal.main_arg5)
          ∧ r.2.mem ((c.tc : Thread Cert.MlpStepRefIdeal.nD Cert.MlpStepRefIdeal.τ).loc Cert.MlpStepRefIdeal.main_arg6) = m' ((c.tc : Thread Cert.MlpStepRefIdeal.nD Cert.MlpStepRefIdeal.τ).loc Cert.MlpStepRefIdeal.main_arg6)
          ∧ r.2.mem ((c.tc : Thread Cert.MlpStepRefIdeal.nD Cert.MlpStepRefIdeal.τ).loc Cert.MlpStepRefIdeal.main_arg7) = m' ((c.tc : Thread Cert.MlpStepRefIdeal.nD Cert.MlpStepRefIdeal.τ).loc Cert.MlpStepRefIdeal.main_arg7)
          ∧ r.2.mem ((c.tc : Thread Cert.MlpStepRefIdeal.nD Cert.MlpStepRefIdeal.τ).loc Cert.MlpStepRefIdeal.main_arg8) = m' ((c.tc : Thread Cert.MlpStepRefIdeal.nD Cert.MlpStepRefIdeal.τ).loc Cert.MlpStepRefIdeal.main_arg8)
          ∧ r.2.mem ((c.tc : Thread Cert.MlpStepRefIdeal.nD Cert.MlpStepRefIdeal.τ).loc Cert.MlpStepRefIdeal.main_arg9) = m' ((c.tc : Thread Cert.MlpStepRefIdeal.nD Cert.MlpStepRefIdeal.τ).loc Cert.MlpStepRefIdeal.main_arg9)
          ∧ r.2.mem ((c.tc : Thread Cert.MlpStepRefIdeal.nD Cert.MlpStepRefIdeal.τ).loc Cert.MlpStepRefIdeal.main_arg10) = m' ((c.tc : Thread Cert.MlpStepRefIdeal.nD Cert.MlpStepRefIdeal.τ).loc Cert.MlpStepRefIdeal.main_arg10)
          ∧ r.2.mem ((c.tc : Thread Cert.MlpStepRefIdeal.nD Cert.MlpStepRefIdeal.τ).loc Cert.MlpStepRefIdeal.main_arg11) = m' ((c.tc : Thread Cert.MlpStepRefIdeal.nD Cert.MlpStepRefIdeal.τ).loc Cert.MlpStepRefIdeal.main_arg11))

def algebraic_GatesBwdIdeal_GatesBwdRefIdeal_pre_gates_finite [hGatesBwdIdeal : Cert.GatesBwdIdeal.Facts] [hGatesBwdRefIdeal : Cert.GatesBwdRefIdeal.Facts] [hPre_gates_finite : Cert.Pre_gates_finite.Facts] : Prop :=
  ∀ (m : (ℓ : Loc Cert.GatesBwdIdeal.nD Cert.GatesBwdIdeal.τ Cert.GatesBwdIdeal.sig) → Buf (Elt Ideal) ℓ) (g : Dev Cert.GatesBwdIdeal.nD → PrngReg)
    (m' : (ℓ : Loc Cert.GatesBwdRefIdeal.nD Cert.GatesBwdRefIdeal.τ Cert.GatesBwdRefIdeal.sig) → Buf (Elt Ideal) ℓ) (g' : Dev Cert.GatesBwdRefIdeal.nD → PrngReg), Pre_GatesBwdIdeal_gates_finite m →
    (∀ c : Dev Cert.GatesBwdIdeal.nD,
      m' ((c.tc : Thread Cert.GatesBwdRefIdeal.nD Cert.GatesBwdRefIdeal.τ).loc Cert.GatesBwdRefIdeal.main_arg0) = m ((c.tc : Thread Cert.GatesBwdIdeal.nD Cert.GatesBwdIdeal.τ).loc Cert.GatesBwdIdeal.main_arg0)
      ∧ m' ((c.tc : Thread Cert.GatesBwdRefIdeal.nD Cert.GatesBwdRefIdeal.τ).loc Cert.GatesBwdRefIdeal.main_arg1) = m ((c.tc : Thread Cert.GatesBwdIdeal.nD Cert.GatesBwdIdeal.τ).loc Cert.GatesBwdIdeal.main_arg1)
      ∧ m' ((c.tc : Thread Cert.GatesBwdRefIdeal.nD Cert.GatesBwdRefIdeal.τ).loc Cert.GatesBwdRefIdeal.main_arg2) = m ((c.tc : Thread Cert.GatesBwdIdeal.nD Cert.GatesBwdIdeal.τ).loc Cert.GatesBwdIdeal.main_arg2)
      ∧ m' ((c.tc : Thread Cert.GatesBwdRefIdeal.nD Cert.GatesBwdRefIdeal.τ).loc Cert.GatesBwdRefIdeal.main_arg3) = m ((c.tc : Thread Cert.GatesBwdIdeal.nD Cert.GatesBwdIdeal.τ).loc Cert.GatesBwdIdeal.main_arg3)
      ∧ m' ((c.tc : Thread Cert.GatesBwdRefIdeal.nD Cert.GatesBwdRefIdeal.τ).loc Cert.GatesBwdRefIdeal.main_arg4) = m ((c.tc : Thread Cert.GatesBwdIdeal.nD Cert.GatesBwdIdeal.τ).loc Cert.GatesBwdIdeal.main_arg4)
      ∧ m' ((c.tc : Thread Cert.GatesBwdRefIdeal.nD Cert.GatesBwdRefIdeal.τ).loc Cert.GatesBwdRefIdeal.main_arg5) = m ((c.tc : Thread Cert.GatesBwdIdeal.nD Cert.GatesBwdIdeal.τ).loc Cert.GatesBwdIdeal.main_arg5)
      ∧ m' ((c.tc : Thread Cert.GatesBwdRefIdeal.nD Cert.GatesBwdRefIdeal.τ).loc Cert.GatesBwdRefIdeal.main_arg6) = m ((c.tc : Thread Cert.GatesBwdIdeal.nD Cert.GatesBwdIdeal.τ).loc Cert.GatesBwdIdeal.main_arg6)
      ∧ m' ((c.tc : Thread Cert.GatesBwdRefIdeal.nD Cert.GatesBwdRefIdeal.τ).loc Cert.GatesBwdRefIdeal.main_arg7) = m ((c.tc : Thread Cert.GatesBwdIdeal.nD Cert.GatesBwdIdeal.τ).loc Cert.GatesBwdIdeal.main_arg7)) →
    ∃ (v0 : (c : Dev Cert.GatesBwdIdeal.nD) → Buf (Elt Ideal) ((c.tc : Thread Cert.GatesBwdIdeal.nD Cert.GatesBwdIdeal.τ).loc Cert.GatesBwdIdeal.main_v34_0)) (v1 : (c : Dev Cert.GatesBwdIdeal.nD) → Buf (Elt Ideal) ((c.tc : Thread Cert.GatesBwdIdeal.nD Cert.GatesBwdIdeal.τ).loc Cert.GatesBwdIdeal.main_v34_1)),
      θ_run (Cert.GatesBwdIdeal.defs (F := Ideal)) (onTc (τ := Cert.GatesBwdIdeal.τ) (Cert.GatesBwdIdeal.main (F := Ideal))) ⟨m, fun _ => 0, g⟩ (fun r => ∀ c : Dev Cert.GatesBwdIdeal.nD,
          r.2.mem ((c.tc : Thread Cert.GatesBwdIdeal.nD Cert.GatesBwdIdeal.τ).loc Cert.GatesBwdIdeal.main_v34_0) = v0 c
          ∧ r.2.mem ((c.tc : Thread Cert.GatesBwdIdeal.nD Cert.GatesBwdIdeal.τ).loc Cert.GatesBwdIdeal.main_v34_1) = v1 c
          ∧ r.2.mem ((c.tc : Thread Cert.GatesBwdIdeal.nD Cert.GatesBwdIdeal.τ).loc Cert.GatesBwdIdeal.main_arg0) = m ((c.tc : Thread Cert.GatesBwdIdeal.nD Cert.GatesBwdIdeal.τ).loc Cert.GatesBwdIdeal.main_arg0)
          ∧ r.2.mem ((c.tc : Thread Cert.GatesBwdIdeal.nD Cert.GatesBwdIdeal.τ).loc Cert.GatesBwdIdeal.main_arg1) = m ((c.tc : Thread Cert.GatesBwdIdeal.nD Cert.GatesBwdIdeal.τ).loc Cert.GatesBwdIdeal.main_arg1)
          ∧ r.2.mem ((c.tc : Thread Cert.GatesBwdIdeal.nD Cert.GatesBwdIdeal.τ).loc Cert.GatesBwdIdeal.main_arg2) = m ((c.tc : Thread Cert.GatesBwdIdeal.nD Cert.GatesBwdIdeal.τ).loc Cert.GatesBwdIdeal.main_arg2)
          ∧ r.2.mem ((c.tc : Thread Cert.GatesBwdIdeal.nD Cert.GatesBwdIdeal.τ).loc Cert.GatesBwdIdeal.main_arg3) = m ((c.tc : Thread Cert.GatesBwdIdeal.nD Cert.GatesBwdIdeal.τ).loc Cert.GatesBwdIdeal.main_arg3)
          ∧ r.2.mem ((c.tc : Thread Cert.GatesBwdIdeal.nD Cert.GatesBwdIdeal.τ).loc Cert.GatesBwdIdeal.main_arg4) = m ((c.tc : Thread Cert.GatesBwdIdeal.nD Cert.GatesBwdIdeal.τ).loc Cert.GatesBwdIdeal.main_arg4)
          ∧ r.2.mem ((c.tc : Thread Cert.GatesBwdIdeal.nD Cert.GatesBwdIdeal.τ).loc Cert.GatesBwdIdeal.main_arg5) = m ((c.tc : Thread Cert.GatesBwdIdeal.nD Cert.GatesBwdIdeal.τ).loc Cert.GatesBwdIdeal.main_arg5)
          ∧ r.2.mem ((c.tc : Thread Cert.GatesBwdIdeal.nD Cert.GatesBwdIdeal.τ).loc Cert.GatesBwdIdeal.main_arg6) = m ((c.tc : Thread Cert.GatesBwdIdeal.nD Cert.GatesBwdIdeal.τ).loc Cert.GatesBwdIdeal.main_arg6)
          ∧ r.2.mem ((c.tc : Thread Cert.GatesBwdIdeal.nD Cert.GatesBwdIdeal.τ).loc Cert.GatesBwdIdeal.main_arg7) = m ((c.tc : Thread Cert.GatesBwdIdeal.nD Cert.GatesBwdIdeal.τ).loc Cert.GatesBwdIdeal.main_arg7))
      ∧ θ_run (Cert.GatesBwdRefIdeal.defs (F := Ideal)) (onTc (τ := Cert.GatesBwdRefIdeal.τ) (Cert.GatesBwdRefIdeal.main (F := Ideal))) ⟨m', fun _ => 0, g'⟩ (fun r => ∀ c : Dev Cert.GatesBwdRefIdeal.nD,
          r.2.mem ((c.tc : Thread Cert.GatesBwdRefIdeal.nD Cert.GatesBwdRefIdeal.τ).loc Cert.GatesBwdRefIdeal.main_v59) = v0 c
          ∧ r.2.mem ((c.tc : Thread Cert.GatesBwdRefIdeal.nD Cert.GatesBwdRefIdeal.τ).loc Cert.GatesBwdRefIdeal.main_v56) = v1 c
          ∧ r.2.mem ((c.tc : Thread Cert.GatesBwdRefIdeal.nD Cert.GatesBwdRefIdeal.τ).loc Cert.GatesBwdRefIdeal.main_arg0) = m' ((c.tc : Thread Cert.GatesBwdRefIdeal.nD Cert.GatesBwdRefIdeal.τ).loc Cert.GatesBwdRefIdeal.main_arg0)
          ∧ r.2.mem ((c.tc : Thread Cert.GatesBwdRefIdeal.nD Cert.GatesBwdRefIdeal.τ).loc Cert.GatesBwdRefIdeal.main_arg1) = m' ((c.tc : Thread Cert.GatesBwdRefIdeal.nD Cert.GatesBwdRefIdeal.τ).loc Cert.GatesBwdRefIdeal.main_arg1)
          ∧ r.2.mem ((c.tc : Thread Cert.GatesBwdRefIdeal.nD Cert.GatesBwdRefIdeal.τ).loc Cert.GatesBwdRefIdeal.main_arg2) = m' ((c.tc : Thread Cert.GatesBwdRefIdeal.nD Cert.GatesBwdRefIdeal.τ).loc Cert.GatesBwdRefIdeal.main_arg2)
          ∧ r.2.mem ((c.tc : Thread Cert.GatesBwdRefIdeal.nD Cert.GatesBwdRefIdeal.τ).loc Cert.GatesBwdRefIdeal.main_arg3) = m' ((c.tc : Thread Cert.GatesBwdRefIdeal.nD Cert.GatesBwdRefIdeal.τ).loc Cert.GatesBwdRefIdeal.main_arg3)
          ∧ r.2.mem ((c.tc : Thread Cert.GatesBwdRefIdeal.nD Cert.GatesBwdRefIdeal.τ).loc Cert.GatesBwdRefIdeal.main_arg4) = m' ((c.tc : Thread Cert.GatesBwdRefIdeal.nD Cert.GatesBwdRefIdeal.τ).loc Cert.GatesBwdRefIdeal.main_arg4)
          ∧ r.2.mem ((c.tc : Thread Cert.GatesBwdRefIdeal.nD Cert.GatesBwdRefIdeal.τ).loc Cert.GatesBwdRefIdeal.main_arg5) = m' ((c.tc : Thread Cert.GatesBwdRefIdeal.nD Cert.GatesBwdRefIdeal.τ).loc Cert.GatesBwdRefIdeal.main_arg5)
          ∧ r.2.mem ((c.tc : Thread Cert.GatesBwdRefIdeal.nD Cert.GatesBwdRefIdeal.τ).loc Cert.GatesBwdRefIdeal.main_arg6) = m' ((c.tc : Thread Cert.GatesBwdRefIdeal.nD Cert.GatesBwdRefIdeal.τ).loc Cert.GatesBwdRefIdeal.main_arg6)
          ∧ r.2.mem ((c.tc : Thread Cert.GatesBwdRefIdeal.nD Cert.GatesBwdRefIdeal.τ).loc Cert.GatesBwdRefIdeal.main_arg7) = m' ((c.tc : Thread Cert.GatesBwdRefIdeal.nD Cert.GatesBwdRefIdeal.τ).loc Cert.GatesBwdRefIdeal.main_arg7))

def preserves_PrepFwd_PrepFwdIdeal : Prop :=
  True

def algebraic_PrepFwdIdeal_PrepFwdRefIdeal_pre_prepf_finite [hPrepFwdIdeal : Cert.PrepFwdIdeal.Facts] [hPrepFwdRefIdeal : Cert.PrepFwdRefIdeal.Facts] [hPre_prepf_finite : Cert.Pre_prepf_finite.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal_prepf_finite m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)) →
    ∃ (v0 : (c : Dev Cert.PrepFwdIdeal.nD) → Buf (Elt Ideal) ((c.tc : Thread Cert.PrepFwdIdeal.nD Cert.PrepFwdIdeal.τ).loc Cert.PrepFwdIdeal.main_v7)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v7) = v0 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v57) = v0 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1))

def Claim : Prop :=
  ∃ (hInProjBwd : Cert.InProjBwd.Facts) (hInProjBwdIdeal : Cert.InProjBwdIdeal.Facts) (hInProjBwdRefIdeal : Cert.InProjBwdRefIdeal.Facts) (hFoxBwd : Cert.FoxBwd.Facts) (hFoxBwdIdeal : Cert.FoxBwdIdeal.Facts) (hFoxBwdRefIdeal : Cert.FoxBwdRefIdeal.Facts) (hPrepBwd : Cert.PrepBwd.Facts) (hPrepBwdIdeal : Cert.PrepBwdIdeal.Facts) (hPrepBwdRefIdeal : Cert.PrepBwdRefIdeal.Facts) (hOutBwd : Cert.OutBwd.Facts) (hOutBwdIdeal : Cert.OutBwdIdeal.Facts) (hOutBwdRefIdeal : Cert.OutBwdRefIdeal.Facts) (hMlpStep : Cert.MlpStep.Facts) (hMlpStepIdeal : Cert.MlpStepIdeal.Facts) (hMlpStepRefIdeal : Cert.MlpStepRefIdeal.Facts) (hGatesBwdIdeal : Cert.GatesBwdIdeal.Facts) (hGatesBwdRefIdeal : Cert.GatesBwdRefIdeal.Facts) (hPrepFwd : Cert.PrepFwd.Facts) (hPrepFwdIdeal : Cert.PrepFwdIdeal.Facts) (hPrepFwdRefIdeal : Cert.PrepFwdRefIdeal.Facts) (hPre_in_proj_finite : Cert.Pre_in_proj_finite.Facts) (hPre_fox_finite : Cert.Pre_fox_finite.Facts) (hPre_prep_finite : Cert.Pre_prep_finite.Facts) (hPre_out_finite : Cert.Pre_out_finite.Facts) (hPre_mlp_finite : Cert.Pre_mlp_finite.Facts) (hPre_gates_finite : Cert.Pre_gates_finite.Facts) (hPre_prepf_finite : Cert.Pre_prepf_finite.Facts),
    quiescent_InProjBwd (hInProjBwd := hInProjBwd)
    ∧ quiescent_InProjBwdIdeal (hInProjBwdIdeal := hInProjBwdIdeal)
    ∧ quiescent_InProjBwdIdeal_pre_in_proj_finite (hInProjBwdIdeal := hInProjBwdIdeal) (hPre_in_proj_finite := hPre_in_proj_finite)
    ∧ quiescent_InProjBwdRefIdeal (hInProjBwdRefIdeal := hInProjBwdRefIdeal)
    ∧ quiescent_InProjBwdRefIdeal_pre_in_proj_finite (hInProjBwdRefIdeal := hInProjBwdRefIdeal) (hPre_in_proj_finite := hPre_in_proj_finite)
    ∧ quiescent_FoxBwd (hFoxBwd := hFoxBwd)
    ∧ quiescent_FoxBwdIdeal (hFoxBwdIdeal := hFoxBwdIdeal)
    ∧ quiescent_FoxBwdIdeal_pre_fox_finite (hFoxBwdIdeal := hFoxBwdIdeal) (hPre_fox_finite := hPre_fox_finite)
    ∧ quiescent_FoxBwdRefIdeal (hFoxBwdRefIdeal := hFoxBwdRefIdeal)
    ∧ quiescent_FoxBwdRefIdeal_pre_fox_finite (hFoxBwdRefIdeal := hFoxBwdRefIdeal) (hPre_fox_finite := hPre_fox_finite)
    ∧ quiescent_PrepBwd (hPrepBwd := hPrepBwd)
    ∧ quiescent_PrepBwdIdeal (hPrepBwdIdeal := hPrepBwdIdeal)
    ∧ quiescent_PrepBwdIdeal_pre_prep_finite (hPrepBwdIdeal := hPrepBwdIdeal) (hPre_prep_finite := hPre_prep_finite)
    ∧ quiescent_PrepBwdRefIdeal (hPrepBwdRefIdeal := hPrepBwdRefIdeal)
    ∧ quiescent_PrepBwdRefIdeal_pre_prep_finite (hPrepBwdRefIdeal := hPrepBwdRefIdeal) (hPre_prep_finite := hPre_prep_finite)
    ∧ quiescent_OutBwd (hOutBwd := hOutBwd)
    ∧ quiescent_OutBwdIdeal (hOutBwdIdeal := hOutBwdIdeal)
    ∧ quiescent_OutBwdIdeal_pre_out_finite (hOutBwdIdeal := hOutBwdIdeal) (hPre_out_finite := hPre_out_finite)
    ∧ quiescent_OutBwdRefIdeal (hOutBwdRefIdeal := hOutBwdRefIdeal)
    ∧ quiescent_OutBwdRefIdeal_pre_out_finite (hOutBwdRefIdeal := hOutBwdRefIdeal) (hPre_out_finite := hPre_out_finite)
    ∧ quiescent_MlpStep (hMlpStep := hMlpStep)
    ∧ quiescent_MlpStepIdeal (hMlpStepIdeal := hMlpStepIdeal)
    ∧ quiescent_MlpStepIdeal_pre_mlp_finite (hMlpStepIdeal := hMlpStepIdeal) (hPre_mlp_finite := hPre_mlp_finite)
    ∧ quiescent_MlpStepRefIdeal (hMlpStepRefIdeal := hMlpStepRefIdeal)
    ∧ quiescent_MlpStepRefIdeal_pre_mlp_finite (hMlpStepRefIdeal := hMlpStepRefIdeal) (hPre_mlp_finite := hPre_mlp_finite)
    ∧ quiescent_GatesBwdIdeal (hGatesBwdIdeal := hGatesBwdIdeal)
    ∧ quiescent_GatesBwdIdeal_pre_gates_finite (hGatesBwdIdeal := hGatesBwdIdeal) (hPre_gates_finite := hPre_gates_finite)
    ∧ quiescent_GatesBwdRefIdeal (hGatesBwdRefIdeal := hGatesBwdRefIdeal)
    ∧ quiescent_GatesBwdRefIdeal_pre_gates_finite (hGatesBwdRefIdeal := hGatesBwdRefIdeal) (hPre_gates_finite := hPre_gates_finite)
    ∧ quiescent_PrepFwd (hPrepFwd := hPrepFwd)
    ∧ quiescent_PrepFwdIdeal (hPrepFwdIdeal := hPrepFwdIdeal)
    ∧ quiescent_PrepFwdIdeal_pre_prepf_finite (hPrepFwdIdeal := hPrepFwdIdeal) (hPre_prepf_finite := hPre_prepf_finite)
    ∧ quiescent_PrepFwdRefIdeal (hPrepFwdRefIdeal := hPrepFwdRefIdeal)
    ∧ quiescent_PrepFwdRefIdeal_pre_prepf_finite (hPrepFwdRefIdeal := hPrepFwdRefIdeal) (hPre_prepf_finite := hPre_prepf_finite)
    ∧ preserves_InProjBwd_InProjBwdIdeal
    ∧ algebraic_InProjBwdIdeal_InProjBwdRefIdeal_pre_in_proj_finite (hInProjBwdIdeal := hInProjBwdIdeal) (hInProjBwdRefIdeal := hInProjBwdRefIdeal) (hPre_in_proj_finite := hPre_in_proj_finite)
    ∧ preserves_FoxBwd_FoxBwdIdeal
    ∧ algebraic_FoxBwdIdeal_FoxBwdRefIdeal_pre_fox_finite (hFoxBwdIdeal := hFoxBwdIdeal) (hFoxBwdRefIdeal := hFoxBwdRefIdeal) (hPre_fox_finite := hPre_fox_finite)
    ∧ preserves_PrepBwd_PrepBwdIdeal
    ∧ algebraic_PrepBwdIdeal_PrepBwdRefIdeal_pre_prep_finite (hPrepBwdIdeal := hPrepBwdIdeal) (hPrepBwdRefIdeal := hPrepBwdRefIdeal) (hPre_prep_finite := hPre_prep_finite)
    ∧ preserves_OutBwd_OutBwdIdeal
    ∧ algebraic_OutBwdIdeal_OutBwdRefIdeal_pre_out_finite (hOutBwdIdeal := hOutBwdIdeal) (hOutBwdRefIdeal := hOutBwdRefIdeal) (hPre_out_finite := hPre_out_finite)
    ∧ preserves_MlpStep_MlpStepIdeal
    ∧ algebraic_MlpStepIdeal_MlpStepRefIdeal_pre_mlp_finite (hMlpStepIdeal := hMlpStepIdeal) (hMlpStepRefIdeal := hMlpStepRefIdeal) (hPre_mlp_finite := hPre_mlp_finite)
    ∧ algebraic_GatesBwdIdeal_GatesBwdRefIdeal_pre_gates_finite (hGatesBwdIdeal := hGatesBwdIdeal) (hGatesBwdRefIdeal := hGatesBwdRefIdeal) (hPre_gates_finite := hPre_gates_finite)
    ∧ preserves_PrepFwd_PrepFwdIdeal
    ∧ algebraic_PrepFwdIdeal_PrepFwdRefIdeal_pre_prepf_finite (hPrepFwdIdeal := hPrepFwdIdeal) (hPrepFwdRefIdeal := hPrepFwdRefIdeal) (hPre_prepf_finite := hPre_prepf_finite)
-- ==== Pre_fox_finite.lean ====
abbrev S2048x8x64 : Shape := ⟨3, ![2048, 8, 64]⟩
abbrev S8x2048 : Shape := ⟨2, ![8, 2048]⟩
abbrev S_ : Shape := ⟨0, ![]⟩

class Facts : Prop where
  bcast_S_S2048x8x64 : S_.BroadcastsInDim S2048x8x64 (![] : Fin 0 → Fin S2048x8x64.rank)
  bcast_S_S8x2048 : S_.BroadcastsInDim S8x2048 (![] : Fin 0 → Fin S8x2048.rank)

variable [Facts]

def fn_part1 {F : FTy → Type} [FloatOps F] (main_arg3 : FVec F S8x2048 .f32) (main_arg4 : FVec F S2048x8x64 .f32) (main_v4 : IVec S2048x8x64 1) (main_v9 : IVec S2048x8x64 1) (main_v14 : IVec S2048x8x64 1) (main_v16 : IVec S8x2048 1) : IVec S2048x8x64 1 × IVec S2048x8x64 1 × IVec S2048x8x64 1 × IVec S8x2048 1 × IVec S2048x8x64 1 :=
  let main_cst_6 : FVec F S_ .f32 := constant S_ .f32 0xFF800000#32
  let main_v17 : FVec F S8x2048 .f32 := broadcastInDim S8x2048 ![] bcast_S_S8x2048 main_cst_6
  let main_v18 : IVec S8x2048 1 := cmpf .ogt main_arg3 main_v17
  let main_v19 : IVec S8x2048 1 := andi main_v16 main_v18
  let main_cst_7 : FVec F S_ .f32 := constant S_ .f32 0x7F800000#32
  let main_v20 : FVec F S2048x8x64 .f32 := broadcastInDim S2048x8x64 ![] bcast_S_S2048x8x64 main_cst_7
  let main_v21 : IVec S2048x8x64 1 := cmpf .olt main_arg4 main_v20
  let main_cst_8 : FVec F S_ .f32 := constant S_ .f32 0xFF800000#32
  let main_v22 : FVec F S2048x8x64 .f32 := broadcastInDim S2048x8x64 ![] bcast_S_S2048x8x64 main_cst_8
  let main_v23 : IVec S2048x8x64 1 := cmpf .ogt main_arg4 main_v22
  let main_v24 : IVec S2048x8x64 1 := andi main_v21 main_v23
  (main_v4, main_v9, main_v14, main_v19, main_v24)

def fn {F : FTy → Type} [FloatOps F] (main_arg0 : FVec F S2048x8x64 .f32) (main_arg1 : FVec F S2048x8x64 .f32) (main_arg2 : FVec F S2048x8x64 .f32) (main_arg3 : FVec F S8x2048 .f32) (main_arg4 : FVec F S2048x8x64 .f32) : IVec S2048x8x64 1 × IVec S2048x8x64 1 × IVec S2048x8x64 1 × IVec S8x2048 1 × IVec S2048x8x64 1 :=
  let main_cst : FVec F S_ .f32 := constant S_ .f32 0x7F800000#32
  let main_v0 : FVec F S2048x8x64 .f32 := broadcastInDim S2048x8x64 ![] bcast_S_S2048x8x64 main_cst
  let main_v1 : IVec S2048x8x64 1 := cmpf .olt main_arg0 main_v0
  let main_cst_0 : FVec F S_ .f32 := constant S_ .f32 0xFF800000#32
  let main_v2 : FVec F S2048x8x64 .f32 := broadcastInDim S2048x8x64 ![] bcast_S_S2048x8x64 main_cst_0
  let main_v3 : IVec S2048x8x64 1 := cmpf .ogt main_arg0 main_v2
  let main_v4 : IVec S2048x8x64 1 := andi main_v1 main_v3
  let main_cst_1 : FVec F S_ .f32 := constant S_ .f32 0x7F800000#32
  let main_v5 : FVec F S2048x8x64 .f32 := broadcastInDim S2048x8x64 ![] bcast_S_S2048x8x64 main_cst_1
  let main_v6 : IVec S2048x8x64 1 := cmpf .olt main_arg1 main_v5
  let main_cst_2 : FVec F S_ .f32 := constant S_ .f32 0xFF800000#32
  let main_v7 : FVec F S2048x8x64 .f32 := broadcastInDim S2048x8x64 ![] bcast_S_S2048x8x64 main_cst_2
  let main_v8 : IVec S2048x8x64 1 := cmpf .ogt main_arg1 main_v7
  let main_v9 : IVec S2048x8x64 1 := andi main_v6 main_v8
  let main_cst_3 : FVec F S_ .f32 := constant S_ .f32 0x7F800000#32
  let main_v10 : FVec F S2048x8x64 .f32 := broadcastInDim S2048x8x64 ![] bcast_S_S2048x8x64 main_cst_3
  let main_v11 : IVec S2048x8x64 1 := cmpf .olt main_arg2 main_v10
  let main_cst_4 : FVec F S_ .f32 := constant S_ .f32 0xFF800000#32
  let main_v12 : FVec F S2048x8x64 .f32 := broadcastInDim S2048x8x64 ![] bcast_S_S2048x8x64 main_cst_4
  let main_v13 : IVec S2048x8x64 1 := cmpf .ogt main_arg2 main_v12
  let main_v14 : IVec S2048x8x64 1 := andi main_v11 main_v13
  let main_cst_5 : FVec F S_ .f32 := constant S_ .f32 0x7F800000#32
  let main_v15 : FVec F S8x2048 .f32 := broadcastInDim S8x2048 ![] bcast_S_S8x2048 main_cst_5
  let main_v16 : IVec S8x2048 1 := cmpf .olt main_arg3 main_v15
  fn_part1 (F := F) main_arg3 main_arg4 main_v4 main_v9 main_v14 main_v16
-- ==== Pre_gates_finite.lean ====
abbrev S2048x3600 : Shape := ⟨2, ![2048, 3600]⟩
abbrev S4 : Shape := ⟨1, ![4]⟩
abbrev S8 : Shape := ⟨1, ![8]⟩
abbrev S2048x4 : Shape := ⟨2, ![2048, 4]⟩
abbrev S2048x8 : Shape := ⟨2, ![2048, 8]⟩
abbrev S_ : Shape := ⟨0, ![]⟩

class Facts : Prop where
  bcast_S_S2048x3600 : S_.BroadcastsInDim S2048x3600 (![] : Fin 0 → Fin S2048x3600.rank)
  bcast_S_S4 : S_.BroadcastsInDim S4 (![] : Fin 0 → Fin S4.rank)
  bcast_S_S8 : S_.BroadcastsInDim S8 (![] : Fin 0 → Fin S8.rank)
  bcast_S_S2048x4 : S_.BroadcastsInDim S2048x4 (![] : Fin 0 → Fin S2048x4.rank)
  bcast_S_S2048x8 : S_.BroadcastsInDim S2048x8 (![] : Fin 0 → Fin S2048x8.rank)

variable [Facts]

def fn_part2 {F : FTy → Type} [FloatOps F] (main_arg7 : FVec F S2048x8 .f32) (main_v4 : IVec S2048x3600 1) (main_v9 : IVec S4 1) (main_v14 : IVec S4 1) (main_v19 : IVec S8 1) (main_v24 : IVec S2048x4 1) (main_v29 : IVec S2048x4 1) (main_v31 : IVec S2048x8 1) (main_v33 : IVec S2048x8 1) : IVec S2048x3600 1 × IVec S4 1 × IVec S4 1 × IVec S8 1 × IVec S2048x4 1 × IVec S2048x4 1 × IVec S2048x8 1 × IVec S2048x8 1 :=
  let main_v34 : IVec S2048x8 1 := andi main_v31 main_v33
  let main_cst_13 : FVec F S_ .f32 := constant S_ .f32 0x7F800000#32
  let main_v35 : FVec F S2048x8 .f32 := broadcastInDim S2048x8 ![] bcast_S_S2048x8 main_cst_13
  let main_v36 : IVec S2048x8 1 := cmpf .olt main_arg7 main_v35
  let main_cst_14 : FVec F S_ .f32 := constant S_ .f32 0xFF800000#32
  let main_v37 : FVec F S2048x8 .f32 := broadcastInDim S2048x8 ![] bcast_S_S2048x8 main_cst_14
  let main_v38 : IVec S2048x8 1 := cmpf .ogt main_arg7 main_v37
  let main_v39 : IVec S2048x8 1 := andi main_v36 main_v38
  (main_v4, main_v9, main_v14, main_v19, main_v24, main_v29, main_v34, main_v39)

def fn_part1 {F : FTy → Type} [FloatOps F] (main_arg3 : FVec F S8 .f32) (main_arg4 : FVec F S2048x4 .f32) (main_arg5 : FVec F S2048x4 .f32) (main_arg6 : FVec F S2048x8 .f32) (main_arg7 : FVec F S2048x8 .f32) (main_v4 : IVec S2048x3600 1) (main_v9 : IVec S4 1) (main_v14 : IVec S4 1) (main_v16 : IVec S8 1) : IVec S2048x3600 1 × IVec S4 1 × IVec S4 1 × IVec S8 1 × IVec S2048x4 1 × IVec S2048x4 1 × IVec S2048x8 1 × IVec S2048x8 1 :=
  let main_cst_6 : FVec F S_ .f32 := constant S_ .f32 0xFF800000#32
  let main_v17 : FVec F S8 .f32 := broadcastInDim S8 ![] bcast_S_S8 main_cst_6
  let main_v18 : IVec S8 1 := cmpf .ogt main_arg3 main_v17
  let main_v19 : IVec S8 1 := andi main_v16 main_v18
  let main_cst_7 : FVec F S_ .f32 := constant S_ .f32 0x7F800000#32
  let main_v20 : FVec F S2048x4 .f32 := broadcastInDim S2048x4 ![] bcast_S_S2048x4 main_cst_7
  let main_v21 : IVec S2048x4 1 := cmpf .olt main_arg4 main_v20
  let main_cst_8 : FVec F S_ .f32 := constant S_ .f32 0xFF800000#32
  let main_v22 : FVec F S2048x4 .f32 := broadcastInDim S2048x4 ![] bcast_S_S2048x4 main_cst_8
  let main_v23 : IVec S2048x4 1 := cmpf .ogt main_arg4 main_v22
  let main_v24 : IVec S2048x4 1 := andi main_v21 main_v23
  let main_cst_9 : FVec F S_ .f32 := constant S_ .f32 0x7F800000#32
  let main_v25 : FVec F S2048x4 .f32 := broadcastInDim S2048x4 ![] bcast_S_S2048x4 main_cst_9
  let main_v26 : IVec S2048x4 1 := cmpf .olt main_arg5 main_v25
  let main_cst_10 : FVec F S_ .f32 := constant S_ .f32 0xFF800000#32
  let main_v27 : FVec F S2048x4 .f32 := broadcastInDim S2048x4 ![] bcast_S_S2048x4 main_cst_10
  let main_v28 : IVec S2048x4 1 := cmpf .ogt main_arg5 main_v27
  let main_v29 : IVec S2048x4 1 := andi main_v26 main_v28
  let main_cst_11 : FVec F S_ .f32 := constant S_ .f32 0x7F800000#32
  let main_v30 : FVec F S2048x8 .f32 := broadcastInDim S2048x8 ![] bcast_S_S2048x8 main_cst_11
  let main_v31 : IVec S2048x8 1 := cmpf .olt main_arg6 main_v30
  let main_cst_12 : FVec F S_ .f32 := constant S_ .f32 0xFF800000#32
  let main_v32 : FVec F S2048x8 .f32 := broadcastInDim S2048x8 ![] bcast_S_S2048x8 main_cst_12
  let main_v33 : IVec S2048x8 1 := cmpf .ogt main_arg6 main_v32
  fn_part2 (F := F) main_arg7 main_v4 main_v9 main_v14 main_v19 main_v24 main_v29 main_v31 main_v33

def fn {F : FTy → Type} [FloatOps F] (main_arg0 : FVec F S2048x3600 .f32) (main_arg1 : FVec F S4 .f32) (main_arg2 : FVec F S4 .f32) (main_arg3 : FVec F S8 .f32) (main_arg4 : FVec F S2048x4 .f32) (main_arg5 : FVec F S2048x4 .f32) (main_arg6 : FVec F S2048x8 .f32) (main_arg7 : FVec F S2048x8 .f32) : IVec S2048x3600 1 × IVec S4 1 × IVec S4 1 × IVec S8 1 × IVec S2048x4 1 × IVec S2048x4 1 × IVec S2048x8 1 × IVec S2048x8 1 :=
  let main_cst : FVec F S_ .f32 := constant S_ .f32 0x7F800000#32
  let main_v0 : FVec F S2048x3600 .f32 := broadcastInDim S2048x3600 ![] bcast_S_S2048x3600 main_cst
  let main_v1 : IVec S2048x3600 1 := cmpf .olt main_arg0 main_v0
  let main_cst_0 : FVec F S_ .f32 := constant S_ .f32 0xFF800000#32
  let main_v2 : FVec F S2048x3600 .f32 := broadcastInDim S2048x3600 ![] bcast_S_S2048x3600 main_cst_0
  let main_v3 : IVec S2048x3600 1 := cmpf .ogt main_arg0 main_v2
  let main_v4 : IVec S2048x3600 1 := andi main_v1 main_v3
  let main_cst_1 : FVec F S_ .f32 := constant S_ .f32 0x7F800000#32
  let main_v5 : FVec F S4 .f32 := broadcastInDim S4 ![] bcast_S_S4 main_cst_1
  let main_v6 : IVec S4 1 := cmpf .olt main_arg1 main_v5
  let main_cst_2 : FVec F S_ .f32 := constant S_ .f32 0xFF800000#32
  let main_v7 : FVec F S4 .f32 := broadcastInDim S4 ![] bcast_S_S4 main_cst_2
  let main_v8 : IVec S4 1 := cmpf .ogt main_arg1 main_v7
  let main_v9 : IVec S4 1 := andi main_v6 main_v8
  let main_cst_3 : FVec F S_ .f32 := constant S_ .f32 0x7F800000#32
  let main_v10 : FVec F S4 .f32 := broadcastInDim S4 ![] bcast_S_S4 main_cst_3
  let main_v11 : IVec S4 1 := cmpf .olt main_arg2 main_v10
  let main_cst_4 : FVec F S_ .f32 := constant S_ .f32 0xFF800000#32
  let main_v12 : FVec F S4 .f32 := broadcastInDim S4 ![] bcast_S_S4 main_cst_4
  let main_v13 : IVec S4 1 := cmpf .ogt main_arg2 main_v12
  let main_v14 : IVec S4 1 := andi main_v11 main_v13
  let main_cst_5 : FVec F S_ .f32 := constant S_ .f32 0x7F800000#32
  let main_v15 : FVec F S8 .f32 := broadcastInDim S8 ![] bcast_S_S8 main_cst_5
  let main_v16 : IVec S8 1 := cmpf .olt main_arg3 main_v15
  fn_part1 (F := F) main_arg3 main_arg4 main_arg5 main_arg6 main_arg7 main_v4 main_v9 main_v14 main_v16
-- ==== Pre_in_proj_finite.lean ====
abbrev S2048x1024 : Shape := ⟨2, ![2048, 1024]⟩
abbrev S1024 : Shape := ⟨1, ![1024]⟩
abbrev S1024x3600 : Shape := ⟨2, ![1024, 3600]⟩
abbrev S2048x3600 : Shape := ⟨2, ![2048, 3600]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x3600 : S_.BroadcastsInDim S1024x3600 (![] : Fin 0 → Fin S1024x3600.rank)
  bcast_S_S2048x3600 : S_.BroadcastsInDim S2048x3600 (![] : Fin 0 → Fin S2048x3600.rank)

variable [Facts]

def fn_part1 {F : FTy → Type} [FloatOps F] (main_arg4 : FVec F S2048x1024 .f32) (main_arg5 : FVec F S2048x3600 .f32) (main_v4 : IVec S2048x1024 1) (main_v9 : IVec S1024 1) (main_v14 : IVec S1024x3600 1) (main_v16 : IVec S2048x1024 1) : IVec S2048x1024 1 × IVec S1024 1 × IVec S1024x3600 1 × IVec S2048x1024 1 × IVec S2048x3600 1 :=
  let main_cst_6 : FVec F S_ .f32 := constant S_ .f32 0xFF800000#32
  let main_v17 : FVec F S2048x1024 .f32 := broadcastInDim S2048x1024 ![] bcast_S_S2048x1024 main_cst_6
  let main_v18 : IVec S2048x1024 1 := cmpf .ogt main_arg4 main_v17
  let main_v19 : IVec S2048x1024 1 := andi main_v16 main_v18
  let main_cst_7 : FVec F S_ .f32 := constant S_ .f32 0x7F800000#32
  let main_v20 : FVec F S2048x3600 .f32 := broadcastInDim S2048x3600 ![] bcast_S_S2048x3600 main_cst_7
  let main_v21 : IVec S2048x3600 1 := cmpf .olt main_arg5 main_v20
  let main_cst_8 : FVec F S_ .f32 := constant S_ .f32 0xFF800000#32
  let main_v22 : FVec F S2048x3600 .f32 := broadcastInDim S2048x3600 ![] bcast_S_S2048x3600 main_cst_8
  let main_v23 : IVec S2048x3600 1 := cmpf .ogt main_arg5 main_v22
  let main_v24 : IVec S2048x3600 1 := andi main_v21 main_v23
  (main_v4, main_v9, main_v14, main_v19, main_v24)

def fn {F : FTy → Type} [FloatOps F] (main_arg0 : FVec F S2048x1024 .f32) (main_arg1 : FVec F S1024 .f32) (main_arg2 : FVec F S1024 .f32) (main_arg3 : FVec F S1024x3600 .f32) (main_arg4 : FVec F S2048x1024 .f32) (main_arg5 : FVec F S2048x3600 .f32) : IVec S2048x1024 1 × IVec S1024 1 × IVec S1024x3600 1 × IVec S2048x1024 1 × IVec S2048x3600 1 :=
  let main_cst : FVec F S_ .f32 := constant S_ .f32 0x7F800000#32
  let main_v0 : FVec F S2048x1024 .f32 := broadcastInDim S2048x1024 ![] bcast_S_S2048x1024 main_cst
  let main_v1 : IVec S2048x1024 1 := cmpf .olt main_arg0 main_v0
  let main_cst_0 : FVec F S_ .f32 := constant S_ .f32 0xFF800000#32
  let main_v2 : FVec F S2048x1024 .f32 := broadcastInDim S2048x1024 ![] bcast_S_S2048x1024 main_cst_0
  let main_v3 : IVec S2048x1024 1 := cmpf .ogt main_arg0 main_v2
  let main_v4 : IVec S2048x1024 1 := andi main_v1 main_v3
  let main_cst_1 : FVec F S_ .f32 := constant S_ .f32 0x7F800000#32
  let main_v5 : FVec F S1024 .f32 := broadcastInDim S1024 ![] bcast_S_S1024 main_cst_1
  let main_v6 : IVec S1024 1 := cmpf .olt main_arg1 main_v5
  let main_cst_2 : FVec F S_ .f32 := constant S_ .f32 0xFF800000#32
  let main_v7 : FVec F S1024 .f32 := broadcastInDim S1024 ![] bcast_S_S1024 main_cst_2
  let main_v8 : IVec S1024 1 := cmpf .ogt main_arg1 main_v7
  let main_v9 : IVec S1024 1 := andi main_v6 main_v8
  let main_cst_3 : FVec F S_ .f32 := constant S_ .f32 0x7F800000#32
  let main_v10 : FVec F S1024x3600 .f32 := broadcastInDim S1024x3600 ![] bcast_S_S1024x3600 main_cst_3
  let main_v11 : IVec S1024x3600 1 := cmpf .olt main_arg3 main_v10
  let main_cst_4 : FVec F S_ .f32 := constant S_ .f32 0xFF800000#32
  let main_v12 : FVec F S1024x3600 .f32 := broadcastInDim S1024x3600 ![] bcast_S_S1024x3600 main_cst_4
  let main_v13 : IVec S1024x3600 1 := cmpf .ogt main_arg3 main_v12
  let main_v14 : IVec S1024x3600 1 := andi main_v11 main_v13
  let main_cst_5 : FVec F S_ .f32 := constant S_ .f32 0x7F800000#32
  let main_v15 : FVec F S2048x1024 .f32 := broadcastInDim S2048x1024 ![] bcast_S_S2048x1024 main_cst_5
  let main_v16 : IVec S2048x1024 1 := cmpf .olt main_arg4 main_v15
  fn_part1 (F := F) main_arg4 main_arg5 main_v4 main_v9 main_v14 main_v16
-- ==== Pre_mlp_finite.lean ====
abbrev S2048x1024 : Shape := ⟨2, ![2048, 1024]⟩
abbrev S2048x256 : Shape := ⟨2, ![2048, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S256x1024 : S_.BroadcastsInDim S256x1024 (![] : Fin 0 → Fin S256x1024.rank)
  bcast_S_S1024x1024 : S_.BroadcastsInDim S1024x1024 (![] : Fin 0 → Fin S1024x1024.rank)

variable [Facts]

def fn_part3 {F : FTy → Type} [FloatOps F] (main_arg10 : FVec F S1024 .f32) (main_arg11 : FVec F S1024 .f32) (main_v4 : IVec S2048x1024 1) (main_v9 : IVec S2048x256 1) (main_v14 : IVec S2048x1024 1) (main_v19 : IVec S1024 1) (main_v24 : IVec S1024 1) (main_v29 : IVec S1024x4096 1) (main_v34 : IVec S4096x1024 1) (main_v39 : IVec S256x1024 1) (main_v44 : IVec S1024x1024 1) (main_v49 : IVec S1024 1) (main_v50 : FVec F S1024 .f32) : IVec S2048x1024 1 × IVec S2048x256 1 × IVec S2048x1024 1 × IVec S1024 1 × IVec S1024 1 × IVec S1024x4096 1 × IVec S4096x1024 1 × IVec S256x1024 1 × IVec S1024x1024 1 × IVec S1024 1 × IVec S1024 1 × IVec S1024 1 :=
  let main_v51 : IVec S1024 1 := cmpf .olt main_arg10 main_v50
  let main_cst_20 : FVec F S_ .f32 := constant S_ .f32 0xFF800000#32
  let main_v52 : FVec F S1024 .f32 := broadcastInDim S1024 ![] bcast_S_S1024 main_cst_20
  let main_v53 : IVec S1024 1 := cmpf .ogt main_arg10 main_v52
  let main_v54 : IVec S1024 1 := andi main_v51 main_v53
  let main_cst_21 : FVec F S_ .f32 := constant S_ .f32 0x7F800000#32
  let main_v55 : FVec F S1024 .f32 := broadcastInDim S1024 ![] bcast_S_S1024 main_cst_21
  let main_v56 : IVec S1024 1 := cmpf .olt main_arg11 main_v55
  let main_cst_22 : FVec F S_ .f32 := constant S_ .f32 0xFF800000#32
  let main_v57 : FVec F S1024 .f32 := broadcastInDim S1024 ![] bcast_S_S1024 main_cst_22
  let main_v58 : IVec S1024 1 := cmpf .ogt main_arg11 main_v57
  let main_v59 : IVec S1024 1 := andi main_v56 main_v58
  (main_v4, main_v9, main_v14, main_v19, main_v24, main_v29, main_v34, main_v39, main_v44, main_v49, main_v54, main_v59)

def fn_part2 {F : FTy → Type} [FloatOps F] (main_arg7 : FVec F S256x1024 .f32) (main_arg8 : FVec F S1024x1024 .f32) (main_arg9 : FVec F S1024 .f32) (main_arg10 : FVec F S1024 .f32) (main_arg11 : FVec F S1024 .f32) (main_v4 : IVec S2048x1024 1) (main_v9 : IVec S2048x256 1) (main_v14 : IVec S2048x1024 1) (main_v19 : IVec S1024 1) (main_v24 : IVec S1024 1) (main_v29 : IVec S1024x4096 1) (main_v31 : IVec S4096x1024 1) (main_v33 : IVec S4096x1024 1) : IVec S2048x1024 1 × IVec S2048x256 1 × IVec S2048x1024 1 × IVec S1024 1 × IVec S1024 1 × IVec S1024x4096 1 × IVec S4096x1024 1 × IVec S256x1024 1 × IVec S1024x1024 1 × IVec S1024 1 × IVec S1024 1 × IVec S1024 1 :=
  let main_v34 : IVec S4096x1024 1 := andi main_v31 main_v33
  let main_cst_13 : FVec F S_ .f32 := constant S_ .f32 0x7F800000#32
  let main_v35 : FVec F S256x1024 .f32 := broadcastInDim S256x1024 ![] bcast_S_S256x1024 main_cst_13
  let main_v36 : IVec S256x1024 1 := cmpf .olt main_arg7 main_v35
  let main_cst_14 : FVec F S_ .f32 := constant S_ .f32 0xFF800000#32
  let main_v37 : FVec F S256x1024 .f32 := broadcastInDim S256x1024 ![] bcast_S_S256x1024 main_cst_14
  let main_v38 : IVec S256x1024 1 := cmpf .ogt main_arg7 main_v37
  let main_v39 : IVec S256x1024 1 := andi main_v36 main_v38
  let main_cst_15 : FVec F S_ .f32 := constant S_ .f32 0x7F800000#32
  let main_v40 : FVec F S1024x1024 .f32 := broadcastInDim S1024x1024 ![] bcast_S_S1024x1024 main_cst_15
  let main_v41 : IVec S1024x1024 1 := cmpf .olt main_arg8 main_v40
  let main_cst_16 : FVec F S_ .f32 := constant S_ .f32 0xFF800000#32
  let main_v42 : FVec F S1024x1024 .f32 := broadcastInDim S1024x1024 ![] bcast_S_S1024x1024 main_cst_16
  let main_v43 : IVec S1024x1024 1 := cmpf .ogt main_arg8 main_v42
  let main_v44 : IVec S1024x1024 1 := andi main_v41 main_v43
  let main_cst_17 : FVec F S_ .f32 := constant S_ .f32 0x7F800000#32
  let main_v45 : FVec F S1024 .f32 := broadcastInDim S1024 ![] bcast_S_S1024 main_cst_17
  let main_v46 : IVec S1024 1 := cmpf .olt main_arg9 main_v45
  let main_cst_18 : FVec F S_ .f32 := constant S_ .f32 0xFF800000#32
  let main_v47 : FVec F S1024 .f32 := broadcastInDim S1024 ![] bcast_S_S1024 main_cst_18
  let main_v48 : IVec S1024 1 := cmpf .ogt main_arg9 main_v47
  let main_v49 : IVec S1024 1 := andi main_v46 main_v48
  let main_cst_19 : FVec F S_ .f32 := constant S_ .f32 0x7F800000#32
  let main_v50 : FVec F S1024 .f32 := broadcastInDim S1024 ![] bcast_S_S1024 main_cst_19
  fn_part3 (F := F) main_arg10 main_arg11 main_v4 main_v9 main_v14 main_v19 main_v24 main_v29 main_v34 main_v39 main_v44 main_v49 main_v50

def fn_part1 {F : FTy → Type} [FloatOps F] (main_arg3 : FVec F S1024 .f32) (main_arg4 : FVec F S1024 .f32) (main_arg5 : FVec F S1024x4096 .f32) (main_arg6 : FVec F S4096x1024 .f32) (main_arg7 : FVec F S256x1024 .f32) (main_arg8 : FVec F S1024x1024 .f32) (main_arg9 : FVec F S1024 .f32) (main_arg10 : FVec F S1024 .f32) (main_arg11 : FVec F S1024 .f32) (main_v4 : IVec S2048x1024 1) (main_v9 : IVec S2048x256 1) (main_v14 : IVec S2048x1024 1) (main_v16 : IVec S1024 1) : IVec S2048x1024 1 × IVec S2048x256 1 × IVec S2048x1024 1 × IVec S1024 1 × IVec S1024 1 × IVec S1024x4096 1 × IVec S4096x1024 1 × IVec S256x1024 1 × IVec S1024x1024 1 × IVec S1024 1 × IVec S1024 1 × IVec S1024 1 :=
  let main_cst_6 : FVec F S_ .f32 := constant S_ .f32 0xFF800000#32
  let main_v17 : FVec F S1024 .f32 := broadcastInDim S1024 ![] bcast_S_S1024 main_cst_6
  let main_v18 : IVec S1024 1 := cmpf .ogt main_arg3 main_v17
  let main_v19 : IVec S1024 1 := andi main_v16 main_v18
  let main_cst_7 : FVec F S_ .f32 := constant S_ .f32 0x7F800000#32
  let main_v20 : FVec F S1024 .f32 := broadcastInDim S1024 ![] bcast_S_S1024 main_cst_7
  let main_v21 : IVec S1024 1 := cmpf .olt main_arg4 main_v20
  let main_cst_8 : FVec F S_ .f32 := constant S_ .f32 0xFF800000#32
  let main_v22 : FVec F S1024 .f32 := broadcastInDim S1024 ![] bcast_S_S1024 main_cst_8
  let main_v23 : IVec S1024 1 := cmpf .ogt main_arg4 main_v22
  let main_v24 : IVec S1024 1 := andi main_v21 main_v23
  let main_cst_9 : FVec F S_ .f32 := constant S_ .f32 0x7F800000#32
  let main_v25 : FVec F S1024x4096 .f32 := broadcastInDim S1024x4096 ![] bcast_S_S1024x4096 main_cst_9
  let main_v26 : IVec S1024x4096 1 := cmpf .olt main_arg5 main_v25
  let main_cst_10 : FVec F S_ .f32 := constant S_ .f32 0xFF800000#32
  let main_v27 : FVec F S1024x4096 .f32 := broadcastInDim S1024x4096 ![] bcast_S_S1024x4096 main_cst_10
  let main_v28 : IVec S1024x4096 1 := cmpf .ogt main_arg5 main_v27
  let main_v29 : IVec S1024x4096 1 := andi main_v26 main_v28
  let main_cst_11 : FVec F S_ .f32 := constant S_ .f32 0x7F800000#32
  let main_v30 : FVec F S4096x1024 .f32 := broadcastInDim S4096x1024 ![] bcast_S_S4096x1024 main_cst_11
  let main_v31 : IVec S4096x1024 1 := cmpf .olt main_arg6 main_v30
  let main_cst_12 : FVec F S_ .f32 := constant S_ .f32 0xFF800000#32
  let main_v32 : FVec F S4096x1024 .f32 := broadcastInDim S4096x1024 ![] bcast_S_S4096x1024 main_cst_12
  let main_v33 : IVec S4096x1024 1 := cmpf .ogt main_arg6 main_v32
  fn_part2 (F := F) main_arg7 main_arg8 main_arg9 main_arg10 main_arg11 main_v4 main_v9 main_v14 main_v19 main_v24 main_v29 main_v31 main_v33

def fn {F : FTy → Type} [FloatOps F] (main_arg0 : FVec F S2048x1024 .f32) (main_arg1 : FVec F S2048x256 .f32) (main_arg2 : FVec F S2048x1024 .f32) (main_arg3 : FVec F S1024 .f32) (main_arg4 : FVec F S1024 .f32) (main_arg5 : FVec F S1024x4096 .f32) (main_arg6 : FVec F S4096x1024 .f32) (main_arg7 : FVec F S256x1024 .f32) (main_arg8 : FVec F S1024x1024 .f32) (main_arg9 : FVec F S1024 .f32) (main_arg10 : FVec F S1024 .f32) (main_arg11 : FVec F S1024 .f32) : IVec S2048x1024 1 × IVec S2048x256 1 × IVec S2048x1024 1 × IVec S1024 1 × IVec S1024 1 × IVec S1024x4096 1 × IVec S4096x1024 1 × IVec S256x1024 1 × IVec S1024x1024 1 × IVec S1024 1 × IVec S1024 1 × IVec S1024 1 :=
  let main_cst : FVec F S_ .f32 := constant S_ .f32 0x7F800000#32
  let main_v0 : FVec F S2048x1024 .f32 := broadcastInDim S2048x1024 ![] bcast_S_S2048x1024 main_cst
  let main_v1 : IVec S2048x1024 1 := cmpf .olt main_arg0 main_v0
  let main_cst_0 : FVec F S_ .f32 := constant S_ .f32 0xFF800000#32
  let main_v2 : FVec F S2048x1024 .f32 := broadcastInDim S2048x1024 ![] bcast_S_S2048x1024 main_cst_0
  let main_v3 : IVec S2048x1024 1 := cmpf .ogt main_arg0 main_v2
  let main_v4 : IVec S2048x1024 1 := andi main_v1 main_v3
  let main_cst_1 : FVec F S_ .f32 := constant S_ .f32 0x7F800000#32
  let main_v5 : FVec F S2048x256 .f32 := broadcastInDim S2048x256 ![] bcast_S_S2048x256 main_cst_1
  let main_v6 : IVec S2048x256 1 := cmpf .olt main_arg1 main_v5
  let main_cst_2 : FVec F S_ .f32 := constant S_ .f32 0xFF800000#32
  let main_v7 : FVec F S2048x256 .f32 := broadcastInDim S2048x256 ![] bcast_S_S2048x256 main_cst_2
  let main_v8 : IVec S2048x256 1 := cmpf .ogt main_arg1 main_v7
  let main_v9 : IVec S2048x256 1 := andi main_v6 main_v8
  let main_cst_3 : FVec F S_ .f32 := constant S_ .f32 0x7F800000#32
  let main_v10 : FVec F S2048x1024 .f32 := broadcastInDim S2048x1024 ![] bcast_S_S2048x1024 main_cst_3
  let main_v11 : IVec S2048x1024 1 := cmpf .olt main_arg2 main_v10
  let main_cst_4 : FVec F S_ .f32 := constant S_ .f32 0xFF800000#32
  let main_v12 : FVec F S2048x1024 .f32 := broadcastInDim S2048x1024 ![] bcast_S_S2048x1024 main_cst_4
  let main_v13 : IVec S2048x1024 1 := cmpf .ogt main_arg2 main_v12
  let main_v14 : IVec S2048x1024 1 := andi main_v11 main_v13
  let main_cst_5 : FVec F S_ .f32 := constant S_ .f32 0x7F800000#32
  let main_v15 : FVec F S1024 .f32 := broadcastInDim S1024 ![] bcast_S_S1024 main_cst_5
  let main_v16 : IVec S1024 1 := cmpf .olt main_arg3 main_v15
  fn_part1 (F := F) main_arg3 main_arg4 main_arg5 main_arg6 main_arg7 main_arg8 main_arg9 main_arg10 main_arg11 main_v4 main_v9 main_v14 main_v16
-- ==== Pre_out_finite.lean ====
abbrev S2048x512 : Shape := ⟨2, ![2048, 512]⟩
abbrev S2048x3600 : Shape := ⟨2, ![2048, 3600]⟩
abbrev S128 : Shape := ⟨1, ![128]⟩
abbrev S64 : Shape := ⟨1, ![64]⟩
abbrev S1024x1024 : Shape := ⟨2, ![1024, 1024]⟩
abbrev S2048x1024 : Shape := ⟨2, ![2048, 1024]⟩
abbrev S_ : Shape := ⟨0, ![]⟩

class Facts : Prop where
  bcast_S_S2048x512 : S_.BroadcastsInDim S2048x512 (![] : Fin 0 → Fin S2048x512.rank)
  bcast_S_S2048x3600 : S_.BroadcastsInDim S2048x3600 (![] : Fin 0 → Fin S2048x3600.rank)
  bcast_S_S128 : S_.BroadcastsInDim S128 (![] : Fin 0 → Fin S128.rank)
  bcast_S_S64 : S_.BroadcastsInDim S64 (![] : Fin 0 → Fin S64.rank)
  bcast_S_S1024x1024 : S_.BroadcastsInDim S1024x1024 (![] : Fin 0 → Fin S1024x1024.rank)
  bcast_S_S2048x1024 : S_.BroadcastsInDim S2048x1024 (![] : Fin 0 → Fin S2048x1024.rank)

variable [Facts]

def fn_part2 {F : FTy → Type} [FloatOps F] (main_v4 : IVec S2048x512 1) (main_v9 : IVec S2048x3600 1) (main_v14 : IVec S2048x512 1) (main_v19 : IVec S128 1) (main_v24 : IVec S64 1) (main_v29 : IVec S1024x1024 1) (main_v31 : IVec S2048x1024 1) (main_v33 : IVec S2048x1024 1) : IVec S2048x512 1 × IVec S2048x3600 1 × IVec S2048x512 1 × IVec S128 1 × IVec S64 1 × IVec S1024x1024 1 × IVec S2048x1024 1 :=
  let main_v34 : IVec S2048x1024 1 := andi main_v31 main_v33
  (main_v4, main_v9, main_v14, main_v19, main_v24, main_v29, main_v34)

def fn_part1 {F : FTy → Type} [FloatOps F] (main_arg3 : FVec F S128 .f32) (main_arg4 : FVec F S64 .f32) (main_arg5 : FVec F S1024x1024 .f32) (main_arg6 : FVec F S2048x1024 .f32) (main_v4 : IVec S2048x512 1) (main_v9 : IVec S2048x3600 1) (main_v14 : IVec S2048x512 1) (main_v16 : IVec S128 1) : IVec S2048x512 1 × IVec S2048x3600 1 × IVec S2048x512 1 × IVec S128 1 × IVec S64 1 × IVec S1024x1024 1 × IVec S2048x1024 1 :=
  let main_cst_6 : FVec F S_ .f32 := constant S_ .f32 0xFF800000#32
  let main_v17 : FVec F S128 .f32 := broadcastInDim S128 ![] bcast_S_S128 main_cst_6
  let main_v18 : IVec S128 1 := cmpf .ogt main_arg3 main_v17
  let main_v19 : IVec S128 1 := andi main_v16 main_v18
  let main_cst_7 : FVec F S_ .f32 := constant S_ .f32 0x7F800000#32
  let main_v20 : FVec F S64 .f32 := broadcastInDim S64 ![] bcast_S_S64 main_cst_7
  let main_v21 : IVec S64 1 := cmpf .olt main_arg4 main_v20
  let main_cst_8 : FVec F S_ .f32 := constant S_ .f32 0xFF800000#32
  let main_v22 : FVec F S64 .f32 := broadcastInDim S64 ![] bcast_S_S64 main_cst_8
  let main_v23 : IVec S64 1 := cmpf .ogt main_arg4 main_v22
  let main_v24 : IVec S64 1 := andi main_v21 main_v23
  let main_cst_9 : FVec F S_ .f32 := constant S_ .f32 0x7F800000#32
  let main_v25 : FVec F S1024x1024 .f32 := broadcastInDim S1024x1024 ![] bcast_S_S1024x1024 main_cst_9
  let main_v26 : IVec S1024x1024 1 := cmpf .olt main_arg5 main_v25
  let main_cst_10 : FVec F S_ .f32 := constant S_ .f32 0xFF800000#32
  let main_v27 : FVec F S1024x1024 .f32 := broadcastInDim S1024x1024 ![] bcast_S_S1024x1024 main_cst_10
  let main_v28 : IVec S1024x1024 1 := cmpf .ogt main_arg5 main_v27
  let main_v29 : IVec S1024x1024 1 := andi main_v26 main_v28
  let main_cst_11 : FVec F S_ .f32 := constant S_ .f32 0x7F800000#32
  let main_v30 : FVec F S2048x1024 .f32 := broadcastInDim S2048x1024 ![] bcast_S_S2048x1024 main_cst_11
  let main_v31 : IVec S2048x1024 1 := cmpf .olt main_arg6 main_v30
  let main_cst_12 : FVec F S_ .f32 := constant S_ .f32 0xFF800000#32
  let main_v32 : FVec F S2048x1024 .f32 := broadcastInDim S2048x1024 ![] bcast_S_S2048x1024 main_cst_12
  let main_v33 : IVec S2048x1024 1 := cmpf .ogt main_arg6 main_v32
  fn_part2 (F := F) main_v4 main_v9 main_v14 main_v19 main_v24 main_v29 main_v31 main_v33

def fn {F : FTy → Type} [FloatOps F] (main_arg0 : FVec F S2048x512 .f32) (main_arg1 : FVec F S2048x3600 .f32) (main_arg2 : FVec F S2048x512 .f32) (main_arg3 : FVec F S128 .f32) (main_arg4 : FVec F S64 .f32) (main_arg5 : FVec F S1024x1024 .f32) (main_arg6 : FVec F S2048x1024 .f32) : IVec S2048x512 1 × IVec S2048x3600 1 × IVec S2048x512 1 × IVec S128 1 × IVec S64 1 × IVec S1024x1024 1 × IVec S2048x1024 1 :=
  let main_cst : FVec F S_ .f32 := constant S_ .f32 0x7F800000#32
  let main_v0 : FVec F S2048x512 .f32 := broadcastInDim S2048x512 ![] bcast_S_S2048x512 main_cst
  let main_v1 : IVec S2048x512 1 := cmpf .olt main_arg0 main_v0
  let main_cst_0 : FVec F S_ .f32 := constant S_ .f32 0xFF800000#32
  let main_v2 : FVec F S2048x512 .f32 := broadcastInDim S2048x512 ![] bcast_S_S2048x512 main_cst_0
  let main_v3 : IVec S2048x512 1 := cmpf .ogt main_arg0 main_v2
  let main_v4 : IVec S2048x512 1 := andi main_v1 main_v3
  let main_cst_1 : FVec F S_ .f32 := constant S_ .f32 0x7F800000#32
  let main_v5 : FVec F S2048x3600 .f32 := broadcastInDim S2048x3600 ![] bcast_S_S2048x3600 main_cst_1
  let main_v6 : IVec S2048x3600 1 := cmpf .olt main_arg1 main_v5
  let main_cst_2 : FVec F S_ .f32 := constant S_ .f32 0xFF800000#32
  let main_v7 : FVec F S2048x3600 .f32 := broadcastInDim S2048x3600 ![] bcast_S_S2048x3600 main_cst_2
  let main_v8 : IVec S2048x3600 1 := cmpf .ogt main_arg1 main_v7
  let main_v9 : IVec S2048x3600 1 := andi main_v6 main_v8
  let main_cst_3 : FVec F S_ .f32 := constant S_ .f32 0x7F800000#32
  let main_v10 : FVec F S2048x512 .f32 := broadcastInDim S2048x512 ![] bcast_S_S2048x512 main_cst_3
  let main_v11 : IVec S2048x512 1 := cmpf .olt main_arg2 main_v10
  let main_cst_4 : FVec F S_ .f32 := constant S_ .f32 0xFF800000#32
  let main_v12 : FVec F S2048x512 .f32 := broadcastInDim S2048x512 ![] bcast_S_S2048x512 main_cst_4
  let main_v13 : IVec S2048x512 1 := cmpf .ogt main_arg2 main_v12
  let main_v14 : IVec S2048x512 1 := andi main_v11 main_v13
  let main_cst_5 : FVec F S_ .f32 := constant S_ .f32 0x7F800000#32
  let main_v15 : FVec F S128 .f32 := broadcastInDim S128 ![] bcast_S_S128 main_cst_5
  let main_v16 : IVec S128 1 := cmpf .olt main_arg3 main_v15
  fn_part1 (F := F) main_arg3 main_arg4 main_arg5 main_arg6 main_v4 main_v9 main_v14 main_v16
-- ==== Pre_prep_finite.lean ====
abbrev S2048x3600 : Shape := ⟨2, ![2048, 3600]⟩
abbrev S4x1536 : Shape := ⟨2, ![4, 1536]⟩
abbrev S2048x512 : Shape := ⟨2, ![2048, 512]⟩
abbrev S_ : Shape := ⟨0, ![]⟩

class Facts : Prop where
  bcast_S_S2048x3600 : S_.BroadcastsInDim S2048x3600 (![] : Fin 0 → Fin S2048x3600.rank)
  bcast_S_S4x1536 : S_.BroadcastsInDim S4x1536 (![] : Fin 0 → Fin S4x1536.rank)
  bcast_S_S2048x512 : S_.BroadcastsInDim S2048x512 (![] : Fin 0 → Fin S2048x512.rank)

variable [Facts]

def fn_part1 {F : FTy → Type} [FloatOps F] (main_arg3 : FVec F S2048x512 .f32) (main_arg4 : FVec F S2048x512 .f32) (main_v4 : IVec S2048x3600 1) (main_v9 : IVec S4x1536 1) (main_v14 : IVec S2048x512 1) (main_v16 : IVec S2048x512 1) : IVec S2048x3600 1 × IVec S4x1536 1 × IVec S2048x512 1 × IVec S2048x512 1 × IVec S2048x512 1 :=
  let main_cst_6 : FVec F S_ .f32 := constant S_ .f32 0xFF800000#32
  let main_v17 : FVec F S2048x512 .f32 := broadcastInDim S2048x512 ![] bcast_S_S2048x512 main_cst_6
  let main_v18 : IVec S2048x512 1 := cmpf .ogt main_arg3 main_v17
  let main_v19 : IVec S2048x512 1 := andi main_v16 main_v18
  let main_cst_7 : FVec F S_ .f32 := constant S_ .f32 0x7F800000#32
  let main_v20 : FVec F S2048x512 .f32 := broadcastInDim S2048x512 ![] bcast_S_S2048x512 main_cst_7
  let main_v21 : IVec S2048x512 1 := cmpf .olt main_arg4 main_v20
  let main_cst_8 : FVec F S_ .f32 := constant S_ .f32 0xFF800000#32
  let main_v22 : FVec F S2048x512 .f32 := broadcastInDim S2048x512 ![] bcast_S_S2048x512 main_cst_8
  let main_v23 : IVec S2048x512 1 := cmpf .ogt main_arg4 main_v22
  let main_v24 : IVec S2048x512 1 := andi main_v21 main_v23
  (main_v4, main_v9, main_v14, main_v19, main_v24)

def fn {F : FTy → Type} [FloatOps F] (main_arg0 : FVec F S2048x3600 .f32) (main_arg1 : FVec F S4x1536 .f32) (main_arg2 : FVec F S2048x512 .f32) (main_arg3 : FVec F S2048x512 .f32) (main_arg4 : FVec F S2048x512 .f32) : IVec S2048x3600 1 × IVec S4x1536 1 × IVec S2048x512 1 × IVec S2048x512 1 × IVec S2048x512 1 :=
  let main_cst : FVec F S_ .f32 := constant S_ .f32 0x7F800000#32
  let main_v0 : FVec F S2048x3600 .f32 := broadcastInDim S2048x3600 ![] bcast_S_S2048x3600 main_cst
  let main_v1 : IVec S2048x3600 1 := cmpf .olt main_arg0 main_v0
  let main_cst_0 : FVec F S_ .f32 := constant S_ .f32 0xFF800000#32
  let main_v2 : FVec F S2048x3600 .f32 := broadcastInDim S2048x3600 ![] bcast_S_S2048x3600 main_cst_0
  let main_v3 : IVec S2048x3600 1 := cmpf .ogt main_arg0 main_v2
  let main_v4 : IVec S2048x3600 1 := andi main_v1 main_v3
  let main_cst_1 : FVec F S_ .f32 := constant S_ .f32 0x7F800000#32
  let main_v5 : FVec F S4x1536 .f32 := broadcastInDim S4x1536 ![] bcast_S_S4x1536 main_cst_1
  let main_v6 : IVec S4x1536 1 := cmpf .olt main_arg1 main_v5
  let main_cst_2 : FVec F S_ .f32 := constant S_ .f32 0xFF800000#32
  let main_v7 : FVec F S4x1536 .f32 := broadcastInDim S4x1536 ![] bcast_S_S4x1536 main_cst_2
  let main_v8 : IVec S4x1536 1 := cmpf .ogt main_arg1 main_v7
  let main_v9 : IVec S4x1536 1 := andi main_v6 main_v8
  let main_cst_3 : FVec F S_ .f32 := constant S_ .f32 0x7F800000#32
  let main_v10 : FVec F S2048x512 .f32 := broadcastInDim S2048x512 ![] bcast_S_S2048x512 main_cst_3
  let main_v11 : IVec S2048x512 1 := cmpf .olt main_arg2 main_v10
  let main_cst_4 : FVec F S_ .f32 := constant S_ .f32 0xFF800000#32
  let main_v12 : FVec F S2048x512 .f32 := broadcastInDim S2048x512 ![] bcast_S_S2048x512 main_cst_4
  let main_v13 : IVec S2048x512 1 := cmpf .ogt main_arg2 main_v12
  let main_v14 : IVec S2048x512 1 := andi main_v11 main_v13
  let main_cst_5 : FVec F S_ .f32 := constant S_ .f32 0x7F800000#32
  let main_v15 : FVec F S2048x512 .f32 := broadcastInDim S2048x512 ![] bcast_S_S2048x512 main_cst_5
  let main_v16 : IVec S2048x512 1 := cmpf .olt main_arg3 main_v15
  fn_part1 (F := F) main_arg3 main_arg4 main_v4 main_v9 main_v14 main_v16
-- ==== Pre_prepf_finite.lean ====
abbrev S2048x3600 : Shape := ⟨2, ![2048, 3600]⟩
abbrev S4x1536 : Shape := ⟨2, ![4, 1536]⟩
abbrev S_ : Shape := ⟨0, ![]⟩

class Facts : Prop where
  bcast_S_S2048x3600 : S_.BroadcastsInDim S2048x3600 (![] : Fin 0 → Fin S2048x3600.rank)
  bcast_S_S4x1536 : S_.BroadcastsInDim S4x1536 (![] : Fin 0 → Fin S4x1536.rank)

variable [Facts]

def fn {F : FTy → Type} [FloatOps F] (main_arg0 : FVec F S2048x3600 .f32) (main_arg1 : FVec F S4x1536 .f32) : IVec S2048x3600 1 × IVec S4x1536 1 :=
  let main_cst : FVec F S_ .f32 := constant S_ .f32 0x7F800000#32
  let main_v0 : FVec F S2048x3600 .f32 := broadcastInDim S2048x3600 ![] bcast_S_S2048x3600 main_cst
  let main_v1 : IVec S2048x3600 1 := cmpf .olt main_arg0 main_v0
  let main_cst_0 : FVec F S_ .f32 := constant S_ .f32 0xFF800000#32
  let main_v2 : FVec F S2048x3600 .f32 := broadcastInDim S2048x3600 ![] bcast_S_S2048x3600 main_cst_0
  let main_v3 : IVec S2048x3600 1 := cmpf .ogt main_arg0 main_v2
  let main_v4 : IVec S2048x3600 1 := andi main_v1 main_v3
  let main_cst_1 : FVec F S_ .f32 := constant S_ .f32 0x7F800000#32
  let main_v5 : FVec F S4x1536 .f32 := broadcastInDim S4x1536 ![] bcast_S_S4x1536 main_cst_1
  let main_v6 : IVec S4x1536 1 := cmpf .olt main_arg1 main_v5
  let main_cst_2 : FVec F S_ .f32 := constant S_ .f32 0xFF800000#32
  let main_v7 : FVec F S4x1536 .f32 := broadcastInDim S4x1536 ![] bcast_S_S4x1536 main_cst_2
  let main_v8 : IVec S4x1536 1 := cmpf .ogt main_arg1 main_v7
  let main_v9 : IVec S4x1536 1 := andi main_v6 main_v8
  (main_v4, main_v9)
-- ==== InProjBwd.lean ====
abbrev S2048x1024 : Shape := ⟨2, ![2048, 1024]⟩
abbrev S1024 : Shape := ⟨1, ![1024]⟩
abbrev S1024x3600 : Shape := ⟨2, ![1024, 3600]⟩
abbrev S2048x3600 : Shape := ⟨2, ![2048, 3600]⟩
abbrev S_ : Shape := ⟨0, ![]⟩
abbrev S8x128 : Shape := ⟨2, ![8, 128]⟩
abbrev S2048x112 : Shape := ⟨2, ![2048, 112]⟩
abbrev S2048x2048 : Shape := ⟨2, ![2048, 2048]⟩
abbrev S2048x1536 : Shape := ⟨2, ![2048, 1536]⟩
abbrev S2048x8 : Shape := ⟨2, ![2048, 8]⟩
abbrev S2048x3712 : Shape := ⟨2, ![2048, 3712]⟩
abbrev S1024x112 : Shape := ⟨2, ![1024, 112]⟩
abbrev S1024x2048 : Shape := ⟨2, ![1024, 2048]⟩
abbrev S1024x1536 : Shape := ⟨2, ![1024, 1536]⟩
abbrev S1024x8 : Shape := ⟨2, ![1024, 8]⟩
abbrev S1024x3712 : Shape := ⟨2, ![1024, 3712]⟩
abbrev S1x1024 : Shape := ⟨2, ![1, 1024]⟩
abbrev S8x1024 : Shape := ⟨2, ![8, 1024]⟩
abbrev S512x3712 : Shape := ⟨2, ![512, 3712]⟩
abbrev S512x1024 : Shape := ⟨2, ![512, 1024]⟩
abbrev S512 : Shape := ⟨1, ![512]⟩
abbrev S512x1 : Shape := ⟨2, ![512, 1]⟩

abbrev nBuf : Space → Nat
  | .hbm => 27
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x3600, .f32⟩
  | .hbm, ⟨4, _⟩ => ⟨S2048x1024, .f32⟩
  | .hbm, ⟨5, _⟩ => ⟨S2048x3600, .f32⟩
  | .hbm, ⟨6, _⟩ => ⟨S_, .f32⟩
  | .hbm, ⟨7, _⟩ => ⟨S8x128, .f32⟩
  | .hbm, ⟨8, _⟩ => ⟨S_, .f32⟩
  | .hbm, ⟨9, _⟩ => ⟨S2048x112, .f32⟩
  | .hbm, ⟨10, _⟩ => ⟨S2048x2048, .f32⟩
  | .hbm, ⟨11, _⟩ => ⟨S2048x1536, .f32⟩
  | .hbm, ⟨12, _⟩ => ⟨S2048x8, .f32⟩
  | .hbm, ⟨13, _⟩ => ⟨S2048x8, .f32⟩
  | .hbm, ⟨14, _⟩ => ⟨S2048x3712, .f32⟩
  | .hbm, ⟨15, _⟩ => ⟨S2048x3712, .bf16⟩
  | .hbm, ⟨16, _⟩ => ⟨S_, .f32⟩
  | .hbm, ⟨17, _⟩ => ⟨S1024x112, .f32⟩
  | .hbm, ⟨18, _⟩ => ⟨S1024x2048, .f32⟩
  | .hbm, ⟨19, _⟩ => ⟨S1024x1536, .f32⟩
  | .hbm, ⟨20, _⟩ => ⟨S1024x8, .f32⟩
  | .hbm, ⟨21, _⟩ => ⟨S1024x8, .f32⟩
  | .hbm, ⟨22, _⟩ => ⟨S1024x3712, .f32⟩
  | .hbm, ⟨23, _⟩ => ⟨S1024x3712, .bf16⟩
  | .hbm, ⟨24, _⟩ => ⟨S1x1024, .f32⟩
  | .hbm, ⟨25, _⟩ => ⟨S2048x1024, .f32⟩
  | .hbm, ⟨26, _⟩ => ⟨S8x1024, .f32⟩
  | .local _ .vmem, ⟨0, _⟩ => ⟨S512x3712, .bf16⟩
  | .local _ .vmem, ⟨1, _⟩ => ⟨S512x3712, .bf16⟩
  | .local _ .vmem, ⟨2, _⟩ => ⟨S1024x3712, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InProjBwdRefIdeal.lean ====
abbrev S2048x1024 : Shape := ⟨2, ![2048, 1024]⟩
abbrev S1024 : Shape := ⟨1, ![1024]⟩
abbrev S1024x3600 : Shape := ⟨2, ![1024, 3600]⟩
abbrev S2048x3600 : Shape := ⟨2, ![2048, 3600]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 100
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x3600, .f32⟩
  | .hbm, ⟨4, _⟩ => ⟨S2048x1024, .f32⟩
  | .hbm, ⟨5, _⟩ => ⟨S2048x3600, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x3600, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x1024, .f32⟩
  | .hbm, ⟨94, _⟩ => ⟨S2048x1024, .f32⟩
  | .hbm, ⟨95, _⟩ => ⟨S1x1024, .f32⟩
  | .hbm, ⟨96, _⟩ => ⟨S1x1024, .f32⟩
  | .hbm, ⟨97, _⟩ => ⟨S_, .f32⟩
  | .hbm, ⟨98, _⟩ => ⟨S6x1024, .f32⟩
  | .hbm, ⟨99, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_19 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== FoxBwd.lean ====
abbrev S2048x8x64 : Shape := ⟨3, ![2048, 8, 64]⟩
abbrev S8x2048 : Shape := ⟨2, ![8, 2048]⟩
abbrev S2x10 : Shape := ⟨2, ![2, 10]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x1x2048 : Shape := ⟨3, ![8, 1, 2048]⟩
abbrev S8x2048x1 : Shape := ⟨3, ![8, 2048, 1]⟩
abbrev S8x64x2048 : Shape := ⟨3, ![8, 64, 2048]⟩
abbrev S2048x8 : Shape := ⟨2, ![2048, 8]⟩
abbrev S2048x512 : Shape := ⟨2, ![2048, 512]⟩
abbrev S2048x128 : Shape := ⟨2, ![2048, 128]⟩
abbrev S2048x3712 : Shape := ⟨2, ![2048, 3712]⟩
abbrev S112x2048 : Shape := ⟨2, ![112, 2048]⟩
abbrev S128x2048 : Shape := ⟨2, ![128, 2048]⟩
abbrev S2048x8x1 : Shape := ⟨3, ![2048, 8, 1]⟩
abbrev S4x8x2048 : Shape := ⟨3, ![4, 8, 2048]⟩
abbrev S512x128 : Shape := ⟨2, ![512, 128]⟩
abbrev S1x1 : Shape := ⟨2, ![1, 1]⟩
abbrev S16x512 : Shape := ⟨2, ![16, 512]⟩
abbrev S1x8x512 : Shape := ⟨3, ![1, 8, 512]⟩
abbrev S512x512 : Shape := ⟨2, ![512, 512]⟩
abbrev S1x512 : Shape := ⟨2, ![1, 512]⟩
abbrev S512x1 : Shape := ⟨2, ![512, 1]⟩
abbrev S512 : Shape := ⟨1, ![512]⟩
abbrev S1x1x512 : Shape := ⟨3, ![1, 1, 512]⟩

abbrev nBuf : Space → Nat
  | .hbm => 67
  | .vmem => 24
  | .smem => 1
  | _ => 0

abbrev bufTy : (tb : Table) → Fin (tcTables nBuf tb) → BufTy
  | .hbm, ⟨0, _⟩ => ⟨S2048x8x64, .f32⟩
  | .hbm, ⟨1, _⟩ => ⟨S2048x8x64, .f32⟩
  | .hbm, ⟨2, _⟩ => ⟨S2048x8x64, .f32⟩
  | .hbm, ⟨3, _⟩ => ⟨S8x2048, .f32⟩
  | .hbm, ⟨4, _⟩ => ⟨S2048x8x64, .f32⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S2048, .i32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S8x2048x2048, .i1⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x64x2048, .f32⟩
  | .hbm, ⟨34, _⟩ => ⟨S2048x8x64, .f32⟩
  | .hbm, ⟨35, _⟩ => ⟨S8x2048x1, .f32⟩
  | .hbm, ⟨36, _⟩ => ⟨S8x2048x1, .f32⟩
  | .hbm, ⟨37, _⟩ => ⟨S8x2048, .f32⟩
  | .hbm, ⟨38, _⟩ => ⟨S2048x8, .f32⟩
  | .hbm, ⟨39, _⟩ => ⟨S_, .f32⟩
  | .hbm, ⟨40, _⟩ => ⟨S2048x2048, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x128, .f32⟩
  | .hbm, ⟨46, _⟩ => ⟨S2048x3712, .f32⟩
  | .hbm, ⟨47, _⟩ => ⟨S_, .f32⟩
  | .hbm, ⟨48, _⟩ => ⟨S8x2048, .f32⟩
  | .hbm, ⟨49, _⟩ => ⟨S_, .f32⟩
  | .hbm, ⟨50, _⟩ => ⟨S112x2048, .f32⟩
  | .hbm, ⟨51, _⟩ => ⟨S128x2048, .f32⟩
  | .hbm, ⟨52, _⟩ => ⟨S2048x8x64, .f32⟩
  | .hbm, ⟨53, _⟩ => ⟨S_, .f32⟩
  | .hbm, ⟨54, _⟩ => ⟨S2048x8, .f32⟩
  | .hbm, ⟨55, _⟩ => ⟨S2048x8x1, .f32⟩
  | .hbm, ⟨56, _⟩ => ⟨S2048x8x64, .f32⟩
  | .hbm, ⟨57, _⟩ => ⟨S2048x512, .f32⟩
  | .hbm, ⟨58, _⟩ => ⟨S2048x8x1, .f32⟩
  | .hbm, ⟨59, _⟩ => ⟨S2048x8x64, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x512, .f32⟩
  | .hbm, ⟨64, _⟩ => ⟨S2048x512, .f32⟩
  | .hbm, ⟨65, _⟩ => ⟨S2048x512, .f32⟩
  | .hbm, ⟨66, _⟩ => ⟨S4x8x2048, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S16x512, .f32⟩
  | .local _ .vmem, ⟨7, _⟩ => ⟨S16x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S2048x128, .f32⟩
  | .local _ .vmem, ⟨15, _⟩ => ⟨S2048x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S2048x128, .f32⟩
  | .local _ .vmem, ⟨21, _⟩ => ⟨S2048x128, .f32⟩
  | .local _ .vmem, ⟨22, _⟩ => ⟨S1x8x512, .f32⟩
  | .local _ .vmem, ⟨23, _⟩ => ⟨S1x8x512, .f32⟩
  | .local _ .smem, ⟨0, _⟩ => ⟨S2x10, .i32⟩
  | _, _ => ⟨S2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48_0 : Ref sig .tc := ⟨.hbm, 62, rfl⟩
abbrev main_v48_1 : Ref sig .tc := ⟨.hbm, 63, rfl⟩
abbrev main_v48_2 : Ref sig .tc := ⟨.hbm, 64, rfl⟩
abbrev main_v48_3 : Ref sig .tc := ⟨.hbm, 65, rfl⟩
abbrev main_v48_4 : Ref sig .tc := ⟨.hbm, 66, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 10], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v0 : Index := Scalar.indexCast arg1
  ![1, v0.toNat]
def k0_mult1 (v1 : BitVec 32) : BitVec 32 :=
  let c512_i32 : BitVec 32 := 512#32
  let v16 : BitVec 32 := Scalar.muli v1 c512_i32
  v16
def k0_cond3 (v1 : BitVec 32) (v3 : BitVec 32) : BitVec 1 :=
  let v10 : BitVec 1 := Scalar.cmpi .eq v1 v3
  let v11 : BitVec 32 := Scalar.extui v10
  let c0_i32_2 : BitVec 32 := 0#32
  let v12 : BitVec 1 := Scalar.cmpi .ne v11 c0_i32_2
  v12

def k0_off3 (i : grid0.Coords) (c0_i32_18 : BitVec 32) : Fin 2 → Nat :=
  let c8_i32 : BitVec 32 := 8#32
  let c2_i32 : BitVec 32 := 2#32
  let arg0 : BitVec 32 := BitVec.ofNat 32 (i 0).val
  let v61 : BitVec 32 := Scalar.muli c2_i32 arg0
  let v62 : BitVec 32 := Scalar.addi c8_i32 v61
  let v63 : BitVec 32 := Scalar.addi v62 c0_i32_18
  let v64 : Index := Scalar.indexCast v63
  let c0_19 : Index := 0#32
  ![v64.toNat, 0]
def k0_off4 (v1 : BitVec 32) : Fin 2 → Nat :=
  let c512_i32 : BitVec 32 := 512#32
  let v16 : BitVec 32 := Scalar.muli v1 c512_i32
  let v17 : BitVec 32 := v16
  let v206 : Index := Scalar.indexCast v17
  let c0_78 : Index := 0#32
  ![v206.toNat, 0]
def k0_mult2 (v1 : BitVec 32) : BitVec 32 :=
  let c512_i32 : BitVec 32 := 512#32
  let v16 : BitVec 32 := Scalar.muli v1 c512_i32
  v16
def k0_cond4 (v1 : BitVec 32) (v3 : BitVec 32) : BitVec 1 :=
  let v13 : BitVec 1 := Scalar.cmpi .sgt v1 v3
  let v14 : BitVec 32 := Scalar.extui v13
  let c0_i32_3 : BitVec 32 := 0#32
  let v15 : BitVec 1 := Scalar.cmpi .ne v14 c0_i32_3
  v15

def k0_off5 (i : grid0.Coords) (c0_i32_18 : BitVec 32) : Fin 2 → Nat :=
  let c8_i32 : BitVec 32 := 8#32
  let c2_i32 : BitVec 32 := 2#32
  let arg0 : BitVec 32 := BitVec.ofNat 32 (i 0).val
  let v61 : BitVec 32 := Scalar.muli c2_i32 arg0
  let v62 : BitVec 32 := Scalar.addi c8_i32 v61
  let v63 : BitVec 32 := Scalar.addi v62 c0_i32_18
  let v64 : Index := Scalar.indexCast v63
  let c0_19 : Index := 0#32
  ![v64.toNat, 0]
def k0_off6 (v1 : BitVec 32) : Fin 2 → Nat :=
  let c512_i32 : BitVec 32 := 512#32
  let v16 : BitVec 32 := Scalar.muli v1 c512_i32
  let v17 : BitVec 32 := v16
  let v199 : Index := Scalar.indexCast v17
  let c0_76 : Index := 0#32
  ![v199.toNat, 0]

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off4 v1) a + S512x128.size a ≤ S2048x128.size a) ∧
  (∀ (k0_h4 : k0_cond4 v1 v3 = 1#1), 512 ∣ (k0_mult2 v1).toNat) ∧
  (∀ (k0_h4 : k0_cond4 v1 v3 = 1#1), ∀ a, (k0_off6 v1) a + S512x128.size a ≤ S2048x128.size a)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off4_inb : ∀ (v1 : BitVec 32) (v3 : BitVec 32) (k0_hw1 : k0_chk1 v1 v3), ∀ (k0_h3 : k0_cond3 v1 v3 = 1#1), ∀ a, (k0_off4 v1) a + S512x128.size a ≤ S2048x128.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.1 k0_h4
theorem k0_off6_inb : ∀ (v1 : BitVec 32) (v3 : BitVec 32) (k0_hw1 : k0_chk1 v1 v3), ∀ (k0_h4 : k0_cond4 v1 v3 = 1#1), ∀ a, (k0_off6 v1) a + S512x128.size a ≤ S2048x128.size a := fun v1 v3 k0_hw1 k0_h4 => k0_hw1.2.2.2 k0_h4

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def cc0_transform_0 (k0_off1_inb : ∀ i : grid0.Coords, ∀ a, (k0_off1 i) a + S1x1.size a ≤ S2x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S2x10) ![0, v0.toNat] S1x1.size (k0_off1_inb i)) numel1_S1x1
  let c16_i32 : BitVec 32 := 16#32
  let v2 : BitVec 32 := Scalar.addi c16_i32 arg0
  let c0_i32 : BitVec 32 := 0#32
  ![v1.toNat, v2.toNat]

def cc0_transform_1 (k0_off2_inb : ∀ i : grid0.Coords, ∀ a, (k0_off2 i) a + S1x1.size a ≤ S2x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S2x10) ![1, v0.toNat] S1x1.size (k0_off2_inb i)) numel1_S1x1
  let c20_i32 : BitVec 32 := 20#32
  let v2 : BitVec 32 := Scalar.addi c20_i32 arg0
  let c0_i32 : BitVec 32 := 0#32
  ![v1.toNat, v2.toNat]

def cc0_transform_2 (k0_off2_inb : ∀ i : grid0.Coords, ∀ a, (k0_off2 i) a + S1x1.size a ≤ S2x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S2x10) ![1, v0.toNat] S1x1.size (k0_off2_inb i)) numel1_S1x1
  let c24_i32 : BitVec 32 := 24#32
  let v2 : BitVec 32 := Scalar.addi c24_i32 arg0
  let c0_i32 : BitVec 32 := 0#32
  ![v1.toNat, v2.toNat]

def cc0_transform_3 (k0_off2_inb : ∀ i : grid0.Coords, ∀ a, (k0_off2 i) a + S1x1.size a ≤ S2x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S2x10) ![1, v0.toNat] S1x1.size (k0_off2_inb i)) numel1_S1x1
  let c0_i32 : BitVec 32 := 0#32
  let c0_i32_0 : BitVec 32 := 0#32
  ![c0_i32.toNat, v1.toNat]

def cc0_transform_4 (k0_off1_inb : ∀ i : grid0.Coords, ∀ a, (k0_off1 i) a + S1x1.size a ≤ S2x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S2x10) ![0, v0.toNat] S1x1.size (k0_off1_inb i)) numel1_S1x1
  let c0_i32 : BitVec 32 := 0#32
  let v2 : BitVec 32 := Scalar.addi c0_i32 arg0
  let c0_i32_0 : BitVec 32 := 0#32
  ![v1.toNat, v2.toNat]

def cc0_transform_5 (k0_off1_inb : ∀ i : grid0.Coords, ∀ a, (k0_off1 i) a + S1x1.size a ≤ S2x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S2x10) ![0, v0.toNat] S1x1.size (k0_off1_inb i)) numel1_S1x1
  let c0_i32 : BitVec 32 := 0#32
  let v2 : BitVec 32 := Scalar.addi c0_i32 arg0
  let c0_i32_0 : BitVec 32 := 0#32
  ![v1.toNat, v2.toNat]

def cc0_transform_6 (k0_off1_inb : ∀ i : grid0.Coords, ∀ a, (k0_off1 i) a + S1x1.size a ≤ S2x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S2x10) ![0, v0.toNat] S1x1.size (k0_off1_inb i)) numel1_S1x1
  let c0_i32 : BitVec 32 := 0#32
  let v2 : BitVec 32 := Scalar.addi c0_i32 arg0
  let c0_i32_0 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (k0_off2_inb : ∀ i : grid0.Coords, ∀ a, (k0_off2 i) a + S1x1.size a ≤ S2x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S2x10) ![1, v0.toNat] S1x1.size (k0_off2_inb i)) numel1_S1x1
  let c0_i32 : BitVec 32 := 0#32
  let v2 : BitVec 32 := Scalar.addi c0_i32 arg0
  let c0_i32_0 : BitVec 32 := 0#32
  ![v1.toNat, v2.toNat]

def cc0_transform_9 (k0_off2_inb : ∀ i : grid0.Coords, ∀ a, (k0_off2 i) a + S1x1.size a ≤ S2x10.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S2x10) ![1, v0.toNat] S1x1.size (k0_off2_inb i)) numel1_S1x1
  let c0_i32 : BitVec 32 := 0#32
  let v2 : BitVec 32 := Scalar.addi c0_i32 arg0
  let c0_i32_0 : BitVec 32 := 0#32
  ![v1.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (k0_off2_inb : ∀ i : grid0.Coords, ∀ a, (k0_off2 i) a + S1x1.size a ≤ S2x10.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S2x10) ![1, v0.toNat] S1x1.size (k0_off2_inb i)) numel1_S1x1
  let c0_i32 : BitVec 32 := 0#32
  let c0_i32_0 : BitVec 32 := 0#32
  ![arg0.toNat, c0_i32.toNat, v1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FoxBwdIdeal.lean ====
variable {F : FTy → Type} [FloatOps F] [Named F]
def κ : String → Option EReal := fun
  | "mask" => some ⊥
  | _ => none
-- ==== FoxBwdRefIdeal.lean ====
abbrev S2048x8x64 : Shape := ⟨3, ![2048, 8, 64]⟩
abbrev S8x2048 : Shape := ⟨2, ![8, 2048]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x1 : Shape := ⟨3, ![8, 2048, 1]⟩
abbrev S8x1x2048 : Shape := ⟨3, ![8, 1, 2048]⟩
abbrev S8x64x2048 : Shape := ⟨3, ![8, 64, 2048]⟩
abbrev S8x2048x64 : Shape := ⟨3, ![8, 2048, 64]⟩
abbrev S4x2x2048 : Shape := ⟨3, ![4, 2, 2048]⟩
abbrev S4x6x2048 : Shape := ⟨3, ![4, 6, 2048]⟩
abbrev S4x8x2048 : Shape := ⟨3, ![4, 8, 2048]⟩
abbrev S2048x512 : Shape := ⟨2, ![2048, 512]⟩
abbrev S2048x8 : Shape := ⟨2, ![2048, 8]⟩
abbrev S2048x8x1 : Shape := ⟨3, ![2048, 8, 1]⟩

abbrev nBuf : Space → Nat
  | .hbm => 119
  | .vmem => 0
  | .smem => 0
  | _ => 0

abbrev bufTy : (tb : Table) → Fin (tcTables nBuf tb) → BufTy
  | .hbm, ⟨0, _⟩ => ⟨S2048x8x64, .f32⟩
  | .hbm, ⟨1, _⟩ => ⟨S2048x8x64, .f32⟩
  | .hbm, ⟨2, _⟩ => ⟨S2048x8x64, .f32⟩
  | .hbm, ⟨3, _⟩ => ⟨S8x2048, .f32⟩
  | .hbm, ⟨4, _⟩ => ⟨S2048x8x64, .f32⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S2048, .i32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x1x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S_, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .i1⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .i1⟩
  | .hbm, ⟨42, _⟩ => ⟨S_, .f32⟩
  | .hbm, ⟨43, _⟩ => ⟨S8x2048, .f32⟩
  | .hbm, ⟨44, _⟩ => ⟨S8x2048, .i1⟩
  | .hbm, ⟨45, _⟩ => ⟨S_, .f32⟩
  | .hbm, ⟨46, _⟩ => ⟨S8x2048, .f32⟩
  | .hbm, ⟨47, _⟩ => ⟨S_, .f32⟩
  | .hbm, ⟨48, _⟩ => ⟨S8x2048, .f32⟩
  | .hbm, ⟨49, _⟩ => ⟨S_, .f32⟩
  | .hbm, ⟨50, _⟩ => ⟨S8x2048, .f32⟩
  | .hbm, ⟨51, _⟩ => ⟨S8x2048, .f32⟩
  | .hbm, ⟨52, _⟩ => ⟨S8x2048, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x64x2048, .f32⟩
  | .hbm, ⟨67, _⟩ => ⟨S2048x8x64, .f32⟩
  | .hbm, ⟨68, _⟩ => ⟨S8x64x2048, .f32⟩
  | .hbm, ⟨69, _⟩ => ⟨S8x2048x2048, .f32⟩
  | .hbm, ⟨70, _⟩ => ⟨S8x64x2048, .f32⟩
  | .hbm, ⟨71, _⟩ => ⟨S2048x8x64, .f32⟩
  | .hbm, ⟨72, _⟩ => ⟨S8x2048x2048, .f32⟩
  | .hbm, ⟨73, _⟩ => ⟨S8x2048x2048, .f32⟩
  | .hbm, ⟨74, _⟩ => ⟨S8x2048x2048, .f32⟩
  | .hbm, ⟨75, _⟩ => ⟨S_, .f32⟩
  | .hbm, ⟨76, _⟩ => ⟨S8x2048, .f32⟩
  | .hbm, ⟨77, _⟩ => ⟨S8x2048x1, .f32⟩
  | .hbm, ⟨78, _⟩ => ⟨S8x2048x1, .f32⟩
  | .hbm, ⟨79, _⟩ => ⟨S8x2048x2048, .f32⟩
  | .hbm, ⟨80, _⟩ => ⟨S8x2048x2048, .f32⟩
  | .hbm, ⟨81, _⟩ => ⟨S_, .f32⟩
  | .hbm, ⟨82, _⟩ => ⟨S8x2048, .f32⟩
  | .hbm, ⟨83, _⟩ => ⟨S8x2048x2048, .f32⟩
  | .hbm, ⟨84, _⟩ => ⟨S8x2048x2048, .f32⟩
  | .hbm, ⟨85, _⟩ => ⟨S8x2048x2048, .f32⟩
  | .hbm, ⟨86, _⟩ => ⟨S_, .f32⟩
  | .hbm, ⟨87, _⟩ => ⟨S8x2048x2048, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x1x2048, .f32⟩
  | .hbm, ⟨93, _⟩ => ⟨S_, .f32⟩
  | .hbm, ⟨94, _⟩ => ⟨S8x2048, .f32⟩
  | .hbm, ⟨95, _⟩ => ⟨S_, .f32⟩
  | .hbm, ⟨96, _⟩ => ⟨S8x2048, .f32⟩
  | .hbm, ⟨97, _⟩ => ⟨S8x2048x1, .f32⟩
  | .hbm, ⟨98, _⟩ => ⟨S_, .f32⟩
  | .hbm, ⟨99, _⟩ => ⟨S8x2048, .f32⟩
  | .hbm, ⟨100, _⟩ => ⟨S_, .f32⟩
  | .hbm, ⟨101, _⟩ => ⟨S8x2048x2048, .f32⟩
  | .hbm, ⟨102, _⟩ => ⟨S8x2048x2048, .f32⟩
  | .hbm, ⟨103, _⟩ => ⟨S8x2048x64, .f32⟩
  | .hbm, ⟨104, _⟩ => ⟨S2048x8x64, .f32⟩
  | .hbm, ⟨105, _⟩ => ⟨S8x2048x64, .f32⟩
  | .hbm, ⟨106, _⟩ => ⟨S2048x8x64, .f32⟩
  | .hbm, ⟨107, _⟩ => ⟨S4x2x2048, .f32⟩
  | .hbm, ⟨108, _⟩ => ⟨S4x2x2048, .f32⟩
  | .hbm, ⟨109, _⟩ => ⟨S_, .f32⟩
  | .hbm, ⟨110, _⟩ => ⟨S4x6x2048, .f32⟩
  | .hbm, ⟨111, _⟩ => ⟨S4x8x2048, .f32⟩
  | .hbm, ⟨112, _⟩ => ⟨S2048x512, .f32⟩
  | .hbm, ⟨113, _⟩ => ⟨S2048x512, .f32⟩
  | .hbm, ⟨114, _⟩ => ⟨S2048x512, .f32⟩
  | .hbm, ⟨115, _⟩ => ⟨S2048x8, .f32⟩
  | .hbm, ⟨116, _⟩ => ⟨S2048x8x1, .f32⟩
  | .hbm, ⟨117, _⟩ => ⟨S2048x8x64, .f32⟩
  | .hbm, ⟨118, _⟩ => ⟨S2048x512, .f32⟩
  | _, _ => ⟨S2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_18 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]
-- ==== PrepBwd.lean ====
abbrev S2048x3600 : Shape := ⟨2, ![2048, 3600]⟩
abbrev S4x1536 : Shape := ⟨2, ![4, 1536]⟩
abbrev S2048x512 : Shape := ⟨2, ![2048, 512]⟩
abbrev S_ : Shape := ⟨0, ![]⟩
abbrev S2048x112 : Shape := ⟨2, ![2048, 112]⟩
abbrev S2048x2048 : Shape := ⟨2, ![2048, 2048]⟩
abbrev S2048x1536 : Shape := ⟨2, ![2048, 1536]⟩
abbrev S2048x8 : Shape := ⟨2, ![2048, 8]⟩
abbrev S2048x3712 : Shape := ⟨2, ![2048, 3712]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 14
  | .vmem => 14
  | .smem => 0
  | _ => 0

abbrev bufTy : (tb : Table) → Fin (tcTables nBuf tb) → BufTy
  | .hbm, ⟨0, _⟩ => ⟨S2048x3600, .f32⟩
  | .hbm, ⟨1, _⟩ => ⟨S4x1536, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048x112, .f32⟩
  | .hbm, ⟨7, _⟩ => ⟨S2048x2048, .f32⟩
  | .hbm, ⟨8, _⟩ => ⟨S2048x1536, .f32⟩
  | .hbm, ⟨9, _⟩ => ⟨S2048x8, .f32⟩
  | .hbm, ⟨10, _⟩ => ⟨S2048x8, .f32⟩
  | .hbm, ⟨11, _⟩ => ⟨S2048x3712, .f32⟩
  | .hbm, ⟨12, _⟩ => ⟨S2048x1536, .bf16⟩
  | .hbm, ⟨13, _⟩ => ⟨S4x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S4x128, .f32⟩
  | .local _ .vmem, ⟨13, _⟩ => ⟨S4x128, .f32⟩
  | _, _ => ⟨S2048x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c3_i32 : BitVec 32 := 3#32
  let v0 : BitVec 32 := Scalar.maxsi c0_i32 arg0
  let v1 : BitVec 32 := Scalar.minsi c3_i32 v0
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PrepBwdRefIdeal.lean ====
abbrev S2048x3600 : Shape := ⟨2, ![2048, 3600]⟩
abbrev S4x1536 : Shape := ⟨2, ![4, 1536]⟩
abbrev S2048x512 : Shape := ⟨2, ![2048, 512]⟩
abbrev S2048x1536 : Shape := ⟨2, ![2048, 1536]⟩
abbrev S1x1536 : Shape := ⟨2, ![1, 1536]⟩
abbrev S1536 : Shape := ⟨1, ![1536]⟩
abbrev S_ : Shape := ⟨0, ![]⟩
abbrev S2047x1536 : Shape := ⟨2, ![2047, 1536]⟩
abbrev S2x1536 : Shape := ⟨2, ![2, 1536]⟩
abbrev S2046x1536 : Shape := ⟨2, ![2046, 1536]⟩
abbrev S3x1536 : Shape := ⟨2, ![3, 1536]⟩
abbrev S2045x1536 : Shape := ⟨2, ![2045, 1536]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 202
  | .vmem => 0
  | .smem => 0
  | _ => 0

abbrev hbmTy0_0 (i : Nat) : BufTy := match i % 128 with
  | 0 => ⟨S2048x3600, .f32⟩
  | 1 => ⟨S4x1536, .f32⟩
  | 2 => ⟨S2048x512, .f32⟩
  | 3 => ⟨S2048x512, .f32⟩
  | 4 => ⟨S2048x512, .f32⟩
  | 5 => ⟨S2048x1536, .f32⟩
  | 6 => ⟨S1x1536, .f32⟩
  | 7 => ⟨S1536, .f32⟩
  | 8 => ⟨S1x1536, .f32⟩
  | 9 => ⟨S2048x1536, .f32⟩
  | 10 => ⟨S2048x1536, .f32⟩
  | 11 => ⟨S_, .f32⟩
  | 12 => ⟨S1x1536, .f32⟩
  | 13 => ⟨S2047x1536, .f32⟩
  | 14 => ⟨S2048x1536, .f32⟩
  | 15 => ⟨S_, .f32⟩
  | 16 => ⟨S1x1536, .f32⟩
  | 17 => ⟨S1x1536, .f32⟩
  | 18 => ⟨S1536, .f32⟩
  | 19 => ⟨S1x1536, .f32⟩
  | 20 => ⟨S2048x1536, .f32⟩
  | 21 => ⟨S2048x1536, .f32⟩
  | 22 => ⟨S2048x1536, .f32⟩
  | 23 => ⟨S_, .f32⟩
  | 24 => ⟨S2x1536, .f32⟩
  | 25 => ⟨S2046x1536, .f32⟩
  | 26 => ⟨S2048x1536, .f32⟩
  | 27 => ⟨S_, .f32⟩
  | 28 => ⟨S2x1536, .f32⟩
  | 29 => ⟨S1x1536, .f32⟩
  | 30 => ⟨S1536, .f32⟩
  | 31 => ⟨S1x1536, .f32⟩
  | 32 => ⟨S2048x1536, .f32⟩
  | 33 => ⟨S2048x1536, .f32⟩
  | 34 => ⟨S2048x1536, .f32⟩
  | 35 => ⟨S_, .f32⟩
  | 36 => ⟨S3x1536, .f32⟩
  | 37 => ⟨S2045x1536, .f32⟩
  | 38 => ⟨S2048x1536, .f32⟩
  | 39 => ⟨S_, .f32⟩
  | 40 => ⟨S3x1536, .f32⟩
  | 41 => ⟨S1x1536, .f32⟩
  | 42 => ⟨S1536, .f32⟩
  | 43 => ⟨S1x1536, .f32⟩
  | 44 => ⟨S2048x1536, .f32⟩
  | 45 => ⟨S2048x1536, .f32⟩
  | 46 => ⟨S2048x1536, .f32⟩
  | 47 => ⟨S2048x1536, .f32⟩
  | 48 => ⟨S2048x1536, .f32⟩
  | 49 => ⟨S_, .f32⟩
  | 50 => ⟨S2048x1536, .f32⟩
  | 51 => ⟨S2048x1536, .f32⟩
  | 52 => ⟨S_, .f32⟩
  | 53 => ⟨S2048x1536, .f32⟩
  | 54 => ⟨S2048x1536, .f32⟩
  | 55 => ⟨S_, .f32⟩
  | 56 => ⟨S2048x1536, .f32⟩
  | 57 => ⟨S2048x1536, .f32⟩
  | 58 => ⟨S2048x1536, .f32⟩
  | 59 => ⟨S2048x1536, .f32⟩
  | 60 => ⟨S2048x512, .f32⟩
  | 61 => ⟨S2048x4x128, .f32⟩
  | 62 => ⟨S2048x4x128, .f32⟩
  | 63 => ⟨S_, .f32⟩
  | 64 => ⟨S2048x4, .f32⟩
  | 65 => ⟨S2048x4x1, .f32⟩
  | 66 => ⟨S_, .f32⟩
  | 67 => ⟨S2048x4x1, .f32⟩
  | 68 => ⟨S2048x4x1, .f32⟩
  | 69 => ⟨S2048x4x1, .f32⟩
  | 70 => ⟨S2048x4x1, .f32⟩
  | 71 => ⟨S_, .f32⟩
  | 72 => ⟨S2048x4x1, .f32⟩
  | 73 => ⟨S2048x4x1, .f32⟩
  | 74 => ⟨S2048x4x128, .f32⟩
  | 75 => ⟨S2048x4x128, .f32⟩
  | 76 => ⟨S2048x512, .f32⟩
  | 77 => ⟨S2048x4x128, .f32⟩
  | 78 => ⟨S2048x4x128, .f32⟩
  | 79 => ⟨S_, .f32⟩
  | 80 => ⟨S2048x4, .f32⟩
  | 81 => ⟨S2048x4x1, .f32⟩
  | 82 => ⟨S_, .f32⟩
  | 83 => ⟨S2048x4x1, .f32⟩
  | 84 => ⟨S2048x4x1, .f32⟩
  | 85 => ⟨S2048x4x1, .f32⟩
  | 86 => ⟨S2048x4x1, .f32⟩
  | 87 => ⟨S_, .f32⟩
  | 88 => ⟨S2048x4x1, .f32⟩
  | 89 => ⟨S2048x4x1, .f32⟩
  | 90 => ⟨S2048x4x128, .f32⟩
  | 91 => ⟨S2048x4x128, .f32⟩
  | 92 => ⟨S2048x512, .f32⟩
  | 93 => ⟨S2048x512, .f32⟩
  | 94 => ⟨S2048x512, .f32⟩
  | 95 => ⟨S_, .f32⟩
  | 96 => ⟨S2048x1536, .f32⟩
  | 97 => ⟨S2048x4x128, .f32⟩
  | 98 => ⟨S2048x4x128, .f32⟩
  | 99 => ⟨S2048x4x128, .f32⟩
  | 100 => ⟨S_, .f32⟩
  | 101 => ⟨S2048x4, .f32⟩
  | 102 => ⟨S2048x4x1, .f32⟩
  | 103 => ⟨S2048x4x128, .f32⟩
  | 104 => ⟨S2048x4x128, .f32⟩
  | 105 => ⟨S2048x4x1, .f32⟩
  | 106 => ⟨S_, .f32⟩
  | 107 => ⟨S2048x4, .f32⟩
  | 108 => ⟨S2048x4x128, .f32⟩
  | 109 => ⟨S2048x4x128, .f32⟩
  | 110 => ⟨S2048x4x128, .f32⟩
  | 111 => ⟨S2048x4x128, .f32⟩
  | 112 => ⟨S2048x4x128, .f32⟩
  | 113 => ⟨S2048x512, .f32⟩
  | 114 => ⟨S_, .f32⟩
  | 115 => ⟨S2048x1536, .f32⟩
  | 116 => ⟨S2048x1536, .f32⟩
  | 117 => ⟨S2048x4x128, .f32⟩
  | 118 => ⟨S_, .f32⟩
  | 119 => ⟨S2048x4, .f32⟩
  | 120 => ⟨S2048x4x1, .f32⟩
  | 121 => ⟨S2048x4x128, .f32⟩
  | 122 => ⟨S2048x4x128, .f32⟩
  | 123 => ⟨S2048x4x1, .f32⟩
  | 124 => ⟨S_, .f32⟩
  | 125 => ⟨S2048x4, .f32⟩
  | 126 => ⟨S2048x4x128, .f32⟩
  | 127 => ⟨S2048x4x128, .f32⟩
  | _ => ⟨S2048x3600, .f32⟩

abbrev hbmTy0_1 (i : Nat) : BufTy := match i % 128 with
  | 0 => ⟨S2048x4x128, .f32⟩
  | 1 => ⟨S2048x4x128, .f32⟩
  | 2 => ⟨S2048x4x128, .f32⟩
  | 3 => ⟨S2048x512, .f32⟩
  | 4 => ⟨S_, .f32⟩
  | 5 => ⟨S2048x1536, .f32⟩
  | 6 => ⟨S2048x1536, .f32⟩
  | 7 => ⟨S2048x1536, .f32⟩
  | 8 => ⟨S2048x1536, .f32⟩
  | 9 => ⟨S2048x1536, .f32⟩
  | 10 => ⟨S2048x1536, .f32⟩
  | 11 => ⟨S2048x1536, .f32⟩
  | 12 => ⟨S_, .f32⟩
  | 13 => ⟨S1536, .f32⟩
  | 14 => ⟨S1x1536, .f32⟩
  | 15 => ⟨S2048x1536, .f32⟩
  | 16 => ⟨S2048x1536, .f32⟩
  | 17 => ⟨S_, .f32⟩
  | 18 => ⟨S1536, .f32⟩
  | 19 => ⟨S1x1536, .f32⟩
  | 20 => ⟨S_, .f32⟩
  | 21 => ⟨S4x1536, .f32⟩
  | 22 => ⟨S3x1536, .f32⟩
  | 23 => ⟨S2045x1536, .f32⟩
  | 24 => ⟨S_, .f32⟩
  | 25 => ⟨S2048x1536, .f32⟩
  | 26 => ⟨S2048x1536, .f32⟩
  | 27 => ⟨S_, .f32⟩
  | 28 => ⟨S1536, .f32⟩
  | 29 => ⟨S1x1536, .f32⟩
  | 30 => ⟨S2048x1536, .f32⟩
  | 31 => ⟨S2048x1536, .f32⟩
  | 32 => ⟨S_, .f32⟩
  | 33 => ⟨S1536, .f32⟩
  | 34 => ⟨S1x1536, .f32⟩
  | 35 => ⟨S_, .f32⟩
  | 36 => ⟨S4x1536, .f32⟩
  | 37 => ⟨S4x1536, .f32⟩
  | 38 => ⟨S2x1536, .f32⟩
  | 39 => ⟨S2046x1536, .f32⟩
  | 40 => ⟨S_, .f32⟩
  | 41 => ⟨S2048x1536, .f32⟩
  | 42 => ⟨S2048x1536, .f32⟩
  | 43 => ⟨S2048x1536, .f32⟩
  | 44 => ⟨S_, .f32⟩
  | 45 => ⟨S1536, .f32⟩
  | 46 => ⟨S1x1536, .f32⟩
  | 47 => ⟨S2048x1536, .f32⟩
  | 48 => ⟨S2048x1536, .f32⟩
  | 49 => ⟨S_, .f32⟩
  | 50 => ⟨S1536, .f32⟩
  | 51 => ⟨S1x1536, .f32⟩
  | 52 => ⟨S_, .f32⟩
  | 53 => ⟨S4x1536, .f32⟩
  | 54 => ⟨S4x1536, .f32⟩
  | 55 => ⟨S1x1536, .f32⟩
  | 56 => ⟨S2047x1536, .f32⟩
  | 57 => ⟨S_, .f32⟩
  | 58 => ⟨S2048x1536, .f32⟩
  | 59 => ⟨S2048x1536, .f32⟩
  | 60 => ⟨S2048x1536, .f32⟩
  | 61 => ⟨S_, .f32⟩
  | 62 => ⟨S1536, .f32⟩
  | 63 => ⟨S1x1536, .f32⟩
  | 64 => ⟨S2048x1536, .f32⟩
  | 65 => ⟨S2048x1536, .f32⟩
  | 66 => ⟨S2048x1536, .f32⟩
  | 67 => ⟨S_, .f32⟩
  | 68 => ⟨S1536, .f32⟩
  | 69 => ⟨S1x1536, .f32⟩
  | 70 => ⟨S_, .f32⟩
  | 71 => ⟨S4x1536, .f32⟩
  | 72 => ⟨S4x1536, .f32⟩
  | 73 => ⟨S2048x1536, .bf16⟩
  | _ => ⟨S2048x3600, .f32⟩

abbrev hbmTy (i : Nat) : BufTy := match i / 128 with
  | 0 => hbmTy0_0 i
  | 1 => hbmTy0_1 i
  | _ => ⟨S2048x3600, .f32⟩

abbrev bufTy : (tb : Table) → Fin (tcTables nBuf tb) → BufTy
  | .hbm, ⟨i, _⟩ => hbmTy i
  | _, _ => ⟨S2048x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v36_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v36_1 : Ref sig .tc := ⟨.hbm, 58, rfl⟩
abbrev main_v36_0 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_12 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_14 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_16 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_17 : Ref sig .tc := ⟨.hbm, 132, rfl⟩
abbrev main_v97 : Ref sig .tc := ⟨.hbm, 133, rfl⟩
abbrev main_v98 : Ref sig .tc := ⟨.hbm, 134, rfl⟩
abbrev main_call1_v0 : Ref sig .tc := ⟨.hbm, 135, rfl⟩
abbrev main_call1_v1 : Ref sig .tc := ⟨.hbm, 136, rfl⟩
abbrev main_call1_v2 : Ref sig .tc := ⟨.hbm, 137, rfl⟩
abbrev main_v99 : Ref sig .tc := ⟨.hbm, 138, rfl⟩
abbrev main_v100 : Ref sig .tc := ⟨.hbm, 139, rfl⟩
abbrev main_cst_18 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_19 : Ref sig .tc := ⟨.hbm, 145, rfl⟩
abbrev main_v105 : Ref sig .tc := ⟨.hbm, 146, rfl⟩
abbrev main_v106 : Ref sig .tc := ⟨.hbm, 147, rfl⟩
abbrev main_cst_20 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_21 : Ref sig .tc := ⟨.hbm, 152, rfl⟩
abbrev main_v110 : Ref sig .tc := ⟨.hbm, 153, rfl⟩
abbrev main_v111 : Ref sig .tc := ⟨.hbm, 154, rfl⟩
abbrev main_cst_22 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_23 : Ref sig .tc := ⟨.hbm, 160, rfl⟩
abbrev main_v116 : Ref sig .tc := ⟨.hbm, 161, rfl⟩
abbrev main_v117 : Ref sig .tc := ⟨.hbm, 162, rfl⟩
abbrev main_cst_24 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_25 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_26 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_27 : Ref sig .tc := ⟨.hbm, 177, rfl⟩
abbrev main_v129 : Ref sig .tc := ⟨.hbm, 178, rfl⟩
abbrev main_v130 : Ref sig .tc := ⟨.hbm, 179, rfl⟩
abbrev main_cst_28 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_29 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_30 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_31 : Ref sig .tc := ⟨.hbm, 195, rfl⟩
abbrev main_v143 : Ref sig .tc := ⟨.hbm, 196, rfl⟩
abbrev main_v144 : Ref sig .tc := ⟨.hbm, 197, rfl⟩
abbrev main_cst_32 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩

abbrev nD : Nat := 1
abbrev τ : Topo := Topo.v7x

variable {F : FTy → Type} [FloatOps F]
-- ==== OutBwd.lean ====
abbrev S2048x512 : Shape := ⟨2, ![2048, 512]⟩
abbrev S2048x3600 : Shape := ⟨2, ![2048, 3600]⟩
abbrev S128 : Shape := ⟨1, ![128]⟩
abbrev S64 : Shape := ⟨1, ![64]⟩
abbrev S1024x1024 : Shape := ⟨2, ![1024, 1024]⟩
abbrev S2048x1024 : Shape := ⟨2, ![2048, 1024]⟩
abbrev S512x128 : Shape := ⟨2, ![512, 128]⟩
abbrev S_ : Shape := ⟨0, ![]⟩
abbrev S8x128 : Shape := ⟨2, ![8, 128]⟩
abbrev S2048x112 : Shape := ⟨2, ![2048, 112]⟩
abbrev S2048x2048 : Shape := ⟨2, ![2048, 2048]⟩
abbrev S2048x1536 : Shape := ⟨2, ![2048, 1536]⟩
abbrev S2048x8 : Shape := ⟨2, ![2048, 8]⟩
abbrev S2048x3712 : Shape := ⟨2, ![2048, 3712]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S1x64 : Shape := ⟨2, ![1, 64]⟩
abbrev S1x1x1x64 : Shape := ⟨4, ![1, 1, 1, 64]⟩
abbrev S1x1x8x64 : Shape := ⟨4, ![1, 1, 8, 64]⟩
abbrev S512x1024 : Shape := ⟨2, ![512, 1024]⟩
abbrev S512x512 : Shape := ⟨2, ![512, 512]⟩
abbrev S8x512 : Shape := ⟨2, ![8, 512]⟩
abbrev S512 : Shape := ⟨1, ![512]⟩
abbrev S512x1 : Shape := ⟨2, ![512, 1]⟩

abbrev nBuf : Space → Nat
  | .hbm => 33
  | .vmem => 23
  | .smem => 0
  | _ => 0

abbrev bufTy : (tb : Table) → Fin (tcTables nBuf tb) → BufTy
  | .hbm, ⟨0, _⟩ => ⟨S2048x512, .f32⟩
  | .hbm, ⟨1, _⟩ => ⟨S2048x3600, .f32⟩
  | .hbm, ⟨2, _⟩ => ⟨S2048x512, .f32⟩
  | .hbm, ⟨3, _⟩ => ⟨S128, .f32⟩
  | .hbm, ⟨4, _⟩ => ⟨S64, .f32⟩
  | .hbm, ⟨5, _⟩ => ⟨S1024x1024, .f32⟩
  | .hbm, ⟨6, _⟩ => ⟨S2048x1024, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S8x128, .f32⟩
  | .hbm, ⟨11, _⟩ => ⟨S2048x1024, .bf16⟩
  | .hbm, ⟨12, _⟩ => ⟨S_, .f32⟩
  | .hbm, ⟨13, _⟩ => ⟨S2048x112, .f32⟩
  | .hbm, ⟨14, _⟩ => ⟨S2048x2048, .f32⟩
  | .hbm, ⟨15, _⟩ => ⟨S2048x1536, .f32⟩
  | .hbm, ⟨16, _⟩ => ⟨S2048x8, .f32⟩
  | .hbm, ⟨17, _⟩ => ⟨S2048x8, .f32⟩
  | .hbm, ⟨18, _⟩ => ⟨S2048x3712, .f32⟩
  | .hbm, ⟨19, _⟩ => ⟨S1x128, .f32⟩
  | .hbm, ⟨20, _⟩ => ⟨S1x1x1x128, .f32⟩
  | .hbm, ⟨21, _⟩ => ⟨S1x1x4x128, .f32⟩
  | .hbm, ⟨22, _⟩ => ⟨S1x512, .f32⟩
  | .hbm, ⟨23, _⟩ => ⟨S1x64, .f32⟩
  | .hbm, ⟨24, _⟩ => ⟨S1x1x1x64, .f32⟩
  | .hbm, ⟨25, _⟩ => ⟨S1x1x8x64, .f32⟩
  | .hbm, ⟨26, _⟩ => ⟨S1x512, .f32⟩
  | .hbm, ⟨27, _⟩ => ⟨S1024x1024, .bf16⟩
  | .hbm, ⟨28, _⟩ => ⟨S2048x512, .f32⟩
  | .hbm, ⟨29, _⟩ => ⟨S2048x512, .bf16⟩
  | .hbm, ⟨30, _⟩ => ⟨S2048x512, .f32⟩
  | .hbm, ⟨31, _⟩ => ⟨S2048x512, .f32⟩
  | .hbm, ⟨32, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x128, .f32⟩
  | .local _ .vmem, ⟨11, _⟩ => ⟨S512x128, .f32⟩
  | .local _ .vmem, ⟨12, _⟩ => ⟨S1024x1024, .bf16⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S8x128, .f32⟩
  | .local _ .vmem, ⟨22, _⟩ => ⟨S8x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_v0 : Ref sig .tc := ⟨.hbm, 10, rfl⟩
abbrev main_v1 : Ref sig .tc := ⟨.hbm, 11, rfl⟩
abbrev main_cst_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v17_2 : Ref sig .tc := ⟨.hbm, 30, rfl⟩
abbrev main_v17_3 : Ref sig .tc := ⟨.hbm, 31, rfl⟩
abbrev main_v17_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v374 : BitVec 1 := Scalar.cmpi .eq arg0 c3_i32
  let v375 : BitVec 32 := Scalar.extui v374
  let c0_i32_128 : BitVec 32 := 0#32
  let v376 : BitVec 1 := Scalar.cmpi .ne v375 c0_i32_128
  v376

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutBwdRefIdeal.lean ====
abbrev S2048x512 : Shape := ⟨2, ![2048, 512]⟩
abbrev S2048x3600 : Shape := ⟨2, ![2048, 3600]⟩
abbrev S128 : Shape := ⟨1, ![128]⟩
abbrev S64 : Shape := ⟨1, ![64]⟩
abbrev S1024x1024 : Shape := ⟨2, ![1024, 1024]⟩
abbrev S2048x1024 : Shape := ⟨2, ![2048, 1024]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S2048x8x64 : Shape := ⟨3, ![2048, 8, 64]⟩
abbrev S2048x8 : Shape := ⟨2, ![2048, 8]⟩
abbrev S2048x8x1 : Shape := ⟨3, ![2048, 8, 1]⟩
abbrev S1x1x64 : Shape := ⟨3, ![1, 1, 64]⟩
abbrev S1x128 : Shape := ⟨2, ![1, 128]⟩
abbrev S6x128 : Shape := ⟨2, ![6, 128]⟩
abbrev S8x128 : Shape := ⟨2, ![8, 128]⟩

abbrev nBuf : Space → Nat
  | .hbm => 149
  | .vmem => 0
  | .smem => 0
  | _ => 0

abbrev hbmTy0_0 (i : Nat) : BufTy := match i % 128 with
  | 0 => ⟨S2048x512, .f32⟩
  | 1 => ⟨S2048x3600, .f32⟩
  | 2 => ⟨S2048x512, .f32⟩
  | 3 => ⟨S128, .f32⟩
  | 4 => ⟨S64, .f32⟩
  | 5 => ⟨S1024x1024, .f32⟩
  | 6 => ⟨S2048x1024, .f32⟩
  | 7 => ⟨S2048x512, .f32⟩
  | 8 => ⟨S2048x4x128, .f32⟩
  | 9 => ⟨S2048x4x128, .f32⟩
  | 10 => ⟨S_, .f32⟩
  | 11 => ⟨S2048x4, .f32⟩
  | 12 => ⟨S2048x4x1, .f32⟩
  | 13 => ⟨S_, .f32⟩
  | 14 => ⟨S2048x4x1, .f32⟩
  | 15 => ⟨S2048x4x1, .f32⟩
  | 16 => ⟨S_, .f32⟩
  | 17 => ⟨S2048x4x1, .f32⟩
  | 18 => ⟨S2048x4x1, .f32⟩
  | 19 => ⟨S2048x4x1, .f32⟩
  | 20 => ⟨S2048x4x1, .f32⟩
  | 21 => ⟨S_, .f32⟩
  | 22 => ⟨S2048x4x1, .f32⟩
  | 23 => ⟨S2048x4x1, .f32⟩
  | 24 => ⟨S2048x4x128, .f32⟩
  | 25 => ⟨S2048x4x128, .f32⟩
  | 26 => ⟨S1x1x128, .f32⟩
  | 27 => ⟨S2048x4x128, .f32⟩
  | 28 => ⟨S2048x4x128, .f32⟩
  | 29 => ⟨S2048x4x128, .f32⟩
  | 30 => ⟨S2048x4x128, .f32⟩
  | 31 => ⟨S2048x4x128, .f32⟩
  | 32 => ⟨S_, .f32⟩
  | 33 => ⟨S2048x4x128, .f32⟩
  | 34 => ⟨S2048x4x128, .f32⟩
  | 35 => ⟨S_, .f32⟩
  | 36 => ⟨S2048x4x128, .f32⟩
  | 37 => ⟨S2048x4x128, .f32⟩
  | 38 => ⟨S_, .f32⟩
  | 39 => ⟨S2048x4x128, .f32⟩
  | 40 => ⟨S2048x4x128, .f32⟩
  | 41 => ⟨S2048x4x128, .f32⟩
  | 42 => ⟨S2048x4x128, .f32⟩
  | 43 => ⟨S2048x4x128, .f32⟩
  | 44 => ⟨S2048x512, .f32⟩
  | 45 => ⟨S2048x8x64, .f32⟩
  | 46 => ⟨S2048x8x64, .f32⟩
  | 47 => ⟨S_, .f32⟩
  | 48 => ⟨S2048x8, .f32⟩
  | 49 => ⟨S2048x8x1, .f32⟩
  | 50 => ⟨S_, .f32⟩
  | 51 => ⟨S2048x8x1, .f32⟩
  | 52 => ⟨S2048x8x1, .f32⟩
  | 53 => ⟨S_, .f32⟩
  | 54 => ⟨S2048x8x1, .f32⟩
  | 55 => ⟨S2048x8x1, .f32⟩
  | 56 => ⟨S2048x8x1, .f32⟩
  | 57 => ⟨S2048x8x1, .f32⟩
  | 58 => ⟨S_, .f32⟩
  | 59 => ⟨S2048x8x1, .f32⟩
  | 60 => ⟨S2048x8x1, .f32⟩
  | 61 => ⟨S2048x8x64, .f32⟩
  | 62 => ⟨S2048x8x64, .f32⟩
  | 63 => ⟨S1x1x64, .f32⟩
  | 64 => ⟨S2048x8x64, .f32⟩
  | 65 => ⟨S2048x8x64, .f32⟩
  | 66 => ⟨S2048x512, .f32⟩
  | 67 => ⟨S2048x1024, .f32⟩
  | 68 => ⟨S2048x1024, .f32⟩
  | 69 => ⟨S2048x1024, .f32⟩
  | 70 => ⟨S2048x512, .f32⟩
  | 71 => ⟨S2048x512, .f32⟩
  | 72 => ⟨S2048x8x64, .f32⟩
  | 73 => ⟨S2048x8x64, .f32⟩
  | 74 => ⟨S_, .f32⟩
  | 75 => ⟨S64, .f32⟩
  | 76 => ⟨S1x1x64, .f32⟩
  | 77 => ⟨S2048x8x64, .f32⟩
  | 78 => ⟨S2048x8x64, .f32⟩
  | 79 => ⟨S_, .f32⟩
  | 80 => ⟨S64, .f32⟩
  | 81 => ⟨S2048x8x64, .f32⟩
  | 82 => ⟨S_, .f32⟩
  | 83 => ⟨S2048x8, .f32⟩
  | 84 => ⟨S2048x8x1, .f32⟩
  | 85 => ⟨S2048x8x64, .f32⟩
  | 86 => ⟨S2048x8x64, .f32⟩
  | 87 => ⟨S2048x8x1, .f32⟩
  | 88 => ⟨S_, .f32⟩
  | 89 => ⟨S2048x8x1, .f32⟩
  | 90 => ⟨S2048x8x1, .f32⟩
  | 91 => ⟨S_, .f32⟩
  | 92 => ⟨S2048x8, .f32⟩
  | 93 => ⟨S2048x8x64, .f32⟩
  | 94 => ⟨S2048x8x64, .f32⟩
  | 95 => ⟨S2048x8x64, .f32⟩
  | 96 => ⟨S2048x8x64, .f32⟩
  | 97 => ⟨S2048x8x64, .f32⟩
  | 98 => ⟨S2048x512, .f32⟩
  | 99 => ⟨S2048x4x128, .f32⟩
  | 100 => ⟨S2048x4x128, .f32⟩
  | 101 => ⟨S2048x4x128, .f32⟩
  | 102 => ⟨S2048x4x128, .f32⟩
  | 103 => ⟨S2048x4x128, .f32⟩
  | 104 => ⟨S2048x4x128, .f32⟩
  | 105 => ⟨S2048x4x128, .f32⟩
  | 106 => ⟨S2048x512, .f32⟩
  | 107 => ⟨S2048x4x128, .f32⟩
  | 108 => ⟨S_, .f32⟩
  | 109 => ⟨S128, .f32⟩
  | 110 => ⟨S1x1x128, .f32⟩
  | 111 => ⟨S2048x4x128, .f32⟩
  | 112 => ⟨S2048x4x128, .f32⟩
  | 113 => ⟨S_, .f32⟩
  | 114 => ⟨S128, .f32⟩
  | 115 => ⟨S2048x4x128, .f32⟩
  | 116 => ⟨S_, .f32⟩
  | 117 => ⟨S2048x4, .f32⟩
  | 118 => ⟨S2048x4x1, .f32⟩
  | 119 => ⟨S2048x4x128, .f32⟩
  | 120 => ⟨S2048x4x128, .f32⟩
  | 121 => ⟨S2048x4x1, .f32⟩
  | 122 => ⟨S_, .f32⟩
  | 123 => ⟨S2048x4x1, .f32⟩
  | 124 => ⟨S2048x4x1, .f32⟩
  | 125 => ⟨S_, .f32⟩
  | 126 => ⟨S2048x4, .f32⟩
  | 127 => ⟨S2048x4x128, .f32⟩
  | _ => ⟨S2048x512, .f32⟩

abbrev hbmTy0_1 (i : Nat) : BufTy := match i % 128 with
  | 0 => ⟨S2048x4x128, .f32⟩
  | 1 => ⟨S2048x4x128, .f32⟩
  | 2 => ⟨S2048x4x128, .f32⟩
  | 3 => ⟨S2048x4x128, .f32⟩
  | 4 => ⟨S2048x512, .f32⟩
  | 5 => ⟨S2048x512, .f32⟩
  | 6 => ⟨S2048x8x64, .f32⟩
  | 7 => ⟨S_, .f32⟩
  | 8 => ⟨S2048x8, .f32⟩
  | 9 => ⟨S2048x8x1, .f32⟩
  | 10 => ⟨S2048x8x64, .f32⟩
  | 11 => ⟨S2048x512, .f32⟩
  | 12 => ⟨S1x128, .f32⟩
  | 13 => ⟨S_, .i32⟩
  | 14 => ⟨S_, .f32⟩
  | 15 => ⟨S128, .f32⟩
  | 16 => ⟨S1x128, .f32⟩
  | 17 => ⟨S_, .f32⟩
  | 18 => ⟨S6x128, .f32⟩
  | 19 => ⟨S8x128, .f32⟩
  | 20 => ⟨S2048x512, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_13 : Ref sig .tc := ⟨.hbm, 113, rfl⟩
abbrev main_v77 : Ref sig .tc := ⟨.hbm, 114, rfl⟩
abbrev main_v78 : Ref sig .tc := ⟨.hbm, 115, rfl⟩
abbrev main_cst_14 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_15 : Ref sig .tc := ⟨.hbm, 122, rfl⟩
abbrev main_v84 : Ref sig .tc := ⟨.hbm, 123, rfl⟩
abbrev main_v85 : Ref sig .tc := ⟨.hbm, 124, rfl⟩
abbrev main_cst_16 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_17 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c : Ref sig .tc := ⟨.hbm, 141, rfl⟩
abbrev main_call2_v0 : Ref sig .tc := ⟨.hbm, 142, rfl⟩
abbrev main_v100 : Ref sig .tc := ⟨.hbm, 143, rfl⟩
abbrev main_v101 : Ref sig .tc := ⟨.hbm, 144, rfl⟩
abbrev main_cst_18 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩

abbrev nD : Nat := 1
abbrev τ : Topo := Topo.v7x

variable {F : FTy → Type} [FloatOps F]
-- ==== MlpStep.lean ====
abbrev S2048x1024 : Shape := ⟨2, ![2048, 1024]⟩
abbrev S2048x256 : Shape := ⟨2, ![2048, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1024x8x512 : Shape := ⟨3, ![1024, 8, 512]⟩
abbrev S8x1024x512 : Shape := ⟨3, ![8, 1024, 512]⟩
abbrev S256x8x128 : Shape := ⟨3, ![256, 8, 128]⟩
abbrev S8x256x128 : Shape := ⟨3, ![8, 256, 128]⟩
abbrev S2048x4096 : Shape := ⟨2, ![2048, 4096]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x256x128 : Shape := ⟨3, ![1, 256, 128]⟩
abbrev S256x128 : Shape := ⟨2, ![256, 128]⟩
abbrev S512x1024 : Shape := ⟨2, ![512, 1024]⟩

abbrev nBuf : Space → Nat
  | .hbm => 38
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S3x1024, .f32⟩
  | .hbm, ⟨19, _⟩ => ⟨S8x1024, .f32⟩
  | .hbm, ⟨20, _⟩ => ⟨S1024x4096, .bf16⟩
  | .hbm, ⟨21, _⟩ => ⟨S1024x8x512, .bf16⟩
  | .hbm, ⟨22, _⟩ => ⟨S8x1024x512, .bf16⟩
  | .hbm, ⟨23, _⟩ => ⟨S4096x1024, .bf16⟩
  | .hbm, ⟨24, _⟩ => ⟨S1024x1024, .bf16⟩
  | .hbm, ⟨25, _⟩ => ⟨S256x1024, .bf16⟩
  | .hbm, ⟨26, _⟩ => ⟨S256x8x128, .bf16⟩
  | .hbm, ⟨27, _⟩ => ⟨S8x256x128, .bf16⟩
  | .hbm, ⟨28, _⟩ => ⟨S2048x1024, .f32⟩
  | .hbm, ⟨29, _⟩ => ⟨S2048x1024, .bf16⟩
  | .hbm, ⟨30, _⟩ => ⟨S2048x1024, .bf16⟩
  | .hbm, ⟨31, _⟩ => ⟨S2048x4096, .bf16⟩
  | .hbm, ⟨32, _⟩ => ⟨S2048x4096, .bf16⟩
  | .hbm, ⟨33, _⟩ => ⟨S2048x1024, .bf16⟩
  | .hbm, ⟨34, _⟩ => ⟨S2048x1024, .bf16⟩
  | .hbm, ⟨35, _⟩ => ⟨S2048x1024, .bf16⟩
  | .hbm, ⟨36, _⟩ => ⟨S2048x256, .bf16⟩
  | .hbm, ⟨37, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S8x1024x512, .bf16⟩
  | .local _ .vmem, ⟨7, _⟩ => ⟨S4096x1024, .bf16⟩
  | .local _ .vmem, ⟨8, _⟩ => ⟨S1024x1024, .bf16⟩
  | .local _ .vmem, ⟨9, _⟩ => ⟨S8x256x128, .bf16⟩
  | .local _ .vmem, ⟨10, _⟩ => ⟨S8x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x256, .bf16⟩
  | .local _ .vmem, ⟨28, _⟩ => ⟨S256x256, .bf16⟩
  | .local _ .vmem, ⟨29, _⟩ => ⟨S8x1024, .f32⟩
  | .local _ .vmem, ⟨30, _⟩ => ⟨S256x4096, .f32⟩
  | .local _ .vmem, ⟨31, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev main_v15_4 : Ref sig .tc := ⟨.hbm, 32, rfl⟩
abbrev main_v15_5 : Ref sig .tc := ⟨.hbm, 33, rfl⟩
abbrev main_v15_6 : Ref sig .tc := ⟨.hbm, 34, rfl⟩
abbrev main_v15_7 : Ref sig .tc := ⟨.hbm, 35, rfl⟩
abbrev main_v15_8 : Ref sig .tc := ⟨.hbm, 36, rfl⟩
abbrev main_v15_9 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MlpStepRefIdeal.lean ====
abbrev S2048x1024 : Shape := ⟨2, ![2048, 1024]⟩
abbrev S2048x256 : Shape := ⟨2, ![2048, 256]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S1024x1024 : Shape := ⟨2, ![1024, 1024]⟩
abbrev S_ : Shape := ⟨0, ![]⟩
abbrev S2048x4096 : Shape := ⟨2, ![2048, 4096]⟩
abbrev S2048 : Shape := ⟨1, ![2048]⟩
abbrev S2048x1 : Shape := ⟨2, ![2048, 1]⟩
abbrev S1x1024 : Shape := ⟨2, ![1, 1024]⟩
abbrev S6x1024 : Shape := ⟨2, ![6, 1024]⟩
abbrev S2x1024 : Shape := ⟨2, ![2, 1024]⟩
abbrev S8x1024 : Shape := ⟨2, ![8, 1024]⟩

abbrev nBuf : Space → Nat
  | .hbm => 288
  | .vmem => 0
  | .smem => 0
  | _ => 0

abbrev hbmTy0_0 (i : Nat) : BufTy := match i % 128 with
  | 0 => ⟨S2048x1024, .f32⟩
  | 1 => ⟨S2048x256, .f32⟩
  | 2 => ⟨S2048x1024, .f32⟩
  | 3 => ⟨S1024, .f32⟩
  | 4 => ⟨S1024, .f32⟩
  | 5 => ⟨S1024x4096, .f32⟩
  | 6 => ⟨S4096x1024, .f32⟩
  | 7 => ⟨S256x1024, .f32⟩
  | 8 => ⟨S1024x1024, .f32⟩
  | 9 => ⟨S1024, .f32⟩
  | 10 => ⟨S1024, .f32⟩
  | 11 => ⟨S1024, .f32⟩
  | 12 => ⟨S_, .f32⟩
  | 13 => ⟨S2048x1024, .f32⟩
  | 14 => ⟨S_, .f32⟩
  | 15 => ⟨S2048x4096, .f32⟩
  | 16 => ⟨S_, .f32⟩
  | 17 => ⟨S2048, .f32⟩
  | 18 => ⟨S2048x1, .f32⟩
  | 19 => ⟨S_, .f32⟩
  | 20 => ⟨S2048x1, .f32⟩
  | 21 => ⟨S2048x1, .f32⟩
  | 22 => ⟨S2048x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S_, .f32⟩
  | 29 => ⟨S2048, .f32⟩
  | 30 => ⟨S2048x1, .f32⟩
  | 31 => ⟨S_, .f32⟩
  | 32 => ⟨S2048x1, .f32⟩
  | 33 => ⟨S2048x1, .f32⟩
  | 34 => ⟨S2048x1024, .f32⟩
  | 35 => ⟨S2048x1024, .f32⟩
  | 36 => ⟨S_, .f32⟩
  | 37 => ⟨S2048x1, .f32⟩
  | 38 => ⟨S2048x1, .f32⟩
  | 39 => ⟨S2048x1, .f32⟩
  | 40 => ⟨S2048x1, .f32⟩
  | 41 => ⟨S_, .f32⟩
  | 42 => ⟨S2048x1, .f32⟩
  | 43 => ⟨S2048x1, .f32⟩
  | 44 => ⟨S2048x1024, .f32⟩
  | 45 => ⟨S2048x1024, .f32⟩
  | 46 => ⟨S1x1024, .f32⟩
  | 47 => ⟨S2048x1024, .f32⟩
  | 48 => ⟨S2048x1024, .f32⟩
  | 49 => ⟨S1x1024, .f32⟩
  | 50 => ⟨S2048x1024, .f32⟩
  | 51 => ⟨S2048x1024, .f32⟩
  | 52 => ⟨S2048x4096, .f32⟩
  | 53 => ⟨S2048x4096, .f32⟩
  | 54 => ⟨S_, .f32⟩
  | 55 => ⟨S2048x4096, .f32⟩
  | 56 => ⟨S2048x4096, .f32⟩
  | 57 => ⟨S_, .f32⟩
  | 58 => ⟨S2048x4096, .f32⟩
  | 59 => ⟨S2048x4096, .i1⟩
  | 60 => ⟨S_, .f32⟩
  | 61 => ⟨S2048x4096, .f32⟩
  | 62 => ⟨S2048x4096, .f32⟩
  | 63 => ⟨S_, .f32⟩
  | 64 => ⟨S2048x4096, .f32⟩
  | 65 => ⟨S2048x4096, .f32⟩
  | 66 => ⟨S2048x1024, .f32⟩
  | 67 => ⟨S1x1024, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S_, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S_, .f32⟩
  | 82 => ⟨S2048x1024, .f32⟩
  | 83 => ⟨S2048x1024, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S_, .f32⟩
  | 94 => ⟨S2048, .f32⟩
  | 95 => ⟨S2048x1, .f32⟩
  | 96 => ⟨S_, .f32⟩
  | 97 => ⟨S2048x1, .f32⟩
  | 98 => ⟨S2048x1, .f32⟩
  | 99 => ⟨S2048x1024, .f32⟩
  | 100 => ⟨S2048x1024, .f32⟩
  | 101 => ⟨S2048x1024, .f32⟩
  | 102 => ⟨S_, .f32⟩
  | 103 => ⟨S2048x1024, .f32⟩
  | 104 => ⟨S2048x1024, .f32⟩
  | 105 => ⟨S_, .f32⟩
  | 106 => ⟨S2048, .f32⟩
  | 107 => ⟨S2048x1, .f32⟩
  | 108 => ⟨S_, .f32⟩
  | 109 => ⟨S2048x1, .f32⟩
  | 110 => ⟨S2048x1, .f32⟩
  | 111 => ⟨S2048x1024, .f32⟩
  | 112 => ⟨S2048x1024, .f32⟩
  | 113 => ⟨S_, .f32⟩
  | 114 => ⟨S2048x1, .f32⟩
  | 115 => ⟨S2048x1, .f32⟩
  | 116 => ⟨S2048x1, .f32⟩
  | 117 => ⟨S2048x1, .f32⟩
  | 118 => ⟨S_, .f32⟩
  | 119 => ⟨S2048x1, .f32⟩
  | 120 => ⟨S2048x1, .f32⟩
  | 121 => ⟨S2048x1024, .f32⟩
  | 122 => ⟨S2048x1024, .f32⟩
  | 123 => ⟨S1x1024, .f32⟩
  | 124 => ⟨S2048x1024, .f32⟩
  | 125 => ⟨S2048x1024, .f32⟩
  | 126 => ⟨S1x1024, .f32⟩
  | 127 => ⟨S2048x1024, .f32⟩
  | _ => ⟨S2048x1024, .f32⟩

abbrev hbmTy0_1 (i : Nat) : BufTy := match i % 128 with
  | 0 => ⟨S2048x1024, .f32⟩
  | 1 => ⟨S2048x1024, .f32⟩
  | 2 => ⟨S2048x1024, .f32⟩
  | 3 => ⟨S_, .f32⟩
  | 4 => ⟨S2048x1024, .f32⟩
  | 5 => ⟨S2048x1024, .f32⟩
  | 6 => ⟨S_, .f32⟩
  | 7 => ⟨S2048, .f32⟩
  | 8 => ⟨S_, .f32⟩
  | 9 => ⟨S2048, .f32⟩
  | 10 => ⟨S2048, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S2048, .f32⟩
  | 19 => ⟨S_, .f32⟩
  | 20 => ⟨S2048, .f32⟩
  | 21 => ⟨S2048, .f32⟩
  | 22 => ⟨S2048x1024, .f32⟩
  | 23 => ⟨S2048x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S2048x1024, .f32⟩
  | 30 => ⟨S_, .f32⟩
  | 31 => ⟨S1024, .f32⟩
  | 32 => ⟨S1x1024, .f32⟩
  | 33 => ⟨S2048x1024, .f32⟩
  | 34 => ⟨S2048x1024, .f32⟩
  | 35 => ⟨S_, .f32⟩
  | 36 => ⟨S1024, .f32⟩
  | 37 => ⟨S2048x1024, .f32⟩
  | 38 => ⟨S_, .f32⟩
  | 39 => ⟨S2048, .f32⟩
  | 40 => ⟨S2048x1, .f32⟩
  | 41 => ⟨S2048x1024, .f32⟩
  | 42 => ⟨S2048x1024, .f32⟩
  | 43 => ⟨S2048x1, .f32⟩
  | 44 => ⟨S2048x1024, .f32⟩
  | 45 => ⟨S_, .f32⟩
  | 46 => ⟨S2048, .f32⟩
  | 47 => ⟨S2048x1, .f32⟩
  | 48 => ⟨S_, .f32⟩
  | 49 => ⟨S2048x1, .f32⟩
  | 50 => ⟨S2048x1, .f32⟩
  | 51 => ⟨S_, .f32⟩
  | 52 => ⟨S2048, .f32⟩
  | 53 => ⟨S2048x1024, .f32⟩
  | 54 => ⟨S2048x1024, .f32⟩
  | 55 => ⟨S2048x1024, .f32⟩
  | 56 => ⟨S_, .f32⟩
  | 57 => ⟨S2048, .f32⟩
  | 58 => ⟨S2048x1, .f32⟩
  | 59 => ⟨S2048x1024, .f32⟩
  | 60 => ⟨S2048x1, .f32⟩
  | 61 => ⟨S_, .f32⟩
  | 62 => ⟨S2048x1, .f32⟩
  | 63 => ⟨S2048x1, .f32⟩
  | 64 => ⟨S_, .f32⟩
  | 65 => ⟨S2048, .f32⟩
  | 66 => ⟨S2048x1024, .f32⟩
  | 67 => ⟨S2048x1024, .f32⟩
  | 68 => ⟨S2048x4096, .f32⟩
  | 69 => ⟨S_, .f32⟩
  | 70 => ⟨S2048x1024, .f32⟩
  | 71 => ⟨S2048x1024, .f32⟩
  | 72 => ⟨S2048x1024, .f32⟩
  | 73 => ⟨S2048x1024, .f32⟩
  | 74 => ⟨S2048x1024, .f32⟩
  | 75 => ⟨S_, .f32⟩
  | 76 => ⟨S1024, .f32⟩
  | 77 => ⟨S1x1024, .f32⟩
  | 78 => ⟨S_, .f32⟩
  | 79 => ⟨S1024, .f32⟩
  | 80 => ⟨S2048x1024, .f32⟩
  | 81 => ⟨S2048x1024, .f32⟩
  | 82 => ⟨S2048x4096, .f32⟩
  | 83 => ⟨S_, .f32⟩
  | 84 => ⟨S2048x4096, .f32⟩
  | 85 => ⟨S2048x4096, .f32⟩
  | 86 => ⟨S2048x1024, .f32⟩
  | 87 => ⟨S2048x1024, .f32⟩
  | 88 => ⟨S_, .f32⟩
  | 89 => ⟨S1024, .f32⟩
  | 90 => ⟨S1x1024, .f32⟩
  | 91 => ⟨S_, .f32⟩
  | 92 => ⟨S1024, .f32⟩
  | 93 => ⟨S2048x1024, .f32⟩
  | 94 => ⟨S_, .f32⟩
  | 95 => ⟨S1024, .f32⟩
  | 96 => ⟨S1x1024, .f32⟩
  | 97 => ⟨S2048x1024, .f32⟩
  | 98 => ⟨S2048x1024, .f32⟩
  | 99 => ⟨S_, .f32⟩
  | 100 => ⟨S1024, .f32⟩
  | 101 => ⟨S2048x1024, .f32⟩
  | 102 => ⟨S_, .f32⟩
  | 103 => ⟨S2048, .f32⟩
  | 104 => ⟨S2048x1, .f32⟩
  | 105 => ⟨S2048x1024, .f32⟩
  | 106 => ⟨S2048x1024, .f32⟩
  | 107 => ⟨S2048x1, .f32⟩
  | 108 => ⟨S2048x1024, .f32⟩
  | 109 => ⟨S_, .f32⟩
  | 110 => ⟨S2048, .f32⟩
  | 111 => ⟨S2048x1, .f32⟩
  | 112 => ⟨S_, .f32⟩
  | 113 => ⟨S2048x1, .f32⟩
  | 114 => ⟨S2048x1, .f32⟩
  | 115 => ⟨S_, .f32⟩
  | 116 => ⟨S2048, .f32⟩
  | 117 => ⟨S2048x1024, .f32⟩
  | 118 => ⟨S2048x1024, .f32⟩
  | 119 => ⟨S2048x1024, .f32⟩
  | 120 => ⟨S_, .f32⟩
  | 121 => ⟨S2048, .f32⟩
  | 122 => ⟨S2048x1, .f32⟩
  | 123 => ⟨S2048x1024, .f32⟩
  | 124 => ⟨S2048x1, .f32⟩
  | 125 => ⟨S_, .f32⟩
  | 126 => ⟨S2048x1, .f32⟩
  | 127 => ⟨S2048x1, .f32⟩
  | _ => ⟨S2048x1024, .f32⟩

abbrev hbmTy0_2 (i : Nat) : BufTy := match i % 128 with
  | 0 => ⟨S_, .f32⟩
  | 1 => ⟨S2048, .f32⟩
  | 2 => ⟨S2048x1024, .f32⟩
  | 3 => ⟨S2048x1024, .f32⟩
  | 4 => ⟨S2048x1024, .f32⟩
  | 5 => ⟨S2048x1024, .f32⟩
  | 6 => ⟨S_, .f32⟩
  | 7 => ⟨S1024, .f32⟩
  | 8 => ⟨S_, .f32⟩
  | 9 => ⟨S1024, .f32⟩
  | 10 => ⟨S1024, .f32⟩
  | 11 => ⟨S_, .f32⟩
  | 12 => ⟨S1024, .f32⟩
  | 13 => ⟨S1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S6x1024, .f32⟩
  | 21 => ⟨S_, .f32⟩
  | 22 => ⟨S2x1024, .f32⟩
  | 23 => ⟨S8x1024, .f32⟩
  | 24 => ⟨S2048x1024, .bf16⟩
  | 25 => ⟨S2048x1024, .bf16⟩
  | 26 => ⟨S2048x4096, .bf16⟩
  | 27 => ⟨S2048x4096, .bf16⟩
  | 28 => ⟨S2048x1024, .bf16⟩
  | 29 => ⟨S2048x1024, .bf16⟩
  | 30 => ⟨S2048x1024, .bf16⟩
  | 31 => ⟨S2048x256, .bf16⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_v3 : Ref sig .tc := ⟨.hbm, 18, rfl⟩
abbrev main_cst_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call0_cst : Ref sig .tc := ⟨.hbm, 54, rfl⟩
abbrev main_call0_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_v63 : Ref sig .tc := ⟨.hbm, 94, rfl⟩
abbrev main_v64 : Ref sig .tc := ⟨.hbm, 95, rfl⟩
abbrev main_cst_16 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_cst_18 : Ref sig .tc := ⟨.hbm, 105, rfl⟩
abbrev main_v72 : Ref sig .tc := ⟨.hbm, 106, rfl⟩
abbrev main_v73 : Ref sig .tc := ⟨.hbm, 107, rfl⟩
abbrev main_cst_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_20 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_21 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_22 : Ref sig .tc := ⟨.hbm, 131, rfl⟩
abbrev main_v94 : Ref sig .tc := ⟨.hbm, 132, rfl⟩
abbrev main_v95 : Ref sig .tc := ⟨.hbm, 133, rfl⟩
abbrev main_cst_23 : Ref sig .tc := ⟨.hbm, 134, rfl⟩
abbrev main_v96 : Ref sig .tc := ⟨.hbm, 135, rfl⟩
abbrev main_cst_24 : Ref sig .tc := ⟨.hbm, 136, rfl⟩
abbrev main_v97 : Ref sig .tc := ⟨.hbm, 137, rfl⟩
abbrev main_v98 : Ref sig .tc := ⟨.hbm, 138, rfl⟩
abbrev main_cst_25 : Ref sig .tc := ⟨.hbm, 139, rfl⟩
abbrev main_v99 : Ref sig .tc := ⟨.hbm, 140, rfl⟩
abbrev main_cst_26 : Ref sig .tc := ⟨.hbm, 141, rfl⟩
abbrev main_v100 : Ref sig .tc := ⟨.hbm, 142, rfl⟩
abbrev main_cst_27 : Ref sig .tc := ⟨.hbm, 143, rfl⟩
abbrev main_cst_28 : Ref sig .tc := ⟨.hbm, 144, rfl⟩
abbrev main_v101 : Ref sig .tc := ⟨.hbm, 145, rfl⟩
abbrev main_v102 : Ref sig .tc := ⟨.hbm, 146, rfl⟩
abbrev main_cst_29 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_30 : Ref sig .tc := ⟨.hbm, 152, rfl⟩
abbrev main_v107 : Ref sig .tc := ⟨.hbm, 153, rfl⟩
abbrev main_v108 : Ref sig .tc := ⟨.hbm, 154, rfl⟩
abbrev main_cst_31 : Ref sig .tc := ⟨.hbm, 155, rfl⟩
abbrev main_v109 : Ref sig .tc := ⟨.hbm, 156, rfl⟩
abbrev main_v110 : Ref sig .tc := ⟨.hbm, 157, rfl⟩
abbrev main_cst_32 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_33 : Ref sig .tc := ⟨.hbm, 163, rfl⟩
abbrev main_v115 : Ref sig .tc := ⟨.hbm, 164, rfl⟩
abbrev main_v116 : Ref sig .tc := ⟨.hbm, 165, rfl⟩
abbrev main_cst_34 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_35 : Ref sig .tc := ⟨.hbm, 173, rfl⟩
abbrev main_v123 : Ref sig .tc := ⟨.hbm, 174, rfl⟩
abbrev main_v124 : Ref sig .tc := ⟨.hbm, 175, rfl⟩
abbrev main_cst_36 : Ref sig .tc := ⟨.hbm, 176, rfl⟩
abbrev main_v125 : Ref sig .tc := ⟨.hbm, 177, rfl⟩
abbrev main_v126 : Ref sig .tc := ⟨.hbm, 178, rfl⟩
abbrev main_cst_37 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_38 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_cst_39 : Ref sig .tc := ⟨.hbm, 189, rfl⟩
abbrev main_v135 : Ref sig .tc := ⟨.hbm, 190, rfl⟩
abbrev main_v136 : Ref sig .tc := ⟨.hbm, 191, rfl⟩
abbrev main_cst_40 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_41 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_42 : Ref sig .tc := ⟨.hbm, 203, rfl⟩
abbrev main_v146 : Ref sig .tc := ⟨.hbm, 204, rfl⟩
abbrev main_v147 : Ref sig .tc := ⟨.hbm, 205, rfl⟩
abbrev main_cst_43 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_cst_44 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_45 : Ref sig .tc := ⟨.hbm, 216, rfl⟩
abbrev main_v156 : Ref sig .tc := ⟨.hbm, 217, rfl⟩
abbrev main_v157 : Ref sig .tc := ⟨.hbm, 218, rfl⟩
abbrev main_cst_46 : Ref sig .tc := ⟨.hbm, 219, rfl⟩
abbrev main_v158 : Ref sig .tc := ⟨.hbm, 220, rfl⟩
abbrev main_v159 : Ref sig .tc := ⟨.hbm, 221, rfl⟩
abbrev main_cst_47 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_cst_48 : Ref sig .tc := ⟨.hbm, 227, rfl⟩
abbrev main_v164 : Ref sig .tc := ⟨.hbm, 228, rfl⟩
abbrev main_v165 : Ref sig .tc := ⟨.hbm, 229, rfl⟩
abbrev main_cst_49 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_50 : Ref sig .tc := ⟨.hbm, 237, rfl⟩
abbrev main_v172 : Ref sig .tc := ⟨.hbm, 238, rfl⟩
abbrev main_v173 : Ref sig .tc := ⟨.hbm, 239, rfl⟩
abbrev main_cst_51 : Ref sig .tc := ⟨.hbm, 240, rfl⟩
abbrev main_v174 : Ref sig .tc := ⟨.hbm, 241, rfl⟩
abbrev main_v175 : Ref sig .tc := ⟨.hbm, 242, rfl⟩
abbrev main_cst_52 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_cst_53 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_cst_54 : Ref sig .tc := ⟨.hbm, 253, rfl⟩
abbrev main_v184 : Ref sig .tc := ⟨.hbm, 254, rfl⟩
abbrev main_v185 : Ref sig .tc := ⟨.hbm, 255, rfl⟩
abbrev main_cst_55 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_cst_56 : Ref sig .tc := ⟨.hbm, 262, rfl⟩
abbrev main_v191 : Ref sig .tc := ⟨.hbm, 263, rfl⟩
abbrev main_cst_57 : Ref sig .tc := ⟨.hbm, 264, rfl⟩
abbrev main_v192 : Ref sig .tc := ⟨.hbm, 265, rfl⟩
abbrev main_v193 : Ref sig .tc := ⟨.hbm, 266, rfl⟩
abbrev main_cst_58 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_59 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩

abbrev nD : Nat := 1
abbrev τ : Topo := Topo.v7x

variable {F : FTy → Type} [FloatOps F]
-- ==== GatesBwdIdeal.lean ====
abbrev S2048x3600 : Shape := ⟨2, ![2048, 3600]⟩
abbrev S4 : Shape := ⟨1, ![4]⟩
abbrev S8 : Shape := ⟨1, ![8]⟩
abbrev S2048x4 : Shape := ⟨2, ![2048, 4]⟩
abbrev S2048x8 : Shape := ⟨2, ![2048, 8]⟩
abbrev S512x128 : Shape := ⟨2, ![512, 128]⟩
abbrev S4x8x128 : Shape := ⟨3, ![4, 8, 128]⟩
abbrev S_ : Shape := ⟨0, ![]⟩
abbrev S0 : Shape := ⟨1, ![0]⟩
abbrev S112 : Shape := ⟨1, ![112]⟩
abbrev S128 : Shape := ⟨1, ![128]⟩
abbrev S1x128 : Shape := ⟨2, ![1, 128]⟩
abbrev S120 : Shape := ⟨1, ![120]⟩
abbrev S6x128 : Shape := ⟨2, ![6, 128]⟩
abbrev S8x128 : Shape := ⟨2, ![8, 128]⟩
abbrev S2048x4x1 : Shape := ⟨3, ![2048, 4, 1]⟩
abbrev S2048x4x126 : Shape := ⟨3, ![2048, 4, 126]⟩
abbrev S2048x4x128 : Shape := ⟨3, ![2048, 4, 128]⟩
abbrev S2048x512 : Shape := ⟨2, ![2048, 512]⟩
abbrev S2048x8x1 : Shape := ⟨3, ![2048, 8, 1]⟩
abbrev S2048x8x64 : Shape := ⟨3, ![2048, 8, 64]⟩
abbrev S8x2048 : Shape := ⟨2, ![8, 2048]⟩
abbrev S4x2x2048 : Shape := ⟨3, ![4, 2, 2048]⟩
abbrev S4x6x2048 : Shape := ⟨3, ![4, 6, 2048]⟩
abbrev S4x8x2048 : Shape := ⟨3, ![4, 8, 2048]⟩
abbrev S2048x112 : Shape := ⟨2, ![2048, 112]⟩
abbrev S2048x2048 : Shape := ⟨2, ![2048, 2048]⟩
abbrev S2048x1536 : Shape := ⟨2, ![2048, 1536]⟩
abbrev S2048x3712 : Shape := ⟨2, ![2048, 3712]⟩
abbrev S2048x128 : Shape := ⟨2, ![2048, 128]⟩
abbrev S128x128 : Shape := ⟨2, ![128, 128]⟩
abbrev S128x512 : Shape := ⟨2, ![128, 512]⟩
abbrev S1x8x128 : Shape := ⟨3, ![1, 8, 128]⟩

abbrev nBuf : Space → Nat
  | .hbm => 56
  | .vmem => 10
  | .smem => 0
  | _ => 0

abbrev bufTy : (tb : Table) → Fin (tcTables nBuf tb) → BufTy
  | .hbm, ⟨0, _⟩ => ⟨S2048x3600, .f32⟩
  | .hbm, ⟨1, _⟩ => ⟨S4, .f32⟩
  | .hbm, ⟨2, _⟩ => ⟨S4, .f32⟩
  | .hbm, ⟨3, _⟩ => ⟨S8, .f32⟩
  | .hbm, ⟨4, _⟩ => ⟨S2048x4, .f32⟩
  | .hbm, ⟨5, _⟩ => ⟨S2048x4, .f32⟩
  | .hbm, ⟨6, _⟩ => ⟨S2048x8, .f32⟩
  | .hbm, ⟨7, _⟩ => ⟨S2048x8, .f32⟩
  | .hbm, ⟨8, _⟩ => ⟨S512x128, .f32⟩
  | .hbm, ⟨9, _⟩ => ⟨S512x128, .f32⟩
  | .hbm, ⟨10, _⟩ => ⟨S4x8x128, .f32⟩
  | .hbm, ⟨11, _⟩ => ⟨S_, .f32⟩
  | .hbm, ⟨12, _⟩ => ⟨S4, .f32⟩
  | .hbm, ⟨13, _⟩ => ⟨S_, .f32⟩
  | .hbm, ⟨14, _⟩ => ⟨S0, .f32⟩
  | .hbm, ⟨15, _⟩ => ⟨S_, .f32⟩
  | .hbm, ⟨16, _⟩ => ⟨S112, .f32⟩
  | .hbm, ⟨17, _⟩ => ⟨S128, .f32⟩
  | .hbm, ⟨18, _⟩ => ⟨S1x128, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S_, .f32⟩
  | .hbm, ⟨24, _⟩ => ⟨S120, .f32⟩
  | .hbm, ⟨25, _⟩ => ⟨S128, .f32⟩
  | .hbm, ⟨26, _⟩ => ⟨S1x128, .f32⟩
  | .hbm, ⟨27, _⟩ => ⟨S_, .f32⟩
  | .hbm, ⟨28, _⟩ => ⟨S6x128, .f32⟩
  | .hbm, ⟨29, _⟩ => ⟨S8x128, .f32⟩
  | .hbm, ⟨30, _⟩ => ⟨S2048x4x1, .f32⟩
  | .hbm, ⟨31, _⟩ => ⟨S2048x4x1, .f32⟩
  | .hbm, ⟨32, _⟩ => ⟨S_, .f32⟩
  | .hbm, ⟨33, _⟩ => ⟨S2048x4x126, .f32⟩
  | .hbm, ⟨34, _⟩ => ⟨S2048x4x128, .f32⟩
  | .hbm, ⟨35, _⟩ => ⟨S2048x512, .f32⟩
  | .hbm, ⟨36, _⟩ => ⟨S2048x8x1, .f32⟩
  | .hbm, ⟨37, _⟩ => ⟨S2048x8x64, .f32⟩
  | .hbm, ⟨38, _⟩ => ⟨S2048x512, .f32⟩
  | .hbm, ⟨39, _⟩ => ⟨S8x2048, .f32⟩
  | .hbm, ⟨40, _⟩ => ⟨S4x2x2048, .f32⟩
  | .hbm, ⟨41, _⟩ => ⟨S_, .f32⟩
  | .hbm, ⟨42, _⟩ => ⟨S4x6x2048, .f32⟩
  | .hbm, ⟨43, _⟩ => ⟨S4x8x2048, .f32⟩
  | .hbm, ⟨44, _⟩ => ⟨S_, .f32⟩
  | .hbm, ⟨45, _⟩ => ⟨S2048x112, .f32⟩
  | .hbm, ⟨46, _⟩ => ⟨S2048x2048, .f32⟩
  | .hbm, ⟨47, _⟩ => ⟨S2048x1536, .f32⟩
  | .hbm, ⟨48, _⟩ => ⟨S2048x8, .f32⟩
  | .hbm, ⟨49, _⟩ => ⟨S2048x8, .f32⟩
  | .hbm, ⟨50, _⟩ => ⟨S2048x3712, .f32⟩
  | .hbm, ⟨51, _⟩ => ⟨S512x128, .bf16⟩
  | .hbm, ⟨52, _⟩ => ⟨S512x128, .bf16⟩
  | .hbm, ⟨53, _⟩ => ⟨S4x8x128, .bf16⟩
  | .hbm, ⟨54, _⟩ => ⟨S2048x128, .bf16⟩
  | .hbm, ⟨55, _⟩ => ⟨S8x128, .f32⟩
  | .local _ .vmem, ⟨0, _⟩ => ⟨S2048x128, .f32⟩
  | .local _ .vmem, ⟨1, _⟩ => ⟨S8x128, .f32⟩
  | .local _ .vmem, ⟨2, _⟩ => ⟨S2048x512, .f32⟩
  | .local _ .vmem, ⟨3, _⟩ => ⟨S2048x512, .f32⟩
  | .local _ .vmem, ⟨4, _⟩ => ⟨S4x8x2048, .f32⟩
  | .local _ .vmem, ⟨5, _⟩ => ⟨S512x128, .bf16⟩
  | .local _ .vmem, ⟨6, _⟩ => ⟨S512x128, .bf16⟩
  | .local _ .vmem, ⟨7, _⟩ => ⟨S4x8x128, .bf16⟩
  | .local _ .vmem, ⟨8, _⟩ => ⟨S2048x128, .bf16⟩
  | .local _ .vmem, ⟨9, _⟩ => ⟨S8x128, .f32⟩
  | _, _ => ⟨S2048x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_v0 : Ref sig .tc := ⟨.hbm, 12, rfl⟩
abbrev main_cst_3 : Ref sig .tc := ⟨.hbm, 13, rfl⟩
abbrev main_v1 : Ref sig .tc := ⟨.hbm, 14, rfl⟩
abbrev main_cst_4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_5 : Ref sig .tc := ⟨.hbm, 21, rfl⟩
abbrev main_v7 : Ref sig .tc := ⟨.hbm, 22, rfl⟩
abbrev main_cst_6 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_7 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_8 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_9 : Ref sig .tc := ⟨.hbm, 41, rfl⟩
abbrev main_v23 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c28_i32 : BitVec 32 := 28#32
  let c0_i32_0 : BitVec 32 := 0#32
  ![c0_i32.toNat, c28_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GatesBwdRefIdeal.lean ====
abbrev S2048x3600 : Shape := ⟨2, ![2048, 3600]⟩
abbrev S4 : Shape := ⟨1, ![4]⟩
abbrev S8 : Shape := ⟨1, ![8]⟩
abbrev S2048x4 : Shape := ⟨2, ![2048, 4]⟩
abbrev S2048x8 : Shape := ⟨2, ![2048, 8]⟩
abbrev S1x8 : Shape := ⟨2, ![1, 8]⟩
abbrev S_ : Shape := ⟨0, ![]⟩
abbrev S1x4 : Shape := ⟨2, ![1, 4]⟩
abbrev S112 : Shape := ⟨1, ![112]⟩
abbrev S128 : Shape := ⟨1, ![128]⟩
abbrev S1x128 : Shape := ⟨2, ![1, 128]⟩
abbrev S120 : Shape := ⟨1, ![120]⟩
abbrev S6x128 : Shape := ⟨2, ![6, 128]⟩
abbrev S8x128 : Shape := ⟨2, ![8, 128]⟩
abbrev S2048x112 : Shape := ⟨2, ![2048, 112]⟩
abbrev S2048x128 : Shape := ⟨2, ![2048, 128]⟩

abbrev nBuf : Space → Nat
  | .hbm => 181
  | .vmem => 0
  | .smem => 0
  | _ => 0

abbrev hbmTy0_0 (i : Nat) : BufTy := match i % 128 with
  | 0 => ⟨S2048x3600, .f32⟩
  | 1 => ⟨S4, .f32⟩
  | 2 => ⟨S4, .f32⟩
  | 3 => ⟨S8, .f32⟩
  | 4 => ⟨S2048x4, .f32⟩
  | 5 => ⟨S2048x4, .f32⟩
  | 6 => ⟨S2048x8, .f32⟩
  | 7 => ⟨S2048x8, .f32⟩
  | 8 => ⟨S2048x4, .f32⟩
  | 9 => ⟨S2048x4, .f32⟩
  | 10 => ⟨S2048x8, .f32⟩
  | 11 => ⟨S1x8, .f32⟩
  | 12 => ⟨S2048x8, .f32⟩
  | 13 => ⟨S2048x8, .f32⟩
  | 14 => ⟨S2048x8, .f32⟩
  | 15 => ⟨S_, .f32⟩
  | 16 => ⟨S2048x8, .f32⟩
  | 17 => ⟨S2048x8, .f32⟩
  | 18 => ⟨S2048x8, .f32⟩
  | 19 => ⟨S2048x8, .f32⟩
  | 20 => ⟨S2048x8, .i1⟩
  | 21 => ⟨S2048x8, .f32⟩
  | 22 => ⟨S2048x8, .f32⟩
  | 23 => ⟨S2048x8, .f32⟩
  | 24 => ⟨S2048x8, .f32⟩
  | 25 => ⟨S2048x8, .f32⟩
  | 26 => ⟨S2048x8, .f32⟩
  | 27 => ⟨S2048x8, .f32⟩
  | 28 => ⟨S2048x8, .f32⟩
  | 29 => ⟨S_, .f32⟩
  | 30 => ⟨S2048x8, .f32⟩
  | 31 => ⟨S2048x8, .i1⟩
  | 32 => ⟨S_, .f32⟩
  | 33 => ⟨S2048x8, .f32⟩
  | 34 => ⟨S2048x8, .f32⟩
  | 35 => ⟨S_, .f32⟩
  | 36 => ⟨S2048x8, .f32⟩
  | 37 => ⟨S2048x8, .i1⟩
  | 38 => ⟨S_, .f32⟩
  | 39 => ⟨S2048x8, .f32⟩
  | 40 => ⟨S2048x8, .f32⟩
  | 41 => ⟨S2048x8, .f32⟩
  | 42 => ⟨S2048x8, .f32⟩
  | 43 => ⟨S_, .f32⟩
  | 44 => ⟨S_, .f32⟩
  | 45 => ⟨S_, .i1⟩
  | 46 => ⟨S_, .f32⟩
  | 47 => ⟨S_, .f32⟩
  | 48 => ⟨S_, .f32⟩
  | 49 => ⟨S_, .f32⟩
  | 50 => ⟨S2048x8, .f32⟩
  | 51 => ⟨S2048x8, .i1⟩
  | 52 => ⟨S_, .f32⟩
  | 53 => ⟨S2048x8, .f32⟩
  | 54 => ⟨S2048x8, .f32⟩
  | 55 => ⟨S2048x8, .f32⟩
  | 56 => ⟨S2048x8, .f32⟩
  | 57 => ⟨S2048x8, .f32⟩
  | 58 => ⟨S_, .f32⟩
  | 59 => ⟨S2048x8, .f32⟩
  | 60 => ⟨S2048x8, .f32⟩
  | 61 => ⟨S2048x8, .f32⟩
  | 62 => ⟨S_, .f32⟩
  | 63 => ⟨S_, .f32⟩
  | 64 => ⟨S2048x8, .f32⟩
  | 65 => ⟨S2048x4, .f32⟩
  | 66 => ⟨S2048x4, .f32⟩
  | 67 => ⟨S_, .f32⟩
  | 68 => ⟨S2048x4, .f32⟩
  | 69 => ⟨S2048x4, .f32⟩
  | 70 => ⟨S_, .f32⟩
  | 71 => ⟨S2048x4, .f32⟩
  | 72 => ⟨S2048x4, .f32⟩
  | 73 => ⟨S_, .f32⟩
  | 74 => ⟨S2048x4, .f32⟩
  | 75 => ⟨S2048x4, .f32⟩
  | 76 => ⟨S2048x4, .f32⟩
  | 77 => ⟨S4, .f32⟩
  | 78 => ⟨S4, .f32⟩
  | 79 => ⟨S1x4, .f32⟩
  | 80 => ⟨S2048x4, .f32⟩
  | 81 => ⟨S2048x4, .f32⟩
  | 82 => ⟨S_, .f32⟩
  | 83 => ⟨S2048x4, .f32⟩
  | 84 => ⟨S2048x4, .f32⟩
  | 85 => ⟨S2048x4, .f32⟩
  | 86 => ⟨S2048x4, .f32⟩
  | 87 => ⟨S2048x4, .i1⟩
  | 88 => ⟨S2048x4, .f32⟩
  | 89 => ⟨S2048x4, .f32⟩
  | 90 => ⟨S2048x4, .f32⟩
  | 91 => ⟨S2048x4, .f32⟩
  | 92 => ⟨S2048x4, .f32⟩
  | 93 => ⟨S2048x4, .f32⟩
  | 94 => ⟨S2048x4, .f32⟩
  | 95 => ⟨S2048x4, .f32⟩
  | 96 => ⟨S_, .f32⟩
  | 97 => ⟨S2048x4, .f32⟩
  | 98 => ⟨S2048x4, .i1⟩
  | 99 => ⟨S_, .f32⟩
  | 100 => ⟨S2048x4, .f32⟩
  | 101 => ⟨S2048x4, .f32⟩
  | 102 => ⟨S_, .f32⟩
  | 103 => ⟨S2048x4, .f32⟩
  | 104 => ⟨S2048x4, .i1⟩
  | 105 => ⟨S_, .f32⟩
  | 106 => ⟨S2048x4, .f32⟩
  | 107 => ⟨S2048x4, .f32⟩
  | 108 => ⟨S2048x4, .f32⟩
  | 109 => ⟨S2048x4, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S2048x4, .f32⟩
  | 118 => ⟨S2048x4, .i1⟩
  | 119 => ⟨S_, .f32⟩
  | 120 => ⟨S2048x4, .f32⟩
  | 121 => ⟨S2048x4, .f32⟩
  | 122 => ⟨S2048x4, .f32⟩
  | 123 => ⟨S2048x4, .f32⟩
  | 124 => ⟨S2048x4, .f32⟩
  | 125 => ⟨S_, .f32⟩
  | 126 => ⟨S2048x4, .f32⟩
  | 127 => ⟨S2048x4, .f32⟩
  | _ => ⟨S2048x3600, .f32⟩

abbrev hbmTy0_1 (i : Nat) : BufTy := match i % 128 with
  | 0 => ⟨S1x4, .f32⟩
  | 1 => ⟨S2048x4, .f32⟩
  | 2 => ⟨S2048x4, .f32⟩
  | 3 => ⟨S2048x8, .f32⟩
  | 4 => ⟨S2048x8, .f32⟩
  | 5 => ⟨S2048x8, .f32⟩
  | 6 => ⟨S2048x4, .f32⟩
  | 7 => ⟨S2048x4, .f32⟩
  | 8 => ⟨S2048x4, .f32⟩
  | 9 => ⟨S_, .f32⟩
  | 10 => ⟨S4, .f32⟩
  | 11 => ⟨S1x4, .f32⟩
  | 12 => ⟨S_, .f32⟩
  | 13 => ⟨S4, .f32⟩
  | 14 => ⟨S2048x4, .f32⟩
  | 15 => ⟨S_, .f32⟩
  | 16 => ⟨S4, .f32⟩
  | 17 => ⟨S1x4, .f32⟩
  | 18 => ⟨S_, .f32⟩
  | 19 => ⟨S4, .f32⟩
  | 20 => ⟨S4, .f32⟩
  | 21 => ⟨S4, .f32⟩
  | 22 => ⟨S2048x4, .f32⟩
  | 23 => ⟨S_, .f32⟩
  | 24 => ⟨S_, .f32⟩
  | 25 => ⟨S2048x8, .f32⟩
  | 26 => ⟨S2048x8, .f32⟩
  | 27 => ⟨S2048x8, .f32⟩
  | 28 => ⟨S2048x8, .f32⟩
  | 29 => ⟨S_, .f32⟩
  | 30 => ⟨S8, .f32⟩
  | 31 => ⟨S1x8, .f32⟩
  | 32 => ⟨S_, .f32⟩
  | 33 => ⟨S8, .f32⟩
  | 34 => ⟨S_, .f32⟩
  | 35 => ⟨S4, .f32⟩
  | 36 => ⟨S_, .f32⟩
  | 37 => ⟨S112, .f32⟩
  | 38 => ⟨S128, .f32⟩
  | 39 => ⟨S1x128, .f32⟩
  | 40 => ⟨S_, .f32⟩
  | 41 => ⟨S4, .f32⟩
  | 42 => ⟨S_, .f32⟩
  | 43 => ⟨S120, .f32⟩
  | 44 => ⟨S128, .f32⟩
  | 45 => ⟨S1x128, .f32⟩
  | 46 => ⟨S_, .f32⟩
  | 47 => ⟨S6x128, .f32⟩
  | 48 => ⟨S8x128, .f32⟩
  | 49 => ⟨S_, .f32⟩
  | 50 => ⟨S2048x112, .f32⟩
  | 51 => ⟨S2048x128, .f32⟩
  | 52 => ⟨S2048x128, .bf16⟩
  | _ => ⟨S2048x3600, .f32⟩

abbrev hbmTy (i : Nat) : BufTy := match i / 128 with
  | 0 => hbmTy0_0 i
  | 1 => hbmTy0_1 i
  | _ => ⟨S2048x3600, .f32⟩

abbrev bufTy : (tb : Table) → Fin (tcTables nBuf tb) → BufTy
  | .hbm, ⟨i, _⟩ => hbmTy i
  | _, _ => ⟨S2048x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v6_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v6_2 : Ref sig .tc := ⟨.hbm, 60, rfl⟩
abbrev main_v6_0 : Ref sig .tc := ⟨.hbm, 61, rfl⟩
abbrev main_call1_call0_cst : Ref sig .tc := ⟨.hbm, 62, rfl⟩
abbrev main_call1_call0_v0 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_cst_0 : Ref sig .tc := ⟨.hbm, 70, rfl⟩
abbrev main_v12 : Ref sig .tc := ⟨.hbm, 71, rfl⟩
abbrev main_v13 : Ref sig .tc := ⟨.hbm, 72, rfl⟩
abbrev main_cst_1 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_call2_cst : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_v22_0 : Ref sig .tc := ⟨.hbm, 95, rfl⟩
abbrev main_call2_cst_0 : Ref sig .tc := ⟨.hbm, 96, rfl⟩
abbrev main_call2_v13 : Ref sig .tc := ⟨.hbm, 97, rfl⟩
abbrev main_call2_v14 : Ref sig .tc := ⟨.hbm, 98, rfl⟩
abbrev main_call2_cst_1 : Ref sig .tc := ⟨.hbm, 99, rfl⟩
abbrev main_call2_v15 : Ref sig .tc := ⟨.hbm, 100, rfl⟩
abbrev main_call2_v16 : Ref sig .tc := ⟨.hbm, 101, rfl⟩
abbrev main_call2_cst_2 : Ref sig .tc := ⟨.hbm, 102, rfl⟩
abbrev main_call2_v17 : Ref sig .tc := ⟨.hbm, 103, rfl⟩
abbrev main_call2_v18 : Ref sig .tc := ⟨.hbm, 104, rfl⟩
abbrev main_call2_cst_3 : Ref sig .tc := ⟨.hbm, 105, rfl⟩
abbrev main_call2_v19 : Ref sig .tc := ⟨.hbm, 106, rfl⟩
abbrev main_call2_v20 : Ref sig .tc := ⟨.hbm, 107, rfl⟩
abbrev main_call2_v21 : Ref sig .tc := ⟨.hbm, 108, rfl⟩
abbrev main_v22_1 : Ref sig .tc := ⟨.hbm, 109, rfl⟩
abbrev main_call2_cst_4 : Ref sig .tc := ⟨.hbm, 110, rfl⟩
abbrev main_call2_cst_5 : Ref sig .tc := ⟨.hbm, 111, rfl⟩
abbrev main_call2_v23 : Ref sig .tc := ⟨.hbm, 112, rfl⟩
abbrev main_call2_cst_6 : Ref sig .tc := ⟨.hbm, 113, rfl⟩
abbrev main_call2_cst_7 : Ref sig .tc := ⟨.hbm, 114, rfl⟩
abbrev main_call2_v24 : Ref sig .tc := ⟨.hbm, 115, rfl⟩
abbrev main_call2_cst_8 : Ref sig .tc := ⟨.hbm, 116, rfl⟩
abbrev main_call2_v25 : Ref sig .tc := ⟨.hbm, 117, rfl⟩
abbrev main_call2_v26 : Ref sig .tc := ⟨.hbm, 118, rfl⟩
abbrev main_call2_cst_9 : Ref sig .tc := ⟨.hbm, 119, rfl⟩
abbrev main_call2_v27 : Ref sig .tc := ⟨.hbm, 120, rfl⟩
abbrev main_call2_v28 : Ref sig .tc := ⟨.hbm, 121, rfl⟩
abbrev main_call2_v29 : Ref sig .tc := ⟨.hbm, 122, rfl⟩
abbrev main_call2_v30 : Ref sig .tc := ⟨.hbm, 123, rfl⟩
abbrev main_call2_v31 : Ref sig .tc := ⟨.hbm, 124, rfl⟩
abbrev main_call2_cst_10 : Ref sig .tc := ⟨.hbm, 125, rfl⟩
abbrev main_call2_v32 : Ref sig .tc := ⟨.hbm, 126, rfl⟩
abbrev main_v22_2 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_cst_2 : Ref sig .tc := ⟨.hbm, 137, rfl⟩
abbrev main_v32 : Ref sig .tc := ⟨.hbm, 138, rfl⟩
abbrev main_v33 : Ref sig .tc := ⟨.hbm, 139, rfl⟩
abbrev main_cst_3 : Ref sig .tc := ⟨.hbm, 140, rfl⟩
abbrev main_v34 : Ref sig .tc := ⟨.hbm, 141, rfl⟩
abbrev main_v35 : Ref sig .tc := ⟨.hbm, 142, rfl⟩
abbrev main_cst_4 : Ref sig .tc := ⟨.hbm, 143, rfl⟩
abbrev main_v36 : Ref sig .tc := ⟨.hbm, 144, rfl⟩
abbrev main_v37 : Ref sig .tc := ⟨.hbm, 145, rfl⟩
abbrev main_cst_5 : Ref sig .tc := ⟨.hbm, 146, rfl⟩
abbrev main_v38 : Ref sig .tc := ⟨.hbm, 147, rfl⟩
abbrev main_v39 : Ref sig .tc := ⟨.hbm, 148, rfl⟩
abbrev main_v40 : Ref sig .tc := ⟨.hbm, 149, rfl⟩
abbrev main_v41 : Ref sig .tc := ⟨.hbm, 150, rfl⟩
abbrev main_call4_call0_cst : Ref sig .tc := ⟨.hbm, 151, rfl⟩
abbrev main_call4_call0_v0 : Ref sig .tc := ⟨.hbm, 152, rfl⟩
abbrev main_v42 : Ref sig .tc := ⟨.hbm, 153, rfl⟩
abbrev main_call5_v0 : Ref sig .tc := ⟨.hbm, 154, rfl⟩
abbrev main_call5_v1 : Ref sig .tc := ⟨.hbm, 155, rfl⟩
abbrev main_v43 : Ref sig .tc := ⟨.hbm, 156, rfl⟩
abbrev main_cst_6 : Ref sig .tc := ⟨.hbm, 157, rfl⟩
abbrev main_v44 : Ref sig .tc := ⟨.hbm, 158, rfl⟩
abbrev main_v45 : Ref sig .tc := ⟨.hbm, 159, rfl⟩
abbrev main_cst_7 : Ref sig .tc := ⟨.hbm, 160, rfl⟩
abbrev main_v46 : Ref sig .tc := ⟨.hbm, 161, rfl⟩
abbrev main_cst_8 : Ref sig .tc := ⟨.hbm, 162, rfl⟩
abbrev main_v47 : Ref sig .tc := ⟨.hbm, 163, rfl⟩
abbrev main_cst_9 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_cst_10 : Ref sig .tc := ⟨.hbm, 168, rfl⟩
abbrev main_v51 : Ref sig .tc := ⟨.hbm, 169, rfl⟩
abbrev main_cst_11 : Ref sig .tc := ⟨.hbm, 170, rfl⟩
abbrev main_v52 : Ref sig .tc := ⟨.hbm, 171, rfl⟩
abbrev main_v53 : Ref sig .tc := ⟨.hbm, 172, rfl⟩
abbrev main_v54 : Ref sig .tc := ⟨.hbm, 173, rfl⟩
abbrev main_cst_12 : Ref sig .tc := ⟨.hbm, 174, rfl⟩
abbrev main_v55 : Ref sig .tc := ⟨.hbm, 175, rfl⟩
abbrev main_v56 : Ref sig .tc := ⟨.hbm, 176, rfl⟩
abbrev main_cst_13 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩

abbrev nD : Nat := 1
abbrev τ : Topo := Topo.v7x

variable {F : FTy → Type} [FloatOps F]
-- ==== PrepFwd.lean ====
abbrev S2048x3600 : Shape := ⟨2, ![2048, 3600]⟩
abbrev S4x1536 : Shape := ⟨2, ![4, 1536]⟩
abbrev S_ : Shape := ⟨0, ![]⟩
abbrev S2048x112 : Shape := ⟨2, ![2048, 112]⟩
abbrev S2048x2048 : Shape := ⟨2, ![2048, 2048]⟩
abbrev S2048x1536 : Shape := ⟨2, ![2048, 1536]⟩
abbrev S2048x8 : Shape := ⟨2, ![2048, 8]⟩
abbrev S2048x3712 : Shape := ⟨2, ![2048, 3712]⟩
abbrev S8x128 : Shape := ⟨2, ![8, 128]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S8 : Shape := ⟨1, ![8]⟩
abbrev S8x1 : Shape := ⟨2, ![8, 1]⟩

abbrev nBuf : Space → Nat
  | .hbm => 12
  | .vmem => 6
  | .smem => 0
  | _ => 0

abbrev bufTy : (tb : Table) → Fin (tcTables nBuf tb) → BufTy
  | .hbm, ⟨0, _⟩ => ⟨S2048x3600, .f32⟩
  | .hbm, ⟨1, _⟩ => ⟨S4x1536, .f32⟩
  | .hbm, ⟨2, _⟩ => ⟨S_, .f32⟩
  | .hbm, ⟨3, _⟩ => ⟨S2048x112, .f32⟩
  | .hbm, ⟨4, _⟩ => ⟨S2048x2048, .f32⟩
  | .hbm, ⟨5, _⟩ => ⟨S2048x1536, .f32⟩
  | .hbm, ⟨6, _⟩ => ⟨S2048x8, .f32⟩
  | .hbm, ⟨7, _⟩ => ⟨S2048x8, .f32⟩
  | .hbm, ⟨8, _⟩ => ⟨S2048x3712, .f32⟩
  | .hbm, ⟨9, _⟩ => ⟨S_, .f32⟩
  | .hbm, ⟨10, _⟩ => ⟨S8x128, .f32⟩
  | .hbm, ⟨11, _⟩ => ⟨S2048x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x3600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrepFwdRefIdeal.lean ====
abbrev S2048x3600 : Shape := ⟨2, ![2048, 3600]⟩
abbrev S4x1536 : Shape := ⟨2, ![4, 1536]⟩
abbrev S2048x1536 : Shape := ⟨2, ![2048, 1536]⟩
abbrev S1x1536 : Shape := ⟨2, ![1, 1536]⟩
abbrev S1536 : Shape := ⟨1, ![1536]⟩
abbrev S_ : Shape := ⟨0, ![]⟩
abbrev S2047x1536 : Shape := ⟨2, ![2047, 1536]⟩
abbrev S2x1536 : Shape := ⟨2, ![2, 1536]⟩
abbrev S2046x1536 : Shape := ⟨2, ![2046, 1536]⟩
abbrev S3x1536 : Shape := ⟨2, ![3, 1536]⟩
abbrev S2045x1536 : Shape := ⟨2, ![2045, 1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 75
  | .vmem => 0
  | .smem => 0
  | _ => 0

abbrev bufTy : (tb : Table) → Fin (tcTables nBuf tb) → BufTy
  | .hbm, ⟨0, _⟩ => ⟨S2048x3600, .f32⟩
  | .hbm, ⟨1, _⟩ => ⟨S4x1536, .f32⟩
  | .hbm, ⟨2, _⟩ => ⟨S2048x1536, .f32⟩
  | .hbm, ⟨3, _⟩ => ⟨S1x1536, .f32⟩
  | .hbm, ⟨4, _⟩ => ⟨S1536, .f32⟩
  | .hbm, ⟨5, _⟩ => ⟨S1x1536, .f32⟩
  | .hbm, ⟨6, _⟩ => ⟨S2048x1536, .f32⟩
  | .hbm, ⟨7, _⟩ => ⟨S2048x1536, .f32⟩
  | .hbm, ⟨8, _⟩ => ⟨S_, .f32⟩
  | .hbm, ⟨9, _⟩ => ⟨S1x1536, .f32⟩
  | .hbm, ⟨10, _⟩ => ⟨S2047x1536, .f32⟩
  | .hbm, ⟨11, _⟩ => ⟨S2048x1536, .f32⟩
  | .hbm, ⟨12, _⟩ => ⟨S1x1536, .f32⟩
  | .hbm, ⟨13, _⟩ => ⟨S1536, .f32⟩
  | .hbm, ⟨14, _⟩ => ⟨S1x1536, .f32⟩
  | .hbm, ⟨15, _⟩ => ⟨S2048x1536, .f32⟩
  | .hbm, ⟨16, _⟩ => ⟨S2048x1536, .f32⟩
  | .hbm, ⟨17, _⟩ => ⟨S2048x1536, .f32⟩
  | .hbm, ⟨18, _⟩ => ⟨S_, .f32⟩
  | .hbm, ⟨19, _⟩ => ⟨S2x1536, .f32⟩
  | .hbm, ⟨20, _⟩ => ⟨S2046x1536, .f32⟩
  | .hbm, ⟨21, _⟩ => ⟨S2048x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S2048x1536, .f32⟩
  | .hbm, ⟨26, _⟩ => ⟨S2048x1536, .f32⟩
  | .hbm, ⟨27, _⟩ => ⟨S2048x1536, .f32⟩
  | .hbm, ⟨28, _⟩ => ⟨S_, .f32⟩
  | .hbm, ⟨29, _⟩ => ⟨S3x1536, .f32⟩
  | .hbm, ⟨30, _⟩ => ⟨S2045x1536, .f32⟩
  | .hbm, ⟨31, _⟩ => ⟨S2048x1536, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S_, .f32⟩
  | .hbm, ⟨41, _⟩ => ⟨S2048x1536, .f32⟩
  | .hbm, ⟨42, _⟩ => ⟨S2048x1536, .f32⟩
  | .hbm, ⟨43, _⟩ => ⟨S_, .f32⟩
  | .hbm, ⟨44, _⟩ => ⟨S2048x1536, .f32⟩
  | .hbm, ⟨45, _⟩ => ⟨S2048x1536, .f32⟩
  | .hbm, ⟨46, _⟩ => ⟨S2048x1536, .f32⟩
  | .hbm, ⟨47, _⟩ => ⟨S2048x512, .f32⟩
  | .hbm, ⟨48, _⟩ => ⟨S2048x4x128, .f32⟩
  | .hbm, ⟨49, _⟩ => ⟨S2048x4x128, .f32⟩
  | .hbm, ⟨50, _⟩ => ⟨S_, .f32⟩
  | .hbm, ⟨51, _⟩ => ⟨S2048x4, .f32⟩
  | .hbm, ⟨52, _⟩ => ⟨S2048x4x1, .f32⟩
  | .hbm, ⟨53, _⟩ => ⟨S_, .f32⟩
  | .hbm, ⟨54, _⟩ => ⟨S2048x4x1, .f32⟩
  | .hbm, ⟨55, _⟩ => ⟨S2048x4x1, .f32⟩
  | .hbm, ⟨56, _⟩ => ⟨S2048x4x1, .f32⟩
  | .hbm, ⟨57, _⟩ => ⟨S2048x4x128, .f32⟩
  | .hbm, ⟨58, _⟩ => ⟨S2048x4x128, .f32⟩
  | .hbm, ⟨59, _⟩ => ⟨S2048x512, .f32⟩
  | .hbm, ⟨60, _⟩ => ⟨S2048x512, .f32⟩
  | .hbm, ⟨61, _⟩ => ⟨S2048x4x128, .f32⟩
  | .hbm, ⟨62, _⟩ => ⟨S2048x4x128, .f32⟩
  | .hbm, ⟨63, _⟩ => ⟨S_, .f32⟩
  | .hbm, ⟨64, _⟩ => ⟨S2048x4, .f32⟩
  | .hbm, ⟨65, _⟩ => ⟨S2048x4x1, .f32⟩
  | .hbm, ⟨66, _⟩ => ⟨S_, .f32⟩
  | .hbm, ⟨67, _⟩ => ⟨S2048x4x1, .f32⟩
  | .hbm, ⟨68, _⟩ => ⟨S2048x4x1, .f32⟩
  | .hbm, ⟨69, _⟩ => ⟨S2048x4x1, .f32⟩
  | .hbm, ⟨70, _⟩ => ⟨S2048x4x128, .f32⟩
  | .hbm, ⟨71, _⟩ => ⟨S2048x4x128, .f32⟩
  | .hbm, ⟨72, _⟩ => ⟨S2048x512, .f32⟩
  | .hbm, ⟨73, _⟩ => ⟨S2048x512, .f32⟩
  | .hbm, ⟨74, _⟩ => ⟨S2048x1536, .f32⟩
  | _, _ => ⟨S2048x3600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Proof.Math.Lift.lean ====
/- Arithmetic on the extended reals whose operands are real numbers: each operation's value is the real one's, so an
   expression over finite arrays is the cast of an expression over ℝ, where `ring` and `field_simp` work. -/
module

public import Idealize.ShloMosaic.Lib.Pointwise

@[expose] public section

noncomputable section

namespace Cert.Lift

open Idealize.ShloMosaic

/-- A finite sum of casts is the cast of the sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- A quotient of reals by a nonzero real. -/
theorem div_real {x y : ℝ} (h : y ≠ 0) : Ideal.div (x : EReal) (y : EReal) = ((x / y : ℝ) : EReal) := by
  rw [Ideal.div_coe h, ← EReal.coe_mul, mul_one_div]

/-- The reciprocal square root of a positive real. -/
theorem rsqrt_real {x : ℝ} (h : 0 < x) : Ideal.rsqrt (x : EReal) = (((Real.sqrt x)⁻¹ : ℝ) : EReal) := by
  rw [Ideal.rsqrt_coe, if_neg h.le.not_gt, if_neg h.ne']

/-- The square root of a real that is not negative. -/
theorem sqrt_real {x : ℝ} (h : 0 ≤ x) : Ideal.sqrt (x : EReal) = ((Real.sqrt x : ℝ) : EReal) := by
  rw [Ideal.sqrt_coe, if_neg h.not_gt]

/-- The logarithm of a positive real. -/
theorem log_real {x : ℝ} (h : 0 < x) : Ideal.log (x : EReal) = ((Real.log x : ℝ) : EReal) := by
  rw [Ideal.log_coe, if_neg h.not_ge]

/-- An extended real strictly between the infinities is a real. -/
theorem coe_of_lt {x : EReal} (h : x < ⊤) (h' : ⊥ < x) : x = ((x.toReal : ℝ) : EReal) :=
  (EReal.coe_toReal h.ne h'.ne').symm

/-! The float words of the programs' constants. -/

theorem lit_zero : Ideal.ofBits .f32 0x00000000#32 = ((0 : ℝ) : EReal) := by
  simp [Ideal.ofBits, Ideal.ieee, -EReal.coe_mul]
theorem lit_1024 : Ideal.ofBits .f32 0x44800000#32 = ((1024 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num

/-- The norms' ε, 1e-5 rounded to a float. -/
def eps : ℝ := 10995116 * 2 ^ (-40 : ℤ)
theorem eps_pos : 0 < eps := by unfold eps; positivity
theorem lit_eps : Ideal.ofBits .f32 0x3727C5AC#32 = ((eps : ℝ) : EReal) := by
  unfold eps; simp [Ideal.ofBits, Ideal.ieee, -EReal.coe_mul]

/-- The residual's factor, the fourth root of 2 rounded to a float. -/
def alpha : ℝ := 9975792 * 2 ^ (-23 : ℤ)
theorem lit_alpha : Ideal.ofBits .f32 0x3F9837F0#32 = ((alpha : ℝ) : EReal) := by
  unfold alpha; simp [Ideal.ofBits, Ideal.ieee, -EReal.coe_mul]

theorem lit_top : Ideal.ofBits .f32 0x7F800000#32 = ⊤ := by simp [Ideal.ofBits, Ideal.ieee]
theorem lit_bot : Ideal.ofBits .f32 0xFF800000#32 = ⊥ := by simp [Ideal.ofBits, Ideal.ieee]

/-- What a precondition's test of one entry, less than ∞ and greater than -∞, says. -/
theorem coe_of_test {x : EReal}
    (h : IntOp.andi (BitVec.ofBool (decide (x < Ideal.ofBits .f32 0x7F800000#32)))
      (BitVec.ofBool (decide (Ideal.ofBits .f32 0xFF800000#32 < x))) = 1#1) : x = ((x.toReal : ℝ) : EReal) := by
  rw [lit_top, lit_bot] at h
  by_cases h1 : x < ⊤ <;> by_cases h2 : ⊥ < x <;> simp [h1, h2, IntOp.andi] at h
  exact coe_of_lt h1 h2

/-! Arrays of reals: a vector and a matrix whose entries are the given reals. -/

/-- The vector's entries are the reals `X`. -/
def Is1 {φ : FTy} {n : ℕ} (x : FVec Ideal ⟨1, ![n]⟩ φ) (X : Fin n → ℝ) : Prop :=
  ∀ l : Fin n, (x (ix1 l) : EReal) = ((X l : ℝ) : EReal)

/-- The matrix's entries are the reals `X`. -/
def Is2 {φ : FTy} {a b : ℕ} (x : FVec Ideal ⟨2, ![a, b]⟩ φ) (X : Fin a → Fin b → ℝ) : Prop :=
  ∀ (r : Fin a) (l : Fin b), (x (ix2 r l) : EReal) = ((X r l : ℝ) : EReal)

end Cert.Lift
-- ==== Proof.Math.LayerNorm.lean ====
/- The gradient of a layer norm on one row of 1024 real numbers: the form with the two means of the scaled cotangent,
   and the form that reverse-mode differentiation of the norm's own lines gives. They are equal. -/
module

public import proofs.«01_k».proof.Proof.Math.Lift

@[expose] public section

noncomputable section

namespace Cert.LayerNorm

open Cert.Lift

variable (x d : Fin 1024 → ℝ)

/-- The row less its mean. -/
def xc (l : Fin 1024) : ℝ := x l - (∑ k, x k) / 1024
/-- The variance plus ε. -/
def var : ℝ := (∑ k, xc x k * xc x k) / 1024 + eps
/-- The reciprocal standard deviation. -/
def rho : ℝ := (√(var x))⁻¹
/-- The normalised row. -/
def xhat (l : Fin 1024) : ℝ := xc x l * rho x
/-- The gradient of the norm at the cotangent `d`, already multiplied by the scale. -/
def bwd (l : Fin 1024) : ℝ := rho x * (d l - (∑ k, d k) / 1024 - xhat x l * ((∑ k, d k * xhat x k) / 1024))

theorem var_pos : 0 < var x := by
  have := eps_pos
  have h : 0 ≤ ∑ k, xc x k * xc x k := Finset.sum_nonneg fun k _ => mul_self_nonneg _
  unfold var; positivity

theorem sum_xc : ∑ k, xc x k = 0 := by
  simp only [xc, Finset.sum_sub_distrib, Finset.sum_const, Finset.card_univ, Fintype.card_fin, nsmul_eq_mul]
  push_cast; ring

theorem rho_div : rho x / var x = rho x ^ 3 := by
  have h := var_pos x
  have hs : √(var x) ^ 2 = var x := Real.sq_sqrt h.le
  have hp : √(var x) ≠ 0 := (Real.sqrt_pos.mpr h).ne'
  unfold rho; rw [← hs, Real.sqrt_sq (Real.sqrt_nonneg _)]; field_simp

/-- The gradient as the derivative of the norm's lines writes it, through the variance and the mean. -/
theorem bwd_eq (l : Fin 1024) :
    d l * rho x + (∑ k, xc x k * d k) * (-(1 / 2) * (rho x / var x)) / 1024 * (2 * xc x l)
      + (∑ k, -(d k * rho x)
          + ∑ k, -((∑ k, xc x k * d k) * (-(1 / 2) * (rho x / var x)) / 1024 * (2 * xc x k))) / 1024
    = bwd x d l := by
  have h1 : ∑ k, -(d k * rho x) = -(rho x * ∑ k, d k) := by
    rw [Finset.sum_neg_distrib, ← Finset.sum_mul, mul_comm]
  have h2 (s : ℝ) : ∑ k, -(s * (2 * xc x k)) = 0 := by
    rw [Finset.sum_neg_distrib, ← Finset.mul_sum, ← Finset.mul_sum, sum_xc]; ring
  have h3 : ∑ k, d k * xhat x k = rho x * ∑ k, xc x k * d k := by
    rw [Finset.mul_sum]; exact Finset.sum_congr rfl fun k _ => by unfold xhat; ring
  rw [h1, h2, rho_div]; unfold bwd; rw [h3]; unfold xhat; ring

end Cert.LayerNorm
-- ==== Proof.InProj.Reference.lean ====
module

public import proofs.«01_k».proof.Proof.Gen.InProjBwdRefIdeal.Run
public import proofs.«01_k».proof.Proof.Math.LayerNorm

/-! # The input projection's gradient with the entry norm's: what the reference computes -/

@[expose] public section
set_option maxRecDepth 16384
noncomputable section
namespace Cert.InProj
open Cert.Lift

/-- The reals in the arguments: the residual stream, the norm's scale, the projection, and the two cotangents. -/
structure Reals where
  x : Fin 2048 → Fin 1024 → ℝ
  g : Fin 1024 → ℝ
  w : Fin 1024 → Fin 3600 → ℝ
  dz : Fin 2048 → Fin 1024 → ℝ
  dp : Fin 2048 → Fin 3600 → ℝ

namespace Reals
variable (a : Reals)
/-- The cotangent of the normed rows: through the projection, and through the residual. -/
def dh (r : Fin 2048) (l : Fin 1024) : ℝ := alpha * a.dz r l + ∑ k, a.dp r k * a.w l k
/-- The gradient of the residual stream. -/
def dx (r : Fin 2048) (l : Fin 1024) : ℝ := LayerNorm.bwd (a.x r) (fun k => a.dh r k * a.g k) l
/-- The gradient of the scale. -/
def dg (l : Fin 1024) : ℝ := ∑ r, a.dh r l * LayerNorm.xhat (a.x r) l
/-- The gradient of the shift. -/
def db (l : Fin 1024) : ℝ := ∑ r, a.dh r l
/-- The array of both rows, as the kernel lays it out. -/
def acc (i : Fin 8) (l : Fin 1024) : ℝ := if i.val = 0 then a.dg l else if i.val = 1 then a.db l else 0
end Reals

namespace Ref
open Cert.InProjBwdRefIdeal Cert.InProjBwdRefIdeal.Gen Cert.InProjBwdRefIdeal.Value Idealize.ShloMosaic Idealize.ShloMosaic.TcCoe Idealize.SL.Sem

variable (a : Reals) (m : (ℓ : Loc nD τ sig) → Buf (Elt Ideal) ℓ) (c : Dev nD)

/-- The reference's argument arrays hold the reals `a`. -/
structure Holds : Prop where
  x : Is2 (φ := .f32) (m ((c.tc : Thread nD τ).loc main_arg0)) a.x
  g : Is1 (φ := .f32) (m ((c.tc : Thread nD τ).loc main_arg1)) a.g
  w : Is2 (φ := .f32) (m ((c.tc : Thread nD τ).loc main_arg3)) a.w
  dz : Is2 (φ := .f32) (m ((c.tc : Thread nD τ).loc main_arg4)) a.dz
  dp : Is2 (φ := .f32) (m ((c.tc : Thread nD τ).loc main_arg5)) a.dp

/-- The reference's gradient of the residual stream. -/
theorem dx (h : Holds a m c) (r : Fin 2048) (l : Fin 1024) :
    (show EReal from res_out0 m c (ix2 r l)) = ((a.dx r l : ℝ) : EReal) := by
  obtain ⟨hx, hg, hw, hdz, hdp⟩ := h
  unfold res_out0 res_main_v68
  generalize m ((c.tc : Thread nD τ).loc main_arg0) = x at *
  generalize m ((c.tc : Thread nD τ).loc main_arg1) = g at *
  generalize m ((c.tc : Thread nD τ).loc main_arg2) = b at *
  generalize m ((c.tc : Thread nD τ).loc main_arg3) = w at *
  generalize m ((c.tc : Thread nD τ).loc main_arg4) = dz at *
  generalize m ((c.tc : Thread nD τ).loc main_arg5) = dp at *
  unfold Is1 Is2 at *
  have hv := fun r => LayerNorm.var_pos (a.x r)
  simp only [LayerNorm.var, LayerNorm.xc] at hv
  pointwise [hx, hg, hw, hdz, hdp]
  simp only [zero_add, lit_1024, lit_eps, lit_alpha, lit_two, lit_neg_half, coe_sum, ← EReal.coe_mul, ← EReal.coe_add,
    ← EReal.coe_sub, ← EReal.coe_neg, div_real (show (1024 : ℝ) ≠ 0 by norm_num), rsqrt_real (hv _), div_real (hv _).ne',
    Fin.sum_univ_one]
  congr 1
  refine Eq.trans ?_ (LayerNorm.bwd_eq (a.x r) (fun k => a.dh r k * a.g k) l)
  simp only [LayerNorm.rho, LayerNorm.var, LayerNorm.xc, Reals.dh, add_comm (alpha * _)]

/-- The reference's run, its two results read as real arrays. -/
theorem run (a : Dev nD → Reals) (g : Dev nD → PrngReg) (h : ∀ c, Holds (a c) m c) :
    θ_run defs (onTc (τ := τ) (main (F := Ideal))) ⟨m, fun _ => 0, g⟩ fun r => ∀ c : Dev nD,
      r.2.mem ((c.tc : Thread nD τ).loc main_v68) = (fun j : S2048x1024.Idx => (((a c).dx (j 0) (j 1) : ℝ) : EReal))
      ∧ r.2.mem ((c.tc : Thread nD τ).loc main_v72) = (fun j : S8x1024.Idx => (((a c).acc (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r hr c => ⟨(hr c).1.trans (funext fun j => ?_), (hr c).2.1.trans (funext fun j => ?_), (hr c).2.2⟩) (Value.run m g)
  · rw [eq_ix2 j]; exact dx (a c) m c (h c) _ _
  · clear hr
    obtain ⟨hx, hg, hw, hdz, hdp⟩ := h c
    generalize m ((c.tc : Thread nD τ).loc main_arg0) = x at *
    generalize m ((c.tc : Thread nD τ).loc main_arg1) = g at *
    generalize m ((c.tc : Thread nD τ).loc main_arg2) = b at *
    generalize m ((c.tc : Thread nD τ).loc main_arg3) = w at *
    generalize m ((c.tc : Thread nD τ).loc main_arg4) = dz at *
    generalize m ((c.tc : Thread nD τ).loc main_arg5) = dp at *
    unfold Is1 Is2 at *
    have hv := fun r => LayerNorm.var_pos ((a c).x r)
    simp only [LayerNorm.var, LayerNorm.xc] at hv
    idx_vars j
    pointwise [hx, hg, hw, hdz, hdp]
    simp only [zero_add, lit_1024, lit_eps, lit_alpha, lit_two, lit_neg_half, coe_sum, ← EReal.coe_mul, ← EReal.coe_add,
      ← EReal.coe_sub, ← EReal.coe_neg, div_real (show (1024 : ℝ) ≠ 0 by norm_num), rsqrt_real (hv _), div_real (hv _).ne',
      Fin.sum_univ_one]
    simp only [Reals.acc, Reals.dg, Reals.db, Reals.dh, LayerNorm.xhat, LayerNorm.rho, LayerNorm.var, LayerNorm.xc,
      add_comm (alpha * _)]
    rcases (by omega : j0.val = 0 ∨ j0.val = 1 ∨ 2 ≤ j0.val) with h0 | h0 | h0
    · simp [h0, mul_comm]
    · simp [h0]
    · rw [dif_neg (by omega), dif_neg (by omega), if_neg (by omega), if_neg (by omega)]; rfl
end Ref
end Cert.InProj
-- ==== Proof.Math.Rows.lean ====
module

public import Idealize.ShloMosaic.Lib.Pipeline.ValueKit
public import Idealize.ShloMosaic.Lib.WritesUnit
public import Idealize.ShloMosaic.Lib.Pointwise

/-! # Stores and loads of whole rows of a small array -/

@[expose] public section
noncomputable section
namespace Cert.Rows
open Idealize.ShloMosaic Idealize.SL.Sem

variable {n w : ℕ} {e : EltTy} {Val : EltTy → Type} [∀ e, Nonempty (Val e)]

/-- What stores of whole rows leave, read at a row: the newest row's store, or what the older stores left. -/
theorem canon_row {i : ℕ} (inb : ∀ a, (![i, 0] : Fin 2 → ℕ) a + (![1, w] : Fin 2 → ℕ) a ≤ (![n, w] : Fin 2 → ℕ) a)
    (p : (Rect.unit (s := ⟨2, ![n, w]⟩) ![i, 0] ![1, w] inb).shape.Idx → Val e) (L : List (View.Piece Val ⟨2, ![n, w]⟩ e)) (r : Fin n) (l : Fin w) :
    View.canon ((⟨Rect.unit (s := ⟨2, ![n, w]⟩) ![i, 0] ![1, w] inb, p⟩ : View.Piece Val ⟨2, ![n, w]⟩ e) :: L) (ix2 r l)
      = if r.val = i then p (ix2 (0 : Fin 1) l) else View.canon L (ix2 r l) := by
  split_ifs with h
  · have e : (Rect.unit (s := ⟨2, ![n, w]⟩) ![i, 0] ![1, w] inb).emb (ix2 (0 : Fin 1) l) = ix2 r l := by
      funext a; apply Fin.ext; fin_cases a
      · show i + 1 * 0 = r.val; omega
      · show 0 + 1 * l.val = l.val; omega
    rw [← e]; exact View.canon_cons_emb _ p L _
  · refine View.canon_cons_of_not_mem _ L fun hm => h ?_
    have := (Rect.mem_set_unit (inb := inb)).1 hm 0
    change i ≤ r.val ∧ r.val < i + 1 at this
    omega

/-- The same of stores over given contents. -/
theorem read_row {sig : RefSig} {κ : Kind} {sp : Space} (v : View sig κ sp ⟨2, ![n, w]⟩ e) (f : v.ty.Contents Val) {i : ℕ}
    (inb : ∀ a, (![i, 0] : Fin 2 → ℕ) a + (![1, w] : Fin 2 → ℕ) a ≤ (![n, w] : Fin 2 → ℕ) a)
    (p : (Rect.unit (s := ⟨2, ![n, w]⟩) ![i, 0] ![1, w] inb).shape.Idx → Val e) (L : List (View.Piece Val ⟨2, ![n, w]⟩ e)) (r : Fin n) (l : Fin w) :
    v.read Val (v.writes Val f ((⟨Rect.unit (s := ⟨2, ![n, w]⟩) ![i, 0] ![1, w] inb, p⟩ : View.Piece Val ⟨2, ![n, w]⟩ e) :: L)) (ix2 r l)
      = if r.val = i then p (ix2 (0 : Fin 1) l) else v.read Val (v.writes Val f L) (ix2 r l) := by
  split_ifs with h
  · exact View.read_writes_cons_unit_of_mem v f inb p L _ (ix2 (0 : Fin 1) l) rfl fun a => by
      fin_cases a
      · show r.val = i + 0; omega
      · show l.val = 0 + l.val; omega
  · exact View.read_writes_cons_unit_of_not_mem v f inb p L _ rfl 0 (by
      show r.val < i ∨ i + 1 ≤ r.val; omega)

/-- A load of one row, of stores that cover it. -/
theorem readCov_row {sig : RefSig} {κ : Kind} {sp : Space} (v : View sig κ sp ⟨2, ![n, w]⟩ e) {i : ℕ}
    (inb : ∀ a, (![i, 0] : Fin 2 → ℕ) a + (![1, w] : Fin 2 → ℕ) a ≤ (![n, w] : Fin 2 → ℕ) a)
    (L : List (View.Piece Val ⟨2, ![n, w]⟩ e)) (hi : i < n) (l : Fin w) :
    v.readCov L (Rect.unit (s := ⟨2, ![n, w]⟩) ![i, 0] ![1, w] inb).toLoadRect (ix2 (0 : Fin 1) l) = View.canon L (ix2 ⟨i, hi⟩ l) := by
  rw [View.readCov_eq_canon']
  refine congrArg (View.canon L) ?_
  funext a; apply Fin.ext; fin_cases a
  · show i + 1 * 0 = i; omega
  · show 0 + 1 * l.val = l.val; omega

end Cert.Rows
-- ==== Proof.InProj.Kernel.lean ====
module

public import proofs.«01_k».proof.Proof.Gen.InProjBwdIdeal.Value
public import proofs.«01_k».proof.Proof.InProj.Reference
public import proofs.«01_k».proof.Proof.Math.Rows
public import Idealize.ShloMosaic.Lib.Pipeline.ValueKit
public import Idealize.ShloMosaic.Lib.Claim

/-! # The input projection's gradient with the entry norm's: what the kernel computes

The pallas_call walks the 2048 rows in four blocks of 512. Each block writes its own rows of the gradient of the residual
stream, and adds its rows' share of the gradients of the norm's scale and shift to rows 0 and 1 of one array that all blocks share. -/

@[expose] public section
set_option maxRecDepth 16384
noncomputable section
namespace Cert.InProj
open Cert.Lift
namespace Ker
open Cert.InProjBwdIdeal Cert.InProjBwdIdeal.Gen Idealize.ShloMosaic Idealize.ShloMosaic.TcCoe Idealize.SL.Sem
open Idealize.ShloMosaic.Pipeline (Dat)

/-- The cotangent of the normed rows, from one block's rows. -/
theorem pay5 (v3 : FVec Ideal S512x1024 .f32) (v6 : FVec Ideal S512x3712 .bf16) (v8 : FVec Ideal S1024x3712 .bf16)
    (DH : Fin 512 → Fin 1024 → ℝ)
    (h : ∀ (p : Fin 512) (l : Fin 1024), Ideal.ofBits .f32 0x3F9837F0#32 * v3 (ix2 p l) + ∑ k : Fin 3712, v6 (ix2 p k) * v8 (ix2 l k) = ((DH p l : ℝ) : EReal)) :
    Is2 (k0_pay5 v3 v6 v8) DH := fun p l => by
  pointwise [k0_pay5]
  exact h p l

/-- The gradient of the residual stream, from one block's rows. -/
theorem pay1 (v3 : FVec Ideal S512x1024 .f32) (v6 : FVec Ideal S512x3712 .bf16) (v8 : FVec Ideal S1024x3712 .bf16)
    (v12 : FVec Ideal S512x1024 .f32) (v29 : FVec Ideal S1x1024 .f32) (X DH : Fin 512 → Fin 1024 → ℝ) (G : Fin 1024 → ℝ)
    (hd : Is2 (k0_pay5 v3 v6 v8) DH) (hx : Is2 v12 X) (hg : ∀ l : Fin 1024, v29 (ix2 0 l) = ((G l : ℝ) : EReal)) :
    Is2 (k0_pay1 (k0_pay7 v12) (k0_pay8 v12) (k0_pay9 v3 v6 v8 v29) (k0_pay10 v3 v6 v8 v29))
      (fun p l => LayerNorm.bwd (X p) (fun k => DH p k * G k) l) := fun p l => by
  have hv := fun r => LayerNorm.var_pos (X r)
  simp only [LayerNorm.var, LayerNorm.xc] at hv
  unfold Is2 at *
  pointwise [k0_pay1, k0_pay6, k0_pay7, k0_pay8, k0_pay9, k0_pay10, hd, hx, hg]
  simp only [zero_add, lit_1024, lit_eps, coe_sum, ← EReal.coe_mul, ← EReal.coe_add,
      ← EReal.coe_sub, ← EReal.coe_neg, div_real (show (1024 : ℝ) ≠ 0 by norm_num), rsqrt_real (hv _)]
  rfl

/-- Row 0: the scale's gradient so far and this block's share. -/
theorem pay2 (v11 v12 : FVec Ideal S512x1024 .f32) (v50 : FVec Ideal S1x1024 .f32) (X DH : Fin 512 → Fin 1024 → ℝ)
    (hd : Is2 v11 DH) (hx : Is2 v12 X) (l : Fin 1024) :
    k0_pay2 v11 (k0_pay8 v12) v50 (ix2 0 l) = v50 (ix2 0 l) + ((∑ p, DH p l * LayerNorm.xhat (X p) l : ℝ) : EReal) := by
  have hv := fun r => LayerNorm.var_pos (X r)
  simp only [LayerNorm.var, LayerNorm.xc] at hv
  unfold Is2 at *
  pointwise [k0_pay2, k0_pay6, k0_pay7, k0_pay8, hd, hx]
  simp only [zero_add, lit_1024, lit_eps, coe_sum, ← EReal.coe_mul, ← EReal.coe_add,
      ← EReal.coe_sub, ← EReal.coe_neg, div_real (show (1024 : ℝ) ≠ 0 by norm_num), rsqrt_real (hv _)]
  rfl

/-- Row 1: the shift's gradient so far and this block's share. -/
theorem pay3 (v11 : FVec Ideal S512x1024 .f32) (v57 : FVec Ideal S1x1024 .f32) (DH : Fin 512 → Fin 1024 → ℝ)
    (hd : Is2 v11 DH) (l : Fin 1024) :
    k0_pay3 v11 v57 (ix2 0 l) = v57 (ix2 0 l) + ((∑ p, DH p l : ℝ) : EReal) := by
  unfold Is2 at *
  pointwise [k0_pay3, hd]
  simp only [zero_add, coe_sum]

variable (m : (ℓ : Loc nD τ sig) → Buf (Elt Ideal) ℓ) (c : Dev nD)

/-- The blocks' places. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] ∧ t.val < 4 :=
  (by decide +kernel : ∀ t : Fin grid0.N, _)

/-- Row `p` of block `t`. -/
def row (t : Fin cfg0.N) (p : Fin 512) : Fin 2048 := ⟨t.val * 512 + p.val, by have := (idx t).2.2.2.2.2.2.2; omega⟩

/-- Block `t` of the residual stream holds its rows `512 t ..`. -/
theorem blk3 (t : Fin cfg0.N) (p : Fin 512) (l : Fin 1024) :
    (show FVec Ideal S512x1024 .f32 from iblk m c 3 t) (ix2 p l) = (show FVec Ideal S2048x1024 .f32 from m ((c.tc : Thread nD τ).loc main_arg0)) (ix2 (row t p) l) := by
  blk_point [iblk, V, idx t, row]
/-- The scale, staged whole. -/
theorem blk4 (t : Fin cfg0.N) (l : Fin 1024) :
    (show FVec Ideal S1x1024 .f32 from iblk m c 4 t) (ix2 0 l) = (show FVec Ideal S1024 .f32 from m ((c.tc : Thread nD τ).loc main_arg1)) (ix1 l) := by
  blk_point [iblk, V, idx t]
/-- Block `t` of the projection's cotangent. -/
theorem blk0 (t : Fin cfg0.N) (p : Fin 512) (l : Fin 3712) :
    (show FVec Ideal S512x3712 .bf16 from iblk m c 0 t) (ix2 p l) = (show FVec Ideal S2048x3712 .bf16 from V m c (Pipeline.arrRef spec0 0)) (ix2 (row t p) l) := by
  blk_ext [iblk, idx t, row]
/-- The cotangent's 3600 columns in the kernel's order, in a width of 3712. -/
def colsX (x : FVec Ideal S2048x3600 .f32) : FVec Ideal S2048x3712 .bf16 :=
  truncf .bf16 (concatenate S2048x3712 1
    [⟨S2048x2048, extractStridedSlice S2048x2048 ![0, 0] x slices_S2048x3600_S2048x2048_0_0⟩,
     ⟨S2048x1536, extractStridedSlice S2048x1536 ![0, 2056] x slices_S2048x3600_S2048x1536_0_2056⟩,
     ⟨S2048x8, extractStridedSlice S2048x8 ![0, 2048] x slices_S2048x3600_S2048x8_0_2048⟩,
     ⟨S2048x8, extractStridedSlice S2048x8 ![0, 3592] x slices_S2048x3600_S2048x8_0_3592⟩,
     ⟨S2048x112, broadcastInDim S2048x112 ![] bcast_S_S2048x112 (constant S_ .f32 0x00000000#32)⟩]
    concatenates_S2048x2048_S2048x1536_S2048x8_S2048x8_S2048x112_S2048x3712_d1) bitsLt_bf16_f32
/-- The projection's cotangent, as the host lays it out. -/
theorem arr0 : V m c (Pipeline.arrRef spec0 0) = colsX (m ((c.tc : Thread nD τ).loc main_arg5)) := by
  unfold V
  rfl
/-- The projection's 3600 columns in the kernel's order, in a width of 3712. -/
def colsW (x : FVec Ideal S1024x3600 .f32) : FVec Ideal S1024x3712 .bf16 :=
  truncf .bf16 (concatenate S1024x3712 1
    [⟨S1024x2048, extractStridedSlice S1024x2048 ![0, 0] x slices_S1024x3600_S1024x2048_0_0⟩,
     ⟨S1024x1536, extractStridedSlice S1024x1536 ![0, 2056] x slices_S1024x3600_S1024x1536_0_2056⟩,
     ⟨S1024x8, extractStridedSlice S1024x8 ![0, 2048] x slices_S1024x3600_S1024x8_0_2048⟩,
     ⟨S1024x8, extractStridedSlice S1024x8 ![0, 3592] x slices_S1024x3600_S1024x8_0_3592⟩,
     ⟨S1024x112, broadcastInDim S1024x112 ![] bcast_S_S1024x112 (constant S_ .f32 0x00000000#32)⟩]
    concatenates_S1024x2048_S1024x1536_S1024x8_S1024x8_S1024x112_S1024x3712_d1) bitsLt_bf16_f32
/-- The projection, as the host lays it out. -/
theorem arr1 : V m c (Pipeline.arrRef spec0 1) = colsW (m ((c.tc : Thread nD τ).loc main_arg3)) := by
  unfold V
  rfl

/-- The projection, staged whole. -/
theorem blk1 (t : Fin cfg0.N) (l : Fin 1024) (k : Fin 3712) :
    (show FVec Ideal S1024x3712 .bf16 from iblk m c 1 t) (ix2 l k) = (show FVec Ideal S1024x3712 .bf16 from V m c (Pipeline.arrRef spec0 1)) (ix2 l k) := by
  blk_ext [iblk, idx t]
/-- Block `t` of the residual's cotangent. -/
theorem blk2 (t : Fin cfg0.N) (p : Fin 512) (l : Fin 1024) :
    (show FVec Ideal S512x1024 .f32 from iblk m c 2 t) (ix2 p l) = (show FVec Ideal S2048x1024 .f32 from m ((c.tc : Thread nD τ).loc main_arg4)) (ix2 (row t p) l) := by
  blk_point [iblk, V, idx t, row]

/-- A sum over 3712 places that hold the terms of 3600 in the kernel's order, then zeros. -/
theorem sum_cols (F G : ℕ → EReal) (h1 : ∀ k < 2048, G k = F k) (h2 : ∀ k < 1536, G (2048 + k) = F (2056 + k))
    (h3 : ∀ k < 8, G (3584 + k) = F (2048 + k)) (h4 : ∀ k < 8, G (3592 + k) = F (3592 + k)) (h5 : ∀ k < 112, G (3600 + k) = 0) :
    ∑ k ∈ Finset.range 3712, G k = ∑ k ∈ Finset.range 3600, F k := by
  rw [show 3712 = 2048 + 1536 + 8 + 8 + 112 from rfl, show 3600 = 2048 + 8 + 1536 + 8 from rfl]
  simp only [Finset.sum_range_add]
  have e : ∀ {n : ℕ} {f g : ℕ → EReal}, (∀ k < n, f k = g k) → ∑ k ∈ Finset.range n, f k = ∑ k ∈ Finset.range n, g k :=
    fun h => Finset.sum_congr rfl fun k hk => h k (Finset.mem_range.1 hk)
  rw [e h1, e (n := 1536) h2, e (n := 8) h3, e (n := 8) h4, e (n := 112) (g := fun _ => 0) h5, Finset.sum_const_zero, add_zero,
    add_right_comm (∑ k ∈ Finset.range 2048, F k)]

/-- The product over the kernel's columns is the product over the 3600 columns. -/
theorem dot_cols (x : FVec Ideal S2048x3600 .f32) (y : FVec Ideal S1024x3600 .f32) (r : Fin 2048) (l : Fin 1024) :
    ∑ k : Fin 3712, colsX x (ix2 r k) * colsW y (ix2 l k) = ∑ k : Fin 3600, x (ix2 r k) * y (ix2 l k) := by
  have e := sum_cols (fun k => if h : k < 3600 then x (ix2 r ⟨k, h⟩) * y (ix2 l ⟨k, h⟩) else 0)
    (fun k => if h : k < 3712 then colsX x (ix2 r ⟨k, h⟩) * colsW y (ix2 l ⟨k, h⟩) else 0) ?_ ?_ ?_ ?_ ?_
  · simpa [Finset.sum_range] using e
  all_goals
    intro k hk
    beta_reduce
    rw [dif_pos (by omega)]
    pointwise [colsX, colsW]
    split_ifs <;> first
      | omega
      | exact zero_mul _
      | rfl
      | (rw [dif_pos (by omega)]; done)
      | (rw [dif_pos (by omega)]
         simp only [show 3584 + k - 2048 - 1536 = k by omega, show 3592 + k - 2048 - 1536 - 8 = k by omega])

/-- The kernel's argument arrays hold the reals `a`. -/
structure Holds (a : Reals) : Prop where
  x : Is2 (φ := .f32) (m ((c.tc : Thread nD τ).loc main_arg0)) a.x
  g : Is1 (φ := .f32) (m ((c.tc : Thread nD τ).loc main_arg1)) a.g
  w : Is2 (φ := .f32) (m ((c.tc : Thread nD τ).loc main_arg3)) a.w
  dz : Is2 (φ := .f32) (m ((c.tc : Thread nD τ).loc main_arg4)) a.dz
  dp : Is2 (φ := .f32) (m ((c.tc : Thread nD τ).loc main_arg5)) a.dp

variable {m c} {a : Reals} (h : Holds m c a)
include h

/-- Block `t` computes the cotangent of its normed rows. -/
theorem dh (t : Fin cfg0.N) :
    Is2 (k0_pay5 (F := Ideal) (iblk m c 2 t) (iblk m c 0 t) (iblk m c 1 t)) (fun p l => a.dh (row t p) l) := by
  refine pay5 _ _ _ _ fun p l => ?_
  have ed := (Finset.sum_congr rfl fun k _ => congrArg₂ (· * ·) (blk0 m c t p k) (blk1 m c t l k)).trans
    (by rw [arr0, arr1] : ∑ k : Fin 3712, (show FVec Ideal S2048x3712 .bf16 from V m c (Pipeline.arrRef spec0 0)) (ix2 (row t p) k)
        * (show FVec Ideal S1024x3712 .bf16 from V m c (Pipeline.arrRef spec0 1)) (ix2 l k)
      = ∑ k : Fin 3712, colsX (m ((c.tc : Thread nD τ).loc main_arg5)) (ix2 (row t p) k) * colsW (m ((c.tc : Thread nD τ).loc main_arg3)) (ix2 l k))
  refine (congrArg₂ (fun u v : EReal => Ideal.ofBits .f32 0x3F9837F0#32 * u + v) ((blk2 m c t p l).trans (h.dz _ _))
    ((ed.trans (dot_cols _ _ (row t p) l)).trans
      (Finset.sum_congr rfl fun k _ => congrArg₂ (· * ·) (h.dp (row t p) k) (h.w l k)))).trans ?_
  simp only [lit_alpha, coe_sum, ← EReal.coe_mul, ← EReal.coe_add]
  rfl

/-- Block `t` of the residual stream, as reals. -/
theorem bx (t : Fin cfg0.N) : Is2 (φ := .f32) (iblk m c 3 t) (fun p l => a.x (row t p) l) := fun p l => (blk3 m c t p l).trans (h.x _ _)
/-- The scale, as reals. -/
theorem bg (t : Fin cfg0.N) (l : Fin 1024) : (show FVec Ideal S1x1024 .f32 from iblk m c 4 t) (ix2 0 l) = ((a.g l : ℝ) : EReal) :=
  (blk4 m c t l).trans (h.g _)

/-- What block `t` writes of the gradient of the residual stream. -/
theorem point5 (t : Fin cfg0.N) (y : S512x1024.Idx) :
    k0_pay1 (F := Ideal) (k0_pay7 (iblk m c 3 t)) (k0_pay8 (iblk m c 3 t)) (k0_pay9 (iblk m c 2 t) (iblk m c 0 t) (iblk m c 1 t) (iblk m c 4 t))
      (k0_pay10 (iblk m c 2 t) (iblk m c 0 t) (iblk m c 1 t) (iblk m c 4 t)) y = ((a.dx (row t (y 0)) (y 1) : ℝ) : EReal) := by
  idx_vars y
  exact pay1 _ _ _ _ _ _ _ _ (dh h t) (bx h t) (bg h t) _ _

/-- The gradient of the residual stream. -/
theorem final5 : (dats m 0 c).arrAt 5 cfg0.N = fun j => ((a.dx (j 0) (j 1) : ℝ) : EReal) := by
  refine (dats m 0 c).arrAt_eq_of_covers 5 _ (by decide +kernel) fun t _ y => ?_
  blk_simp
  rw [after0_5]
  have e0 : ((View.whole main_v16_0).slice (win0_5.rect t)).emb y 0 = row t (y 0) := by
    apply Fin.ext; blk_simp [idx t, row]
  have e1 : ((View.whole main_v16_0).slice (win0_5.rect t)).emb y 1 = y 1 := by
    apply Fin.ext; blk_simp [idx t, row]
  by_cases h0 : t.val % 4 = 0
  · rw [outsAt0_A m c t h0]
    frame_out
    exact (point5 h t y).trans (by rw [e0, e1])
  · rw [outsAt0_B m c t h0]
    frame_out
    exact (point5 h t y).trans (by rw [e0, e1])

/-- What block `t` adds to the rows of the small gradients. -/
def part (a : Reals) (t : Fin cfg0.N) (j : S8x1024.Idx) : EReal :=
  if (j 0).val = 1 then ((∑ p, a.dh (row t p) (j 1) : ℝ) : EReal)
  else if (j 0).val = 0 then ((∑ p, a.dh (row t p) (j 1) * LayerNorm.xhat (a.x (row t p)) (j 1) : ℝ) : EReal) else 0

/-- The gradients of the norm's scale and shift. -/
theorem final6 : (dats m 0 c).arrAt 6 cfg0.N = fun j => ((a.acc (j 0) (j 1) : ℝ) : EReal) := by
  refine (dats m 0 c).arrAt_eq_of_after_last 6 t0_3 (by decide +kernel) _ fun j => ?_
  blk_simp
  rw [after0_6, Pipeline.eq_sum_fin_of_reset_step_apply_last (fun n h => (outsAt0 m c n h).2) 4 (fun _ => 0) (part a)
    (fun t h0 j => by
      rw [outsAt0_A m c t h0]
      frame_out
      idx_vars j
      rw [Rows.canon_row, Rows.canon_row, pay3 _ _ _ (dh h t), pay2 _ _ _ _ _ (dh h t) (bx h t),
        Rows.readCov_row _ _ _ (show 1 < 8 by decide), Rows.readCov_row _ _ _ (show 0 < 8 by decide), Rows.canon_row,
        View.canon_cons_unit_lit' _ _ _ (by decide)]
      pointwise [k0_pay4, part])
    (fun t h0 j => by
      rw [outsAt0_B m c t h0]
      frame_out
      idx_vars j
      rw [Rows.read_row, Rows.read_row, pay3 _ _ _ (dh h t), pay2 _ _ _ _ _ (dh h t) (bx h t)]
      rw [View.writes_nil, Memref.IsWhole.read_unread]
      pointwise [part]
      split_ifs with h1 h2
      · obtain rfl : j0 = 1 := Fin.ext h1
        rfl
      · obtain rfl : j0 = 0 := Fin.ext h2
        rfl
      · exact (add_zero _).symm) (le_of_eq N_0) t0_3 rfl j, zero_add]
  have e := fun f : Fin 2048 → ℝ => Fin.sum_univ_tiles 4 512 rfl f
  unfold Reals.acc Reals.dg Reals.db
  split_ifs with h1 h2
  · have h3 : ¬ (j 0).val = 1 := by omega
    simp only [part, h3, h1, if_true, if_false, coe_sum]
    rw [e]
    rfl
  · simp only [part, h2, if_true, coe_sum]
    rw [e]
    rfl
  · simp only [part, h1, h2, if_false, Finset.sum_const_zero]
    rfl

end Ker
end Cert.InProj
-- ==== Proof.InProj.Claim.lean ====
module

public import proofs.«01_k».proof.Defs
public import proofs.«01_k».proof.Proof.Gen.InProjBwdIdeal
public import proofs.«01_k».proof.Proof.Gen.InProjBwdRefIdeal
public import proofs.«01_k».proof.Proof.Gen.Pre_in_proj_finite
public import proofs.«01_k».proof.Proof.InProj.Kernel
public import proofs.«01_k».proof.Proof.InProj.Reference

/-! # The gradient of the entry norm: kernel and reference agree on finite arguments -/

@[expose] public section
set_option maxRecDepth 16384
noncomputable section
namespace Cert.InProj
open Cert.Lift Idealize.ShloMosaic Idealize.ShloMosaic.TcCoe Idealize.SL.Sem Cert.InProjBwdIdeal

/-- The reals in the kernel's arguments. -/
def reals (m : (ℓ : Loc nD τ sig) → Buf (Elt Ideal) ℓ) (c : Dev nD) : Reals where
  x r l := EReal.toReal (m ((c.tc : Thread nD τ).loc main_arg0) (ix2 r l))
  g l := EReal.toReal (m ((c.tc : Thread nD τ).loc main_arg1) (ix1 l))
  w r l := EReal.toReal (m ((c.tc : Thread nD τ).loc main_arg3) (ix2 r l))
  dz r l := EReal.toReal (m ((c.tc : Thread nD τ).loc main_arg4) (ix2 r l))
  dp r l := EReal.toReal (m ((c.tc : Thread nD τ).loc main_arg5) (ix2 r l))

open Cert.Pre_in_proj_finite in
/-- Under the precondition the arguments are those reals. -/
theorem holds (m : (ℓ : Loc nD τ sig) → Buf (Elt Ideal) ℓ) (hp : Cert.Pre_InProjBwdIdeal_in_proj_finite m) (c : Dev nD) :
    Ker.Holds m c (reals m c) := by
  obtain ⟨h0, h1, h2, h3, h4⟩ := hp c
  refine ⟨fun r l => ?_, fun l => ?_, fun r l => ?_, fun r l => ?_, fun r l => ?_⟩
  · have h := congrFun h0 (ix2 r l)
    pointwise [fn, fn_part1] at h
    exact coe_of_test h
  · have h := congrFun h1 (ix1 l)
    pointwise [fn, fn_part1] at h
    exact coe_of_test h
  · have h := congrFun h2 (ix2 r l)
    pointwise [fn, fn_part1] at h
    exact coe_of_test h
  · have h := congrFun h3 (ix2 r l)
    pointwise [fn, fn_part1] at h
    exact coe_of_test h
  · have h := congrFun h4 (ix2 r l)
    pointwise [fn, fn_part1] at h
    exact coe_of_test h

/-- Kernel and reference return the same two arrays. -/
theorem algebraic : Cert.algebraic_InProjBwdIdeal_InProjBwdRefIdeal_pre_in_proj_finite := by
  intro m g m' g' hp hm
  have hk := holds m hp
  have hr : ∀ c, Ref.Holds (reals m c) m' c := fun c => by
    obtain ⟨e0, e1, e2, e3, e4, e5⟩ := hm c
    exact ⟨fun r l => (congrFun e0 _).trans ((hk c).x r l), fun l => (congrFun e1 _).trans ((hk c).g l),
      fun r l => (congrFun e3 _).trans ((hk c).w r l), fun r l => (congrFun e4 _).trans ((hk c).dz r l),
      fun r l => (congrFun e5 _).trans ((hk c).dp r l)⟩
  refine ⟨fun c j => (((reals m c).dx (j 0) (j 1) : ℝ) : EReal), fun c j => (((reals m c).acc (j 0) (j 1) : ℝ) : EReal), ?_,
    Ref.run m' (reals m) g' hr⟩
  exact (θ_run _ _ _).mono (fun r h c => ⟨(h c).1.trans (Ker.final5 (hk c)), (h c).2.1.trans (Ker.final6 (hk c)), (h c).2.2⟩)
    (Cert.InProjBwdIdeal.Value.run_blocks m g)

/-- The reference alone: it terminates, keeps its arguments and leaves every counter at zero. -/
theorem ref_frame : Cert.quiescent_InProjBwdRefIdeal := fun m g _ =>
  (θ_run _ _ _).mono (fun r h => ⟨fun c => (h c).2.2, sem_eq_zero_of_no_sems (by decide) r.2⟩) (Cert.InProjBwdRefIdeal.Value.run m g)

end Cert.InProj
-- ==== Proof.Fox.Attention.lean ====
module

public import proofs.«01_k».proof.Proof.Math.Lift

/-! # The forgetting attention's gradients, as reals -/

@[expose] public section
noncomputable section
namespace Cert.Fox
open Cert.Lift Idealize.ShloMosaic

/-- The reals in the arguments: queries, keys, values and the output's cotangent (token, head, lane), and the log forget
    gates summed along the sequence (head, token). -/
structure Reals where
  (q k v d : Fin 2048 → Fin 8 → Fin 64 → ℝ)
  c : Fin 8 → Fin 2048 → ℝ

namespace Reals
variable (a : Reals)

/-- The logits, without the term that a query's row shares. -/
def z (h : Fin 8) (r u : Fin 2048) : ℝ := (∑ l, a.q r h l * a.k u h l) * (1 / 8) - a.c h u
/-- The exponentials of a row's logits, over the keys up to the query. -/
def e (h : Fin 8) (r u : Fin 2048) : ℝ := if u ≤ r then Real.exp (a.z h r u) else 0
/-- The softmax's denominator. -/
def den (h : Fin 8) (r : Fin 2048) : ℝ := ∑ u, a.e h r u
/-- The softmax. -/
def w (h : Fin 8) (r u : Fin 2048) : ℝ := a.e h r u / a.den h r
/-- The attention's output. -/
def o (r : Fin 2048) (h : Fin 8) (l : Fin 64) : ℝ := ∑ u, a.w h r u * a.v u h l
/-- The output's product with its cotangent. -/
def dl (h : Fin 8) (r : Fin 2048) : ℝ := ∑ l, a.d r h l * a.o r h l
/-- The weights' cotangents. -/
def dp (h : Fin 8) (r u : Fin 2048) : ℝ := ∑ l, a.d r h l * a.v u h l
/-- The logits' cotangents. -/
def ds (h : Fin 8) (r u : Fin 2048) : ℝ := a.w h r u * (a.dp h r u - a.dl h r)

def dq (r : Fin 2048) (h : Fin 8) (l : Fin 64) : ℝ := (∑ u, a.ds h r u * a.k u h l) * (1 / 8)
def dk (u : Fin 2048) (h : Fin 8) (l : Fin 64) : ℝ := (∑ r, a.ds h r u * a.q r h l) * (1 / 8)
def dv (u : Fin 2048) (h : Fin 8) (l : Fin 64) : ℝ := ∑ r, a.w h r u * a.d r h l
def dcq (h : Fin 8) (r : Fin 2048) : ℝ := ∑ u, a.ds h r u
def dck (h : Fin 8) (u : Fin 2048) : ℝ := ∑ r, a.ds h r u

theorem den_pos (h : Fin 8) (r : Fin 2048) : 0 < a.den h r := by
  refine Finset.sum_pos' (fun u _ => ?_) ⟨r, Finset.mem_univ _, ?_⟩
  · unfold e; split_ifs <;> positivity
  · unfold e; rw [if_pos le_rfl]; positivity

theorem w_of_lt {h : Fin 8} {r u : Fin 2048} (hr : ¬ u ≤ r) : a.w h r u = 0 := by
  unfold w e; rw [if_neg hr, zero_div]

theorem w_of_le {h : Fin 8} {r u : Fin 2048} (hr : u ≤ r) : a.w h r u = Real.exp (a.z h r u - Real.log (a.den h r)) := by
  unfold w e; rw [if_pos hr, Real.exp_sub, Real.exp_log (a.den_pos h r)]

/-- A row's product of weights with their cotangents is the output's with its own. -/
theorem sum_w_dp (h : Fin 8) (r : Fin 2048) : ∑ u, a.w h r u * a.dp h r u = a.dl h r := by
  unfold dp dl o
  simp only [Finset.mul_sum]
  rw [Finset.sum_comm]
  exact Finset.sum_congr rfl fun l _ => Finset.sum_congr rfl fun u _ => by ring
end Reals

/-- A column's head and its lane in the head, where 8 heads of 64 lanes stand side by side. -/
def hd (l : Fin 512) : Fin 8 := ⟨l.val / 64, by have := l.isLt; omega⟩
def ln (l : Fin 512) : Fin 64 := ⟨l.val % 64, by have := l.isLt; omega⟩

namespace Reals
/-- The five results as the kernel lays them out: the heads side by side; the queries' gate gradient repeated on its head's
    lanes; the keys' in two of eight rows per pair of heads. -/
def out0 (a : Reals) (r : Fin 2048) (l : Fin 512) : ℝ := a.dq r (hd l) (ln l)
def out1 (a : Reals) (r : Fin 2048) (l : Fin 512) : ℝ := a.dk r (hd l) (ln l)
def out2 (a : Reals) (r : Fin 2048) (l : Fin 512) : ℝ := a.dv r (hd l) (ln l)
def out3 (a : Reals) (r : Fin 2048) (l : Fin 512) : ℝ := a.dcq (hd l) r
def out4 (a : Reals) (p : Fin 4) (b : Fin 8) (u : Fin 2048) : ℝ :=
  if h : b.val < 2 then a.dck ⟨2 * p.val + b.val, by have := p.isLt; omega⟩ u else 0
end Reals

/-- Arrays whose entries are the given reals, of three axes. -/
def Is3 {φ : FTy} {n m k : ℕ} (x : FVec Ideal ⟨3, ![n, m, k]⟩ φ) (X : Fin n → Fin m → Fin k → ℝ) : Prop :=
  ∀ r h l, (x (ix3 r h l) : EReal) = ((X r h l : ℝ) : EReal)

/-- A row of logits shifted by `x`, -∞ past the query. -/
def MaskedRows (s : FVec Ideal ⟨3, ![8, 2048, 2048]⟩ .f32) (z : Fin 8 → Fin 2048 → Fin 2048 → ℝ) : Prop :=
  ∀ h r u, (s (ix3 h r u) : EReal) = if u ≤ r then ((z h r u : ℝ) : EReal) else ⊥

end Cert.Fox
end
end
-- ==== Proof.Fox.Softmax.lean ====
module

public import proofs.«01_k».proof.Proof.Fox.Attention
public import proofs.«01_k».proof.Proof.Gen.FoxBwdRefIdeal

/-! # The softmax of the causal rows

Row by row the logits are reals up to the query and -∞ past it, so the row's maximum is a real, and dividing by it changes
neither the softmax nor the logarithm of its denominator. -/

@[expose] public section
set_option maxRecDepth 16384
noncomputable section
namespace Cert.Fox
open Cert.FoxBwdRefIdeal Cert.FoxBwdRefIdeal.Gen Cert.Lift
open Idealize.ShloMosaic Idealize.ShloMosaic.TcCoe

/-- Where a key comes up to the query. -/
def upTo : IVec S8x2048x2048 1 :=
  broadcastInDim S8x2048x2048 ![1, 2] bcast_S2048x2048_S8x2048x2048_1_2
    (cmpi .sle (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))

theorem sle_small {x y : ℕ} (hx : x < 2048) (hy : y < 2048) :
    IntOp.cmpi .sle (BitVec.ofNat 32 x) (BitVec.ofNat 32 y) = if x ≤ y then 1#1 else 0#1 := by
  have e : BitVec.sle (BitVec.ofNat 32 x) (BitVec.ofNat 32 y) = decide (x ≤ y) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  unfold IntOp.cmpi
  by_cases h : x ≤ y <;> simp [e, h]

theorem upTo_apply (h : Fin 8) (r u : Fin 2048) : upTo (ix3 h r u) = if u ≤ r then 1#1 else 0#1 := by
  pointwise [upTo]
  exact sle_small u.isLt r.isLt

/-- Choosing where a key comes up to the query. -/
theorem select_upTo (x y : FVec Ideal S8x2048x2048 .f32) (h : Fin 8) (r u : Fin 2048) :
    select upTo x y (ix3 h r u) = if u ≤ r then x (ix3 h r u) else y (ix3 h r u) := by
  have e := upTo_apply h r u
  pointwise [e]
  unfold Scalar.select
  by_cases hu : u ≤ r <;> simp [hu]

/-- The maximum of every row. -/
def rowMax (s : FVec Ideal S8x2048x2048 .f32) : FVec Ideal S8x2048 .f32 :=
  Host.reduce FloatOps.maximumf s (constant S_ .f32 0xFF800000#32) reducesTo_S8x2048x2048_S8x2048_d2 h_S_

/-- The maximum of finitely many values, reals or -∞, one of them real, is a real. -/
theorem fold_max_real {n : ℕ} (f : Fin n → EReal) (h : ∀ i, f i ≠ ⊤) (i : Fin n) (hi : f i ≠ ⊥) :
    Finset.fold max ⊥ f Finset.univ = (((Finset.fold max ⊥ f Finset.univ).toReal : ℝ) : EReal) := by
  refine (EReal.coe_toReal ?_ ?_).symm
  · refine ((Finset.fold_max_lt _).2 ⟨bot_lt_top, fun j _ => ?_⟩ : Finset.fold max ⊥ f Finset.univ < ⊤).ne
    exact lt_top_iff_ne_top.2 (h j)
  · intro e
    have := (Finset.le_fold_max (s := Finset.univ) (f := f) (b := ⊥) (f i)).2 (.inr ⟨i, Finset.mem_univ _, le_rfl⟩)
    rw [e] at this
    exact hi (le_bot_iff.1 this)

theorem rowMax_real {s : FVec Ideal S8x2048x2048 .f32} {z : Fin 8 → Fin 2048 → Fin 2048 → ℝ} (hs : MaskedRows s z) :
    ∃ M : Fin 8 → Fin 2048 → ℝ, ∀ h r, (rowMax s (ix2 h r) : EReal) = ((M h r : ℝ) : EReal) := by
  refine ⟨fun h r => (rowMax s (ix2 h r) : EReal).toReal, fun h r => ?_⟩
  have e : (rowMax s (ix2 h r) : EReal) = Finset.fold max ⊥ (fun u => s (ix3 h r u)) Finset.univ := by
    pointwise [rowMax]
    rw [lit_bot]
  beta_reduce
  rw [e]
  have h1 : ∀ u, (s (ix3 h r u) : EReal) ≠ ⊤ := fun u => by
    rw [show (s (ix3 h r u) : EReal) = _ from hs h r u]
    split_ifs
    · exact EReal.coe_ne_top _
    · exact bot_ne_top
  have h2 : (s (ix3 h r r) : EReal) ≠ ⊥ := by
    rw [show (s (ix3 h r r) : EReal) = _ from hs h r r, if_pos le_rfl]
    exact EReal.coe_ne_bot _
  exact fold_max_real _ h1 r h2

/-- The exponentials of every row's differences with `mx`. -/
def exps (s : FVec Ideal S8x2048x2048 .f32) (mx : FVec Ideal S8x2048x1 .f32) : FVec Ideal S8x2048x2048 .f32 :=
  Host.exp (subf s (broadcastInDim S8x2048x2048 ![0, 1, 2] bcast_S8x2048x1_S8x2048x2048_0_1_2 mx))

/-- The sum of every row. -/
def total (e : FVec Ideal S8x2048x2048 .f32) : FVec Ideal S8x2048x1 .f32 :=
  broadcastInDim S8x2048x1 ![0, 1] bcast_S8x2048_S8x2048x1_0_1 (Host.reduceAdd e (constant S_ .f32 0x00000000#32) reducesTo_S8x2048x2048_S8x2048_d2 h_S_)

/-- The softmax of every row. -/
def soft (e : FVec Ideal S8x2048x2048 .f32) : FVec Ideal S8x2048x2048 .f32 :=
  Host.divf e (broadcastInDim S8x2048x2048 ![0, 1, 2] bcast_S8x2048x1_S8x2048x2048_0_1_2 (total e))

variable {a : Reals}

/-- With logits shifted by `x` and maxima `M`, the exponentials are those of the reals times a row's factor. -/
theorem exps_real {s : FVec Ideal S8x2048x2048 .f32} {mx : FVec Ideal S8x2048x1 .f32} {x M : Fin 8 → Fin 2048 → ℝ}
    (hs : MaskedRows s (fun h r u => a.z h r u + x h r)) (hM : ∀ h r, (mx (ix3 h r 0) : EReal) = ((M h r : ℝ) : EReal)) :
    Is3 (exps s mx) (fun h r u => a.e h r u * Real.exp (x h r - M h r)) := fun h r u => by
  have e := hs h r u
  have e' := hM h r
  pointwise [exps, e']
  rw [e]
  unfold Reals.e
  split_ifs
  · rw [← EReal.coe_sub, ← Real.exp_add]
    show ((Real.exp _ : ℝ) : EReal) = _
    congr 2; ring
  · rw [EReal.bot_sub, zero_mul]; rfl

theorem total_real {e : FVec Ideal S8x2048x2048 .f32} {t : Fin 8 → Fin 2048 → ℝ} (he : Is3 e (fun h r u => a.e h r u * t h r))
    (h : Fin 8) (r : Fin 2048) : (total e (ix3 h r 0) : EReal) = ((a.den h r * t h r : ℝ) : EReal) := by
  unfold Is3 at he
  pointwise [total, he]
  rw [coe_sum, ← Finset.sum_mul]
  rfl

theorem soft_real {e : FVec Ideal S8x2048x2048 .f32} {t : Fin 8 → Fin 2048 → ℝ} (ht : ∀ h r, 0 < t h r)
    (he : Is3 e (fun h r u => a.e h r u * t h r)) : Is3 (soft e) a.w := fun h r u => by
  have hl := total_real he h r
  unfold Is3 at he
  pointwise [soft, he, hl]
  rw [div_real (mul_pos (a.den_pos h r) (ht h r)).ne', mul_div_mul_right _ _ (ht h r).ne']
  rfl

end Cert.Fox
end
end
-- ==== Proof.Fox.Table.lean ====
module

public import proofs.«01_k».proof.Proof.Gen.FoxBwdIdeal
public import proofs.«01_k».proof.Proof.Gen.FoxBwdIdeal.Launch
public import proofs.«01_k».proof.Proof.Gen.FoxBwdIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.PureOps.BitExact
public import Idealize.ShloMosaic.Adequacy
public import Idealize.ShloMosaic.Init

/-! The table of block pairs the attention's backward call prefetches, and the pipeline at it. -/

@[expose] public section

set_option maxRecDepth 16384
set_option Elab.async false

noncomputable section

namespace Cert.Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- At machine words a named constant is its word. -/
instance wordNamed : Named Bits where
  named _ _ {_} bits := bits

/-- The pairs (query block, key block), key block by key block. -/
def pairs : S2x10.Idx → BitVec 32 := fun x => lit0 (S2x10.rowMajor x)

/-- The same as the contents of the prefetched table. -/
def table : pre0.Contents (Elt F) := fun | ⟨0, _⟩ => pairs | ⟨_ + 1, h⟩ => absurd h (by simp)

/-- At 32-bit words every block lies inside its array. -/
theorem ok_bits : ok0 (F := Bits) table := by
  refine ⟨?_, ?_, ?_, ?_, ?_, ?_, ?_, ?_, ?_, ?_⟩
  all_goals
    refine fun i => ⟨?_, .inl rfl⟩
    revert i
    decide +kernel

theorem ok : ok0 (F := F) table := ok_bits

/-- The table as admissible contents. -/
def adm : (pcfg0 (F := F)).Adm := ⟨table, ok⟩

/-- The pipeline at the table. -/
abbrev cfgA (F : FTy → Type) [FloatOps F] [Named F] : Pipeline.Cfg sig Λ₀ := cfg0 (F := F) adm

abbrev pcs (F : FTy → Type) [FloatOps F] [Named F] : Fin 1 → Pipeline.Cfg sig Λ₀ := Pipeline.pin (pcfgs (F := F)) fun _ => adm

/-- The table's memref. -/
abbrev tb : Memref sig .tc .smem S2x10 .i32 := Memref.whole main_c

/-- The query block the body reads at `i`, -/
abbrev wq (T : S2x10.Idx → Elt F .i32) (i : grid0.Coords) : Elt F .i32 :=
  View.readAt (Elt F) tb.view (Rect.unit (s := S2x10) (k0_off1 i) S1x1.size (k0_off1_inb i)).toLoadRect T (Shape.Idx.first (numel1_S1x1.symm ▸ Nat.one_pos))

/-- and the key block. -/
abbrev wk (T : S2x10.Idx → Elt F .i32) (i : grid0.Coords) : Elt F .i32 :=
  View.readAt (Elt F) tb.view (Rect.unit (s := S2x10) (k0_off2 i) S1x1.size (k0_off2_inb i)).toLoadRect T (Shape.Idx.first (numel1_S1x1.symm ▸ Nat.one_pos))

end Cert.Fox

end
-- ==== Proof.Fox.Facts.lean ====
module

public import proofs.«01_k».proof.Proof.Fox.Table

/-! What the table of block pairs decides at each of the 40 grid points. -/

@[expose] public section

set_option maxRecDepth 16384
set_option Elab.async false

noncomputable section

namespace Cert.Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

/-- Point `t`'s grid coordinates. -/
abbrev crd (t : Fin (cfgA F).N) : grid0.Coords := grid0.coords t

/-- The first point of each pair of heads: there nothing has been stored into the query-side outputs. -/
def freshQ (n : ℕ) : Bool := n % 10 == 0

/-- The diagonal points (0, 4, 7 and 9 of each ten): there nothing has been stored into the key-side outputs. -/
def freshK (n : ℕ) : Bool := (657 : ℕ).testBit (n % 10)

/-- The four branch conditions and the side condition of the row offsets, all as the table decides them. -/
abbrev Branch (F : FTy → Type) [FloatOps F] [Named F] (t : Fin (cfgA F).N) (c1 c2 c3 c4 : Bool) : Prop :=
  k0_chk1 (wq (F := F) pairs (crd t)) (wk (F := F) pairs (crd t))
    ∧ (k0_cond1 (crd t) = 1#1 ↔ c1 = true)
    ∧ (k0_cond2 (wq (F := F) pairs (crd t)) (wk (F := F) pairs (crd t)) = 1#1 ↔ c2 = true)
    ∧ (k0_cond3 (wq (F := F) pairs (crd t)) (wk (F := F) pairs (crd t)) = 1#1 ↔ c3 = true)
    ∧ (k0_cond4 (wq (F := F) pairs (crd t)) (wk (F := F) pairs (crd t)) = 1#1 ↔ c4 = true)

/-- Everything decided at point `t`. -/
abbrev FactsAt (F : FTy → Type) [FloatOps F] [Named F] (t : Fin (cfgA F).N) : Prop :=
  (((cfgA F).idle (7 : Fin 12) (crd t) = false ∧ (cfgA F).idle (8 : Fin 12) (crd t) = false ∧ (cfgA F).idle (9 : Fin 12) (crd t) = false
      ∧ (cfgA F).idle (10 : Fin 12) (crd t) = false ∧ (cfgA F).idle (11 : Fin 12) (crd t) = false)
    ∧ (((cfgA F).win (7 : Fin 12)).flush t = freshQ (t.val + 1) ∧ ((cfgA F).win (8 : Fin 12)).flush t = freshK (t.val + 1)
      ∧ ((cfgA F).win (9 : Fin 12)).flush t = freshK (t.val + 1) ∧ ((cfgA F).win (10 : Fin 12)).flush t = freshQ (t.val + 1)
      ∧ ((cfgA F).win (11 : Fin 12)).flush t = freshK (t.val + 1)))
    ∧ (freshQ t.val = true → freshK t.val = true)
    ∧ Branch F t (freshQ t.val) (freshK t.val) (freshK t.val) (!freshK t.val)

theorem facts0 : ∀ t : Fin (cfgA Bits).N, 0 ≤ t.val → t.val < 5 → FactsAt Bits t := by decide +kernel
theorem facts1 : ∀ t : Fin (cfgA Bits).N, 5 ≤ t.val → t.val < 10 → FactsAt Bits t := by decide +kernel
theorem facts2 : ∀ t : Fin (cfgA Bits).N, 10 ≤ t.val → t.val < 15 → FactsAt Bits t := by decide +kernel
theorem facts3 : ∀ t : Fin (cfgA Bits).N, 15 ≤ t.val → t.val < 20 → FactsAt Bits t := by decide +kernel
theorem facts4 : ∀ t : Fin (cfgA Bits).N, 20 ≤ t.val → t.val < 25 → FactsAt Bits t := by decide +kernel
theorem facts5 : ∀ t : Fin (cfgA Bits).N, 25 ≤ t.val → t.val < 30 → FactsAt Bits t := by decide +kernel
theorem facts6 : ∀ t : Fin (cfgA Bits).N, 30 ≤ t.val → t.val < 35 → FactsAt Bits t := by decide +kernel
theorem facts7 : ∀ t : Fin (cfgA Bits).N, 35 ≤ t.val → t.val < 40 → FactsAt Bits t := by decide +kernel

theorem facts_bits (t : Fin (cfgA Bits).N) : FactsAt Bits t := by
  have h0 : 0 ≤ t.val := Nat.zero_le _
  rcases Nat.lt_or_ge t.val 5 with h1 | h1; · exact facts0 t h0 h1
  rcases Nat.lt_or_ge t.val 10 with h2 | h2; · exact facts1 t h1 h2
  rcases Nat.lt_or_ge t.val 15 with h3 | h3; · exact facts2 t h2 h3
  rcases Nat.lt_or_ge t.val 20 with h4 | h4; · exact facts3 t h3 h4
  rcases Nat.lt_or_ge t.val 25 with h5 | h5; · exact facts4 t h4 h5
  rcases Nat.lt_or_ge t.val 30 with h6 | h6; · exact facts5 t h5 h6
  rcases Nat.lt_or_ge t.val 35 with h7 | h7; · exact facts6 t h6 h7
  exact facts7 t h7 t.isLt

theorem facts (t : Fin (cfgA F).N) : FactsAt F t := facts_bits t

/-- At a first point, -/
def AtFirst (t : Fin (cfgA F).N) : Prop := Branch F t true true true false
/-- at another diagonal point -/
def AtDiag (t : Fin (cfgA F).N) : Prop := Branch F t false true true false
/-- and below the diagonal. -/
def AtBelow (t : Fin (cfgA F).N) : Prop := Branch F t false false false true

theorem atFirst (t : Fin (cfgA F).N) (h : freshQ t.val = true) : AtFirst t := by
  have f := (facts t).2
  have hk := f.1 h
  rw [h, hk] at f; exact f.2

theorem atDiag (t : Fin (cfgA F).N) (h : freshQ t.val = false) (h' : freshK t.val = true) : AtDiag t := by
  have f := (facts t).2.2
  rw [h, h'] at f; exact f

theorem atBelow (t : Fin (cfgA F).N) (h : freshK t.val = false) : AtBelow t := by
  have f := (facts t).2
  have hq : freshQ t.val = false := by
    cases e : freshQ t.val with
    | false => rfl
    | true => exact absurd ((f.1 e).symm.trans h) (by decide)
  have g := f.2
  rw [hq, h] at g; exact g

theorem idle7 (t : Fin (cfgA F).N) : (cfgA F).idle (7 : Fin 12) (crd t) = false := (facts t).1.1.1

theorem fresh7 (t : Fin (cfgA F).N) : (cfgA F).fresh (7 : Fin 12) t.val = freshQ t.val :=
  Pipeline.Cfg.fresh_tab (cfgA F) (7 : Fin 12) freshQ rfl (fun t => by
    rw [show (cfgA F).idle (7 : Fin 12) ((cfgA F).grid.coords t) = false from idle7 t, Bool.false_and, Bool.or_false]
    exact (facts t).1.2.1.symm) t.val (Nat.le_of_lt t.isLt)

theorem idle8 (t : Fin (cfgA F).N) : (cfgA F).idle (8 : Fin 12) (crd t) = false := (facts t).1.1.2.1

theorem fresh8 (t : Fin (cfgA F).N) : (cfgA F).fresh (8 : Fin 12) t.val = freshK t.val :=
  Pipeline.Cfg.fresh_tab (cfgA F) (8 : Fin 12) freshK rfl (fun t => by
    rw [show (cfgA F).idle (8 : Fin 12) ((cfgA F).grid.coords t) = false from idle8 t, Bool.false_and, Bool.or_false]
    exact (facts t).1.2.2.1.symm) t.val (Nat.le_of_lt t.isLt)

theorem idle9 (t : Fin (cfgA F).N) : (cfgA F).idle (9 : Fin 12) (crd t) = false := (facts t).1.1.2.2.1

theorem fresh9 (t : Fin (cfgA F).N) : (cfgA F).fresh (9 : Fin 12) t.val = freshK t.val :=
  Pipeline.Cfg.fresh_tab (cfgA F) (9 : Fin 12) freshK rfl (fun t => by
    rw [show (cfgA F).idle (9 : Fin 12) ((cfgA F).grid.coords t) = false from idle9 t, Bool.false_and, Bool.or_false]
    exact (facts t).1.2.2.2.1.symm) t.val (Nat.le_of_lt t.isLt)

theorem idle10 (t : Fin (cfgA F).N) : (cfgA F).idle (10 : Fin 12) (crd t) = false := (facts t).1.1.2.2.2.1

theorem fresh10 (t : Fin (cfgA F).N) : (cfgA F).fresh (10 : Fin 12) t.val = freshQ t.val :=
  Pipeline.Cfg.fresh_tab (cfgA F) (10 : Fin 12) freshQ rfl (fun t => by
    rw [show (cfgA F).idle (10 : Fin 12) ((cfgA F).grid.coords t) = false from idle10 t, Bool.false_and, Bool.or_false]
    exact (facts t).1.2.2.2.2.1.symm) t.val (Nat.le_of_lt t.isLt)

theorem idle11 (t : Fin (cfgA F).N) : (cfgA F).idle (11 : Fin 12) (crd t) = false := (facts t).1.1.2.2.2.2

theorem fresh11 (t : Fin (cfgA F).N) : (cfgA F).fresh (11 : Fin 12) t.val = freshK t.val :=
  Pipeline.Cfg.fresh_tab (cfgA F) (11 : Fin 12) freshK rfl (fun t => by
    rw [show (cfgA F).idle (11 : Fin 12) ((cfgA F).grid.coords t) = false from idle11 t, Bool.false_and, Bool.or_false]
    exact (facts t).1.2.2.2.2.2.symm) t.val (Nat.le_of_lt t.isLt)

end Cert.Fox

end
-- ==== Proof.Fox.RunA.lean ====
module

public import proofs.«01_k».proof.Proof.Fox.Table

/-! The body of the attention's backward call, run on any staging buffers: at a first block pair. -/

@[expose] public section

set_option maxRecDepth 16384
set_option Elab.async false

noncomputable section

namespace Cert.Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- At the first block pair of two heads the body zeroes all five outputs, then adds the pair's terms. -/
noncomputable def runA (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S16x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2048x128 .f32) (harg13 : arg13.IsWhole) (arg14 : Memref sig .tc .vmem S1x8x512 .f32) (harg14 : arg14.IsWhole)
    (T : S2x10.Idx → Elt F .i32) (x0 : Vec F S512x128 .f32) (x1 : Vec F S512x128 .f32) (x2 : Vec F S512x128 .f32) (x3 : Vec F S16x512 .f32) (x4 : Vec F S512x128 .f32) (x5 : Vec F S512x128 .f32) (x6 : Vec F S512x128 .f32)
    (hw : k0_chk1 (wq T i) (wk T i)) (h1 : k0_cond1 i = 1#1) (h2 : k0_cond2 (wq T i) (wk T i) = 1#1) (h3 : k0_cond3 (wq T i) (wk T i) = 1#1) (h4 : ¬(k0_cond4 (wq T i) (wk T i) = 1#1)) :
    Σ' (L0 : List (View.Piece (Elt F) S2048x128 .f32)), Σ' (L1 : List (View.Piece (Elt F) S512x128 .f32)), Σ' (L2 : List (View.Piece (Elt F) S512x128 .f32)), Σ' (L3 : List (View.Piece (Elt F) S2048x128 .f32)), { L4 : List (View.Piece (Elt F) S1x8x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ (tb.view.loc (c : Thread nD τ) ↦{fullShare.right} T)
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
                ∗ (tb.view.loc (c : Thread nD τ) ↦{fullShare.right} T)
                ∗ (∃ f, arg10.view.loc (c : Thread nD τ) ↦[arg10.view.set]{fullShare} arg10.view.writes (Elt F) f L0) ∗ (∃ f, arg11.view.loc (c : Thread nD τ) ↦[arg11.view.set]{fullShare} arg11.view.writes (Elt F) f L1) ∗ (∃ f, arg12.view.loc (c : Thread nD τ) ↦[arg12.view.set]{fullShare} arg12.view.writes (Elt F) f L2) ∗ (∃ f, arg13.view.loc (c : Thread nD τ) ↦[arg13.view.set]{fullShare} arg13.view.writes (Elt F) f L3) ∗ (∃ f, arg14.view.loc (c : Thread nD τ) ↦[arg14.view.set]{fullShare} arg14.view.writes (Elt F) f L4)) -∗ K ⟨⟩))
          ⊢ wp frame (wpE (defs₀ (F := F)) Variants.none c none) E (cc0_fox_bwd i tb (Memref.isWhole_whole _) arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    rw [cc0_fox_bwd_eq_skeleton]; unfold cc0_fox_bwd_skel
    rw [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT, ⟨%d0, %g0, -, G0⟩, ⟨%d1, %g1, -, G1⟩, ⟨%d2, %g2, -, G2⟩, ⟨%d3, %g3, -, G3⟩, ⟨%d4, %g4, -, G4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6

    have hT : tb.IsWhole := Memref.isWhole_whole _
    sl_exec! (disch := first | (guard_target = k0_chk1 _ _; exact hw) | (guard_target = k0_cond1 _ = _; exact h1) | (guard_target = k0_cond2 _ _ = _; exact h2) | (guard_target = k0_cond3 _ _ = _; exact h3) | (guard_target = ¬(k0_cond4 _ _ = _); exact h4))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HT]; · iexact HT
    isplitl [G0]; · iexists _; iexact G0
    isplitl [G1]; · iexists _; iexact G1
    isplitl [G2]; · iexists _; iexact G2
    isplitl [G3]; · iexists _; iexact G3
    iexists _; iexact G4

end Cert.Fox

end
-- ==== Proof.Fox.RunB.lean ====
module

public import proofs.«01_k».proof.Proof.Fox.Table

/-! The body of the attention's backward call, run on any staging buffers: on the diagonal. -/

@[expose] public section

set_option maxRecDepth 16384
set_option Elab.async false

noncomputable section

namespace Cert.Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- On the diagonal the body first zeroes the key block's three outputs, then adds the block pair's terms. -/
noncomputable def runB (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S16x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2048x128 .f32) (harg13 : arg13.IsWhole) (arg14 : Memref sig .tc .vmem S1x8x512 .f32) (harg14 : arg14.IsWhole)
    (T : S2x10.Idx → Elt F .i32) (x0 : Vec F S512x128 .f32) (x1 : Vec F S512x128 .f32) (x2 : Vec F S512x128 .f32) (x3 : Vec F S16x512 .f32) (x4 : Vec F S512x128 .f32) (x5 : Vec F S512x128 .f32) (x6 : Vec F S512x128 .f32) (y0 : Vec F S2048x128 .f32) (y3 : Vec F S2048x128 .f32)
    (hw : k0_chk1 (wq T i) (wk T i)) (h1 : ¬(k0_cond1 i = 1#1)) (h2 : k0_cond2 (wq T i) (wk T i) = 1#1) (h3 : k0_cond3 (wq T i) (wk T i) = 1#1) (h4 : ¬(k0_cond4 (wq T i) (wk T i) = 1#1)) :
    Σ' (L0 : List (View.Piece (Elt F) S2048x128 .f32)), Σ' (L1 : List (View.Piece (Elt F) S512x128 .f32)), Σ' (L2 : List (View.Piece (Elt F) S512x128 .f32)), Σ' (L3 : List (View.Piece (Elt F) S2048x128 .f32)), { L4 : List (View.Piece (Elt F) S1x8x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ (tb.view.loc (c : Thread nD τ) ↦{fullShare.right} T)
            ∗ owns (c : Thread nD τ) arg10 fullShare y0 ∗ (∃ d, owns (c : Thread nD τ) arg11 fullShare d) ∗ (∃ d, owns (c : Thread nD τ) arg12 fullShare d) ∗ owns (c : Thread nD τ) arg13 fullShare y3 ∗ (∃ d, owns (c : Thread nD τ) arg14 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
                ∗ (tb.view.loc (c : Thread nD τ) ↦{fullShare.right} T)
                ∗ (arg10.view.loc (c : Thread nD τ) ↦[arg10.view.set]{fullShare} arg10.view.writes (Elt F) (harg10.unread y0) L0) ∗ (∃ f, arg11.view.loc (c : Thread nD τ) ↦[arg11.view.set]{fullShare} arg11.view.writes (Elt F) f L1) ∗ (∃ f, arg12.view.loc (c : Thread nD τ) ↦[arg12.view.set]{fullShare} arg12.view.writes (Elt F) f L2) ∗ (arg13.view.loc (c : Thread nD τ) ↦[arg13.view.set]{fullShare} arg13.view.writes (Elt F) (harg13.unread y3) L3) ∗ (∃ f, arg14.view.loc (c : Thread nD τ) ↦[arg14.view.set]{fullShare} arg14.view.writes (Elt F) f L4)) -∗ K ⟨⟩))
          ⊢ wp frame (wpE (defs₀ (F := F)) Variants.none c none) E (cc0_fox_bwd i tb (Memref.isWhole_whole _) arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    rw [cc0_fox_bwd_eq_skeleton]; unfold cc0_fox_bwd_skel
    rw [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT, ⟨%g0, %hg0, G0⟩, ⟨%d1, %g1, -, G1⟩, ⟨%d2, %g2, -, G2⟩, ⟨%g3, %hg3, G3⟩, ⟨%d4, %g4, -, G4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    obtain rfl := harg10.eq_unread hg0; obtain rfl := harg13.eq_unread hg3
    have hT : tb.IsWhole := Memref.isWhole_whole _
    sl_exec! (disch := first | (guard_target = k0_chk1 _ _; exact hw) | (guard_target = ¬(k0_cond1 _ = _); exact h1) | (guard_target = k0_cond2 _ _ = _; exact h2) | (guard_target = k0_cond3 _ _ = _; exact h3) | (guard_target = ¬(k0_cond4 _ _ = _); exact h4))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HT]; · iexact HT
    isplitl [G0]; · iexact G0
    isplitl [G1]; · iexists _; iexact G1
    isplitl [G2]; · iexists _; iexact G2
    isplitl [G3]; · iexact G3
    iexists _; iexact G4

end Cert.Fox

end
-- ==== Proof.Fox.RunC.lean ====
module

public import proofs.«01_k».proof.Proof.Fox.Table

/-! The body of the attention's backward call, run on any staging buffers: below the diagonal. -/

@[expose] public section

set_option maxRecDepth 16384
set_option Elab.async false

noncomputable section

namespace Cert.Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option backward.proofsInPublic true in
set_option maxHeartbeats 16000000 in
/-- Below the diagonal the body adds one block pair's terms to all five outputs. -/
noncomputable def runC (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S16x512 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S2048x128 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S2048x128 .f32) (harg13 : arg13.IsWhole) (arg14 : Memref sig .tc .vmem S1x8x512 .f32) (harg14 : arg14.IsWhole)
    (T : S2x10.Idx → Elt F .i32) (x0 : Vec F S512x128 .f32) (x1 : Vec F S512x128 .f32) (x2 : Vec F S512x128 .f32) (x3 : Vec F S16x512 .f32) (x4 : Vec F S512x128 .f32) (x5 : Vec F S512x128 .f32) (x6 : Vec F S512x128 .f32) (y0 : Vec F S2048x128 .f32) (y1 : Vec F S512x128 .f32) (y2 : Vec F S512x128 .f32) (y3 : Vec F S2048x128 .f32) (y4 : Vec F S1x8x512 .f32)
    (hw : k0_chk1 (wq T i) (wk T i)) (h1 : ¬(k0_cond1 i = 1#1)) (h2 : ¬(k0_cond2 (wq T i) (wk T i) = 1#1)) (h3 : ¬(k0_cond3 (wq T i) (wk T i) = 1#1)) (h4 : k0_cond4 (wq T i) (wk T i) = 1#1) :
    Σ' (L0 : List (View.Piece (Elt F) S2048x128 .f32)), Σ' (L1 : List (View.Piece (Elt F) S512x128 .f32)), Σ' (L2 : List (View.Piece (Elt F) S512x128 .f32)), Σ' (L3 : List (View.Piece (Elt F) S2048x128 .f32)), { L4 : List (View.Piece (Elt F) S1x8x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
            ∗ (tb.view.loc (c : Thread nD τ) ↦{fullShare.right} T)
            ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare y4
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
                ∗ (tb.view.loc (c : Thread nD τ) ↦{fullShare.right} T)
                ∗ (arg10.view.loc (c : Thread nD τ) ↦[arg10.view.set]{fullShare} arg10.view.writes (Elt F) (harg10.unread y0) L0) ∗ (∃ f, arg11.view.loc (c : Thread nD τ) ↦[arg11.view.set]{fullShare} arg11.view.writes (Elt F) f L1) ∗ (∃ f, arg12.view.loc (c : Thread nD τ) ↦[arg12.view.set]{fullShare} arg12.view.writes (Elt F) f L2) ∗ (arg13.view.loc (c : Thread nD τ) ↦[arg13.view.set]{fullShare} arg13.view.writes (Elt F) (harg13.unread y3) L3) ∗ (arg14.view.loc (c : Thread nD τ) ↦[arg14.view.set]{fullShare} arg14.view.writes (Elt F) (harg14.unread y4) L4)) -∗ K ⟨⟩))
          ⊢ wp frame (wpE (defs₀ (F := F)) Variants.none c none) E (cc0_fox_bwd i tb (Memref.isWhole_whole _) arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    rw [cc0_fox_bwd_eq_skeleton]; unfold cc0_fox_bwd_skel
    rw [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT, ⟨%g0, %hg0, G0⟩, ⟨%g1, %hg1, G1⟩, ⟨%g2, %hg2, G2⟩, ⟨%g3, %hg3, G3⟩, ⟨%g4, %hg4, G4⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    obtain rfl := harg10.eq_unread hg0; obtain rfl := harg11.eq_unread hg1; obtain rfl := harg12.eq_unread hg2; obtain rfl := harg13.eq_unread hg3; obtain rfl := harg14.eq_unread hg4
    have hT : tb.IsWhole := Memref.isWhole_whole _
    sl_exec! (disch := first | (guard_target = k0_chk1 _ _; exact hw) | (guard_target = ¬(k0_cond1 _ = _); exact h1) | (guard_target = ¬(k0_cond2 _ _ = _); exact h2) | (guard_target = ¬(k0_cond3 _ _ = _); exact h3) | (guard_target = k0_cond4 _ _ = _; exact h4))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HT]; · iexact HT
    isplitl [G0]; · iexact G0
    isplitl [G1]; · iexists _; iexact G1
    isplitl [G2]; · iexists _; iexact G2
    isplitl [G3]; · iexact G3
    iexact G4

end Cert.Fox

end
-- ==== Proof.Fox.Points.lean ====
module

public import proofs.«01_k».proof.Proof.Fox.Facts
public import proofs.«01_k».proof.Proof.Fox.RunA
public import proofs.«01_k».proof.Proof.Fox.RunB
public import proofs.«01_k».proof.Proof.Fox.RunC

/-! What the five outputs hold after each grid point. -/

@[expose] public section

set_option maxRecDepth 16384
set_option Elab.async false

noncomputable section

namespace Cert.Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

abbrev b0 (t : Fin (cfgA F).N) : Memref sig .tc .vmem S512x128 .f32 := spec0_0.stage ((cfgA F).slots t (0 : Fin 12))
abbrev hb0 (t : Fin (cfgA F).N) : (b0 t).IsWhole := hstage0_0 (((cfgA F).slots t (0 : Fin 12)).cast nbuf0_0)
abbrev b1 (t : Fin (cfgA F).N) : Memref sig .tc .vmem S512x128 .f32 := spec0_1.stage ((cfgA F).slots t (1 : Fin 12))
abbrev hb1 (t : Fin (cfgA F).N) : (b1 t).IsWhole := hstage0_1 (((cfgA F).slots t (1 : Fin 12)).cast nbuf0_1)
abbrev b2 (t : Fin (cfgA F).N) : Memref sig .tc .vmem S512x128 .f32 := spec0_2.stage ((cfgA F).slots t (2 : Fin 12))
abbrev hb2 (t : Fin (cfgA F).N) : (b2 t).IsWhole := hstage0_2 (((cfgA F).slots t (2 : Fin 12)).cast nbuf0_2)
abbrev b3 (t : Fin (cfgA F).N) : Memref sig .tc .vmem S16x512 .f32 := spec0_3.stage ((cfgA F).slots t (3 : Fin 12))
abbrev hb3 (t : Fin (cfgA F).N) : (b3 t).IsWhole := hstage0_3 (((cfgA F).slots t (3 : Fin 12)).cast nbuf0_3)
abbrev b4 (t : Fin (cfgA F).N) : Memref sig .tc .vmem S512x128 .f32 := spec0_4.stage ((cfgA F).slots t (4 : Fin 12))
abbrev hb4 (t : Fin (cfgA F).N) : (b4 t).IsWhole := hstage0_4 (((cfgA F).slots t (4 : Fin 12)).cast nbuf0_4)
abbrev b5 (t : Fin (cfgA F).N) : Memref sig .tc .vmem S512x128 .f32 := spec0_5.stage ((cfgA F).slots t (5 : Fin 12))
abbrev hb5 (t : Fin (cfgA F).N) : (b5 t).IsWhole := hstage0_5 (((cfgA F).slots t (5 : Fin 12)).cast nbuf0_5)
abbrev b6 (t : Fin (cfgA F).N) : Memref sig .tc .vmem S512x128 .f32 := spec0_6.stage ((cfgA F).slots t (6 : Fin 12))
abbrev hb6 (t : Fin (cfgA F).N) : (b6 t).IsWhole := hstage0_6 (((cfgA F).slots t (6 : Fin 12)).cast nbuf0_6)
abbrev b7 (t : Fin (cfgA F).N) : Memref sig .tc .vmem S2048x128 .f32 := spec0_7.stage ((cfgA F).slots t (7 : Fin 12))
abbrev hb7 (t : Fin (cfgA F).N) : (b7 t).IsWhole := hstage0_7 (((cfgA F).slots t (7 : Fin 12)).cast nbuf0_7)
abbrev b8 (t : Fin (cfgA F).N) : Memref sig .tc .vmem S512x128 .f32 := spec0_8.stage ((cfgA F).slots t (8 : Fin 12))
abbrev hb8 (t : Fin (cfgA F).N) : (b8 t).IsWhole := hstage0_8 (((cfgA F).slots t (8 : Fin 12)).cast nbuf0_8)
abbrev b9 (t : Fin (cfgA F).N) : Memref sig .tc .vmem S512x128 .f32 := spec0_9.stage ((cfgA F).slots t (9 : Fin 12))
abbrev hb9 (t : Fin (cfgA F).N) : (b9 t).IsWhole := hstage0_9 (((cfgA F).slots t (9 : Fin 12)).cast nbuf0_9)
abbrev b10 (t : Fin (cfgA F).N) : Memref sig .tc .vmem S2048x128 .f32 := spec0_10.stage ((cfgA F).slots t (10 : Fin 12))
abbrev hb10 (t : Fin (cfgA F).N) : (b10 t).IsWhole := hstage0_10 (((cfgA F).slots t (10 : Fin 12)).cast nbuf0_10)
abbrev b11 (t : Fin (cfgA F).N) : Memref sig .tc .vmem S1x8x512 .f32 := spec0_11.stage ((cfgA F).slots t (11 : Fin 12))
abbrev hb11 (t : Fin (cfgA F).N) : (b11 t).IsWhole := hstage0_11 (((cfgA F).slots t (11 : Fin 12)).cast nbuf0_11)

variable (m : (ℓ : Loc nD τ sig) → Buf (Elt F) ℓ) (ρ : Dev nD → PrngReg)

/-- What the core's buffers hold when the call is reached. -/
abbrev V (c : Dev nD) (b : Ref sig .tc) : Buf (Elt F) ((c : Thread nD τ).loc b) := StableHlo.after hostOps0 (fun b => m (c, b)) b

/-- Window `w`'s block at point `t`. -/
def blk (c : Dev nD) (w : Fin (cfgA F).W) (t : Fin (cfgA F).N) : (((cfgA F).win w).xblock (crd t)).Idx → Elt F ((cfgA F).win w).elt :=
  (((cfgA F).win w).blk t).view.read (Elt F) (V m c (Pipeline.arrRef spec0 w))

/-- The five outputs' staging buffers. -/
structure Outs (F : FTy → Type) where
  dq : Vec F S2048x128 .f32
  dk : Vec F S512x128 .f32
  dv : Vec F S512x128 .f32
  dcq : Vec F S2048x128 .f32
  dck : Vec F S1x8x512 .f32

/-- All zero. -/
def Outs.zero : Outs F := ⟨k0_pay1, k0_pay3, k0_pay4, k0_pay2, k0_pay5⟩

/-- The body's run at a first point, -/
abbrev first (c : Dev nD) (t : Fin (cfgA F).N) (h : AtFirst t) :=
  runA c (crd t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) pairs (blk m c (0 : Fin 12) t) (blk m c (1 : Fin 12) t) (blk m c (2 : Fin 12) t) (blk m c (3 : Fin 12) t) (blk m c (4 : Fin 12) t) (blk m c (5 : Fin 12) t) (blk m c (6 : Fin 12) t) h.1 (h.2.1.mpr rfl) (h.2.2.1.mpr rfl) (h.2.2.2.1.mpr rfl) (fun e => absurd (h.2.2.2.2.mp e) (by decide))

/-- at another diagonal point -/
abbrev diag (c : Dev nD) (t : Fin (cfgA F).N) (p : Outs F) (h : AtDiag t) :=
  runB c (crd t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) pairs (blk m c (0 : Fin 12) t) (blk m c (1 : Fin 12) t) (blk m c (2 : Fin 12) t) (blk m c (3 : Fin 12) t) (blk m c (4 : Fin 12) t) (blk m c (5 : Fin 12) t) (blk m c (6 : Fin 12) t) p.dq p.dcq h.1 (fun e => absurd (h.2.1.mp e) (by decide)) (h.2.2.1.mpr rfl) (h.2.2.2.1.mpr rfl) (fun e => absurd (h.2.2.2.2.mp e) (by decide))

/-- and below the diagonal. -/
abbrev below (c : Dev nD) (t : Fin (cfgA F).N) (p : Outs F) (h : AtBelow t) :=
  runC c (crd t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) pairs (blk m c (0 : Fin 12) t) (blk m c (1 : Fin 12) t) (blk m c (2 : Fin 12) t) (blk m c (3 : Fin 12) t) (blk m c (4 : Fin 12) t) (blk m c (5 : Fin 12) t) (blk m c (6 : Fin 12) t) p.dq p.dk p.dv p.dcq p.dck h.1 (fun e => absurd (h.2.1.mp e) (by decide)) (fun e => absurd (h.2.2.1.mp e) (by decide)) (fun e => absurd (h.2.2.2.1.mp e) (by decide)) (h.2.2.2.2.mpr rfl)

theorem mem_all2 {L : List (View.Piece (Elt F) S2048x128 .f32)} {w} (h : ⟨Rect.unit (s := S2048x128) ![0, 0] S2048x128.size inb_S2048x128_S2048x128_0_0, w⟩ ∈ L) (y : S2048x128.Idx) : ∃ pc ∈ L, y ∈ pc.1.set :=
  ⟨_, h, (Rect.mem_set_unit (inb := inb_S2048x128_S2048x128_0_0)).mpr fun a => by
    have := (y a).isLt
    match a with
    | ⟨0, _⟩ => exact ⟨Nat.zero_le _, by simpa using this⟩
    | ⟨1, _⟩ => exact ⟨Nat.zero_le _, by simpa using this⟩⟩

theorem coverA0 (c : Dev nD) (t : Fin (cfgA F).N) (h : AtFirst t) (y : S2048x128.Idx) :
    ∃ pc ∈ (first m c t h).1, y ∈ pc.1.set :=
  mem_all2 (List.mem_cons_of_mem _ List.mem_cons_self) y

theorem coverA1 (c : Dev nD) (t : Fin (cfgA F).N) (h : AtFirst t) (y : S512x128.Idx) :
    ∃ pc ∈ (first m c t h).2.1, y ∈ pc.1.set :=
  View.cover_of_tiledL _ S512x128.size (by sl_kernel_rfl) y

theorem coverA2 (c : Dev nD) (t : Fin (cfgA F).N) (h : AtFirst t) (y : S512x128.Idx) :
    ∃ pc ∈ (first m c t h).2.2.1, y ∈ pc.1.set :=
  View.cover_of_tiledL _ S512x128.size (by sl_kernel_rfl) y

theorem coverA3 (c : Dev nD) (t : Fin (cfgA F).N) (h : AtFirst t) (y : S2048x128.Idx) :
    ∃ pc ∈ (first m c t h).2.2.2.1, y ∈ pc.1.set :=
  mem_all2 (List.mem_cons_of_mem _ List.mem_cons_self) y

theorem coverA4 (c : Dev nD) (t : Fin (cfgA F).N) (h : AtFirst t) (y : S1x8x512.Idx) :
    ∃ pc ∈ (first m c t h).2.2.2.2.1, y ∈ pc.1.set :=
  View.cover_of_tiledL _ S1x8x512.size (by sl_kernel_rfl) y

theorem coverB1 (c : Dev nD) (t : Fin (cfgA F).N) (p : Outs F) (h : AtDiag t) (y : S512x128.Idx) :
    ∃ pc ∈ (diag m c t p h).2.1, y ∈ pc.1.set :=
  View.cover_of_tiledL _ S512x128.size (by sl_kernel_rfl) y

theorem coverB2 (c : Dev nD) (t : Fin (cfgA F).N) (p : Outs F) (h : AtDiag t) (y : S512x128.Idx) :
    ∃ pc ∈ (diag m c t p h).2.2.1, y ∈ pc.1.set :=
  View.cover_of_tiledL _ S512x128.size (by sl_kernel_rfl) y

theorem coverB4 (c : Dev nD) (t : Fin (cfgA F).N) (p : Outs F) (h : AtDiag t) (y : S1x8x512.Idx) :
    ∃ pc ∈ (diag m c t p h).2.2.2.2.1, y ∈ pc.1.set :=
  View.cover_of_tiledL _ S1x8x512.size (by sl_kernel_rfl) y

theorem coverC1 (c : Dev nD) (t : Fin (cfgA F).N) (p : Outs F) (h : AtBelow t) (y : S512x128.Idx) :
    ∃ pc ∈ (below m c t p h).2.1, y ∈ pc.1.set :=
  View.cover_of_tiledL _ S512x128.size (by sl_kernel_rfl) y

theorem coverC2 (c : Dev nD) (t : Fin (cfgA F).N) (p : Outs F) (h : AtBelow t) (y : S512x128.Idx) :
    ∃ pc ∈ (below m c t p h).2.2.1, y ∈ pc.1.set :=
  View.cover_of_tiledL _ S512x128.size (by sl_kernel_rfl) y

/-- What the outputs hold after a first point. -/
def afterFirst (c : Dev nD) (t : Fin (cfgA F).N) (h : AtFirst t) : Outs F where
  dq := (b7 t).view.read (Elt F) ((b7 t).view.writes (Elt F) (b7 t).view.junk (first m c t h).1)
  dk := (b8 t).view.read (Elt F) ((b8 t).view.writes (Elt F) (b8 t).view.junk (first m c t h).2.1)
  dv := (b9 t).view.read (Elt F) ((b9 t).view.writes (Elt F) (b9 t).view.junk (first m c t h).2.2.1)
  dcq := (b10 t).view.read (Elt F) ((b10 t).view.writes (Elt F) (b10 t).view.junk (first m c t h).2.2.2.1)
  dck := (b11 t).view.read (Elt F) ((b11 t).view.writes (Elt F) (b11 t).view.junk (first m c t h).2.2.2.2.1)

/-- What the outputs hold after a later diagonal point, having held `p`. -/
def afterDiag (c : Dev nD) (t : Fin (cfgA F).N) (p : Outs F) (h : AtDiag t) : Outs F where
  dq := (b7 t).view.read (Elt F) ((b7 t).view.writes (Elt F) ((hb7 t).unread p.dq) (diag m c t p h).1)
  dk := (b8 t).view.read (Elt F) ((b8 t).view.writes (Elt F) (b8 t).view.junk (diag m c t p h).2.1)
  dv := (b9 t).view.read (Elt F) ((b9 t).view.writes (Elt F) (b9 t).view.junk (diag m c t p h).2.2.1)
  dcq := (b10 t).view.read (Elt F) ((b10 t).view.writes (Elt F) ((hb10 t).unread p.dcq) (diag m c t p h).2.2.2.1)
  dck := (b11 t).view.read (Elt F) ((b11 t).view.writes (Elt F) (b11 t).view.junk (diag m c t p h).2.2.2.2.1)

/-- What the outputs hold after a point below the diagonal, having held `p`. -/
def afterBelow (c : Dev nD) (t : Fin (cfgA F).N) (p : Outs F) (h : AtBelow t) : Outs F where
  dq := (b7 t).view.read (Elt F) ((b7 t).view.writes (Elt F) ((hb7 t).unread p.dq) (below m c t p h).1)
  dk := (b8 t).view.read (Elt F) ((b8 t).view.writes (Elt F) (b8 t).view.junk (below m c t p h).2.1)
  dv := (b9 t).view.read (Elt F) ((b9 t).view.writes (Elt F) (b9 t).view.junk (below m c t p h).2.2.1)
  dcq := (b10 t).view.read (Elt F) ((b10 t).view.writes (Elt F) ((hb10 t).unread p.dcq) (below m c t p h).2.2.2.1)
  dck := (b11 t).view.read (Elt F) ((b11 t).view.writes (Elt F) ((hb11 t).unread p.dck) (below m c t p h).2.2.2.2.1)

/-- One point's step from what the outputs held. -/
def step (c : Dev nD) (t : Fin (cfgA F).N) (p : Outs F) : Outs F :=
  if hq : freshQ t.val = true then afterFirst m c t (atFirst t hq)
  else if hk : freshK t.val = true then afterDiag m c t p (atDiag t (Bool.eq_false_iff.mpr hq) hk)
  else afterBelow m c t p (atBelow t (Bool.eq_false_iff.mpr hk))

theorem step_first (c : Dev nD) (t : Fin (cfgA F).N) (p : Outs F) (hq : freshQ t.val = true) :
    step m c t p = afterFirst m c t (atFirst t hq) := by
  unfold step; rw [dif_pos hq]

theorem step_diag (c : Dev nD) (t : Fin (cfgA F).N) (p : Outs F) (hq : freshQ t.val = false) (hk : freshK t.val = true) :
    step m c t p = afterDiag m c t p (atDiag t hq hk) := by
  unfold step; rw [dif_neg (by rw [hq]; decide), dif_pos hk]

theorem step_below (c : Dev nD) (t : Fin (cfgA F).N) (p : Outs F) (hk : freshK t.val = false) :
    step m c t p = afterBelow m c t p (atBelow t hk) := by
  have hq : ¬freshQ t.val = true := fun e => absurd (((facts t).2.1 e).symm.trans hk) (by decide)
  unfold step; rw [dif_neg hq, dif_neg (by rw [hk]; decide)]

/-- What the outputs hold after point `n`. -/
def hold (c : Dev nD) : (n : ℕ) → n < (cfgA F).N → Outs F
  | 0, h => step m c ⟨0, h⟩ Outs.zero
  | n + 1, h => step m c ⟨n + 1, h⟩ (hold c n (Nat.lt_of_succ_lt h))

/-- What they held before point `t`. -/
def held (c : Dev nD) (t : Fin (cfgA F).N) : Outs F :=
  if h : t.val = 0 then Outs.zero else hold m c (t.val - 1) (Nat.lt_of_le_of_lt (Nat.sub_le _ _) t.isLt)

theorem hold_eq (c : Dev nD) (t : Fin (cfgA F).N) : hold m c t.val t.isLt = step m c t (held m c t) := by
  obtain ⟨n, hn⟩ := t
  cases n with
  | zero => rfl
  | succ n => unfold held; rw [dif_neg (Nat.succ_ne_zero n)]; rfl

end Cert.Fox

end
-- ==== Proof.Fox.Host.lean ====
module

public import proofs.«01_k».proof.Proof.Fox.Softmax
public import proofs.«01_k».proof.Proof.Fox.Points
public import Idealize.ShloMosaic.Lib.Pipeline.ValueKit

/-! # The arrays the host hands to the attention's backward call -/

@[expose] public section
set_option maxRecDepth 16384
noncomputable section
namespace Cert.Fox
open Cert.Lift Cert.FoxBwdIdeal Cert.FoxBwdIdeal.Gen Idealize.ShloMosaic Idealize.ShloMosaic.TcCoe Idealize.SL.Sem

section stages
variable (q k v d : FVec Ideal S2048x8x64 .f32) (c : FVec Ideal S8x2048 .f32)

/-- The logits, without the term a row shares, -∞ past the query. -/
def logitsH : FVec Ideal S8x2048x2048 .f32 :=
  select upTo
    (subf (mulf (Host.dotGeneral dot_S2048x8x64_S2048x8x64_S8x2048x2048_2_2_0_0_1_1 none q k)
        (broadcastInDim S8x2048x2048 ![] bcast_S_S8x2048x2048 (constant S_ .f32 0x3E000000#32)))
      (broadcastInDim S8x2048x2048 ![0, 1, 2] bcast_S8x1x2048_S8x2048x2048_0_1_2 (broadcastInDim S8x1x2048 ![0, 2] bcast_S8x2048_S8x1x2048_0_2 c)))
    (broadcastInDim S8x2048x2048 ![] bcast_S_S8x2048x2048 (constant S_ .f32 0xFF800000#32))
/-- Each row's maximum. -/
def maxH : FVec Ideal S8x2048x1 .f32 := broadcastInDim S8x2048x1 ![0, 1] bcast_S8x2048_S8x2048x1_0_1 (rowMax (logitsH q k c))
/-- The exponentials of the differences with it. -/
def expoH : FVec Ideal S8x2048x2048 .f32 := exps (logitsH q k c) (maxH q k c)

/-- A value per token and head, repeated on the head's lanes. -/
def wide (x : FVec Ideal S2048x8 .f32) : FVec Ideal S2048x512 .f32 :=
  shapeCast S2048x512 (broadcastInDim S2048x8x64 ![0, 1, 2] bcast_S2048x8x1_S2048x8x64_0_1_2 (broadcastInDim S2048x8x1 ![0, 1] bcast_S2048x8_S2048x8x1_0_1 x))
    shapeCasts_S2048x8x64_S2048x512
/-- The heads side by side. -/
def flat (x : FVec Ideal S2048x8x64 .f32) : FVec Ideal S2048x512 .f32 := shapeCast S2048x512 x shapeCasts_S2048x8x64_S2048x512

/-- The logarithm of the softmax's denominator. -/
def lseH : FVec Ideal S2048x8 .f32 :=
  transpose S2048x8 [1, 0] (shapeCast S8x2048 (addf (maxH q k c) (Host.log (total (expoH q k c)))) shapeCasts_S8x2048x1_S8x2048) transposes_S8x2048_S2048x8_1_0
/-- The attention's output times its cotangent, summed over a head's lanes. -/
def dlH : FVec Ideal S2048x8 .f32 :=
  Host.reduceAdd (mulf d (transpose S2048x8x64 [2, 0, 1] (Host.dotGeneral dot_S2048x8x64_S8x2048x2048_S8x64x2048_0_2_2_1_1_0 none v (soft (expoH q k c)))
    transposes_S8x64x2048_S2048x8x64_2_0_1)) (constant S_ .f32 0x00000000#32) reducesTo_S2048x8x64_S2048x8_d2 h_S_
/-- Queries, keys and values at their columns of the projection's width. -/
def projH : FVec Ideal S2048x3712 .f32 :=
  concatenate S2048x3712 1 [⟨S2048x2048, broadcastInDim S2048x2048 ![] bcast_S_S2048x2048 (constant S_ .f32 0x00000000#32)⟩,
    ⟨S2048x512, flat q⟩, ⟨S2048x512, flat k⟩, ⟨S2048x512, flat v⟩,
    ⟨S2048x128, broadcastInDim S2048x128 ![] bcast_S_S2048x128 (constant S_ .f32 0x00000000#32)⟩]
    concatenates_S2048x2048_S2048x512_S2048x512_S2048x512_S2048x128_S2048x3712_d1
/-- The summed gates at their rows. -/
def gatesH : FVec Ideal S128x2048 .f32 :=
  concatenate S128x2048 0 [⟨S8x2048, broadcastInDim S8x2048 ![] bcast_S_S8x2048 (constant S_ .f32 0x00000000#32)⟩, ⟨S8x2048, c⟩,
    ⟨S112x2048, broadcastInDim S112x2048 ![] bcast_S_S112x2048 (constant S_ .f32 0x00000000#32)⟩] concatenates_S8x2048_S8x2048_S112x2048_S128x2048_d0
end stages

variable (m : (ℓ : Loc nD τ sig) → Buf (Elt Ideal) ℓ) (c : Dev nD)
/-- The arguments on one device. -/
abbrev Q : FVec Ideal S2048x8x64 .f32 := m ((c.tc : Thread nD τ).loc main_arg0)
abbrev K : FVec Ideal S2048x8x64 .f32 := m ((c.tc : Thread nD τ).loc main_arg1)
abbrev Vl : FVec Ideal S2048x8x64 .f32 := m ((c.tc : Thread nD τ).loc main_arg2)
abbrev C : FVec Ideal S8x2048 .f32 := m ((c.tc : Thread nD τ).loc main_arg3)
abbrev O : FVec Ideal S2048x8x64 .f32 := m ((c.tc : Thread nD τ).loc main_arg4)

theorem arr0 : V m c (Pipeline.arrRef spec0 0) = projH (Q m c) (K m c) (Vl m c) := by unfold V; rfl
theorem arr1 : V m c (Pipeline.arrRef spec0 1) = projH (Q m c) (K m c) (Vl m c) := by unfold V; rfl
theorem arr2 : V m c (Pipeline.arrRef spec0 2) = projH (Q m c) (K m c) (Vl m c) := by unfold V; rfl
theorem arr3 : V m c (Pipeline.arrRef spec0 3) = gatesH (C m c) := by unfold V; rfl
theorem arr4 : V m c (Pipeline.arrRef spec0 4) = wide (lseH (Q m c) (K m c) (C m c)) := by
  unfold V
  simp only [hostOps0]
  after_results_simp
  rfl
theorem arr5 : V m c (Pipeline.arrRef spec0 5) = flat (O m c) := by unfold V; rfl
theorem arr6 : V m c (Pipeline.arrRef spec0 6) = wide (dlH (Q m c) (K m c) (Vl m c) (O m c) (C m c)) := by
  unfold V
  simp only [hostOps0]
  after_results_simp
  rfl

/-- The kernel's argument arrays hold the reals `a`. -/
structure Holds (a : Reals) : Prop where
  hq : Is3 (Q m c) a.q
  hk : Is3 (K m c) a.k
  hv : Is3 (Vl m c) a.v
  hc : Is2 (C m c) a.c
  hd : Is3 (O m c) a.d

section values
variable {a : Reals} {q k v d : FVec Ideal S2048x8x64 .f32} {c : FVec Ideal S8x2048 .f32}

theorem eighth : Ideal.ofBits .f32 0x3E000000#32 = ((1 / 8 : ℝ) : EReal) := by
  simp [Ideal.ofBits, Ideal.ieee, -EReal.coe_mul]; norm_num

theorem logitsH_real (hq : Is3 q a.q) (hk : Is3 k a.k) (hc : Is2 c a.c) :
    MaskedRows (logitsH q k c) (fun h r u => a.z h r u + 0) := fun h r u => by
  unfold logitsH
  rw [show (select upTo _ _ (ix3 h r u) : EReal) = _ from select_upTo _ _ h r u]
  unfold Is3 Is2 at *
  pointwise [hq, hk, hc]
  simp only [zero_add, eighth, lit_bot, coe_sum, ← EReal.coe_mul, ← EReal.coe_add, ← EReal.coe_sub]
  unfold Reals.z
  simp only [add_zero]

theorem column (x : FVec Ideal S8x2048 .f32) (h : Fin 8) (r : Fin 2048) :
    (broadcastInDim S8x2048x1 ![0, 1] bcast_S8x2048_S8x2048x1_0_1 x (ix3 h r 0) : EReal) = x (ix2 h r) := by
  pointwise

theorem hostParts (hq : Is3 q a.q) (hk : Is3 k a.k) (hc : Is2 c a.c) : ∃ M : Fin 8 → Fin 2048 → ℝ,
    (∀ h r, (maxH q k c (ix3 h r 0) : EReal) = ((M h r : ℝ) : EReal)) ∧ Is3 (expoH q k c) (fun h r u => a.e h r u * Real.exp (0 - M h r)) := by
  obtain ⟨M, hM⟩ := rowMax_real (logitsH_real hq hk hc)
  have e : ∀ h r, (maxH q k c (ix3 h r 0) : EReal) = ((M h r : ℝ) : EReal) := fun h r => (column _ h r).trans (hM h r)
  exact ⟨M, e, exps_real (x := fun _ _ => 0) (logitsH_real hq hk hc) e⟩

theorem lse_apply (mx t : FVec Ideal S8x2048x1 .f32) (r : Fin 2048) (h : Fin 8) :
    (transpose S2048x8 [1, 0] (shapeCast S8x2048 (addf mx (Host.log t)) shapeCasts_S8x2048x1_S8x2048) transposes_S8x2048_S2048x8_1_0 (ix2 r h) : EReal)
      = mx (ix3 h r 0) + Ideal.log (t (ix3 h r 0)) := by
  pointwise

theorem lse_real (hq : Is3 q a.q) (hk : Is3 k a.k) (hc : Is2 c a.c) : Is2 (lseH q k c) (fun r h => Real.log (a.den h r)) := fun r h => by
  obtain ⟨M, hM, he⟩ := hostParts hq hk hc
  have hl := total_real he
  refine (lse_apply _ _ r h).trans ?_
  rw [hM, hl, log_real (mul_pos (a.den_pos h r) (Real.exp_pos _)), ← EReal.coe_add, Real.log_mul (a.den_pos h r).ne' (Real.exp_pos _).ne', Real.log_exp]
  congr 1; ring

theorem dl_real (hq : Is3 q a.q) (hk : Is3 k a.k) (hv : Is3 v a.v) (hd : Is3 d a.d) (hc : Is2 c a.c) :
    Is2 (dlH q k v d c) (fun r h => a.dl h r) := fun r h => by
  obtain ⟨M, hM, he⟩ := hostParts hq hk hc
  have hw := soft_real (fun h r => Real.exp_pos _) he
  unfold dlH
  generalize soft _ = w at *
  unfold Is3 at *
  pointwise [hw, hv, hd]
  simp only [zero_add, coe_sum, ← EReal.coe_mul]
  unfold Reals.dl Reals.o
  simp only [mul_comm (a.v _ _ _)]
end values

end Cert.Fox
end
end
-- ==== Proof.Fox.Block.lean ====
module

public import proofs.«01_k».proof.Proof.Gen.FoxBwdIdeal.Skeleton
public import proofs.«01_k».proof.Proof.Math.Lift
public import Idealize.ShloMosaic.Lib.Pipeline.ValueKit
public import Idealize.ShloMosaic.Lib.Claim

/-! # One block of the attention's backward pass, as reals

A grid point holds 512 queries and 512 keys of two heads side by side in 128 lanes. The arrays of one head are the whole
arrays with the other head's lanes put to zero. -/

@[expose] public section
set_option maxRecDepth 16384
noncomputable section
namespace Cert.Fox
open Cert.Lift Cert.FoxBwdIdeal Cert.FoxBwdIdeal.Gen Idealize.ShloMosaic Idealize.ShloMosaic.TcCoe Idealize.SL.Sem

/-- A lane's value where the lane belongs to head `a` of the two, zero elsewhere. -/
def on (a : ℕ) (l : Fin 128) (x : ℝ) : ℝ := if l.val / 64 = a then x else 0

/-- The reals in one point's blocks: queries, keys, values and the output's cotangent; per head the summed gate at the keys,
    and the logarithm of the softmax's denominator and the cotangent's product with the output at the queries. -/
structure Block where
  (q k v d : Fin 512 → Fin 128 → ℝ)
  (c l e : ℕ → Fin 512 → ℝ)
  diag : Bool

namespace Block
variable (b : Block)

/-- Head `a`'s logits. -/
def s (a : ℕ) (p u : Fin 512) : ℝ := ∑ l, on a l (b.q p l * (1 / 8)) * b.k u l - b.c a u
/-- Head `a`'s weights; on a diagonal block only keys up to the query count. -/
def w (a : ℕ) (p u : Fin 512) : ℝ := if b.diag = true ∧ p < u then 0 else Real.exp (b.s a p u - b.l a p)
/-- The logits' cotangents. -/
def ds (a : ℕ) (p u : Fin 512) : ℝ := b.w a p u * (∑ l, on a l (b.d p l) * b.v u l - b.e a p)
def dv (u : Fin 512) (l : Fin 128) : ℝ := ∑ p, b.w 0 p u * on 0 l (b.d p l) + ∑ p, b.w 1 p u * on 1 l (b.d p l)
def dk (u : Fin 512) (l : Fin 128) : ℝ := ∑ p, b.ds 0 p u * on 0 l (b.q p l * (1 / 8)) + ∑ p, b.ds 1 p u * on 1 l (b.q p l * (1 / 8))
def dq (p : Fin 512) (l : Fin 128) : ℝ := (∑ u, b.ds 0 p u * on 0 l (b.k u l) + ∑ u, b.ds 1 p u * on 1 l (b.k u l)) * (1 / 8)
def dcq (p : Fin 512) (l : Fin 128) : ℝ := if l.val < 64 then ∑ u, b.ds 0 p u else ∑ u, b.ds 1 p u
def dck (a : ℕ) (u : Fin 512) : ℝ := ∑ p, b.ds a p u
end Block

theorem lit_eighth : Ideal.ofBits .f32 0x3E000000#32 = ((1 / 8 : ℝ) : EReal) := by
  simp [Ideal.ofBits, Ideal.ieee, -EReal.coe_mul]; norm_num

/-- The index of a lane's head, as the kernel computes it. -/
theorem lane : ∀ l : Fin 128, k0_pay47 (ix2 (0 : Fin 512) l) = BitVec.ofNat 32 (l.val / 64) := by
  decide +kernel
theorem lane' (p : Fin 512) (l : Fin 128) : k0_pay47 (ix2 p l) = BitVec.ofNat 32 (l.val / 64) := lane l

/-- An array with the lanes of the other head put to zero. -/
theorem head (a : ℕ) (ha : a < 2) (x : FVec Ideal S512x128 .f32) (X : Fin 512 → Fin 128 → ℝ) (hx : Is2 x X) :
    Is2 (truncf .bf16 (select (cmpi .eq k0_pay47 (broadcast S512x128 (BitVec.ofNat 32 a))) x
      (broadcast S512x128 (Scalar.ofBits (F := Ideal) .f32 0x00000000#32))) bitsLt_bf16_f32) (fun p l => on a l (X p l)) := fun p l => by
  unfold Is2 at hx
  pointwise [hx, lane']
  have h : BitVec.ofNat 32 (l.val / 64) = BitVec.ofNat 32 a ↔ l.val / 64 = a := by
    rw [← BitVec.toNat_inj, BitVec.toNat_ofNat, BitVec.toNat_ofNat]; have := l.isLt; omega
  unfold on Scalar.select IntOp.cmpi
  by_cases e : l.val / 64 = a
  · simp [e, h]
  · have h' : (BitVec.ofNat 32 (l.val / 64) == BitVec.ofNat 32 a) = false := beq_eq_false_iff_ne.2 (mt h.1 e)
    simp [e, h']

variable (x0 x1 x2 x5 : FVec Ideal S512x128 .f32) (g : Fin 2 → FVec Ideal S1x512 .f32) (lse e : Fin 2 → FVec Ideal S512x1 .f32)

/-- What a point loads are the reals of its block. -/
structure Loads (b : Block) : Prop where
  q : Is2 x0 b.q
  k : Is2 x1 b.k
  v : Is2 x2 b.v
  d : Is2 x5 b.d
  c : ∀ (a : Fin 2) (u : Fin 512), g a (ix2 0 u) = ((b.c a u : ℝ) : EReal)
  l : ∀ (a : Fin 2) (u : Fin 512), lse a (ix2 u 0) = ((b.l a u : ℝ) : EReal)
  e : ∀ (a : Fin 2) (u : Fin 512), e a (ix2 u 0) = ((b.e a u : ℝ) : EReal)

variable {x0 x1 x2 x5 g lse e} {b : Block} (h : Loads x0 x1 x2 x5 g lse e b)
include h

omit h in
theorem qs' (x : FVec Ideal S512x128 .f32) (X : Fin 512 → Fin 128 → ℝ) (hx : Is2 x X) : Is2 (k0_pay46 x) (fun p l => X p l * (1 / 8)) := fun p l => by
  unfold Is2 at hx
  pointwise [k0_pay46, hx]
  rw [lit_eighth, ← EReal.coe_mul]

theorem q0 : Is2 (k0_pay48 x0) (fun p l => on 0 l (b.q p l * (1 / 8))) := head 0 (by decide) _ _ (qs' _ _ h.q)
theorem q1 : Is2 (k0_pay49 x0) (fun p l => on 1 l (b.q p l * (1 / 8))) := head 1 (by decide) _ _ (qs' _ _ h.q)
theorem d0 : Is2 (k0_pay59 (k0_pay54 x5) k0_pay55 k0_pay56 k0_pay57) (fun p l => on 0 l (b.d p l)) :=
  head 0 (by decide) (k0_pay54 x5) _ fun p l => by have := h.d; unfold Is2 at this; pointwise [k0_pay54, this]
theorem d1 : Is2 (k0_pay60 (k0_pay54 x5) k0_pay55 k0_pay56 k0_pay57) (fun p l => on 1 l (b.d p l)) :=
  head 1 (by decide) (k0_pay54 x5) _ fun p l => by have := h.d; unfold Is2 at this; pointwise [k0_pay54, this]
theorem k0 : Is2 (k0_pay73 x1) (fun p l => on 0 l (b.k p l)) :=
  head 0 (by decide) (k0_pay71 x1) _ fun p l => by have := h.k; unfold Is2 at this; pointwise [k0_pay71, this]
theorem k1 : Is2 (k0_pay74 x1) (fun p l => on 1 l (b.k p l)) :=
  head 1 (by decide) (k0_pay71 x1) _ fun p l => by have := h.k; unfold Is2 at this; pointwise [k0_pay71, this]

/-- Head 0's logits. -/
theorem s0 : Is2 (k0_pay52 (k0_pay48 x0) (k0_pay50 x1) (g 0)) (b.s 0) := fun p u => by
  have hq := q0 h; have hk := h.k; have hc := h.c 0
  unfold Is2 at *
  pointwise [k0_pay52, k0_pay50, k0_pay51, hq, hk, hc]
  simp only [zero_add, coe_sum, ← EReal.coe_mul, ← EReal.coe_sub]
  rfl
theorem s1 : Is2 (k0_pay53 (k0_pay49 x0) (k0_pay50 x1) (g 1)) (b.s 1) := fun p u => by
  have hq := q1 h; have hk := h.k; have hc := h.c 1
  unfold Is2 at *
  pointwise [k0_pay53, k0_pay50, k0_pay51, hq, hk, hc]
  simp only [zero_add, coe_sum, ← EReal.coe_mul, ← EReal.coe_sub]
  rfl

/-- A logit, or -∞ where the key comes after the query on a diagonal block. -/
def Masked (b : Block) (a : ℕ) (x : FVec Ideal S512x512 .f32) : Prop :=
  ∀ p u : Fin 512, (x (ix2 p u) : EReal) = if b.diag = true ∧ p < u then ⊥ else ((b.s a p u : ℝ) : EReal)

theorem masked0 (hb : b.diag = false) : Masked b 0 (k0_pay52 (k0_pay48 x0) (k0_pay50 x1) (g 0)) := fun p u => by
  rw [s0 h, if_neg (by rw [hb]; simp)]
theorem masked1 (hb : b.diag = false) : Masked b 1 (k0_pay53 (k0_pay49 x0) (k0_pay50 x1) (g 1)) := fun p u => by
  rw [s1 h, if_neg (by rw [hb]; simp)]

omit h in
/-- The diagonal block's test of a key's place against a query's. -/
theorem after_diag (p u : Fin 512) : IntOp.cmpi .sge (BitVec.ofNat 32 p.val) (BitVec.ofNat 32 u.val) = if p < u then 0#1 else 1#1 := by
  have hp := p.isLt; have hu := u.isLt
  have e : BitVec.sle (BitVec.ofNat 32 u.val) (BitVec.ofNat 32 p.val) = decide (u.val ≤ p.val) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  unfold IntOp.cmpi
  by_cases hlt : p < u
  · have : ¬ u.val ≤ p.val := by have : p.val < u.val := hlt; omega
    simp [hlt, e, this]
  · have : u.val ≤ p.val := by have : ¬ p.val < u.val := hlt; omega
    simp [hlt, e, this]

omit h in
theorem mask_named : (Named.named (F := Ideal) κ "mask" (φ := .f32) 0xF149F2CA#32 : EReal) = ⊥ :=
  IdealRules.named_const.ideal_named_scalar κ "mask" _ ⊥ rfl

theorem masked0d (hb : b.diag = true) : Masked b 0 (k0_pay18 (k0_pay13 x0) (k0_pay15 x1) (g 0)) := fun p u => by
  have e : k0_pay18 (k0_pay13 x0) (k0_pay15 x1) (g 0) = select k0_pay17 (k0_pay52 (k0_pay48 x0) (k0_pay50 x1) (g 0))
      (broadcast S512x512 (Named.named (F := Ideal) κ "mask" (φ := .f32) 0xF149F2CA#32)) := rfl
  have hs := s0 h
  unfold Is2 at hs
  rw [e]
  pointwise [k0_pay17, hs]
  rw [hb, after_diag, mask_named]
  unfold Scalar.select
  by_cases hlt : p < u <;> simp [hlt]
theorem masked1d (hb : b.diag = true) : Masked b 1 (k0_pay19 (k0_pay14 x0) (k0_pay15 x1) (g 1)) := fun p u => by
  have e : k0_pay19 (k0_pay14 x0) (k0_pay15 x1) (g 1) = select k0_pay17 (k0_pay53 (k0_pay49 x0) (k0_pay50 x1) (g 1))
      (broadcast S512x512 (Named.named (F := Ideal) κ "mask" (φ := .f32) 0xF149F2CA#32)) := rfl
  have hs := s1 h
  unfold Is2 at hs
  rw [e]
  pointwise [k0_pay17, hs]
  rw [hb, after_diag, mask_named]
  unfold Scalar.select
  by_cases hlt : p < u <;> simp [hlt]

omit h in
/-- The exponential of a logit's difference with the logarithm of the denominator. -/
theorem weight {a : ℕ} {x : FVec Ideal S512x512 .f32} (hx : Masked b a x) (p u : Fin 512) :
    Ideal.exp (x (ix2 p u) - ((b.l a p : ℝ) : EReal)) = ((b.w a p u : ℝ) : EReal) := by
  rw [hx]
  unfold Block.w
  split_ifs with hm
  · rw [EReal.bot_sub]; rfl
  · rw [← EReal.coe_sub]; rfl

theorem w0 {x : FVec Ideal S512x512 .f32} (hx : Masked b 0 x) : Is2 (k0_pay62 x (lse 0)) (b.w 0) := fun p u => by
  have hl := h.l 0
  pointwise [k0_pay62, hl]
  exact weight hx p u
theorem w1 {x : FVec Ideal S512x512 .f32} (hx : Masked b 1 x) : Is2 (k0_pay63 x (lse 1)) (b.w 1) := fun p u => by
  have hl := h.l 1
  pointwise [k0_pay63, hl]
  exact weight hx p u

/-- Head 0's cotangents of the logits. -/
theorem ds0 {x : FVec Ideal S512x512 .f32} (hx : Masked b 0 x) :
    Is2 (k0_pay64 x (k0_pay54 x5) k0_pay55 k0_pay56 k0_pay57 x2 (lse 0) (e 0)) (b.ds 0) := fun p u => by
  have hw := w0 h hx; have hd := d0 h; have hv := h.v; have he := h.e 0
  unfold Is2 at *
  pointwise [k0_pay64, k0_pay61, hw, hd, hv, he]
  simp only [zero_add, coe_sum, ← EReal.coe_mul, ← EReal.coe_sub]
  rfl
theorem ds1 {x : FVec Ideal S512x512 .f32} (hx : Masked b 1 x) :
    Is2 (k0_pay65 x (k0_pay54 x5) k0_pay55 k0_pay56 k0_pay57 x2 (lse 1) (e 1)) (b.ds 1) := fun p u => by
  have hw := w1 h hx; have hd := d1 h; have hv := h.v; have he := h.e 1
  unfold Is2 at *
  pointwise [k0_pay65, k0_pay61, hw, hd, hv, he]
  simp only [zero_add, coe_sum, ← EReal.coe_mul, ← EReal.coe_sub]
  rfl

/-- What a point adds to the values' gradient. -/
theorem dv {x y : FVec Ideal S512x512 .f32} (hx : Masked b 0 x) (hy : Masked b 1 y) (acc : FVec Ideal S512x128 .f32) (u : Fin 512) (l : Fin 128) :
    k0_pay76 (k0_pay66 x (k0_pay54 x5) k0_pay55 k0_pay56 k0_pay57 (lse 0))
      (k0_pay68 (k0_pay60 (k0_pay54 x5) k0_pay55 k0_pay56 k0_pay57) (k0_pay67 y (lse 1))) acc (ix2 u l)
      = acc (ix2 u l) + ((b.dv u l : ℝ) : EReal) := by
  have hw := w0 h hx; have hd := d0 h; have hw' := w1 h hy; have hd' := d1 h
  unfold Is2 at *
  pointwise [k0_pay76, k0_pay66, k0_pay67, k0_pay68, hw, hd, hw', hd']
  simp only [zero_add, coe_sum, ← EReal.coe_mul, ← EReal.coe_add]
  rfl

omit h in
/-- What a point adds to the keys' gradient. -/
theorem dk {x y : FVec Ideal S512x512 .f32} (h : Loads x0 x1 x2 x5 g lse e b) (hx : Is2 x (b.ds 0)) (hy : Is2 y (b.ds 1)) (acc : FVec Ideal S512x128 .f32) (u : Fin 512) (l : Fin 128) :
    k0_pay77 (k0_pay69 (k0_pay48 x0) x) (k0_pay70 (k0_pay49 x0) y) acc (ix2 u l) = acc (ix2 u l) + ((b.dk u l : ℝ) : EReal) := by
  have hq := q0 h; have hq' := q1 h
  unfold Is2 at *
  pointwise [k0_pay77, k0_pay69, k0_pay70, hx, hy, hq, hq']
  simp only [zero_add, coe_sum, ← EReal.coe_mul, ← EReal.coe_add]
  rfl

omit h in
/-- What a point adds to the queries' gradient. -/
theorem dq {x y : FVec Ideal S512x512 .f32} (h : Loads x0 x1 x2 x5 g lse e b) (hx : Is2 x (b.ds 0)) (hy : Is2 y (b.ds 1)) (acc : FVec Ideal S512x128 .f32) (u : Fin 512) (l : Fin 128) :
    k0_pay78 y (k0_pay73 x1) (k0_pay74 x1) (k0_pay75 x) (constant S512x128 .f32 0x00000000#32) acc (ix2 u l) = acc (ix2 u l) + ((b.dq u l : ℝ) : EReal) := by
  have hk := k0 h; have hk' := k1 h
  unfold Is2 at *
  pointwise [k0_pay78, k0_pay75, hx, hy, hk, hk']
  simp only [zero_add, lit_eighth, coe_sum, ← EReal.coe_mul, ← EReal.coe_add]
  rfl

omit h in
theorem lane_lt (l : Fin 128) : IntOp.cmpi .slt (BitVec.ofNat 32 l.val) 64#32 = if l.val < 64 then 1#1 else 0#1 := by
  revert l; decide +kernel

omit h in
/-- What a point adds to the gate's gradient at the queries. -/
theorem dcq {x y : FVec Ideal S512x512 .f32} (hx : Is2 x (b.ds 0)) (hy : Is2 y (b.ds 1)) (acc : FVec Ideal S512x128 .f32) (u : Fin 512) (l : Fin 128) :
    k0_pay79 x y acc (ix2 u l) = acc (ix2 u l) + ((b.dcq u l : ℝ) : EReal) := by
  unfold Is2 at *
  pointwise [k0_pay79, hx, hy]
  rw [lane_lt]
  unfold Block.dcq Scalar.select
  simp only [zero_add, coe_sum]
  by_cases hl : l.val < 64 <;> simp [hl]

omit h in
/-- What a point adds to the gate's gradient at the keys. -/
theorem dck0 {x : FVec Ideal S512x512 .f32} (hx : Is2 x (b.ds 0)) (acc : FVec Ideal S1x1x512 .f32) (u : Fin 512) :
    k0_pay9 x acc (ix3 0 0 u) = acc (ix3 0 0 u) + ((b.dck 0 u : ℝ) : EReal) := by
  unfold Is2 at *
  pointwise [k0_pay9, hx]
  simp only [zero_add, coe_sum]
  rfl
omit h in
theorem dck1 {x : FVec Ideal S512x512 .f32} (hx : Is2 x (b.ds 1)) (acc : FVec Ideal S1x1x512 .f32) (u : Fin 512) :
    k0_pay10 x acc (ix3 0 0 u) = acc (ix3 0 0 u) + ((b.dck 1 u : ℝ) : EReal) := by
  unfold Is2 at *
  pointwise [k0_pay10, hx]
  simp only [zero_add, coe_sum]
  rfl

end Cert.Fox
end
end
-- ==== Proof.Fox.Blocks.lean ====
module

public import proofs.«01_k».proof.Proof.Fox.Host
public import proofs.«01_k».proof.Proof.Fox.Block

/-! # The blocks a grid point reads -/

@[expose] public section
set_option maxRecDepth 16384
noncomputable section
namespace Cert.Fox
open Cert.Lift Cert.FoxBwdIdeal Cert.FoxBwdIdeal.Gen Idealize.ShloMosaic Idealize.ShloMosaic.TcCoe Idealize.SL.Sem

/-- The block of queries and the block of keys of step `n` of ten. -/
def iq (n : ℕ) : Fin 4 := (![0, 1, 2, 3, 1, 2, 3, 2, 3, 3] : Fin 10 → Fin 4) ⟨n % 10, Nat.mod_lt _ (by decide)⟩
def ik (n : ℕ) : Fin 4 := (![0, 0, 0, 0, 1, 1, 1, 2, 2, 3] : Fin 10 → Fin 4) ⟨n % 10, Nat.mod_lt _ (by decide)⟩

/-- Where the blocks lie. -/
abbrev Places (F : FTy → Type) [FloatOps F] [Named F] (t : Fin (cfgA F).N) : Prop :=
  ((cfgA F).win 0).index t = ![(iq t.val).val, 16 + t.val / 10] ∧ ((cfgA F).win 1).index t = ![(ik t.val).val, 20 + t.val / 10]
  ∧ ((cfgA F).win 2).index t = ![(ik t.val).val, 24 + t.val / 10] ∧ ((cfgA F).win 3).index t = ![0, (ik t.val).val]
  ∧ ((cfgA F).win 4).index t = ![(iq t.val).val, t.val / 10] ∧ ((cfgA F).win 5).index t = ![(iq t.val).val, t.val / 10]
  ∧ ((cfgA F).win 6).index t = ![(iq t.val).val, t.val / 10] ∧ ((cfgA F).win 7).index t = ![0, t.val / 10]
  ∧ ((cfgA F).win 8).index t = ![(ik t.val).val, t.val / 10] ∧ ((cfgA F).win 9).index t = ![(ik t.val).val, t.val / 10]
  ∧ ((cfgA F).win 10).index t = ![0, t.val / 10] ∧ ((cfgA F).win 11).index t = ![t.val / 10, 0, (ik t.val).val] ∧ t.val < 40
theorem places_bits : ∀ t : Fin (cfgA Bits).N, Places Bits t := by decide +kernel
theorem places (t : Fin (cfgA Ideal).N) : Places Ideal t := places_bits t
theorem place0 (t : Fin (cfgA Ideal).N) : ((cfgA Ideal).win 0).index t = ![(iq t.val).val, 16 + t.val / 10] := (places t).1
theorem place1 (t : Fin (cfgA Ideal).N) : ((cfgA Ideal).win 1).index t = ![(ik t.val).val, 20 + t.val / 10] := (places t).2.1
theorem place2 (t : Fin (cfgA Ideal).N) : ((cfgA Ideal).win 2).index t = ![(ik t.val).val, 24 + t.val / 10] := (places t).2.2.1
theorem place3 (t : Fin (cfgA Ideal).N) : ((cfgA Ideal).win 3).index t = ![0, (ik t.val).val] := (places t).2.2.2.1
theorem place4 (t : Fin (cfgA Ideal).N) : ((cfgA Ideal).win 4).index t = ![(iq t.val).val, t.val / 10] := (places t).2.2.2.2.1
theorem place5 (t : Fin (cfgA Ideal).N) : ((cfgA Ideal).win 5).index t = ![(iq t.val).val, t.val / 10] := (places t).2.2.2.2.2.1
theorem place6 (t : Fin (cfgA Ideal).N) : ((cfgA Ideal).win 6).index t = ![(iq t.val).val, t.val / 10] := (places t).2.2.2.2.2.2.1
theorem place7 (t : Fin (cfgA Ideal).N) : ((cfgA Ideal).win 7).index t = ![0, t.val / 10] := (places t).2.2.2.2.2.2.2.1
theorem place8 (t : Fin (cfgA Ideal).N) : ((cfgA Ideal).win 8).index t = ![(ik t.val).val, t.val / 10] := (places t).2.2.2.2.2.2.2.2.1
theorem place9 (t : Fin (cfgA Ideal).N) : ((cfgA Ideal).win 9).index t = ![(ik t.val).val, t.val / 10] := (places t).2.2.2.2.2.2.2.2.2.1
theorem place10 (t : Fin (cfgA Ideal).N) : ((cfgA Ideal).win 10).index t = ![0, t.val / 10] := (places t).2.2.2.2.2.2.2.2.2.2.1
theorem place11 (t : Fin (cfgA Ideal).N) : ((cfgA Ideal).win 11).index t = ![t.val / 10, 0, (ik t.val).val] := (places t).2.2.2.2.2.2.2.2.2.2.2.1
theorem lt40 (t : Fin (cfgA Ideal).N) : t.val < 40 := (places t).2.2.2.2.2.2.2.2.2.2.2.2

/-- The pair of heads of a point. -/
def pr (t : Fin (cfgA Ideal).N) : Fin 4 := ⟨t.val / 10, by have := lt40 t; omega⟩
/-- Row `p` of block `i` of four. -/
def row (i : Fin 4) (p : Fin 512) : Fin 2048 := ⟨i.val * 512 + p.val, by omega⟩
/-- Column `l` of pair of heads `w`. -/
def col (w : Fin 4) (l : Fin 128) : Fin 512 := ⟨w.val * 128 + l.val, by omega⟩
/-- Head `x` of pair `w`. -/
def hx (w : Fin 4) (x : ℕ) : Fin 8 := ⟨(2 * w.val + x) % 8, Nat.mod_lt _ (by decide)⟩

/-- The reals of pair `w`'s heads over query block `i` and key block `j`. -/
def Reals.block (a : Reals) (w i j : Fin 4) : Block where
  q p l := a.q (row i p) (hd (col w l)) (ln (col w l))
  k u l := a.k (row j u) (hd (col w l)) (ln (col w l))
  v u l := a.v (row j u) (hd (col w l)) (ln (col w l))
  d p l := a.d (row i p) (hd (col w l)) (ln (col w l))
  c x u := a.c (hx w x) (row j u)
  l x p := Real.log (a.den (hx w x) (row i p))
  e x p := a.dl (hx w x) (row i p)
  diag := decide (i = j)

theorem flat_apply (x : FVec Ideal S2048x8x64 .f32) (r : Fin 2048) (l : Fin 512) : flat x (ix2 r l) = x (ix3 r (hd l) (ln l)) := by
  pointwise [flat]
  rfl
theorem wide_apply (x : FVec Ideal S2048x8 .f32) (r : Fin 2048) (l : Fin 512) : wide x (ix2 r l) = x (ix2 r (hd l)) := by
  pointwise [wide]
  rfl
theorem projH_q (q k v : FVec Ideal S2048x8x64 .f32) (r : Fin 2048) (l : Fin 512) (x : Fin 3712) (hx : x.val = 2048 + l.val) :
    projH q k v (ix2 r x) = flat q (ix2 r l) := by
  have := l.isLt
  obtain ⟨x, h⟩ := x
  obtain rfl : x = 2048 + l.val := hx
  pointwise [projH]
theorem projH_k (q k v : FVec Ideal S2048x8x64 .f32) (r : Fin 2048) (l : Fin 512) (x : Fin 3712) (hx : x.val = 2560 + l.val) :
    projH q k v (ix2 r x) = flat k (ix2 r l) := by
  have := l.isLt
  obtain ⟨x, h⟩ := x
  obtain rfl : x = 2560 + l.val := hx
  pointwise [projH]
  split_ifs <;> first
    | omega
    | (simp only [show 2560 + l.val - 2048 - 512 = l.val by omega]; done)
theorem projH_v (q k v : FVec Ideal S2048x8x64 .f32) (r : Fin 2048) (l : Fin 512) (x : Fin 3712) (hx : x.val = 3072 + l.val) :
    projH q k v (ix2 r x) = flat v (ix2 r l) := by
  have := l.isLt
  obtain ⟨x, h⟩ := x
  obtain rfl : x = 3072 + l.val := hx
  pointwise [projH]
  split_ifs <;> first
    | omega
    | (simp only [show 3072 + l.val - 2048 - 512 - 512 = l.val by omega]; done)
theorem gatesH_apply (x : FVec Ideal S8x2048 .f32) (b : Fin 8) (r : Fin 2048) (y : Fin 128) (hy : y.val = 8 + b.val) :
    gatesH x (ix2 y r) = x (ix2 b r) := by
  have := b.isLt
  obtain ⟨y, h⟩ := y
  obtain rfl : y = 8 + b.val := hy
  pointwise [gatesH]

/-- Two loads. -/
def ldGate (x : FVec Ideal S16x512 .f32) (n : ℕ) (h : ∀ a, (![n, 0] : Fin 2 → ℕ) a + (![1, 512] : Fin 2 → ℕ) a ≤ S16x512.size a) : FVec Ideal S1x512 .f32 :=
  fun y => x ((Rect.unit (s := S16x512) ![n, 0] ![1, 512] h).idx y)
def ldColumn (x : FVec Ideal S512x128 .f32) (n : ℕ) (h : ∀ a, (![0, n] : Fin 2 → ℕ) a + (![512, 1] : Fin 2 → ℕ) a ≤ S512x128.size a) : FVec Ideal S512x1 .f32 :=
  fun y => x ((Rect.unit (s := S512x128) ![0, n] ![512, 1] h).idx y)
theorem ldGate_apply (x : FVec Ideal S16x512 .f32) (n : ℕ) (h) (hn : n < 16) (u : Fin 512) : ldGate x n h (ix2 0 u) = x (ix2 ⟨n, hn⟩ u) := by
  unfold ldGate
  refine congrArg x ?_
  funext a; apply Fin.ext
  fin_cases a
  · show n + 1 * 0 = n; omega
  · show 0 + 1 * u.val = u.val; omega
theorem ldColumn_apply (x : FVec Ideal S512x128 .f32) (n : ℕ) (h) (hn : n < 128) (p : Fin 512) : ldColumn x n h (ix2 p 0) = x (ix2 p ⟨n, hn⟩) := by
  unfold ldColumn
  refine congrArg x ?_
  funext a; apply Fin.ext
  fin_cases a
  · show 0 + 1 * p.val = p.val; omega
  · show n + 1 * 0 = n; omega
def columns (x : FVec Ideal S512x128 .f32) : Fin 2 → FVec Ideal S512x1 .f32 :=
  ![ldColumn x 0 inb_S512x128_S512x1_0_0, ldColumn x 64 inb_S512x128_S512x1_0_64]
theorem columns_apply (x : FVec Ideal S512x128 .f32) (k : Fin 2) (p : Fin 512) : columns x k (ix2 p 0) = x (ix2 p ⟨64 * k.val, by omega⟩) := by
  unfold columns
  fin_cases k
  · exact ldColumn_apply x 0 _ (by decide) p
  · exact ldColumn_apply x 64 _ (by decide) p

variable (m : (ℓ : Loc nD τ sig) → Buf (Elt Ideal) ℓ) (c : Dev nD)
theorem readAt4 (t : Fin (cfgA Ideal).N) (p : Fin 512) (l : Fin 128) (x : FVec Ideal S2048x512 .f32) :
    (show FVec Ideal S512x128 .f32 from (((cfgA Ideal).win 4).blk t).view.read (Elt Ideal) x) (ix2 p l) = x (ix2 (row (iq t.val) p) (col (pr t) l)) := by
  blk_ext [place4 t, row, col, pr]
theorem readAt6 (t : Fin (cfgA Ideal).N) (p : Fin 512) (l : Fin 128) (x : FVec Ideal S2048x512 .f32) :
    (show FVec Ideal S512x128 .f32 from (((cfgA Ideal).win 6).blk t).view.read (Elt Ideal) x) (ix2 p l) = x (ix2 (row (iq t.val) p) (col (pr t) l)) := by
  blk_ext [place6 t, row, col, pr]
theorem blk0 (t : Fin (cfgA Ideal).N) (p : Fin 512) (l : Fin 128) :
    (show FVec Ideal S512x128 .f32 from blk m c 0 t) (ix2 p l) = (show FVec Ideal S2048x3712 .f32 from V m c (Pipeline.arrRef spec0 0)) (ix2 (row (iq t.val) p) ⟨(16 + t.val / 10) * 128 + l.val, by have := lt40 t; omega⟩) := by
  blk_ext [blk, place0 t, row]
theorem blk1 (t : Fin (cfgA Ideal).N) (p : Fin 512) (l : Fin 128) :
    (show FVec Ideal S512x128 .f32 from blk m c 1 t) (ix2 p l) = (show FVec Ideal S2048x3712 .f32 from V m c (Pipeline.arrRef spec0 1)) (ix2 (row (ik t.val) p) ⟨(20 + t.val / 10) * 128 + l.val, by have := lt40 t; omega⟩) := by
  blk_ext [blk, place1 t, row]
theorem blk2 (t : Fin (cfgA Ideal).N) (p : Fin 512) (l : Fin 128) :
    (show FVec Ideal S512x128 .f32 from blk m c 2 t) (ix2 p l) = (show FVec Ideal S2048x3712 .f32 from V m c (Pipeline.arrRef spec0 2)) (ix2 (row (ik t.val) p) ⟨(24 + t.val / 10) * 128 + l.val, by have := lt40 t; omega⟩) := by
  blk_ext [blk, place2 t, row]
theorem blk3 (t : Fin (cfgA Ideal).N) (y : Fin 16) (u : Fin 512) :
    (show FVec Ideal S16x512 .f32 from blk m c 3 t) (ix2 y u) = (show FVec Ideal S128x2048 .f32 from V m c (Pipeline.arrRef spec0 3)) (ix2 ⟨y.val, by omega⟩ (row (ik t.val) u)) := by
  blk_ext [blk, place3 t, row]
theorem blk4 (t : Fin (cfgA Ideal).N) (p : Fin 512) (l : Fin 128) :
    (show FVec Ideal S512x128 .f32 from blk m c 4 t) (ix2 p l) = (show FVec Ideal S2048x512 .f32 from V m c (Pipeline.arrRef spec0 4)) (ix2 (row (iq t.val) p) (col (pr t) l)) := by
  exact readAt4 t p l _
theorem blk5 (t : Fin (cfgA Ideal).N) (p : Fin 512) (l : Fin 128) :
    (show FVec Ideal S512x128 .f32 from blk m c 5 t) (ix2 p l) = (show FVec Ideal S2048x512 .f32 from V m c (Pipeline.arrRef spec0 5)) (ix2 (row (iq t.val) p) (col (pr t) l)) := by
  blk_ext [blk, place5 t, row, col, pr]
theorem blk6 (t : Fin (cfgA Ideal).N) (p : Fin 512) (l : Fin 128) :
    (show FVec Ideal S512x128 .f32 from blk m c 6 t) (ix2 p l) = (show FVec Ideal S2048x512 .f32 from V m c (Pipeline.arrRef spec0 6)) (ix2 (row (iq t.val) p) (col (pr t) l)) := by
  exact readAt6 t p l _

/-- The row of the gates a point loads for head `x` of its pair. -/
abbrev gateRow (F : FTy → Type) [FloatOps F] [Named F] (t : Fin (cfgA F).N) (x : BitVec 32) : ℕ :=
  BitVec.toNat (Scalar.indexCast (Scalar.addi (Scalar.addi (8#32) (Scalar.muli (2#32) (BitVec.ofNat 32 (crd t 0).val))) x))
theorem gateRow_bits : ∀ t : Fin (cfgA Bits).N, gateRow Bits t 0#32 = 8 + 2 * (t.val / 10) ∧ gateRow Bits t 1#32 = 8 + 2 * (t.val / 10) + 1 := by
  decide +kernel
theorem gateRow_eq (t : Fin (cfgA Ideal).N) : gateRow Ideal t 0#32 = 8 + 2 * (t.val / 10) ∧ gateRow Ideal t 1#32 = 8 + 2 * (t.val / 10) + 1 := gateRow_bits t

theorem gate_inb (t : Fin (cfgA Ideal).N) (x : Fin 2) : ∀ a, (![gateRow Ideal t (BitVec.ofNat 32 x.val), 0] : Fin 2 → ℕ) a + (![1, 512] : Fin 2 → ℕ) a ≤ S16x512.size a := fun a => by
  have h := gateRow_eq t; have := lt40 t
  fin_cases x <;> fin_cases a
  · show gateRow Ideal t 0#32 + 1 ≤ 16; omega
  · show 0 + 512 ≤ 512; omega
  · show gateRow Ideal t 1#32 + 1 ≤ 16; omega
  · show 0 + 512 ≤ 512; omega
/-- What a point loads of the gates, -/
def gateLd (t : Fin (cfgA Ideal).N) (x : Fin 2) : FVec Ideal S1x512 .f32 := ldGate (blk m c 3 t) _ (gate_inb t x)
/-- of the denominators' logarithms -/
def lseLd (t : Fin (cfgA Ideal).N) : Fin 2 → FVec Ideal S512x1 .f32 :=
  columns (blk m c 4 t)
/-- and of the cotangent's products with the output. -/
def dlLd (t : Fin (cfgA Ideal).N) : Fin 2 → FVec Ideal S512x1 .f32 :=
  columns (blk m c 6 t)

theorem gateLd_apply (t : Fin (cfgA Ideal).N) (x : Fin 2) (u : Fin 512) :
    gateLd m c t x (ix2 0 u) = (show FVec Ideal S16x512 .f32 from blk m c 3 t) (ix2 ⟨8 + 2 * (t.val / 10) + x.val, by have := lt40 t; omega⟩ u) := by
  have h := gateRow_eq t; have := lt40 t
  have e : gateRow Ideal t (BitVec.ofNat 32 x.val) = 8 + 2 * (t.val / 10) + x.val := by
    fin_cases x
    · exact h.1
    · exact h.2
  refine (ldGate_apply _ _ _ (by omega) u).trans ?_
  congr 3
theorem lseLd_apply (t : Fin (cfgA Ideal).N) (x : Fin 2) (u : Fin 512) :
    lseLd m c t x (ix2 u 0) = (show FVec Ideal S512x128 .f32 from blk m c 4 t) (ix2 u ⟨64 * x.val, by omega⟩) := by
  exact columns_apply _ x u
theorem dlLd_apply (t : Fin (cfgA Ideal).N) (x : Fin 2) (u : Fin 512) :
    dlLd m c t x (ix2 u 0) = (show FVec Ideal S512x128 .f32 from blk m c 6 t) (ix2 u ⟨64 * x.val, by omega⟩) := by
  exact columns_apply _ x u

variable {m c} {a : Reals} (h : Holds m c a)
include h
/-- A point loads the reals of its block. -/
theorem loads (t : Fin (cfgA Ideal).N) : Loads (blk m c 0 t) (blk m c 1 t) (blk m c 2 t) (blk m c 5 t) (gateLd m c t) (lseLd m c t) (dlLd m c t)
    (a.block (pr t) (iq t.val) (ik t.val)) where
  q p l := (blk0 m c t p l).trans <| by
    rw [arr0]
    exact (projH_q _ _ _ _ (col (pr t) l) _ (by show (16 + t.val / 10) * 128 + l.val = 2048 + (t.val / 10 * 128 + l.val); omega)).trans ((flat_apply _ _ _).trans (h.hq _ _ _))
  k p l := (blk1 m c t p l).trans <| by
    rw [arr1]
    exact (projH_k _ _ _ _ (col (pr t) l) _ (by show (20 + t.val / 10) * 128 + l.val = 2560 + (t.val / 10 * 128 + l.val); omega)).trans ((flat_apply _ _ _).trans (h.hk _ _ _))
  v p l := (blk2 m c t p l).trans <| by
    rw [arr2]
    exact (projH_v _ _ _ _ (col (pr t) l) _ (by show (24 + t.val / 10) * 128 + l.val = 3072 + (t.val / 10 * 128 + l.val); omega)).trans ((flat_apply _ _ _).trans (h.hv _ _ _))
  d p l := (blk5 m c t p l).trans <| by
    rw [arr5]
    exact (flat_apply _ _ _).trans (h.hd _ _ _)
  c x u := (gateLd_apply m c t x u).trans <| (blk3 m c t _ u).trans <| by
    rw [arr3]
    exact (gatesH_apply _ (hx (pr t) x.val) _ _ (by have := lt40 t; show 8 + 2 * (t.val / 10) + x.val = 8 + (2 * (t.val / 10) + x.val) % 8; omega)).trans (h.hc _ _)
  l x u := (lseLd_apply m c t x u).trans <| (blk4 m c t _ _).trans <| by
    rw [arr4]
    refine (wide_apply _ _ _).trans ?_
    rw [show hd (col (pr t) ⟨64 * x.val, by omega⟩) = hx (pr t) x.val from Fin.ext (by
      have := lt40 t; show (t.val / 10 * 128 + 64 * x.val) / 64 = (2 * (t.val / 10) + x.val) % 8; omega)]
    exact lse_real h.hq h.hk h.hc _ _
  e x u := (dlLd_apply m c t x u).trans <| (blk6 m c t _ _).trans <| by
    rw [arr6]
    refine (wide_apply _ _ _).trans ?_
    rw [show hd (col (pr t) ⟨64 * x.val, by omega⟩) = hx (pr t) x.val from Fin.ext (by
      have := lt40 t; show (t.val / 10 * 128 + 64 * x.val) / 64 = (2 * (t.val / 10) + x.val) % 8; omega)]
    exact dl_real h.hq h.hk h.hv h.hd h.hc _ _
end Cert.Fox
end
end
-- ==== Proof.Fox.Bands.lean ====
module

public import proofs.«01_k».proof.Proof.Fox.Blocks
public import Idealize.ShloMosaic.Lib.WritesUnit

/-! # Stores and loads of a band of rows -/

@[expose] public section
set_option maxRecDepth 16384
noncomputable section
namespace Cert.Fox
open Cert.Lift Cert.FoxBwdIdeal Cert.FoxBwdIdeal.Gen Idealize.ShloMosaic Idealize.ShloMosaic.TcCoe Idealize.SL.Sem

/-- A row's block of four and its place there. -/
def rb (r : Fin 2048) : Fin 4 := ⟨r.val / 512, by omega⟩
def rp (r : Fin 2048) : Fin 512 := ⟨r.val % 512, by omega⟩
theorem row_rb (r : Fin 2048) : row (rb r) (rp r) = r := Fin.ext (by show r.val / 512 * 512 + r.val % 512 = r.val; omega)
theorem rb_row (i : Fin 4) (p : Fin 512) : rb (row i p) = i := Fin.ext (by show (i.val * 512 + p.val) / 512 = i.val; omega)
theorem rp_row (i : Fin 4) (p : Fin 512) : rp (row i p) = p := Fin.ext (by show (i.val * 512 + p.val) % 512 = p.val; omega)

variable {e : EltTy} {Val : EltTy → Type} [∀ e, Nonempty (Val e)]
variable {sig : RefSig} {κ : Kind} {sp : Space}

abbrev Band (o : Fin 2 → ℕ) (inb : ∀ a, o a + (![512, 128] : Fin 2 → ℕ) a ≤ S2048x128.size a) : Rect S2048x128 := Rect.unit (s := S2048x128) o ![512, 128] inb

theorem band_read (v : View sig κ sp S2048x128 e) (f : v.ty.Contents Val) {o : Fin 2 → ℕ} (inb) (i : Fin 4) (ho : o = ![512 * i.val, 0])
    (p : (Band o inb).shape.Idx → Val e) (L : List (View.Piece Val S2048x128 e)) (r : Fin 2048) (l : Fin 128) :
    v.read Val (v.writes Val f ((⟨Band o inb, p⟩ : View.Piece Val S2048x128 e) :: L)) (ix2 r l)
      = if rb r = i then p (ix2 (rp r) l) else v.read Val (v.writes Val f L) (ix2 r l) := by
  have := r.isLt
  split_ifs with h
  · have h' : r.val / 512 = i.val := congrArg Fin.val h
    exact View.read_writes_cons_unit_of_mem v f inb p L _ (ix2 (rp r) l) ho fun a => by
      fin_cases a
      · show r.val = 512 * i.val + r.val % 512; omega
      · show l.val = 0 + l.val; omega
  · have h' : ¬r.val / 512 = i.val := fun e => h (Fin.ext e)
    exact View.read_writes_cons_unit_of_not_mem v f inb p L _ ho 0 (by
      show r.val < 512 * i.val ∨ 512 * i.val + 512 ≤ r.val; omega)

theorem band_canon {o : Fin 2 → ℕ} (inb) (i : Fin 4) (ho : o = ![512 * i.val, 0])
    (p : (Band o inb).shape.Idx → Val e) (L : List (View.Piece Val S2048x128 e)) (r : Fin 2048) (l : Fin 128) :
    View.canon ((⟨Band o inb, p⟩ : View.Piece Val S2048x128 e) :: L) (ix2 r l)
      = if rb r = i then p (ix2 (rp r) l) else View.canon L (ix2 r l) := by
  have := r.isLt
  subst ho
  split_ifs with h
  · have h' : r.val / 512 = i.val := congrArg Fin.val h
    have e : (Band ![512 * i.val, 0] inb).emb (ix2 (rp r) l) = ix2 r l := by
      funext a; apply Fin.ext; fin_cases a
      · show 512 * i.val + 1 * (r.val % 512) = r.val; omega
      · show 0 + 1 * l.val = l.val; omega
    rw [← e]; exact View.canon_cons_emb _ p L _
  · have h' : ¬r.val / 512 = i.val := fun e => h (Fin.ext e)
    refine View.canon_cons_of_not_mem _ L fun hm => h' ?_
    have := (Rect.mem_set_unit (inb := inb)).1 hm 0
    change 512 * i.val ≤ r.val ∧ r.val < 512 * i.val + 512 at this
    omega

theorem band_ld (X : S2048x128.Idx → Val e) {o : Fin 2 → ℕ} (inb) (i : Fin 4) (ho : o = ![512 * i.val, 0]) (r : Fin 2048) (h : rb r = i) (l : Fin 128) :
    X ((Band o inb).idx (ix2 (rp r) l)) = X (ix2 r l) := by
  subst ho
  have h' : r.val / 512 = i.val := congrArg Fin.val h
  refine congrArg X ?_
  funext a; apply Fin.ext; fin_cases a
  · show 512 * i.val + 1 * (r.val % 512) = r.val; omega
  · show 0 + 1 * l.val = l.val; omega

/-! The same of one row of the eight of the keys' gates. -/
abbrev One (i : ℕ) (inb : ∀ a, (![0, i, 0] : Fin 3 → ℕ) a + (![1, 1, 512] : Fin 3 → ℕ) a ≤ S1x8x512.size a) : Rect S1x8x512 :=
  Rect.unit (s := S1x8x512) ![0, i, 0] ![1, 1, 512] inb

theorem one_read (v : View sig κ sp S1x8x512 e) (f : v.ty.Contents Val) (i : ℕ) (inb)
    (p : (One i inb).shape.Idx → Val e) (L : List (View.Piece Val S1x8x512 e)) (b : Fin 8) (u : Fin 512) :
    v.read Val (v.writes Val f ((⟨One i inb, p⟩ : View.Piece Val S1x8x512 e) :: L)) (ix3 0 b u)
      = if b.val = i then p (ix3 0 0 u) else v.read Val (v.writes Val f L) (ix3 0 b u) := by
  split_ifs with h
  · exact View.read_writes_cons_unit_of_mem v f inb p L _ (ix3 0 0 u) rfl fun a => by
      fin_cases a
      · rfl
      · show b.val = i + 0; omega
      · show u.val = 0 + u.val; omega
  · exact View.read_writes_cons_unit_of_not_mem v f inb p L _ rfl 1 (by
      show b.val < i ∨ i + 1 ≤ b.val; omega)

theorem one_canon (i : ℕ) (inb) (p : (One i inb).shape.Idx → Val e) (L : List (View.Piece Val S1x8x512 e)) (b : Fin 8) (u : Fin 512) :
    View.canon ((⟨One i inb, p⟩ : View.Piece Val S1x8x512 e) :: L) (ix3 0 b u)
      = if b.val = i then p (ix3 0 0 u) else View.canon L (ix3 0 b u) := by
  split_ifs with h
  · have e : (One i inb).emb (ix3 0 0 u) = ix3 0 b u := by
      funext a; apply Fin.ext; fin_cases a
      · rfl
      · show i + 1 * 0 = b.val; omega
      · show 0 + 1 * u.val = u.val; omega
    rw [← e]; exact View.canon_cons_emb _ p L _
  · refine View.canon_cons_of_not_mem _ L fun hm => h ?_
    have := (Rect.mem_set_unit (inb := inb)).1 hm 1
    change i ≤ b.val ∧ b.val < i + 1 at this
    omega

theorem one_ld (X : S1x8x512.Idx → Val e) (i : ℕ) (inb) (b : Fin 8) (h : b.val = i) (u : Fin 512) :
    X ((One i inb).idx (ix3 0 0 u)) = X (ix3 0 b u) := by
  refine congrArg X ?_
  funext a; apply Fin.ext; fin_cases a
  · rfl
  · show i + 1 * 0 = b.val; omega
  · show 0 + 1 * u.val = u.val; omega

theorem one_readCov (v : View sig κ sp S1x8x512 e) (i : ℕ) (inb) (L : List (View.Piece Val S1x8x512 e)) (b : Fin 8) (h : b.val = i) (u : Fin 512) :
    v.readCov L (One i inb).toLoadRect (ix3 0 0 u) = View.canon L (ix3 0 b u) := by
  rw [View.readCov_eq_canon']
  exact one_ld (View.canon L) i inb b h u
end Cert.Fox
end
end
-- ==== Proof.Fox.Step.lean ====
module

public import proofs.«01_k».proof.Proof.Fox.Bands

/-! # What one grid point adds to the outputs -/

@[expose] public section
set_option maxRecDepth 16384
set_option maxHeartbeats 4000000
noncomputable section
namespace Cert.Fox
open Cert.Lift Cert.FoxBwdIdeal Cert.FoxBwdIdeal.Gen Idealize.ShloMosaic Idealize.ShloMosaic.TcCoe Idealize.SL.Sem

/-- The first row of a point's queries. -/
abbrev qoff (F : FTy → Type) [FloatOps F] [Named F] (t : Fin (cfgA F).N) : ℕ :=
  BitVec.toNat (Scalar.indexCast (Scalar.muli (wq (F := F) pairs (crd t)) 512#32))
theorem qoff_bits : ∀ t : Fin (cfgA Bits).N, qoff Bits t = 512 * (iq t.val).val := by decide +kernel
theorem qoff_eq (t : Fin (cfgA Ideal).N) : (![qoff Ideal t, 0] : Fin 2 → ℕ) = ![512 * (iq t.val).val, 0] := by
  rw [show qoff Ideal t = 512 * (iq t.val).val from qoff_bits t]

theorem freshK_eq (n : ℕ) : freshK n = decide (ik n = iq n) := by
  have h : ∀ k : Fin 10, freshK k.val = decide (ik k.val = iq k.val) := by decide
  have e := h ⟨n % 10, Nat.mod_lt _ (by decide)⟩
  unfold freshK ik iq at *
  simpa only [Nat.mod_mod] using e

/-- The reals that the outputs' staging buffers hold. -/
structure Sums where
  (dq dcq : Fin 2048 → Fin 128 → ℝ)
  (dk dv : Fin 512 → Fin 128 → ℝ)
  (dck : Fin 8 → Fin 512 → ℝ)

/-- The outputs hold the reals. -/
structure Holding (o : Outs Ideal) (s : Sums) : Prop where
  dq : Is2 (φ := .f32) o.dq s.dq
  dcq : Is2 (φ := .f32) o.dcq s.dcq
  dk : Is2 (φ := .f32) o.dk s.dk
  dv : Is2 (φ := .f32) o.dv s.dv
  dck : ∀ b u, o.dck (ix3 0 b u) = ((s.dck b u : ℝ) : EReal)

/-- One point's step. -/
def Sums.next (s : Sums) (b : Block) (i : Fin 4) (fq fk : Bool) : Sums where
  dq r l := (if fq then 0 else s.dq r l) + (if rb r = i then b.dq (rp r) l else 0)
  dcq r l := (if fq then 0 else s.dcq r l) + (if rb r = i then b.dcq (rp r) l else 0)
  dk u l := (if fk then 0 else s.dk u l) + b.dk u l
  dv u l := (if fk then 0 else s.dv u l) + b.dv u l
  dck x u := (if fk then 0 else s.dck x u) + (if x.val < 2 then b.dck x.val u else 0)

variable {m : (ℓ : Loc nD τ sig) → Buf (Elt Ideal) ℓ} {c : Dev nD} {a : Reals} (h : Holds m c a)
variable (t : Fin (cfgA Ideal).N) (p : Outs Ideal)

theorem diag_false (hk : freshK t.val = false) : (a.block (pr t) (iq t.val) (ik t.val)).diag = false := by
  rw [freshK_eq] at hk; rw [← hk]; exact decide_eq_decide.2 eq_comm
theorem diag_true (hk : freshK t.val = true) : (a.block (pr t) (iq t.val) (ik t.val)).diag = true := by
  rw [freshK_eq] at hk; rw [← hk]; exact decide_eq_decide.2 eq_comm

/-! Below the diagonal. -/
section below
variable (hk : freshK t.val = false)
include h
theorem below_dk (u : Fin 512) (l : Fin 128) : (afterBelow m c t p (atBelow t hk)).dk (ix2 u l) = p.dk (ix2 u l) + (((a.block (pr t) (iq t.val) (ik t.val)).dk u l : ℝ) : EReal) := by
  have L := loads h t
  have hb := diag_false (a := a) t hk
  unfold afterBelow below runC
  dsimp only
  sl_unfold_words
  frame_out
  exact dk L (ds0 L (masked0 L hb)) (ds1 L (masked1 L hb)) p.dk u l
theorem below_dv (u : Fin 512) (l : Fin 128) : (afterBelow m c t p (atBelow t hk)).dv (ix2 u l) = p.dv (ix2 u l) + (((a.block (pr t) (iq t.val) (ik t.val)).dv u l : ℝ) : EReal) := by
  have L := loads h t
  have hb := diag_false (a := a) t hk
  unfold afterBelow below runC
  dsimp only
  sl_unfold_words
  frame_out
  exact dv L (masked0 L hb) (masked1 L hb) p.dv u l
theorem below_dq (r : Fin 2048) (l : Fin 128) : (afterBelow m c t p (atBelow t hk)).dq (ix2 r l)
    = if rb r = iq t.val then p.dq (ix2 r l) + (((a.block (pr t) (iq t.val) (ik t.val)).dq (rp r) l : ℝ) : EReal) else p.dq (ix2 r l) := by
  have L := loads h t
  have hb := diag_false (a := a) t hk
  unfold afterBelow below runC
  dsimp only
  sl_unfold_words
  frame_out
  refine (band_read _ _ _ (iq t.val) (qoff_eq t) _ _ r l).trans ?_
  split_ifs with hr
  · exact (dq L (ds0 L (masked0 L hb)) (ds1 L (masked1 L hb)) _ _ _).trans (congrArg (· + _) (band_ld p.dq _ _ (qoff_eq t) r hr l))
  · rw [View.writes_nil, Memref.IsWhole.read_unread]
theorem below_dcq (r : Fin 2048) (l : Fin 128) : (afterBelow m c t p (atBelow t hk)).dcq (ix2 r l)
    = if rb r = iq t.val then p.dcq (ix2 r l) + (((a.block (pr t) (iq t.val) (ik t.val)).dcq (rp r) l : ℝ) : EReal) else p.dcq (ix2 r l) := by
  have L := loads h t
  have hb := diag_false (a := a) t hk
  unfold afterBelow below runC
  dsimp only
  sl_unfold_words
  frame_out
  refine (band_read _ _ _ (iq t.val) (qoff_eq t) _ _ r l).trans ?_
  split_ifs with hr
  · exact (dcq (ds0 L (masked0 L hb)) (ds1 L (masked1 L hb)) _ _ _).trans (congrArg (· + _) (band_ld p.dcq _ _ (qoff_eq t) r hr l))
  · rw [View.writes_nil, Memref.IsWhole.read_unread]
theorem below_dck (x : Fin 8) (u : Fin 512) : (afterBelow m c t p (atBelow t hk)).dck (ix3 0 x u)
    = p.dck (ix3 0 x u) + ((if x.val < 2 then (a.block (pr t) (iq t.val) (ik t.val)).dck x.val u else 0 : ℝ) : EReal) := by
  have L := loads h t
  have hb := diag_false (a := a) t hk
  unfold afterBelow below runC
  dsimp only
  sl_unfold_words
  frame_out
  refine (one_read _ _ 1 _ _ _ x u).trans ?_
  split_ifs with h1 h2 h2
  · rw [h1]; exact (dck1 (ds1 L (masked1 L hb)) _ u).trans (congrArg (· + _) (one_ld p.dck 1 _ x h1 u))
  · omega
  · have h0 : x.val = 0 := by omega
    refine (one_read _ _ 0 _ _ _ x u).trans ?_
    rw [if_pos h0, h0]
    exact (dck0 (ds0 L (masked0 L hb)) _ u).trans (congrArg (· + _) (one_ld p.dck 0 _ x h0 u))
  · refine (one_read _ _ 0 _ _ _ x u).trans ?_
    rw [if_neg (by omega), View.writes_nil, Memref.IsWhole.read_unread, EReal.coe_zero, add_zero]
end below
end Cert.Fox
end
end
-- ==== Proof.Fox.Diag.lean ====
module

public import proofs.«01_k».proof.Proof.Fox.Step

/-! # What a point on the diagonal leaves -/

@[expose] public section
set_option maxRecDepth 16384
set_option maxHeartbeats 4000000
noncomputable section
namespace Cert.Fox
open Cert.Lift Cert.FoxBwdIdeal Cert.FoxBwdIdeal.Gen Idealize.ShloMosaic Idealize.ShloMosaic.TcCoe Idealize.SL.Sem

theorem zero3 (u : Fin 512) (l : Fin 128) : k0_pay3 (F := Ideal) (ix2 u l) = 0 := by pointwise [k0_pay3]
theorem zero4 (u : Fin 512) (l : Fin 128) : k0_pay4 (F := Ideal) (ix2 u l) = 0 := by pointwise [k0_pay4]
theorem zero1 (r : Fin 2048) (l : Fin 128) : k0_pay1 (F := Ideal) (ix2 r l) = 0 := by pointwise [k0_pay1]
theorem zero2 (r : Fin 2048) (l : Fin 128) : k0_pay2 (F := Ideal) (ix2 r l) = 0 := by pointwise [k0_pay2]
theorem zero5 (x : Fin 8) (u : Fin 512) : k0_pay5 (F := Ideal) (ix3 0 x u) = 0 := by pointwise [k0_pay5]

theorem canon_all2 (w : S2048x128.Idx → Elt Ideal .f32) (r : Fin 2048) (l : Fin 128) :
    View.canon [(⟨Rect.unit (s := S2048x128) ![0, 0] ![2048, 128] inb_S2048x128_S2048x128_0_0, w⟩ : View.Piece (Elt Ideal) S2048x128 .f32)] (ix2 r l) = w (ix2 r l) := by
  have e : (Rect.unit (s := S2048x128) ![0, 0] ![2048, 128] inb_S2048x128_S2048x128_0_0).emb (ix2 r l) = ix2 r l := by
    funext a; apply Fin.ext; fin_cases a
    · show 0 + 1 * r.val = r.val; omega
    · show 0 + 1 * l.val = l.val; omega
  conv_lhs => rw [← e]
  exact View.canon_cons_emb (Rect.unit (s := S2048x128) ![0, 0] ![2048, 128] inb_S2048x128_S2048x128_0_0) w [] _
theorem canon_all3 (w : S1x8x512.Idx → Elt Ideal .f32) (x : Fin 8) (u : Fin 512) :
    View.canon [(⟨Rect.unit (s := S1x8x512) ![0, 0, 0] ![1, 8, 512] inb_S1x8x512_S1x8x512_0_0_0, w⟩ : View.Piece (Elt Ideal) S1x8x512 .f32)] (ix3 0 x u) = w (ix3 0 x u) := by
  have e : (Rect.unit (s := S1x8x512) ![0, 0, 0] ![1, 8, 512] inb_S1x8x512_S1x8x512_0_0_0).emb (ix3 0 x u) = ix3 0 x u := by
    funext a; apply Fin.ext; fin_cases a
    · rfl
    · show 0 + 1 * x.val = x.val; omega
    · show 0 + 1 * u.val = u.val; omega
  conv_lhs => rw [← e]
  exact View.canon_cons_emb (Rect.unit (s := S1x8x512) ![0, 0, 0] ![1, 8, 512] inb_S1x8x512_S1x8x512_0_0_0) w [] _

variable {m : (ℓ : Loc nD τ sig) → Buf (Elt Ideal) ℓ} {c : Dev nD} {a : Reals} (h : Holds m c a)
variable (t : Fin (cfgA Ideal).N) (p : Outs Ideal)

section
variable (hq : freshQ t.val = false) (hk : freshK t.val = true)
include h
theorem diag_dk (u : Fin 512) (l : Fin 128) : (afterDiag m c t p (atDiag t hq hk)).dk (ix2 u l) = (((a.block (pr t) (iq t.val) (ik t.val)).dk u l : ℝ) : EReal) := by
  have L := loads h t
  have hb := diag_true (a := a) t hk
  unfold afterDiag diag runB
  dsimp only
  sl_unfold_words
  frame_out
  exact (dk L (ds0 L (masked0d L hb)) (ds1 L (masked1d L hb)) k0_pay3 u l).trans (by rw [zero3, zero_add])
theorem diag_dv (u : Fin 512) (l : Fin 128) : (afterDiag m c t p (atDiag t hq hk)).dv (ix2 u l) = (((a.block (pr t) (iq t.val) (ik t.val)).dv u l : ℝ) : EReal) := by
  have L := loads h t
  have hb := diag_true (a := a) t hk
  unfold afterDiag diag runB
  dsimp only
  sl_unfold_words
  frame_out
  exact (dv L (masked0d L hb) (masked1d L hb) k0_pay4 u l).trans (by rw [zero4, zero_add])
theorem diag_dq (r : Fin 2048) (l : Fin 128) : (afterDiag m c t p (atDiag t hq hk)).dq (ix2 r l)
    = if rb r = iq t.val then p.dq (ix2 r l) + (((a.block (pr t) (iq t.val) (ik t.val)).dq (rp r) l : ℝ) : EReal) else p.dq (ix2 r l) := by
  have L := loads h t
  have hb := diag_true (a := a) t hk
  unfold afterDiag diag runB
  dsimp only
  sl_unfold_words
  frame_out
  refine (band_read _ _ _ (iq t.val) (qoff_eq t) _ _ r l).trans ?_
  split_ifs with hr
  · exact (dq L (ds0 L (masked0d L hb)) (ds1 L (masked1d L hb)) _ _ _).trans (congrArg (· + _) (band_ld p.dq _ _ (qoff_eq t) r hr l))
  · rw [View.writes_nil, Memref.IsWhole.read_unread]
theorem diag_dcq (r : Fin 2048) (l : Fin 128) : (afterDiag m c t p (atDiag t hq hk)).dcq (ix2 r l)
    = if rb r = iq t.val then p.dcq (ix2 r l) + (((a.block (pr t) (iq t.val) (ik t.val)).dcq (rp r) l : ℝ) : EReal) else p.dcq (ix2 r l) := by
  have L := loads h t
  have hb := diag_true (a := a) t hk
  unfold afterDiag diag runB
  dsimp only
  sl_unfold_words
  frame_out
  refine (band_read _ _ _ (iq t.val) (qoff_eq t) _ _ r l).trans ?_
  split_ifs with hr
  · exact (dcq (ds0 L (masked0d L hb)) (ds1 L (masked1d L hb)) _ _ _).trans (congrArg (· + _) (band_ld p.dcq _ _ (qoff_eq t) r hr l))
  · rw [View.writes_nil, Memref.IsWhole.read_unread]
theorem diag_dck (x : Fin 8) (u : Fin 512) : (afterDiag m c t p (atDiag t hq hk)).dck (ix3 0 x u)
    = ((if x.val < 2 then (a.block (pr t) (iq t.val) (ik t.val)).dck x.val u else 0 : ℝ) : EReal) := by
  have L := loads h t
  have hb := diag_true (a := a) t hk
  unfold afterDiag diag runB
  dsimp only
  sl_unfold_words
  frame_out
  refine (one_canon 1 _ _ _ x u).trans ?_
  split_ifs with h1 h2 h2
  · rw [h1]
    refine (dck1 (ds1 L (masked1d L hb)) _ u).trans ?_
    rw [one_readCov _ 1 _ _ x h1 u, one_canon, if_neg (by omega), canon_all3, zero5, zero_add]
  · omega
  · have h0 : x.val = 0 := by omega
    refine (one_canon 0 _ _ _ x u).trans ?_
    rw [if_pos h0, h0]
    refine (dck0 (ds0 L (masked0d L hb)) _ u).trans ?_
    rw [one_readCov _ 0 _ _ x h0 u, canon_all3, zero5, zero_add]
  · refine (one_canon 0 _ _ _ x u).trans ?_
    rw [if_neg (by omega), canon_all3, zero5, EReal.coe_zero]
end
end Cert.Fox
end
end
-- ==== Proof.Fox.First.lean ====
module

public import proofs.«01_k».proof.Proof.Fox.Diag

/-! # What a first point leaves -/

@[expose] public section
set_option maxRecDepth 16384
set_option maxHeartbeats 4000000
noncomputable section
namespace Cert.Fox
open Cert.Lift Cert.FoxBwdIdeal Cert.FoxBwdIdeal.Gen Idealize.ShloMosaic Idealize.ShloMosaic.TcCoe Idealize.SL.Sem

variable {m : (ℓ : Loc nD τ sig) → Buf (Elt Ideal) ℓ} {c : Dev nD} {a : Reals} (h : Holds m c a)
variable (t : Fin (cfgA Ideal).N) (p : Outs Ideal)

theorem firstK (hq : freshQ t.val = true) : freshK t.val = true := (facts t).2.1 hq
section
variable (hq : freshQ t.val = true)
include h
theorem first_dk (u : Fin 512) (l : Fin 128) : (afterFirst m c t (atFirst t hq)).dk (ix2 u l) = (((a.block (pr t) (iq t.val) (ik t.val)).dk u l : ℝ) : EReal) := by
  have L := loads h t
  have hb := diag_true (a := a) t (firstK t hq)
  unfold afterFirst first runA
  dsimp only
  sl_unfold_words
  frame_out
  exact (dk L (ds0 L (masked0d L hb)) (ds1 L (masked1d L hb)) k0_pay3 u l).trans (by rw [zero3, zero_add])
theorem first_dv (u : Fin 512) (l : Fin 128) : (afterFirst m c t (atFirst t hq)).dv (ix2 u l) = (((a.block (pr t) (iq t.val) (ik t.val)).dv u l : ℝ) : EReal) := by
  have L := loads h t
  have hb := diag_true (a := a) t (firstK t hq)
  unfold afterFirst first runA
  dsimp only
  sl_unfold_words
  frame_out
  exact (dv L (masked0d L hb) (masked1d L hb) k0_pay4 u l).trans (by rw [zero4, zero_add])
theorem first_dq (r : Fin 2048) (l : Fin 128) : (afterFirst m c t (atFirst t hq)).dq (ix2 r l)
    = if rb r = iq t.val then (((a.block (pr t) (iq t.val) (ik t.val)).dq (rp r) l : ℝ) : EReal) else 0 := by
  have L := loads h t
  have hb := diag_true (a := a) t (firstK t hq)
  unfold afterFirst first runA
  dsimp only
  sl_unfold_words
  frame_out
  refine (band_canon _ (iq t.val) (qoff_eq t) _ _ r l).trans ?_
  split_ifs with hr
  · refine (dq L (ds0 L (masked0d L hb)) (ds1 L (masked1d L hb)) _ _ _).trans ?_
    refine (congrArg (· + _) (band_ld (Val := Elt Ideal) (e := .f32) (k0_pay1 (F := Ideal)) _ _ (qoff_eq t) r hr l)).trans ?_
    beta_reduce
    rw [zero1, zero_add]
  · exact (canon_all2 _ r l).trans (zero1 r l)
theorem first_dcq (r : Fin 2048) (l : Fin 128) : (afterFirst m c t (atFirst t hq)).dcq (ix2 r l)
    = if rb r = iq t.val then (((a.block (pr t) (iq t.val) (ik t.val)).dcq (rp r) l : ℝ) : EReal) else 0 := by
  have L := loads h t
  have hb := diag_true (a := a) t (firstK t hq)
  unfold afterFirst first runA
  dsimp only
  sl_unfold_words
  frame_out
  refine (band_canon _ (iq t.val) (qoff_eq t) _ _ r l).trans ?_
  split_ifs with hr
  · refine (dcq (ds0 L (masked0d L hb)) (ds1 L (masked1d L hb)) _ _ _).trans ?_
    refine (congrArg (· + _) (band_ld (Val := Elt Ideal) (e := .f32) (k0_pay2 (F := Ideal)) _ _ (qoff_eq t) r hr l)).trans ?_
    beta_reduce
    rw [zero2, zero_add]
  · exact (canon_all2 _ r l).trans (zero2 r l)
theorem first_dck (x : Fin 8) (u : Fin 512) : (afterFirst m c t (atFirst t hq)).dck (ix3 0 x u)
    = ((if x.val < 2 then (a.block (pr t) (iq t.val) (ik t.val)).dck x.val u else 0 : ℝ) : EReal) := by
  have L := loads h t
  have hb := diag_true (a := a) t (firstK t hq)
  unfold afterFirst first runA
  dsimp only
  sl_unfold_words
  frame_out
  refine (one_canon 1 _ _ _ x u).trans ?_
  split_ifs with h1 h2 h2
  · rw [h1]
    refine (dck1 (ds1 L (masked1d L hb)) _ u).trans ?_
    rw [one_readCov _ 1 _ _ x h1 u, one_canon, if_neg (by omega), canon_all3, zero5, zero_add]
  · omega
  · have h0 : x.val = 0 := by omega
    refine (one_canon 0 _ _ _ x u).trans ?_
    rw [if_pos h0, h0]
    refine (dck0 (ds0 L (masked0d L hb)) _ u).trans ?_
    rw [one_readCov _ 0 _ _ x h0 u, canon_all3, zero5, zero_add]
  · refine (one_canon 0 _ _ _ x u).trans ?_
    rw [if_neg (by omega), canon_all3, zero5, EReal.coe_zero]
end
end Cert.Fox
end
end
-- ==== Proof.Fox.Hold.lean ====
module

public import proofs.«01_k».proof.Proof.Fox.First

/-! # What the outputs hold after a grid point, in reals -/

@[expose] public section
set_option maxRecDepth 16384
noncomputable section
namespace Cert.Fox
open Cert.Lift Cert.FoxBwdIdeal Cert.FoxBwdIdeal.Gen Idealize.ShloMosaic Idealize.ShloMosaic.TcCoe Idealize.SL.Sem

/-- The block of reals of step `n`. -/
def Reals.at (a : Reals) (n : ℕ) : Block := a.block ⟨n / 10 % 4, Nat.mod_lt _ (by decide)⟩ (iq n) (ik n)

/-- The sums after step `n`. -/
def sums (a : Reals) : ℕ → Sums
  | 0 => Sums.next ⟨fun _ _ => 0, fun _ _ => 0, fun _ _ => 0, fun _ _ => 0, fun _ _ => 0⟩ (a.at 0) (iq 0) (freshQ 0) (freshK 0)
  | n + 1 => (sums a n).next (a.at (n + 1)) (iq (n + 1)) (freshQ (n + 1)) (freshK (n + 1))

variable {m : (ℓ : Loc nD τ sig) → Buf (Elt Ideal) ℓ} {c : Dev nD} {a : Reals} (h : Holds m c a)

theorem at_eq (t : Fin (cfgA Ideal).N) : a.at t.val = a.block (pr t) (iq t.val) (ik t.val) := by
  unfold Reals.at
  congr 1
  exact Fin.ext (by have := lt40 t; show t.val / 10 % 4 = t.val / 10; omega)

include h
theorem step_holding (t : Fin (cfgA Ideal).N) (p : Outs Ideal) (s : Sums) (hs : Holding p s) :
    Holding (step m c t p) (s.next (a.at t.val) (iq t.val) (freshQ t.val) (freshK t.val)) := by
  rw [at_eq]
  by_cases hq : freshQ t.val = true
  · have hk : freshK t.val = true := firstK t hq
    rw [step_first m c t p hq]
    refine ⟨fun r l => (first_dq h t hq r l).trans ?_, fun r l => (first_dcq h t hq r l).trans ?_, fun u l => (first_dk h t hq u l).trans ?_,
      fun u l => (first_dv h t hq u l).trans ?_, fun x u => (first_dck h t hq x u).trans ?_⟩
    all_goals unfold Sums.next
    all_goals simp only [hq, hk, if_true, zero_add]
    all_goals split_ifs <;> simp
  · have hq' : freshQ t.val = false := Bool.eq_false_iff.mpr hq
    by_cases hk : freshK t.val = true
    · rw [step_diag m c t p hq' hk]
      refine ⟨fun r l => (diag_dq h t p hq' hk r l).trans ?_, fun r l => (diag_dcq h t p hq' hk r l).trans ?_, fun u l => (diag_dk h t p hq' hk u l).trans ?_,
        fun u l => (diag_dv h t p hq' hk u l).trans ?_, fun x u => (diag_dck h t p hq' hk x u).trans ?_⟩
      · rw [hs.dq]; unfold Sums.next; simp only [hq', Bool.false_eq_true, if_false]; split_ifs <;> simp [EReal.coe_add]
      · rw [hs.dcq]; unfold Sums.next; simp only [hq', Bool.false_eq_true, if_false]; split_ifs <;> simp [EReal.coe_add]
      all_goals unfold Sums.next
      all_goals simp only [hk, if_true, zero_add]
    · have hk' : freshK t.val = false := Bool.eq_false_iff.mpr hk
      rw [step_below m c t p hk']
      refine ⟨fun r l => (below_dq h t p hk' r l).trans ?_, fun r l => (below_dcq h t p hk' r l).trans ?_, fun u l => (below_dk h t p hk' u l).trans ?_,
        fun u l => (below_dv h t p hk' u l).trans ?_, fun x u => (below_dck h t p hk' x u).trans ?_⟩
      · rw [hs.dq]; unfold Sums.next; simp only [hq', Bool.false_eq_true, if_false]; split_ifs <;> simp [EReal.coe_add]
      · rw [hs.dcq]; unfold Sums.next; simp only [hq', Bool.false_eq_true, if_false]; split_ifs <;> simp [EReal.coe_add]
      · rw [hs.dk]; unfold Sums.next; simp only [hk', Bool.false_eq_true, if_false]; rw [EReal.coe_add]
      · rw [hs.dv]; unfold Sums.next; simp only [hk', Bool.false_eq_true, if_false]; rw [EReal.coe_add]
      · rw [hs.dck]; unfold Sums.next; simp only [hk', Bool.false_eq_true, if_false]; rw [EReal.coe_add]

omit h in
theorem zero_holding : Holding (Outs.zero (F := Ideal)) ⟨fun _ _ => 0, fun _ _ => 0, fun _ _ => 0, fun _ _ => 0, fun _ _ => 0⟩ :=
  ⟨fun r l => (zero1 r l).trans EReal.coe_zero.symm, fun r l => (zero2 r l).trans EReal.coe_zero.symm, fun r l => (zero3 r l).trans EReal.coe_zero.symm,
    fun r l => (zero4 r l).trans EReal.coe_zero.symm, fun x u => (zero5 x u).trans EReal.coe_zero.symm⟩

/-- After point `n` the outputs hold the sums. -/
theorem hold_holding : ∀ (n : ℕ) (hn : n < (cfgA Ideal).N), Holding (hold m c n hn) (sums a n)
  | 0, hn => step_holding h ⟨0, hn⟩ _ _ zero_holding
  | n + 1, hn => step_holding h ⟨n + 1, hn⟩ _ _ (hold_holding n (Nat.lt_of_succ_lt hn))
end Cert.Fox
end
end
-- ==== Proof.Fox.Sum.lean ====
module

public import proofs.«01_k».proof.Proof.Fox.Hold

/-! # The blocks' terms add up to the attention's gradients -/

@[expose] public section
set_option maxRecDepth 16384
noncomputable section
namespace Cert.Fox
open Idealize.ShloMosaic

theorem hd_col (w : Fin 4) (l : Fin 128) : hd (col w l) = hx w (l.val / 64) := Fin.ext (by
  show (w.val * 128 + l.val) / 64 = (2 * w.val + l.val / 64) % 8; omega)

/-- A sum over the two heads' lanes of one head's terms. -/
theorem lanes (w : Fin 4) (x : ℕ) (hx2 : x < 2) (f g : Fin 8 → Fin 64 → ℝ) :
    ∑ l : Fin 128, on x l (f (hd (col w l)) (ln (col w l))) * g (hd (col w l)) (ln (col w l)) = ∑ l, f (hx w x) l * g (hx w x) l := by
  rw [Fin.sum_univ_tiles 2 64 rfl, Fin.sum_univ_two]
  have e0 : ∀ t : Fin 64, hd (col w ⟨0 * 64 + t.val, by omega⟩) = hx w 0 := fun t => Fin.ext (by
    show (w.val * 128 + (0 * 64 + t.val)) / 64 = (2 * w.val + 0) % 8; omega)
  have e1 : ∀ t : Fin 64, hd (col w ⟨1 * 64 + t.val, by omega⟩) = hx w 1 := fun t => Fin.ext (by
    show (w.val * 128 + (1 * 64 + t.val)) / 64 = (2 * w.val + 1) % 8; omega)
  have n0 : ∀ t : Fin 64, ln (col w ⟨0 * 64 + t.val, by omega⟩) = t := fun t => Fin.ext (by
    show (w.val * 128 + (0 * 64 + t.val)) % 64 = t.val; omega)
  have n1 : ∀ t : Fin 64, ln (col w ⟨1 * 64 + t.val, by omega⟩) = t := fun t => Fin.ext (by
    show (w.val * 128 + (1 * 64 + t.val)) % 64 = t.val; omega)
  have o0 : ∀ (t : Fin 64) (y : ℝ), on x ⟨0 * 64 + t.val, by omega⟩ y = if x = 0 then y else 0 := fun t y => by
    unfold on
    refine if_congr ?_ rfl rfl
    show (0 * 64 + t.val) / 64 = x ↔ _
    omega
  have o1 : ∀ (t : Fin 64) (y : ℝ), on x ⟨1 * 64 + t.val, by omega⟩ y = if x = 1 then y else 0 := fun t y => by
    unfold on
    refine if_congr ?_ rfl rfl
    show (1 * 64 + t.val) / 64 = x ↔ _
    omega
  simp only [Fin.val_zero, Fin.val_one, e0, e1, n0, n1, o0, o1]
  obtain rfl | rfl : x = 0 ∨ x = 1 := by omega
  · simp
  · simp

variable (a : Reals) (w i j : Fin 4)

theorem block_z (x : ℕ) (hx2 : x < 2) (p u : Fin 512) : (a.block w i j).s x p u = a.z (hx w x) (row i p) (row j u) := by
  unfold Block.s Reals.z Reals.block
  dsimp only
  rw [lanes w x hx2 (fun h l => a.q (row i p) h l * (1 / 8)) (fun h l => a.k (row j u) h l), Finset.sum_mul]
  exact congrArg (· - _) (Finset.sum_congr rfl fun l _ => by ring)

theorem block_w (hij : j ≤ i) (x : ℕ) (hx2 : x < 2) (p u : Fin 512) : (a.block w i j).w x p u = a.w (hx w x) (row i p) (row j u) := by
  have hle : row j u ≤ row i p ↔ ¬((a.block w i j).diag = true ∧ p < u) := by
    show j.val * 512 + u.val ≤ i.val * 512 + p.val ↔ ¬(decide (i = j) = true ∧ p.val < u.val)
    have : j.val ≤ i.val := hij
    have := p.isLt; have := u.isLt
    rw [decide_eq_true_iff, Fin.ext_iff]
    omega
  unfold Block.w
  rw [block_z a w i j x hx2]
  split_ifs with h
  · exact (a.w_of_lt fun e => (hle.1 e) h).symm
  · exact (a.w_of_le (hle.2 h)).symm

theorem block_ds (hij : j ≤ i) (x : ℕ) (hx2 : x < 2) (p u : Fin 512) : (a.block w i j).ds x p u = a.ds (hx w x) (row i p) (row j u) := by
  unfold Block.ds Reals.ds
  rw [block_w a w i j hij x hx2]
  unfold Reals.dp Reals.block
  dsimp only
  rw [lanes w x hx2 (fun h l => a.d (row i p) h l) (fun h l => a.v (row j u) h l)]

theorem on_or (l : Fin 128) : (l.val / 64 = 0 ∧ ∀ y, on 0 l y = y ∧ on 1 l y = 0) ∨ (l.val / 64 = 1 ∧ ∀ y, on 0 l y = 0 ∧ on 1 l y = y) := by
  have := l.isLt
  obtain e | e : l.val / 64 = 0 ∨ l.val / 64 = 1 := by omega
  · exact .inl ⟨e, fun y => by unfold on; rw [e]; simp⟩
  · exact .inr ⟨e, fun y => by unfold on; rw [e]; simp⟩

theorem block_dq (hij : j ≤ i) (p : Fin 512) (l : Fin 128) :
    (a.block w i j).dq p l = (∑ u, a.ds (hd (col w l)) (row i p) (row j u) * a.k (row j u) (hd (col w l)) (ln (col w l))) * (1 / 8) := by
  unfold Block.dq
  simp only [block_ds a w i j hij 0 (by decide), block_ds a w i j hij 1 (by decide)]
  obtain ⟨e, ho⟩ | ⟨e, ho⟩ := on_or l <;> simp only [ho, mul_zero, Finset.sum_const_zero, zero_add, add_zero, hd_col, e] <;> unfold Reals.block <;> simp only [hd_col, e]
theorem block_dk (hij : j ≤ i) (u : Fin 512) (l : Fin 128) :
    (a.block w i j).dk u l = (∑ p, a.ds (hd (col w l)) (row i p) (row j u) * a.q (row i p) (hd (col w l)) (ln (col w l))) * (1 / 8) := by
  unfold Block.dk
  simp only [block_ds a w i j hij 0 (by decide), block_ds a w i j hij 1 (by decide), Finset.sum_mul]
  obtain ⟨e, ho⟩ | ⟨e, ho⟩ := on_or l <;> simp only [ho, mul_zero, Finset.sum_const_zero, zero_add, add_zero, hd_col, e] <;> unfold Reals.block <;> simp only [hd_col, e, mul_assoc]
theorem block_dv (hij : j ≤ i) (u : Fin 512) (l : Fin 128) :
    (a.block w i j).dv u l = ∑ p, a.w (hd (col w l)) (row i p) (row j u) * a.d (row i p) (hd (col w l)) (ln (col w l)) := by
  unfold Block.dv
  simp only [block_w a w i j hij 0 (by decide), block_w a w i j hij 1 (by decide)]
  obtain ⟨e, ho⟩ | ⟨e, ho⟩ := on_or l <;> simp only [ho, mul_zero, Finset.sum_const_zero, zero_add, add_zero, hd_col, e] <;> unfold Reals.block <;> simp only [hd_col, e]
theorem block_dcq (hij : j ≤ i) (p : Fin 512) (l : Fin 128) :
    (a.block w i j).dcq p l = ∑ u, a.ds (hd (col w l)) (row i p) (row j u) := by
  unfold Block.dcq
  simp only [block_ds a w i j hij 0 (by decide), block_ds a w i j hij 1 (by decide), hd_col]
  have := l.isLt
  split_ifs with h
  · rw [show l.val / 64 = 0 by omega]
  · rw [show l.val / 64 = 1 by omega]
theorem block_dck (hij : j ≤ i) (x : ℕ) (hx2 : x < 2) (u : Fin 512) : (a.block w i j).dck x u = ∑ p, a.ds (hx w x) (row i p) (row j u) := by
  unfold Block.dck
  simp only [block_ds a w i j hij x hx2]

/-- No key after a query has a weight. -/
theorem w_above (hij : ¬j ≤ i) (h : Fin 8) (p u : Fin 512) : a.w h (row i p) (row j u) = 0 := a.w_of_lt (by
  show ¬j.val * 512 + u.val ≤ i.val * 512 + p.val
  have : ¬j.val ≤ i.val := hij
  have := p.isLt; omega)
theorem ds_above (hij : ¬j ≤ i) (h : Fin 8) (p u : Fin 512) : a.ds h (row i p) (row j u) = 0 := by
  unfold Reals.ds; rw [w_above a i j hij, zero_mul]

/-- A sum over the rows is the sum over the four blocks of the sums over theirs. -/
theorem sum_rows (f : Fin 2048 → ℝ) : ∑ u, f u = ∑ j : Fin 4, ∑ u : Fin 512, f (row j u) := Fin.sum_univ_tiles 4 512 rfl f

theorem total_dq (i : Fin 4) (p : Fin 512) (l : Fin 128) :
    ∑ j : Fin 4, (if j ≤ i then (a.block w i j).dq p l else 0) = a.out0 (row i p) (col w l) := by
  unfold Reals.out0 Reals.dq
  rw [sum_rows, Finset.sum_mul]
  refine Finset.sum_congr rfl fun j _ => ?_
  split_ifs with h
  · exact block_dq a w i j h p l
  · simp only [ds_above a i j h, zero_mul, Finset.sum_const_zero]
theorem total_dcq (i : Fin 4) (p : Fin 512) (l : Fin 128) :
    ∑ j : Fin 4, (if j ≤ i then (a.block w i j).dcq p l else 0) = a.out3 (row i p) (col w l) := by
  unfold Reals.out3 Reals.dcq
  rw [sum_rows]
  refine Finset.sum_congr rfl fun j _ => ?_
  split_ifs with h
  · exact block_dcq a w i j h p l
  · simp only [ds_above a i j h, Finset.sum_const_zero]
theorem total_dk (j : Fin 4) (u : Fin 512) (l : Fin 128) :
    ∑ i : Fin 4, (if j ≤ i then (a.block w i j).dk u l else 0) = a.out1 (row j u) (col w l) := by
  unfold Reals.out1 Reals.dk
  rw [sum_rows, Finset.sum_mul]
  refine Finset.sum_congr rfl fun i _ => ?_
  split_ifs with h
  · exact block_dk a w i j h u l
  · simp only [ds_above a i j h, zero_mul, Finset.sum_const_zero]
theorem total_dv (j : Fin 4) (u : Fin 512) (l : Fin 128) :
    ∑ i : Fin 4, (if j ≤ i then (a.block w i j).dv u l else 0) = a.out2 (row j u) (col w l) := by
  unfold Reals.out2 Reals.dv
  rw [sum_rows]
  refine Finset.sum_congr rfl fun i _ => ?_
  split_ifs with h
  · exact block_dv a w i j h u l
  · simp only [w_above a i j h, zero_mul, Finset.sum_const_zero]
theorem total_dck (j : Fin 4) (x : Fin 8) (u : Fin 512) :
    ∑ i : Fin 4, (if j ≤ i then (if x.val < 2 then (a.block w i j).dck x.val u else 0) else 0) = a.out4 w x (row j u) := by
  unfold Reals.out4 Reals.dck
  by_cases hx2 : x.val < 2
  · rw [dif_pos hx2, sum_rows]
    refine Finset.sum_congr rfl fun i _ => ?_
    rw [if_pos hx2]
    have e : hx w x.val = ⟨2 * w.val + x.val, by omega⟩ := Fin.ext (Nat.mod_eq_of_lt (by omega))
    split_ifs with h
    · rw [block_dck a w i j h _ hx2, e]
    · simp only [ds_above a i j h, Finset.sum_const_zero]
  · rw [dif_neg hx2]; simp [hx2]

/-! The ten steps of one pair of heads. -/
theorem freshQ_iff (k : ℕ) : freshQ k = decide (k % 10 = 0) := by unfold freshQ; rfl
theorem at_add (k : ℕ) (hk : k < 10) : a.at (10 * w.val + k) = a.block w (iq k) (ik k) := by
  unfold Reals.at
  have e1 : (10 * w.val + k) % 10 = k % 10 := by omega
  have h1 : iq (10 * w.val + k) = iq k := by unfold iq; simp only [e1]
  have h2 : ik (10 * w.val + k) = ik k := by unfold ik; simp only [e1]
  rw [h1, h2]
  congr 1
  exact Fin.ext (by show (10 * w.val + k) / 10 % 4 = w.val; omega)
theorem iq_add (k : ℕ) : iq (10 * w.val + k) = iq k := by
  have e1 : (10 * w.val + k) % 10 = k % 10 := by omega
  unfold iq; simp only [e1]
theorem freshK_add (k : ℕ) : freshK (10 * w.val + k) = freshK k := by
  have e1 : (10 * w.val + k) % 10 = k % 10 := by omega
  unfold freshK; simp only [e1]
theorem freshQ_add (k : ℕ) : freshQ (10 * w.val + k) = freshQ k := by
  have e1 : (10 * w.val + k) % 10 = k % 10 := by omega
  unfold freshQ; simp only [e1]
theorem sums_first : ∃ s : Sums, sums a (10 * w.val) = s.next (a.block w (iq 0) (ik 0)) (iq 0) true true := by
  have hA := at_add a w 0 (by decide); have hi := iq_add w 0; have hq := freshQ_add w 0; have hk := freshK_add w 0
  rw [Nat.add_zero] at hA hi hq hk
  generalize 10 * w.val = n at *
  cases n with
  | zero => exact ⟨_, by unfold sums; rw [hA]; rfl⟩
  | succ n => exact ⟨sums a n, by show (sums a n).next _ _ _ _ = _; rw [hA, hi, hq, hk]; rfl⟩
theorem sums_succ (k : ℕ) (hk : k + 1 < 10) : sums a (10 * w.val + (k + 1)) = (sums a (10 * w.val + k)).next (a.block w (iq (k + 1)) (ik (k + 1))) (iq (k + 1)) false (freshK (k + 1)) := by
  show (sums a (10 * w.val + k)).next (a.at (10 * w.val + (k + 1))) (iq (10 * w.val + (k + 1))) (freshQ (10 * w.val + (k + 1))) (freshK (10 * w.val + (k + 1))) = _
  rw [at_add a w (k + 1) hk, iq_add, freshQ_add, freshK_add]
  rw [show freshQ (k + 1) = false by unfold freshQ; rw [Nat.mod_eq_of_lt hk]; rfl]

theorem sums_dq : ∀ (k : ℕ) (_ : k < 10) (r : Fin 2048) (l : Fin 128),
    (sums a (10 * w.val + k)).dq r l = ∑ n ∈ Finset.range (k + 1), (if rb r = iq n then (a.block w (iq n) (ik n)).dq (rp r) l else 0)
  | 0, _, r, l => by
    obtain ⟨s, e⟩ := sums_first a w
    rw [Nat.add_zero, e, Finset.sum_range_one]
    unfold Sums.next; simp
  | k + 1, hk, r, l => by
    rw [sums_succ a w k hk, Finset.sum_range_succ, ← sums_dq k (by omega)]
    unfold Sums.next; simp
theorem sums_dcq : ∀ (k : ℕ) (_ : k < 10) (r : Fin 2048) (l : Fin 128),
    (sums a (10 * w.val + k)).dcq r l = ∑ n ∈ Finset.range (k + 1), (if rb r = iq n then (a.block w (iq n) (ik n)).dcq (rp r) l else 0)
  | 0, _, r, l => by
    obtain ⟨s, e⟩ := sums_first a w
    rw [Nat.add_zero, e, Finset.sum_range_one]
    unfold Sums.next; simp
  | k + 1, hk, r, l => by
    rw [sums_succ a w k hk, Finset.sum_range_succ, ← sums_dcq k (by omega)]
    unfold Sums.next; simp

/-- A sum over the ten steps of the terms of one block of queries. -/
theorem ten (i : Fin 4) (f : Fin 4 → Fin 4 → ℝ) : ∑ n ∈ Finset.range (9 + 1), (if i = iq n then f (iq n) (ik n) else 0) = ∑ j : Fin 4, if j ≤ i then f i j else 0 := by
  simp only [Finset.sum_range_succ, Finset.sum_range_zero, Fin.sum_univ_four]
  fin_cases i <;> simp [iq, ik] <;> ring

theorem last_dq (r : Fin 2048) (l : Fin 128) : (sums a (10 * w.val + 9)).dq r l = a.out0 r (col w l) := by
  rw [sums_dq a w 9 (by decide)]
  refine (ten (rb r) fun i j => (a.block w i j).dq (rp r) l).trans ?_
  rw [total_dq, row_rb]
theorem last_dcq (r : Fin 2048) (l : Fin 128) : (sums a (10 * w.val + 9)).dcq r l = a.out3 r (col w l) := by
  rw [sums_dcq a w 9 (by decide)]
  refine (ten (rb r) fun i j => (a.block w i j).dcq (rp r) l).trans ?_
  rw [total_dcq, row_rb]

/-- The last step of a block of keys. -/
def klast (j : Fin 4) : ℕ := (![3, 6, 8, 9] : Fin 4 → ℕ) j

/-- What a run over a block of keys adds up, of sums that begin anew where the keys change. -/
theorem run (g : ℕ → ℝ) (f : Fin 4 → Fin 4 → ℝ) (h0 : g 0 = f (iq 0) (ik 0))
    (hs : ∀ k, k + 1 < 10 → g (k + 1) = (if freshK (k + 1) then 0 else g k) + f (iq (k + 1)) (ik (k + 1))) (j : Fin 4) :
    g (klast j) = ∑ i : Fin 4, if j ≤ i then f i j else 0 := by
  have h1 := hs 0 (by decide); have h2 := hs 1 (by decide); have h3 := hs 2 (by decide); have h4 := hs 3 (by decide); have h5 := hs 4 (by decide)
  have h6 := hs 5 (by decide); have h7 := hs 6 (by decide); have h8 := hs 7 (by decide); have h9 := hs 8 (by decide)
  have f1 : freshK 1 = false := by decide
  have f2 : freshK 2 = false := by decide
  have f3 : freshK 3 = false := by decide
  have f4 : freshK 4 = true := by decide
  have f5 : freshK 5 = false := by decide
  have f6 : freshK 6 = false := by decide
  have f7 : freshK 7 = true := by decide
  have f8 : freshK 8 = false := by decide
  have f9 : freshK 9 = true := by decide
  simp only [Nat.reduceAdd, Nat.zero_add, f1, f2, f3, f4, f5, f6, f7, f8, f9, if_true, Bool.false_eq_true, if_false, zero_add] at h1 h2 h3 h4 h5 h6 h7 h8 h9
  simp only [Fin.sum_univ_four]
  fin_cases j
  · show g 3 = _
    rw [h3, h2, h1, h0]; simp [iq, ik]
  · show g 6 = _
    rw [h6, h5, h4]; simp [iq, ik]
  · show g 8 = _
    rw [h8, h7]; simp [iq, ik]
  · show g 9 = _
    rw [h9]; simp [iq, ik]

theorem last_dk (j : Fin 4) (u : Fin 512) (l : Fin 128) : (sums a (10 * w.val + klast j)).dk u l = a.out1 (row j u) (col w l) := by
  rw [← total_dk]
  refine run (fun k => (sums a (10 * w.val + k)).dk u l) (fun i j => (a.block w i j).dk u l) ?_ (fun k hk => ?_) j
  · obtain ⟨s, e⟩ := sums_first a w
    beta_reduce; rw [Nat.add_zero, e]; unfold Sums.next; simp
  · beta_reduce; rw [sums_succ a w k hk]; rfl
theorem last_dv (j : Fin 4) (u : Fin 512) (l : Fin 128) : (sums a (10 * w.val + klast j)).dv u l = a.out2 (row j u) (col w l) := by
  rw [← total_dv]
  refine run (fun k => (sums a (10 * w.val + k)).dv u l) (fun i j => (a.block w i j).dv u l) ?_ (fun k hk => ?_) j
  · obtain ⟨s, e⟩ := sums_first a w
    beta_reduce; rw [Nat.add_zero, e]; unfold Sums.next; simp
  · beta_reduce; rw [sums_succ a w k hk]; rfl
theorem last_dck (j : Fin 4) (x : Fin 8) (u : Fin 512) : (sums a (10 * w.val + klast j)).dck x u = a.out4 w x (row j u) := by
  rw [← total_dck]
  refine run (fun k => (sums a (10 * w.val + k)).dck x u) (fun i j => if x.val < 2 then (a.block w i j).dck x.val u else 0) ?_ (fun k hk => ?_) j
  · obtain ⟨s, e⟩ := sums_first a w
    beta_reduce; rw [Nat.add_zero, e]; unfold Sums.next; simp
  · beta_reduce; rw [sums_succ a w k hk]; rfl
end Cert.Fox
end
end
-- ==== Proof.Fox.Body.lean ====
module

public import proofs.«01_k».proof.Proof.Fox.Points

/-! The run of the attention's backward call, from the run of its body at each point. -/

@[expose] public section

set_option maxRecDepth 16384
set_option Elab.async false

noncomputable section

namespace Cert.Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body keeps from point to point besides its staging buffers: its half of the table, the seed register. -/
def keep (c : Dev nD) : sProp 𝕄 :=
  iprop(Pipeline.ΦA (cfgA F).spec c ∗ Pipeline.ΦT (pcfgs (F := F) 0).pre (adm (F := F)).1 c)

/-- The pipeline's proof data. -/
def dats (_ : Fin 1) (c : Dev nD) : Dat τ (Elt F) Unit ℕ (UR sig nD τ) ℕ (cfgA F) c where
  A w := V m c (Pipeline.arrRef spec0 w)
  after w t := match w with
    | ⟨0, _⟩ => blk m c (0 : Fin 12) t
    | ⟨1, _⟩ => blk m c (1 : Fin 12) t
    | ⟨2, _⟩ => blk m c (2 : Fin 12) t
    | ⟨3, _⟩ => blk m c (3 : Fin 12) t
    | ⟨4, _⟩ => blk m c (4 : Fin 12) t
    | ⟨5, _⟩ => blk m c (5 : Fin 12) t
    | ⟨6, _⟩ => blk m c (6 : Fin 12) t
    | ⟨7, _⟩ => (hold m c t.val t.isLt).dq
    | ⟨8, _⟩ => (hold m c t.val t.isLt).dk
    | ⟨9, _⟩ => (hold m c t.val t.isLt).dv
    | ⟨10, _⟩ => (hold m c t.val t.isLt).dcq
    | ⟨11, _⟩ => (hold m c t.val t.isLt).dck
  Φ _ := keep c
  q w := Pipeline.shareOf (cfgA F).spec w
  owed _ := 0

theorem after0 (c : Dev nD) (t : Fin (cfgA F).N) : (dats m 0 c).after (0 : Fin 12) t = blk m c (0 : Fin 12) t := rfl
theorem before0 (c : Dev nD) (t : Fin (cfgA F).N) (d) : (dats m 0 c).before (0 : Fin 12) t d = blk m c (0 : Fin 12) t :=
  ((dats m 0 c).before_in_eq_fetched (0 : Fin 12) rfl (fun _ => rfl) (fun _ _ _ => rfl) (fun t => by rw [after0]; unfold Dat.blockOf blk; rfl) t d).trans
    (by unfold Dat.fetched Dat.blockOf blk; rfl)

theorem after1 (c : Dev nD) (t : Fin (cfgA F).N) : (dats m 0 c).after (1 : Fin 12) t = blk m c (1 : Fin 12) t := rfl
theorem before1 (c : Dev nD) (t : Fin (cfgA F).N) (d) : (dats m 0 c).before (1 : Fin 12) t d = blk m c (1 : Fin 12) t :=
  ((dats m 0 c).before_in_eq_fetched (1 : Fin 12) rfl (fun _ => rfl) (fun _ _ _ => rfl) (fun t => by rw [after1]; unfold Dat.blockOf blk; rfl) t d).trans
    (by unfold Dat.fetched Dat.blockOf blk; rfl)

theorem after2 (c : Dev nD) (t : Fin (cfgA F).N) : (dats m 0 c).after (2 : Fin 12) t = blk m c (2 : Fin 12) t := rfl
theorem before2 (c : Dev nD) (t : Fin (cfgA F).N) (d) : (dats m 0 c).before (2 : Fin 12) t d = blk m c (2 : Fin 12) t :=
  ((dats m 0 c).before_in_eq_fetched (2 : Fin 12) rfl (fun _ => rfl) (fun _ _ _ => rfl) (fun t => by rw [after2]; unfold Dat.blockOf blk; rfl) t d).trans
    (by unfold Dat.fetched Dat.blockOf blk; rfl)

theorem after3 (c : Dev nD) (t : Fin (cfgA F).N) : (dats m 0 c).after (3 : Fin 12) t = blk m c (3 : Fin 12) t := rfl
theorem before3 (c : Dev nD) (t : Fin (cfgA F).N) (d) : (dats m 0 c).before (3 : Fin 12) t d = blk m c (3 : Fin 12) t :=
  ((dats m 0 c).before_in_eq_fetched (3 : Fin 12) rfl (fun _ => rfl) (fun _ _ _ => rfl) (fun t => by rw [after3]; unfold Dat.blockOf blk; rfl) t d).trans
    (by unfold Dat.fetched Dat.blockOf blk; rfl)

theorem after4 (c : Dev nD) (t : Fin (cfgA F).N) : (dats m 0 c).after (4 : Fin 12) t = blk m c (4 : Fin 12) t := rfl
theorem before4 (c : Dev nD) (t : Fin (cfgA F).N) (d) : (dats m 0 c).before (4 : Fin 12) t d = blk m c (4 : Fin 12) t :=
  ((dats m 0 c).before_in_eq_fetched (4 : Fin 12) rfl (fun _ => rfl) (fun _ _ _ => rfl) (fun t => by rw [after4]; unfold Dat.blockOf blk; rfl) t d).trans
    (by unfold Dat.fetched Dat.blockOf blk; rfl)

theorem after5 (c : Dev nD) (t : Fin (cfgA F).N) : (dats m 0 c).after (5 : Fin 12) t = blk m c (5 : Fin 12) t := rfl
theorem before5 (c : Dev nD) (t : Fin (cfgA F).N) (d) : (dats m 0 c).before (5 : Fin 12) t d = blk m c (5 : Fin 12) t :=
  ((dats m 0 c).before_in_eq_fetched (5 : Fin 12) rfl (fun _ => rfl) (fun _ _ _ => rfl) (fun t => by rw [after5]; unfold Dat.blockOf blk; rfl) t d).trans
    (by unfold Dat.fetched Dat.blockOf blk; rfl)

theorem after6 (c : Dev nD) (t : Fin (cfgA F).N) : (dats m 0 c).after (6 : Fin 12) t = blk m c (6 : Fin 12) t := rfl
theorem before6 (c : Dev nD) (t : Fin (cfgA F).N) (d) : (dats m 0 c).before (6 : Fin 12) t d = blk m c (6 : Fin 12) t :=
  ((dats m 0 c).before_in_eq_fetched (6 : Fin 12) rfl (fun _ => rfl) (fun _ _ _ => rfl) (fun t => by rw [after6]; unfold Dat.blockOf blk; rfl) t d).trans
    (by unfold Dat.fetched Dat.blockOf blk; rfl)

theorem after7 (c : Dev nD) (t : Fin (cfgA F).N) : (dats m 0 c).after (7 : Fin 12) t = (hold m c t.val t.isLt).dq := rfl
theorem before7 (c : Dev nD) (t : Fin (cfgA F).N) (d) :
    (dats m 0 c).before (7 : Fin 12) t d = if freshQ t.val then d else (held m c t).dq := by
  rw [(dats m 0 c).before_out_traj (7 : Fin 12) rfl (fun _ _ => rfl)
    (fun t _ hi _ => by rw [show (cfgA F).idle (7 : Fin 12) ((cfgA F).grid.coords t) = false from idle7 t] at hi; exact absurd hi (by decide)) t.val t rfl d, fresh7]
  by_cases hf : freshQ t.val = true
  · rw [if_pos hf, if_pos hf]
  · have h0 : t.val ≠ 0 := fun h0 => hf (by rw [h0]; rfl)
    rw [if_neg hf, if_neg hf, after7]; unfold held; rw [dif_neg h0]

theorem after8 (c : Dev nD) (t : Fin (cfgA F).N) : (dats m 0 c).after (8 : Fin 12) t = (hold m c t.val t.isLt).dk := rfl
theorem before8 (c : Dev nD) (t : Fin (cfgA F).N) (d) :
    (dats m 0 c).before (8 : Fin 12) t d = if freshK t.val then d else (held m c t).dk := by
  rw [(dats m 0 c).before_out_traj (8 : Fin 12) rfl (fun _ _ => rfl)
    (fun t _ hi _ => by rw [show (cfgA F).idle (8 : Fin 12) ((cfgA F).grid.coords t) = false from idle8 t] at hi; exact absurd hi (by decide)) t.val t rfl d, fresh8]
  by_cases hf : freshK t.val = true
  · rw [if_pos hf, if_pos hf]
  · have h0 : t.val ≠ 0 := fun h0 => hf (by rw [h0]; rfl)
    rw [if_neg hf, if_neg hf, after8]; unfold held; rw [dif_neg h0]

theorem after9 (c : Dev nD) (t : Fin (cfgA F).N) : (dats m 0 c).after (9 : Fin 12) t = (hold m c t.val t.isLt).dv := rfl
theorem before9 (c : Dev nD) (t : Fin (cfgA F).N) (d) :
    (dats m 0 c).before (9 : Fin 12) t d = if freshK t.val then d else (held m c t).dv := by
  rw [(dats m 0 c).before_out_traj (9 : Fin 12) rfl (fun _ _ => rfl)
    (fun t _ hi _ => by rw [show (cfgA F).idle (9 : Fin 12) ((cfgA F).grid.coords t) = false from idle9 t] at hi; exact absurd hi (by decide)) t.val t rfl d, fresh9]
  by_cases hf : freshK t.val = true
  · rw [if_pos hf, if_pos hf]
  · have h0 : t.val ≠ 0 := fun h0 => hf (by rw [h0]; rfl)
    rw [if_neg hf, if_neg hf, after9]; unfold held; rw [dif_neg h0]

theorem after10 (c : Dev nD) (t : Fin (cfgA F).N) : (dats m 0 c).after (10 : Fin 12) t = (hold m c t.val t.isLt).dcq := rfl
theorem before10 (c : Dev nD) (t : Fin (cfgA F).N) (d) :
    (dats m 0 c).before (10 : Fin 12) t d = if freshQ t.val then d else (held m c t).dcq := by
  rw [(dats m 0 c).before_out_traj (10 : Fin 12) rfl (fun _ _ => rfl)
    (fun t _ hi _ => by rw [show (cfgA F).idle (10 : Fin 12) ((cfgA F).grid.coords t) = false from idle10 t] at hi; exact absurd hi (by decide)) t.val t rfl d, fresh10]
  by_cases hf : freshQ t.val = true
  · rw [if_pos hf, if_pos hf]
  · have h0 : t.val ≠ 0 := fun h0 => hf (by rw [h0]; rfl)
    rw [if_neg hf, if_neg hf, after10]; unfold held; rw [dif_neg h0]

theorem after11 (c : Dev nD) (t : Fin (cfgA F).N) : (dats m 0 c).after (11 : Fin 12) t = (hold m c t.val t.isLt).dck := rfl
theorem before11 (c : Dev nD) (t : Fin (cfgA F).N) (d) :
    (dats m 0 c).before (11 : Fin 12) t d = if freshK t.val then d else (held m c t).dck := by
  rw [(dats m 0 c).before_out_traj (11 : Fin 12) rfl (fun _ _ => rfl)
    (fun t _ hi _ => by rw [show (cfgA F).idle (11 : Fin 12) ((cfgA F).grid.coords t) = false from idle11 t] at hi; exact absurd hi (by decide)) t.val t rfl d, fresh11]
  by_cases hf : freshK t.val = true
  · rw [if_pos hf, if_pos hf]
  · have h0 : t.val ≠ 0 := fun h0 => hf (by rw [h0]; rfl)
    rw [if_neg hf, if_neg hf, after11]; unfold held; rw [dif_neg h0]

theorem keep_eq (c : Dev nD) : (keep c : sProp 𝕄)
    = iprop(Pipeline.ΦA (cfgA F).spec c ∗ (tb.view.loc (c : Thread nD τ) ↦{fullShare.right} (pairs : S2x10.Idx → Elt F .i32))) := by
  unfold keep Pipeline.ΦT Pipeline.prefHeld
  rw [show (Finset.univ : Finset (Fin (pcfgs (F := F) 0).pre.K)) = {(0 : Fin 1)} from (by decide : (Finset.univ : Finset (Fin 1)) = {0}), bigSep_singleton]
  rfl

/-- The body at point `t`, on its staging buffers. -/
abbrev bodyAt (t : Fin (cfgA F).N) : Prog (TpuEff nD τ sig (Elt F) Λ₀ .tc) PUnit :=
  cc0_fox_bwd (crd t) tb (Memref.isWhole_whole _) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t)

set_option maxHeartbeats 4000000 in
/-- At every point the body takes the staging buffers from what they hold before it to what `after` says. -/
theorem body_at (c : Dev nD) (t : Fin (cfgA F).N) :
    iprop((dats m 0 c).Φ t.castSucc ∗ (dats m 0 c).owesAt () t.castSucc ∗ (∃ d, owns (c : Thread nD τ) (b0 t) fullShare ((dats m 0 c).before (0 : Fin 12) t d)) ∗ (∃ d, owns (c : Thread nD τ) (b1 t) fullShare ((dats m 0 c).before (1 : Fin 12) t d)) ∗ (∃ d, owns (c : Thread nD τ) (b2 t) fullShare ((dats m 0 c).before (2 : Fin 12) t d)) ∗ (∃ d, owns (c : Thread nD τ) (b3 t) fullShare ((dats m 0 c).before (3 : Fin 12) t d)) ∗ (∃ d, owns (c : Thread nD τ) (b4 t) fullShare ((dats m 0 c).before (4 : Fin 12) t d)) ∗ (∃ d, owns (c : Thread nD τ) (b5 t) fullShare ((dats m 0 c).before (5 : Fin 12) t d)) ∗ (∃ d, owns (c : Thread nD τ) (b6 t) fullShare ((dats m 0 c).before (6 : Fin 12) t d)) ∗ (∃ d, owns (c : Thread nD τ) (b7 t) fullShare ((dats m 0 c).before (7 : Fin 12) t d)) ∗ (∃ d, owns (c : Thread nD τ) (b8 t) fullShare ((dats m 0 c).before (8 : Fin 12) t d)) ∗ (∃ d, owns (c : Thread nD τ) (b9 t) fullShare ((dats m 0 c).before (9 : Fin 12) t d)) ∗ (∃ d, owns (c : Thread nD τ) (b10 t) fullShare ((dats m 0 c).before (10 : Fin 12) t d)) ∗ (∃ d, owns (c : Thread nD τ) (b11 t) fullShare ((dats m 0 c).before (11 : Fin 12) t d)))
      ⊢ wp frame (wpE (defs₀ (F := F)) Variants.none c none) Set.univ (bodyAt t) fun _ =>
          iprop((dats m 0 c).Φ t.succ ∗ (dats m 0 c).owesAt () t.succ ∗ owns (c : Thread nD τ) (b0 t) fullShare ((dats m 0 c).after (0 : Fin 12) t) ∗ owns (c : Thread nD τ) (b1 t) fullShare ((dats m 0 c).after (1 : Fin 12) t) ∗ owns (c : Thread nD τ) (b2 t) fullShare ((dats m 0 c).after (2 : Fin 12) t) ∗ owns (c : Thread nD τ) (b3 t) fullShare ((dats m 0 c).after (3 : Fin 12) t) ∗ owns (c : Thread nD τ) (b4 t) fullShare ((dats m 0 c).after (4 : Fin 12) t) ∗ owns (c : Thread nD τ) (b5 t) fullShare ((dats m 0 c).after (5 : Fin 12) t) ∗ owns (c : Thread nD τ) (b6 t) fullShare ((dats m 0 c).after (6 : Fin 12) t) ∗ owns (c : Thread nD τ) (b7 t) fullShare ((dats m 0 c).after (7 : Fin 12) t) ∗ owns (c : Thread nD τ) (b8 t) fullShare ((dats m 0 c).after (8 : Fin 12) t) ∗ owns (c : Thread nD τ) (b9 t) fullShare ((dats m 0 c).after (9 : Fin 12) t) ∗ owns (c : Thread nD τ) (b10 t) fullShare ((dats m 0 c).after (10 : Fin 12) t) ∗ owns (c : Thread nD τ) (b11 t) fullShare ((dats m 0 c).after (11 : Fin 12) t)) := by
  simp only [before0, after0, before1, after1, before2, after2, before3, after3, before4, after4, before5, after5, before6, after6, before7, after7, before8, after8, before9, after9, before10, after10, before11, after11, hold_eq]
  rw [show (dats m 0 c).Φ t.castSucc = keep c from rfl, show (dats m 0 c).Φ t.succ = keep c from rfl, keep_eq,
    show (dats m 0 c).owesAt () t.succ = (dats m 0 c).owesAt () t.castSucc from rfl]
  by_cases hq : freshQ t.val = true
  · have hk := (facts t).2.1 hq
    simp only [hq, hk, ↓reduceIte]
    rw [step_first m c t _ hq]
    iintro ⟨⟨Hs, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((first m c t (atFirst t hq)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT]; · iexact HT
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, HT, ⟨%e0, H7⟩, ⟨%e1, H8⟩, ⟨%e2, H9⟩, ⟨%e3, H10⟩, ⟨%e4, H11⟩⟩
    isplitl [Hs HT]
    · isplitl [Hs]; · iexact Hs
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr; swap
      · iexact H7
      · ipureintro; exact View.read_writes_of_cover _ _ _ _ _ (coverA0 m c t (atFirst t hq))
    isplitl [H8]
    · unfold owns; iexists _; isplitr; swap
      · iexact H8
      · ipureintro; exact View.read_writes_of_cover _ _ _ _ _ (coverA1 m c t (atFirst t hq))
    isplitl [H9]
    · unfold owns; iexists _; isplitr; swap
      · iexact H9
      · ipureintro; exact View.read_writes_of_cover _ _ _ _ _ (coverA2 m c t (atFirst t hq))
    isplitl [H10]
    · unfold owns; iexists _; isplitr; swap
      · iexact H10
      · ipureintro; exact View.read_writes_of_cover _ _ _ _ _ (coverA3 m c t (atFirst t hq))
    unfold owns; iexists _; isplitr; swap
    · iexact H11
    · ipureintro; exact View.read_writes_of_cover _ _ _ _ _ (coverA4 m c t (atFirst t hq))
  · have hq := Bool.eq_false_iff.mpr hq
    by_cases hk : freshK t.val = true
    · simp only [hq, hk, Bool.false_eq_true, ↓reduceIte]
      rw [step_diag m c t _ hq hk]
      iintro ⟨⟨Hs, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((diag m c t (held m c t) (atDiag t hq hk)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT]; · iexact HT
      isplitl [H7]; · iexact H7
      isplitl [H8]; · iexists _; iexact H8
      isplitl [H9]; · iexists _; iexact H9
      isplitl [H10]; · iexact H10
      isplitl [H11]; · iexists _; iexact H11
      iintro ⟨H0, H1, H2, H3, H4, H5, H6, HT, H7, ⟨%e1, H8⟩, ⟨%e2, H9⟩, H10, ⟨%e4, H11⟩⟩
      isplitl [Hs HT]
      · isplitl [Hs]; · iexact Hs
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr; swap
        · iexact H7
        · ipureintro; rfl
      isplitl [H8]
      · unfold owns; iexists _; isplitr; swap
        · iexact H8
        · ipureintro; exact View.read_writes_of_cover _ _ _ _ _ (coverB1 m c t (held m c t) (atDiag t hq hk))
      isplitl [H9]
      · unfold owns; iexists _; isplitr; swap
        · iexact H9
        · ipureintro; exact View.read_writes_of_cover _ _ _ _ _ (coverB2 m c t (held m c t) (atDiag t hq hk))
      isplitl [H10]
      · unfold owns; iexists _; isplitr; swap
        · iexact H10
        · ipureintro; rfl
      unfold owns; iexists _; isplitr; swap
      · iexact H11
      · ipureintro; exact View.read_writes_of_cover _ _ _ _ _ (coverB4 m c t (held m c t) (atDiag t hq hk))
    · have hk := Bool.eq_false_iff.mpr hk
      simp only [hq, hk, Bool.false_eq_true, ↓reduceIte]
      rw [step_below m c t _ hk]
      iintro ⟨⟨Hs, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((below m c t (held m c t) (atBelow t hk)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT]; · iexact HT
      isplitl [H7]; · iexact H7
      isplitl [H8]; · iexact H8
      isplitl [H9]; · iexact H9
      isplitl [H10]; · iexact H10
      isplitl [H11]; · iexact H11
      iintro ⟨H0, H1, H2, H3, H4, H5, H6, HT, H7, ⟨%e1, H8⟩, ⟨%e2, H9⟩, H10, H11⟩
      isplitl [Hs HT]
      · isplitl [Hs]; · iexact Hs
        iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr; swap
        · iexact H7
        · ipureintro; rfl
      isplitl [H8]
      · unfold owns; iexists _; isplitr; swap
        · iexact H8
        · ipureintro; exact View.read_writes_of_cover _ _ _ _ _ (coverC1 m c t (held m c t) (atBelow t hk))
      isplitl [H9]
      · unfold owns; iexists _; isplitr; swap
        · iexact H9
        · ipureintro; exact View.read_writes_of_cover _ _ _ _ _ (coverC2 m c t (held m c t) (atBelow t hk))
      isplitl [H10]
      · unfold owns; iexists _; isplitr; swap
        · iexact H10
        · ipureintro; rfl
      unfold owns; iexists _; isplitr; swap
      · iexact H11
      · ipureintro; rfl

end Cert.Fox

end
-- ==== Proof.Fox.Launch.lean ====
module

public import proofs.«01_k».proof.Proof.Fox.Body

/-! The launch: the call terminates, leaves its arguments as they were, and every counter at zero. -/

@[expose] public section

set_option maxRecDepth 16384
set_option Elab.async false

noncomputable section

namespace Cert.Fox

open Cert.FoxBwdIdeal Cert.FoxBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

variable (m : (ℓ : Loc nD τ sig) → Buf (Elt F) ℓ) (ρ : Dev nD → PrngReg)

theorem body_obligation (c : Dev nD) : BodyObligation (dats (F := F) m 0 c) (defs₀ (F := F)) Variants.none () Set.univ := fun t => by
  rw [bigSep_W0, bigSep_W0]
  rewrite [idle7 t, idle8 t]
  try rewrite [idle9 t]
  try rewrite [idle10 t]
  try rewrite [idle11 t]
  exact body_at m c t

theorem hostOps0_fresh : (hostOps0 : List (HloOp τ sig (Elt F))).Forall fun op => op.fresh = ∅ := by
  simp only [List.Forall]; repeat' constructor

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem V_table (c : Dev nD) : V m c main_c = (pairs : S2x10.Idx → Elt F .i32) := by
  unfold V; rfl

set_option backward.isDefEq.respectTransparency.types false in
set_option maxHeartbeats 1600000 in
/-- Every run ends with the arrays at what the points' writes leave and all counters at zero. -/
theorem run_main : θ_run defs (onTc (τ := τ) (main (F := F))) (s₀ m ρ)
    (fun r => (Pipeline.FramePost (pcs F) (dats m) 0 (V m)) r ∧ r.2.sem = fun _ => 0) :=
  Pipeline.θ_run_frameP_shared (Q' := _) (pcfgs (F := F)) (fun _ => adm) (dats m) (0 : Fin 1) launch₀0 defs₀ Variants.none m ρ main
    (hbody := fun c => (body_obligation m c).loose) (hq := fun _ _ _ => rfl) (howed := fun _ _ => rfl) (V := V m)
    (hmain := Pipeline.hmainP_prefix (pcfgs (F := F)) 0 defs₀ Variants.none m main hostOps0 hostOps0_sub hostOps0_fresh main_chain)
    (hA := fun _ _ => rfl) (hpf := fun c k => match k with | ⟨0, _⟩ => V_table m c) (hΦ := fun _ _ => rfl)

/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide : ∀ w : Fin 12, (spec0 w).arr.view.ref ≠ main_arg0))).trans (V_arg0 m c),
     ((h.1 c).2 main_arg1 (Pipeline.mem_restRefs_of main_arg1 (by decide) (by decide : ∀ w : Fin 12, (spec0 w).arr.view.ref ≠ main_arg1))).trans (V_arg1 m c),
     ((h.1 c).2 main_arg2 (Pipeline.mem_restRefs_of main_arg2 (by decide) (by decide : ∀ w : Fin 12, (spec0 w).arr.view.ref ≠ main_arg2))).trans (V_arg2 m c),
     ((h.1 c).2 main_arg3 (Pipeline.mem_restRefs_of main_arg3 (by decide) (by decide : ∀ w : Fin 12, (spec0 w).arr.view.ref ≠ main_arg3))).trans (V_arg3 m c),
     ((h.1 c).2 main_arg4 (Pipeline.mem_restRefs_of main_arg4 (by decide) (by decide : ∀ w : Fin 12, (spec0 w).arr.view.ref ≠ main_arg4))).trans (V_arg4 m c)⟩, h.2⟩) (run_main m ρ)

end Cert.Fox

end
-- ==== Proof.Fox.Frames.lean ====
module

public import proofs.«01_k».proof.Defs
public import proofs.«01_k».proof.Proof.Gen.FoxBwd
public import proofs.«01_k».proof.Proof.Gen.FoxBwdIdeal
public import proofs.«01_k».proof.Proof.Gen.FoxBwdRefIdeal
public import proofs.«01_k».proof.Proof.Gen.FoxBwdRefIdeal.Run
public import proofs.«01_k».proof.Proof.Gen.Pre_fox_finite
public import proofs.«01_k».proof.Proof.Fox.Launch

/-! # The frame claims about the attention's backward call, and its named constant -/

@[expose] public section
set_option maxRecDepth 16384
noncomputable section
namespace Cert.Fox
open Cert.FoxBwdIdeal Idealize.ShloMosaic Idealize.ShloMosaic.TcCoe Idealize.SL.Sem

/-- The frame of the program with the mask named, its floats read as words. -/
def WordFrame : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- Over words the program with the mask named is the program as written, so the one run serves both. -/
theorem same_text : Cert.quiescent_FoxBwd = Cert.Fox.WordFrame := by sl_kernel_rfl

theorem word_frame : Cert.quiescent_FoxBwd := by
  rw [same_text]; exact fun m ρ _ => Cert.Fox.frame (F := Bits) m ρ

/-- The mask is the named constant `-∞`. -/
theorem preserves : Cert.preserves_FoxBwd_FoxBwdIdeal :=
  IdealRules.named_const.statement κ "mask" .f32 0xF149F2CA#32 ⊥ rfl

theorem ideal_frame : Cert.quiescent_FoxBwdIdeal := fun m ρ _ => Cert.Fox.frame (F := Ideal) m ρ

theorem ref_frame : Cert.quiescent_FoxBwdRefIdeal := fun m g _ =>
  (θ_run Cert.FoxBwdRefIdeal.defs _ _).mono (fun r h => ⟨fun c => (h c).2.2.2.2.2, sem_eq_zero_of_no_sems (by decide) r.2⟩)
    (Cert.FoxBwdRefIdeal.Value.run m g)

end Cert.Fox
end
end
-- ==== Proof.Fox.Final.lean ====
module

public import proofs.«01_k».proof.Proof.Fox.Sum
public import proofs.«01_k».proof.Proof.Fox.Frames

/-! # The arrays the kernel leaves -/

@[expose] public section
set_option maxRecDepth 16384
set_option maxHeartbeats 1600000
noncomputable section
namespace Cert.Fox
open Cert.Lift Cert.FoxBwdIdeal Cert.FoxBwdIdeal.Gen Idealize.ShloMosaic Idealize.ShloMosaic.TcCoe Idealize.SL.Sem

abbrev AllCovers (F : FTy → Type) [FloatOps F] [Named F] : Prop :=
  ((cfgA F).win 7).Covers ∧ ((cfgA F).win 8).Covers ∧ ((cfgA F).win 9).Covers ∧ ((cfgA F).win 10).Covers ∧ ((cfgA F).win 11).Covers
theorem covers_bits : AllCovers Bits := by decide +kernel
theorem covers : AllCovers Ideal := covers_bits

/-- The point that ends a pair of heads, or a block of keys. -/
theorem ends_pair (t : Fin (cfgA Ideal).N) (hf : freshQ (t.val + 1) = true) : t.val = 10 * (pr t).val + 9 := by
  unfold freshQ at hf
  have := of_decide_eq_true hf
  show t.val = 10 * (t.val / 10) + 9
  omega
theorem klast_mod : ∀ k : Fin 10, freshK (k.val + 1) = true → k.val = klast (ik k.val) := by decide
theorem ends_keys (t : Fin (cfgA Ideal).N) (hf : freshK (t.val + 1) = true) : t.val = 10 * (pr t).val + klast (ik t.val) := by
  have h := klast_mod ⟨t.val % 10, Nat.mod_lt _ (by decide)⟩
  have e : freshK (t.val % 10 + 1) = freshK (t.val + 1) := by unfold freshK; congr 1; omega
  have e' : ik (t.val % 10) = ik t.val := by unfold ik; simp only [Nat.mod_mod]
  have := h (e.trans hf)
  rw [e'] at this
  show t.val = 10 * (t.val / 10) + klast (ik t.val)
  have h2 : t.val % 10 = klast (ik t.val) := this
  omega

variable {m : (ℓ : Loc nD τ sig) → Buf (Elt Ideal) ℓ} {c : Dev nD} {a : Reals} (h : Holds m c a)
include h

theorem final7 : (dats m 0 c).arrAt (7 : Fin 12) (cfgA Ideal).N = fun j => ((a.out0 (j 0) (j 1) : ℝ) : EReal) := by
  refine (dats m 0 c).arrAt_eq_of_covers (7 : Fin 12) _ covers.1 fun t hf y => ?_
  have hl := ends_pair t ((facts t).1.2.1.symm.trans hf)
  have e0 : (((cfgA Ideal).win 7).blk t).view.emb y 0 = (y 0 : Fin 2048) := by
    apply Fin.ext; blk_simp [place7 t, row]
  have e1 : (((cfgA Ideal).win 7).blk t).view.emb y 1 = col (pr t) (y 1) := by
    apply Fin.ext; blk_simp [place7 t, col, pr]
  rw [after7]
  have key : ∀ (r : Fin 2048) (l : Fin 128), (hold m c t.val t.isLt).dq (ix2 r l) = ((a.out0 r (col (pr t) l) : ℝ) : EReal) := fun r l => by
    refine ((hold_holding h t.val t.isLt).dq r l).trans ?_
    rw [congrArg (sums a) hl, last_dq]
  beta_reduce
  rw [e0, e1]
  exact (congrArg (hold m c t.val t.isLt).dq (by funext k; match k with | ⟨0, _⟩ => rfl | ⟨1, _⟩ => rfl)).trans (key (y 0) (y 1))
theorem final10 : (dats m 0 c).arrAt (10 : Fin 12) (cfgA Ideal).N = fun j => ((a.out3 (j 0) (j 1) : ℝ) : EReal) := by
  refine (dats m 0 c).arrAt_eq_of_covers (10 : Fin 12) _ covers.2.2.2.1 fun t hf y => ?_
  have hl := ends_pair t ((facts t).1.2.2.2.2.1.symm.trans hf)
  have e0 : (((cfgA Ideal).win 10).blk t).view.emb y 0 = (y 0 : Fin 2048) := by
    apply Fin.ext; blk_simp [place10 t, row]
  have e1 : (((cfgA Ideal).win 10).blk t).view.emb y 1 = col (pr t) (y 1) := by
    apply Fin.ext; blk_simp [place10 t, col, pr]
  rw [after10]
  have key : ∀ (r : Fin 2048) (l : Fin 128), (hold m c t.val t.isLt).dcq (ix2 r l) = ((a.out3 r (col (pr t) l) : ℝ) : EReal) := fun r l => by
    refine ((hold_holding h t.val t.isLt).dcq r l).trans ?_
    rw [congrArg (sums a) hl, last_dcq]
  beta_reduce
  rw [e0, e1]
  exact (congrArg (hold m c t.val t.isLt).dcq (by funext k; match k with | ⟨0, _⟩ => rfl | ⟨1, _⟩ => rfl)).trans (key (y 0) (y 1))
theorem final8 : (dats m 0 c).arrAt (8 : Fin 12) (cfgA Ideal).N = fun j => ((a.out1 (j 0) (j 1) : ℝ) : EReal) := by
  refine (dats m 0 c).arrAt_eq_of_covers (8 : Fin 12) _ covers.2.1 fun t hf y => ?_
  have hl := ends_keys t ((facts t).1.2.2.1.symm.trans hf)
  have e0 : (((cfgA Ideal).win 8).blk t).view.emb y 0 = row (ik t.val) (y 0) := by
    apply Fin.ext; blk_simp [place8 t, row]
  have e1 : (((cfgA Ideal).win 8).blk t).view.emb y 1 = col (pr t) (y 1) := by
    apply Fin.ext; blk_simp [place8 t, col, pr]
  rw [after8]
  have key : ∀ (r : Fin 512) (l : Fin 128), (hold m c t.val t.isLt).dk (ix2 r l) = ((a.out1 (row (ik t.val) r) (col (pr t) l) : ℝ) : EReal) := fun r l => by
    refine ((hold_holding h t.val t.isLt).dk r l).trans ?_
    rw [congrArg (sums a) hl, last_dk]
  beta_reduce
  rw [e0, e1]
  exact (congrArg (hold m c t.val t.isLt).dk (by funext k; match k with | ⟨0, _⟩ => rfl | ⟨1, _⟩ => rfl)).trans (key (y 0) (y 1))
theorem final9 : (dats m 0 c).arrAt (9 : Fin 12) (cfgA Ideal).N = fun j => ((a.out2 (j 0) (j 1) : ℝ) : EReal) := by
  refine (dats m 0 c).arrAt_eq_of_covers (9 : Fin 12) _ covers.2.2.1 fun t hf y => ?_
  have hl := ends_keys t ((facts t).1.2.2.2.1.symm.trans hf)
  have e0 : (((cfgA Ideal).win 9).blk t).view.emb y 0 = row (ik t.val) (y 0) := by
    apply Fin.ext; blk_simp [place9 t, row]
  have e1 : (((cfgA Ideal).win 9).blk t).view.emb y 1 = col (pr t) (y 1) := by
    apply Fin.ext; blk_simp [place9 t, col, pr]
  rw [after9]
  have key : ∀ (r : Fin 512) (l : Fin 128), (hold m c t.val t.isLt).dv (ix2 r l) = ((a.out2 (row (ik t.val) r) (col (pr t) l) : ℝ) : EReal) := fun r l => by
    refine ((hold_holding h t.val t.isLt).dv r l).trans ?_
    rw [congrArg (sums a) hl, last_dv]
  beta_reduce
  rw [e0, e1]
  exact (congrArg (hold m c t.val t.isLt).dv (by funext k; match k with | ⟨0, _⟩ => rfl | ⟨1, _⟩ => rfl)).trans (key (y 0) (y 1))
theorem final11 : (dats m 0 c).arrAt (11 : Fin 12) (cfgA Ideal).N = fun j => ((a.out4 (j 0) (j 1) (j 2) : ℝ) : EReal) := by
  refine (dats m 0 c).arrAt_eq_of_covers (11 : Fin 12) _ covers.2.2.2.2 fun t hf y => ?_
  have hl := ends_keys t ((facts t).1.2.2.2.2.2.symm.trans hf)
  have e0 : (((cfgA Ideal).win 11).blk t).view.emb y 0 = pr t := by
    apply Fin.ext; blk_simp [place11 t, pr]
  have e1 : (((cfgA Ideal).win 11).blk t).view.emb y 1 = (y 1 : Fin 8) := by
    apply Fin.ext; blk_simp [place11 t]
  have e2 : (((cfgA Ideal).win 11).blk t).view.emb y 2 = row (ik t.val) (y 2) := by
    apply Fin.ext; blk_simp [place11 t, row]
  rw [after11]
  have key : ∀ (x : Fin 8) (u : Fin 512), (hold m c t.val t.isLt).dck (ix3 0 x u) = ((a.out4 (pr t) x (row (ik t.val) u) : ℝ) : EReal) := fun x u => by
    refine ((hold_holding h t.val t.isLt).dck x u).trans ?_
    rw [congrArg (sums a) hl, last_dck]
  beta_reduce
  rw [e0, e1, e2]
  exact (congrArg (hold m c t.val t.isLt).dck (by
    funext k
    match k with
    | ⟨0, _⟩ => exact Fin.ext (by have : (y 0).val < 1 := (y 0).isLt; show (y 0).val = 0; omega)
    | ⟨1, _⟩ => rfl
    | ⟨2, _⟩ => rfl)).trans (key (y 1) (y 2))
end Cert.Fox
end
end
-- ==== Proof.Fox.Reference.lean ====
module

public import proofs.«01_k».proof.Proof.Fox.Softmax
public import proofs.«01_k».proof.Proof.Gen.FoxBwdRefIdeal.Run

/-! # The forgetting attention's gradients: what the reference computes -/

@[expose] public section
set_option maxRecDepth 16384
noncomputable section
namespace Cert.Fox
open Cert.Lift
namespace Ref
open Cert.FoxBwdRefIdeal Cert.FoxBwdRefIdeal.Gen Cert.FoxBwdRefIdeal.Value
open Idealize.ShloMosaic Idealize.ShloMosaic.TcCoe Idealize.SL.Sem

section stages
variable (q k v d : FVec Ideal S2048x8x64 .f32) (c : FVec Ideal S8x2048 .f32)

/-- The logits, -∞ past the query. -/
def logits : FVec Ideal S8x2048x2048 .f32 :=
  select upTo
    (subf (addf (mulf (Host.dotGeneral dot_S2048x8x64_S2048x8x64_S8x2048x2048_2_2_0_0_1_1 none q k)
        (broadcastInDim S8x2048x2048 ![] bcast_S_S8x2048x2048 (constant S_ .f32 0x3E000000#32)))
      (broadcastInDim S8x2048x2048 ![0, 1, 2] bcast_S8x2048x1_S8x2048x2048_0_1_2 (broadcastInDim S8x2048x1 ![0, 1] bcast_S8x2048_S8x2048x1_0_1 c)))
      (broadcastInDim S8x2048x2048 ![0, 1, 2] bcast_S8x1x2048_S8x2048x2048_0_1_2 (broadcastInDim S8x1x2048 ![0, 2] bcast_S8x2048_S8x1x2048_0_2 c)))
    (broadcastInDim S8x2048x2048 ![] bcast_S_S8x2048x2048 (id (constant S_ .f32 0xFF800000#32)))

/-- Their exponentials, after each row's maximum is taken off. -/
def expo : FVec Ideal S8x2048x2048 .f32 :=
  exps (logits q k c) (broadcastInDim S8x2048x1 ![0, 1] bcast_S8x2048_S8x2048x1_0_1
    (maximumf (broadcastInDim S8x2048 ![] bcast_S_S8x2048 (constant S_ .f32 0xFF800000#32)) (rowMax (logits q k c))))

/-- The output's cotangent, head by head. -/
def dT : FVec Ideal S8x64x2048 .f32 := transpose S8x64x2048 [1, 2, 0] d transposes_S2048x8x64_S8x64x2048_1_2_0

/-- The weights' cotangents. -/
def dpA : FVec Ideal S8x2048x2048 .f32 := Host.dotGeneral dot_S8x64x2048_S2048x8x64_S8x2048x2048_1_2_2_0_0_1 none (dT d) v

/-- A row's sum of the weights' cotangents through the denominator, negated. -/
def through (e dp : FVec Ideal S8x2048x2048 .f32) : FVec Ideal S8x2048x1 .f32 :=
  Host.negf (shapeCast S8x2048x1 (Host.reduceAdd (mulf (mulf dp
      (broadcastInDim S8x2048x2048 ![0, 1, 2] bcast_S8x2048x1_S8x2048x2048_0_1_2
        (Host.divf (broadcastInDim S8x2048x1 ![] bcast_S_S8x2048x1 (constant S_ .f32 0x3F800000#32)) (mulf (total e) (total e))))) e)
    (constant S_ .f32 0x00000000#32) reducesTo_S8x2048x2048_S8x2048_d2 h_S_) shapeCasts_S8x2048_S8x2048x1)

/-- The logits' cotangents. -/
def dsA (e dp : FVec Ideal S8x2048x2048 .f32) : FVec Ideal S8x2048x2048 .f32 :=
  select upTo
    (mulf (addf (Host.divf dp (broadcastInDim S8x2048x2048 ![0, 1, 2] bcast_S8x2048x1_S8x2048x2048_0_1_2 (total e)))
        (broadcastInDim S8x2048x2048 ![0, 1] bcast_S8x2048_S8x2048x2048_0_1
          (Host.reduceAdd (through e dp) (constant S_ .f32 0x00000000#32) reducesTo_S8x2048x1_S8x2048_d2 h_S_))) e)
    (broadcastInDim S8x2048x2048 ![] bcast_S_S8x2048x2048 (constant S_ .f32 0x00000000#32))

end stages

variable (m : (ℓ : Loc nD τ sig) → Buf (Elt Ideal) ℓ) (c : Dev nD)
/-- The arguments on one device. -/
abbrev Q : FVec Ideal S2048x8x64 .f32 := m ((c.tc : Thread nD τ).loc main_arg0)
abbrev K : FVec Ideal S2048x8x64 .f32 := m ((c.tc : Thread nD τ).loc main_arg1)
abbrev V : FVec Ideal S2048x8x64 .f32 := m ((c.tc : Thread nD τ).loc main_arg2)
abbrev C : FVec Ideal S8x2048 .f32 := m ((c.tc : Thread nD τ).loc main_arg3)
abbrev O : FVec Ideal S2048x8x64 .f32 := m ((c.tc : Thread nD τ).loc main_arg4)

theorem out0 : res_out0 m c = shapeCast S2048x512 (transpose S2048x8x64 [1, 0, 2]
    (Host.dotGeneral dot_S8x2048x2048_S2048x8x64_S8x2048x64_2_0_1_2_0_1 none
      (mulf (dsA (expo (Q m c) (K m c) (C m c)) (dpA (V m c) (O m c))) (broadcastInDim S8x2048x2048 ![] bcast_S_S8x2048x2048 (constant S_ .f32 0x3E000000#32)))
      (K m c)) transposes_S8x2048x64_S2048x8x64_1_0_2) shapeCasts_S2048x8x64_S2048x512 := by
  unfold res_out0 res_main_v80
  rfl
theorem out1 : res_out1 m c = shapeCast S2048x512 (transpose S2048x8x64 [1, 0, 2]
    (Host.dotGeneral dot_S8x2048x2048_S2048x8x64_S8x2048x64_1_0_2_2_0_1 none
      (mulf (dsA (expo (Q m c) (K m c) (C m c)) (dpA (V m c) (O m c))) (broadcastInDim S8x2048x2048 ![] bcast_S_S8x2048x2048 (constant S_ .f32 0x3E000000#32)))
      (Q m c)) transposes_S8x2048x64_S2048x8x64_1_0_2) shapeCasts_S2048x8x64_S2048x512 := by
  unfold res_out1 res_main_v81
  rfl
theorem out2 : res_out2 m c = shapeCast S2048x512 (transpose S2048x8x64 [2, 0, 1]
    (Host.dotGeneral dot_S8x64x2048_S8x2048x2048_S8x64x2048_2_1_1_2_0_0 none (dT (O m c)) (soft (expo (Q m c) (K m c) (C m c))))
      transposes_S8x64x2048_S2048x8x64_2_0_1) shapeCasts_S2048x8x64_S2048x512 := by
  unfold res_out2 res_main_v82
  rfl
theorem out3 : res_out3 m c = shapeCast S2048x512 (broadcastInDim S2048x8x64 ![0, 1, 2] bcast_S2048x8x1_S2048x8x64_0_1_2
    (broadcastInDim S2048x8x1 ![0, 1] bcast_S2048x8_S2048x8x1_0_1 (transpose S2048x8 [1, 0]
      (Host.reduceAdd (shapeCast S8x2048x1 (Host.reduceAdd (dsA (expo (Q m c) (K m c) (C m c)) (dpA (V m c) (O m c)))
        (constant S_ .f32 0x00000000#32) reducesTo_S8x2048x2048_S8x2048_d2 h_S_) shapeCasts_S8x2048_S8x2048x1)
        (constant S_ .f32 0x00000000#32) reducesTo_S8x2048x1_S8x2048_d2 h_S_) transposes_S8x2048_S2048x8_1_0))) shapeCasts_S2048x8x64_S2048x512 := by
  unfold res_out3 res_main_v86
  rfl
theorem out4 : res_out4 m c = concatenate S4x8x2048 1 [⟨S4x2x2048, Host.negf (shapeCast S4x2x2048
      (Host.reduceAdd (shapeCast S8x1x2048 (Host.reduceAdd (Host.negf (dsA (expo (Q m c) (K m c) (C m c)) (dpA (V m c) (O m c))))
        (constant S_ .f32 0x00000000#32) reducesTo_S8x2048x2048_S8x2048_d1 h_S_) shapeCasts_S8x2048_S8x1x2048)
        (constant S_ .f32 0x00000000#32) reducesTo_S8x1x2048_S8x2048_d1 h_S_) shapeCasts_S8x2048_S4x2x2048)⟩,
      ⟨S4x6x2048, broadcastInDim S4x6x2048 ![] bcast_S_S4x6x2048 (constant S_ .f32 0x00000000#32)⟩] concatenates_S4x2x2048_S4x6x2048_S4x8x2048_d1 := by
  unfold res_out4 res_main_v79
  rfl

theorem lit_eighth : Ideal.ofBits .f32 0x3E000000#32 = ((1 / 8 : ℝ) : EReal) := by
  simp [Ideal.ofBits, Ideal.ieee, -EReal.coe_mul]; norm_num

/-- The reference's argument arrays hold the reals `a`. -/
structure Holds (a : Reals) : Prop where
  hq : Is3 (Q m c) a.q
  hk : Is3 (K m c) a.k
  hv : Is3 (V m c) a.v
  hc : Is2 (C m c) a.c
  hd : Is3 (O m c) a.d

section values
variable {a : Reals} {q k v d : FVec Ideal S2048x8x64 .f32} {c : FVec Ideal S8x2048 .f32}

theorem logits_real (hq : Is3 q a.q) (hk : Is3 k a.k) (hc : Is2 c a.c) :
    MaskedRows (logits q k c) (fun h r u => a.z h r u + a.c h r) := fun h r u => by
  unfold logits
  rw [show (select upTo _ _ (ix3 h r u) : EReal) = _ from select_upTo _ _ h r u]
  unfold Is3 Is2 at *
  pointwise [hq, hk, hc]
  simp only [zero_add, lit_eighth, lit_bot, coe_sum, ← EReal.coe_mul, ← EReal.coe_add, ← EReal.coe_sub]
  unfold Reals.z
  congr 2
  ring

/-- The row's maximum taken together with -∞. -/
theorem max_bot (x : FVec Ideal S8x2048 .f32) (h : Fin 8) (r : Fin 2048) :
    (broadcastInDim S8x2048x1 ![0, 1] bcast_S8x2048_S8x2048x1_0_1
      (maximumf (broadcastInDim S8x2048 ![] bcast_S_S8x2048 (constant S_ .f32 0xFF800000#32)) x) (ix3 h r 0) : EReal) = x (ix2 h r) := by
  pointwise
  rw [lit_bot]
  exact max_eq_right bot_le

/-- The exponentials are the reals' times a positive factor of the row. -/
theorem expo_real (hq : Is3 q a.q) (hk : Is3 k a.k) (hc : Is2 c a.c) :
    ∃ t : Fin 8 → Fin 2048 → ℝ, (∀ h r, 0 < t h r) ∧ Is3 (expo q k c) (fun h r u => a.e h r u * t h r) := by
  obtain ⟨M, hM⟩ := rowMax_real (logits_real hq hk hc)
  refine ⟨fun h r => Real.exp (a.c h r - M h r), fun h r => Real.exp_pos _, exps_real (logits_real hq hk hc) fun h r => ?_⟩
  exact (max_bot _ h r).trans (hM h r)

theorem dp_real (hv : Is3 v a.v) (hd : Is3 d a.d) : Is3 (dpA v d) a.dp := fun h r u => by
  unfold Is3 at *
  pointwise [dpA, dT, hv, hd]
  simp only [zero_add, coe_sum, ← EReal.coe_mul]
  rfl

theorem ds_real {e dp : FVec Ideal S8x2048x2048 .f32} {t : Fin 8 → Fin 2048 → ℝ} (ht : ∀ h r, 0 < t h r)
    (he : Is3 e (fun h r u => a.e h r u * t h r)) (hdp : Is3 dp a.dp) : Is3 (dsA e dp) a.ds := fun h r u => by
  have hl := total_real he
  have ht' := ht h r
  have hd := a.den_pos h r
  unfold dsA
  rw [show (select upTo _ _ (ix3 h r u) : EReal) = _ from select_upTo _ _ h r u]
  unfold Is3 at *
  pointwise [through, he, hdp, hl]
  simp only [zero_add, EReal.coe_one.symm, coe_sum, ← EReal.coe_mul, ← EReal.coe_add, ← EReal.coe_neg, Fin.sum_univ_one,
    div_real (mul_pos hd ht').ne', div_real (mul_pos (mul_pos hd ht') (mul_pos hd ht')).ne']
  unfold Reals.ds
  split_ifs with hu
  · congr 1
    rw [← a.sum_w_dp, show ∑ x, a.dp h r x * (1 / (a.den h r * t h r * (a.den h r * t h r))) * (a.e h r x * t h r)
      = (1 / (a.den h r * t h r)) * ∑ x, a.w h r x * a.dp h r x from ?_]
    · unfold Reals.w; field_simp; ring
    · rw [Finset.mul_sum]
      refine Finset.sum_congr rfl fun x _ => ?_
      unfold Reals.w; field_simp
  · rw [a.w_of_lt hu, zero_mul]; rfl
end values

section results
variable {m c} {a : Reals} (h : Holds m c a)
include h

theorem ds_is : Is3 (dsA (expo (Q m c) (K m c) (C m c)) (dpA (V m c) (O m c))) a.ds := by
  obtain ⟨t, ht, he⟩ := expo_real h.hq h.hk h.hc
  exact ds_real ht he (dp_real h.hv h.hd)
theorem w_is : Is3 (soft (expo (Q m c) (K m c) (C m c))) a.w := by
  obtain ⟨t, ht, he⟩ := expo_real h.hq h.hk h.hc
  exact soft_real ht he

theorem out0_is : Is2 (φ := .f32) (res_out0 m c) a.out0 := fun r l => by
  rw [out0]
  have hs := ds_is h; have hk := h.hk
  generalize dsA _ _ = s at *
  generalize K m c = k at *
  unfold Is3 at *
  pointwise [hs, hk]
  simp only [zero_add, lit_eighth, coe_sum, ← EReal.coe_mul]
  unfold Reals.out0 Reals.dq
  rw [Finset.sum_mul]
  congr 1
  exact Finset.sum_congr rfl fun u _ => by rw [mul_right_comm]; rfl
theorem out1_is : Is2 (φ := .f32) (res_out1 m c) a.out1 := fun r l => by
  rw [out1]
  have hs := ds_is h; have hk := h.hq
  generalize dsA _ _ = s at *
  generalize Q m c = k at *
  unfold Is3 at *
  pointwise [hs, hk]
  simp only [zero_add, lit_eighth, coe_sum, ← EReal.coe_mul]
  unfold Reals.out1 Reals.dk
  rw [Finset.sum_mul]
  congr 1
  exact Finset.sum_congr rfl fun u _ => by rw [mul_right_comm]; rfl
theorem out2_is : Is2 (φ := .f32) (res_out2 m c) a.out2 := fun r l => by
  rw [out2]
  have hs := w_is h; have hk := h.hd
  generalize soft _ = s at *
  generalize O m c = k at *
  unfold Is3 at *
  pointwise [dT, hs, hk]
  simp only [zero_add, coe_sum, ← EReal.coe_mul]
  unfold Reals.out2 Reals.dv
  congr 1
  exact Finset.sum_congr rfl fun u _ => mul_comm _ _
theorem out3_is : Is2 (φ := .f32) (res_out3 m c) a.out3 := fun r l => by
  rw [out3]
  have hs := ds_is h
  generalize dsA _ _ = s at *
  unfold Is3 at *
  pointwise [hs]
  simp only [zero_add, coe_sum, Fin.sum_univ_one]
  rfl
theorem out4_is (p : Fin 4) (b : Fin 8) (u : Fin 2048) : (res_out4 m c (ix3 p b u) : EReal) = ((a.out4 p b u : ℝ) : EReal) := by
  rw [out4]
  have hs := ds_is h
  generalize dsA _ _ = s at *
  unfold Is3 at *
  pointwise [hs]
  simp only [zero_add, coe_sum, Fin.sum_univ_one, ← EReal.coe_neg]
  unfold Reals.out4 Reals.dck
  split_ifs with hb
  · congr 1
    rw [Finset.sum_neg_distrib, neg_neg]
    refine Finset.sum_congr rfl fun r _ => congrArg (fun i => a.ds i r u) (Fin.ext ?_)
    show p.val * 2 + b.val = 2 * p.val + b.val
    omega
  · rfl
end results

/-- The reference's run, its results read as arrays of reals. -/
theorem run (a : Dev nD → Reals) (g : Dev nD → PrngReg) (h : ∀ c, Holds m c (a c)) :
    θ_run defs (onTc (τ := τ) (main (F := Ideal))) ⟨m, fun _ => 0, g⟩ fun r => ∀ c : Dev nD,
      r.2.mem ((c.tc : Thread nD τ).loc main_v80) = (fun j : S2048x512.Idx => (((a c).out0 (j 0) (j 1) : ℝ) : EReal))
      ∧ r.2.mem ((c.tc : Thread nD τ).loc main_v81) = (fun j : S2048x512.Idx => (((a c).out1 (j 0) (j 1) : ℝ) : EReal))
      ∧ r.2.mem ((c.tc : Thread nD τ).loc main_v82) = (fun j : S2048x512.Idx => (((a c).out2 (j 0) (j 1) : ℝ) : EReal))
      ∧ r.2.mem ((c.tc : Thread nD τ).loc main_v86) = (fun j : S2048x512.Idx => (((a c).out3 (j 0) (j 1) : ℝ) : EReal))
      ∧ r.2.mem ((c.tc : Thread nD τ).loc main_v79) = (fun j : S4x8x2048.Idx => (((a c).out4 (j 0) (j 1) (j 2) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r hr c => ⟨
    (hr c).1.trans (funext fun j => by rw [eq_ix2 j]; exact out0_is (h c) _ _),
    (hr c).2.1.trans (funext fun j => by rw [eq_ix2 j]; exact out1_is (h c) _ _),
    (hr c).2.2.1.trans (funext fun j => by rw [eq_ix2 j]; exact out2_is (h c) _ _),
    (hr c).2.2.2.1.trans (funext fun j => by rw [eq_ix2 j]; exact out3_is (h c) _ _),
    (hr c).2.2.2.2.1.trans (funext fun j => by rw [eq_ix3 j]; exact out4_is (h c) _ _ _),
    (hr c).2.2.2.2.2⟩) (Value.run m g)
end Ref
end Cert.Fox
end
end
-- ==== Proof.Fox.Claim.lean ====
module

public import proofs.«01_k».proof.Proof.Fox.Final
public import proofs.«01_k».proof.Proof.Fox.Reference

/-! # The gradients of the causal attention: kernel and reference agree on finite arguments -/

@[expose] public section
set_option maxRecDepth 16384
set_option maxHeartbeats 4000000
noncomputable section
namespace Cert.Fox
open Cert.Lift Idealize.ShloMosaic Idealize.ShloMosaic.TcCoe Idealize.SL.Sem Cert.FoxBwdIdeal Cert.FoxBwdIdeal.Gen

/-- The reals in the kernel's arguments. -/
def reals (m : (ℓ : Loc nD τ sig) → Buf (Elt Ideal) ℓ) (c : Dev nD) : Reals where
  q r h l := EReal.toReal (Q m c (ix3 r h l))
  k r h l := EReal.toReal (K m c (ix3 r h l))
  v r h l := EReal.toReal (Vl m c (ix3 r h l))
  c h u := EReal.toReal (C m c (ix2 h u))
  d r h l := EReal.toReal (O m c (ix3 r h l))

open Cert.Pre_fox_finite in
/-- Under the precondition the arguments are those reals. -/
theorem holds (m : (ℓ : Loc nD τ sig) → Buf (Elt Ideal) ℓ) (hp : Cert.Pre_FoxBwdIdeal_fox_finite m) (c : Dev nD) :
    Holds m c (reals m c) := by
  obtain ⟨h0, h1, h2, h3, h4⟩ := hp c
  refine ⟨fun r x l => ?_, fun r x l => ?_, fun r x l => ?_, fun x r => ?_, fun r x l => ?_⟩
  · have h := congrFun h0 (ix3 r x l)
    pointwise [fn, fn_part1] at h
    exact coe_of_test h
  · have h := congrFun h1 (ix3 r x l)
    pointwise [fn, fn_part1] at h
    exact coe_of_test h
  · have h := congrFun h2 (ix3 r x l)
    pointwise [fn, fn_part1] at h
    exact coe_of_test h
  · have h := congrFun h3 (ix2 x r)
    pointwise [fn, fn_part1] at h
    exact coe_of_test h
  · have h := congrFun h4 (ix3 r x l)
    pointwise [fn, fn_part1] at h
    exact coe_of_test h

/-- Kernel and reference return the same five arrays. -/
theorem algebraic : Cert.algebraic_FoxBwdIdeal_FoxBwdRefIdeal_pre_fox_finite := by
  intro m g m' g' hp hm
  have hk := holds m hp
  have hr : ∀ c, Ref.Holds m' c (reals m c) := fun c => by
    obtain ⟨e0, e1, e2, e3, e4⟩ := hm c
    exact ⟨fun r x l => (congrFun e0 _).trans ((hk c).hq r x l), fun r x l => (congrFun e1 _).trans ((hk c).hk r x l),
      fun r x l => (congrFun e2 _).trans ((hk c).hv r x l), fun x r => (congrFun e3 _).trans ((hk c).hc x r),
      fun r x l => (congrFun e4 _).trans ((hk c).hd r x l)⟩
  refine ⟨fun c j => (((reals m c).out0 (j 0) (j 1) : ℝ) : EReal), fun c j => (((reals m c).out1 (j 0) (j 1) : ℝ) : EReal),
    fun c j => (((reals m c).out2 (j 0) (j 1) : ℝ) : EReal), fun c j => (((reals m c).out3 (j 0) (j 1) : ℝ) : EReal),
    fun c j => (((reals m c).out4 (j 0) (j 1) (j 2) : ℝ) : EReal), ?_, Ref.run m' (reals m) g' hr⟩
  refine (θ_run (defs (F := Ideal)) _ _).mono (fun r h c => ?_) (run_main (F := Ideal) m g)
  have w := (h.1 c).1
  exact ⟨(w (7 : Fin 12)).trans (final7 (hk c)), (w (8 : Fin 12)).trans (final8 (hk c)), (w (9 : Fin 12)).trans (final9 (hk c)),
    (w (10 : Fin 12)).trans (final10 (hk c)), (w (11 : Fin 12)).trans (final11 (hk c)),
    ((h.1 c).2 main_arg0 (Pipeline.mem_restRefs_of main_arg0 (by decide) (by decide : ∀ w : Fin 12, (spec0 w).arr.view.ref ≠ main_arg0))).trans (V_arg0 m c),
    ((h.1 c).2 main_arg1 (Pipeline.mem_restRefs_of main_arg1 (by decide) (by decide : ∀ w : Fin 12, (spec0 w).arr.view.ref ≠ main_arg1))).trans (V_arg1 m c),
    ((h.1 c).2 main_arg2 (Pipeline.mem_restRefs_of main_arg2 (by decide) (by decide : ∀ w : Fin 12, (spec0 w).arr.view.ref ≠ main_arg2))).trans (V_arg2 m c),
    ((h.1 c).2 main_arg3 (Pipeline.mem_restRefs_of main_arg3 (by decide) (by decide : ∀ w : Fin 12, (spec0 w).arr.view.ref ≠ main_arg3))).trans (V_arg3 m c),
    ((h.1 c).2 main_arg4 (Pipeline.mem_restRefs_of main_arg4 (by decide) (by decide : ∀ w : Fin 12, (spec0 w).arr.view.ref ≠ main_arg4))).trans (V_arg4 m c)⟩
end Cert.Fox
end
end
-- ==== Proof.Prep.Math.lean ====
module

public import proofs.«01_k».proof.Proof.Math.Lift

/-! # The convolution, silu and l2 norm before the delta rule: the gradients over the reals -/

@[expose] public section
noncomputable section
namespace Cert.Prep
open Cert.Lift

/-- The l2 norm's ε, 1e-6 rounded to a float. -/
def tiny : ℝ := 8796093 * 2 ^ (-43 : ℤ)
theorem tiny_pos : 0 < tiny := by unfold tiny; positivity
theorem lit_tiny : Idealize.ShloMosaic.Ideal.ofBits .f32 0x358637BD#32 = ((tiny : ℝ) : EReal) := by
  unfold tiny; simp [Idealize.ShloMosaic.Ideal.ofBits, Idealize.ShloMosaic.Ideal.ieee, -EReal.coe_mul]

/-- The rows `s` places down, zeros before the first. -/
def down (s : ℕ) (f : Fin 2048 → ℝ) (r : Fin 2048) : ℝ := if h : s ≤ r.val then f ⟨r.val - s, by omega⟩ else 0
/-- The rows `s` places up, zeros after the last. -/
def up (s : ℕ) (f : Fin 2048 → ℝ) (r : Fin 2048) : ℝ := if h : r.val + s < 2048 then f ⟨r.val + s, h⟩ else 0

/-- The logistic function. -/
def logis (y : ℝ) : ℝ := 1 / (1 + Real.exp (-y))
theorem logis_den (y : ℝ) : 1 + Real.exp (-y) ≠ 0 := by positivity
/-- The reading of the expression both programs have for it. -/
theorem logis_real (y : ℝ) : Idealize.ShloMosaic.Ideal.div 1 (1 + Idealize.ShloMosaic.Ideal.exp (-(y : EReal))) = ((logis y : ℝ) : EReal) := by
  rw [← EReal.coe_neg, show Idealize.ShloMosaic.Ideal.exp ((-y : ℝ) : EReal) = ((Real.exp (-y) : ℝ) : EReal) from rfl, ← EReal.coe_one,
    ← EReal.coe_add, div_real (logis_den y)]
  rfl

/-- The l2 norm's sum over one head of 128, with ε. -/
def ss (s : Fin 128 → ℝ) : ℝ := (∑ k, s k * s k) + tiny
theorem ss_pos (s : Fin 128 → ℝ) : 0 < ss s := by
  have := tiny_pos
  have h : 0 ≤ ∑ k, s k * s k := Finset.sum_nonneg fun k _ => mul_self_nonneg _
  unfold ss; positivity
/-- Its reciprocal root. -/
def rinv (s : Fin 128 → ℝ) : ℝ := (√(ss s))⁻¹
/-- The gradient of the l2 norm at the cotangent `d`. -/
def l2bwd (s d : Fin 128 → ℝ) (l : Fin 128) : ℝ := rinv s * (d l - s l * rinv s * ∑ k, d k * (s k * rinv s))

theorem rinv_div (s : Fin 128 → ℝ) : rinv s / ss s = rinv s ^ 3 := by
  have h := ss_pos s
  have hs : √(ss s) ^ 2 = ss s := Real.sq_sqrt h.le
  have hp : √(ss s) ≠ 0 := (Real.sqrt_pos.mpr h).ne'
  unfold rinv; rw [← hs, Real.sqrt_sq (Real.sqrt_nonneg _)]; field_simp

/-- The gradient as the derivative of the norm's lines writes it. -/
theorem l2bwd_eq (s d : Fin 128 → ℝ) (l : Fin 128) :
    d l * rinv s + s l * ((∑ k, s k * d k) * (-(1 / 2) * (rinv s / ss s))) + (∑ k, s k * d k) * (-(1 / 2) * (rinv s / ss s)) * s l
      = l2bwd s d l := by
  have h3 : ∑ k, d k * (s k * rinv s) = rinv s * ∑ k, s k * d k := by
    rw [Finset.mul_sum]; exact Finset.sum_congr rfl fun k _ => by ring
  rw [rinv_div]; unfold l2bwd; rw [h3]; ring

/-- The reals in the arguments: the convolved columns, the taps, and the cotangents of all 1536 channels. -/
structure Reals where
  c : Fin 2048 → Fin 1536 → ℝ
  w : Fin 4 → Fin 1536 → ℝ
  dq : Fin 2048 → Fin 512 → ℝ
  dk : Fin 2048 → Fin 512 → ℝ
  dv : Fin 2048 → Fin 512 → ℝ

/-- Place `l` of head `k`'s 128 channels. -/
def lane (k : Fin 1536) (l : Fin 128) : Fin 1536 := ⟨k.val / 128 * 128 + l.val, by omega⟩

namespace Reals
variable (a : Reals)
/-- The cotangent of all channels. -/
def d (r : Fin 2048) (k : Fin 1536) : ℝ :=
  if h : k.val < 512 then a.dq r ⟨k.val, h⟩ else if h : k.val < 1024 then a.dk r ⟨k.val - 512, by omega⟩
  else a.dv r ⟨k.val - 1024, by omega⟩
/-- The convolution. -/
def y (r : Fin 2048) (k : Fin 1536) : ℝ :=
  a.c r k * a.w 3 k + down 1 (fun i => a.c i k) r * a.w 2 k + down 2 (fun i => a.c i k) r * a.w 1 k + down 3 (fun i => a.c i k) r * a.w 0 k
/-- The silu. -/
def s (r : Fin 2048) (k : Fin 1536) : ℝ := a.y r k * logis (a.y r k)
/-- The cotangent before the norm. -/
def ds (r : Fin 2048) (k : Fin 1536) : ℝ :=
  if k.val < 1024 then l2bwd (fun l => a.s r (lane k l)) (fun l => a.d r (lane k l)) ⟨k.val % 128, by omega⟩ else a.d r k
/-- The cotangent before the silu. -/
def dy (r : Fin 2048) (k : Fin 1536) : ℝ := a.ds r k * (logis (a.y r k) * (1 + a.y r k * (1 - logis (a.y r k))))
/-- The gradient of the convolved columns. -/
def dc (r : Fin 2048) (k : Fin 1536) : ℝ :=
  a.dy r k * a.w 3 k + up 1 (fun i => a.dy i k) r * a.w 2 k + up 2 (fun i => a.dy i k) r * a.w 1 k + up 3 (fun i => a.dy i k) r * a.w 0 k
/-- The gradient of the taps. -/
def dw (i : Fin 4) (k : Fin 1536) : ℝ := ∑ r, a.dy r k * down (3 - i.val) (fun j => a.c j k) r
end Reals
end Cert.Prep
-- ==== Proof.Math.Place.lean ====
module

public import proofs.«01_k».proof.Proof.Math.Lift

/-! # Choosing an entry by its place -/

@[expose] public section
noncomputable section
namespace Cert.Lift
open Idealize.ShloMosaic

theorem toInt_small {x : ℕ} (h : x < 4096) : (BitVec.ofNat 32 x).toInt = (x : ℤ) := by
  rw [BitVec.toInt_eq_toNat_of_lt (by rw [BitVec.toNat_ofNat]; omega), BitVec.toNat_ofNat, Nat.mod_eq_of_lt (by omega)]

/-- Choosing by a place's not coming before another. -/
theorem select_ge {α : Type} {x y : ℕ} (hx : x < 4096) (hy : y < 4096) (u v : α) :
    Scalar.select (IntOp.cmpi .sge (BitVec.ofNat 32 x) (BitVec.ofNat 32 y)) u v = if y ≤ x then u else v := by
  have e : BitVec.sle (BitVec.ofNat 32 y) (BitVec.ofNat 32 x) = decide (y ≤ x) := by
    rw [BitVec.sle_eq_decide, toInt_small hx, toInt_small hy]; simp
  unfold Scalar.select IntOp.cmpi
  by_cases h : y ≤ x <;> simp [h, e]
/-- Choosing by a place's coming before another. -/
theorem select_lt {α : Type} {x y : ℕ} (hx : x < 4096) (hy : y < 4096) (u v : α) :
    Scalar.select (IntOp.cmpi .slt (BitVec.ofNat 32 x) (BitVec.ofNat 32 y)) u v = if x < y then u else v := by
  have e : BitVec.slt (BitVec.ofNat 32 x) (BitVec.ofNat 32 y) = decide (x < y) := by
    rw [BitVec.slt_eq_decide, toInt_small hx, toInt_small hy]; simp
  unfold Scalar.select IntOp.cmpi
  by_cases h : x < y <;> simp [h, e]
/-- The test whether two places are one. -/
theorem cmp_eq {x y : ℕ} (hx : x < 4096) (hy : y < 4096) : (BitVec.ofNat 32 x == BitVec.ofNat 32 y) = decide (x = y) := by
  have e : (BitVec.ofNat 32 x = BitVec.ofNat 32 y) ↔ x = y := by
    rw [← BitVec.toNat_inj, BitVec.toNat_ofNat, BitVec.toNat_ofNat, Nat.mod_eq_of_lt (by omega), Nat.mod_eq_of_lt (by omega)]
  by_cases h : x = y <;> simp [h, mt e.mp]
/-- Choosing by a place's being another. -/
theorem select_eq {α : Type} {x y : ℕ} (hx : x < 4096) (hy : y < 4096) (u v : α) :
    Scalar.select (IntOp.cmpi .eq (BitVec.ofNat 32 x) (BitVec.ofNat 32 y)) u v = if x = y then u else v := by
  have e := cmp_eq hx hy
  unfold Scalar.select IntOp.cmpi
  by_cases h : x = y <;> simp [h, e]

end Cert.Lift
-- ==== Proof.Prep.Block.lean ====
module

public import proofs.«01_k».proof.Proof.Gen.PrepBwdIdeal
public import proofs.«01_k».proof.Proof.Prep.Math
public import proofs.«01_k».proof.Proof.Math.Place
public import proofs.«01_k».proof.Proof.Gen.PrepBwdIdeal.Frame

/-! # The gradient kernel before the delta rule: the values of one head of 128 channels -/

@[expose] public section
set_option maxRecDepth 16384
noncomputable section
namespace Cert.Prep.Ker
open Cert.Lift Idealize.ShloMosaic Idealize.ShloMosaic.TcCoe Idealize.SL.Sem Cert.PrepBwdIdeal Cert.PrepBwdIdeal.Gen

/-- Rows turned down by `s`, the first `s` set to zero. -/
def turnDown (s : BitVec 32) (x : FVec Ideal S2048x128 .f32) : FVec Ideal S2048x128 .f32 :=
  select (cmpi .sge (iota .tc S2048x128 32 [0] iota_S2048x128_d0_w32) (broadcast S2048x128 s)) (dynamicRotate 0 s none x rotates_S2048x128_d0)
    (broadcast S2048x128 (Scalar.ofBits .f32 0x00000000#32))
/-- Rows turned down by `q`, all from row `q` on set to zero. -/
def turnUp (q : BitVec 32) (x : FVec Ideal S2048x128 .f32) : FVec Ideal S2048x128 .f32 :=
  select (cmpi .slt (iota .tc S2048x128 32 [0] iota_S2048x128_d0_w32) (broadcast S2048x128 q)) (dynamicRotate 0 q none x rotates_S2048x128_d0)
    (broadcast S2048x128 (Scalar.ofBits .f32 0x00000000#32))

theorem turn_down {C : Fin 2048 → Fin 128 → ℝ} (s : ℕ) (hs : s < 2048) (r : Fin 2048) (l : Fin 128) :
    Scalar.select (IntOp.cmpi .sge (BitVec.ofNat 32 r.val) (BitVec.ofNat 32 s)) (((C ⟨(r.val + 2048 - s) % 2048, Nat.mod_lt _ (by omega)⟩ l : ℝ) : EReal)) (0 : EReal)
      = ((down s (fun i => C i l) r : ℝ) : EReal) := by
  have hr := r.isLt
  rw [select_ge (by omega) (by omega)]
  unfold down
  by_cases h : s ≤ r.val
  · rw [if_pos h, dif_pos h]
    exact congrArg (fun i => ((C i l : ℝ) : EReal)) (Fin.ext (by show (r.val + 2048 - s) % 2048 = r.val - s; omega))
  · rw [if_neg h, dif_neg h]; rfl
theorem turn_up {C : Fin 2048 → Fin 128 → ℝ} (s q : ℕ) (hs : s + q = 2048) (hq : 0 < q) (r : Fin 2048) (l : Fin 128) :
    Scalar.select (IntOp.cmpi .slt (BitVec.ofNat 32 r.val) (BitVec.ofNat 32 q)) (((C ⟨(r.val + 2048 - q) % 2048, Nat.mod_lt _ (by omega)⟩ l : ℝ) : EReal)) (0 : EReal)
      = ((up s (fun i => C i l) r : ℝ) : EReal) := by
  have hr := r.isLt
  rw [select_lt (by omega) (by omega)]
  unfold up
  by_cases h : r.val < q
  · rw [if_pos h, dif_pos (by omega)]
    exact congrArg (fun i => ((C i l : ℝ) : EReal)) (Fin.ext (by show (r.val + 2048 - q) % 2048 = r.val + s; omega))
  · rw [if_neg h, dif_neg (by omega)]; rfl

variable {x : FVec Ideal S2048x128 .f32} {w : FVec Ideal S4x128 .f32} {C : Fin 2048 → Fin 128 → ℝ} {W : Fin 4 → Fin 128 → ℝ}
  (hx : Is2 (φ := .f32) x C) (hw : Is2 (φ := .f32) w W)

include hx in
theorem down1 : Is2 (φ := .f32) (turnDown 1#32 x) (fun r l => down 1 (fun i => C i l) r) := fun r l => by
  unfold Is2 at hx
  pointwise [turnDown, hx]
  exact turn_down 1 (by omega) r l
include hx in
theorem down2 : Is2 (φ := .f32) (turnDown 2#32 x) (fun r l => down 2 (fun i => C i l) r) := fun r l => by
  unfold Is2 at hx
  pointwise [turnDown, hx]
  exact turn_down 2 (by omega) r l
include hx in
theorem down3 : Is2 (φ := .f32) (turnDown 3#32 x) (fun r l => down 3 (fun i => C i l) r) := fun r l => by
  unfold Is2 at hx
  pointwise [turnDown, hx]
  exact turn_down 3 (by omega) r l
include hx in
theorem up1 : Is2 (φ := .f32) (turnUp 2047#32 x) (fun r l => up 1 (fun i => C i l) r) := fun r l => by
  unfold Is2 at hx
  pointwise [turnUp, hx]
  exact turn_up 1 2047 (by omega) (by omega) r l
include hx in
theorem up2 : Is2 (φ := .f32) (turnUp 2046#32 x) (fun r l => up 2 (fun i => C i l) r) := fun r l => by
  unfold Is2 at hx
  pointwise [turnUp, hx]
  exact turn_up 2 2046 (by omega) (by omega) r l
include hx in
theorem up3 : Is2 (φ := .f32) (turnUp 2045#32 x) (fun r l => up 3 (fun i => C i l) r) := fun r l => by
  unfold Is2 at hx
  pointwise [turnUp, hx]
  exact turn_up 3 2045 (by omega) (by omega) r l

/-- Four taps of a column's row and its neighbours. -/
def taps (x0 x1 x2 x3 : FVec Ideal S2048x128 .f32) (w : FVec Ideal S4x128 .f32) : FVec Ideal S2048x128 .f32 :=
  addf (addf (addf (mulf x0 (broadcastTo S2048x128 (extractStridedSlice S1x128 ![3, 0] w slices_S4x128_o3_0_S1x128) broadcasts_S1x128_S2048x128))
      (mulf x1 (broadcastTo S2048x128 (extractStridedSlice S1x128 ![2, 0] w slices_S4x128_o2_0_S1x128) broadcasts_S1x128_S2048x128)))
      (mulf x2 (broadcastTo S2048x128 (extractStridedSlice S1x128 ![1, 0] w slices_S4x128_o1_0_S1x128) broadcasts_S1x128_S2048x128)))
      (mulf x3 (broadcastTo S2048x128 (extractStridedSlice S1x128 ![0, 0] w slices_S4x128_o0_0_S1x128) broadcasts_S1x128_S2048x128))
include hw in
theorem taps_real {x0 x1 x2 x3 : FVec Ideal S2048x128 .f32} {X0 X1 X2 X3 : Fin 2048 → Fin 128 → ℝ}
    (h0 : Is2 x0 X0) (h1 : Is2 x1 X1) (h2 : Is2 x2 X2) (h3 : Is2 x3 X3) :
    Is2 (taps x0 x1 x2 x3 w) (fun r l => X0 r l * W 3 l + X1 r l * W 2 l + X2 r l * W 1 l + X3 r l * W 0 l) := fun r l => by
  unfold Is2 at *
  pointwise [taps, h0, h1, h2, h3, hw]
  simp only [← EReal.coe_mul, ← EReal.coe_add]

/-- The convolution of one head's columns. -/
def yB (C : Fin 2048 → Fin 128 → ℝ) (W : Fin 4 → Fin 128 → ℝ) (r : Fin 2048) (l : Fin 128) : ℝ :=
  C r l * W 3 l + down 1 (fun i => C i l) r * W 2 l + down 2 (fun i => C i l) r * W 1 l + down 3 (fun i => C i l) r * W 0 l

theorem pay3_eq (x : FVec Ideal S2048x128 .f32) : k0_pay3 (F := Ideal) x = x := by
  funext j
  idx_vars j
  unfold k0_pay3
  pointwise

include hx hw in
theorem conv : Is2 (addf (k0_pay5 (F := Ideal) x w) (mulf (k0_pay6 x) (broadcastTo S2048x128 (k0_pay7 w) broadcasts_S1x128_S2048x128))) (yB C W) := by
  have e : addf (k0_pay5 (F := Ideal) x w) (mulf (k0_pay6 x) (broadcastTo S2048x128 (k0_pay7 w) broadcasts_S1x128_S2048x128))
      = taps (k0_pay3 x) (turnDown 1#32 (k0_pay3 x)) (turnDown 2#32 (k0_pay3 x)) (turnDown 3#32 (k0_pay3 x)) w := rfl
  rw [e, pay3_eq]
  exact taps_real hw hx (down1 hx) (down2 hx) (down3 hx)

/-- The cotangent before the silu, from the convolution and the cotangent after the norm. -/
def dyB (b : Bool) (Y D : Fin 2048 → Fin 128 → ℝ) (r : Fin 2048) (l : Fin 128) : ℝ :=
  (if b then l2bwd (fun k => Y r k * logis (Y r k)) (D r) l else D r l) * (logis (Y r l) * (1 + Y r l * (1 - logis (Y r l))))

/-- The silu's derivative and the l2 norm's, from the convolution's block. -/
theorem silu (i : ℕ) (hi : i < 12) (z v9 : FVec Ideal S2048x128 .f32) (Y D : Fin 2048 → Fin 128 → ℝ) (hz : Is2 z Y) (h9 : Is2 (φ := .f32) v9 D)
    (v31 v36 : FVec Ideal S2048x128 .f32) (v37 : FVec Ideal S1x128 .f32)
    (e : addf v31 (mulf v36 (broadcastTo S2048x128 v37 broadcasts_S1x128_S2048x128)) = z) :
    Is2 (φ := .f32) (k0_pay8 (F := Ideal) (BitVec.ofNat 32 i) v9 v31 v36 v37) (dyB (decide (i < 8)) Y D) := fun r l => by
  unfold Is2 at *
  unfold k0_pay8
  dsimp only
  rw [e]
  pointwise [hz, h9]
  simp only [zero_sub, logis_real]
  simp only [EReal.coe_one.symm, lit_tiny, ← EReal.coe_mul, coe_sum, ← EReal.coe_add, ← EReal.coe_sub]
  have hr : ∀ r, Ideal.rsqrt ((((∑ k, Y r k * logis (Y r k) * (Y r k * logis (Y r k))) + tiny : ℝ)) : EReal)
      = ((rinv (fun k => Y r k * logis (Y r k)) : ℝ) : EReal) := fun r => rsqrt_real (ss_pos _)
  simp only [hr, ← EReal.coe_mul, coe_sum, ← EReal.coe_add, ← EReal.coe_sub]
  rw [show Scalar.cmpi CmpIPredicate.slt (BitVec.ofNat 32 i) 8#32 = IntOp.cmpi CmpIPredicate.slt (BitVec.ofNat 32 i) (BitVec.ofNat 32 8) from rfl,
    select_lt (by omega) (by omega)]
  unfold dyB
  by_cases h8 : i < 8
  · rw [if_pos h8, if_pos (decide_eq_true h8), ← EReal.coe_mul]; rfl
  · rw [if_neg h8, if_neg (by simpa using h8), ← EReal.coe_mul]

include hx hw in
theorem p8 (i : ℕ) (hi : i < 12) (v9 : FVec Ideal S2048x128 .f32) (D : Fin 2048 → Fin 128 → ℝ) (h9 : Is2 (φ := .f32) v9 D) :
    Is2 (φ := .f32) (k0_pay8 (F := Ideal) (BitVec.ofNat 32 i) v9 (k0_pay5 x w) (k0_pay6 x) (k0_pay7 w)) (dyB (decide (i < 8)) (yB C W) D) :=
  silu i hi _ v9 _ D (conv hx hw) h9 _ _ _ rfl

/-- The gradient of one head's columns. -/
def dcB (DY : Fin 2048 → Fin 128 → ℝ) (W : Fin 4 → Fin 128 → ℝ) (r : Fin 2048) (l : Fin 128) : ℝ :=
  DY r l * W 3 l + up 1 (fun i => DY i l) r * W 2 l + up 2 (fun i => DY i l) r * W 1 l + up 3 (fun i => DY i l) r * W 0 l

include hw in
/-- What a point writes of the columns' gradient. -/
theorem p2 (v73 : FVec Ideal S2048x128 .f32) (DY : Fin 2048 → Fin 128 → ℝ) (h : Is2 v73 DY) (v77 : FVec Ideal S2048x128 .f32)
    (e : v77 = mulf v73 (broadcastTo S2048x128 (extractStridedSlice S1x128 ![3, 0] w slices_S4x128_o3_0_S1x128) broadcasts_S1x128_S2048x128))
    (r : Fin 2048) (l : Fin 128) :
    k0_pay2 (F := Ideal) w (k0_pay13 w v73 (iota .tc S2048x128 32 [0] iota_S2048x128_d0_w32) v77 k0_pay11)
      (k0_pay15 (iota .tc S2048x128 32 [0] iota_S2048x128_d0_w32)) (k0_pay16 v73) (k0_pay17 (F := Ideal)) (ix2 r l) = ((dcB DY W r l : ℝ) : EReal) := by
  subst e
  exact taps_real hw h (up1 h) (up2 h) (up3 h) r l

/-- A row of the taps' gradient: a column's sum over the rows. -/
theorem p_sum (v73 y : FVec Ideal S2048x128 .f32) (DY X : Fin 2048 → Fin 128 → ℝ) (h : Is2 v73 DY) (hy : Is2 y X) (l : Fin 128) :
    (shapeCast S1x128 (multiReduction .add [0] S128 (mulf v73 y) 0x00000000#32 reduces_S2048x128_S128 (.inl rfl) rfl) shapeCasts_S128_S1x128
      : FVec Ideal S1x128 .f32) (ix2 0 l) = ((∑ r, DY r l * X r l : ℝ) : EReal) := by
  unfold Is2 at *
  pointwise [h, hy]
  simp only [zero_add, coe_sum, ← EReal.coe_mul]

theorem p4 (i : grid0.Coords) (hi : (i 0).val < 12) (x y z : Vec Ideal S2048x128 .f32) :
    k0_pay4 (F := Ideal) i x y z = if (i 0).val < 4 then x else if (i 0).val < 8 then y else z := by
  unfold k0_pay4
  exact (select_lt (by omega) (by omega) _ _).trans (congrArg _ (select_lt (by omega) (by omega) _ _))
end Cert.Prep.Ker
-- ==== Proof.Prep.Kernel.lean ====
module

public import proofs.«01_k».proof.Proof.Gen.PrepBwdIdeal.Value
public import proofs.«01_k».proof.Proof.Prep.Block
public import proofs.«01_k».proof.Proof.Math.Rows
public import Idealize.ShloMosaic.Lib.Pipeline.ValueKit

/-! # The gradient before the delta rule: what the kernel computes

The pallas_call's grid goes through the 1536 channels in twelve heads of 128: the first four are the queries', the next four the
keys', the last four the values'. Each writes its own columns of both results. -/

@[expose] public section
set_option maxRecDepth 16384
noncomputable section
namespace Cert.Prep
open Cert.Lift
namespace Ker
open Cert.PrepBwdIdeal Cert.PrepBwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The blocks' places. -/
theorem idx : ∀ t : Fin cfg0.N, win0_0.index t = ![0, t.val] ∧ win0_1.index t = ![0, t.val] ∧ win0_2.index t = ![0, min t.val 3]
    ∧ win0_3.index t = ![0, min (t.val - 4) 3] ∧ win0_4.index t = ![0, min (t.val - 8) 3] ∧ win0_5.index t = ![0, t.val] ∧ win0_6.index t = ![0, t.val]
    ∧ (grid0.coords t 0).val = t.val ∧ t.val < 12 :=
  (by decide +kernel : ∀ t : Fin grid0.N, _)

/-- Channel `l` of head `t`. -/
def chan (t : Fin cfg0.N) (l : Fin 128) : Fin 1536 := ⟨t.val * 128 + l.val, by have := (idx t).2.2.2.2.2.2.2.2; omega⟩

/-- The projection's 3600 columns in the kernel's order, in a width of 3712. -/
def cols (x : FVec Ideal S2048x3600 .f32) : FVec Ideal S2048x3712 .f32 :=
  concatenate S2048x3712 1
    [⟨S2048x2048, extractStridedSlice S2048x2048 ![0, 0] x slices_S2048x3600_S2048x2048_0_0⟩,
     ⟨S2048x1536, extractStridedSlice S2048x1536 ![0, 2056] x slices_S2048x3600_S2048x1536_0_2056⟩,
     ⟨S2048x8, extractStridedSlice S2048x8 ![0, 2048] x slices_S2048x3600_S2048x8_0_2048⟩,
     ⟨S2048x8, extractStridedSlice S2048x8 ![0, 3592] x slices_S2048x3600_S2048x8_0_3592⟩,
     ⟨S2048x112, broadcastInDim S2048x112 ![] bcast_S_S2048x112 (constant S_ .f32 0x00000000#32)⟩]
    concatenates_S2048x2048_S2048x1536_S2048x8_S2048x8_S2048x112_S2048x3712_d1
/-- The projection, as the host lays it out. -/
theorem arr0 : V m c (Pipeline.arrRef spec0 0) = cols (m ((c.tc : Thread nD τ).loc main_arg0)) := by
  unfold V
  rfl
theorem cols_apply (x : FVec Ideal S2048x3600 .f32) (r : Fin 2048) (k : Fin 1536) :
    cols x (ix2 r (⟨k.val, by omega⟩ : Fin 3712)) = x (ix2 r (⟨k.val, by omega⟩ : Fin 3600)) := by
  pointwise [cols]
  rw [dif_pos (by omega)]

/-- Head `t`'s columns of the projection. -/
theorem blk0 (t : Fin cfg0.N) (r : Fin 2048) (l : Fin 128) :
    (show FVec Ideal S2048x128 .f32 from iblk m c 0 t) (ix2 r l)
      = (show FVec Ideal S2048x3712 .f32 from V m c (Pipeline.arrRef spec0 0)) (ix2 r (⟨(chan t l).val, by omega⟩ : Fin 3712)) := by
  blk_ext [iblk, idx t, chan]
/-- Head `t`'s taps. -/
theorem blk1 (t : Fin cfg0.N) (i : Fin 4) (l : Fin 128) :
    (show FVec Ideal S4x128 .f32 from iblk m c 1 t) (ix2 i l) = (show FVec Ideal S4x1536 .f32 from m ((c.tc : Thread nD τ).loc main_arg1)) (ix2 i (chan t l)) := by
  blk_point [iblk, V, idx t, chan]
/-- The queries' cotangent staged at head `t`. -/
theorem blk2 (t : Fin cfg0.N) (r : Fin 2048) (l : Fin 128) :
    (show FVec Ideal S2048x128 .f32 from iblk m c 2 t) (ix2 r l)
      = (show FVec Ideal S2048x512 .f32 from m ((c.tc : Thread nD τ).loc main_arg2)) (ix2 r ⟨min t.val 3 * 128 + l.val, by omega⟩) := by
  blk_point [iblk, V, idx t]
/-- The keys' cotangent staged at head `t`. -/
theorem blk3 (t : Fin cfg0.N) (r : Fin 2048) (l : Fin 128) :
    (show FVec Ideal S2048x128 .f32 from iblk m c 3 t) (ix2 r l)
      = (show FVec Ideal S2048x512 .f32 from m ((c.tc : Thread nD τ).loc main_arg3)) (ix2 r ⟨min (t.val - 4) 3 * 128 + l.val, by omega⟩) := by
  blk_point [iblk, V, idx t]
/-- The values' cotangent staged at head `t`. -/
theorem blk4 (t : Fin cfg0.N) (r : Fin 2048) (l : Fin 128) :
    (show FVec Ideal S2048x128 .f32 from iblk m c 4 t) (ix2 r l)
      = (show FVec Ideal S2048x512 .f32 from m ((c.tc : Thread nD τ).loc main_arg4)) (ix2 r ⟨min (t.val - 8) 3 * 128 + l.val, by omega⟩) := by
  blk_point [iblk, V, idx t]

/-- The kernel's argument arrays hold the reals `a`. -/
structure Holds (a : Reals) : Prop where
  cc : ∀ (r : Fin 2048) (k : Fin 1536), (m ((c.tc : Thread nD τ).loc main_arg0) (ix2 r (⟨k.val, by omega⟩ : Fin 3600)) : EReal) = ((a.c r k : ℝ) : EReal)
  w : Is2 (φ := .f32) (m ((c.tc : Thread nD τ).loc main_arg1)) a.w
  dq : Is2 (φ := .f32) (m ((c.tc : Thread nD τ).loc main_arg2)) a.dq
  dk : Is2 (φ := .f32) (m ((c.tc : Thread nD τ).loc main_arg3)) a.dk
  dv : Is2 (φ := .f32) (m ((c.tc : Thread nD τ).loc main_arg4)) a.dv

variable {m c} {a : Reals} (h : Holds m c a)
include h

theorem bc (t : Fin cfg0.N) : Is2 (φ := .f32) (iblk m c 0 t) (fun r l => a.c r (chan t l)) := fun r l => by
  refine (blk0 m c t r l).trans ?_
  rw [arr0]
  exact (cols_apply _ _ _).trans (h.cc _ _)
theorem bw (t : Fin cfg0.N) : Is2 (φ := .f32) (iblk m c 1 t) (fun r l => a.w r (chan t l)) := fun r l =>
  (blk1 m c t r l).trans (h.w _ _)
/-- The cotangent that head `t` takes. -/
theorem bd (t : Fin cfg0.N) :
    Is2 (φ := .f32) (k0_pay4 (F := Ideal) (grid0.coords t) (iblk m c 2 t) (iblk m c 3 t) (iblk m c 4 t)) (fun r l => a.d r (chan t l)) := fun r l => by
  obtain ⟨-, -, -, -, -, -, -, hc, ht⟩ := idx t
  rw [p4 _ (by omega), hc]
  unfold Reals.d chan
  dsimp only
  by_cases h1 : t.val < 4
  · rw [if_pos h1, dif_pos (by omega)]
    exact (blk2 m c t r l).trans ((h.dq _ _).trans (congrArg (fun k => ((a.dq r k : ℝ) : EReal)) (Fin.ext (by show min t.val 3 * 128 + l.val = t.val * 128 + l.val; omega))))
  · rw [if_neg h1, dif_neg (by omega)]
    by_cases h2 : t.val < 8
    · rw [if_pos h2, dif_pos (by omega)]
      exact (blk3 m c t r l).trans ((h.dk _ _).trans (congrArg (fun k => ((a.dk r k : ℝ) : EReal)) (Fin.ext (by show min (t.val - 4) 3 * 128 + l.val = t.val * 128 + l.val - 512; omega))))
    · rw [if_neg h2, dif_neg (by omega)]
      exact (blk4 m c t r l).trans ((h.dv _ _).trans (congrArg (fun k => ((a.dv r k : ℝ) : EReal)) (Fin.ext (by show min (t.val - 8) 3 * 128 + l.val = t.val * 128 + l.val - 1024; omega))))

omit h in
theorem dy_eq (a : Reals) (t : Fin cfg0.N) (r : Fin 2048) (l : Fin 128) :
    dyB (decide (t.val < 8)) (yB (fun r l => a.c r (chan t l)) (fun r l => a.w r (chan t l))) (fun r l => a.d r (chan t l)) r l = a.dy r (chan t l) := by
  unfold dyB Reals.dy Reals.ds
  have e : ∀ k, lane (chan t l) k = chan t k := fun k => Fin.ext (by
    show (t.val * 128 + l.val) / 128 * 128 + k.val = t.val * 128 + k.val; omega)
  have e' : (⟨(chan t l).val % 128, by omega⟩ : Fin 128) = l := Fin.ext (by
    show (t.val * 128 + l.val) % 128 = l.val; omega)
  simp only [e, e']
  by_cases h8 : t.val < 8
  · rw [if_pos (decide_eq_true h8), if_pos (show (chan t l).val < 1024 by show t.val * 128 + l.val < 1024; omega)]; rfl
  · rw [if_neg (by simpa using h8), if_neg (show ¬(chan t l).val < 1024 by show ¬t.val * 128 + l.val < 1024; omega)]; rfl

/-- The cotangent before the silu, at head `t`. -/
theorem bdy (t : Fin cfg0.N) : Is2 (φ := .f32) (k0_pay8 (F := Ideal) (BitVec.ofNat 32 (grid0.coords t 0).val)
      (k0_pay4 (F := Ideal) (grid0.coords t) (iblk m c 2 t) (iblk m c 3 t) (iblk m c 4 t)) (k0_pay5 (iblk m c 0 t) (iblk m c 1 t)) (k0_pay6 (iblk m c 0 t)) (k0_pay7 (iblk m c 1 t)))
    (fun r l => a.dy r (chan t l)) := fun r l => by
  obtain ⟨-, -, -, -, -, -, -, hc, ht⟩ := idx t
  rw [hc]
  exact (p8 (bc h t) (bw h t) t.val ht _ _ (bd h t) r l).trans (congrArg _ (dy_eq a t r l))

/-- The gradient of the projection's columns. -/
theorem final5 : (dats m 0 c).arrAt 5 cfg0.N = fun j => ((a.dc (j 0) (j 1) : ℝ) : EReal) := by
  refine (dats m 0 c).arrAt_eq_of_covers 5 _ (by decide +kernel) fun t _ y => ?_
  blk_simp
  rw [after0_5]
  have e0 : ((View.whole main_v6_0).slice (win0_5.rect t)).emb y 0 = y 0 := by
    apply Fin.ext; blk_simp [idx t]
  have e1 : ((View.whole main_v6_0).slice (win0_5.rect t)).emb y 1 = chan t (y 1) := by
    apply Fin.ext; blk_simp [idx t, chan]
  unfold_out out0_5
  frame_out
  idx_vars y
  refine (p2 (bw h t) _ _ (bdy h t) _ rfl _ _).trans ?_
  rw [e0, e1]
  rfl

/-- The gradient of the taps. -/
theorem final6 : (dats m 0 c).arrAt 6 cfg0.N = fun j => ((a.dw (j 0) (j 1) : ℝ) : EReal) := by
  refine (dats m 0 c).arrAt_eq_of_covers 6 _ (by decide +kernel) fun t _ y => ?_
  blk_simp
  rw [after0_6]
  have e0 : ((View.whole main_v6_1).slice (win0_6.rect t)).emb y 0 = y 0 := by
    apply Fin.ext; blk_simp [idx t]
  have e1 : ((View.whole main_v6_1).slice (win0_6.rect t)).emb y 1 = chan t (y 1) := by
    apply Fin.ext; blk_simp [idx t, chan]
  unfold_out out0_6
  frame_out
  idx_vars y
  rw [Rows.canon_row, Rows.canon_row, Rows.canon_row, Rows.canon_row, e0, e1]
  unfold Reals.dw
  split_ifs with h0 h1 h2 h3
  · rw [h0]
    exact p_sum _ (turnDown 3#32 (k0_pay3 (iblk m c 0 t))) _ _ (bdy h t) (by rw [pay3_eq]; exact down3 (bc h t)) y1
  · rw [h1]
    exact p_sum _ (turnDown 2#32 (k0_pay3 (iblk m c 0 t))) _ _ (bdy h t) (by rw [pay3_eq]; exact down2 (bc h t)) y1
  · rw [h2]
    exact p_sum _ (turnDown 1#32 (k0_pay3 (iblk m c 0 t))) _ _ (bdy h t) (by rw [pay3_eq]; exact down1 (bc h t)) y1
  · rw [h3]
    refine (p_sum _ (k0_pay3 (iblk m c 0 t)) _ _ (bdy h t) (by rw [pay3_eq]; exact bc h t) y1).trans ?_
    refine congrArg _ (Finset.sum_congr rfl fun r _ => congrArg _ ?_)
    unfold down
    rw [dif_pos (Nat.zero_le _)]
    rfl
  · omega

end Ker
end Cert.Prep
-- ==== Proof.Prep.Reference.lean ====
module

public import proofs.«01_k».proof.Proof.Gen.PrepBwdRefIdeal.Run
public import proofs.«01_k».proof.Proof.Prep.Math

/-! # The convolution's gradient with silu's and the l2 norm's: what the reference computes -/

@[expose] public section
set_option maxRecDepth 16384
noncomputable section
namespace Cert.Prep
open Cert.Lift
namespace Ref
open Cert.PrepBwdRefIdeal Cert.PrepBwdRefIdeal.Gen Cert.PrepBwdRefIdeal.Value Idealize.ShloMosaic Idealize.ShloMosaic.TcCoe Idealize.SL.Sem

variable (a : Reals) (V0 : Valuation τ sig (Elt Ideal))

/-- The reference's argument arrays hold the reals `a`. -/
structure Holds : Prop where
  c : ∀ (r : Fin 2048) (k : Fin 1536), (V0 (Proc.devRef .tc main_arg0) (ix2 r (⟨k.val, by omega⟩ : Fin 3600)) : EReal) = ((a.c r k : ℝ) : EReal)
  w : Is2 (φ := .f32) (V0 (Proc.devRef .tc main_arg1)) a.w
  dq : Is2 (φ := .f32) (V0 (Proc.devRef .tc main_arg2)) a.dq
  dk : Is2 (φ := .f32) (V0 (Proc.devRef .tc main_arg3)) a.dk
  dv : Is2 (φ := .f32) (V0 (Proc.devRef .tc main_arg4)) a.dv

variable {a V0} (h : Holds a V0)
include h

theorem v0 : Is2 (φ := .f32) (res_main_v0 V0) a.c := fun r k => by
  unfold res_main_v0
  pointwise [h.c]
theorem v3 (i : Fin 1) (k : Fin 1536) : (res_main_v3 V0 (ix2 i k) : EReal) = ((a.w 3 k : ℝ) : EReal) := by
  have hw := h.w
  unfold Is2 at hw
  unfold res_main_v3
  pointwise [hw]
theorem v12 (i : Fin 1) (k : Fin 1536) : (res_main_v12 V0 (ix2 i k) : EReal) = ((a.w 2 k : ℝ) : EReal) := by
  have hw := h.w
  unfold Is2 at hw
  unfold res_main_v12
  pointwise [hw]
theorem v22 (i : Fin 1) (k : Fin 1536) : (res_main_v22 V0 (ix2 i k) : EReal) = ((a.w 1 k : ℝ) : EReal) := by
  have hw := h.w
  unfold Is2 at hw
  unfold res_main_v22
  pointwise [hw]
theorem v32 (i : Fin 1) (k : Fin 1536) : (res_main_v32 V0 (ix2 i k) : EReal) = ((a.w 0 k : ℝ) : EReal) := by
  have hw := h.w
  unfold Is2 at hw
  unfold res_main_v32
  pointwise [hw]
theorem v8 : Is2 (φ := .f32) (res_main_v8 V0) (fun r k => down 1 (fun i => a.c i k) r) := fun r k => by
  have h0 := v0 h
  unfold Is2 at h0
  unfold res_main_v8
  pointwise [h0, down]
  by_cases hr : 1 ≤ r.val
  · rw [dif_neg (by omega), dif_pos hr]
  · rw [dif_pos (by omega), dif_neg hr]; rfl
theorem v18 : Is2 (φ := .f32) (res_main_v18 V0) (fun r k => down 2 (fun i => a.c i k) r) := fun r k => by
  have h0 := v0 h
  unfold Is2 at h0
  unfold res_main_v18
  pointwise [h0, down]
  by_cases hr : 2 ≤ r.val
  · rw [dif_neg (by omega), dif_pos hr]
  · rw [dif_pos (by omega), dif_neg hr]; rfl
theorem v28 : Is2 (φ := .f32) (res_main_v28 V0) (fun r k => down 3 (fun i => a.c i k) r) := fun r k => by
  have h0 := v0 h
  unfold Is2 at h0
  unfold res_main_v28
  pointwise [h0, down]
  by_cases hr : 3 ≤ r.val
  · rw [dif_neg (by omega), dif_pos hr]
  · rw [dif_pos (by omega), dif_neg hr]; rfl
theorem v35 : Is2 (φ := .f32) (res_main_v35 V0) a.y := fun r k => by
  have h0 := v0 h
  have h8 := v8 h
  have h18 := v18 h
  have h28 := v28 h
  unfold Is2 at *
  unfold res_main_v35
  pointwise [h0, h8, h18, h28, v3 h, v12 h, v22 h, v32 h]
  simp only [← EReal.coe_mul, ← EReal.coe_add]
  rfl
theorem v36_2 : Is2 (φ := .f32) (res_main_v36_2 V0) (fun r k => logis (a.y r k)) := fun r k => by
  have h35 := v35 h
  unfold Is2 at *
  unfold res_main_v36_2
  pointwise [h35]
  exact logis_real _
theorem v36_0 : Is2 (φ := .f32) (res_main_v36_0 V0) a.s := fun r k => by
  have h35 := v35 h
  have h36 := v36_2 h
  unfold Is2 at *
  unfold res_main_v36_0
  pointwise [h35, h36]
  simp only [← EReal.coe_mul, ← EReal.coe_add]
  rfl

/-- Head `i` of the first and of the second four, in row `r`. -/
def sq (a : Reals) (r : Fin 2048) (i : Fin 4) (l : Fin 128) : ℝ := a.s r ⟨i.val * 128 + l.val, by omega⟩
def sk (a : Reals) (r : Fin 2048) (i : Fin 4) (l : Fin 128) : ℝ := a.s r ⟨512 + (i.val * 128 + l.val), by omega⟩
def cq (a : Reals) (r : Fin 2048) (i : Fin 4) (l : Fin 128) : ℝ := a.dq r ⟨i.val * 128 + l.val, by omega⟩
def ck (a : Reals) (r : Fin 2048) (i : Fin 4) (l : Fin 128) : ℝ := a.dk r ⟨i.val * 128 + l.val, by omega⟩

theorem v38 (r : Fin 2048) (i : Fin 4) (l : Fin 128) : (res_main_v38 V0 (ix3 r i l) : EReal) = ((sq a r i l : ℝ) : EReal) := by
  have h36 := v36_0 h
  unfold Is2 at *
  unfold res_main_v38
  pointwise [h36]
  rfl
theorem v51 (r : Fin 2048) (i : Fin 4) (l : Fin 128) : (res_main_v51 V0 (ix3 r i l) : EReal) = ((sk a r i l : ℝ) : EReal) := by
  have h36 := v36_0 h
  unfold Is2 at *
  unfold res_main_v51
  pointwise [h36]
  rfl
theorem v43 (r : Fin 2048) (i : Fin 4) (l : Fin 1) : (res_main_v43 V0 (ix3 r i l) : EReal) = ((ss (sq a r i) : ℝ) : EReal) := by
  unfold res_main_v43
  pointwise [v38 h]
  simp only [zero_add, lit_tiny, coe_sum, ← EReal.coe_mul, ← EReal.coe_add]
  rfl
theorem v56 (r : Fin 2048) (i : Fin 4) (l : Fin 1) : (res_main_v56 V0 (ix3 r i l) : EReal) = ((ss (sk a r i) : ℝ) : EReal) := by
  unfold res_main_v56
  pointwise [v51 h]
  simp only [zero_add, lit_tiny, coe_sum, ← EReal.coe_mul, ← EReal.coe_add]
  rfl
theorem v44 (r : Fin 2048) (i : Fin 4) (l : Fin 1) : (res_main_v44 V0 (ix3 r i l) : EReal) = ((rinv (sq a r i) : ℝ) : EReal) := by
  unfold res_main_v44
  pointwise [v43 h]
  exact rsqrt_real (ss_pos _)
theorem v57 (r : Fin 2048) (i : Fin 4) (l : Fin 1) : (res_main_v57 V0 (ix3 r i l) : EReal) = ((rinv (sk a r i) : ℝ) : EReal) := by
  unfold res_main_v57
  pointwise [v56 h]
  exact rsqrt_real (ss_pos _)
theorem v68 (r : Fin 2048) (i : Fin 4) (l : Fin 128) : (res_main_v68 V0 (ix3 r i l) : EReal) = ((cq a r i l : ℝ) : EReal) := by
  have hd := h.dq
  unfold Is2 at *
  unfold res_main_v68
  pointwise [hd]
  rfl
theorem v67 (r : Fin 2048) (i : Fin 4) (l : Fin 128) : (res_main_v67 V0 (ix3 r i l) : EReal) = ((ck a r i l : ℝ) : EReal) := by
  have hd := h.dk
  unfold Is2 at *
  unfold res_main_v67
  pointwise [hd]
  rfl

/-- The part of the l2 norm's gradient that goes through its root. -/
def thr (s d : Fin 128 → ℝ) : ℝ := (∑ k, s k * d k) * (-(1 / 2) * (rinv s / ss s))

theorem v91 (r : Fin 2048) (i : Fin 4) (l : Fin 128) : (res_main_v91 V0 (ix3 r i l) : EReal) = ((thr (sq a r i) (cq a r i) : ℝ) : EReal) := by
  unfold res_main_v91
  pointwise [v38 h, v43 h, v44 h, v68 h]
  simp only [zero_add, lit_neg_half, coe_sum, ← EReal.coe_mul, ← EReal.coe_add, div_real (ss_pos _).ne', Fin.sum_univ_one]
  rfl
theorem v76 (r : Fin 2048) (i : Fin 4) (l : Fin 128) : (res_main_v76 V0 (ix3 r i l) : EReal) = ((thr (sk a r i) (ck a r i) : ℝ) : EReal) := by
  unfold res_main_v76
  pointwise [v51 h, v56 h, v57 h, v67 h]
  simp only [zero_add, lit_neg_half, coe_sum, ← EReal.coe_mul, ← EReal.coe_add, div_real (ss_pos _).ne', Fin.sum_univ_one]
  rfl
theorem v98 : Is2 (φ := .f32) (res_main_v98 V0) a.ds := fun r k => by
  have hd := h.dv
  unfold Is2 at *
  unfold res_main_v98
  pointwise [v38 h, v44 h, v68 h, v91 h, v51 h, v57 h, v67 h, v76 h, hd]
  simp only [← EReal.coe_mul, ← EReal.coe_add]
  by_cases h1 : k.val < 512
  · rw [dif_neg (fun hc => by have := (hc 1).1; exact absurd (show 1024 ≤ k.val from this) (by omega)), dif_neg (by omega), dif_pos h1,
      zero_add, zero_add]
    refine congrArg _ ((l2bwd_eq _ _ _).trans ?_)
    unfold Reals.ds
    rw [if_pos (by omega)]
    refine congrArg (fun f => l2bwd _ f _) (funext fun l => ?_)
    unfold cq Reals.d
    rw [dif_pos (show (lane k l).val < 512 by unfold lane; dsimp only; omega)]
    rfl
  · rw [dif_neg h1, add_zero]
    by_cases h2 : k.val < 1024
    · rw [dif_neg (fun hc => by have := (hc 1).1; exact absurd (show 1024 ≤ k.val from this) (by omega)), dif_pos (by omega), zero_add]
      refine congrArg _ ((l2bwd_eq _ _ _).trans ?_)
      unfold Reals.ds
      rw [if_pos h2]
      have e : ∀ l, (512 + ((k.val - 512) / 128 * 128 + l) : ℕ) = k.val / 128 * 128 + l := fun l => by omega
      have e1 : sk a r ⟨(k.val - 512) / 128, by omega⟩ = fun l => a.s r (lane k l) :=
        funext fun l => congrArg (a.s r) (Fin.ext (e l.val))
      have e2 : ck a r ⟨(k.val - 512) / 128, by omega⟩ = fun l => a.d r (lane k l) := funext fun l => by
        unfold ck Reals.d
        have g1 : ¬(lane k l).val < 512 := by unfold lane; dsimp only; omega
        have g2 : (lane k l).val < 1024 := by unfold lane; dsimp only; omega
        rw [dif_neg g1, dif_pos g2]
        exact congrArg (a.dk r) (Fin.ext (by unfold lane; dsimp only; omega))
      rw [e1, e2]
      exact congrArg (l2bwd _ _) (Fin.ext (by dsimp only; omega))
    · rw [dif_neg (by omega : ¬(512 ≤ k.val ∧ k.val - 512 < 512)), add_zero, dif_pos (fun x => by
        fin_cases x
        · exact ⟨Nat.zero_le _, Nat.mod_one _, by show (r.val - 0) / 1 < 2048; omega⟩
        · exact ⟨show 1024 ≤ k.val by omega, Nat.mod_one _, by show (k.val - 1024) / 1 < 512; omega⟩)]
      unfold Reals.ds Reals.d
      rw [if_neg h2, dif_neg h1, dif_neg h2]
theorem v99 : Is2 (φ := .f32) (res_main_v99 V0) a.dy := fun r k => by
  have h98 := v98 h
  have h36 := v36_2 h
  have h35 := v35 h
  unfold Is2 at *
  unfold res_main_v99
  pointwise [h98, h36, h35]
  simp only [EReal.coe_one.symm, ← EReal.coe_mul, ← EReal.coe_add, ← EReal.coe_sub]
  congr 1
  unfold Reals.dy
  ring
theorem v104 : Is2 (φ := .f32) (res_main_v104 V0) (fun r k => a.dy r k * a.w 0 k) := fun r k => by
  have h99 := v99 h
  unfold Is2 at *
  unfold res_main_v104
  pointwise [h99, v32 h]
  simp only [← EReal.coe_mul]
theorem v115 : Is2 (φ := .f32) (res_main_v115 V0) (fun r k => a.dy r k * a.w 1 k) := fun r k => by
  have h99 := v99 h
  unfold Is2 at *
  unfold res_main_v115
  pointwise [h99, v22 h]
  simp only [← EReal.coe_mul]
theorem v128 : Is2 (φ := .f32) (res_main_v128 V0) (fun r k => a.dy r k * a.w 2 k) := fun r k => by
  have h99 := v99 h
  unfold Is2 at *
  unfold res_main_v128
  pointwise [h99, v12 h]
  simp only [← EReal.coe_mul]

omit h in
/-- A row of four, each in its place and zeros elsewhere. -/
theorem rows_sum (f : Fin 4 → ℝ) (i : Fin 4) (x0 x1 x2 x3 : EReal)
    (h0 : x0 = if i = 0 then ((f 0 : ℝ) : EReal) else 0) (h1 : x1 = if i = 1 then ((f 1 : ℝ) : EReal) else 0)
    (h2 : x2 = if i = 2 then ((f 2 : ℝ) : EReal) else 0) (h3 : x3 = if i = 3 then ((f 3 : ℝ) : EReal) else 0) :
    x0 + x1 + x2 + x3 = ((f i : ℝ) : EReal) := by
  subst h0 h1 h2 h3
  fin_cases i <;> simp

omit h in
/-- One of those rows. -/
theorem row_term {p q : Prop} [Decidable p] [Decidable q] (x y : ℝ) (e : p ↔ q) (h : x = y) :
    (if _h : p then ((x : ℝ) : EReal) else 0) = if q then ((y : ℝ) : EReal) else 0 := by
  subst h
  by_cases hp : p
  · rw [dif_pos hp, if_pos (e.1 hp)]
  · rw [dif_neg hp, if_neg (fun hq => hp (e.2 hq))]
omit h in
/-- Rows moved up by padding, zeros after the last. -/
theorem up_term (s : ℕ) {q : ℕ} (hq : q + s = 2048) (f : Fin 2048 → ℝ) (w : ℝ) (r : Fin 2048) :
    (if h : r.val < q then (((f ⟨s + r.val, by omega⟩ * w : ℝ)) : EReal) else 0) = ((up s f r * w : ℝ) : EReal) := by
  unfold up
  by_cases h : r.val < q
  · rw [dif_pos h, dif_pos (by omega)]
    exact congrArg (fun i => ((f i * w : ℝ) : EReal)) (Fin.ext (Nat.add_comm _ _))
  · rw [dif_neg h, dif_neg (by omega), zero_mul]; rfl

omit h in
/-- The reference's run, its two results read as real arrays. -/
theorem run (m : (ℓ : Loc nD τ sig) → Buf (Elt Ideal) ℓ) (a : Dev nD → Reals) (g : Dev nD → PrngReg) (h : ∀ c, Holds (a c) (StableHlo.launchContents m c)) :
    θ_run defs (onTc (τ := τ) (main (F := Ideal))) ⟨m, fun _ => 0, g⟩ fun r => ∀ c : Dev nD,
      r.2.mem ((c.tc : Thread nD τ).loc main_v147) = (fun j : S2048x1536.Idx => (((a c).dc (j 0) (j 1) : ℝ) : EReal))
      ∧ r.2.mem ((c.tc : Thread nD τ).loc main_v146) = (fun j : S4x1536.Idx => (((a c).dw (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ⟨(hr c).1.trans (funext fun j => ?_), (hr c).2.1.trans (funext fun j => ?_), (hr c).2.2⟩) (Value.run m g)
  · clear hr
    have e0 := v104 (h c)
    have e1 := v115 (h c)
    have e2 := v128 (h c)
    have e3 := v3 (h c)
    have e4 := v99 (h c)
    generalize res_main_v104 (StableHlo.launchContents m c) = x0 at *
    generalize res_main_v115 (StableHlo.launchContents m c) = x1 at *
    generalize res_main_v128 (StableHlo.launchContents m c) = x2 at *
    generalize res_main_v3 (StableHlo.launchContents m c) = x3 at *
    generalize res_main_v99 (StableHlo.launchContents m c) = x4 at *
    unfold Is2 at *
    idx_vars j
    pointwise [e0, e1, e2, e3, e4]
    refine Eq.trans (congrArg₂ (· + ·) (congrArg₂ (· + ·) (congrArg₂ (· + ·) (up_term 3 (q := 2045) rfl (fun i => (a c).dy i j1) ((a c).w 0 j1) j0) (up_term 2 (q := 2046) rfl (fun i => (a c).dy i j1) ((a c).w 1 j1) j0)) (up_term 1 (q := 2047) rfl (fun i => (a c).dy i j1) ((a c).w 2 j1) j0)) rfl) ?_
    simp only [← EReal.coe_mul, ← EReal.coe_add]
    congr 1
    unfold Reals.dc
    ring
  · clear hr
    have e0 := v0 (h c)
    have e1 := v8 (h c)
    have e2 := v18 (h c)
    have e3 := v28 (h c)
    have e4 := v99 (h c)
    generalize res_main_v0 (StableHlo.launchContents m c) = x0 at *
    generalize res_main_v8 (StableHlo.launchContents m c) = x1 at *
    generalize res_main_v18 (StableHlo.launchContents m c) = x2 at *
    generalize res_main_v28 (StableHlo.launchContents m c) = x3 at *
    generalize res_main_v99 (StableHlo.launchContents m c) = x4 at *
    unfold Is2 at *
    idx_vars j
    pointwise [e0, e1, e2, e3, e4]
    simp only [coe_sum, ← EReal.coe_mul, Fin.sum_univ_one]
    refine rows_sum (fun i => (a c).dw i j1) j0 _ _ _ _
      (row_term _ _ ⟨fun h => Fin.ext (by show j0.val = 0; omega), fun h => by have : j0.val = 0 := congrArg Fin.val h; omega⟩ ?_)
      (row_term _ _ ⟨fun h => Fin.ext (by show j0.val = 1; omega), fun h => by have : j0.val = 1 := congrArg Fin.val h; omega⟩ ?_)
      (row_term _ _ ⟨fun h => Fin.ext (by show j0.val = 2; omega), fun h => by have : j0.val = 2 := congrArg Fin.val h; omega⟩ ?_)
      (row_term _ _ ⟨fun h => Fin.ext (by show j0.val = 3; omega), fun h => by have : j0.val = 3 := congrArg Fin.val h; omega⟩ ?_) <;>
    · unfold Reals.dw
      refine Finset.sum_congr rfl fun r _ => ?_
      first
        | exact mul_comm _ _
        | (unfold down; rw [dif_pos (Nat.zero_le _)]; exact mul_comm _ _)
end Ref
end Cert.Prep
-- ==== Proof.Prep.Claim.lean ====
module

public import proofs.«01_k».proof.Defs
public import proofs.«01_k».proof.Proof.Gen.PrepBwdIdeal
public import proofs.«01_k».proof.Proof.Gen.PrepBwdRefIdeal
public import proofs.«01_k».proof.Proof.Gen.Pre_prep_finite
public import proofs.«01_k».proof.Proof.Prep.Kernel
public import proofs.«01_k».proof.Proof.Prep.Reference

/-! # The gradient before the delta rule: kernel and reference agree on finite arguments -/

@[expose] public section
set_option maxRecDepth 16384
noncomputable section
namespace Cert.Prep
open Cert.Lift Idealize.ShloMosaic Idealize.ShloMosaic.TcCoe Idealize.SL.Sem Cert.PrepBwdIdeal

/-- The reals in the kernel's arguments. -/
def reals (m : (ℓ : Loc nD τ sig) → Buf (Elt Ideal) ℓ) (c : Dev nD) : Reals where
  c r k := EReal.toReal (m ((c.tc : Thread nD τ).loc main_arg0) (ix2 r (⟨k.val, by omega⟩ : Fin 3600)))
  w i k := EReal.toReal (m ((c.tc : Thread nD τ).loc main_arg1) (ix2 i k))
  dq r k := EReal.toReal (m ((c.tc : Thread nD τ).loc main_arg2) (ix2 r k))
  dk r k := EReal.toReal (m ((c.tc : Thread nD τ).loc main_arg3) (ix2 r k))
  dv r k := EReal.toReal (m ((c.tc : Thread nD τ).loc main_arg4) (ix2 r k))

open Cert.Pre_prep_finite in
/-- Under the precondition the arguments are those reals. -/
theorem holds (m : (ℓ : Loc nD τ sig) → Buf (Elt Ideal) ℓ) (hp : Cert.Pre_PrepBwdIdeal_prep_finite m) (c : Dev nD) :
    Ker.Holds m c (reals m c) := by
  obtain ⟨h0, h1, h2, h3, h4⟩ := hp c
  refine ⟨fun r l => ?_, fun r l => ?_, fun r l => ?_, fun r l => ?_, fun r l => ?_⟩
  · have h := congrFun h0 (ix2 r (⟨l.val, by omega⟩ : Fin 3600))
    pointwise [fn, fn_part1] at h
    exact coe_of_test h
  · have h := congrFun h1 (ix2 r l)
    pointwise [fn, fn_part1] at h
    exact coe_of_test h
  · have h := congrFun h2 (ix2 r l)
    pointwise [fn, fn_part1] at h
    exact coe_of_test h
  · have h := congrFun h3 (ix2 r l)
    pointwise [fn, fn_part1] at h
    exact coe_of_test h
  · have h := congrFun h4 (ix2 r l)
    pointwise [fn, fn_part1] at h
    exact coe_of_test h

/-- Kernel and reference return the same two arrays. -/
theorem algebraic : Cert.algebraic_PrepBwdIdeal_PrepBwdRefIdeal_pre_prep_finite := by
  intro m g m' g' hp hm
  have hk := holds m hp
  have hr : ∀ c, Ref.Holds (reals m c) (StableHlo.launchContents m' c) := fun c => by
    obtain ⟨e0, e1, e2, e3, e4⟩ := hm c
    exact ⟨fun r l => (congrFun e0 _).trans ((hk c).cc r l), fun r l => (congrFun e1 _).trans ((hk c).w r l),
      fun r l => (congrFun e2 _).trans ((hk c).dq r l), fun r l => (congrFun e3 _).trans ((hk c).dk r l),
      fun r l => (congrFun e4 _).trans ((hk c).dv r l)⟩
  refine ⟨fun c j => (((reals m c).dc (j 0) (j 1) : ℝ) : EReal), fun c j => (((reals m c).dw (j 0) (j 1) : ℝ) : EReal), ?_,
    Ref.run m' (reals m) g' hr⟩
  exact (θ_run _ _ _).mono (fun r h c => ⟨(h c).1.trans (Ker.final5 (hk c)), (h c).2.1.trans (Ker.final6 (hk c)), (h c).2.2⟩)
    (Cert.PrepBwdIdeal.Value.run_blocks m g)

/-- The reference alone: it terminates, keeps its arguments and leaves every counter at zero. -/
theorem ref_frame : Cert.quiescent_PrepBwdRefIdeal := fun m g _ =>
  (θ_run _ _ _).mono (fun r h => ⟨fun c => (h c).2.2, sem_eq_zero_of_no_sems (by decide) r.2⟩) (Cert.PrepBwdRefIdeal.Value.run m g)

end Cert.Prep
-- ==== Proof.OutStage.Math.lean ====
module

public import proofs.«01_k».proof.Proof.Prep.Math

/-! # The output norms and their gate: the gradients over the reals -/

@[expose] public section
noncomputable section
namespace Cert.OutStage
open Cert.Lift Cert.Prep Idealize.ShloMosaic

theorem lit_128th : Ideal.ofBits .f32 0x3C000000#32 = ((1 / 128 : ℝ) : EReal) := by
  simp [Ideal.ofBits, Ideal.ieee, -EReal.coe_mul]; norm_num
theorem lit_64th : Ideal.ofBits .f32 0x3C800000#32 = ((1 / 64 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num

/-- The mean square over one group of `n` channels, with ε. -/
def ms {n : ℕ} (s : Fin n → ℝ) : ℝ := (∑ k, s k * s k) * (1 / n) + tiny
theorem ms_pos {n : ℕ} (s : Fin n → ℝ) : 0 < ms s := by
  have := tiny_pos
  have h : 0 ≤ ∑ k, s k * s k := Finset.sum_nonneg fun k _ => mul_self_nonneg _
  unfold ms; positivity
/-- The norm's factor. -/
def rinv {n : ℕ} (s : Fin n → ℝ) : ℝ := (√(ms s))⁻¹
/-- The gradient of the root mean square norm of one group at the cotangent `d`. -/
def bwd {n : ℕ} (s d : Fin n → ℝ) (l : Fin n) : ℝ :=
  rinv s * (d l - s l * rinv s * ((∑ k, d k * (s k * rinv s)) * (1 / n)))

theorem rinv_div {n : ℕ} (s : Fin n → ℝ) : rinv s / ms s = rinv s ^ 3 := by
  have h := ms_pos s
  have hs : √(ms s) ^ 2 = ms s := Real.sq_sqrt h.le
  have hp : √(ms s) ≠ 0 := (Real.sqrt_pos.mpr h).ne'
  unfold rinv; rw [← hs, Real.sqrt_sq (Real.sqrt_nonneg _)]; field_simp

/-- Place `l` of the group of 128 that holds channel `k`. -/
def at128 (k : Fin 512) (l : Fin 128) : Fin 512 := ⟨k.val / 128 * 128 + l.val, by omega⟩
/-- Place `l` of the group of 64 that holds channel `k`. -/
def at64 (k : Fin 512) (l : Fin 64) : Fin 512 := ⟨k.val / 64 * 64 + l.val, by omega⟩
/-- A channel's place in its group of 128. -/
def in128 (k : Fin 512) : Fin 128 := ⟨k.val % 128, by omega⟩
/-- A channel's place in its group of 64. -/
def in64 (k : Fin 512) : Fin 64 := ⟨k.val % 64, by omega⟩

theorem at128_at (k : Fin 512) (l i : Fin 128) : at128 (at128 k l) i = at128 k i := Fin.ext (by show (k.val / 128 * 128 + l.val) / 128 * 128 + i.val = k.val / 128 * 128 + i.val; omega)
theorem in128_at (k : Fin 512) (l : Fin 128) : in128 (at128 k l) = l := Fin.ext (by show (k.val / 128 * 128 + l.val) % 128 = l.val; omega)
theorem at128_in (k : Fin 512) : at128 k (in128 k) = k := Fin.ext (by show k.val / 128 * 128 + k.val % 128 = k.val; omega)
theorem at64_at (k : Fin 512) (l i : Fin 64) : at64 (at64 k l) i = at64 k i := Fin.ext (by show (k.val / 64 * 64 + l.val) / 64 * 64 + i.val = k.val / 64 * 64 + i.val; omega)
theorem in64_at (k : Fin 512) (l : Fin 64) : in64 (at64 k l) = l := Fin.ext (by show (k.val / 64 * 64 + l.val) % 64 = l.val; omega)
theorem at64_in (k : Fin 512) : at64 k (in64 k) = k := Fin.ext (by show k.val / 64 * 64 + k.val % 64 = k.val; omega)

/-! One row of 512 channels: `o` the recurrence's output, `z` its gate, `f` the attention's output, `d` and `e` the cotangents of the
two halves of the output, `g` and `h` the norms' weights. -/

/-- The normed row, groups of 128. -/
def xg (o : Fin 512 → ℝ) (k : Fin 512) : ℝ := o k * rinv fun l => o (at128 k l)
/-- The cotangent of the weighted norm. -/
def dn (z d : Fin 512 → ℝ) (k : Fin 512) : ℝ := d k * (z k * logis (z k))
/-- The gradient of the gate. -/
def dzr (o z d : Fin 512 → ℝ) (g : Fin 128 → ℝ) (k : Fin 512) : ℝ :=
  d k * (xg o k * g (in128 k)) * (logis (z k) * (1 + z k * (1 - logis (z k))))
/-- The gradient of the recurrence's output. -/
def dor (o z d : Fin 512 → ℝ) (g : Fin 128 → ℝ) (k : Fin 512) : ℝ :=
  bwd (fun l => o (at128 k l)) (fun l => dn z d (at128 k l) * g l) (in128 k)
/-- The normed row, groups of 64. -/
def xf (f : Fin 512 → ℝ) (k : Fin 512) : ℝ := f k * rinv fun l => f (at64 k l)
/-- The gradient of the attention's output. -/
def dfr (f e : Fin 512 → ℝ) (h : Fin 64 → ℝ) (k : Fin 512) : ℝ :=
  bwd (fun l => f (at64 k l)) (fun l => e (at64 k l) * h l) (in64 k)
/-- The products of that gradient and the output, summed over the group. -/
def dlr (f e : Fin 512 → ℝ) (h : Fin 64 → ℝ) (k : Fin 512) : ℝ := ∑ l, dfr f e h (at64 k l) * f (at64 k l)

/-- The reals in the arguments. -/
structure Reals where
  o : Fin 2048 → Fin 512 → ℝ
  z : Fin 2048 → Fin 512 → ℝ
  f : Fin 2048 → Fin 512 → ℝ
  g : Fin 128 → ℝ
  h : Fin 64 → ℝ
  w : Fin 1024 → Fin 1024 → ℝ
  d : Fin 2048 → Fin 1024 → ℝ

namespace Reals
variable (a : Reals)
/-- The cotangent of both halves of the output. -/
def dm (r : Fin 2048) (j : Fin 1024) : ℝ := ∑ n, a.d r n * a.w j n
/-- The half of the recurrence. -/
def d0 (r : Fin 2048) (k : Fin 512) : ℝ := a.dm r ⟨k.val, by omega⟩
/-- The half of the attention. -/
def d1 (r : Fin 2048) (k : Fin 512) : ℝ := a.dm r ⟨512 + k.val, by omega⟩
def dog (r : Fin 2048) (k : Fin 512) : ℝ := dor (a.o r) (a.z r) (a.d0 r) a.g k
def dz (r : Fin 2048) (k : Fin 512) : ℝ := dzr (a.o r) (a.z r) (a.d0 r) a.g k
def dof (r : Fin 2048) (k : Fin 512) : ℝ := dfr (a.f r) (a.d1 r) a.h k
def dl (r : Fin 2048) (k : Fin 512) : ℝ := dlr (a.f r) (a.d1 r) a.h k
/-- The sum over the rows of the first norm's weight's gradient, by channel. -/
def row0 (k : Fin 512) : ℝ := ∑ r, dn (a.z r) (a.d0 r) k * xg (a.o r) k
/-- The sum over the rows of the second norm's weight's gradient, by channel. -/
def row1 (k : Fin 512) : ℝ := ∑ r, a.d1 r k * xf (a.f r) k
/-- The gradients of the norms' weights, one per row. -/
def rows (i : Fin 8) (l : Fin 128) : ℝ :=
  if i.val = 0 then ∑ k : Fin 512, a.row0 k * (if in128 k = l then 1 else 0)
  else if i.val = 1 then ∑ k : Fin 512, a.row1 k * (if (in64 k).val = l.val then 1 else 0) else 0
end Reals
end Cert.OutStage
-- ==== Proof.OutStage.Block.lean ====
module

public import proofs.«01_k».proof.Proof.Gen.OutBwdIdeal
public import proofs.«01_k».proof.Proof.OutStage.Math
public import proofs.«01_k».proof.Proof.Math.Place
public import proofs.«01_k».proof.Proof.Gen.OutBwdIdeal.Frame

/-! # The output stage's gradient kernel: the values of one block of 512 rows -/

@[expose] public section
set_option maxRecDepth 16384
noncomputable section
namespace Cert.OutStage.Ker
open Cert.Lift Cert.Prep Idealize.ShloMosaic Idealize.ShloMosaic.TcCoe Idealize.SL.Sem Cert.OutBwdIdeal Cert.OutBwdIdeal.Gen

/-- The mean over 128 channels, at each of them. -/
def m128 (y : FVec Ideal S512x128 .f32) : FVec Ideal S512x128 .f32 :=
  broadcastTo S512x128 (shapeCast S512x1 (mulf (shapeCast S512x1 (multiReduction .add [1] S512 y 0x00000000#32 reduces_S512x128_S512 (.inl rfl) rfl) shapeCasts_S512_S512x1)
    (broadcast S512x1 (Scalar.ofBits .f32 0x3C000000#32))) shapeCasts_S512x1_S512x1) broadcasts_S512x1_S512x128
/-- The four means over groups of 128 channels. -/
def g128 (x : FVec Ideal S512x512 .f32) : FVec Ideal S512x512 .f32 :=
  concatenate S512x512 1 [⟨S512x128, m128 (extractStridedSlice S512x128 ![0, 0] x slices_S512x512_o0_0_S512x128)⟩,
    ⟨S512x128, m128 (extractStridedSlice S512x128 ![0, 128] x slices_S512x512_o0_128_S512x128)⟩,
    ⟨S512x128, m128 (extractStridedSlice S512x128 ![0, 256] x slices_S512x512_o0_256_S512x128)⟩,
    ⟨S512x128, m128 (extractStridedSlice S512x128 ![0, 384] x slices_S512x512_o0_384_S512x128)⟩] concatenates_S512x128_S512x128_S512x128_S512x128_S512x512_d1
/-- The first 64 lanes. -/
def low : IVec S512x128 1 := cmpi .slt (iota .tc S512x128 32 [1] iota_S512x128_d1_w32) (broadcast S512x128 64#32)
/-- The other lanes at zero. -/
def first (y : FVec Ideal S512x128 .f32) : FVec Ideal S512x128 .f32 := select low y (broadcast S512x128 (Scalar.ofBits .f32 0x00000000#32))
/-- The first lanes at zero. -/
def last (y : FVec Ideal S512x128 .f32) : FVec Ideal S512x128 .f32 := select low (broadcast S512x128 (Scalar.ofBits .f32 0x00000000#32)) y
/-- The sum of a row, at each of its places. -/
def sums (y : FVec Ideal S512x128 .f32) : FVec Ideal S512x128 .f32 :=
  broadcastTo S512x128 (shapeCast S512x1 (shapeCast S512x1 (multiReduction .add [1] S512 y 0x00000000#32 reduces_S512x128_S512 (.inl rfl) rfl) shapeCasts_S512_S512x1)
     shapeCasts_S512x1_S512x1) broadcasts_S512x1_S512x128
/-- The means over the two halves of 128 channels. -/
def m64 (y : FVec Ideal S512x128 .f32) : FVec Ideal S512x128 .f32 :=
  mulf (select low (sums (first y)) (sums (last y))) (broadcast S512x128 (Scalar.ofBits .f32 0x3C800000#32))
/-- The eight means over groups of 64 channels. -/
def g64 (x : FVec Ideal S512x512 .f32) : FVec Ideal S512x512 .f32 :=
  concatenate S512x512 1 [⟨S512x128, m64 (extractStridedSlice S512x128 ![0, 0] x slices_S512x512_o0_0_S512x128)⟩,
    ⟨S512x128, m64 (extractStridedSlice S512x128 ![0, 128] x slices_S512x512_o0_128_S512x128)⟩,
    ⟨S512x128, m64 (extractStridedSlice S512x128 ![0, 256] x slices_S512x512_o0_256_S512x128)⟩,
    ⟨S512x128, m64 (extractStridedSlice S512x128 ![0, 384] x slices_S512x512_o0_384_S512x128)⟩] concatenates_S512x128_S512x128_S512x128_S512x128_S512x512_d1

variable {y : FVec Ideal S512x128 .f32} {Y : Fin 512 → Fin 128 → ℝ} (hy : Is2 (φ := .f32) y Y)
  {x : FVec Ideal S512x512 .f32} {X : Fin 512 → Fin 512 → ℝ} (hx : Is2 (φ := .f32) x X)

include hy in
theorem m128_real : Is2 (φ := .f32) (m128 y) (fun p _ => (∑ k, Y p k) * (1 / 128)) := fun p l => by
  unfold Is2 at hy
  pointwise [m128, hy]
  simp only [lit_zero, lit_128th, coe_sum, ← EReal.coe_mul, ← EReal.coe_add, zero_add]

/-- A sum over one group of 128. -/
theorem group128 (F : Fin 512 → ℝ) (k : Fin 512) (o : ℕ) (ho : k.val / 128 * 128 = o) (h : ∀ l : Fin 128, o + l.val < 512) :
    ∑ l : Fin 128, F ⟨o + l.val, h l⟩ = ∑ l, F (at128 k l) := by
  subst ho; rfl

include hx in
theorem g128_real : Is2 (φ := .f32) (g128 x) (fun p k => (∑ l, X p (at128 k l)) * (1 / 128)) := fun p k => by
  have e0 := m128_real (y := extractStridedSlice S512x128 ![0, 0] x slices_S512x512_o0_0_S512x128) (Y := fun p l => X p ⟨0 + l.val, by omega⟩)
    (fun p l => by unfold Is2 at hx; pointwise [hx])
  have e1 := m128_real (y := extractStridedSlice S512x128 ![0, 128] x slices_S512x512_o0_128_S512x128) (Y := fun p l => X p ⟨128 + l.val, by omega⟩)
    (fun p l => by unfold Is2 at hx; pointwise [hx])
  have e2 := m128_real (y := extractStridedSlice S512x128 ![0, 256] x slices_S512x512_o0_256_S512x128) (Y := fun p l => X p ⟨256 + l.val, by omega⟩)
    (fun p l => by unfold Is2 at hx; pointwise [hx])
  have e3 := m128_real (y := extractStridedSlice S512x128 ![0, 384] x slices_S512x512_o0_384_S512x128) (Y := fun p l => X p ⟨384 + l.val, by omega⟩)
    (fun p l => by unfold Is2 at hx; pointwise [hx])
  unfold Is2 at *
  pointwise [g128, e0, e1, e2, e3]
  split_ifs with h1 h2 h3
  · rw [← group128 (X p) k 0 (by omega) (fun l => by omega)]; simp only [zero_add]
  · rw [group128 (X p) k 128 (by omega)]
  · rw [group128 (X p) k 256 (by omega)]
  · rw [group128 (X p) k 384 (by omega)]

theorem low_apply (p : Fin 512) (l : Fin 128) (u v : EReal) : Scalar.select (low (ix2 p l)) u v = if l.val < 64 then u else v := by
  pointwise [low]
  exact select_lt (by omega) (by omega) u v
include hy in
theorem first_real : Is2 (φ := .f32) (first y) (fun p l => if l.val < 64 then Y p l else 0) := fun p l => by
  unfold Is2 at hy
  pointwise [first, hy, low_apply]
  split_ifs <;> rfl
include hy in
theorem last_real : Is2 (φ := .f32) (last y) (fun p l => if l.val < 64 then 0 else Y p l) := fun p l => by
  unfold Is2 at hy
  pointwise [last, hy, low_apply]
  split_ifs <;> rfl
include hy in
theorem sums_real : Is2 (φ := .f32) (sums y) (fun p _ => ∑ k, Y p k) := fun p l => by
  unfold Is2 at hy
  pointwise [sums, hy]
  simp only [lit_zero, coe_sum, ← EReal.coe_add, zero_add]
theorem sum_first (F : Fin 128 → ℝ) : ∑ k : Fin 128, (if k.val < 64 then F k else 0) = ∑ k : Fin 64, F ⟨k.val, by omega⟩ := by
  rw [show (∑ k : Fin 128, (if k.val < 64 then F k else 0)) = ∑ k : Fin (64 + 64), (if k.val < 64 then F k else 0) from rfl, Fin.sum_univ_add]
  simp only [Fin.val_castAdd, Fin.is_lt, if_true, Fin.val_natAdd, Nat.not_lt.mpr (Nat.le_add_right _ _), if_false, Finset.sum_const_zero, add_zero]
  rfl
theorem sum_last (F : Fin 128 → ℝ) : ∑ k : Fin 128, (if k.val < 64 then 0 else F k) = ∑ k : Fin 64, F ⟨64 + k.val, by omega⟩ := by
  rw [show (∑ k : Fin 128, (if k.val < 64 then 0 else F k)) = ∑ k : Fin (64 + 64), (if k.val < 64 then 0 else F k) from rfl, Fin.sum_univ_add]
  simp only [Fin.val_castAdd, Fin.is_lt, if_true, Fin.val_natAdd, Nat.not_lt.mpr (Nat.le_add_right _ _), if_false, Finset.sum_const_zero, zero_add]
  rfl
include hy in
theorem m64_real : Is2 (φ := .f32) (m64 y) (fun p l => (if l.val < 64 then ∑ k : Fin 64, Y p ⟨k.val, by omega⟩ else ∑ k : Fin 64, Y p ⟨64 + k.val, by omega⟩) * (1 / 64)) := fun p l => by
  have e0 := sums_real (first_real hy)
  have e1 := sums_real (last_real hy)
  unfold Is2 at *
  pointwise [m64, e0, e1, low_apply]
  simp only [lit_64th, sum_first, sum_last]
  split_ifs <;> simp only [← EReal.coe_mul, Finset.sum_const_zero, add_zero, zero_add]

/-- A sum over one group of 64. -/
theorem group64 (F : Fin 512 → ℝ) (k : Fin 512) (o : ℕ) (ho : k.val / 64 * 64 = o) (h : ∀ l : Fin 64, o + l.val < 512) :
    ∑ l : Fin 64, F ⟨o + l.val, h l⟩ = ∑ l, F (at64 k l) := by
  subst ho; rfl
/-- The mean over the half that holds place `l`. -/
def half (Y : Fin 128 → ℝ) (l : Fin 128) : ℝ :=
  (if l.val < 64 then ∑ k : Fin 64, Y ⟨k.val, by omega⟩ else ∑ k : Fin 64, Y ⟨64 + k.val, by omega⟩) * (1 / 64)
/-- The same as a group's mean of the whole row. -/
theorem half64 (F : Fin 512 → ℝ) (k : Fin 512) (o : ℕ) (l : Fin 128) (hl : l.val + o = k.val) (hd : o / 128 * 128 = o) (h : ∀ l : Fin 128, o + l.val < 512) :
    half (fun l => F ⟨o + l.val, h l⟩) l = (∑ l, F (at64 k l)) * (1 / 64) := by
  unfold half
  split_ifs with c
  · rw [← group64 F k o (by omega) (fun l => h ⟨l.val, by omega⟩)]
  · rw [← group64 F k (o + 64) (by omega) (fun l => by have := h ⟨64 + l.val, by omega⟩; simp only at this; omega)]
    simp only [Nat.add_assoc]

include hx in
theorem g64_real : Is2 (φ := .f32) (g64 x) (fun p k => (∑ l, X p (at64 k l)) * (1 / 64)) := fun p k => by
  have e0 := m64_real (y := extractStridedSlice S512x128 ![0, 0] x slices_S512x512_o0_0_S512x128) (Y := fun p l => X p ⟨0 + l.val, by omega⟩)
    (fun p l => by unfold Is2 at hx; pointwise [hx])
  have e1 := m64_real (y := extractStridedSlice S512x128 ![0, 128] x slices_S512x512_o0_128_S512x128) (Y := fun p l => X p ⟨128 + l.val, by omega⟩)
    (fun p l => by unfold Is2 at hx; pointwise [hx])
  have e2 := m64_real (y := extractStridedSlice S512x128 ![0, 256] x slices_S512x512_o0_256_S512x128) (Y := fun p l => X p ⟨256 + l.val, by omega⟩)
    (fun p l => by unfold Is2 at hx; pointwise [hx])
  have e3 := m64_real (y := extractStridedSlice S512x128 ![0, 384] x slices_S512x512_o0_384_S512x128) (Y := fun p l => X p ⟨384 + l.val, by omega⟩)
    (fun p l => by unfold Is2 at hx; pointwise [hx])
  have f0 : ∀ p l, _ = ((half (fun l => X p ⟨0 + l.val, by omega⟩) l : ℝ) : EReal) := e0
  have f1 : ∀ p l, _ = ((half (fun l => X p ⟨128 + l.val, by omega⟩) l : ℝ) : EReal) := e1
  have f2 : ∀ p l, _ = ((half (fun l => X p ⟨256 + l.val, by omega⟩) l : ℝ) : EReal) := e2
  have f3 : ∀ p l, _ = ((half (fun l => X p ⟨384 + l.val, by omega⟩) l : ℝ) : EReal) := e3
  clear e0 e1 e2 e3
  unfold Is2 at *
  pointwise [g64, f0, f1, f2, f3]
  clear f0 f1 f2 f3
  by_cases h1 : k.val < 128
  · have z := half64 (X p) k 0 ⟨k.val, h1⟩ rfl rfl (fun l => by omega)
    simp only [zero_add] at z
    rw [dif_pos h1, z]
  · rw [dif_neg h1]
    by_cases h2 : k.val - 128 < 128
    · rw [dif_pos h2, half64 (X p) k 128 ⟨k.val - 128, h2⟩ (by show k.val - 128 + 128 = _; omega) rfl (fun l => by omega)]
    · rw [dif_neg h2]
      by_cases h3 : k.val - 128 - 128 < 128
      · rw [dif_pos h3, half64 (X p) k 256 ⟨k.val - 128 - 128, h3⟩ (by show k.val - 128 - 128 + 256 = _; omega) rfl (fun l => by omega)]
      · rw [dif_neg h3, half64 (X p) k 384 ⟨k.val - 128 - 128 - 128, by omega⟩ (by show k.val - 128 - 128 - 128 + 384 = _; omega) rfl (fun l => by omega)]

/-! One block: `o` the recurrence's output, `z` its gate, `f` the attention's output, `v` the cotangents of both halves, `g` and `h`
the norms' weights, a row of 512 each. -/

/-- The first norm's factor. -/
def rG (o : FVec Ideal S512x512 .f32) : FVec Ideal S512x512 .f32 := rsqrt (addf (g128 (mulf o o)) (broadcast S512x512 (Scalar.ofBits .f32 0x358637BD#32)))
/-- The second norm's factor. -/
def rF (f : FVec Ideal S512x512 .f32) : FVec Ideal S512x512 .f32 := rsqrt (addf (g64 (mulf f f)) (broadcast S512x512 (Scalar.ofBits .f32 0x358637BD#32)))
/-- A weight on every row. -/
def wide (g : FVec Ideal S1x512 .f32) : FVec Ideal S512x512 .f32 := broadcastTo S512x512 (shapeCast S1x512 g shapeCasts_S1x512_S1x512) broadcasts_S1x512_S512x512
/-- The gradient through a norm, from its factor, its normed rows, the cotangent and the group mean. -/
def through (r x d μ : FVec Ideal S512x512 .f32) : FVec Ideal S512x512 .f32 := mulf r (subf d (mulf x μ))
/-- The gradient of the recurrence's output. -/
def outG (o z : FVec Ideal S512x512 .f32) (v : FVec Ideal S512x1024 .f32) (g : FVec Ideal S1x512 .f32) : FVec Ideal S512x512 .f32 :=
  through (rG o) (mulf o (rG o)) (mulf (k0_pay17 v z) (wide g)) (g128 (mulf (mulf (k0_pay17 v z) (wide g)) (mulf o (rG o))))
/-- The gradient of its gate. -/
def outZ (o z : FVec Ideal S512x512 .f32) (v : FVec Ideal S512x1024 .f32) (g : FVec Ideal S1x512 .f32) : FVec Ideal S512x512 .bf16 :=
  truncf .bf16 (mulf (mulf (k0_pay16 v) (mulf (mulf o (rG o)) (wide g))) (mulf (k0_pay15 z) (addf (broadcast S512x512 (Scalar.ofBits .f32 0x3F800000#32))
    (mulf z (subf (broadcast S512x512 (Scalar.ofBits .f32 0x3F800000#32)) (k0_pay15 z)))))) bitsLt_bf16_f32
/-- The gradient of the attention's output. -/
def outF (f : FVec Ideal S512x512 .f32) (v : FVec Ideal S512x1024 .f32) (h : FVec Ideal S1x512 .f32) : FVec Ideal S512x512 .f32 :=
  through (rF f) (mulf f (rF f)) (mulf (k0_pay34 v) (wide h)) (g64 (mulf (mulf (k0_pay34 v) (wide h)) (mulf f (rF f))))
/-- The sums of its products with the output. -/
def outL (f : FVec Ideal S512x512 .f32) (v : FVec Ideal S512x1024 .f32) (h : FVec Ideal S1x512 .f32) : FVec Ideal S512x512 .f32 :=
  mulf (g64 (mulf (outF f v h) f)) (broadcast S512x512 (Scalar.ofBits .f32 0x42800000#32))

theorem mul_real {x y : FVec Ideal S512x512 .f32} {X Y : Fin 512 → Fin 512 → ℝ} (hx : Is2 (φ := .f32) x X) (hy : Is2 (φ := .f32) y Y) :
    Is2 (φ := .f32) (mulf x y) (fun p k => X p k * Y p k) := fun p k => by
  unfold Is2 at *
  pointwise [hx, hy]
  simp only [← EReal.coe_mul]
theorem through_real {r x d μ : FVec Ideal S512x512 .f32} {R X D M : Fin 512 → Fin 512 → ℝ} (hr : Is2 (φ := .f32) r R) (hx : Is2 (φ := .f32) x X) (hd : Is2 (φ := .f32) d D) (hm : Is2 (φ := .f32) μ M) :
    Is2 (φ := .f32) (through r x d μ) (fun p k => R p k * (D p k - X p k * M p k)) := fun p k => by
  unfold Is2 at *
  pointwise [through, hx, hr, hd, hm]
  simp only [← EReal.coe_mul, ← EReal.coe_sub]

section
variable {o z f : FVec Ideal S512x512 .f32} {v : FVec Ideal S512x1024 .f32} {g h : FVec Ideal S1x512 .f32}
  {O Z Fo : Fin 512 → Fin 512 → ℝ} {D : Fin 512 → Fin 1024 → ℝ} {G : Fin 128 → ℝ} {H : Fin 64 → ℝ}
  (ho : Is2 (φ := .f32) o O) (hz : Is2 (φ := .f32) z Z) (hf : Is2 (φ := .f32) f Fo) (hv : Is2 (φ := .f32) v D)
  (hg : ∀ k : Fin 512, g (ix2 0 k) = ((G (in128 k) : ℝ) : EReal)) (hh : ∀ k : Fin 512, h (ix2 0 k) = ((H (in64 k) : ℝ) : EReal))

/-- The cotangents of the recurrence's half of a row. -/
def lo (D : Fin 512 → Fin 1024 → ℝ) (p : Fin 512) (k : Fin 512) : ℝ := D p ⟨k.val, by omega⟩
/-- The cotangents of the attention's half of a row. -/
def hi (D : Fin 512 → Fin 1024 → ℝ) (p : Fin 512) (k : Fin 512) : ℝ := D p ⟨512 + k.val, by omega⟩

include ho in
theorem rG_real : Is2 (φ := .f32) (rG o) (fun p k => rinv fun l => O p (at128 k l)) := fun p k => by
  have e := g128_real (mul_real ho ho)
  have q : ∀ p k, 0 < ms fun l => O p (at128 k l) := fun p k => ms_pos _
  unfold ms at q
  simp only [Nat.cast_ofNat] at q
  unfold Is2 at *
  pointwise [rG, e]
  simp only [lit_tiny, ← EReal.coe_add, rsqrt_real (q _ _)]
  unfold rinv ms
  simp only [Nat.cast_ofNat]
include hf in
theorem rF_real : Is2 (φ := .f32) (rF f) (fun p k => rinv fun l => Fo p (at64 k l)) := fun p k => by
  have e := g64_real (mul_real hf hf)
  have q : ∀ p k, 0 < ms fun l => Fo p (at64 k l) := fun p k => ms_pos _
  unfold ms at q
  simp only [Nat.cast_ofNat] at q
  unfold Is2 at *
  pointwise [rF, e]
  simp only [lit_tiny, ← EReal.coe_add, rsqrt_real (q _ _)]
  unfold rinv ms
  simp only [Nat.cast_ofNat]
include hg in
theorem wideG : Is2 (φ := .f32) (wide g) (fun _ k => G (in128 k)) := fun p k => by pointwise [wide, hg]
include hh in
theorem wideH : Is2 (φ := .f32) (wide h) (fun _ k => H (in64 k)) := fun p k => by pointwise [wide, hh]
include hz in
theorem sig_real : Is2 (φ := .f32) (k0_pay15 (F := Ideal) z) (fun p k => logis (Z p k)) := fun p k => by
  unfold Is2 at *
  pointwise [k0_pay15, hz]
  simp only [zero_sub, logis_real]
include hv in
theorem lo_real : Is2 (φ := .f32) (k0_pay16 (F := Ideal) v) (lo D) := fun p k => by
  unfold Is2 at *
  pointwise [k0_pay16, hv]
  rfl
include hv in
theorem hi_real : Is2 (φ := .f32) (k0_pay34 (F := Ideal) v) (hi D) := fun p k => by
  unfold Is2 at *
  pointwise [k0_pay34, hv]
  rfl
include hv hz in
theorem dn_real : Is2 (φ := .f32) (k0_pay17 (F := Ideal) v z) (fun p k => dn (Z p) (lo D p) k) :=
  mul_real (lo_real hv) (mul_real hz (sig_real hz))
include ho in
theorem xG_real : Is2 (φ := .f32) (mulf o (rG o)) (fun p k => xg (O p) k) := mul_real ho (rG_real ho)
include hf in
theorem xF_real : Is2 (φ := .f32) (mulf f (rF f)) (fun p k => xf (Fo p) k) := mul_real hf (rF_real hf)

include ho hz hv hg in
theorem outG_real : Is2 (φ := .f32) (outG o z v g) (fun p k => dor (O p) (Z p) (lo D p) G k) := fun p k => by
  have hd := mul_real (dn_real hz hv) (wideG hg)
  refine (through_real (rG_real ho) (xG_real ho) hd (g128_real (mul_real hd (xG_real ho))) p k).trans ?_
  unfold dor bwd xg
  simp only [at128_at, in128_at, at128_in, Nat.cast_ofNat]
include hf hv hh in
theorem outF_real : Is2 (φ := .f32) (outF f v h) (fun p k => dfr (Fo p) (hi D p) H k) := fun p k => by
  have hd := mul_real (hi_real hv) (wideH hh)
  refine (through_real (rF_real hf) (xF_real hf) hd (g64_real (mul_real hd (xF_real hf))) p k).trans ?_
  unfold dfr bwd xf
  simp only [at64_at, in64_at, at64_in, Nat.cast_ofNat]
include hf hv hh in
theorem outL_real : Is2 (φ := .f32) (outL f v h) (fun p k => dlr (Fo p) (hi D p) H k) := fun p k => by
  have e := g64_real (mul_real (outF_real hf hv hh) hf)
  unfold Is2 at *
  pointwise [outL, e]
  simp only [lit_64, ← EReal.coe_mul]
  unfold dlr
  congr 1
  ring
include ho hz hv hg in
theorem outZ_real : Is2 (φ := .bf16) (outZ o z v g) (fun p k => dzr (O p) (Z p) (lo D p) G k) := fun p k => by
  have e0 := mul_real (lo_real hv) (mul_real (xG_real ho) (wideG hg))
  have e1 := sig_real hz
  unfold outZ
  generalize mulf (k0_pay16 (F := Ideal) v) (mulf (mulf o (rG o)) (wide g)) = w0 at *
  generalize k0_pay15 (F := Ideal) z = w1 at *
  unfold Is2 at *
  pointwise [e0, e1, hz]
  simp only [EReal.coe_one.symm, ← EReal.coe_mul, ← EReal.coe_sub, ← EReal.coe_add]
  rfl
end

/-- Row 0: the sums so far and this block's. -/
theorem row0_real {x y : FVec Ideal S512x512 .f32} {X Y : Fin 512 → Fin 512 → ℝ} (hx : Is2 (φ := .f32) x X) (hy : Is2 (φ := .f32) y Y) (w : FVec Ideal S1x512 .f32) (k : Fin 512) :
    k0_pay2 (F := Ideal) x y w (ix2 0 k) = w (ix2 0 k) + ((∑ p, Y p k * X p k : ℝ) : EReal) := by
  unfold Is2 at *
  pointwise [k0_pay2, hx, hy]
  simp only [zero_add, ← EReal.coe_mul, coe_sum]
/-- Row 1: the sums so far and this block's. -/
theorem row1_real {x y : FVec Ideal S512x512 .f32} {X Y : Fin 512 → Fin 512 → ℝ} (hx : Is2 (φ := .f32) x X) (hy : Is2 (φ := .f32) y Y) (w : FVec Ideal S1x512 .f32) (k : Fin 512) :
    k0_pay3 (F := Ideal) x y w (ix2 0 k) = w (ix2 0 k) + ((∑ p, Y p k * X p k : ℝ) : EReal) := by
  unfold Is2 at *
  pointwise [k0_pay3, hx, hy]
  simp only [zero_add, ← EReal.coe_mul, coe_sum]
/-- The last point's write: row 0 and row 1 of the sums, folded by the two matrices. -/
theorem fold_real {w : FVec Ideal S8x512 .f32} {a b : FVec Ideal S512x128 .f32} {W : Fin 8 → Fin 512 → ℝ} {A B : Fin 512 → Fin 128 → ℝ}
    (hw : Is2 (φ := .f32) w W) (ha : Is2 (φ := .f32) a A) (hb : Is2 (φ := .f32) b B) :
    Is2 (φ := .f32) (k0_pay4 (F := Ideal) w a b) (fun i l => if i.val = 0 then ∑ k, W i k * A k l else if i.val = 1 then ∑ k, W i k * B k l else 0) := fun i l => by
  unfold Is2 at *
  pointwise [k0_pay4, hw, ha, hb]
  have q := fun (n : ℕ) (hn : n < 4096) (u v : EReal) => select_eq (x := i.val) (y := n) (by omega) hn u v
  have q0 := q 0 (by omega)
  have q1 := q 1 (by omega)
  simp only [q0, q1, ← EReal.coe_mul, coe_sum]
  split_ifs <;> rfl
end Cert.OutStage.Ker
-- ==== Proof.OutStage.Table128.lean ====
module

public import proofs.«01_k».proof.OutBwdIdeal
public import proofs.«01_k».proof.Proof.OutStage.Math

/-! # The kernel's table that folds groups of 128 channels -/

@[expose] public section
set_option maxRecDepth 16384
namespace Cert.OutStage
open Cert.OutBwdIdeal

/-- Rows 0 to 31. -/
theorem lit0_0 : ∀ (k : Fin 32) (l : Fin 128), lit0 ⟨(0 + k.val) * 128 + l.val, by omega⟩ = if (0 + k.val) % 128 = l.val then 0x3F800000#32 else 0x00000000#32 := by decide +kernel
/-- Rows 32 to 63. -/
theorem lit0_32 : ∀ (k : Fin 32) (l : Fin 128), lit0 ⟨(32 + k.val) * 128 + l.val, by omega⟩ = if (32 + k.val) % 128 = l.val then 0x3F800000#32 else 0x00000000#32 := by decide +kernel
/-- Rows 64 to 95. -/
theorem lit0_64 : ∀ (k : Fin 32) (l : Fin 128), lit0 ⟨(64 + k.val) * 128 + l.val, by omega⟩ = if (64 + k.val) % 128 = l.val then 0x3F800000#32 else 0x00000000#32 := by decide +kernel
/-- Rows 96 to 127. -/
theorem lit0_96 : ∀ (k : Fin 32) (l : Fin 128), lit0 ⟨(96 + k.val) * 128 + l.val, by omega⟩ = if (96 + k.val) % 128 = l.val then 0x3F800000#32 else 0x00000000#32 := by decide +kernel
/-- Rows 128 to 159. -/
theorem lit0_128 : ∀ (k : Fin 32) (l : Fin 128), lit0 ⟨(128 + k.val) * 128 + l.val, by omega⟩ = if (128 + k.val) % 128 = l.val then 0x3F800000#32 else 0x00000000#32 := by decide +kernel
/-- Rows 160 to 191. -/
theorem lit0_160 : ∀ (k : Fin 32) (l : Fin 128), lit0 ⟨(160 + k.val) * 128 + l.val, by omega⟩ = if (160 + k.val) % 128 = l.val then 0x3F800000#32 else 0x00000000#32 := by decide +kernel
/-- Rows 192 to 223. -/
theorem lit0_192 : ∀ (k : Fin 32) (l : Fin 128), lit0 ⟨(192 + k.val) * 128 + l.val, by omega⟩ = if (192 + k.val) % 128 = l.val then 0x3F800000#32 else 0x00000000#32 := by decide +kernel
/-- Rows 224 to 255. -/
theorem lit0_224 : ∀ (k : Fin 32) (l : Fin 128), lit0 ⟨(224 + k.val) * 128 + l.val, by omega⟩ = if (224 + k.val) % 128 = l.val then 0x3F800000#32 else 0x00000000#32 := by decide +kernel
/-- Rows 256 to 287. -/
theorem lit0_256 : ∀ (k : Fin 32) (l : Fin 128), lit0 ⟨(256 + k.val) * 128 + l.val, by omega⟩ = if (256 + k.val) % 128 = l.val then 0x3F800000#32 else 0x00000000#32 := by decide +kernel
/-- Rows 288 to 319. -/
theorem lit0_288 : ∀ (k : Fin 32) (l : Fin 128), lit0 ⟨(288 + k.val) * 128 + l.val, by omega⟩ = if (288 + k.val) % 128 = l.val then 0x3F800000#32 else 0x00000000#32 := by decide +kernel
/-- Rows 320 to 351. -/
theorem lit0_320 : ∀ (k : Fin 32) (l : Fin 128), lit0 ⟨(320 + k.val) * 128 + l.val, by omega⟩ = if (320 + k.val) % 128 = l.val then 0x3F800000#32 else 0x00000000#32 := by decide +kernel
/-- Rows 352 to 383. -/
theorem lit0_352 : ∀ (k : Fin 32) (l : Fin 128), lit0 ⟨(352 + k.val) * 128 + l.val, by omega⟩ = if (352 + k.val) % 128 = l.val then 0x3F800000#32 else 0x00000000#32 := by decide +kernel
/-- Rows 384 to 415. -/
theorem lit0_384 : ∀ (k : Fin 32) (l : Fin 128), lit0 ⟨(384 + k.val) * 128 + l.val, by omega⟩ = if (384 + k.val) % 128 = l.val then 0x3F800000#32 else 0x00000000#32 := by decide +kernel
/-- Rows 416 to 447. -/
theorem lit0_416 : ∀ (k : Fin 32) (l : Fin 128), lit0 ⟨(416 + k.val) * 128 + l.val, by omega⟩ = if (416 + k.val) % 128 = l.val then 0x3F800000#32 else 0x00000000#32 := by decide +kernel
/-- Rows 448 to 479. -/
theorem lit0_448 : ∀ (k : Fin 32) (l : Fin 128), lit0 ⟨(448 + k.val) * 128 + l.val, by omega⟩ = if (448 + k.val) % 128 = l.val then 0x3F800000#32 else 0x00000000#32 := by decide +kernel
/-- Rows 480 to 511. -/
theorem lit0_480 : ∀ (k : Fin 32) (l : Fin 128), lit0 ⟨(480 + k.val) * 128 + l.val, by omega⟩ = if (480 + k.val) % 128 = l.val then 0x3F800000#32 else 0x00000000#32 := by decide +kernel

/-- Entry `l` of row `k`: a one where the channel's place in its group of 128 is the column. -/
theorem lit0_at (k : Fin 512) (l : Fin 128) : lit0 ⟨k.val * 128 + l.val, by omega⟩ = if k.val % 128 = l.val then 0x3F800000#32 else 0x00000000#32 := by
  have hk := k.isLt
  by_cases h0_512 : k.val < 256
  · skip
    by_cases h0_256 : k.val < 128
    · skip
      by_cases h0_128 : k.val < 64
      · skip
        by_cases h0_64 : k.val < 32
        · skip
          have e := lit0_0 ⟨k.val - 0, by omega⟩ l
          simp only [show 0 + (k.val - 0) = k.val by omega] at e
          exact e
        · skip
          have e := lit0_32 ⟨k.val - 32, by omega⟩ l
          simp only [show 32 + (k.val - 32) = k.val by omega] at e
          exact e
      · skip
        by_cases h64_128 : k.val < 96
        · skip
          have e := lit0_64 ⟨k.val - 64, by omega⟩ l
          simp only [show 64 + (k.val - 64) = k.val by omega] at e
          exact e
        · skip
          have e := lit0_96 ⟨k.val - 96, by omega⟩ l
          simp only [show 96 + (k.val - 96) = k.val by omega] at e
          exact e
    · skip
      by_cases h128_256 : k.val < 192
      · skip
        by_cases h128_192 : k.val < 160
        · skip
          have e := lit0_128 ⟨k.val - 128, by omega⟩ l
          simp only [show 128 + (k.val - 128) = k.val by omega] at e
          exact e
        · skip
          have e := lit0_160 ⟨k.val - 160, by omega⟩ l
          simp only [show 160 + (k.val - 160) = k.val by omega] at e
          exact e
      · skip
        by_cases h192_256 : k.val < 224
        · skip
          have e := lit0_192 ⟨k.val - 192, by omega⟩ l
          simp only [show 192 + (k.val - 192) = k.val by omega] at e
          exact e
        · skip
          have e := lit0_224 ⟨k.val - 224, by omega⟩ l
          simp only [show 224 + (k.val - 224) = k.val by omega] at e
          exact e
  · skip
    by_cases h256_512 : k.val < 384
    · skip
      by_cases h256_384 : k.val < 320
      · skip
        by_cases h256_320 : k.val < 288
        · skip
          have e := lit0_256 ⟨k.val - 256, by omega⟩ l
          simp only [show 256 + (k.val - 256) = k.val by omega] at e
          exact e
        · skip
          have e := lit0_288 ⟨k.val - 288, by omega⟩ l
          simp only [show 288 + (k.val - 288) = k.val by omega] at e
          exact e
      · skip
        by_cases h320_384 : k.val < 352
        · skip
          have e := lit0_320 ⟨k.val - 320, by omega⟩ l
          simp only [show 320 + (k.val - 320) = k.val by omega] at e
          exact e
        · skip
          have e := lit0_352 ⟨k.val - 352, by omega⟩ l
          simp only [show 352 + (k.val - 352) = k.val by omega] at e
          exact e
    · skip
      by_cases h384_512 : k.val < 448
      · skip
        by_cases h384_448 : k.val < 416
        · skip
          have e := lit0_384 ⟨k.val - 384, by omega⟩ l
          simp only [show 384 + (k.val - 384) = k.val by omega] at e
          exact e
        · skip
          have e := lit0_416 ⟨k.val - 416, by omega⟩ l
          simp only [show 416 + (k.val - 416) = k.val by omega] at e
          exact e
      · skip
        by_cases h448_512 : k.val < 480
        · skip
          have e := lit0_448 ⟨k.val - 448, by omega⟩ l
          simp only [show 448 + (k.val - 448) = k.val by omega] at e
          exact e
        · skip
          have e := lit0_480 ⟨k.val - 480, by omega⟩ l
          simp only [show 480 + (k.val - 480) = k.val by omega] at e
          exact e

end Cert.OutStage
-- ==== Proof.OutStage.Table64.lean ====
module

public import proofs.«01_k».proof.OutBwdIdeal
public import proofs.«01_k».proof.Proof.OutStage.Math

/-! # The kernel's table that folds groups of 64 channels -/

@[expose] public section
set_option maxRecDepth 16384
namespace Cert.OutStage
open Cert.OutBwdIdeal

/-- Rows 0 to 31. -/
theorem lit1_0 : ∀ (k : Fin 32) (l : Fin 128), lit1 ⟨(0 + k.val) * 128 + l.val, by omega⟩ = if (0 + k.val) % 64 = l.val then 0x3F800000#32 else 0x00000000#32 := by decide +kernel
/-- Rows 32 to 63. -/
theorem lit1_32 : ∀ (k : Fin 32) (l : Fin 128), lit1 ⟨(32 + k.val) * 128 + l.val, by omega⟩ = if (32 + k.val) % 64 = l.val then 0x3F800000#32 else 0x00000000#32 := by decide +kernel
/-- Rows 64 to 95. -/
theorem lit1_64 : ∀ (k : Fin 32) (l : Fin 128), lit1 ⟨(64 + k.val) * 128 + l.val, by omega⟩ = if (64 + k.val) % 64 = l.val then 0x3F800000#32 else 0x00000000#32 := by decide +kernel
/-- Rows 96 to 127. -/
theorem lit1_96 : ∀ (k : Fin 32) (l : Fin 128), lit1 ⟨(96 + k.val) * 128 + l.val, by omega⟩ = if (96 + k.val) % 64 = l.val then 0x3F800000#32 else 0x00000000#32 := by decide +kernel
/-- Rows 128 to 159. -/
theorem lit1_128 : ∀ (k : Fin 32) (l : Fin 128), lit1 ⟨(128 + k.val) * 128 + l.val, by omega⟩ = if (128 + k.val) % 64 = l.val then 0x3F800000#32 else 0x00000000#32 := by decide +kernel
/-- Rows 160 to 191. -/
theorem lit1_160 : ∀ (k : Fin 32) (l : Fin 128), lit1 ⟨(160 + k.val) * 128 + l.val, by omega⟩ = if (160 + k.val) % 64 = l.val then 0x3F800000#32 else 0x00000000#32 := by decide +kernel
/-- Rows 192 to 223. -/
theorem lit1_192 : ∀ (k : Fin 32) (l : Fin 128), lit1 ⟨(192 + k.val) * 128 + l.val, by omega⟩ = if (192 + k.val) % 64 = l.val then 0x3F800000#32 else 0x00000000#32 := by decide +kernel
/-- Rows 224 to 255. -/
theorem lit1_224 : ∀ (k : Fin 32) (l : Fin 128), lit1 ⟨(224 + k.val) * 128 + l.val, by omega⟩ = if (224 + k.val) % 64 = l.val then 0x3F800000#32 else 0x00000000#32 := by decide +kernel
/-- Rows 256 to 287. -/
theorem lit1_256 : ∀ (k : Fin 32) (l : Fin 128), lit1 ⟨(256 + k.val) * 128 + l.val, by omega⟩ = if (256 + k.val) % 64 = l.val then 0x3F800000#32 else 0x00000000#32 := by decide +kernel
/-- Rows 288 to 319. -/
theorem lit1_288 : ∀ (k : Fin 32) (l : Fin 128), lit1 ⟨(288 + k.val) * 128 + l.val, by omega⟩ = if (288 + k.val) % 64 = l.val then 0x3F800000#32 else 0x00000000#32 := by decide +kernel
/-- Rows 320 to 351. -/
theorem lit1_320 : ∀ (k : Fin 32) (l : Fin 128), lit1 ⟨(320 + k.val) * 128 + l.val, by omega⟩ = if (320 + k.val) % 64 = l.val then 0x3F800000#32 else 0x00000000#32 := by decide +kernel
/-- Rows 352 to 383. -/
theorem lit1_352 : ∀ (k : Fin 32) (l : Fin 128), lit1 ⟨(352 + k.val) * 128 + l.val, by omega⟩ = if (352 + k.val) % 64 = l.val then 0x3F800000#32 else 0x00000000#32 := by decide +kernel
/-- Rows 384 to 415. -/
theorem lit1_384 : ∀ (k : Fin 32) (l : Fin 128), lit1 ⟨(384 + k.val) * 128 + l.val, by omega⟩ = if (384 + k.val) % 64 = l.val then 0x3F800000#32 else 0x00000000#32 := by decide +kernel
/-- Rows 416 to 447. -/
theorem lit1_416 : ∀ (k : Fin 32) (l : Fin 128), lit1 ⟨(416 + k.val) * 128 + l.val, by omega⟩ = if (416 + k.val) % 64 = l.val then 0x3F800000#32 else 0x00000000#32 := by decide +kernel
/-- Rows 448 to 479. -/
theorem lit1_448 : ∀ (k : Fin 32) (l : Fin 128), lit1 ⟨(448 + k.val) * 128 + l.val, by omega⟩ = if (448 + k.val) % 64 = l.val then 0x3F800000#32 else 0x00000000#32 := by decide +kernel
/-- Rows 480 to 511. -/
theorem lit1_480 : ∀ (k : Fin 32) (l : Fin 128), lit1 ⟨(480 + k.val) * 128 + l.val, by omega⟩ = if (480 + k.val) % 64 = l.val then 0x3F800000#32 else 0x00000000#32 := by decide +kernel

/-- Entry `l` of row `k`: a one where the channel's place in its group of 64 is the column. -/
theorem lit1_at (k : Fin 512) (l : Fin 128) : lit1 ⟨k.val * 128 + l.val, by omega⟩ = if k.val % 64 = l.val then 0x3F800000#32 else 0x00000000#32 := by
  have hk := k.isLt
  by_cases h0_512 : k.val < 256
  · skip
    by_cases h0_256 : k.val < 128
    · skip
      by_cases h0_128 : k.val < 64
      · skip
        by_cases h0_64 : k.val < 32
        · skip
          have e := lit1_0 ⟨k.val - 0, by omega⟩ l
          simp only [show 0 + (k.val - 0) = k.val by omega] at e
          exact e
        · skip
          have e := lit1_32 ⟨k.val - 32, by omega⟩ l
          simp only [show 32 + (k.val - 32) = k.val by omega] at e
          exact e
      · skip
        by_cases h64_128 : k.val < 96
        · skip
          have e := lit1_64 ⟨k.val - 64, by omega⟩ l
          simp only [show 64 + (k.val - 64) = k.val by omega] at e
          exact e
        · skip
          have e := lit1_96 ⟨k.val - 96, by omega⟩ l
          simp only [show 96 + (k.val - 96) = k.val by omega] at e
          exact e
    · skip
      by_cases h128_256 : k.val < 192
      · skip
        by_cases h128_192 : k.val < 160
        · skip
          have e := lit1_128 ⟨k.val - 128, by omega⟩ l
          simp only [show 128 + (k.val - 128) = k.val by omega] at e
          exact e
        · skip
          have e := lit1_160 ⟨k.val - 160, by omega⟩ l
          simp only [show 160 + (k.val - 160) = k.val by omega] at e
          exact e
      · skip
        by_cases h192_256 : k.val < 224
        · skip
          have e := lit1_192 ⟨k.val - 192, by omega⟩ l
          simp only [show 192 + (k.val - 192) = k.val by omega] at e
          exact e
        · skip
          have e := lit1_224 ⟨k.val - 224, by omega⟩ l
          simp only [show 224 + (k.val - 224) = k.val by omega] at e
          exact e
  · skip
    by_cases h256_512 : k.val < 384
    · skip
      by_cases h256_384 : k.val < 320
      · skip
        by_cases h256_320 : k.val < 288
        · skip
          have e := lit1_256 ⟨k.val - 256, by omega⟩ l
          simp only [show 256 + (k.val - 256) = k.val by omega] at e
          exact e
        · skip
          have e := lit1_288 ⟨k.val - 288, by omega⟩ l
          simp only [show 288 + (k.val - 288) = k.val by omega] at e
          exact e
      · skip
        by_cases h320_384 : k.val < 352
        · skip
          have e := lit1_320 ⟨k.val - 320, by omega⟩ l
          simp only [show 320 + (k.val - 320) = k.val by omega] at e
          exact e
        · skip
          have e := lit1_352 ⟨k.val - 352, by omega⟩ l
          simp only [show 352 + (k.val - 352) = k.val by omega] at e
          exact e
    · skip
      by_cases h384_512 : k.val < 448
      · skip
        by_cases h384_448 : k.val < 416
        · skip
          have e := lit1_384 ⟨k.val - 384, by omega⟩ l
          simp only [show 384 + (k.val - 384) = k.val by omega] at e
          exact e
        · skip
          have e := lit1_416 ⟨k.val - 416, by omega⟩ l
          simp only [show 416 + (k.val - 416) = k.val by omega] at e
          exact e
      · skip
        by_cases h448_512 : k.val < 480
        · skip
          have e := lit1_448 ⟨k.val - 448, by omega⟩ l
          simp only [show 448 + (k.val - 448) = k.val by omega] at e
          exact e
        · skip
          have e := lit1_480 ⟨k.val - 480, by omega⟩ l
          simp only [show 480 + (k.val - 480) = k.val by omega] at e
          exact e

end Cert.OutStage
-- ==== Proof.OutStage.Kernel.lean ====
module

public import proofs.«01_k».proof.Proof.Gen.OutBwdIdeal.Value
public import proofs.«01_k».proof.Proof.OutStage.Block
public import proofs.«01_k».proof.Proof.OutStage.Table128
public import proofs.«01_k».proof.Proof.OutStage.Table64
public import proofs.«01_k».proof.Proof.Math.Rows
public import Idealize.ShloMosaic.Lib.Pipeline.ValueKit

/-! # The output stage's gradient: what the kernel computes

Four blocks of 512 rows. Each block writes its rows of four gradients and adds its rows' share of the weights' gradients to two rows
that the blocks share; the last block folds these by their groups. -/

@[expose] public section
set_option maxRecDepth 16384
noncomputable section
namespace Cert.OutStage.Ker
open Cert.Lift Cert.Prep Idealize.ShloMosaic Idealize.ShloMosaic.TcCoe Idealize.SL.Sem Cert.OutBwdIdeal Cert.OutBwdIdeal.Gen
variable (m : (ℓ : Loc nD τ sig) → Buf (Elt Ideal) ℓ) (c : Dev nD)

/-- The blocks' places. -/
theorem idx : ∀ t : Fin cfg0.N, win0_0.index t = ![t.val, 0] ∧ win0_1.index t = ![t.val, 0] ∧ win0_2.index t = ![t.val, 3]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![0, 0] ∧ t.val < 4 :=
  (by decide +kernel : ∀ t : Fin grid0.N, _)
theorem lt4 (t : Fin cfg0.N) : t.val < 4 := (idx t).2.2.2.2.2.2.2.2.2.2.2.2.2.2
/-- Row `p` of block `t`. -/
def row (t : Fin cfg0.N) (p : Fin 512) : Fin 2048 := ⟨t.val * 512 + p.val, by have := lt4 t; omega⟩

/-- The projection's 3600 columns in the kernel's order, in a width of 3712. -/
def cols (x : FVec Ideal S2048x3600 .f32) : FVec Ideal S2048x3712 .f32 :=
  concatenate S2048x3712 1
    [⟨S2048x2048, extractStridedSlice S2048x2048 ![0, 0] x slices_S2048x3600_S2048x2048_0_0⟩,
     ⟨S2048x1536, extractStridedSlice S2048x1536 ![0, 2056] x slices_S2048x3600_S2048x1536_0_2056⟩,
     ⟨S2048x8, extractStridedSlice S2048x8 ![0, 2048] x slices_S2048x3600_S2048x8_0_2048⟩,
     ⟨S2048x8, extractStridedSlice S2048x8 ![0, 3592] x slices_S2048x3600_S2048x8_0_3592⟩,
     ⟨S2048x112, broadcastInDim S2048x112 ![] bcast_S_S2048x112 (constant S_ .f32 0x00000000#32)⟩]
    concatenates_S2048x2048_S2048x1536_S2048x8_S2048x8_S2048x112_S2048x3712_d1
/-- The projection, as the host lays it out. -/
theorem arr2 : V m c (Pipeline.arrRef spec0 2) = cols (m ((c.tc : Thread nD τ).loc main_arg1)) := by
  unfold V
  rfl
theorem cols_apply (x : FVec Ideal S2048x3600 .f32) (r : Fin 2048) (k : Fin 512) :
    cols x (ix2 r (⟨1536 + k.val, by omega⟩ : Fin 3712)) = x (ix2 r (⟨1536 + k.val, by omega⟩ : Fin 3600)) := by
  pointwise [cols]
  rw [dif_pos (by omega)]

theorem blk0 (t : Fin cfg0.N) (p : Fin 512) (n : Fin 1024) :
    (show FVec Ideal S512x1024 .bf16 from iblk m c 0 t) (ix2 p n) = (show FVec Ideal S2048x1024 .f32 from m ((c.tc : Thread nD τ).loc main_arg6)) (ix2 (row t p) n) := by
  blk_point [iblk, V, idx t, row]
theorem blk1 (t : Fin cfg0.N) (p : Fin 512) (n : Fin 512) :
    (show FVec Ideal S512x512 .f32 from iblk m c 1 t) (ix2 p n) = (show FVec Ideal S2048x512 .f32 from m ((c.tc : Thread nD τ).loc main_arg0)) (ix2 (row t p) n) := by
  blk_point [iblk, V, idx t, row]
theorem blk3 (t : Fin cfg0.N) (p : Fin 512) (n : Fin 512) :
    (show FVec Ideal S512x512 .f32 from iblk m c 3 t) (ix2 p n) = (show FVec Ideal S2048x512 .f32 from m ((c.tc : Thread nD τ).loc main_arg2)) (ix2 (row t p) n) := by
  blk_point [iblk, V, idx t, row]
theorem blk8 (t : Fin cfg0.N) (p : Fin 1024) (n : Fin 1024) :
    (show FVec Ideal S1024x1024 .bf16 from iblk m c 8 t) (ix2 p n) = (show FVec Ideal S1024x1024 .f32 from m ((c.tc : Thread nD τ).loc main_arg5)) (ix2 p n) := by
  blk_point [iblk, V, idx t, row]
/-- The gate's columns of the projection. -/
theorem blk2 (t : Fin cfg0.N) (p : Fin 512) (k : Fin 512) :
    (show FVec Ideal S512x512 .f32 from X0_2 m c t) (ix2 p k)
      = (show FVec Ideal S2048x3712 .f32 from V m c (Pipeline.arrRef spec0 2)) (ix2 (row t p) (⟨1536 + k.val, by omega⟩ : Fin 3712)) := by
  unfold X0_2 Pipeline.Window.fill
  dsimp only
  rw [dif_pos (moved0_2 t _)]
  blk_ext [iblk, idx t, row]
/-- The first weight, four times. -/
theorem blk4 (t : Fin cfg0.N) (k : Fin 512) :
    (show FVec Ideal S1x512 .f32 from iblk m c 4 t) (ix2 0 k) = (show FVec Ideal S128 .f32 from m ((c.tc : Thread nD τ).loc main_arg3)) (ix1 (in128 k)) := by
  blk_point [iblk, V, idx t, in128]
/-- The second weight, eight times. -/
theorem blk5 (t : Fin cfg0.N) (k : Fin 512) :
    (show FVec Ideal S1x512 .f32 from iblk m c 5 t) (ix2 0 k) = (show FVec Ideal S64 .f32 from m ((c.tc : Thread nD τ).loc main_arg4)) (ix1 (in64 k)) := by
  blk_point [iblk, V, idx t, in64]
/-- The host's matrix that folds groups of 128. -/
def fold128 : FVec Ideal S512x128 .f32 := fun i => FloatOps.ofBits .f32 (lit0 (S512x128.rowMajor i))
/-- The host's matrix that folds groups of 64. -/
def fold64 : FVec Ideal S512x128 .f32 := fun i => FloatOps.ofBits .f32 (lit1 (S512x128.rowMajor i))
theorem arr6 : V m c (Pipeline.arrRef spec0 6) = fold128 := by
  unfold V
  rfl
theorem arr7 : V m c (Pipeline.arrRef spec0 7) = fold64 := by
  unfold V
  rfl
theorem word_one : Ideal.ofBits .f32 0x3F800000#32 = ((1 : ℝ) : EReal) := by
  simp [Ideal.ofBits, Ideal.ieee, -EReal.coe_mul]; norm_num
/-- The words of one and zero, picked by a condition. -/
theorem pick_word (q : Prop) [Decidable q] : Ideal.ofBits .f32 (if q then 0x3F800000#32 else 0x00000000#32) = ((if q then 1 else 0 : ℝ) : EReal) := by
  split_ifs
  · exact word_one
  · exact lit_zero
theorem fold128_apply : Is2 (φ := .f32) fold128 (fun k l => if in128 k = l then 1 else 0) := fun k l => by
  have e : S512x128.rowMajor (ix2 k l : S512x128.Idx) = ⟨k.val * 128 + l.val, by show _ < 65536; omega⟩ := Fin.ext (Shape.rowMajor_val_two _)
  show Ideal.ofBits .f32 (lit0 (S512x128.rowMajor (ix2 k l : S512x128.Idx))) = _
  rw [e, lit0_at]
  refine (pick_word _).trans ?_
  simp only [Fin.ext_iff, in128]
theorem fold64_apply : Is2 (φ := .f32) fold64 (fun k l => if (in64 k).val = l.val then 1 else 0) := fun k l => by
  have e : S512x128.rowMajor (ix2 k l : S512x128.Idx) = ⟨k.val * 128 + l.val, by show _ < 65536; omega⟩ := Fin.ext (Shape.rowMajor_val_two _)
  show Ideal.ofBits .f32 (lit1 (S512x128.rowMajor (ix2 k l : S512x128.Idx))) = _
  rw [e, lit1_at]
  exact pick_word _
/-- The first matrix, staged whole. -/
theorem blk6 (t : Fin cfg0.N) : Is2 (φ := .f32) (iblk m c 6 t) (fun k l => if in128 k = l then 1 else 0) := fun k l => by
  have e : (show FVec Ideal S512x128 .f32 from iblk m c 6 t) (ix2 k l) = (show FVec Ideal S512x128 .f32 from V m c (Pipeline.arrRef spec0 6)) (ix2 k l) := by
    blk_ext [iblk, idx t]
  exact e.trans (by rw [arr6]; exact fold128_apply k l)
/-- The second matrix, staged whole. -/
theorem blk7 (t : Fin cfg0.N) : Is2 (φ := .f32) (iblk m c 7 t) (fun k l => if (in64 k).val = l.val then 1 else 0) := fun k l => by
  have e : (show FVec Ideal S512x128 .f32 from iblk m c 7 t) (ix2 k l) = (show FVec Ideal S512x128 .f32 from V m c (Pipeline.arrRef spec0 7)) (ix2 k l) := by
    blk_ext [iblk, idx t]
  exact e.trans (by rw [arr7]; exact fold64_apply k l)

/-- The kernel's argument arrays hold the reals `a`. -/
structure Holds (a : Reals) : Prop where
  o : Is2 (φ := .f32) (m ((c.tc : Thread nD τ).loc main_arg0)) a.o
  z : ∀ (r : Fin 2048) (k : Fin 512), (m ((c.tc : Thread nD τ).loc main_arg1) (ix2 r (⟨1536 + k.val, by omega⟩ : Fin 3600)) : EReal) = ((a.z r k : ℝ) : EReal)
  f : Is2 (φ := .f32) (m ((c.tc : Thread nD τ).loc main_arg2)) a.f
  g : ∀ k : Fin 128, (m ((c.tc : Thread nD τ).loc main_arg3) (ix1 k) : EReal) = ((a.g k : ℝ) : EReal)
  h : ∀ k : Fin 64, (m ((c.tc : Thread nD τ).loc main_arg4) (ix1 k) : EReal) = ((a.h k : ℝ) : EReal)
  w : Is2 (φ := .f32) (m ((c.tc : Thread nD τ).loc main_arg5)) a.w
  d : Is2 (φ := .f32) (m ((c.tc : Thread nD τ).loc main_arg6)) a.d

variable {m c} {a : Reals} (h : Holds m c a)
include h

theorem bo (t : Fin cfg0.N) : Is2 (φ := .f32) (iblk m c 1 t) (fun p k => a.o (row t p) k) := fun p k => (blk1 m c t p k).trans (h.o _ _)
theorem bf (t : Fin cfg0.N) : Is2 (φ := .f32) (iblk m c 3 t) (fun p k => a.f (row t p) k) := fun p k => (blk3 m c t p k).trans (h.f _ _)
theorem bz (t : Fin cfg0.N) : Is2 (φ := .f32) (k0_pay7 (F := Ideal) (X0_2 m c t)) (fun p k => a.z (row t p) k) := fun p k => by
  have e := (blk2 m c t p k).trans (by rw [arr2]; exact (cols_apply _ _ _).trans (h.z _ _) : _ = ((a.z (row t p) k : ℝ) : EReal))
  generalize X0_2 m c t = x at e
  have e' : (show FVec Ideal S512x512 .f32 from x) (ix2 p k) = ((a.z (row t p) k : ℝ) : EReal) := e
  pointwise [k0_pay7]
  exact e'
theorem bg (t : Fin cfg0.N) (k : Fin 512) : (show FVec Ideal S1x512 .f32 from iblk m c 4 t) (ix2 0 k) = ((a.g (in128 k) : ℝ) : EReal) := (blk4 m c t k).trans (h.g _)
theorem bh (t : Fin cfg0.N) (k : Fin 512) : (show FVec Ideal S1x512 .f32 from iblk m c 5 t) (ix2 0 k) = ((a.h (in64 k) : ℝ) : EReal) := (blk5 m c t k).trans (h.h _)

omit h in
theorem dm_real {x : FVec Ideal S512x1024 .bf16} {w : FVec Ideal S1024x1024 .bf16} {X : Fin 512 → Fin 1024 → ℝ} {W : Fin 1024 → Fin 1024 → ℝ}
    (hx : Is2 (φ := .bf16) x X) (hw : Is2 (φ := .bf16) w W) : Is2 (φ := .f32) (k0_pay6 (F := Ideal) x w) (fun p j => ∑ n, X p n * W j n) := fun p j => by
  unfold Is2 at *
  pointwise [k0_pay6, hx, hw]
  simp only [zero_add, ← EReal.coe_mul, coe_sum]
theorem bv (t : Fin cfg0.N) : Is2 (φ := .f32) (k0_pay6 (F := Ideal) (iblk m c 0 t) (iblk m c 8 t)) (fun p j => a.dm (row t p) j) :=
  dm_real (X := fun p n => a.d (row t p) n) (fun p n => (blk0 m c t p n).trans (h.d _ _)) (fun j n => (blk8 m c t j n).trans (h.w _ _))

/-- The gradient of the recurrence's output. -/
theorem final9 : (dats m 0 c).arrAt 9 cfg0.N = fun j => ((a.dog (j 0) (j 1) : ℝ) : EReal) := by
  refine (dats m 0 c).arrAt_eq_of_covers 9 _ (by decide +kernel) fun t _ y => ?_
  blk_simp
  rw [after0_9]
  have e0 : ((View.whole main_v17_0).slice (win0_9.rect t)).emb y 0 = row t (y 0) := by
    apply Fin.ext; blk_simp [idx t, row]
  have e1 : ((View.whole main_v17_0).slice (win0_9.rect t)).emb y 1 = y 1 := by
    apply Fin.ext; blk_simp [idx t, row]
  rw [e0, e1]
  have e : outG (iblk m c 1 t) (k0_pay7 (X0_2 m c t)) (k0_pay6 (iblk m c 0 t) (iblk m c 8 t)) (iblk m c 4 t) y = ((a.dog (row t (y 0)) (y 1) : ℝ) : EReal) := by
    idx_vars y
    exact outG_real (bo h t) (bz h t) (bv h t) (bg h t) _ _
  have ht := lt4 t
  by_cases h0 : t.val % 4 = 0
  · rw [outsAt0_A m c t h0 (by omega)]
    frame_out
    exact e
  · by_cases h1 : t.val % 4 = 3
    · rw [outsAt0_C m c t h0 h1]
      frame_out
      exact e
    · rw [outsAt0_B m c t h0 h1]
      frame_out
      exact e

/-- The gradient of the gate. -/
theorem final10 : (dats m 0 c).arrAt 10 cfg0.N = fun j => ((a.dz (j 0) (j 1) : ℝ) : EReal) := by
  refine (dats m 0 c).arrAt_eq_of_covers 10 _ (by decide +kernel) fun t _ y => ?_
  blk_simp
  rw [after0_10]
  have e0 : ((View.whole main_v17_1).slice (win0_10.rect t)).emb y 0 = row t (y 0) := by
    apply Fin.ext; blk_simp [idx t, row]
  have e1 : ((View.whole main_v17_1).slice (win0_10.rect t)).emb y 1 = y 1 := by
    apply Fin.ext; blk_simp [idx t, row]
  rw [e0, e1]
  have e : outZ (iblk m c 1 t) (k0_pay7 (X0_2 m c t)) (k0_pay6 (iblk m c 0 t) (iblk m c 8 t)) (iblk m c 4 t) y = ((a.dz (row t (y 0)) (y 1) : ℝ) : EReal) := by
    idx_vars y
    exact outZ_real (bo h t) (bz h t) (bv h t) (bg h t) _ _
  have ht := lt4 t
  by_cases h0 : t.val % 4 = 0
  · rw [outsAt0_A m c t h0 (by omega)]
    frame_out
    exact e
  · by_cases h1 : t.val % 4 = 3
    · rw [outsAt0_C m c t h0 h1]
      frame_out
      exact e
    · rw [outsAt0_B m c t h0 h1]
      frame_out
      exact e

/-- The gradient of the attention's output. -/
theorem final11 : (dats m 0 c).arrAt 11 cfg0.N = fun j => ((a.dof (j 0) (j 1) : ℝ) : EReal) := by
  refine (dats m 0 c).arrAt_eq_of_covers 11 _ (by decide +kernel) fun t _ y => ?_
  blk_simp
  rw [after0_11]
  have e0 : ((View.whole main_v17_2).slice (win0_11.rect t)).emb y 0 = row t (y 0) := by
    apply Fin.ext; blk_simp [idx t, row]
  have e1 : ((View.whole main_v17_2).slice (win0_11.rect t)).emb y 1 = y 1 := by
    apply Fin.ext; blk_simp [idx t, row]
  rw [e0, e1]
  have e : outF (iblk m c 3 t) (k0_pay6 (iblk m c 0 t) (iblk m c 8 t)) (iblk m c 5 t) y = ((a.dof (row t (y 0)) (y 1) : ℝ) : EReal) := by
    idx_vars y
    exact outF_real (bf h t) (bv h t) (bh h t) _ _
  have ht := lt4 t
  by_cases h0 : t.val % 4 = 0
  · rw [outsAt0_A m c t h0 (by omega)]
    frame_out
    exact e
  · by_cases h1 : t.val % 4 = 3
    · rw [outsAt0_C m c t h0 h1]
      frame_out
      exact e
    · rw [outsAt0_B m c t h0 h1]
      frame_out
      exact e

/-- Its products with the output, summed by groups. -/
theorem final12 : (dats m 0 c).arrAt 12 cfg0.N = fun j => ((a.dl (j 0) (j 1) : ℝ) : EReal) := by
  refine (dats m 0 c).arrAt_eq_of_covers 12 _ (by decide +kernel) fun t _ y => ?_
  blk_simp
  rw [after0_12]
  have e0 : ((View.whole main_v17_3).slice (win0_12.rect t)).emb y 0 = row t (y 0) := by
    apply Fin.ext; blk_simp [idx t, row]
  have e1 : ((View.whole main_v17_3).slice (win0_12.rect t)).emb y 1 = y 1 := by
    apply Fin.ext; blk_simp [idx t, row]
  rw [e0, e1]
  have e : outL (iblk m c 3 t) (k0_pay6 (iblk m c 0 t) (iblk m c 8 t)) (iblk m c 5 t) y = ((a.dl (row t (y 0)) (y 1) : ℝ) : EReal) := by
    idx_vars y
    exact outL_real (bf h t) (bv h t) (bh h t) _ _
  have ht := lt4 t
  by_cases h0 : t.val % 4 = 0
  · rw [outsAt0_A m c t h0 (by omega)]
    frame_out
    exact e
  · by_cases h1 : t.val % 4 = 3
    · rw [outsAt0_C m c t h0 h1]
      frame_out
      exact e
    · rw [outsAt0_B m c t h0 h1]
      frame_out
      exact e

/-- What block `t` adds to the two shared rows. -/
def part (a : Reals) (t : Fin cfg0.N) (j : S8x512.Idx) : EReal :=
  if (j 0).val = 1 then ((∑ p, a.d1 (row t p) (j 1) * xf (a.f (row t p)) (j 1) : ℝ) : EReal)
  else if (j 0).val = 0 then ((∑ p, dn (a.z (row t p)) (a.d0 (row t p)) (j 1) * xg (a.o (row t p)) (j 1) : ℝ) : EReal) else 0

theorem part_row0 (t : Fin cfg0.N) (w : FVec Ideal S1x512 .f32) (k : Fin 512) :
    k0_pay2 (F := Ideal) (k0_pay14 (iblk m c 1 t) (k0_pay9 (iblk m c 1 t)) (k0_pay10 (iblk m c 1 t)) (k0_pay11 (iblk m c 1 t)) (k0_pay12 (iblk m c 1 t)) (FloatOps.ofBits FTy.f32 1006632960#32))
      (k0_pay17 (k0_pay6 (iblk m c 0 t) (iblk m c 8 t)) (k0_pay7 (X0_2 m c t))) w (ix2 0 k)
      = w (ix2 0 k) + ((∑ p, dn (a.z (row t p)) (a.d0 (row t p)) k * xg (a.o (row t p)) k : ℝ) : EReal) :=
  row0_real (xG_real (bo h t)) (dn_real (bz h t) (bv h t)) w k
theorem part_row1 (t : Fin cfg0.N) (w : FVec Ideal S1x512 .f32) (k : Fin 512) :
    k0_pay3 (F := Ideal) (k0_pay33 (iblk m c 3 t) (k0_pay26 (k0_pay24 (iblk m c 3 t)) k0_pay25) (k0_pay27 (k0_pay23 (iblk m c 3 t))) (k0_pay28 (k0_pay23 (iblk m c 3 t))) (k0_pay29 (k0_pay23 (iblk m c 3 t))) k0_pay30 (k0_pay31 (k0_pay23 (iblk m c 3 t))))
      (k0_pay34 (k0_pay6 (iblk m c 0 t) (iblk m c 8 t))) w (ix2 0 k)
      = w (ix2 0 k) + ((∑ p, a.d1 (row t p) k * xf (a.f (row t p)) k : ℝ) : EReal) :=
  row1_real (xF_real (bf h t)) (hi_real (bv h t)) w k

/-- The two shared rows after the last block. -/
theorem shared (j : S8x512.Idx) : (outsAt0 m c t0_3.val t0_3.isLt).2.2.2.2.2 j = ∑ t : Fin 4, part a ⟨t.val, lt_of_lt_of_eq t.isLt N_0.symm⟩ j := by
  rw [Pipeline.eq_sum_fin_of_reset_step_apply_last (fun n h => (outsAt0 m c n h).2.2.2.2.2) 4 (fun _ => 0) (part a)
    (fun t h0 j => by
      rw [outsAt0_A m c t h0 (by omega)]
      frame_out
      idx_vars j
      rw [Rows.canon_row, Rows.canon_row, part_row1 h, part_row0 h,
        Rows.readCov_row _ _ _ (show 1 < 8 by decide), Rows.readCov_row _ _ _ (show 0 < 8 by decide), Rows.canon_row,
        View.canon_cons_unit_lit' _ _ _ (by decide)]
      pointwise [k0_pay5, part])
    (fun t h0 j => by
      by_cases h3 : t.val % 4 = 3
      · rw [outsAt0_C m c t h0 h3]
        frame_out
        idx_vars j
        rw [Rows.read_row, Rows.read_row, part_row1 h, part_row0 h]
        rw [View.writes_nil]
        erw [Memref.IsWhole.read_unread]
        pointwise [part]
        split_ifs with h1 h2
        · obtain rfl : j0 = 1 := Fin.ext h1
          rfl
        · obtain rfl : j0 = 0 := Fin.ext h2
          rfl
        · exact (add_zero _).symm
      · rw [outsAt0_B m c t h0 h3]
        frame_out
        idx_vars j
        rw [Rows.read_row, Rows.read_row, part_row1 h, part_row0 h]
        rw [View.writes_nil]
        erw [Memref.IsWhole.read_unread]
        pointwise [part]
        split_ifs with h1 h2
        · obtain rfl : j0 = 1 := Fin.ext h1
          rfl
        · obtain rfl : j0 = 0 := Fin.ext h2
          rfl
        · exact (add_zero _).symm) (le_of_eq N_0) t0_3 rfl j, zero_add]
  rfl

/-- Their sums over all rows. -/
theorem shared_real : Is2 (φ := .f32) ((outsAt0 m c t0_3.val t0_3.isLt).2.2.2.2.2) (fun i k => if i.val = 1 then a.row1 k else if i.val = 0 then a.row0 k else 0) := fun i k => by
  rw [shared h]
  have e := fun f : Fin 2048 → ℝ => Fin.sum_univ_tiles 4 512 rfl f
  have q0 : (ix2 i k : S8x512.Idx) 0 = i := rfl
  have q1 : (ix2 i k : S8x512.Idx) 1 = k := rfl
  unfold Reals.row0 Reals.row1
  simp only [part, q0, q1]
  by_cases h1 : i.val = 1
  · rw [if_pos h1, e]
    simp only [h1, if_true, coe_sum]
    rfl
  · by_cases h2 : i.val = 0
    · have h3 : ¬ i.val = 1 := h1
      rw [if_neg h3, if_pos h2, e]
      simp only [h2, if_true, coe_sum]
      rfl
    · simp only [h1, h2, if_false, Finset.sum_const_zero]
      rfl

omit h in
/-- Each row folded by its own matrix. -/
theorem rows_eq (a : Reals) (i : Fin 8) (l : Fin 128) :
    (if i.val = 0 then ∑ k : Fin 512, (if i.val = 1 then a.row1 k else if i.val = 0 then a.row0 k else 0) * (if in128 k = l then 1 else 0)
      else if i.val = 1 then ∑ k : Fin 512, (if i.val = 1 then a.row1 k else if i.val = 0 then a.row0 k else 0) * (if (in64 k).val = l.val then 1 else 0) else 0)
      = a.rows i l := by
  unfold Reals.rows
  by_cases h0 : i.val = 0
  · have h1 : ¬ i.val = 1 := by omega
    simp only [if_pos h0, if_neg h1]
  · by_cases h1 : i.val = 1
    · simp only [if_neg h0, if_pos h1]
    · simp only [if_neg h0, if_neg h1]

omit h in
/-- A fact about the entries, at an index. -/
theorem at_idx {x : FVec Ideal S8x128 .f32} {f : Fin 8 → Fin 128 → ℝ} (hx : Is2 (φ := .f32) x f) (j : S8x128.Idx) : x j = ((f (j 0) (j 1) : ℝ) : EReal) := by
  idx_vars j
  exact hx _ _

/-- The gradients of the norms' weights. -/
theorem final13 : (dats m 0 c).arrAt 13 cfg0.N = fun j => ((a.rows (j 0) (j 1) : ℝ) : EReal) := by
  refine (dats m 0 c).arrAt_eq_of_after_last 13 t0_3 (by decide +kernel) _ fun j => ?_
  blk_simp
  rw [after0_13]
  have hs := shared_real h
  rw [outsAt0_C m c t0_3 (by decide +kernel) (by decide +kernel)] at hs ⊢
  frame_out
  frame_out at hs
  have e := fold_real hs (blk6 m c t0_3) (blk7 m c t0_3)
  exact (at_idx e j).trans (congrArg _ (rows_eq a _ _))

end Cert.OutStage.Ker
-- ==== Proof.OutStage.Reference.lean ====
module

public import proofs.«01_k».proof.Proof.Gen.OutBwdRefIdeal.Run
public import proofs.«01_k».proof.Proof.OutStage.Math
public import Idealize.ShloMosaic.Lib.Pipeline.ValueKit

/-! # The gradient through the two norms and the gate: what the reference computes -/

@[expose] public section
set_option maxRecDepth 16384
noncomputable section
namespace Cert.OutStage
open Cert.Lift Cert.Prep

/-- Channel `l` of the `i`-th group of 128. -/
def ch (i : Fin 4) (l : Fin 128) : Fin 512 := ⟨i.val * 128 + l.val, by omega⟩
/-- Channel `l` of the `i`-th group of 64. -/
def ch' (i : Fin 8) (l : Fin 64) : Fin 512 := ⟨i.val * 64 + l.val, by omega⟩
theorem at_ch (i : Fin 4) (l k : Fin 128) : at128 (ch i l) k = ch i k := Fin.ext (by show (i.val * 128 + l.val) / 128 * 128 + k.val = i.val * 128 + k.val; omega)
theorem in_ch (i : Fin 4) (l : Fin 128) : in128 (ch i l) = l := Fin.ext (by show (i.val * 128 + l.val) % 128 = l.val; omega)
theorem at_ch' (i : Fin 8) (l k : Fin 64) : at64 (ch' i l) k = ch' i k := Fin.ext (by show (i.val * 64 + l.val) / 64 * 64 + k.val = i.val * 64 + k.val; omega)
theorem in_ch' (i : Fin 8) (l : Fin 64) : in64 (ch' i l) = l := Fin.ext (by show (i.val * 64 + l.val) % 64 = l.val; omega)
theorem ch_div (k : Fin 512) : ch ⟨k.val / 128, by omega⟩ ⟨k.val % 128, by omega⟩ = k := Fin.ext (by show k.val / 128 * 128 + k.val % 128 = k.val; omega)
theorem ch_div' (k : Fin 512) : ch' ⟨k.val / 64, by omega⟩ ⟨k.val % 64, by omega⟩ = k := Fin.ext (by show k.val / 64 * 64 + k.val % 64 = k.val; omega)

/-- The mean square with the division written out. -/
theorem ms_div {n : ℕ} (s : Fin n → ℝ) : (∑ k, s k * s k) / n + tiny = ms s := by
  unfold ms; ring
/-- The norm's gradient as the sum of what passes through the factor and what passes through the mean square. -/
theorem bwd_sum {n : ℕ} (s d : Fin n → ℝ) (l : Fin n) :
    d l * rinv s + s l * ((∑ k, s k * d k) * (-(1 / 2) * (rinv s / ms s)) / n) + ((∑ k, s k * d k) * (-(1 / 2) * (rinv s / ms s)) / n) * s l = bwd s d l := by
  have e : ∑ k, d k * (s k * rinv s) = (∑ k, s k * d k) * rinv s := by
    rw [Finset.sum_mul]; exact Finset.sum_congr rfl fun _ _ => by ring
  unfold bwd
  rw [e, rinv_div]
  ring

/-- The sum over the channels at one place of their groups of 128. -/
theorem sum_place (f : Fin 512 → ℝ) (l : Fin 128) : ∑ k, f k * (if in128 k = l then 1 else 0) = ∑ i, f (ch i l) := by
  rw [Idealize.ShloMosaic.Fin.sum_univ_tiles 4 128 rfl]
  refine Finset.sum_congr rfl fun i _ => ?_
  have e : ∀ t : Fin 128, f (ch i t) * (if in128 (ch i t) = l then 1 else 0) = if t = l then f (ch i t) else 0 := fun t => by
    rw [in_ch]; split_ifs <;> simp
  exact (Finset.sum_congr rfl fun t _ => e t).trans (by simp)
/-- The sum over the channels at one place of their groups of 64. -/
theorem sum_place' (f : Fin 512 → ℝ) (l : Fin 128) :
    ∑ k, f k * (if (in64 k).val = l.val then 1 else 0) = if h : l.val < 64 then ∑ i, f (ch' i ⟨l.val, h⟩) else 0 := by
  rw [Idealize.ShloMosaic.Fin.sum_univ_tiles 8 64 rfl]
  by_cases h : l.val < 64
  · rw [dif_pos h]
    refine Finset.sum_congr rfl fun i _ => ?_
    have e : ∀ t : Fin 64, f (ch' i t) * (if (in64 (ch' i t)).val = l.val then 1 else 0) = if t = ⟨l.val, h⟩ then f (ch' i t) else 0 := fun t => by
      rw [in_ch']; simp only [Fin.ext_iff]; split_ifs <;> simp
    exact (Finset.sum_congr rfl fun t _ => e t).trans (by simp)
  · rw [dif_neg h]
    refine Finset.sum_eq_zero fun i _ => Finset.sum_eq_zero fun t _ => ?_
    rw [if_neg, mul_zero]
    have := (in64 (⟨i.val * 64 + t.val, by omega⟩ : Fin 512)).isLt
    show ¬ (in64 (⟨i.val * 64 + t.val, by omega⟩ : Fin 512)).val = l.val
    omega

/-- The host's sum over the first two axes of three. -/
theorem sum_two {p q n : ℕ} (h : (⟨3, ![p, q, n]⟩ : Idealize.ShloMosaic.Shape).ReducesTo [0, 1] ⟨1, ![n]⟩) (v : (⟨3, ![p, q, n]⟩ : Idealize.ShloMosaic.Shape).Idx → EReal) (l : Fin n) :
    Idealize.ShloMosaic.Ideal.hostReduceAdd h v 0 (Idealize.ShloMosaic.ix1 l) = ∑ r, ∑ i, v (Idealize.ShloMosaic.ix3 r i l) := by
  unfold Idealize.ShloMosaic.Ideal.hostReduceAdd
  rw [zero_add, Finset.sum_filter, Idealize.ShloMosaic.sum_idx3]
  refine Finset.sum_congr rfl fun r _ => Finset.sum_congr rfl fun i _ => ?_
  have e : ∀ k : Fin n, h.drop (Idealize.ShloMosaic.ix3 r i k) = Idealize.ShloMosaic.ix1 l ↔ k = l := fun k => by
    constructor
    · intro hk
      have := congrArg (fun j => (j 0).val) hk
      exact Fin.ext this
    · rintro rfl
      funext b
      obtain rfl : b = 0 := Subsingleton.elim _ _
      rfl
  simp only [e]
  simp

namespace Ref
open Cert.OutBwdRefIdeal Cert.OutBwdRefIdeal.Gen Cert.OutBwdRefIdeal.Value Idealize.ShloMosaic Idealize.ShloMosaic.TcCoe Idealize.SL.Sem

variable (a : Reals) (V0 : Valuation τ sig (Elt Ideal))

/-- The cotangent of the two halves. -/
def y0 : FVec Ideal S2048x1024 .f32 := Host.dotGeneral (φ₁ := .f32) (φ₂ := .f32) dot_S2048x1024_S1024x1024_S2048x1024_1_1_0_0_n_n none (V0 (Proc.devRef .tc main_arg6)) (V0 (Proc.devRef .tc main_arg5))
/-- The recurrence's output by groups. -/
def o3 : FVec Ideal S2048x4x128 .f32 := shapeCast _ (V0 (Proc.devRef .tc main_arg0)) shapeCasts_S2048x512_S2048x4x128
/-- The attention's output by groups. -/
def f3 : FVec Ideal S2048x8x64 .f32 := shapeCast _ (V0 (Proc.devRef .tc main_arg2)) shapeCasts_S2048x512_S2048x8x64
/-- The first half's cotangent by groups. -/
def y4 : FVec Ideal S2048x4x128 .f32 := shapeCast _ (extractStridedSlice S2048x512 ![0, 0] (y0 V0) slices_S2048x1024_S2048x512_0_0) shapeCasts_S2048x512_S2048x4x128
/-- The second half's cotangent by groups. -/
def y5 : FVec Ideal S2048x8x64 .f32 := shapeCast _ (extractStridedSlice S2048x512 ![0, 512] (y0 V0) slices_S2048x1024_S2048x512_0_512) shapeCasts_S2048x512_S2048x8x64
/-- The gate by groups. -/
def y6 : FVec Ideal S2048x4x128 .f32 := shapeCast _ (extractStridedSlice S2048x512 ![0, 1536] (V0 (Proc.devRef .tc main_arg1)) slices_S2048x3600_S2048x512_0_1536) shapeCasts_S2048x512_S2048x4x128
/-- The gate's logistic. -/
def sg : FVec Ideal S2048x4x128 .f32 := Host.divf (broadcastInDim S2048x4x128 ![] bcast_S_S2048x4x128 (constant S_ .f32 0x3F800000#32)) (addf (broadcastInDim S2048x4x128 ![] bcast_S_S2048x4x128 (constant S_ .f32 0x3F800000#32)) (Host.exp (Host.negf (y6 V0))))
/-- The cotangent of the weighted norm. -/
def y7 : FVec Ideal S2048x4x128 .f32 := mulf (y4 V0) (mulf (y6 V0) (sg V0))
/-- The first norm's weight, repeated. -/
def y8 : FVec Ideal S2048x4x128 .f32 := broadcastInDim S2048x4x128 ![0, 1, 2] bcast_S1x1x128_S2048x4x128_0_1_2 (broadcastInDim S1x1x128 ![2] bcast_S128_S1x1x128_2 (V0 (Proc.devRef .tc main_arg3)))
/-- The second norm's cotangent times its weight. -/
def y9 : FVec Ideal S2048x8x64 .f32 := mulf (y5 V0) (broadcastInDim S2048x8x64 ![0, 1, 2] bcast_S1x1x64_S2048x8x64_0_1_2 (broadcastInDim S1x1x64 ![2] bcast_S64_S1x1x64_2 (V0 (Proc.devRef .tc main_arg4))))
/-- The mean squares by groups of 64. -/
def y10 : FVec Ideal S2048x8x1 .f32 := addf (Host.divf (broadcastInDim S2048x8x1 ![0, 1] bcast_S2048x8_S2048x8x1_0_1 (Host.reduceAdd (mulf (f3 V0) (f3 V0)) (constant S_ .f32 0x00000000#32) reducesTo_S2048x8x64_S2048x8_d2 h_S_)) (broadcastInDim S2048x8x1 ![] bcast_S_S2048x8x1 (constant S_ .f32 0x42800000#32))) (broadcastInDim S2048x8x1 ![] bcast_S_S2048x8x1 (constant S_ .f32 0x358637BD#32))
/-- The factors of those groups. -/
def y11 : FVec Ideal S2048x8x64 .f32 := broadcastInDim S2048x8x64 ![0, 1, 2] bcast_S2048x8x1_S2048x8x64_0_1_2 (Host.rsqrt (y10 V0))
/-- The mean squares by groups of 128. -/
def y12 : FVec Ideal S2048x4x1 .f32 := addf (Host.divf (broadcastInDim S2048x4x1 ![0, 1] bcast_S2048x4_S2048x4x1_0_1 (Host.reduceAdd (mulf (o3 V0) (o3 V0)) (constant S_ .f32 0x00000000#32) reducesTo_S2048x4x128_S2048x4_d2 h_S_)) (broadcastInDim S2048x4x1 ![] bcast_S_S2048x4x1 (constant S_ .f32 0x43000000#32))) (broadcastInDim S2048x4x1 ![] bcast_S_S2048x4x1 (constant S_ .f32 0x358637BD#32))
/-- The factors of those groups. -/
def y13 : FVec Ideal S2048x4x128 .f32 := broadcastInDim S2048x4x128 ![0, 1, 2] bcast_S2048x4x1_S2048x4x128_0_1_2 (Host.rsqrt (y12 V0))
/-- The weighted norm times its cotangent. -/
def y14 : FVec Ideal S2048x4x128 .f32 := mulf (mulf (mulf (o3 V0) (y13 V0)) (y8 V0)) (y4 V0)
/-- What passes through the mean square, groups of 64. -/
def y15 : FVec Ideal S2048x8x64 .f32 := broadcastInDim S2048x8x64 ![0, 1] bcast_S2048x8_S2048x8x64_0_1 (Host.reduceAdd (Host.divf (mulf (shapeCast _ (Host.reduceAdd (mulf (f3 V0) (y9 V0)) (constant S_ .f32 0x00000000#32) reducesTo_S2048x8x64_S2048x8_d2 h_S_) shapeCasts_S2048x8_S2048x8x1) (mulf (broadcastInDim S2048x8x1 ![] bcast_S_S2048x8x1 (constant S_ .f32 0xBF000000#32)) (Host.divf (Host.rsqrt (y10 V0)) (y10 V0)))) (broadcastInDim S2048x8x1 ![] bcast_S_S2048x8x1 (constant S_ .f32 0x42800000#32))) (constant S_ .f32 0x00000000#32) reducesTo_S2048x8x1_S2048x8_d2 h_S_)
/-- The gradient of the attention's output by groups. -/
def y16 : FVec Ideal S2048x8x64 .f32 := addf (addf (mulf (y9 V0) (y11 V0)) (mulf (f3 V0) (y15 V0))) (mulf (y15 V0) (f3 V0))
/-- What passes through the mean square, groups of 128. -/
def y17 : FVec Ideal S2048x4x128 .f32 := broadcastInDim S2048x4x128 ![0, 1] bcast_S2048x4_S2048x4x128_0_1 (Host.reduceAdd (Host.divf (mulf (shapeCast _ (Host.reduceAdd (mulf (o3 V0) (mulf (y7 V0) (y8 V0))) (constant S_ .f32 0x00000000#32) reducesTo_S2048x4x128_S2048x4_d2 h_S_) shapeCasts_S2048x4_S2048x4x1) (mulf (broadcastInDim S2048x4x1 ![] bcast_S_S2048x4x1 (constant S_ .f32 0xBF000000#32)) (Host.divf (Host.rsqrt (y12 V0)) (y12 V0)))) (broadcastInDim S2048x4x1 ![] bcast_S_S2048x4x1 (constant S_ .f32 0x43000000#32))) (constant S_ .f32 0x00000000#32) reducesTo_S2048x4x1_S2048x4_d2 h_S_)
/-- The first result. -/
def p0 : FVec Ideal S2048x512 .f32 := shapeCast _ (addf (addf (mulf (mulf (y7 V0) (y8 V0)) (y13 V0)) (mulf (o3 V0) (y17 V0))) (mulf (y17 V0) (o3 V0))) shapeCasts_S2048x4x128_S2048x512
/-- The second result. -/
def p1 : FVec Ideal S2048x512 .bf16 := truncf .bf16 (shapeCast _ (addf (mulf (y14 V0) (sg V0)) (mulf (mulf (y6 V0) (y14 V0)) (mulf (sg V0) (subf (broadcastInDim S2048x4x128 ![] bcast_S_S2048x4x128 (constant S_ .f32 0x3F800000#32)) (sg V0))))) shapeCasts_S2048x4x128_S2048x512) bitsLt_bf16_f32
/-- The third result. -/
def p2 : FVec Ideal S2048x512 .f32 := shapeCast _ (y16 V0) shapeCasts_S2048x8x64_S2048x512
/-- The fourth result. -/
def p3 : FVec Ideal S2048x512 .f32 := shapeCast _ (broadcastInDim S2048x8x64 ![0, 1, 2] bcast_S2048x8x1_S2048x8x64_0_1_2 (broadcastInDim S2048x8x1 ![0, 1] bcast_S2048x8_S2048x8x1_0_1 (Host.reduceAdd (shapeCast _ (mulf (p2 V0) (V0 (Proc.devRef .tc main_arg2))) shapeCasts_S2048x512_S2048x8x64) (constant S_ .f32 0x00000000#32) reducesTo_S2048x8x64_S2048x8_d2 h_S_))) shapeCasts_S2048x8x64_S2048x512
/-- The sums of the first weight's gradient over rows and groups. -/
def r0 : FVec Ideal S128 .f32 := Host.reduceAdd (mulf (mulf (o3 V0) (y13 V0)) (y7 V0)) (constant S_ .f32 0x00000000#32) reducesTo_S2048x4x128_S128_d0_1 h_S_
/-- The fifth result's first row. -/
def q0 : FVec Ideal S1x128 .f32 := broadcastInDim S1x128 ![1] bcast_S128_S1x128_1 (Host.reduceAdd (shapeCast _ (r0 V0) shapeCasts_S128_S1x1x128) (constant S_ .f32 0x00000000#32) reducesTo_S1x1x128_S128_d0_1 h_S_)
/-- The sums of the second weight's gradient over rows and groups. -/
def r1 : FVec Ideal S64 .f32 := Host.reduceAdd (mulf (mulf (f3 V0) (y11 V0)) (y5 V0)) (constant S_ .f32 0x00000000#32) reducesTo_S2048x8x64_S64_d0_1 h_S_
/-- The fifth result's second row. -/
def q1 : FVec Ideal S1x128 .f32 := broadcastInDim S1x128 ![1] bcast_S128_S1x128_1 (pad S128 ![0] ![64] ![0] (Host.reduceAdd (shapeCast _ (r1 V0) shapeCasts_S64_S1x1x64) (constant S_ .f32 0x00000000#32) reducesTo_S1x1x64_S64_d0_1 h_S_) (sitofp .f32 (constantI S_ 32 0#32)) pads_S64_S128_0640 h_S_)
/-- The fifth result. -/
def p4 : FVec Ideal S8x128 .f32 := concatenate S8x128 0 [⟨S1x128, q0 V0⟩, ⟨S1x128, q1 V0⟩, ⟨S6x128, broadcastInDim S6x128 ![] bcast_S_S6x128 (constant S_ .f32 0x00000000#32)⟩] concatenates_S1x128_S1x128_S6x128_S8x128_d0

/-- The reference's argument arrays hold the reals `a`. -/
structure Holds : Prop where
  o : Is2 (φ := .f32) (V0 (Proc.devRef .tc main_arg0)) a.o
  z : ∀ (r : Fin 2048) (k : Fin 512), (V0 (Proc.devRef .tc main_arg1) (ix2 r (⟨1536 + k.val, by omega⟩ : Fin 3600)) : EReal) = ((a.z r k : ℝ) : EReal)
  f : Is2 (φ := .f32) (V0 (Proc.devRef .tc main_arg2)) a.f
  g : ∀ k : Fin 128, (V0 (Proc.devRef .tc main_arg3) (ix1 k) : EReal) = ((a.g k : ℝ) : EReal)
  h : ∀ k : Fin 64, (V0 (Proc.devRef .tc main_arg4) (ix1 k) : EReal) = ((a.h k : ℝ) : EReal)
  w : Is2 (φ := .f32) (V0 (Proc.devRef .tc main_arg5)) a.w
  d : Is2 (φ := .f32) (V0 (Proc.devRef .tc main_arg6)) a.d

variable {a V0} (h : Holds a V0)
include h

theorem y0_real : Is2 (φ := .f32) (y0 V0) a.dm := fun r k => by
  have hd := h.d
  have hw := h.w
  unfold Is2 at hd hw
  pointwise [y0, hd, hw]
  simp only [← EReal.coe_mul, coe_sum]
  rfl
theorem o3_real (r : Fin 2048) (i : Fin 4) (l : Fin 128) : (o3 V0 (ix3 r i l) : EReal) = ((a.o r (ch i l) : ℝ) : EReal) := by
  have ho := h.o
  unfold Is2 at ho
  pointwise [o3, ho]
  rfl
theorem f3_real (r : Fin 2048) (i : Fin 8) (l : Fin 64) : (f3 V0 (ix3 r i l) : EReal) = ((a.f r (ch' i l) : ℝ) : EReal) := by
  have ho := h.f
  unfold Is2 at ho
  pointwise [f3, ho]
  rfl
theorem y4_real (r : Fin 2048) (i : Fin 4) (l : Fin 128) : (y4 V0 (ix3 r i l) : EReal) = ((a.d0 r (ch i l) : ℝ) : EReal) := by
  have hy := y0_real h
  unfold Is2 at hy
  pointwise [y4, hy]
  rfl
theorem y5_real (r : Fin 2048) (i : Fin 8) (l : Fin 64) : (y5 V0 (ix3 r i l) : EReal) = ((a.d1 r (ch' i l) : ℝ) : EReal) := by
  have hy := y0_real h
  unfold Is2 at hy
  pointwise [y5, hy]
  rfl
theorem y6_real (r : Fin 2048) (i : Fin 4) (l : Fin 128) : (y6 V0 (ix3 r i l) : EReal) = ((a.z r (ch i l) : ℝ) : EReal) := by
  have hz := fun k => h.z r k
  pointwise [y6]
  exact hz (ch i l)
theorem sg_real (r : Fin 2048) (i : Fin 4) (l : Fin 128) : (sg V0 (ix3 r i l) : EReal) = ((logis (a.z r (ch i l)) : ℝ) : EReal) := by
  have hy := y6_real h
  pointwise [sg, hy]
  exact logis_real _
theorem y7_real (r : Fin 2048) (i : Fin 4) (l : Fin 128) : (y7 V0 (ix3 r i l) : EReal) = ((dn (a.z r) (a.d0 r) (ch i l) : ℝ) : EReal) := by
  have h4 := y4_real h
  have h6 := y6_real h
  have hs := sg_real h
  pointwise [y7, h4, h6, hs]
  simp only [← EReal.coe_mul]
  rfl
theorem y8_real (r : Fin 2048) (i : Fin 4) (l : Fin 128) : (y8 V0 (ix3 r i l) : EReal) = ((a.g l : ℝ) : EReal) := by
  have hg := h.g
  pointwise [y8, hg]
theorem y9_real (r : Fin 2048) (i : Fin 8) (l : Fin 64) : (y9 V0 (ix3 r i l) : EReal) = ((a.d1 r (ch' i l) * a.h l : ℝ) : EReal) := by
  have hg := h.h
  have h5 := y5_real h
  pointwise [y9, hg, h5]
  simp only [← EReal.coe_mul]
theorem y10_real (r : Fin 2048) (i : Fin 8) (l : Fin 1) : (y10 V0 (ix3 r i l) : EReal) = ((ms fun l => a.f r (ch' i l) : ℝ) : EReal) := by
  have hf := f3_real h
  pointwise [y10, hf]
  simp only [lit_64, lit_tiny, lit_zero, zero_add, ← EReal.coe_mul, coe_sum, div_real (show (64 : ℝ) ≠ 0 by norm_num), ← EReal.coe_add]
  exact congrArg _ (ms_div fun l => a.f r (ch' i l))
theorem y11_real (r : Fin 2048) (i : Fin 8) (l : Fin 64) : (y11 V0 (ix3 r i l) : EReal) = ((rinv fun l => a.f r (ch' i l) : ℝ) : EReal) := by
  have hy := y10_real h
  pointwise [y11, hy]
  simp only [rsqrt_real (ms_pos _)]
  rfl
theorem y12_real (r : Fin 2048) (i : Fin 4) (l : Fin 1) : (y12 V0 (ix3 r i l) : EReal) = ((ms fun l => a.o r (ch i l) : ℝ) : EReal) := by
  have hf := o3_real h
  pointwise [y12, hf]
  simp only [lit_128, lit_tiny, lit_zero, zero_add, ← EReal.coe_mul, coe_sum, div_real (show (128 : ℝ) ≠ 0 by norm_num), ← EReal.coe_add]
  exact congrArg _ (ms_div fun l => a.o r (ch i l))
theorem y13_real (r : Fin 2048) (i : Fin 4) (l : Fin 128) : (y13 V0 (ix3 r i l) : EReal) = ((rinv fun l => a.o r (ch i l) : ℝ) : EReal) := by
  have hy := y12_real h
  pointwise [y13, hy]
  simp only [rsqrt_real (ms_pos _)]
  rfl
theorem y14_real (r : Fin 2048) (i : Fin 4) (l : Fin 128) :
    (y14 V0 (ix3 r i l) : EReal) = ((a.o r (ch i l) * (rinv fun l => a.o r (ch i l)) * a.g l * a.d0 r (ch i l) : ℝ) : EReal) := by
  have h0 := o3_real h
  have h1 := y13_real h
  have h2 := y8_real h
  have h3 := y4_real h
  pointwise [y14, h0, h1, h2, h3]
  simp only [← EReal.coe_mul]
theorem y15_real (r : Fin 2048) (i : Fin 8) (l : Fin 64) : (y15 V0 (ix3 r i l) : EReal)
    = (((∑ k, a.f r (ch' i k) * (a.d1 r (ch' i k) * a.h k)) * (-(1 / 2) * ((rinv fun l => a.f r (ch' i l)) / ms fun l => a.f r (ch' i l))) / (64 : ℕ) : ℝ) : EReal) := by
  have h0 := f3_real h
  have h1 := y9_real h
  have h2 := y10_real h
  pointwise [y15, h0, h1, h2]
  simp only [Nat.cast_ofNat, lit_64, lit_zero, lit_neg_half, zero_add, rsqrt_real (ms_pos _), div_real (ms_pos _).ne', ← EReal.coe_mul, coe_sum, div_real (show (64 : ℝ) ≠ 0 by norm_num)]
  exact congrArg _ (Fin.sum_univ_one _)
theorem y17_real (r : Fin 2048) (i : Fin 4) (l : Fin 128) : (y17 V0 (ix3 r i l) : EReal)
    = (((∑ k, a.o r (ch i k) * (dn (a.z r) (a.d0 r) (ch i k) * a.g k)) * (-(1 / 2) * ((rinv fun l => a.o r (ch i l)) / ms fun l => a.o r (ch i l))) / (128 : ℕ) : ℝ) : EReal) := by
  have h0 := o3_real h
  have h1 := y7_real h
  have h2 := y12_real h
  have h3 := y8_real h
  pointwise [y17, h0, h1, h2, h3]
  simp only [Nat.cast_ofNat, lit_128, lit_zero, lit_neg_half, zero_add, rsqrt_real (ms_pos _), div_real (ms_pos _).ne', ← EReal.coe_mul, coe_sum, div_real (show (128 : ℝ) ≠ 0 by norm_num)]
  exact congrArg _ (Fin.sum_univ_one _)

theorem y16_real (r : Fin 2048) (i : Fin 8) (l : Fin 64) : (y16 V0 (ix3 r i l) : EReal) = ((a.dof r (ch' i l) : ℝ) : EReal) := by
  have h0 := f3_real h
  have h1 := y9_real h
  have h2 := y11_real h
  have h3 := y15_real h
  pointwise [y16, h0, h1, h2, h3]
  simp only [← EReal.coe_mul, ← EReal.coe_add]
  have e := bwd_sum (fun k => a.f r (ch' i k)) (fun k => a.d1 r (ch' i k) * a.h k) l
  unfold Reals.dof dfr
  simp only [at_ch', in_ch']
  exact congrArg _ e
theorem p0_real : Is2 (φ := .f32) (p0 V0) a.dog := fun r k => by
  have h0 := o3_real h
  have h1 := y7_real h
  have h2 := y8_real h
  have h3 := y13_real h
  have h4 := y17_real h
  pointwise [p0, h0, h1, h2, h3, h4]
  simp only [← EReal.coe_mul, ← EReal.coe_add]
  have e := bwd_sum (fun l => a.o r (ch ⟨k.val / 128, by omega⟩ l)) (fun l => dn (a.z r) (a.d0 r) (ch ⟨k.val / 128, by omega⟩ l) * a.g l) ⟨k.val % 128, by omega⟩
  exact congrArg _ e
theorem p1_real : Is2 (φ := .bf16) (p1 V0) a.dz := fun r k => by
  have h0 := y14_real h
  have h1 := sg_real h
  have h2 := y6_real h
  pointwise [p1, h0, h1, h2]
  rw [EReal.coe_one.symm]
  simp only [← EReal.coe_mul, ← EReal.coe_add, ← EReal.coe_sub, ch_div]
  unfold Reals.dz dzr xg
  refine congrArg _ ?_
  have e1 : (⟨k.val % 128, by omega⟩ : Fin 128) = in128 k := rfl
  have e2 : (fun l => a.o r (ch ⟨k.val / 128, by omega⟩ l)) = fun l => a.o r (at128 k l) := rfl
  rw [e1, e2]
  ring
theorem p2_real : Is2 (φ := .f32) (p2 V0) a.dof := fun r k => by
  have h0 := y16_real h
  pointwise [p2, h0]
  rw [ch_div']
theorem p3_real : Is2 (φ := .f32) (p3 V0) a.dl := fun r k => by
  have h0 := p2_real h
  have hf := h.f
  unfold Is2 at h0 hf
  pointwise [p3, h0, hf]
  simp only [lit_zero, zero_add, ← EReal.coe_mul, coe_sum]
  rfl
theorem r0_real (l : Fin 128) : (r0 V0 (ix1 l) : EReal) = ((∑ r, ∑ i, a.o r (ch i l) * (rinv fun l => a.o r (ch i l)) * dn (a.z r) (a.d0 r) (ch i l) : ℝ) : EReal) := by
  have h0 := o3_real h
  have h1 := y13_real h
  have h2 := y7_real h
  pointwise [r0, h0, h1, h2]
  refine (sum_two _ _ _).trans ?_
  pointwise [h0, h1, h2]
  simp only [← EReal.coe_mul, coe_sum]
theorem r1_real (l : Fin 64) : (r1 V0 (ix1 l) : EReal) = ((∑ r, ∑ i, a.f r (ch' i l) * (rinv fun l => a.f r (ch' i l)) * a.d1 r (ch' i l) : ℝ) : EReal) := by
  have h0 := f3_real h
  have h1 := y11_real h
  have h2 := y5_real h
  pointwise [r1, h0, h1, h2]
  refine (sum_two _ _ _).trans ?_
  pointwise [h0, h1, h2]
  simp only [← EReal.coe_mul, coe_sum]
theorem q0_real (i : Fin 1) (l : Fin 128) : (q0 V0 (ix2 i l) : EReal) = ((∑ k : Fin 512, a.row0 k * (if in128 k = l then 1 else 0) : ℝ) : EReal) := by
  have h0 := r0_real h
  rw [sum_place]
  pointwise [q0, h0]
  refine (sum_two _ _ _).trans ?_
  rw [Fin.sum_univ_one, Fin.sum_univ_one]
  pointwise [h0]
  refine congrArg _ (Finset.sum_comm.trans (Finset.sum_congr rfl fun i _ => Finset.sum_congr rfl fun r _ => ?_))
  unfold xg
  simp only [at_ch]
  ring
theorem q1_real (i : Fin 1) (l : Fin 128) : (q1 V0 (ix2 i l) : EReal) = ((∑ k : Fin 512, a.row1 k * (if (in64 k).val = l.val then 1 else 0) : ℝ) : EReal) := by
  have h0 := r1_real h
  rw [sum_place']
  pointwise [q1, h0]
  by_cases hl : l.val < 64
  · rw [dif_pos hl, dif_pos hl]
    refine (sum_two _ _ _).trans ?_
    rw [Fin.sum_univ_one, Fin.sum_univ_one]
    pointwise [h0]
    refine congrArg _ (Finset.sum_comm.trans (Finset.sum_congr rfl fun i _ => Finset.sum_congr rfl fun r _ => ?_))
    unfold xf
    simp only [at_ch']
    ring
  · rw [dif_neg hl, dif_neg hl]
    show (((0#32 : BitVec 32).toInt : ℝ) : EReal) = ((0 : ℝ) : EReal)
    simp
theorem p4_real : Is2 (φ := .f32) (p4 V0) a.rows := fun i l => by
  have h0 := q0_real h
  have h1 := q1_real h
  pointwise [p4, h0, h1]
  unfold Reals.rows
  by_cases e0 : i.val = 0
  · rw [dif_pos (by omega), if_pos e0]
  · by_cases e1 : i.val = 1
    · rw [dif_neg (by omega), dif_pos (by omega), if_neg e0, if_pos e1]
    · rw [dif_neg (by omega), dif_neg (by omega), if_neg e0, if_neg e1]
      rfl

omit h in
/-- The reference's run, its five results read as real arrays. -/
theorem run (m : (ℓ : Loc nD τ sig) → Buf (Elt Ideal) ℓ) (a : Dev nD → Reals) (g : Dev nD → PrngReg) (h : ∀ c, Holds (a c) (StableHlo.launchContents m c)) :
    θ_run defs (onTc (τ := τ) (main (F := Ideal))) ⟨m, fun _ => 0, g⟩ fun r => ∀ c : Dev nD,
      r.2.mem ((c.tc : Thread nD τ).loc main_v92) = (fun j : S2048x512.Idx => (((a c).dog (j 0) (j 1) : ℝ) : EReal))
      ∧ r.2.mem ((c.tc : Thread nD τ).loc main_v104) = (fun j : S2048x512.Idx => (((a c).dz (j 0) (j 1) : ℝ) : EReal))
      ∧ r.2.mem ((c.tc : Thread nD τ).loc main_v66) = (fun j : S2048x512.Idx => (((a c).dof (j 0) (j 1) : ℝ) : EReal))
      ∧ r.2.mem ((c.tc : Thread nD τ).loc main_v98) = (fun j : S2048x512.Idx => (((a c).dl (j 0) (j 1) : ℝ) : EReal))
      ∧ r.2.mem ((c.tc : Thread nD τ).loc main_v103) = (fun j : S8x128.Idx => (((a c).rows (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r hr c => ⟨(hr c).1.trans ?_, (hr c).2.1.trans ?_, (hr c).2.2.1.trans ?_, (hr c).2.2.2.1.trans ?_, (hr c).2.2.2.2.1.trans ?_, (hr c).2.2.2.2.2⟩) (Value.run m g)
  · have e : res_main_v92 m c = p0 (StableHlo.launchContents m c) := by unfold res_main_v92; rfl
    exact e.trans (funext fun j => by idx_vars j; exact p0_real (h c) _ _)
  · exact Eq.trans (b := p1 (StableHlo.launchContents m c)) rfl (funext fun j => by idx_vars j; exact p1_real (h c) _ _)
  · have e : res_main_v66 m c = p2 (StableHlo.launchContents m c) := by unfold res_main_v66; rfl
    exact e.trans (funext fun j => by idx_vars j; exact p2_real (h c) _ _)
  · have e : res_main_v98 m c = p3 (StableHlo.launchContents m c) := by unfold res_main_v98; rfl
    exact e.trans (funext fun j => by idx_vars j; exact p3_real (h c) _ _)
  · exact Eq.trans (b := p4 (StableHlo.launchContents m c)) rfl (funext fun j => by idx_vars j; exact p4_real (h c) _ _)

end Ref
end Cert.OutStage
-- ==== Proof.OutStage.Claim.lean ====
module

public import proofs.«01_k».proof.Defs
public import proofs.«01_k».proof.Proof.Gen.OutBwdIdeal
public import proofs.«01_k».proof.Proof.Gen.OutBwdRefIdeal
public import proofs.«01_k».proof.Proof.Gen.Pre_out_finite
public import proofs.«01_k».proof.Proof.OutStage.Kernel
public import proofs.«01_k».proof.Proof.OutStage.Reference

/-! # The gradient through the two norms and the gate: kernel and reference agree on finite arguments -/

@[expose] public section
set_option maxRecDepth 16384
noncomputable section
namespace Cert.OutStage
open Cert.Lift Idealize.ShloMosaic Idealize.ShloMosaic.TcCoe Idealize.SL.Sem Cert.OutBwdIdeal

/-- The reals in the kernel's arguments. -/
def reals (m : (ℓ : Loc nD τ sig) → Buf (Elt Ideal) ℓ) (c : Dev nD) : Reals where
  o r k := EReal.toReal (m ((c.tc : Thread nD τ).loc main_arg0) (ix2 r k))
  z r k := EReal.toReal (m ((c.tc : Thread nD τ).loc main_arg1) (ix2 r (⟨1536 + k.val, by omega⟩ : Fin 3600)))
  f r k := EReal.toReal (m ((c.tc : Thread nD τ).loc main_arg2) (ix2 r k))
  g k := EReal.toReal (m ((c.tc : Thread nD τ).loc main_arg3) (ix1 k))
  h k := EReal.toReal (m ((c.tc : Thread nD τ).loc main_arg4) (ix1 k))
  w i k := EReal.toReal (m ((c.tc : Thread nD τ).loc main_arg5) (ix2 i k))
  d r k := EReal.toReal (m ((c.tc : Thread nD τ).loc main_arg6) (ix2 r k))

open Cert.Pre_out_finite in
/-- Under the precondition the arguments are those reals. -/
theorem holds (m : (ℓ : Loc nD τ sig) → Buf (Elt Ideal) ℓ) (hp : Cert.Pre_OutBwdIdeal_out_finite m) (c : Dev nD) :
    Ker.Holds m c (reals m c) := by
  obtain ⟨h0, h1, h2, h3, h4, h5, h6⟩ := hp c
  refine ⟨fun r l => ?_, fun r l => ?_, fun r l => ?_, fun l => ?_, fun l => ?_, fun r l => ?_, fun r l => ?_⟩
  · have h := congrFun h0 (ix2 r l)
    pointwise [fn, fn_part1] at h
    exact coe_of_test h
  · have h := congrFun h1 (ix2 r (⟨1536 + l.val, by omega⟩ : Fin 3600))
    pointwise [fn, fn_part1] at h
    exact coe_of_test h
  · have h := congrFun h2 (ix2 r l)
    pointwise [fn, fn_part1] at h
    exact coe_of_test h
  · have h := congrFun h3 (ix1 l)
    pointwise [fn, fn_part1] at h
    exact coe_of_test h
  · have h := congrFun h4 (ix1 l)
    pointwise [fn, fn_part1] at h
    exact coe_of_test h
  · have h := congrFun h5 (ix2 r l)
    pointwise [fn, fn_part1] at h
    exact coe_of_test h
  · have h := congrFun h6 (ix2 r l)
    pointwise [fn, fn_part1] at h
    exact coe_of_test h

/-- Kernel and reference return the same five arrays. -/
theorem algebraic : Cert.algebraic_OutBwdIdeal_OutBwdRefIdeal_pre_out_finite := by
  intro m g m' g' hp hm
  have hk := holds m hp
  have hr : ∀ c, Ref.Holds (reals m c) (StableHlo.launchContents m' c) := fun c => by
    obtain ⟨e0, e1, e2, e3, e4, e5, e6⟩ := hm c
    exact ⟨fun r l => (congrFun e0 _).trans ((hk c).o r l),
      fun r l => (congrFun e1 _).trans ((hk c).z r l),
      fun r l => (congrFun e2 _).trans ((hk c).f r l),
      fun l => (congrFun e3 _).trans ((hk c).g l),
      fun l => (congrFun e4 _).trans ((hk c).h l),
      fun r l => (congrFun e5 _).trans ((hk c).w r l),
      fun r l => (congrFun e6 _).trans ((hk c).d r l)⟩
  refine ⟨fun c j => (((reals m c).dog (j 0) (j 1) : ℝ) : EReal), fun c j => (((reals m c).dz (j 0) (j 1) : ℝ) : EReal), fun c j => (((reals m c).dof (j 0) (j 1) : ℝ) : EReal), fun c j => (((reals m c).dl (j 0) (j 1) : ℝ) : EReal), fun c j => (((reals m c).rows (j 0) (j 1) : ℝ) : EReal), ?_,
    Ref.run m' (reals m) g' hr⟩
  exact (θ_run _ _ _).mono (fun r h c => ⟨(h c).1.trans (Ker.final9 (hk c)), (h c).2.1.trans (Ker.final10 (hk c)), (h c).2.2.1.trans (Ker.final11 (hk c)),
      (h c).2.2.2.1.trans (Ker.final12 (hk c)), (h c).2.2.2.2.1.trans (Ker.final13 (hk c)), (h c).2.2.2.2.2⟩)
    (Cert.OutBwdIdeal.Value.run_blocks m g)

/-- The reference alone: it terminates, keeps its arguments and leaves every counter at zero. -/
theorem ref_frame : Cert.quiescent_OutBwdRefIdeal := fun m g _ =>
  (θ_run _ _ _).mono (fun r h => ⟨fun c => (h c).2.2.2.2.2, sem_eq_zero_of_no_sems (by decide) r.2⟩) (Cert.OutBwdRefIdeal.Value.run m g)

end Cert.OutStage
-- ==== Proof.Mlp.Math.lean ====
module

public import proofs.«01_k».proof.Proof.Math.LayerNorm
public import proofs.«01_k».proof.Proof.Prep.Math

/-! # The feed-forward block with its loss: forward values and gradients, over the reals -/

@[expose] public section
noncomputable section
namespace Cert.Mlp
open Cert.Lift Cert.Prep

theorem lit_one : Idealize.ShloMosaic.Ideal.ofBits .f32 0x3F800000#32 = ((1 : ℝ) : EReal) := by
  simp [Idealize.ShloMosaic.Ideal.ofBits, Idealize.ShloMosaic.Ideal.ieee, -EReal.coe_mul]; norm_num
theorem lit_half : Idealize.ShloMosaic.Ideal.ofBits .f32 0x3F000000#32 = ((1 / 2 : ℝ) : EReal) := by
  simp [Idealize.ShloMosaic.Ideal.ofBits, Idealize.ShloMosaic.Ideal.ieee, -EReal.coe_mul]; norm_num
theorem lit_1024th : Idealize.ShloMosaic.Ideal.ofBits .f32 0x3A800000#32 = ((1 / 1024 : ℝ) : EReal) := by
  simp [Idealize.ShloMosaic.Ideal.ofBits, Idealize.ShloMosaic.Ideal.ieee, -EReal.coe_mul]; norm_num
/-- The larger of a real and zero. -/
theorem max_real (x : ℝ) : max (x : EReal) ((0 : ℝ) : EReal) = ((max x 0 : ℝ) : EReal) := by
  rcases le_total x 0 with h | h
  · rw [max_eq_right h, max_eq_right (EReal.coe_le_coe_iff.mpr h)]
  · rw [max_eq_left h, max_eq_left (EReal.coe_le_coe_iff.mpr h)]

/-- The reals in the arguments: the normed stream's rows, the second input's rows, the targets, the two norms' weights, the gate's
shift, and the four matrices. -/
structure Reals where
  z : Fin 2048 → Fin 1024 → ℝ
  p : Fin 2048 → Fin 256 → ℝ
  t : Fin 2048 → Fin 1024 → ℝ
  g1 : Fin 1024 → ℝ
  b1 : Fin 1024 → ℝ
  wu : Fin 1024 → Fin 4096 → ℝ
  wd : Fin 4096 → Fin 1024 → ℝ
  wp : Fin 256 → Fin 1024 → ℝ
  wg : Fin 1024 → Fin 1024 → ℝ
  bg : Fin 1024 → ℝ
  g2 : Fin 1024 → ℝ
  b2 : Fin 1024 → ℝ

namespace Reals
variable (a : Reals) (r : Fin 2048)
/-- The first norm's output. -/
def h1 (l : Fin 1024) : ℝ := LayerNorm.xhat (a.z r) l * a.g1 l + a.b1 l
/-- The rectified hidden channels. -/
def rl (k : Fin 4096) : ℝ := max (∑ l, a.h1 r l * a.wu l k) 0
/-- The second input's projection. -/
def pw (l : Fin 1024) : ℝ := ∑ k, a.p r k * a.wp k l
/-- The gate. -/
def gate (l : Fin 1024) : ℝ := logis (∑ k, a.h1 r k * a.wg k l + a.bg l)
/-- The sum that enters the second norm. -/
def z2 (l : Fin 1024) : ℝ := alpha * a.h1 r l + ∑ k, a.rl r k * a.rl r k * a.wd k l + a.pw r l * a.gate r l
/-- The output less the target. -/
def err (l : Fin 1024) : ℝ := LayerNorm.xhat (a.z2 r) l * a.g2 l + a.b2 l - a.t r l
/-- The loss's gradient at the output. -/
def dy (l : Fin 1024) : ℝ := a.err r l * (1 / 1024)
/-- The gradient at the second norm's input. -/
def dz2 (l : Fin 1024) : ℝ := LayerNorm.bwd (a.z2 r) (fun k => a.dy r k * a.g2 k) l
/-- The gradient of the second input's projection. -/
def dpw (l : Fin 1024) : ℝ := a.dz2 r l * a.gate r l
/-- The gradient at the gate's logits. -/
def dgl (l : Fin 1024) : ℝ := a.dz2 r l * a.pw r l * a.gate r l * (1 - a.gate r l)
/-- The gradient at the hidden channels. -/
def du (k : Fin 4096) : ℝ := (∑ l, a.dz2 r l * a.wd k l) * (2 * a.rl r k)
/-- The gradient at the first norm's output. -/
def dh1 (l : Fin 1024) : ℝ := alpha * a.dz2 r l + ∑ k, a.dgl r k * a.wg l k + ∑ k, a.du r k * a.wu l k
/-- The gradient at the first norm's input. -/
def dz1 (l : Fin 1024) : ℝ := LayerNorm.bwd (a.z r) (fun k => a.dh1 r k * a.g1 k) l
/-- One row's share of the eight rows of sums. -/
def share (i : Fin 8) (l : Fin 1024) : ℝ :=
  if i.val = 0 then a.dy r l * LayerNorm.xhat (a.z2 r) l else if i.val = 1 then a.dy r l else if i.val = 2 then a.dgl r l
  else if i.val = 3 then a.dh1 r l * LayerNorm.xhat (a.z r) l else if i.val = 4 then a.dh1 r l
  else if i.val = 5 then 1 / 2 * a.err r l * a.dy r l else 0
/-- The rows of sums: the gradients of the norms' weights and the gate's shift, and the loss by channels. -/
def rows (i : Fin 8) (l : Fin 1024) : ℝ := ∑ r, a.share r i l
end Reals
end Cert.Mlp
-- ==== Proof.Mlp.Block.lean ====
module

public import proofs.«01_k».proof.Proof.Gen.MlpStepIdeal
public import proofs.«01_k».proof.Proof.Mlp.Math
public import proofs.«01_k».proof.Proof.Math.Place
public import proofs.«01_k».proof.Proof.Gen.MlpStepIdeal.Frame

/-! # The feed-forward block's kernel: the values of one block of 256 rows -/

@[expose] public section
set_option maxRecDepth 16384
noncomputable section
namespace Cert.Mlp
open Cert.Lift Cert.Prep
/-- Column `k` of group `c` of 512 hidden channels. -/
def col (c : Fin 8) (k : Fin 512) : Fin 4096 := ⟨c.val * 512 + k.val, by omega⟩
/-- Column `k` of group `c` of 128 channels. -/
def pcol (c : Fin 8) (k : Fin 128) : Fin 1024 := ⟨c.val * 128 + k.val, by omega⟩
namespace Reals
variable (a : Reals) (r : Fin 2048)
/-- One group's share of the gradient at the first norm's output. -/
def up (c : Fin 8) (l : Fin 1024) : ℝ := ∑ k, a.du r (col c k) * a.wu l (col c k)
/-- The gradient at the first norm's output before the hidden channels' shares. -/
def dh0 (l : Fin 1024) : ℝ := alpha * a.dz2 r l + ∑ k, a.dgl r k * a.wg l k
theorem dh1_eq (l : Fin 1024) : a.dh0 r l + a.up r 0 l + a.up r 1 l + a.up r 2 l + a.up r 3 l + a.up r 4 l + a.up r 5 l + a.up r 6 l + a.up r 7 l
    = a.dh1 r l := by
  have h : ∑ k, a.du r k * a.wu l k = ∑ c, a.up r c l := by
    rw [Idealize.ShloMosaic.Fin.sum_univ_tiles 8 512 rfl]
    rfl
  unfold dh1
  rw [h, Fin.sum_univ_eight]
  unfold dh0
  ring
end Reals
namespace Ker
open Idealize.ShloMosaic Idealize.ShloMosaic.TcCoe Idealize.SL.Sem Cert.MlpStepIdeal Cert.MlpStepIdeal.Gen
variable {a : Reals} {ρ : Fin 256 → Fin 2048}

section
variable {X : Fin 1024 → ℝ} {v : FVec Ideal S1x1024 .f32} (h : Is2 (φ := .f32) v fun _ : Fin 1 => X)
include h
theorem pay3 : Is2 (φ := .f32) (k0_pay3 (F := Ideal) v) fun _ : Fin 1 => X := fun i l => by
  unfold Is2 at *
  pointwise [k0_pay3, h]
theorem pay4 : Is2 (φ := .f32) (k0_pay4 (F := Ideal) v) fun _ : Fin 1 => X := pay3 h
theorem pay5 : Is2 (φ := .f32) (k0_pay5 (F := Ideal) v) fun _ : Fin 1 => X := pay3 h
theorem pay6 : Is2 (φ := .f32) (k0_pay6 (F := Ideal) v) fun _ : Fin 1 => X := pay3 h
end

section
variable {v13 : FVec Ideal S256x1024 .f32} (h : Is2 (φ := .f32) v13 fun p => a.z (ρ p))
include h
theorem pay7 : Is2 (φ := .f32) (k0_pay7 (F := Ideal) v13) fun p => LayerNorm.xc (a.z (ρ p)) := fun p l => by
  unfold Is2 at *
  pointwise [k0_pay7, h]
  simp only [lit_zero, lit_1024, zero_add, coe_sum, div_real (show (1024 : ℝ) ≠ 0 by norm_num), ← EReal.coe_sub]
  rfl
theorem pay8 : Is2 (φ := .f32) (k0_pay8 (F := Ideal) v13) fun p (_ : Fin 1) => LayerNorm.rho (a.z (ρ p)) := fun p l => by
  have h7 := pay7 h
  unfold Is2 at *
  pointwise [k0_pay8, h7]
  simp only [lit_zero, lit_1024, lit_eps, zero_add, ← EReal.coe_mul, coe_sum, div_real (show (1024 : ℝ) ≠ 0 by norm_num), ← EReal.coe_add]
  exact rsqrt_real (LayerNorm.var_pos _)
theorem pay9 : Is2 (φ := .f32) (k0_pay9 (F := Ideal) v13) fun p => LayerNorm.xhat (a.z (ρ p)) := fun p l => by
  have h7 := pay7 h
  have h8 := pay8 h
  unfold Is2 at *
  pointwise [k0_pay9, h7, h8]
  simp only [← EReal.coe_mul]
  rfl
variable {v3 v5 : FVec Ideal S1x1024 .f32} (h3 : Is2 (φ := .f32) v3 fun _ : Fin 1 => a.g1) (h5 : Is2 (φ := .f32) v5 fun _ : Fin 1 => a.b1)
include h3 h5
theorem pay10 : Is2 (φ := .f32) (k0_pay10 (F := Ideal) v3 v5 v13) fun p => a.h1 (ρ p) := fun p l => by
  have h9 := pay9 h
  have h4 := pay3 h3
  unfold Is2 at *
  pointwise [k0_pay10, h9, h4, h5]
  simp only [← EReal.coe_mul, ← EReal.coe_add]
  rfl
theorem pay11 : Is2 (φ := .bf16) (k0_pay11 (F := Ideal) v3 v5 v13) fun p => a.h1 (ρ p) := pay10 h h3 h5
end

section
variable {c : Fin 8} {v34 : FVec Ideal S256x1024 .bf16} {w : FVec Ideal S1x1024x512 .bf16} (h34 : Is2 (φ := .bf16) v34 fun p => a.h1 (ρ p))
  (hw : ∀ (l : Fin 1024) (k : Fin 512), (w (ix3 (0 : Fin 1) l k) : EReal) = ((a.wu l (col c k) : ℝ) : EReal))
include h34 hw
theorem pay13 : Is2 (φ := .f32) (k0_pay13 (F := Ideal) v34 w) fun p k => a.rl (ρ p) (col c k) := fun p k => by
  unfold Is2 at *
  pointwise [k0_pay13, h34, hw]
  simp only [lit_zero, ← EReal.coe_mul, coe_sum, add_zero, EReal.coe_zero]
  exact max_real _
theorem pay14 : Is2 (φ := .f32) (k0_pay14 (F := Ideal) v34 w) fun p k => a.rl (ρ p) (col c k) := fun p k => by
  have h := pay13 h34 hw
  unfold Is2 at *
  pointwise [k0_pay14, h]
theorem pay15 : Is2 (φ := .bf16) (k0_pay15 (F := Ideal) v34 w) fun p k => a.rl (ρ p) (col c k) * a.rl (ρ p) (col c k) := fun p k => by
  have h := pay13 h34 hw
  unfold Is2 at *
  pointwise [k0_pay15, h]
  simp only [← EReal.coe_mul]
end

section
variable {c : Fin 8} {v36 : FVec Ideal S256x256 .f32} {w : FVec Ideal S1x256x128 .bf16} (h36 : Is2 (φ := .f32) v36 fun p => a.p (ρ p))
  (hw : ∀ (l : Fin 256) (k : Fin 128), (w (ix3 (0 : Fin 1) l k) : EReal) = ((a.wp l (pcol c k) : ℝ) : EReal))
include h36
theorem pay12 : Is2 (φ := .bf16) (k0_pay12 (F := Ideal) v36) fun p => a.p (ρ p) := h36
include hw
theorem pay16 : Is2 (φ := .f32) (k0_pay16 (F := Ideal) v36 w) fun p k => a.pw (ρ p) (pcol c k) := fun p k => by
  have h12 := pay12 h36
  unfold Is2 at *
  pointwise [k0_pay16, h12, hw]
  simp only [lit_zero, ← EReal.coe_mul, coe_sum, add_zero, EReal.coe_zero]
  rfl
end

section
variable {v175 : FVec Ideal S256x4096 .bf16} {v177 : FVec Ideal S4096x1024 .bf16}
  (h : Is2 (φ := .bf16) v175 fun p k => a.rl (ρ p) k * a.rl (ρ p) k) (hw : Is2 (φ := .bf16) v177 a.wd)
include h hw
theorem pay48 : Is2 (φ := .f32) (k0_pay48 (F := Ideal) v175 v177) fun p l => ∑ k, a.rl (ρ p) k * a.rl (ρ p) k * a.wd k l := fun p l => by
  unfold Is2 at *
  pointwise [k0_pay48, h, hw]
  simp only [lit_zero, ← EReal.coe_mul, coe_sum, add_zero, EReal.coe_zero]
end

section
variable {v8 v10 v12 : FVec Ideal S1x1024 .f32} {v33 v179 v192 v218 : FVec Ideal S256x1024 .f32} {v34 : FVec Ideal S256x1024 .bf16}
  {v180 : FVec Ideal S1024x1024 .bf16}
  (h8 : Is2 (φ := .f32) v8 fun _ : Fin 1 => a.bg) (h34 : Is2 (φ := .bf16) v34 fun p => a.h1 (ρ p)) (h180 : Is2 (φ := .bf16) v180 a.wg)
include h8 h34 h180
theorem pay49 : Is2 (φ := .f32) (k0_pay49 (F := Ideal) v8 v34 v180) fun p => a.gate (ρ p) := fun p l => by
  unfold Is2 at *
  pointwise [k0_pay49, h8, h34, h180]
  simp only [← EReal.coe_mul, coe_sum, add_zero, zero_sub, ← EReal.coe_add]
  exact logis_real _
variable (h33 : Is2 (φ := .f32) v33 fun p => a.h1 (ρ p))
  (h179 : Is2 (φ := .f32) v179 fun p l => ∑ k, a.rl (ρ p) k * a.rl (ρ p) k * a.wd k l) (h192 : Is2 (φ := .f32) v192 fun p => a.pw (ρ p))
include h33 h179 h192
theorem pay50 : Is2 (φ := .f32) (k0_pay50 (F := Ideal) v8 v33 v34 v179 v180 v192) fun p => LayerNorm.xc (a.z2 (ρ p)) := fun p l => by
  have h49 := pay49 h8 h34 h180
  unfold Is2 at *
  pointwise [k0_pay50, h33, h179, h192, h49]
  simp only [lit_alpha, lit_zero, lit_1024, zero_add, ← EReal.coe_mul, ← EReal.coe_add, coe_sum, div_real (show (1024 : ℝ) ≠ 0 by norm_num),
    ← EReal.coe_sub]
  rfl
theorem pay51 : Is2 (φ := .f32) (k0_pay51 (F := Ideal) v8 v33 v34 v179 v180 v192) fun p (_ : Fin 1) => LayerNorm.rho (a.z2 (ρ p)) := fun p l => by
  have h50 := pay50 h8 h34 h180 h33 h179 h192
  unfold Is2 at *
  pointwise [k0_pay51, h50]
  simp only [lit_zero, lit_1024, lit_eps, zero_add, ← EReal.coe_mul, coe_sum, div_real (show (1024 : ℝ) ≠ 0 by norm_num), ← EReal.coe_add]
  exact rsqrt_real (LayerNorm.var_pos _)
theorem pay52 : Is2 (φ := .f32) (k0_pay52 (F := Ideal) v8 v33 v34 v179 v180 v192) fun p => LayerNorm.xhat (a.z2 (ρ p)) := fun p l => by
  have h50 := pay50 h8 h34 h180 h33 h179 h192
  have h51 := pay51 h8 h34 h180 h33 h179 h192
  unfold Is2 at *
  pointwise [k0_pay52, h50, h51]
  simp only [← EReal.coe_mul]
  rfl
variable (h10 : Is2 (φ := .f32) v10 fun _ : Fin 1 => a.g2) (h12 : Is2 (φ := .f32) v12 fun _ : Fin 1 => a.b2)
  (h218 : Is2 (φ := .f32) v218 fun p => a.t (ρ p))
include h10 h12 h218
theorem pay53 : Is2 (φ := .f32) (k0_pay53 (F := Ideal) v8 v10 v12 v33 v34 v179 v180 v192 v218) fun p => a.err (ρ p) := fun p l => by
  have h52 := pay52 h8 h34 h180 h33 h179 h192
  unfold Is2 at *
  pointwise [k0_pay53, h52, h10, h12, h218]
  simp only [← EReal.coe_mul, ← EReal.coe_add, ← EReal.coe_sub]
  rfl
theorem pay54 : Is2 (φ := .f32) (k0_pay54 (F := Ideal) v8 v10 v12 v33 v34 v179 v180 v192 v218) fun p => a.dy (ρ p) := fun p l => by
  have h53 := pay53 h8 h34 h180 h33 h179 h192 h10 h12 h218
  unfold Is2 at *
  pointwise [k0_pay54, h53]
  simp only [lit_1024th, ← EReal.coe_mul]
  rfl
theorem pay55 : Is2 (φ := .f32) (k0_pay55 (F := Ideal) v8 v10 v12 v33 v34 v179 v180 v192 v218) fun p k => a.dy (ρ p) k * a.g2 k := fun p l => by
  have h54 := pay54 h8 h34 h180 h33 h179 h192 h10 h12 h218
  unfold Is2 at *
  pointwise [k0_pay55, h54, h10]
  simp only [← EReal.coe_mul]
end

section
variable {v211 : FVec Ideal S256x1 .f32} {v213 v223 v191 v192 : FVec Ideal S256x1024 .f32} {v254 : FVec Ideal S1024x1024 .bf16}
  (h211 : Is2 (φ := .f32) v211 fun p (_ : Fin 1) => LayerNorm.rho (a.z2 (ρ p))) (h213 : Is2 (φ := .f32) v213 fun p => LayerNorm.xhat (a.z2 (ρ p)))
  (h223 : Is2 (φ := .f32) v223 fun p k => a.dy (ρ p) k * a.g2 k)
include h211 h213 h223
theorem pay56 : Is2 (φ := .f32) (k0_pay56 (F := Ideal) v211 v213 v223) fun p => a.dz2 (ρ p) := fun p l => by
  unfold Is2 at *
  pointwise [k0_pay56, h211, h213, h223]
  simp only [lit_zero, lit_1024, zero_add, ← EReal.coe_mul, coe_sum, div_real (show (1024 : ℝ) ≠ 0 by norm_num), ← EReal.coe_sub]
  rfl
theorem pay57 : Is2 (φ := .bf16) (k0_pay57 (F := Ideal) v211 v213 v223) fun p => a.dz2 (ρ p) := pay56 h211 h213 h223
theorem pay62 {c : Fin 8} {w : FVec Ideal S512x1024 .bf16} (hw : Is2 (φ := .bf16) w fun k l => a.wd (col c k) l) :
    Is2 (φ := .f32) (k0_pay62 (F := Ideal) v211 v213 v223 w) fun p k => ∑ l, a.dz2 (ρ p) l * a.wd (col c k) l := fun p k => by
  have h57 := pay57 h211 h213 h223
  unfold Is2 at *
  pointwise [k0_pay62, h57, hw]
  simp only [lit_zero, ← EReal.coe_mul, coe_sum, add_zero, EReal.coe_zero]
variable (h191 : Is2 (φ := .f32) v191 fun p => a.gate (ρ p))
include h191
theorem pay58 : Is2 (φ := .bf16) (k0_pay58 (F := Ideal) v191 v211 v213 v223) fun p => a.dpw (ρ p) := fun p l => by
  have h56 := pay56 h211 h213 h223
  unfold Is2 at *
  pointwise [k0_pay58, h56, h191]
  simp only [← EReal.coe_mul]
  rfl
variable (h192 : Is2 (φ := .f32) v192 fun p => a.pw (ρ p))
include h192
theorem pay59 : Is2 (φ := .f32) (k0_pay59 (F := Ideal) v191 v192 v211 v213 v223) fun p => a.dgl (ρ p) := fun p l => by
  have h56 := pay56 h211 h213 h223
  unfold Is2 at *
  pointwise [k0_pay59, h56, h191, h192]
  rw [EReal.coe_one.symm]
  simp only [← EReal.coe_mul, ← EReal.coe_sub]
  rfl
theorem pay60 : Is2 (φ := .bf16) (k0_pay60 (F := Ideal) v191 v192 v211 v213 v223) fun p => a.dgl (ρ p) := pay59 h211 h213 h223 h191 h192
theorem pay61 (hw : Is2 (φ := .bf16) v254 a.wg) : Is2 (φ := .f32) (k0_pay61 (F := Ideal) v191 v192 v211 v213 v223 v254) fun p => a.dh0 (ρ p) := fun p l => by
  have h56 := pay56 h211 h213 h223
  have h60 := pay60 h211 h213 h223 h191 h192
  unfold Is2 at *
  pointwise [k0_pay61, h56, h60, hw]
  simp only [lit_zero, lit_alpha, ← EReal.coe_mul, coe_sum, add_zero, EReal.coe_zero, ← EReal.coe_add]
  rfl
end

section
variable {c : Fin 8} {v240 : FVec Ideal S256x1024 .bf16} {w : FVec Ideal S512x1024 .bf16} {rv dr : FVec Ideal S256x512 .f32}
  (hr : Is2 (φ := .f32) rv fun p k => a.rl (ρ p) (col c k))
include hr
theorem pay63 (hd : Is2 (φ := .f32) dr fun p k => ∑ l, a.dz2 (ρ p) l * a.wd (col c k) l) :
    Is2 (φ := .bf16) (k0_pay63 (F := Ideal) dr rv) fun p k => a.du (ρ p) (col c k) := fun p k => by
  unfold Is2 at *
  pointwise [k0_pay63, hr, hd]
  simp only [lit_two, ← EReal.coe_mul]
  rfl
theorem pay64 (h240 : Is2 (φ := .bf16) v240 fun p => a.dz2 (ρ p)) (hw : Is2 (φ := .bf16) w fun k l => a.wd (col c k) l) :
    Is2 (φ := .bf16) (k0_pay64 (F := Ideal) v240 w rv) fun p k => a.du (ρ p) (col c k) := fun p k => by
  unfold Is2 at *
  pointwise [k0_pay64, hr, h240, hw]
  simp only [lit_zero, lit_two, ← EReal.coe_mul, coe_sum, add_zero, EReal.coe_zero]
  rfl
end
theorem pay74 {c : Fin 8} {v240 : FVec Ideal S256x1024 .bf16} {w : FVec Ideal S512x1024 .bf16}
    (h240 : Is2 (φ := .bf16) v240 fun p => a.dz2 (ρ p)) (hw : Is2 (φ := .bf16) w fun k l => a.wd (col c k) l) :
    Is2 (φ := .f32) (k0_pay74 (F := Ideal) v240 w) fun p k => ∑ l, a.dz2 (ρ p) l * a.wd (col c k) l := fun p k => by
  unfold Is2 at *
  pointwise [k0_pay74, h240, hw]
  simp only [lit_zero, ← EReal.coe_mul, coe_sum, add_zero, EReal.coe_zero]

/-- One group's product with the transposed matrix. -/
def back (d : FVec Ideal S256x512 .bf16) (w : FVec Ideal S1x1024x512 .bf16) : FVec Ideal S256x1024 .f32 :=
  matmul dot_S256x512_S1024x512_S256x1024_1_1_0_0_n_n none d (shapeCast S1024x512 w shapeCasts_S1x1024x512_S1024x512) (constant S256x1024 .f32 0x00000000#32)
theorem back_real {c : Fin 8} {d : FVec Ideal S256x512 .bf16} {w : FVec Ideal S1x1024x512 .bf16} (hd : Is2 (φ := .bf16) d fun p k => a.du (ρ p) (col c k))
    (hw : ∀ (l : Fin 1024) (k : Fin 512), (w (ix3 (0 : Fin 1) l k) : EReal) = ((a.wu l (col c k) : ℝ) : EReal)) :
    Is2 (φ := .f32) (back d w) fun p => a.up (ρ p) c := fun p l => by
  unfold Is2 at *
  pointwise [back, hd, hw]
  simp only [lit_zero, ← EReal.coe_mul, coe_sum, add_zero, EReal.coe_zero]
  rfl
theorem add_is {X Y : Fin 256 → Fin 1024 → ℝ} {x y : FVec Ideal S256x1024 .f32} (hx : Is2 (φ := .f32) x X) (hy : Is2 (φ := .f32) y Y) :
    Is2 (φ := .f32) (addf x y) fun p l => X p l + Y p l := fun p l => by
  unfold Is2 at *
  pointwise [hx, hy]
  simp only [← EReal.coe_add]

section
variable {v4 : FVec Ideal S1x1024 .f32} {v27 : FVec Ideal S256x1 .f32} {v29 v348 : FVec Ideal S256x1024 .f32} {v351 v352 : FVec Ideal S256x512 .f32}
  {w : FVec Ideal S1x1024x512 .bf16}
  (h4 : Is2 (φ := .f32) v4 fun _ : Fin 1 => a.g1) (h27 : Is2 (φ := .f32) v27 fun p (_ : Fin 1) => LayerNorm.rho (a.z (ρ p)))
  (h29 : Is2 (φ := .f32) v29 fun p => LayerNorm.xhat (a.z (ρ p))) (h76 : Is2 (φ := .f32) (k0_pay76 (F := Ideal) v348 v351 v352 w) fun p => a.dh1 (ρ p))
include h4 h27 h29 h76
theorem pay77 : Is2 (φ := .f32) (k0_pay77 (F := Ideal) v4 v27 v29 v348 v351 v352 w) fun p => a.dz1 (ρ p) := fun p l => by
  unfold Is2 at *
  pointwise [k0_pay77, h4, h27, h29, h76]
  simp only [lit_zero, lit_1024, zero_add, ← EReal.coe_mul, coe_sum, div_real (show (1024 : ℝ) ≠ 0 by norm_num), ← EReal.coe_sub]
  rfl
theorem pay78 : Is2 (φ := .bf16) (k0_pay78 (F := Ideal) v4 v27 v29 v348 v351 v352 w) fun p => a.dz1 (ρ p) := pay77 h4 h27 h29 h76
end

/-! The rows of sums: what a row held and the block's share. -/
section
variable {X Y : Fin 256 → Fin 1024 → ℝ} {x y : FVec Ideal S256x1024 .f32} {v : FVec Ideal S1x1024 .f32} {q : Fin 1024 → EReal}
  (hv : ∀ l, (v (ix2 (0 : Fin 1) l) : EReal) = q l) (hx : Is2 (φ := .f32) x X)
include hv hx
theorem pay80 (l : Fin 1024) : (k0_pay80 (F := Ideal) x v (ix2 (0 : Fin 1) l) : EReal) = q l + ((∑ p, X p l : ℝ) : EReal) := by
  unfold Is2 at *
  pointwise [k0_pay80, hv, hx]
  simp only [lit_zero, EReal.coe_zero, zero_add, coe_sum]
theorem pay81 (l : Fin 1024) : (k0_pay81 (F := Ideal) x v (ix2 (0 : Fin 1) l) : EReal) = q l + ((∑ p, X p l : ℝ) : EReal) := pay80 hv hx l
theorem pay83 (l : Fin 1024) : (k0_pay83 (F := Ideal) x v (ix2 (0 : Fin 1) l) : EReal) = q l + ((∑ p, X p l : ℝ) : EReal) := pay80 hv hx l
variable (hy : Is2 (φ := .f32) y Y)
include hy
theorem pay79 (l : Fin 1024) : (k0_pay79 (F := Ideal) y x v (ix2 (0 : Fin 1) l) : EReal) = q l + ((∑ p, X p l * Y p l : ℝ) : EReal) := by
  unfold Is2 at *
  pointwise [k0_pay79, hv, hx, hy]
  simp only [lit_zero, EReal.coe_zero, zero_add, coe_sum, ← EReal.coe_mul]
theorem pay82 (l : Fin 1024) : (k0_pay82 (F := Ideal) y x v (ix2 (0 : Fin 1) l) : EReal) = q l + ((∑ p, X p l * Y p l : ℝ) : EReal) := pay79 hv hx hy l
theorem pay1 (l : Fin 1024) : (k0_pay1 (F := Ideal) (k0_pay84 v) (k0_pay85 x y) (ix2 (0 : Fin 1) l) : EReal)
    = q l + ((∑ p, 1 / 2 * X p l * Y p l : ℝ) : EReal) := by
  unfold Is2 at *
  pointwise [k0_pay1, k0_pay84, k0_pay85, hv, hx, hy]
  simp only [lit_zero, lit_half, EReal.coe_zero, zero_add, coe_sum, ← EReal.coe_mul]
end
end Ker
end Cert.Mlp
-- ==== Proof.Mlp.Input.lean ====
module

public import proofs.«01_k».proof.Proof.Mlp.Block
public import Idealize.ShloMosaic.Lib.Pipeline.ValueKit

/-! # The feed-forward block's kernel: the blocks of its arguments -/

@[expose] public section
set_option maxRecDepth 16384
noncomputable section
namespace Cert.Mlp.Ker
open Cert.Lift Cert.Prep Idealize.ShloMosaic Idealize.ShloMosaic.TcCoe Idealize.SL.Sem Cert.MlpStepIdeal Cert.MlpStepIdeal.Gen
variable (m : (ℓ : Loc nD τ sig) → Buf (Elt Ideal) ℓ) (c : Dev nD)

/-- The blocks' places. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![0, 0] ∧ t.val < 8 :=
  (by decide +kernel : ∀ t : Fin grid0.N, _)
theorem lt8 (t : Fin cfg0.N) : t.val < 8 := (idx t).2.2.2.2.2.2.2.2.2.2.2.2.2.2.2.2.2.2
/-- Row `p` of block `t`. -/
def row (t : Fin cfg0.N) (p : Fin 256) : Fin 2048 := ⟨t.val * 256 + p.val, by have := lt8 t; omega⟩

/-- The kernel's argument arrays hold the reals `a`. -/
structure Holds (a : Reals) : Prop where
  z : Is2 (φ := .f32) (m ((c.tc : Thread nD τ).loc main_arg0)) a.z
  p : Is2 (φ := .f32) (m ((c.tc : Thread nD τ).loc main_arg1)) a.p
  t : Is2 (φ := .f32) (m ((c.tc : Thread nD τ).loc main_arg2)) a.t
  g1 : Is1 (φ := .f32) (m ((c.tc : Thread nD τ).loc main_arg3)) a.g1
  b1 : Is1 (φ := .f32) (m ((c.tc : Thread nD τ).loc main_arg4)) a.b1
  wu : Is2 (φ := .f32) (m ((c.tc : Thread nD τ).loc main_arg5)) a.wu
  wd : Is2 (φ := .f32) (m ((c.tc : Thread nD τ).loc main_arg6)) a.wd
  wp : Is2 (φ := .f32) (m ((c.tc : Thread nD τ).loc main_arg7)) a.wp
  wg : Is2 (φ := .f32) (m ((c.tc : Thread nD τ).loc main_arg8)) a.wg
  bg : Is1 (φ := .f32) (m ((c.tc : Thread nD τ).loc main_arg9)) a.bg
  g2 : Is1 (φ := .f32) (m ((c.tc : Thread nD τ).loc main_arg10)) a.g2
  b2 : Is1 (φ := .f32) (m ((c.tc : Thread nD τ).loc main_arg11)) a.b2

/-- The columns in eight groups of 512. -/
def colsU (x : FVec Ideal S1024x4096 .f32) : FVec Ideal S8x1024x512 .bf16 :=
  transpose S8x1024x512 [1, 0, 2] (shapeCast S1024x8x512 (truncf .bf16 x bitsLt_bf16_f32) shapeCasts_S1024x4096_S1024x8x512)
    transposes_S1024x8x512_S8x1024x512_1_0_2
theorem colsU_at (x : FVec Ideal S1024x4096 .f32) (j : Fin 8) (l : Fin 1024) (k : Fin 512) : colsU x (ix3 j l k) = x (ix2 l (col j k)) := by
  pointwise [colsU, col]
theorem arr3 : V m c (Pipeline.arrRef spec0 3) = colsU (m ((c.tc : Thread nD τ).loc main_arg5)) := by
  unfold V
  rfl
theorem blk3 (t : Fin cfg0.N) (j : Fin 8) (l : Fin 1024) (k : Fin 512) :
    (show FVec Ideal S8x1024x512 .bf16 from iblk m c 3 t) (ix3 j l k) = (show FVec Ideal S8x1024x512 .bf16 from V m c (Pipeline.arrRef spec0 3)) (ix3 j l k) := by
  blk_ext [iblk, idx t]
/-- The columns in eight groups of 128. -/
def colsP (x : FVec Ideal S256x1024 .f32) : FVec Ideal S8x256x128 .bf16 :=
  transpose S8x256x128 [1, 0, 2] (shapeCast S256x8x128 (truncf .bf16 x bitsLt_bf16_f32) shapeCasts_S256x1024_S256x8x128)
    transposes_S256x8x128_S8x256x128_1_0_2
theorem colsP_at (x : FVec Ideal S256x1024 .f32) (j : Fin 8) (l : Fin 256) (k : Fin 128) : colsP x (ix3 j l k) = x (ix2 l (pcol j k)) := by
  pointwise [colsP, pcol]
theorem arr6 : V m c (Pipeline.arrRef spec0 6) = colsP (m ((c.tc : Thread nD τ).loc main_arg7)) := by
  unfold V
  rfl
theorem blk6 (t : Fin cfg0.N) (j : Fin 8) (l : Fin 256) (k : Fin 128) :
    (show FVec Ideal S8x256x128 .bf16 from iblk m c 6 t) (ix3 j l k) = (show FVec Ideal S8x256x128 .bf16 from V m c (Pipeline.arrRef spec0 6)) (ix3 j l k) := by
  blk_ext [iblk, idx t]
/-- The five vectors as rows, then three rows of zeros. -/
def vec (g1 b1 bg g2 b2 : FVec Ideal S1024 .f32) : FVec Ideal S8x1024 .f32 :=
  concatenate S8x1024 0 [⟨S1x1024, shapeCast S1x1024 g1 shapeCasts_S1024_S1x1024⟩, ⟨S1x1024, shapeCast S1x1024 b1 shapeCasts_S1024_S1x1024⟩,
    ⟨S1x1024, shapeCast S1x1024 bg shapeCasts_S1024_S1x1024⟩, ⟨S1x1024, shapeCast S1x1024 g2 shapeCasts_S1024_S1x1024⟩,
    ⟨S1x1024, shapeCast S1x1024 b2 shapeCasts_S1024_S1x1024⟩, ⟨S3x1024, broadcastInDim S3x1024 ![] bcast_S_S3x1024 (constant S_ .f32 0x00000000#32)⟩]
    concatenates_S1x1024_S1x1024_S1x1024_S1x1024_S1x1024_S3x1024_S8x1024_d0
theorem arr7 : V m c (Pipeline.arrRef spec0 7) = vec (m ((c.tc : Thread nD τ).loc main_arg3)) (m ((c.tc : Thread nD τ).loc main_arg4))
    (m ((c.tc : Thread nD τ).loc main_arg9)) (m ((c.tc : Thread nD τ).loc main_arg10)) (m ((c.tc : Thread nD τ).loc main_arg11)) := by
  unfold V
  rfl
theorem blk7 (t : Fin cfg0.N) (j : Fin 8) (l : Fin 1024) :
    (show FVec Ideal S8x1024 .f32 from iblk m c 7 t) (ix2 j l) = (show FVec Ideal S8x1024 .f32 from V m c (Pipeline.arrRef spec0 7)) (ix2 j l) := by
  blk_ext [iblk, idx t]
theorem vec0 (g1 b1 bg g2 b2 : FVec Ideal S1024 .f32) (l : Fin 1024) : vec g1 b1 bg g2 b2 (ix2 (0 : Fin 8) l) = g1 (ix1 l) := by
  pointwise [vec]
theorem vec1 (g1 b1 bg g2 b2 : FVec Ideal S1024 .f32) (l : Fin 1024) : vec g1 b1 bg g2 b2 (ix2 (1 : Fin 8) l) = b1 (ix1 l) := by
  pointwise [vec]
theorem vec2 (g1 b1 bg g2 b2 : FVec Ideal S1024 .f32) (l : Fin 1024) : vec g1 b1 bg g2 b2 (ix2 (2 : Fin 8) l) = bg (ix1 l) := by
  pointwise [vec]
theorem vec3 (g1 b1 bg g2 b2 : FVec Ideal S1024 .f32) (l : Fin 1024) : vec g1 b1 bg g2 b2 (ix2 (3 : Fin 8) l) = g2 (ix1 l) := by
  pointwise [vec]
theorem vec4 (g1 b1 bg g2 b2 : FVec Ideal S1024 .f32) (l : Fin 1024) : vec g1 b1 bg g2 b2 (ix2 (4 : Fin 8) l) = b2 (ix1 l) := by
  pointwise [vec]

/-- A load of one row. -/
theorem ld_row (X : S8x1024.Idx → Elt Ideal .f32) {i : ℕ} (inb : ∀ x, (![i, 0] : Fin 2 → ℕ) x + (![1, 1024] : Fin 2 → ℕ) x ≤ S8x1024.size x) (hi : i < 8)
    (q : Fin 1) (l : Fin 1024) : View.ld X (Rect.unit (s := S8x1024) ![i, 0] ![1, 1024] inb) (ix2 q l) = X (ix2 (⟨i, hi⟩ : Fin 8) l) := by
  refine congrArg X (funext fun x => Fin.ext ?_)
  fin_cases x
  · show i + 1 * q.val = i; omega
  · show 0 + 1 * l.val = l.val; omega
/-- A load of 512 rows. -/
theorem ld_rows (X : S4096x1024.Idx → Elt Ideal .bf16) {i : ℕ} (inb : ∀ x, (![i, 0] : Fin 2 → ℕ) x + (![512, 1024] : Fin 2 → ℕ) x ≤ S4096x1024.size x)
    (hi : i + 512 ≤ 4096) (k : Fin 512) (l : Fin 1024) :
    View.ld X (Rect.unit (s := S4096x1024) ![i, 0] ![512, 1024] inb) (ix2 k l) = X (ix2 (⟨i + k.val, by omega⟩ : Fin 4096) l) := by
  refine congrArg X (funext fun x => Fin.ext ?_)
  fin_cases x
  · show i + 1 * k.val = i + k.val; omega
  · show 0 + 1 * l.val = l.val; omega
/-- A load of one group of columns. -/
theorem ld_group {n w : ℕ} {e : EltTy} (X : (⟨3, ![8, n, w]⟩ : Shape).Idx → Elt Ideal e) {i : ℕ}
    (inb : ∀ x, (![i, 0, 0] : Fin 3 → ℕ) x + (![1, n, w] : Fin 3 → ℕ) x ≤ (⟨3, ![8, n, w]⟩ : Shape).size x) (hi : i < 8) (l : Fin n) (k : Fin w) :
    View.ld X (Rect.unit (s := ⟨3, ![8, n, w]⟩) ![i, 0, 0] ![1, n, w] inb) (ix3 (0 : Fin 1) l k) = X (ix3 (⟨i, hi⟩ : Fin 8) l k) := by
  refine congrArg X (funext fun x => Fin.ext ?_)
  fin_cases x
  · show i + 1 * 0 = i; omega
  · show 0 + 1 * l.val = l.val; omega
  · show 0 + 1 * k.val = k.val; omega

variable {m c} {a : Reals} (h : Holds m c a)
include h
theorem b0 (t : Fin cfg0.N) : Is2 (φ := .f32) (iblk m c 0 t) fun p => a.z (row t p) := fun p l =>
  (show (show FVec Ideal S256x1024 .f32 from iblk m c 0 t) (ix2 p l)
    = (show FVec Ideal S2048x1024 .f32 from m ((c.tc : Thread nD τ).loc main_arg0)) (ix2 (row t p) l) by blk_point [iblk, V, idx t, row]).trans (h.z _ _)
theorem b1 (t : Fin cfg0.N) : Is2 (φ := .f32) (iblk m c 1 t) fun p => a.p (row t p) := fun p l =>
  (show (show FVec Ideal S256x256 .f32 from iblk m c 1 t) (ix2 p l)
    = (show FVec Ideal S2048x256 .f32 from m ((c.tc : Thread nD τ).loc main_arg1)) (ix2 (row t p) l) by blk_point [iblk, V, idx t, row]).trans (h.p _ _)
theorem b2 (t : Fin cfg0.N) : Is2 (φ := .f32) (iblk m c 2 t) fun p => a.t (row t p) := fun p l =>
  (show (show FVec Ideal S256x1024 .f32 from iblk m c 2 t) (ix2 p l)
    = (show FVec Ideal S2048x1024 .f32 from m ((c.tc : Thread nD τ).loc main_arg2)) (ix2 (row t p) l) by blk_point [iblk, V, idx t, row]).trans (h.t _ _)
theorem b4 (t : Fin cfg0.N) : Is2 (φ := .bf16) (iblk m c 4 t) a.wd := fun p l =>
  (show (show FVec Ideal S4096x1024 .bf16 from iblk m c 4 t) (ix2 p l)
    = (show FVec Ideal S4096x1024 .f32 from m ((c.tc : Thread nD τ).loc main_arg6)) (ix2 p l) by blk_point [iblk, V, idx t]).trans (h.wd _ _)
theorem b5 (t : Fin cfg0.N) : Is2 (φ := .bf16) (iblk m c 5 t) a.wg := fun p l =>
  (show (show FVec Ideal S1024x1024 .bf16 from iblk m c 5 t) (ix2 p l)
    = (show FVec Ideal S1024x1024 .f32 from m ((c.tc : Thread nD τ).loc main_arg8)) (ix2 p l) by blk_point [iblk, V, idx t]).trans (h.wg _ _)
theorem b3 (t : Fin cfg0.N) (j : Fin 8) (l : Fin 1024) (k : Fin 512) :
    ((show FVec Ideal S8x1024x512 .bf16 from iblk m c 3 t) (ix3 j l k) : EReal) = ((a.wu l (col j k) : ℝ) : EReal) :=
  ((blk3 m c t j l k).trans (by rw [arr3]; exact colsU_at _ _ _ _)).trans (h.wu _ _)
theorem b6 (t : Fin cfg0.N) (j : Fin 8) (l : Fin 256) (k : Fin 128) :
    ((show FVec Ideal S8x256x128 .bf16 from iblk m c 6 t) (ix3 j l k) : EReal) = ((a.wp l (pcol j k) : ℝ) : EReal) :=
  ((blk6 m c t j l k).trans (by rw [arr6]; exact colsP_at _ _ _ _)).trans (h.wp _ _)
theorem b7_0 (t : Fin cfg0.N) (l : Fin 1024) : ((show FVec Ideal S8x1024 .f32 from iblk m c 7 t) (ix2 (0 : Fin 8) l) : EReal) = ((a.g1 l : ℝ) : EReal) :=
  ((blk7 m c t 0 l).trans (by rw [arr7]; exact vec0 _ _ _ _ _ _)).trans (h.g1 _)
theorem b7_1 (t : Fin cfg0.N) (l : Fin 1024) : ((show FVec Ideal S8x1024 .f32 from iblk m c 7 t) (ix2 (1 : Fin 8) l) : EReal) = ((a.b1 l : ℝ) : EReal) :=
  ((blk7 m c t 1 l).trans (by rw [arr7]; exact vec1 _ _ _ _ _ _)).trans (h.b1 _)
theorem b7_2 (t : Fin cfg0.N) (l : Fin 1024) : ((show FVec Ideal S8x1024 .f32 from iblk m c 7 t) (ix2 (2 : Fin 8) l) : EReal) = ((a.bg l : ℝ) : EReal) :=
  ((blk7 m c t 2 l).trans (by rw [arr7]; exact vec2 _ _ _ _ _ _)).trans (h.bg _)
theorem b7_3 (t : Fin cfg0.N) (l : Fin 1024) : ((show FVec Ideal S8x1024 .f32 from iblk m c 7 t) (ix2 (3 : Fin 8) l) : EReal) = ((a.g2 l : ℝ) : EReal) :=
  ((blk7 m c t 3 l).trans (by rw [arr7]; exact vec3 _ _ _ _ _ _)).trans (h.g2 _)
theorem b7_4 (t : Fin cfg0.N) (l : Fin 1024) : ((show FVec Ideal S8x1024 .f32 from iblk m c 7 t) (ix2 (4 : Fin 8) l) : EReal) = ((a.b2 l : ℝ) : EReal) :=
  ((blk7 m c t 4 l).trans (by rw [arr7]; exact vec4 _ _ _ _ _ _)).trans (h.b2 _)
end Cert.Mlp.Ker
-- ==== Proof.Math.Cols.lean ====
module

public import Idealize.ShloMosaic.Lib.Pipeline.ValueKit
public import Idealize.ShloMosaic.Lib.WritesUnit
public import Idealize.ShloMosaic.Lib.Pointwise

/-! # Stores and loads of groups of neighbouring columns -/

@[expose] public section
noncomputable section
namespace Cert.Cols
open Idealize.ShloMosaic Idealize.SL.Sem

variable {n m : ℕ} {e : EltTy} {Val : EltTy → Type} [∀ e, Nonempty (Val e)]

/-- The stores leave the values `F` in the columns before `hi`. -/
def Upto (L : List (View.Piece Val ⟨2, ![n, m]⟩ e)) (F : Fin n → Fin m → Val e) (hi : ℕ) : Prop :=
  ∀ (r : Fin n) (k : Fin m), k.val < hi → View.canon L (ix2 r k) = F r k

theorem Upto.nil (F : Fin n → Fin m → Val e) : Upto ([] : List (View.Piece Val ⟨2, ![n, m]⟩ e)) F 0 :=
  fun _ _ h => absurd h (Nat.not_lt_zero _)

/-- A store of the next `w` columns. -/
theorem Upto.cons {o w : ℕ} {L : List (View.Piece Val ⟨2, ![n, m]⟩ e)} {F : Fin n → Fin m → Val e} (h : Upto L F o) (hm : o + w ≤ m)
    {inb : ∀ a, (![0, o] : Fin 2 → ℕ) a + (![n, w] : Fin 2 → ℕ) a ≤ (![n, m] : Fin 2 → ℕ) a}
    {p : (Rect.unit (s := ⟨2, ![n, m]⟩) ![0, o] ![n, w] inb).shape.Idx → Val e}
    (hp : ∀ (r : Fin n) (k : Fin w), p (ix2 r k) = F r ⟨o + k.val, by omega⟩) :
    Upto ((⟨Rect.unit (s := ⟨2, ![n, m]⟩) ![0, o] ![n, w] inb, p⟩ : View.Piece Val ⟨2, ![n, m]⟩ e) :: L) F (o + w) := fun r k hk => by
  by_cases ho : o ≤ k.val
  · have e : (Rect.unit (s := ⟨2, ![n, m]⟩) ![0, o] ![n, w] inb).emb (ix2 r (⟨k.val - o, by omega⟩ : Fin w)) = ix2 r k := by
      funext a; apply Fin.ext; fin_cases a
      · show 0 + 1 * r.val = r.val; omega
      · show o + 1 * (k.val - o) = k.val; omega
    rw [← e, View.canon_cons_emb _ p L _, hp]
    exact congrArg (F r) (Fin.ext (by show o + (k.val - o) = k.val; omega))
  · rw [View.canon_cons_of_not_mem _ L fun hmem => ho ?_]
    · exact h r k (by omega)
    · have := (Rect.mem_set_unit (inb := inb)).1 hmem 1
      change o ≤ k.val ∧ k.val < o + w at this
      exact this.1

/-- A load of neighbouring columns, of stores that cover them. -/
theorem Upto.load {sig : RefSig} {κ : Kind} {sp : Space} {L : List (View.Piece Val ⟨2, ![n, m]⟩ e)} {F : Fin n → Fin m → Val e} (h : Upto L F m)
    (v : View sig κ sp ⟨2, ![n, m]⟩ e) {o w : ℕ} (hm : o + w ≤ m)
    (inb : ∀ a, (![0, o] : Fin 2 → ℕ) a + (![n, w] : Fin 2 → ℕ) a ≤ (![n, m] : Fin 2 → ℕ) a) (r : Fin n) (k : Fin w) :
    v.readCov L (Rect.unit (s := ⟨2, ![n, m]⟩) ![0, o] ![n, w] inb).toLoadRect (ix2 r k) = F r ⟨o + k.val, by omega⟩ := by
  rw [View.readCov_eq_canon', ← h r ⟨o + k.val, by omega⟩ (by show o + k.val < m; omega)]
  refine congrArg (View.canon L) ?_
  funext a; apply Fin.ext; fin_cases a
  · show 0 + 1 * r.val = r.val; omega
  · show o + 1 * k.val = o + k.val; omega

/-- The same of stores over given contents. -/
def Over {sig : RefSig} {κ : Kind} {sp : Space} (v : View sig κ sp ⟨2, ![n, m]⟩ e) (f : v.ty.Contents Val) (L : List (View.Piece Val ⟨2, ![n, m]⟩ e))
    (F : Fin n → Fin m → Val e) (hi : ℕ) : Prop :=
  ∀ (r : Fin n) (k : Fin m), k.val < hi → v.read Val (v.writes Val f L) (ix2 r k) = F r k

theorem Over.nil {sig : RefSig} {κ : Kind} {sp : Space} (v : View sig κ sp ⟨2, ![n, m]⟩ e) (f : v.ty.Contents Val) (F : Fin n → Fin m → Val e) :
    Over v f [] F 0 := fun _ _ h => absurd h (Nat.not_lt_zero _)

theorem Over.cons {sig : RefSig} {κ : Kind} {sp : Space} {v : View sig κ sp ⟨2, ![n, m]⟩ e} {f : v.ty.Contents Val}
    {o w : ℕ} {L : List (View.Piece Val ⟨2, ![n, m]⟩ e)} {F : Fin n → Fin m → Val e} (h : Over v f L F o) (hm : o + w ≤ m)
    {inb : ∀ a, (![0, o] : Fin 2 → ℕ) a + (![n, w] : Fin 2 → ℕ) a ≤ (![n, m] : Fin 2 → ℕ) a}
    {p : (Rect.unit (s := ⟨2, ![n, m]⟩) ![0, o] ![n, w] inb).shape.Idx → Val e}
    (hp : ∀ (r : Fin n) (k : Fin w), p (ix2 r k) = F r ⟨o + k.val, by omega⟩) :
    Over v f ((⟨Rect.unit (s := ⟨2, ![n, m]⟩) ![0, o] ![n, w] inb, p⟩ : View.Piece Val ⟨2, ![n, m]⟩ e) :: L) F (o + w) := fun r k hk => by
  by_cases ho : o ≤ k.val
  · rw [View.read_writes_cons_unit_of_mem v f inb p L _ (ix2 r (⟨k.val - o, by omega⟩ : Fin w)) rfl fun a => by
      fin_cases a
      · show r.val = 0 + r.val; omega
      · show k.val = o + (k.val - o); omega, hp]
    exact congrArg (F r) (Fin.ext (by show o + (k.val - o) = k.val; omega))
  · rw [View.read_writes_cons_unit_of_not_mem v f inb p L _ rfl 1 (by show k.val < o ∨ o + w ≤ k.val; omega)]
    exact h r k (by omega)

end Cert.Cols
-- ==== Proof.Math.Leave.lean ====
module

public import proofs.«01_k».proof.Proof.Math.Rows

/-! # Stores of whole rows, one after the other -/

@[expose] public section
noncomputable section
namespace Cert.Rows
open Idealize.ShloMosaic Idealize.SL.Sem

variable {n w : ℕ} {e : EltTy} {Val : EltTy → Type} [∀ e, Nonempty (Val e)]

/-- What the stores leave is `G`. -/
def Leave (L : List (View.Piece Val ⟨2, ![n, w]⟩ e)) (G : Fin n → Fin w → Val e) : Prop := ∀ r l, View.canon L (ix2 r l) = G r l
theorem Leave.row {L : List (View.Piece Val ⟨2, ![n, w]⟩ e)} {G : Fin n → Fin w → Val e} (h : Leave L G) {i : ℕ}
    {inb : ∀ a, (![i, 0] : Fin 2 → ℕ) a + (![1, w] : Fin 2 → ℕ) a ≤ (![n, w] : Fin 2 → ℕ) a}
    {p : (Rect.unit (s := ⟨2, ![n, w]⟩) ![i, 0] ![1, w] inb).shape.Idx → Val e} {s : Fin w → Val e} (hp : ∀ l, p (ix2 (0 : Fin 1) l) = s l) :
    Leave ((⟨Rect.unit (s := ⟨2, ![n, w]⟩) ![i, 0] ![1, w] inb, p⟩ : View.Piece Val ⟨2, ![n, w]⟩ e) :: L)
      fun r l => if r.val = i then s l else G r l := fun r l => by
  rw [canon_row, hp, h]
theorem Leave.load {sig : RefSig} {κ : Kind} {sp : Space} {L : List (View.Piece Val ⟨2, ![n, w]⟩ e)} {G : Fin n → Fin w → Val e} (h : Leave L G)
    (v : View sig κ sp ⟨2, ![n, w]⟩ e) {i : ℕ} (inb : ∀ a, (![i, 0] : Fin 2 → ℕ) a + (![1, w] : Fin 2 → ℕ) a ≤ (![n, w] : Fin 2 → ℕ) a)
    (hi : i < n) (l : Fin w) :
    v.readCov L (Rect.unit (s := ⟨2, ![n, w]⟩) ![i, 0] ![1, w] inb).toLoadRect (ix2 (0 : Fin 1) l) = G ⟨i, hi⟩ l :=
  (readCov_row v inb L hi l).trans (h _ _)
/-- The same of stores over given contents. -/
def LeaveOver {sig : RefSig} {κ : Kind} {sp : Space} (v : View sig κ sp ⟨2, ![n, w]⟩ e) (f : v.ty.Contents Val) (L : List (View.Piece Val ⟨2, ![n, w]⟩ e))
    (G : Fin n → Fin w → Val e) : Prop := ∀ r l, v.read Val (v.writes Val f L) (ix2 r l) = G r l
theorem LeaveOver.row {sig : RefSig} {κ : Kind} {sp : Space} {v : View sig κ sp ⟨2, ![n, w]⟩ e} {f : v.ty.Contents Val}
    {L : List (View.Piece Val ⟨2, ![n, w]⟩ e)} {G : Fin n → Fin w → Val e} (h : LeaveOver v f L G) {i : ℕ}
    {inb : ∀ a, (![i, 0] : Fin 2 → ℕ) a + (![1, w] : Fin 2 → ℕ) a ≤ (![n, w] : Fin 2 → ℕ) a}
    {p : (Rect.unit (s := ⟨2, ![n, w]⟩) ![i, 0] ![1, w] inb).shape.Idx → Val e} {s : Fin w → Val e} (hp : ∀ l, p (ix2 (0 : Fin 1) l) = s l) :
    LeaveOver v f ((⟨Rect.unit (s := ⟨2, ![n, w]⟩) ![i, 0] ![1, w] inb, p⟩ : View.Piece Val ⟨2, ![n, w]⟩ e) :: L)
      fun r l => if r.val = i then s l else G r l := fun r l => by
  rw [read_row, hp, h]

/-- The first `k` rows of `P` with `s` added to them, the others as they are. -/
def added {n w : ℕ} (P s : Fin n → Fin w → EReal) : ℕ → Fin n → Fin w → EReal
  | 0 => P
  | k + 1 => fun r l => if r.val = k then P r l + s r l else added P s k r l
theorem added_of_le {n w : ℕ} (P s : Fin n → Fin w → EReal) (r : Fin n) (l : Fin w) : ∀ k, k ≤ r.val → added P s k r l = P r l
  | 0, _ => rfl
  | k + 1, hk => (if_neg (by omega : ¬ r.val = k)).trans (added_of_le P s r l k (by omega))
theorem added_of_lt {n w : ℕ} (P s : Fin n → Fin w → EReal) (r : Fin n) (l : Fin w) : ∀ k, r.val < k → added P s k r l = P r l + s r l
  | k + 1, hk => by
    by_cases e : r.val = k
    · exact if_pos e
    · exact (if_neg e).trans (added_of_lt P s r l k (by omega))
/-- All rows have `s` added once the rows left out have nothing to add. -/
theorem added_all {n w : ℕ} {P s : Fin n → Fin w → EReal} {k : ℕ} (hs : ∀ r l, k ≤ r.val → s r l = 0) (r : Fin n) (l : Fin w) :
    added P s k r l = P r l + s r l := by
  rcases Nat.lt_or_ge r.val k with e | e
  · exact added_of_lt P s r l k e
  · rw [added_of_le P s r l k e, hs r l e, add_zero]
/-- The next row, read back and stored with its sum added. -/
theorem Leave.add {L : List (View.Piece (Elt Ideal) ⟨2, ![n, w]⟩ .f32)} {P s : Fin n → Fin w → EReal} {sig : RefSig} {κ : Kind} {sp : Space}
    (v : View sig κ sp ⟨2, ![n, w]⟩ .f32) {k : ℕ} (hk : k < n) (h : Leave L (added P s k))
    {inb : ∀ a, (![k, 0] : Fin 2 → ℕ) a + (![1, w] : Fin 2 → ℕ) a ≤ (![n, w] : Fin 2 → ℕ) a}
    {p : (Rect.unit (s := ⟨2, ![n, w]⟩) ![k, 0] ![1, w] inb).shape.Idx → Elt Ideal .f32}
    (hp : (∀ l, v.readCov L (Rect.unit (s := ⟨2, ![n, w]⟩) ![k, 0] ![1, w] inb).toLoadRect (ix2 (0 : Fin 1) l) = P ⟨k, hk⟩ l) →
      ∀ l, p (ix2 (0 : Fin 1) l) = P ⟨k, hk⟩ l + s ⟨k, hk⟩ l) :
    Leave ((⟨Rect.unit (s := ⟨2, ![n, w]⟩) ![k, 0] ![1, w] inb, p⟩ : View.Piece (Elt Ideal) ⟨2, ![n, w]⟩ .f32) :: L) (added P s (k + 1)) := fun r l => by
  rw [canon_row, h]
  by_cases e : r.val = k
  · obtain rfl : r = ⟨k, hk⟩ := Fin.ext e
    rw [if_pos rfl, hp (fun l => (h.load v inb hk l).trans (added_of_le P s _ l k (Nat.le_refl _)))]
    exact (if_pos rfl).symm
  · rw [if_neg e]
    exact (if_neg e).symm
/-- The same of stores over given contents. -/
theorem LeaveOver.add {L : List (View.Piece (Elt Ideal) ⟨2, ![n, w]⟩ .f32)} {P s : Fin n → Fin w → EReal} {sig : RefSig} {κ : Kind} {sp : Space}
    {v : View sig κ sp ⟨2, ![n, w]⟩ .f32} {f : v.ty.Contents (Elt Ideal)} {k : ℕ} (hk : k < n) (h : LeaveOver v f L (added P s k))
    {inb : ∀ a, (![k, 0] : Fin 2 → ℕ) a + (![1, w] : Fin 2 → ℕ) a ≤ (![n, w] : Fin 2 → ℕ) a}
    {p : (Rect.unit (s := ⟨2, ![n, w]⟩) ![k, 0] ![1, w] inb).shape.Idx → Elt Ideal .f32}
    (hp : ∀ l, p (ix2 (0 : Fin 1) l) = P ⟨k, hk⟩ l + s ⟨k, hk⟩ l) :
    LeaveOver v f ((⟨Rect.unit (s := ⟨2, ![n, w]⟩) ![k, 0] ![1, w] inb, p⟩ : View.Piece (Elt Ideal) ⟨2, ![n, w]⟩ .f32) :: L) (added P s (k + 1)) := fun r l => by
  rw [read_row, h]
  by_cases e : r.val = k
  · obtain rfl : r = ⟨k, hk⟩ := Fin.ext e
    rw [if_pos rfl, hp]
    exact (if_pos rfl).symm
  · rw [if_neg e]
    exact (if_neg e).symm

end Cert.Rows
-- ==== Proof.Mlp.Point.lean ====
module

public import proofs.«01_k».proof.Proof.Gen.MlpStepIdeal.Value
public import proofs.«01_k».proof.Proof.Mlp.Input
public import proofs.«01_k».proof.Proof.Math.Cols
public import proofs.«01_k».proof.Proof.Math.Leave
public import Idealize.ShloMosaic.Lib.Pipeline.ValueKit

/-! # The feed-forward block with its loss and its gradients: the values of one point -/

@[expose] public section
set_option maxRecDepth 16384
noncomputable section
namespace Cert.Mlp.Ker
open Cert.Lift Cert.Prep Idealize.ShloMosaic Idealize.ShloMosaic.TcCoe Idealize.SL.Sem Cert.MlpStepIdeal Cert.MlpStepIdeal.Gen
variable (m : (ℓ : Loc nD τ sig) → Buf (Elt Ideal) ℓ) (c : Dev nD) (t : Fin cfg0.N)

/-! The values of one point, in the body's order: its loads, then what it computes and stores. -/

def r0 : FVec Ideal S1x1024 .f32 := View.ld (iblk m c 7 t) (Rect.unit ![0, 0] ![1, 1024] inb_S8x1024_S1x1024_0_0)
def r1 : FVec Ideal S1x1024 .f32 := View.ld (iblk m c 7 t) (Rect.unit ![1, 0] ![1, 1024] inb_S8x1024_S1x1024_1_0)
def r2 : FVec Ideal S1x1024 .f32 := View.ld (iblk m c 7 t) (Rect.unit ![2, 0] ![1, 1024] inb_S8x1024_S1x1024_2_0)
def r3 : FVec Ideal S1x1024 .f32 := View.ld (iblk m c 7 t) (Rect.unit ![3, 0] ![1, 1024] inb_S8x1024_S1x1024_3_0)
def r4 : FVec Ideal S1x1024 .f32 := View.ld (iblk m c 7 t) (Rect.unit ![4, 0] ![1, 1024] inb_S8x1024_S1x1024_4_0)
def wu0 : FVec Ideal S1x1024x512 .bf16 := View.ld (iblk m c 3 t) (Rect.unit ![0, 0, 0] ![1, 1024, 512] inb_S8x1024x512_S1x1024x512_0_0_0)
def wu1 : FVec Ideal S1x1024x512 .bf16 := View.ld (iblk m c 3 t) (Rect.unit ![1, 0, 0] ![1, 1024, 512] inb_S8x1024x512_S1x1024x512_1_0_0)
def wu2 : FVec Ideal S1x1024x512 .bf16 := View.ld (iblk m c 3 t) (Rect.unit ![2, 0, 0] ![1, 1024, 512] inb_S8x1024x512_S1x1024x512_2_0_0)
def wu3 : FVec Ideal S1x1024x512 .bf16 := View.ld (iblk m c 3 t) (Rect.unit ![3, 0, 0] ![1, 1024, 512] inb_S8x1024x512_S1x1024x512_3_0_0)
def wu4 : FVec Ideal S1x1024x512 .bf16 := View.ld (iblk m c 3 t) (Rect.unit ![4, 0, 0] ![1, 1024, 512] inb_S8x1024x512_S1x1024x512_4_0_0)
def wu5 : FVec Ideal S1x1024x512 .bf16 := View.ld (iblk m c 3 t) (Rect.unit ![5, 0, 0] ![1, 1024, 512] inb_S8x1024x512_S1x1024x512_5_0_0)
def wu6 : FVec Ideal S1x1024x512 .bf16 := View.ld (iblk m c 3 t) (Rect.unit ![6, 0, 0] ![1, 1024, 512] inb_S8x1024x512_S1x1024x512_6_0_0)
def wu7 : FVec Ideal S1x1024x512 .bf16 := View.ld (iblk m c 3 t) (Rect.unit ![7, 0, 0] ![1, 1024, 512] inb_S8x1024x512_S1x1024x512_7_0_0)
def wp0 : FVec Ideal S1x256x128 .bf16 := View.ld (iblk m c 6 t) (Rect.unit ![0, 0, 0] ![1, 256, 128] inb_S8x256x128_S1x256x128_0_0_0)
def wp1 : FVec Ideal S1x256x128 .bf16 := View.ld (iblk m c 6 t) (Rect.unit ![1, 0, 0] ![1, 256, 128] inb_S8x256x128_S1x256x128_1_0_0)
def wp2 : FVec Ideal S1x256x128 .bf16 := View.ld (iblk m c 6 t) (Rect.unit ![2, 0, 0] ![1, 256, 128] inb_S8x256x128_S1x256x128_2_0_0)
def wp3 : FVec Ideal S1x256x128 .bf16 := View.ld (iblk m c 6 t) (Rect.unit ![3, 0, 0] ![1, 256, 128] inb_S8x256x128_S1x256x128_3_0_0)
def wp4 : FVec Ideal S1x256x128 .bf16 := View.ld (iblk m c 6 t) (Rect.unit ![4, 0, 0] ![1, 256, 128] inb_S8x256x128_S1x256x128_4_0_0)
def wp5 : FVec Ideal S1x256x128 .bf16 := View.ld (iblk m c 6 t) (Rect.unit ![5, 0, 0] ![1, 256, 128] inb_S8x256x128_S1x256x128_5_0_0)
def wp6 : FVec Ideal S1x256x128 .bf16 := View.ld (iblk m c 6 t) (Rect.unit ![6, 0, 0] ![1, 256, 128] inb_S8x256x128_S1x256x128_6_0_0)
def wp7 : FVec Ideal S1x256x128 .bf16 := View.ld (iblk m c 6 t) (Rect.unit ![7, 0, 0] ![1, 256, 128] inb_S8x256x128_S1x256x128_7_0_0)
def wd0 : FVec Ideal S512x1024 .bf16 := View.ld (iblk m c 4 t) (Rect.unit ![0, 0] ![512, 1024] inb_S4096x1024_S512x1024_0_0)
def wd1 : FVec Ideal S512x1024 .bf16 := View.ld (iblk m c 4 t) (Rect.unit ![512, 0] ![512, 1024] inb_S4096x1024_S512x1024_512_0)
def wd2 : FVec Ideal S512x1024 .bf16 := View.ld (iblk m c 4 t) (Rect.unit ![1024, 0] ![512, 1024] inb_S4096x1024_S512x1024_1024_0)
def wd3 : FVec Ideal S512x1024 .bf16 := View.ld (iblk m c 4 t) (Rect.unit ![1536, 0] ![512, 1024] inb_S4096x1024_S512x1024_1536_0)
def wd4 : FVec Ideal S512x1024 .bf16 := View.ld (iblk m c 4 t) (Rect.unit ![2048, 0] ![512, 1024] inb_S4096x1024_S512x1024_2048_0)
def wd5 : FVec Ideal S512x1024 .bf16 := View.ld (iblk m c 4 t) (Rect.unit ![2560, 0] ![512, 1024] inb_S4096x1024_S512x1024_2560_0)
def wd6 : FVec Ideal S512x1024 .bf16 := View.ld (iblk m c 4 t) (Rect.unit ![3072, 0] ![512, 1024] inb_S4096x1024_S512x1024_3072_0)
def wd7 : FVec Ideal S512x1024 .bf16 := View.ld (iblk m c 4 t) (Rect.unit ![3584, 0] ![512, 1024] inb_S4096x1024_S512x1024_3584_0)
def x4 : FVec Ideal S1x1024 .f32 := k0_pay3 (r0 m c t)
def x8 : FVec Ideal S1x1024 .f32 := k0_pay4 (r2 m c t)
def x10 : FVec Ideal S1x1024 .f32 := k0_pay5 (r3 m c t)
def x12 : FVec Ideal S1x1024 .f32 := k0_pay6 (r4 m c t)
def x27 : FVec Ideal S256x1 .f32 := k0_pay8 (iblk m c 0 t)
def x29 : FVec Ideal S256x1024 .f32 := k0_pay9 (iblk m c 0 t)
def x33 : FVec Ideal S256x1024 .f32 := k0_pay10 (r0 m c t) (r1 m c t) (iblk m c 0 t)
def x34 : FVec Ideal S256x1024 .bf16 := k0_pay11 (r0 m c t) (r1 m c t) (iblk m c 0 t)
def x37 : FVec Ideal S256x256 .bf16 := k0_pay12 (iblk m c 1 t)
def LR : List (View.Piece (Elt Ideal) S256x4096 .f32) := [
    ⟨Rect.unit ![0, 3584] ![256, 512] inb_S256x4096_S256x512_0_3584, k0_pay45 (x34 m c t) (wu7 m c t)⟩,
    ⟨Rect.unit ![0, 3072] ![256, 512] inb_S256x4096_S256x512_0_3072, k0_pay41 (x34 m c t) (wu6 m c t)⟩,
    ⟨Rect.unit ![0, 2560] ![256, 512] inb_S256x4096_S256x512_0_2560, k0_pay37 (x34 m c t) (wu5 m c t)⟩,
    ⟨Rect.unit ![0, 2048] ![256, 512] inb_S256x4096_S256x512_0_2048, k0_pay32 (x34 m c t) (wu4 m c t)⟩,
    ⟨Rect.unit ![0, 1536] ![256, 512] inb_S256x4096_S256x512_0_1536, k0_pay28 (k0_pay26 (x34 m c t) (wu3 m c t))⟩,
    ⟨Rect.unit ![0, 1024] ![256, 512] inb_S256x4096_S256x512_0_1024, k0_pay23 (x34 m c t) (wu2 m c t)⟩,
    ⟨Rect.unit ![0, 512] ![256, 512] inb_S256x4096_S256x512_0_512, k0_pay18 (x34 m c t) (wu1 m c t)⟩,
    ⟨Rect.unit ![0, 0] ![256, 512] inb_S256x4096_S256x512_0_0, k0_pay14 (x34 m c t) (wu0 m c t)⟩]
def LS : List (View.Piece (Elt Ideal) S256x4096 .bf16) := [
    ⟨Rect.unit ![0, 3584] ![256, 512] inb_S256x4096_S256x512_0_3584, k0_pay46 (x34 m c t) (wu7 m c t)⟩,
    ⟨Rect.unit ![0, 3072] ![256, 512] inb_S256x4096_S256x512_0_3072, k0_pay42 (x34 m c t) (wu6 m c t)⟩,
    ⟨Rect.unit ![0, 2560] ![256, 512] inb_S256x4096_S256x512_0_2560, k0_pay38 (x34 m c t) (wu5 m c t)⟩,
    ⟨Rect.unit ![0, 2048] ![256, 512] inb_S256x4096_S256x512_0_2048, k0_pay33 (x34 m c t) (wu4 m c t)⟩,
    ⟨Rect.unit ![0, 1536] ![256, 512] inb_S256x4096_S256x512_0_1536, k0_pay29 (k0_pay26 (x34 m c t) (wu3 m c t))⟩,
    ⟨Rect.unit ![0, 1024] ![256, 512] inb_S256x4096_S256x512_0_1024, k0_pay24 (x34 m c t) (wu2 m c t)⟩,
    ⟨Rect.unit ![0, 512] ![256, 512] inb_S256x4096_S256x512_0_512, k0_pay20 (k0_pay19 (x34 m c t) (wu1 m c t))⟩,
    ⟨Rect.unit ![0, 0] ![256, 512] inb_S256x4096_S256x512_0_0, k0_pay15 (x34 m c t) (wu0 m c t)⟩]
def LP : List (View.Piece (Elt Ideal) S256x1024 .f32) := [
    ⟨Rect.unit ![0, 896] ![256, 128] inb_S256x1024_S256x128_0_896, k0_pay47 (x37 m c t) (wp7 m c t)⟩,
    ⟨Rect.unit ![0, 768] ![256, 128] inb_S256x1024_S256x128_0_768, k0_pay43 (x37 m c t) (wp6 m c t)⟩,
    ⟨Rect.unit ![0, 640] ![256, 128] inb_S256x1024_S256x128_0_640, k0_pay39 (x37 m c t) (wp5 m c t)⟩,
    ⟨Rect.unit ![0, 512] ![256, 128] inb_S256x1024_S256x128_0_512, k0_pay35 (k0_pay34 (x37 m c t) (wp4 m c t))⟩,
    ⟨Rect.unit ![0, 384] ![256, 128] inb_S256x1024_S256x128_0_384, k0_pay30 (x37 m c t) (wp3 m c t)⟩,
    ⟨Rect.unit ![0, 256] ![256, 128] inb_S256x1024_S256x128_0_256, k0_pay25 (x37 m c t) (wp2 m c t)⟩,
    ⟨Rect.unit ![0, 128] ![256, 128] inb_S256x1024_S256x128_0_128, k0_pay21 (x37 m c t) (wp1 m c t)⟩,
    ⟨Rect.unit ![0, 0] ![256, 128] inb_S256x1024_S256x128_0_0, k0_pay16 (iblk m c 1 t) (wp0 m c t)⟩]
def rl0 : FVec Ideal S256x512 .f32 := ((View.whole cc0_scratch0).readCov (LR m c t) (Rect.unit ![0, 0] ![256, 512] inb_S256x4096_S256x512_0_0).toLoadRect :)
def rl1 : FVec Ideal S256x512 .f32 := ((View.whole cc0_scratch0).readCov (LR m c t) (Rect.unit ![0, 512] ![256, 512] inb_S256x4096_S256x512_0_512).toLoadRect :)
def rl2 : FVec Ideal S256x512 .f32 := ((View.whole cc0_scratch0).readCov (LR m c t) (Rect.unit ![0, 1024] ![256, 512] inb_S256x4096_S256x512_0_1024).toLoadRect :)
def rl3 : FVec Ideal S256x512 .f32 := ((View.whole cc0_scratch0).readCov (LR m c t) (Rect.unit ![0, 1536] ![256, 512] inb_S256x4096_S256x512_0_1536).toLoadRect :)
def rl4 : FVec Ideal S256x512 .f32 := ((View.whole cc0_scratch0).readCov (LR m c t) (Rect.unit ![0, 2048] ![256, 512] inb_S256x4096_S256x512_0_2048).toLoadRect :)
def rl5 : FVec Ideal S256x512 .f32 := ((View.whole cc0_scratch0).readCov (LR m c t) (Rect.unit ![0, 2560] ![256, 512] inb_S256x4096_S256x512_0_2560).toLoadRect :)
def rl6 : FVec Ideal S256x512 .f32 := ((View.whole cc0_scratch0).readCov (LR m c t) (Rect.unit ![0, 3072] ![256, 512] inb_S256x4096_S256x512_0_3072).toLoadRect :)
def rl7 : FVec Ideal S256x512 .f32 := ((View.whole cc0_scratch0).readCov (LR m c t) (Rect.unit ![0, 3584] ![256, 512] inb_S256x4096_S256x512_0_3584).toLoadRect :)
def x175 : FVec Ideal S256x4096 .bf16 := ((ms0_12 t).view.readCov (LS m c t) (Rect.unit ![0, 0] ![256, 4096] inb_S256x4096_S256x4096_0_0).toLoadRect :)
def x192 : FVec Ideal S256x1024 .f32 := ((View.whole cc0_scratch1).readCov (LP m c t) (Rect.unit ![0, 0] ![256, 1024] inb_S256x1024_S256x1024_0_0).toLoadRect :)
def x179 : FVec Ideal S256x1024 .f32 := k0_pay48 (x175 m c t) (iblk m c 4 t)
def x191 : FVec Ideal S256x1024 .f32 := k0_pay49 (x8 m c t) (x34 m c t) (iblk m c 5 t)
def x211 : FVec Ideal S256x1 .f32 := k0_pay51 (x8 m c t) (x33 m c t) (x34 m c t) (x179 m c t) (iblk m c 5 t) (x192 m c t)
def x213 : FVec Ideal S256x1024 .f32 := k0_pay52 (x8 m c t) (x33 m c t) (x34 m c t) (x179 m c t) (iblk m c 5 t) (x192 m c t)
def x219 : FVec Ideal S256x1024 .f32 := k0_pay53 (x8 m c t) (x10 m c t) (x12 m c t) (x33 m c t) (x34 m c t) (x179 m c t) (iblk m c 5 t) (x192 m c t) (iblk m c 2 t)
def x221 : FVec Ideal S256x1024 .f32 := k0_pay54 (x8 m c t) (x10 m c t) (x12 m c t) (x33 m c t) (x34 m c t) (x179 m c t) (iblk m c 5 t) (x192 m c t) (iblk m c 2 t)
def x223 : FVec Ideal S256x1024 .f32 := k0_pay55 (x8 m c t) (x10 m c t) (x12 m c t) (x33 m c t) (x34 m c t) (x179 m c t) (iblk m c 5 t) (x192 m c t) (iblk m c 2 t)
def x240 : FVec Ideal S256x1024 .bf16 := k0_pay57 (x211 m c t) (x213 m c t) (x223 m c t)
def x249 : FVec Ideal S256x1024 .f32 := k0_pay59 (x191 m c t) (x192 m c t) (x211 m c t) (x213 m c t) (x223 m c t)
def x257 : FVec Ideal S256x1024 .f32 := k0_pay61 (x191 m c t) (x192 m c t) (x211 m c t) (x213 m c t) (x223 m c t) (iblk m c 5 t)
def x260 : FVec Ideal S256x512 .f32 := k0_pay62 (x211 m c t) (x213 m c t) (x223 m c t) (wd0 m c t)
def d0 : FVec Ideal S256x512 .bf16 := k0_pay63 (x260 m c t) (rl0 m c t)
def d1 : FVec Ideal S256x512 .bf16 := k0_pay64 (x240 m c t) (wd1 m c t) (rl1 m c t)
def d2 : FVec Ideal S256x512 .bf16 := k0_pay66 (x240 m c t) (wd2 m c t) (rl2 m c t)
def d3 : FVec Ideal S256x512 .bf16 := k0_pay67 (x240 m c t) (wd3 m c t) (rl3 m c t)
def d4 : FVec Ideal S256x512 .bf16 := k0_pay69 (x240 m c t) (wd4 m c t) (rl4 m c t)
def d5 : FVec Ideal S256x512 .bf16 := k0_pay71 (x240 m c t) (wd5 m c t) (rl5 m c t)
def d6 : FVec Ideal S256x512 .bf16 := k0_pay72 (x240 m c t) (wd6 m c t) (rl6 m c t)
def x351 : FVec Ideal S256x512 .f32 := k0_pay74 (x240 m c t) (wd7 m c t)
def d7 : FVec Ideal S256x512 .bf16 := k0_pay75 (x351 m c t) (rl7 m c t)
def LD : List (View.Piece (Elt Ideal) S256x4096 .bf16) := [
    ⟨Rect.unit ![0, 3584] ![256, 512] inb_S256x4096_S256x512_0_3584, d7 m c t⟩,
    ⟨Rect.unit ![0, 3072] ![256, 512] inb_S256x4096_S256x512_0_3072, d6 m c t⟩,
    ⟨Rect.unit ![0, 2560] ![256, 512] inb_S256x4096_S256x512_0_2560, d5 m c t⟩,
    ⟨Rect.unit ![0, 2048] ![256, 512] inb_S256x4096_S256x512_0_2048, d4 m c t⟩,
    ⟨Rect.unit ![0, 1536] ![256, 512] inb_S256x4096_S256x512_0_1536, d3 m c t⟩,
    ⟨Rect.unit ![0, 1024] ![256, 512] inb_S256x4096_S256x512_0_1024, d2 m c t⟩,
    ⟨Rect.unit ![0, 512] ![256, 512] inb_S256x4096_S256x512_0_512, d1 m c t⟩,
    ⟨Rect.unit ![0, 0] ![256, 512] inb_S256x4096_S256x512_0_0, d0 m c t⟩]
def x283 : FVec Ideal S256x1024 .f32 := k0_pay65 (x240 m c t) (x257 m c t) (x260 m c t) (rl0 m c t) (wu0 m c t) (wd1 m c t) (rl1 m c t) (wu1 m c t)
def x309 : FVec Ideal S256x1024 .f32 := k0_pay68 (x240 m c t) (x283 m c t) (d2 m c t) (wu2 m c t) (wd3 m c t) (rl3 m c t) (wu3 m c t)
def x321 : FVec Ideal S256x1024 .f32 := k0_pay70 (x240 m c t) (wd4 m c t) (rl4 m c t) (wu4 m c t)
def x348 : FVec Ideal S256x1024 .f32 := k0_pay73 (x240 m c t) (x309 m c t) (x321 m c t) (wd5 m c t) (rl5 m c t) (wu5 m c t) (wd6 m c t) (rl6 m c t) (wu6 m c t)
def x361 : FVec Ideal S256x1024 .f32 := k0_pay76 (x348 m c t) (x351 m c t) (rl7 m c t) (wu7 m c t)
def x379 : FVec Ideal S256x1024 .f32 := k0_pay77 (x4 m c t) (x27 m c t) (x29 m c t) (x348 m c t) (x351 m c t) (rl7 m c t) (wu7 m c t)

variable {m c} {a : Reals} (h : Holds m c a)
include h
/-! Their readings. -/

theorem r0_is : Is2 (φ := .f32) (r0 m c t) fun _ : Fin 1 => a.g1 := fun _ l => (ld_row _ _ (by decide) _ l).trans (b7_0 h t l)
theorem r1_is : Is2 (φ := .f32) (r1 m c t) fun _ : Fin 1 => a.b1 := fun _ l => (ld_row _ _ (by decide) _ l).trans (b7_1 h t l)
theorem r2_is : Is2 (φ := .f32) (r2 m c t) fun _ : Fin 1 => a.bg := fun _ l => (ld_row _ _ (by decide) _ l).trans (b7_2 h t l)
theorem r3_is : Is2 (φ := .f32) (r3 m c t) fun _ : Fin 1 => a.g2 := fun _ l => (ld_row _ _ (by decide) _ l).trans (b7_3 h t l)
theorem r4_is : Is2 (φ := .f32) (r4 m c t) fun _ : Fin 1 => a.b2 := fun _ l => (ld_row _ _ (by decide) _ l).trans (b7_4 h t l)
theorem wu0_is : ∀ (l : Fin 1024) (k : Fin 512), (wu0 m c t (ix3 (0 : Fin 1) l k) : EReal) = ((a.wu l (col 0 k) : ℝ) : EReal) := fun l k => (ld_group _ _ (by decide) l k).trans (b3 h t 0 l k)
theorem wu1_is : ∀ (l : Fin 1024) (k : Fin 512), (wu1 m c t (ix3 (0 : Fin 1) l k) : EReal) = ((a.wu l (col 1 k) : ℝ) : EReal) := fun l k => (ld_group _ _ (by decide) l k).trans (b3 h t 1 l k)
theorem wu2_is : ∀ (l : Fin 1024) (k : Fin 512), (wu2 m c t (ix3 (0 : Fin 1) l k) : EReal) = ((a.wu l (col 2 k) : ℝ) : EReal) := fun l k => (ld_group _ _ (by decide) l k).trans (b3 h t 2 l k)
theorem wu3_is : ∀ (l : Fin 1024) (k : Fin 512), (wu3 m c t (ix3 (0 : Fin 1) l k) : EReal) = ((a.wu l (col 3 k) : ℝ) : EReal) := fun l k => (ld_group _ _ (by decide) l k).trans (b3 h t 3 l k)
theorem wu4_is : ∀ (l : Fin 1024) (k : Fin 512), (wu4 m c t (ix3 (0 : Fin 1) l k) : EReal) = ((a.wu l (col 4 k) : ℝ) : EReal) := fun l k => (ld_group _ _ (by decide) l k).trans (b3 h t 4 l k)
theorem wu5_is : ∀ (l : Fin 1024) (k : Fin 512), (wu5 m c t (ix3 (0 : Fin 1) l k) : EReal) = ((a.wu l (col 5 k) : ℝ) : EReal) := fun l k => (ld_group _ _ (by decide) l k).trans (b3 h t 5 l k)
theorem wu6_is : ∀ (l : Fin 1024) (k : Fin 512), (wu6 m c t (ix3 (0 : Fin 1) l k) : EReal) = ((a.wu l (col 6 k) : ℝ) : EReal) := fun l k => (ld_group _ _ (by decide) l k).trans (b3 h t 6 l k)
theorem wu7_is : ∀ (l : Fin 1024) (k : Fin 512), (wu7 m c t (ix3 (0 : Fin 1) l k) : EReal) = ((a.wu l (col 7 k) : ℝ) : EReal) := fun l k => (ld_group _ _ (by decide) l k).trans (b3 h t 7 l k)
theorem wp0_is : ∀ (l : Fin 256) (k : Fin 128), (wp0 m c t (ix3 (0 : Fin 1) l k) : EReal) = ((a.wp l (pcol 0 k) : ℝ) : EReal) := fun l k => (ld_group _ _ (by decide) l k).trans (b6 h t 0 l k)
theorem wp1_is : ∀ (l : Fin 256) (k : Fin 128), (wp1 m c t (ix3 (0 : Fin 1) l k) : EReal) = ((a.wp l (pcol 1 k) : ℝ) : EReal) := fun l k => (ld_group _ _ (by decide) l k).trans (b6 h t 1 l k)
theorem wp2_is : ∀ (l : Fin 256) (k : Fin 128), (wp2 m c t (ix3 (0 : Fin 1) l k) : EReal) = ((a.wp l (pcol 2 k) : ℝ) : EReal) := fun l k => (ld_group _ _ (by decide) l k).trans (b6 h t 2 l k)
theorem wp3_is : ∀ (l : Fin 256) (k : Fin 128), (wp3 m c t (ix3 (0 : Fin 1) l k) : EReal) = ((a.wp l (pcol 3 k) : ℝ) : EReal) := fun l k => (ld_group _ _ (by decide) l k).trans (b6 h t 3 l k)
theorem wp4_is : ∀ (l : Fin 256) (k : Fin 128), (wp4 m c t (ix3 (0 : Fin 1) l k) : EReal) = ((a.wp l (pcol 4 k) : ℝ) : EReal) := fun l k => (ld_group _ _ (by decide) l k).trans (b6 h t 4 l k)
theorem wp5_is : ∀ (l : Fin 256) (k : Fin 128), (wp5 m c t (ix3 (0 : Fin 1) l k) : EReal) = ((a.wp l (pcol 5 k) : ℝ) : EReal) := fun l k => (ld_group _ _ (by decide) l k).trans (b6 h t 5 l k)
theorem wp6_is : ∀ (l : Fin 256) (k : Fin 128), (wp6 m c t (ix3 (0 : Fin 1) l k) : EReal) = ((a.wp l (pcol 6 k) : ℝ) : EReal) := fun l k => (ld_group _ _ (by decide) l k).trans (b6 h t 6 l k)
theorem wp7_is : ∀ (l : Fin 256) (k : Fin 128), (wp7 m c t (ix3 (0 : Fin 1) l k) : EReal) = ((a.wp l (pcol 7 k) : ℝ) : EReal) := fun l k => (ld_group _ _ (by decide) l k).trans (b6 h t 7 l k)
theorem wd0_is : Is2 (φ := .bf16) (wd0 m c t) fun k l => a.wd (col 0 k) l := fun k l => (ld_rows _ _ (by decide) k l).trans (b4 h t _ l)
theorem wd1_is : Is2 (φ := .bf16) (wd1 m c t) fun k l => a.wd (col 1 k) l := fun k l => (ld_rows _ _ (by decide) k l).trans (b4 h t _ l)
theorem wd2_is : Is2 (φ := .bf16) (wd2 m c t) fun k l => a.wd (col 2 k) l := fun k l => (ld_rows _ _ (by decide) k l).trans (b4 h t _ l)
theorem wd3_is : Is2 (φ := .bf16) (wd3 m c t) fun k l => a.wd (col 3 k) l := fun k l => (ld_rows _ _ (by decide) k l).trans (b4 h t _ l)
theorem wd4_is : Is2 (φ := .bf16) (wd4 m c t) fun k l => a.wd (col 4 k) l := fun k l => (ld_rows _ _ (by decide) k l).trans (b4 h t _ l)
theorem wd5_is : Is2 (φ := .bf16) (wd5 m c t) fun k l => a.wd (col 5 k) l := fun k l => (ld_rows _ _ (by decide) k l).trans (b4 h t _ l)
theorem wd6_is : Is2 (φ := .bf16) (wd6 m c t) fun k l => a.wd (col 6 k) l := fun k l => (ld_rows _ _ (by decide) k l).trans (b4 h t _ l)
theorem wd7_is : Is2 (φ := .bf16) (wd7 m c t) fun k l => a.wd (col 7 k) l := fun k l => (ld_rows _ _ (by decide) k l).trans (b4 h t _ l)
theorem x4_is : Is2 (φ := .f32) (x4 m c t) fun _ : Fin 1 => a.g1 := pay3 (r0_is t h)
theorem x8_is : Is2 (φ := .f32) (x8 m c t) fun _ : Fin 1 => a.bg := pay4 (r2_is t h)
theorem x10_is : Is2 (φ := .f32) (x10 m c t) fun _ : Fin 1 => a.g2 := pay5 (r3_is t h)
theorem x12_is : Is2 (φ := .f32) (x12 m c t) fun _ : Fin 1 => a.b2 := pay6 (r4_is t h)
theorem x27_is : Is2 (φ := .f32) (x27 m c t) fun p (_ : Fin 1) => LayerNorm.rho (a.z (row t p)) := pay8 (b0 h t)
theorem x29_is : Is2 (φ := .f32) (x29 m c t) fun p => LayerNorm.xhat (a.z (row t p)) := pay9 (b0 h t)
theorem x33_is : Is2 (φ := .f32) (x33 m c t) fun p => a.h1 (row t p) := pay10 (b0 h t) (r0_is t h) (r1_is t h)
theorem x34_is : Is2 (φ := .bf16) (x34 m c t) fun p => a.h1 (row t p) := pay11 (b0 h t) (r0_is t h) (r1_is t h)
theorem x37_is : Is2 (φ := .bf16) (x37 m c t) fun p => a.p (row t p) := pay12 (b1 h t)
theorem LR_is : Cols.Upto (e := .f32) (LR m c t) (fun p k => ((a.rl (row t p) k : ℝ) : EReal)) 4096 := by
  unfold LR
  refine Cols.Upto.cons (o := 3584) (w := 512) ?_ (by decide) fun p k => (pay14 (c := 7) (x34_is t h) (wu7_is t h)) p k
  refine Cols.Upto.cons (o := 3072) (w := 512) ?_ (by decide) fun p k => (pay14 (c := 6) (x34_is t h) (wu6_is t h)) p k
  refine Cols.Upto.cons (o := 2560) (w := 512) ?_ (by decide) fun p k => (pay14 (c := 5) (x34_is t h) (wu5_is t h)) p k
  refine Cols.Upto.cons (o := 2048) (w := 512) ?_ (by decide) fun p k => (pay14 (c := 4) (x34_is t h) (wu4_is t h)) p k
  refine Cols.Upto.cons (o := 1536) (w := 512) ?_ (by decide) fun p k => (pay14 (c := 3) (x34_is t h) (wu3_is t h)) p k
  refine Cols.Upto.cons (o := 1024) (w := 512) ?_ (by decide) fun p k => (pay14 (c := 2) (x34_is t h) (wu2_is t h)) p k
  refine Cols.Upto.cons (o := 512) (w := 512) ?_ (by decide) fun p k => (pay14 (c := 1) (x34_is t h) (wu1_is t h)) p k
  refine Cols.Upto.cons (o := 0) (w := 512) ?_ (by decide) fun p k => (pay14 (c := 0) (x34_is t h) (wu0_is t h)) p k
  exact Cols.Upto.nil _
theorem LS_is : Cols.Upto (e := .bf16) (LS m c t) (fun p k => ((a.rl (row t p) k * a.rl (row t p) k : ℝ) : EReal)) 4096 := by
  unfold LS
  refine Cols.Upto.cons (o := 3584) (w := 512) ?_ (by decide) fun p k => (pay15 (c := 7) (x34_is t h) (wu7_is t h)) p k
  refine Cols.Upto.cons (o := 3072) (w := 512) ?_ (by decide) fun p k => (pay15 (c := 6) (x34_is t h) (wu6_is t h)) p k
  refine Cols.Upto.cons (o := 2560) (w := 512) ?_ (by decide) fun p k => (pay15 (c := 5) (x34_is t h) (wu5_is t h)) p k
  refine Cols.Upto.cons (o := 2048) (w := 512) ?_ (by decide) fun p k => (pay15 (c := 4) (x34_is t h) (wu4_is t h)) p k
  refine Cols.Upto.cons (o := 1536) (w := 512) ?_ (by decide) fun p k => (pay15 (c := 3) (x34_is t h) (wu3_is t h)) p k
  refine Cols.Upto.cons (o := 1024) (w := 512) ?_ (by decide) fun p k => (pay15 (c := 2) (x34_is t h) (wu2_is t h)) p k
  refine Cols.Upto.cons (o := 512) (w := 512) ?_ (by decide) fun p k => (pay15 (c := 1) (x34_is t h) (wu1_is t h)) p k
  refine Cols.Upto.cons (o := 0) (w := 512) ?_ (by decide) fun p k => (pay15 (c := 0) (x34_is t h) (wu0_is t h)) p k
  exact Cols.Upto.nil _
theorem LP_is : Cols.Upto (e := .f32) (LP m c t) (fun p k => ((a.pw (row t p) k : ℝ) : EReal)) 1024 := by
  unfold LP
  refine Cols.Upto.cons (o := 896) (w := 128) ?_ (by decide) fun p k => (pay16 (c := 7) (b1 h t) (wp7_is t h)) p k
  refine Cols.Upto.cons (o := 768) (w := 128) ?_ (by decide) fun p k => (pay16 (c := 6) (b1 h t) (wp6_is t h)) p k
  refine Cols.Upto.cons (o := 640) (w := 128) ?_ (by decide) fun p k => (pay16 (c := 5) (b1 h t) (wp5_is t h)) p k
  refine Cols.Upto.cons (o := 512) (w := 128) ?_ (by decide) fun p k => (pay16 (c := 4) (b1 h t) (wp4_is t h)) p k
  refine Cols.Upto.cons (o := 384) (w := 128) ?_ (by decide) fun p k => (pay16 (c := 3) (b1 h t) (wp3_is t h)) p k
  refine Cols.Upto.cons (o := 256) (w := 128) ?_ (by decide) fun p k => (pay16 (c := 2) (b1 h t) (wp2_is t h)) p k
  refine Cols.Upto.cons (o := 128) (w := 128) ?_ (by decide) fun p k => (pay16 (c := 1) (b1 h t) (wp1_is t h)) p k
  refine Cols.Upto.cons (o := 0) (w := 128) ?_ (by decide) fun p k => (pay16 (c := 0) (b1 h t) (wp0_is t h)) p k
  exact Cols.Upto.nil _
theorem rl0_is : Is2 (φ := .f32) (rl0 m c t) fun p k => a.rl (row t p) (col 0 k) := fun p k => (LR_is t h).load _ (by decide) _ p k
theorem rl1_is : Is2 (φ := .f32) (rl1 m c t) fun p k => a.rl (row t p) (col 1 k) := fun p k => (LR_is t h).load _ (by decide) _ p k
theorem rl2_is : Is2 (φ := .f32) (rl2 m c t) fun p k => a.rl (row t p) (col 2 k) := fun p k => (LR_is t h).load _ (by decide) _ p k
theorem rl3_is : Is2 (φ := .f32) (rl3 m c t) fun p k => a.rl (row t p) (col 3 k) := fun p k => (LR_is t h).load _ (by decide) _ p k
theorem rl4_is : Is2 (φ := .f32) (rl4 m c t) fun p k => a.rl (row t p) (col 4 k) := fun p k => (LR_is t h).load _ (by decide) _ p k
theorem rl5_is : Is2 (φ := .f32) (rl5 m c t) fun p k => a.rl (row t p) (col 5 k) := fun p k => (LR_is t h).load _ (by decide) _ p k
theorem rl6_is : Is2 (φ := .f32) (rl6 m c t) fun p k => a.rl (row t p) (col 6 k) := fun p k => (LR_is t h).load _ (by decide) _ p k
theorem rl7_is : Is2 (φ := .f32) (rl7 m c t) fun p k => a.rl (row t p) (col 7 k) := fun p k => (LR_is t h).load _ (by decide) _ p k
theorem x175_is : Is2 (φ := .bf16) (x175 m c t) fun p k => a.rl (row t p) k * a.rl (row t p) k := fun p k => ((LS_is t h).load _ (by decide) _ p k).trans (by simp only [Nat.zero_add])
theorem x192_is : Is2 (φ := .f32) (x192 m c t) fun p => a.pw (row t p) := fun p k => ((LP_is t h).load _ (by decide) _ p k).trans (by simp only [Nat.zero_add])
theorem x179_is : Is2 (φ := .f32) (x179 m c t) fun p l => ∑ k, a.rl (row t p) k * a.rl (row t p) k * a.wd k l := pay48 (x175_is t h) (b4 h t)
theorem x191_is : Is2 (φ := .f32) (x191 m c t) fun p => a.gate (row t p) := pay49 (x8_is t h) (x34_is t h) (b5 h t)
theorem x211_is : Is2 (φ := .f32) (x211 m c t) fun p (_ : Fin 1) => LayerNorm.rho (a.z2 (row t p)) := pay51 (x8_is t h) (x34_is t h) (b5 h t) (x33_is t h) (x179_is t h) (x192_is t h)
theorem x213_is : Is2 (φ := .f32) (x213 m c t) fun p => LayerNorm.xhat (a.z2 (row t p)) := pay52 (x8_is t h) (x34_is t h) (b5 h t) (x33_is t h) (x179_is t h) (x192_is t h)
theorem x219_is : Is2 (φ := .f32) (x219 m c t) fun p => a.err (row t p) := pay53 (x8_is t h) (x34_is t h) (b5 h t) (x33_is t h) (x179_is t h) (x192_is t h) (x10_is t h) (x12_is t h) (b2 h t)
theorem x221_is : Is2 (φ := .f32) (x221 m c t) fun p => a.dy (row t p) := pay54 (x8_is t h) (x34_is t h) (b5 h t) (x33_is t h) (x179_is t h) (x192_is t h) (x10_is t h) (x12_is t h) (b2 h t)
theorem x223_is : Is2 (φ := .f32) (x223 m c t) fun p k => a.dy (row t p) k * a.g2 k := pay55 (x8_is t h) (x34_is t h) (b5 h t) (x33_is t h) (x179_is t h) (x192_is t h) (x10_is t h) (x12_is t h) (b2 h t)
theorem x240_is : Is2 (φ := .bf16) (x240 m c t) fun p => a.dz2 (row t p) := pay57 (x211_is t h) (x213_is t h) (x223_is t h)
theorem x249_is : Is2 (φ := .f32) (x249 m c t) fun p => a.dgl (row t p) := pay59 (x211_is t h) (x213_is t h) (x223_is t h) (x191_is t h) (x192_is t h)
theorem x257_is : Is2 (φ := .f32) (x257 m c t) fun p => a.dh0 (row t p) := pay61 (x211_is t h) (x213_is t h) (x223_is t h) (x191_is t h) (x192_is t h) (b5 h t)
theorem x260_is : Is2 (φ := .f32) (x260 m c t) fun p k => ∑ l, a.dz2 (row t p) l * a.wd (col 0 k) l := pay62 (x211_is t h) (x213_is t h) (x223_is t h) (wd0_is t h)
theorem d0_is : Is2 (φ := .bf16) (d0 m c t) fun p k => a.du (row t p) (col 0 k) := pay63 (rl0_is t h) (x260_is t h)
theorem d1_is : Is2 (φ := .bf16) (d1 m c t) fun p k => a.du (row t p) (col 1 k) := pay64 (rl1_is t h) (x240_is t h) (wd1_is t h)
theorem d2_is : Is2 (φ := .bf16) (d2 m c t) fun p k => a.du (row t p) (col 2 k) := pay64 (rl2_is t h) (x240_is t h) (wd2_is t h)
theorem d3_is : Is2 (φ := .bf16) (d3 m c t) fun p k => a.du (row t p) (col 3 k) := pay64 (rl3_is t h) (x240_is t h) (wd3_is t h)
theorem d4_is : Is2 (φ := .bf16) (d4 m c t) fun p k => a.du (row t p) (col 4 k) := pay64 (rl4_is t h) (x240_is t h) (wd4_is t h)
theorem d5_is : Is2 (φ := .bf16) (d5 m c t) fun p k => a.du (row t p) (col 5 k) := pay64 (rl5_is t h) (x240_is t h) (wd5_is t h)
theorem d6_is : Is2 (φ := .bf16) (d6 m c t) fun p k => a.du (row t p) (col 6 k) := pay64 (rl6_is t h) (x240_is t h) (wd6_is t h)
theorem x351_is : Is2 (φ := .f32) (x351 m c t) fun p k => ∑ l, a.dz2 (row t p) l * a.wd (col 7 k) l := pay74 (x240_is t h) (wd7_is t h)
theorem d7_is : Is2 (φ := .bf16) (d7 m c t) fun p k => a.du (row t p) (col 7 k) := pay63 (rl7_is t h) (x351_is t h)
theorem LD_is : Cols.Upto (e := .bf16) (LD m c t) (fun p k => ((a.du (row t p) k : ℝ) : EReal)) 4096 := by
  unfold LD
  refine Cols.Upto.cons (o := 3584) (w := 512) ?_ (by decide) fun p k => (d7_is t h) p k
  refine Cols.Upto.cons (o := 3072) (w := 512) ?_ (by decide) fun p k => (d6_is t h) p k
  refine Cols.Upto.cons (o := 2560) (w := 512) ?_ (by decide) fun p k => (d5_is t h) p k
  refine Cols.Upto.cons (o := 2048) (w := 512) ?_ (by decide) fun p k => (d4_is t h) p k
  refine Cols.Upto.cons (o := 1536) (w := 512) ?_ (by decide) fun p k => (d3_is t h) p k
  refine Cols.Upto.cons (o := 1024) (w := 512) ?_ (by decide) fun p k => (d2_is t h) p k
  refine Cols.Upto.cons (o := 512) (w := 512) ?_ (by decide) fun p k => (d1_is t h) p k
  refine Cols.Upto.cons (o := 0) (w := 512) ?_ (by decide) fun p k => (d0_is t h) p k
  exact Cols.Upto.nil _
theorem x283_is : Is2 (φ := .f32) (x283 m c t) fun p l => a.dh0 (row t p) l + a.up (row t p) 0 l + a.up (row t p) 1 l := add_is (add_is (x257_is t h) (back_real (d0_is t h) (wu0_is t h))) (back_real (d1_is t h) (wu1_is t h))
theorem x309_is : Is2 (φ := .f32) (x309 m c t) fun p l => a.dh0 (row t p) l + a.up (row t p) 0 l + a.up (row t p) 1 l + a.up (row t p) 2 l + a.up (row t p) 3 l := add_is (add_is (x283_is t h) (back_real (d2_is t h) (wu2_is t h))) (back_real (d3_is t h) (wu3_is t h))
theorem x321_is : Is2 (φ := .f32) (x321 m c t) fun p => a.up (row t p) 4 := (back_real (d4_is t h) (wu4_is t h))
theorem x348_is : Is2 (φ := .f32) (x348 m c t) fun p l => a.dh0 (row t p) l + a.up (row t p) 0 l + a.up (row t p) 1 l + a.up (row t p) 2 l + a.up (row t p) 3 l + a.up (row t p) 4 l + a.up (row t p) 5 l + a.up (row t p) 6 l := add_is (add_is (add_is (x309_is t h) (x321_is t h)) (back_real (d5_is t h) (wu5_is t h))) (back_real (d6_is t h) (wu6_is t h))
theorem x361_is : Is2 (φ := .f32) (x361 m c t) fun p => a.dh1 (row t p) := fun p l => (add_is (x348_is t h) (back_real (d7_is t h) (wu7_is t h)) p l).trans (congrArg _ (a.dh1_eq (row t p) l))
theorem x379_is : Is2 (φ := .f32) (x379 m c t) fun p => a.dz1 (row t p) := pay77 (x4_is t h) (x27_is t h) (x29_is t h) (x361_is t h)
end Cert.Mlp.Ker
-- ==== Proof.Mlp.Kernel.lean ====
module

public import proofs.«01_k».proof.Proof.Mlp.Point

/-! # The feed-forward block with its loss and its gradients: what the kernel computes -/

@[expose] public section
set_option maxRecDepth 16384
noncomputable section
namespace Cert.Mlp.Ker
open Cert.Lift Cert.Prep Idealize.ShloMosaic Idealize.ShloMosaic.TcCoe Idealize.SL.Sem Cert.MlpStepIdeal Cert.MlpStepIdeal.Gen
variable {m : (ℓ : Loc nD τ sig) → Buf (Elt Ideal) ℓ} {c : Dev nD} {a : Reals} (h : Holds m c a)
include h

/-- The gradient at the first norm's input. -/
theorem final8 : (dats m 0 c).arrAt 8 cfg0.N = fun j => ((a.dz1 (j 0) (j 1) : ℝ) : EReal) := by
  refine (dats m 0 c).arrAt_eq_of_covers 8 _ (by decide +kernel) fun t _ y => ?_
  blk_simp
  rw [after0_8]
  have e0 : ((View.whole main_v15_0).slice (win0_8.rect t)).emb y 0 = row t (y 0) := by
    apply Fin.ext; blk_simp [idx t, row]
  have e1 : ((View.whole main_v15_0).slice (win0_8.rect t)).emb y 1 = y 1 := by
    apply Fin.ext; blk_simp [idx t, row]
  rw [e0, e1]
  by_cases h0 : t.val % 8 = 0
  · rw [outsAt0_A m c t h0]
    frame_out
    idx_vars y
    exact x379_is t h _ _
  · rw [outsAt0_B m c t h0]
    frame_out
    idx_vars y
    exact x379_is t h _ _
/-- The same, at the narrower width. -/
theorem final9 : (dats m 0 c).arrAt 9 cfg0.N = fun j => ((a.dz1 (j 0) (j 1) : ℝ) : EReal) := by
  refine (dats m 0 c).arrAt_eq_of_covers 9 _ (by decide +kernel) fun t _ y => ?_
  blk_simp
  rw [after0_9]
  have e0 : ((View.whole main_v15_1).slice (win0_9.rect t)).emb y 0 = row t (y 0) := by
    apply Fin.ext; blk_simp [idx t, row]
  have e1 : ((View.whole main_v15_1).slice (win0_9.rect t)).emb y 1 = y 1 := by
    apply Fin.ext; blk_simp [idx t, row]
  rw [e0, e1]
  by_cases h0 : t.val % 8 = 0
  · rw [outsAt0_A m c t h0]
    frame_out
    idx_vars y
    exact x379_is t h _ _
  · rw [outsAt0_B m c t h0]
    frame_out
    idx_vars y
    exact x379_is t h _ _
/-- The first norm's output. -/
theorem final10 : (dats m 0 c).arrAt 10 cfg0.N = fun j => ((a.h1 (j 0) (j 1) : ℝ) : EReal) := by
  refine (dats m 0 c).arrAt_eq_of_covers 10 _ (by decide +kernel) fun t _ y => ?_
  blk_simp
  rw [after0_10]
  have e0 : ((View.whole main_v15_2).slice (win0_10.rect t)).emb y 0 = row t (y 0) := by
    apply Fin.ext; blk_simp [idx t, row]
  have e1 : ((View.whole main_v15_2).slice (win0_10.rect t)).emb y 1 = y 1 := by
    apply Fin.ext; blk_simp [idx t, row]
  rw [e0, e1]
  by_cases h0 : t.val % 8 = 0
  · rw [outsAt0_A m c t h0]
    frame_out
    idx_vars y
    exact x34_is t h _ _
  · rw [outsAt0_B m c t h0]
    frame_out
    idx_vars y
    exact x34_is t h _ _
/-- The gradient at the hidden channels. -/
theorem final11 : (dats m 0 c).arrAt 11 cfg0.N = fun j => ((a.du (j 0) (j 1) : ℝ) : EReal) := by
  refine (dats m 0 c).arrAt_eq_of_covers 11 _ (by decide +kernel) fun t _ y => ?_
  blk_simp
  rw [after0_11]
  have e0 : ((View.whole main_v15_3).slice (win0_11.rect t)).emb y 0 = row t (y 0) := by
    apply Fin.ext; blk_simp [idx t, row]
  have e1 : ((View.whole main_v15_3).slice (win0_11.rect t)).emb y 1 = y 1 := by
    apply Fin.ext; blk_simp [idx t, row]
  rw [e0, e1]
  by_cases h0 : t.val % 8 = 0
  · rw [outsAt0_A m c t h0]
    frame_out
    idx_vars y
    exact LD_is t h _ _ (Fin.isLt _)
  · rw [outsAt0_B m c t h0]
    frame_out
    idx_vars y
    exact LD_is t h _ _ (Fin.isLt _)
/-- The hidden channels' squares. -/
theorem final12 : (dats m 0 c).arrAt 12 cfg0.N = fun j => ((a.rl (j 0) (j 1) * a.rl (j 0) (j 1) : ℝ) : EReal) := by
  refine (dats m 0 c).arrAt_eq_of_covers 12 _ (by decide +kernel) fun t _ y => ?_
  blk_simp
  rw [after0_12]
  have e0 : ((View.whole main_v15_4).slice (win0_12.rect t)).emb y 0 = row t (y 0) := by
    apply Fin.ext; blk_simp [idx t, row]
  have e1 : ((View.whole main_v15_4).slice (win0_12.rect t)).emb y 1 = y 1 := by
    apply Fin.ext; blk_simp [idx t, row]
  rw [e0, e1]
  by_cases h0 : t.val % 8 = 0
  · rw [outsAt0_A m c t h0]
    frame_out
    idx_vars y
    exact LS_is t h _ _ (Fin.isLt _)
  · rw [outsAt0_B m c t h0]
    frame_out
    idx_vars y
    exact LS_is t h _ _ (Fin.isLt _)
/-- The gradient at the second norm's input. -/
theorem final13 : (dats m 0 c).arrAt 13 cfg0.N = fun j => ((a.dz2 (j 0) (j 1) : ℝ) : EReal) := by
  refine (dats m 0 c).arrAt_eq_of_covers 13 _ (by decide +kernel) fun t _ y => ?_
  blk_simp
  rw [after0_13]
  have e0 : ((View.whole main_v15_5).slice (win0_13.rect t)).emb y 0 = row t (y 0) := by
    apply Fin.ext; blk_simp [idx t, row]
  have e1 : ((View.whole main_v15_5).slice (win0_13.rect t)).emb y 1 = y 1 := by
    apply Fin.ext; blk_simp [idx t, row]
  rw [e0, e1]
  by_cases h0 : t.val % 8 = 0
  · rw [outsAt0_A m c t h0]
    frame_out
    idx_vars y
    exact x240_is t h _ _
  · rw [outsAt0_B m c t h0]
    frame_out
    idx_vars y
    exact x240_is t h _ _
/-- The gradient at the second input's projection. -/
theorem final14 : (dats m 0 c).arrAt 14 cfg0.N = fun j => ((a.dpw (j 0) (j 1) : ℝ) : EReal) := by
  refine (dats m 0 c).arrAt_eq_of_covers 14 _ (by decide +kernel) fun t _ y => ?_
  blk_simp
  rw [after0_14]
  have e0 : ((View.whole main_v15_6).slice (win0_14.rect t)).emb y 0 = row t (y 0) := by
    apply Fin.ext; blk_simp [idx t, row]
  have e1 : ((View.whole main_v15_6).slice (win0_14.rect t)).emb y 1 = y 1 := by
    apply Fin.ext; blk_simp [idx t, row]
  rw [e0, e1]
  by_cases h0 : t.val % 8 = 0
  · rw [outsAt0_A m c t h0]
    frame_out
    idx_vars y
    exact pay58 (x211_is t h) (x213_is t h) (x223_is t h) (x191_is t h) _ _
  · rw [outsAt0_B m c t h0]
    frame_out
    idx_vars y
    exact pay58 (x211_is t h) (x213_is t h) (x223_is t h) (x191_is t h) _ _
/-- The gradient at the gate's logits. -/
theorem final15 : (dats m 0 c).arrAt 15 cfg0.N = fun j => ((a.dgl (j 0) (j 1) : ℝ) : EReal) := by
  refine (dats m 0 c).arrAt_eq_of_covers 15 _ (by decide +kernel) fun t _ y => ?_
  blk_simp
  rw [after0_15]
  have e0 : ((View.whole main_v15_7).slice (win0_15.rect t)).emb y 0 = row t (y 0) := by
    apply Fin.ext; blk_simp [idx t, row]
  have e1 : ((View.whole main_v15_7).slice (win0_15.rect t)).emb y 1 = y 1 := by
    apply Fin.ext; blk_simp [idx t, row]
  rw [e0, e1]
  by_cases h0 : t.val % 8 = 0
  · rw [outsAt0_A m c t h0]
    frame_out
    idx_vars y
    exact pay60 (x211_is t h) (x213_is t h) (x223_is t h) (x191_is t h) (x192_is t h) _ _
  · rw [outsAt0_B m c t h0]
    frame_out
    idx_vars y
    exact pay60 (x211_is t h) (x213_is t h) (x223_is t h) (x191_is t h) (x192_is t h) _ _
/-- The second input's rows. -/
theorem final16 : (dats m 0 c).arrAt 16 cfg0.N = fun j => ((a.p (j 0) (j 1) : ℝ) : EReal) := by
  refine (dats m 0 c).arrAt_eq_of_covers 16 _ (by decide +kernel) fun t _ y => ?_
  blk_simp
  rw [after0_16]
  have e0 : ((View.whole main_v15_8).slice (win0_16.rect t)).emb y 0 = row t (y 0) := by
    apply Fin.ext; blk_simp [idx t, row]
  have e1 : ((View.whole main_v15_8).slice (win0_16.rect t)).emb y 1 = y 1 := by
    apply Fin.ext; blk_simp [idx t, row]
  rw [e0, e1]
  by_cases h0 : t.val % 8 = 0
  · rw [outsAt0_A m c t h0]
    frame_out
    idx_vars y
    exact x37_is t h _ _
  · rw [outsAt0_B m c t h0]
    frame_out
    idx_vars y
    exact x37_is t h _ _
omit h in
/-- What block `t` adds to the rows of sums. -/
def part (a : Reals) (t : Fin cfg0.N) (i : Fin 8) (l : Fin 1024) : EReal := ((∑ p, a.share (row t p) i l : ℝ) : EReal)
omit h in
theorem part_rest (t : Fin cfg0.N) (i : Fin 8) (l : Fin 1024) (hi : 6 ≤ i.val) : part a t i l = 0 := by
  unfold part Reals.share
  rw [← EReal.coe_zero]
  refine congrArg _ (Finset.sum_eq_zero fun p _ => ?_)
  rw [if_neg (by omega), if_neg (by omega), if_neg (by omega), if_neg (by omega), if_neg (by omega), if_neg (by omega)]
/-- The first point clears the rows and adds its share. -/
theorem rows_first (t : Fin cfg0.N) (h0 : t.val % 8 = 0) (j : S8x1024.Idx) :
    (outsAt0 m c t.val t.isLt).2.2.2.2.2.2.2.2.2 j = part a t (j 0) (j 1) := by
  rw [outsAt0_A m c t h0]
  frame_out
  idx_vars j
  refine Eq.trans (?_ : _ = Rows.added (fun _ _ => (0 : EReal)) (part a t) 6 j0 j1) ((Rows.added_all (part_rest t) _ _).trans (zero_add _))
  revert j0 j1
  change Rows.Leave _ _
  refine Rows.Leave.add (ms0_17 t).view (k := 5) (by decide) ?_ fun hv l => pay1 hv (x219_is t h) (x221_is t h) l
  refine Rows.Leave.add (ms0_17 t).view (k := 4) (by decide) ?_ fun hv l => pay83 hv (x361_is t h) l
  refine Rows.Leave.add (ms0_17 t).view (k := 3) (by decide) ?_ fun hv l => pay82 hv (x361_is t h) (x29_is t h) l
  refine Rows.Leave.add (ms0_17 t).view (k := 2) (by decide) ?_ fun hv l => pay81 hv (x249_is t h) l
  refine Rows.Leave.add (ms0_17 t).view (k := 1) (by decide) ?_ fun hv l => pay80 hv (x221_is t h) l
  refine Rows.Leave.add (ms0_17 t).view (k := 0) (by decide) ?_ fun hv l => pay79 hv (x221_is t h) (x213_is t h) l
  intro j0 j1
  rw [View.canon_cons_unit_lit' _ _ _ (by decide)]
  pointwise [k0_pay2, Rows.added]
/-- Every later point adds its share. -/
theorem rows_next (t : Fin cfg0.N) (h0 : ¬ t.val % 8 = 0) (j : S8x1024.Idx) :
    (outsAt0 m c t.val t.isLt).2.2.2.2.2.2.2.2.2 j
      = (outsAt0 m c (t.val - 1) (by omega)).2.2.2.2.2.2.2.2.2 j + part a t (j 0) (j 1) := by
  rw [outsAt0_B m c t h0]
  frame_out
  idx_vars j
  refine Eq.trans (?_ : _ = Rows.added (fun r l => (outsAt0 m c (t.val - 1) (by omega)).2.2.2.2.2.2.2.2.2 (ix2 r l)) (part a t) 6 j0 j1)
    (Rows.added_all (part_rest t) _ _)
  revert j0 j1
  change Rows.LeaveOver _ _ _ _
  refine Rows.LeaveOver.add (k := 5) (by decide) ?_ fun l => pay1 (fun l => ld_row (outsAt0 m c (t.val - 1) _).2.2.2.2.2.2.2.2.2 _ (show 5 < 8 by decide) 0 l) (x219_is t h) (x221_is t h) l
  refine Rows.LeaveOver.add (k := 4) (by decide) ?_ fun l => pay83 (fun l => ld_row (outsAt0 m c (t.val - 1) _).2.2.2.2.2.2.2.2.2 _ (show 4 < 8 by decide) 0 l) (x361_is t h) l
  refine Rows.LeaveOver.add (k := 3) (by decide) ?_ fun l => pay82 (fun l => ld_row (outsAt0 m c (t.val - 1) _).2.2.2.2.2.2.2.2.2 _ (show 3 < 8 by decide) 0 l) (x361_is t h) (x29_is t h) l
  refine Rows.LeaveOver.add (k := 2) (by decide) ?_ fun l => pay81 (fun l => ld_row (outsAt0 m c (t.val - 1) _).2.2.2.2.2.2.2.2.2 _ (show 2 < 8 by decide) 0 l) (x249_is t h) l
  refine Rows.LeaveOver.add (k := 1) (by decide) ?_ fun l => pay80 (fun l => ld_row (outsAt0 m c (t.val - 1) _).2.2.2.2.2.2.2.2.2 _ (show 1 < 8 by decide) 0 l) (x221_is t h) l
  refine Rows.LeaveOver.add (k := 0) (by decide) ?_ fun l => pay79 (fun l => ld_row (outsAt0 m c (t.val - 1) _).2.2.2.2.2.2.2.2.2 _ (show 0 < 8 by decide) 0 l) (x221_is t h) (x213_is t h) l
  intro j0 j1
  rw [View.writes_nil]
  erw [Memref.IsWhole.read_unread]
  rfl
/-- The rows of sums. -/
theorem final17 : (dats m 0 c).arrAt 17 cfg0.N = fun j => ((a.rows (j 0) (j 1) : ℝ) : EReal) := by
  refine (dats m 0 c).arrAt_eq_of_after_last 17 t0_7 (by decide +kernel) _ fun j => ?_
  blk_simp
  rw [after0_17, Pipeline.eq_sum_fin_of_reset_step_apply_last (fun n h => (outsAt0 m c n h).2.2.2.2.2.2.2.2.2) 8 (fun _ => 0)
    (fun t j => part a t (j 0) (j 1)) (fun t h0 j => (rows_first h t h0 j).trans (zero_add _).symm) (fun t h0 j => rows_next h t h0 j) (le_of_eq N_0) t0_7 rfl j, zero_add]
  unfold Reals.rows
  rw [Fin.sum_univ_tiles 8 256 rfl]
  simp only [part, coe_sum]
  rfl
end Cert.Mlp.Ker
-- ==== Proof.Mlp.Reference.lean ====
module

public import proofs.«01_k».proof.Proof.Gen.MlpStepRefIdeal.Run
public import proofs.«01_k».proof.Proof.Mlp.Math
public import Idealize.ShloMosaic.Lib.Pipeline.ValueKit

/-! # The feed-forward block with its loss and its gradients: what the reference computes -/

@[expose] public section
set_option maxRecDepth 16384
noncomputable section
namespace Cert.Mlp.Ref
open Cert.Lift Cert.Prep Cert.MlpStepRefIdeal Cert.MlpStepRefIdeal.Gen Cert.MlpStepRefIdeal.Value Idealize.ShloMosaic Idealize.ShloMosaic.TcCoe Idealize.SL.Sem

variable (a : Reals) (V0 : Valuation τ sig (Elt Ideal))

/-- The reference's argument arrays hold the reals `a`. -/
structure Holds : Prop where
  z : Is2 (φ := .f32) (V0 (Proc.devRef .tc main_arg0)) a.z
  p : Is2 (φ := .f32) (V0 (Proc.devRef .tc main_arg1)) a.p
  t : Is2 (φ := .f32) (V0 (Proc.devRef .tc main_arg2)) a.t
  g1 : Is1 (φ := .f32) (V0 (Proc.devRef .tc main_arg3)) a.g1
  b1 : Is1 (φ := .f32) (V0 (Proc.devRef .tc main_arg4)) a.b1
  wu : Is2 (φ := .f32) (V0 (Proc.devRef .tc main_arg5)) a.wu
  wd : Is2 (φ := .f32) (V0 (Proc.devRef .tc main_arg6)) a.wd
  wp : Is2 (φ := .f32) (V0 (Proc.devRef .tc main_arg7)) a.wp
  wg : Is2 (φ := .f32) (V0 (Proc.devRef .tc main_arg8)) a.wg
  bg : Is1 (φ := .f32) (V0 (Proc.devRef .tc main_arg9)) a.bg
  g2 : Is1 (φ := .f32) (V0 (Proc.devRef .tc main_arg10)) a.g2
  b2 : Is1 (φ := .f32) (V0 (Proc.devRef .tc main_arg11)) a.b2

variable {a V0} (h : Holds a V0)
include h

theorem v7 : Is2 (φ := .f32) (res_main_v7 V0) fun r => LayerNorm.xc (a.z r) := fun r l => by
  have hz := h.z
  unfold Is2 at *
  pointwise [res_main_v7, res_main_v5, hz]
  simp only [lit_zero, lit_1024, zero_add, coe_sum, div_real (show (1024 : ℝ) ≠ 0 by norm_num), ← EReal.coe_sub]
  rfl
theorem v16 : Is2 (φ := .f32) (res_main_v16 V0) fun r => LayerNorm.xc (a.z r) := v7 h
theorem v18 (r : Fin 2048) (l : Fin 1) : (res_main_v18 V0 (ix2 r l) : EReal) = ((LayerNorm.var (a.z r) : ℝ) : EReal) := by
  have h7 := v7 h
  unfold Is2 at *
  pointwise [res_main_v18, h7]
  simp only [lit_zero, lit_1024, lit_eps, zero_add, ← EReal.coe_mul, coe_sum, div_real (show (1024 : ℝ) ≠ 0 by norm_num), ← EReal.coe_add]
  rfl
theorem v19 (r : Fin 2048) (l : Fin 1) : (res_main_v19 V0 (ix2 r l) : EReal) = ((LayerNorm.rho (a.z r) : ℝ) : EReal) := by
  have h18 := v18 h
  pointwise [res_main_v19, h18]
  rw [rsqrt_real (LayerNorm.var_pos _)]
  rfl
theorem v24 : Is2 (φ := .f32) (res_main_v24 V0) fun r => LayerNorm.xhat (a.z r) := fun r l => by
  have h7 := v16 h
  have h19 := v19 h
  unfold Is2 at *
  pointwise [res_main_v24, h7, h19]
  simp only [← EReal.coe_mul]
  rfl
theorem v25 (i : Fin 1) (l : Fin 1024) : (res_main_v25 V0 (ix2 i l) : EReal) = ((a.g1 l : ℝ) : EReal) := by
  have hg := h.g1
  unfold Is1 at *
  pointwise [res_main_v25, hg]
theorem v30 : Is2 (φ := .f32) (res_main_v30 V0) a.h1 := fun r l => by
  have h24 := v24 h
  have h25 := v25 h
  have hb := h.b1
  unfold Is1 Is2 at *
  pointwise [res_main_v30, h24, h25, hb]
  simp only [← EReal.coe_mul, ← EReal.coe_add]
  rfl
theorem v32 : Is2 (φ := .f32) (res_main_v32 V0) fun r k => ∑ l, a.h1 r l * a.wu l k := fun r l => by
  have h30 := v30 h
  have hw := h.wu
  unfold Is2 at *
  pointwise [res_main_v32, h30, hw]
  simp only [← EReal.coe_mul, coe_sum, add_zero]
theorem v33 : Is2 (φ := .f32) (res_main_v33 V0) a.rl := fun r l => by
  have h32 := v32 h
  unfold Is2 at *
  pointwise [res_main_v33, h32]
  exact max_real _
theorem v37 : Is2 (φ := .f32) (res_main_v37 V0) fun r k => a.rl r k * a.rl r k := fun r l => by
  have h33 := v33 h
  unfold Is2 at *
  pointwise [res_main_v37, h33]
  simp only [← EReal.coe_mul]
theorem v46 : Is2 (φ := .f32) (res_main_v46 V0) a.pw := fun r l => by
  have hp := h.p
  have hw := h.wp
  unfold Is2 at *
  pointwise [res_main_v46, res_main_v0, hp, hw]
  simp only [← EReal.coe_mul, coe_sum, add_zero]
  rfl
theorem v52 : Is2 (φ := .f32) (res_main_v52 V0) a.gate := fun r l => by
  have h30 := v30 h
  have hw := h.wg
  have hb := h.bg
  unfold Is1 Is2 at *
  pointwise [res_main_v52, res_main_v0, h30, hw, hb]
  simp only [← EReal.coe_mul, coe_sum, add_zero, ← EReal.coe_add]
  exact logis_real _
theorem v62 : Is2 (φ := .f32) (res_main_v62 V0) a.z2 := fun r l => by
  have h30 := v30 h
  have h37 := v37 h
  have h46 := v46 h
  have h52 := v52 h
  have hw := h.wd
  unfold Is2 at *
  pointwise [res_main_v62, res_main_v0, h30, h37, h46, h52, hw]
  simp only [lit_alpha, ← EReal.coe_mul, coe_sum, add_zero, ← EReal.coe_add]
  rfl
theorem v68 : Is2 (φ := .f32) (res_main_v68 V0) fun r => LayerNorm.xc (a.z2 r) := fun r l => by
  have hz := v62 h
  unfold Is2 at *
  pointwise [res_main_v68, res_main_v66, hz]
  simp only [lit_zero, lit_1024, zero_add, coe_sum, div_real (show (1024 : ℝ) ≠ 0 by norm_num), ← EReal.coe_sub]
  rfl
theorem v77 : Is2 (φ := .f32) (res_main_v77 V0) fun r => LayerNorm.xc (a.z2 r) := v68 h
theorem v79 (r : Fin 2048) (l : Fin 1) : (res_main_v79 V0 (ix2 r l) : EReal) = ((LayerNorm.var (a.z2 r) : ℝ) : EReal) := by
  have h7 := v68 h
  unfold Is2 at *
  pointwise [res_main_v79, h7]
  simp only [lit_zero, lit_1024, lit_eps, zero_add, ← EReal.coe_mul, coe_sum, div_real (show (1024 : ℝ) ≠ 0 by norm_num), ← EReal.coe_add]
  rfl
theorem v80 (r : Fin 2048) (l : Fin 1) : (res_main_v80 V0 (ix2 r l) : EReal) = ((LayerNorm.rho (a.z2 r) : ℝ) : EReal) := by
  have h18 := v79 h
  pointwise [res_main_v80, h18]
  rw [rsqrt_real (LayerNorm.var_pos _)]
  rfl
theorem v85 : Is2 (φ := .f32) (res_main_v85 V0) fun r => LayerNorm.xhat (a.z2 r) := fun r l => by
  have h7 := v77 h
  have h19 := v80 h
  unfold Is2 at *
  pointwise [res_main_v85, h7, h19]
  simp only [← EReal.coe_mul]
  rfl
theorem v86 (i : Fin 1) (l : Fin 1024) : (res_main_v86 V0 (ix2 i l) : EReal) = ((a.g2 l : ℝ) : EReal) := by
  have hg := h.g2
  unfold Is1 at *
  pointwise [res_main_v86, hg]
theorem v92 : Is2 (φ := .f32) (res_main_v92 V0) a.err := fun r l => by
  have h85 := v85 h
  have h86 := v86 h
  have hb := h.b2
  have ht := h.t
  unfold Is1 Is2 at *
  pointwise [res_main_v92, res_main_v91, h85, h86, hb, ht]
  simp only [← EReal.coe_mul, ← EReal.coe_add, ← EReal.coe_sub]
  rfl
theorem v106 : Is2 (φ := .f32) (res_main_v106 V0) a.dy := fun r l => by
  have h92 := v92 h
  unfold Is2 at *
  pointwise [res_main_v106, h92]
  simp only [lit_half, lit_two, lit_1024, ← EReal.coe_mul, div_real (show (1024 : ℝ) ≠ 0 by norm_num)]
  unfold Reals.dy
  exact congrArg _ (by ring)
theorem v114 : Is2 (φ := .f32) (res_main_v114 V0) fun r l => a.dy r l * a.g2 l := fun r l => by
  have h1 := v106 h
  have h2 := v86 h
  unfold Is2 at *
  pointwise [res_main_v114, h1, h2]
  simp only [← EReal.coe_mul]
theorem v120 : Is2 (φ := .f32) (res_main_v120 V0) fun r l => a.dy r l * a.g2 l * LayerNorm.rho (a.z2 r) := fun r l => by
  have h1 := v114 h
  have h2 := v80 h
  unfold Is2 at *
  pointwise [res_main_v120, h1, h2]
  simp only [← EReal.coe_mul]
theorem v129 : Is2 (φ := .f32) (res_main_v129 V0) fun r l =>
    (∑ k, LayerNorm.xc (a.z2 r) k * (a.dy r k * a.g2 k)) * (-(1 / 2) * (LayerNorm.rho (a.z2 r) / LayerNorm.var (a.z2 r))) / 1024 * (2 * LayerNorm.xc (a.z2 r) l) := fun r l => by
  have h1 := v77 h
  have h2 := v114 h
  have h3 := v79 h
  have h4 := v80 h
  have h5 := v68 h
  unfold Is2 at *
  pointwise [res_main_v129, h1, h2, h3, h4, h5]
  simp only [lit_zero, lit_two, lit_1024, lit_neg_half, zero_add, div_real (LayerNorm.var_pos _).ne', ← EReal.coe_mul, coe_sum, div_real (show (1024 : ℝ) ≠ 0 by norm_num), Fin.sum_univ_one]
theorem v139 : Is2 (φ := .f32) (res_main_v139 V0) a.dz2 := fun r l => by
  have h1 := v120 h
  have h2 := v129 h
  unfold Is2 at *
  pointwise [res_main_v139, h1, h2]
  simp only [lit_zero, lit_1024, zero_add, ← EReal.coe_neg, coe_sum, ← EReal.coe_add, div_real (show (1024 : ℝ) ≠ 0 by norm_num), Fin.sum_univ_one]
  exact congrArg _ (LayerNorm.bwd_eq (a.z2 r) (fun k => a.dy r k * a.g2 k) l)
theorem v145 : Is2 (φ := .f32) (res_main_v145 V0) a.dgl := fun r l => by
  have h1 := v46 h
  have h2 := v139 h
  have h3 := v52 h
  unfold Is2 at *
  pointwise [res_main_v145, h1, h2, h3]
  rw [EReal.coe_one.symm]
  simp only [← EReal.coe_sub, ← EReal.coe_mul]
  unfold Reals.dgl
  exact congrArg _ (by ring)
theorem v153 : Is2 (φ := .f32) (res_main_v153 V0) a.du := fun r l => by
  have h1 := v32 h
  have h2 := v139 h
  have h3 := v33 h
  have hw := h.wd
  unfold Is2 at *
  pointwise [res_main_v153, h1, h2, h3, hw]
  simp only [lit_two, ← EReal.coe_mul, coe_sum]
  unfold Reals.du
  split_ifs with c
  · rfl
  · have c' : ∑ k, a.h1 r k * a.wu k l ≤ 0 := not_lt.mp fun q => c (by exact_mod_cast q)
    have e : a.rl r l = 0 := max_eq_right c'
    rw [e, mul_zero, mul_zero]
    rfl
theorem v155 : Is2 (φ := .f32) (res_main_v155 V0) a.dh1 := fun r l => by
  have h1 := v139 h
  have h2 := v145 h
  have h3 := v153 h
  have hw := h.wg
  have hv := h.wu
  unfold Is2 at *
  pointwise [res_main_v155, h1, h2, h3, hw, hv]
  simp only [lit_alpha, ← EReal.coe_mul, coe_sum, ← EReal.coe_add]
  rfl
theorem v163 : Is2 (φ := .f32) (res_main_v163 V0) fun r l => a.dh1 r l * a.g1 l := fun r l => by
  have h1 := v155 h
  have h2 := v25 h
  unfold Is2 at *
  pointwise [res_main_v163, h1, h2]
  simp only [← EReal.coe_mul]
theorem v169 : Is2 (φ := .f32) (res_main_v169 V0) fun r l => a.dh1 r l * a.g1 l * LayerNorm.rho (a.z r) := fun r l => by
  have h1 := v163 h
  have h2 := v19 h
  unfold Is2 at *
  pointwise [res_main_v169, h1, h2]
  simp only [← EReal.coe_mul]
theorem v178 : Is2 (φ := .f32) (res_main_v178 V0) fun r l =>
    (∑ k, LayerNorm.xc (a.z r) k * (a.dh1 r k * a.g1 k)) * (-(1 / 2) * (LayerNorm.rho (a.z r) / LayerNorm.var (a.z r))) / 1024 * (2 * LayerNorm.xc (a.z r) l) := fun r l => by
  have h1 := v16 h
  have h2 := v163 h
  have h3 := v18 h
  have h4 := v19 h
  have h5 := v7 h
  unfold Is2 at *
  pointwise [res_main_v178, h1, h2, h3, h4, h5]
  simp only [lit_zero, lit_two, lit_1024, lit_neg_half, zero_add, div_real (LayerNorm.var_pos _).ne', ← EReal.coe_mul, coe_sum, div_real (show (1024 : ℝ) ≠ 0 by norm_num), Fin.sum_univ_one]
omit h in
/-- The first result. -/
def p0 (V0 : Valuation τ sig (Elt Ideal)) : FVec Ideal S2048x1024 .f32 :=
  addf (addf (res_main_v169 V0) (res_main_v178 V0)) (broadcastInDim S2048x1024 ![0] bcast_S2048_S2048x1024_0 (Host.reduceAdd (Host.divf (addf (shapeCast _ (Host.reduceAdd (Host.negf (res_main_v169 V0)) (constant S_ .f32 0x00000000#32) reducesTo_S2048x1024_S2048_d1 h_S_) shapeCasts_S2048_S2048x1) (shapeCast _ (Host.reduceAdd (Host.negf (res_main_v178 V0)) (constant S_ .f32 0x00000000#32) reducesTo_S2048x1024_S2048_d1 h_S_) shapeCasts_S2048_S2048x1)) (broadcastInDim S2048x1 ![] bcast_S_S2048x1 (constant S_ .f32 0x44800000#32))) (constant S_ .f32 0x00000000#32) reducesTo_S2048x1_S2048_d1 h_S_))
theorem p0_real : Is2 (φ := .f32) (p0 V0) a.dz1 := fun r l => by
  have h1 := v169 h
  have h2 := v178 h
  unfold Is2 at *
  pointwise [p0, h1, h2]
  simp only [lit_zero, lit_1024, zero_add, ← EReal.coe_neg, coe_sum, ← EReal.coe_add, div_real (show (1024 : ℝ) ≠ 0 by norm_num), Fin.sum_univ_one]
  exact congrArg _ (LayerNorm.bwd_eq (a.z r) (fun k => a.dh1 r k * a.g1 k) l)
omit h in
/-- A row summed over the rows of an array, as the reference lays it out. -/
def sumRow (x : FVec Ideal S2048x1024 .f32) : FVec Ideal S1x1024 .f32 :=
  broadcastInDim S1x1024 ![1] bcast_S1024_S1x1024_1 (Host.reduceAdd (shapeCast _ (Host.reduceAdd x (constant S_ .f32 0x00000000#32) reducesTo_S2048x1024_S1024_d0 h_S_) shapeCasts_S1024_S1x1024) (constant S_ .f32 0x00000000#32) reducesTo_S1x1024_S1024_d0 h_S_)
omit h in
theorem sumRow_real {x : FVec Ideal S2048x1024 .f32} {X : Fin 2048 → Fin 1024 → ℝ} (hx : Is2 (φ := .f32) x X) (i : Fin 1) (l : Fin 1024) :
    (sumRow x (ix2 i l) : EReal) = ((∑ r, X r l : ℝ) : EReal) := by
  unfold Is2 at *
  pointwise [sumRow, hx]
  simp only [lit_zero, zero_add, coe_sum, Fin.sum_univ_one]
omit h in
/-- The loss by channels. -/
def lossRow (V0 : Valuation τ sig (Elt Ideal)) : FVec Ideal S1x1024 .f32 :=
  broadcastInDim S1x1024 ![1] bcast_S1024_S1x1024_1 (mulf (mulf (broadcastInDim S1024 ![] bcast_S_S1024 (constant S_ .f32 0x3F000000#32)) (Host.reduceAdd (mulf (res_main_v189 V0) (res_main_v189 V0)) (constant S_ .f32 0x00000000#32) reducesTo_S2048x1024_S1024_d0 h_S_)) (broadcastInDim S1024 ![] bcast_S_S1024 (constant S_ .f32 0x3A800000#32)))
theorem lossRow_real (i : Fin 1) (l : Fin 1024) : (lossRow V0 (ix2 i l) : EReal) = ((∑ r, 1 / 2 * a.err r l * a.dy r l : ℝ) : EReal) := by
  have e : Is2 (φ := .f32) (res_main_v189 V0) a.err := v92 h
  unfold Is2 at *
  pointwise [lossRow, e]
  simp only [lit_zero, lit_half, lit_1024th, zero_add, coe_sum, ← EReal.coe_mul]
  refine congrArg _ ?_
  rw [Finset.mul_sum, Finset.sum_mul]
  exact Finset.sum_congr rfl fun r _ => by unfold Reals.dy; ring
omit h in
/-- The tenth result. -/
def p9 (V0 : Valuation τ sig (Elt Ideal)) : FVec Ideal S8x1024 .f32 :=
  concatenate S8x1024 0 [⟨S6x1024, concatenate S6x1024 0 [⟨S1x1024, sumRow (mulf (res_main_v85 V0) (res_main_v106 V0))⟩, ⟨S1x1024, sumRow (res_main_v106 V0)⟩, ⟨S1x1024, sumRow (res_main_v145 V0)⟩,
    ⟨S1x1024, sumRow (mulf (res_main_v24 V0) (res_main_v155 V0))⟩, ⟨S1x1024, sumRow (res_main_v155 V0)⟩, ⟨S1x1024, lossRow V0⟩] concatenates_S1x1024_S1x1024_S1x1024_S1x1024_S1x1024_S1x1024_S6x1024_d0⟩,
    ⟨S2x1024, broadcastInDim S2x1024 ![] bcast_S_S2x1024 (constant S_ .f32 0x00000000#32)⟩] concatenates_S6x1024_S2x1024_S8x1024_d0
theorem p9_real : Is2 (φ := .f32) (p9 V0) a.rows := fun i l => by
  have m0 : Is2 (φ := .f32) (mulf (F := Ideal) (φ := .f32) (res_main_v85 V0) (res_main_v106 V0)) fun r l => a.dy r l * LayerNorm.xhat (a.z2 r) l := fun r l => by
    have h1 := v85 h
    have h2 := v106 h
    unfold Is2 at *
    pointwise [h1, h2]
    simp only [← EReal.coe_mul, mul_comm]
  have m3 : Is2 (φ := .f32) (mulf (F := Ideal) (φ := .f32) (res_main_v24 V0) (res_main_v155 V0)) fun r l => a.dh1 r l * LayerNorm.xhat (a.z r) l := fun r l => by
    have h1 := v24 h
    have h2 := v155 h
    unfold Is2 at *
    pointwise [h1, h2]
    simp only [← EReal.coe_mul, mul_comm]
  have e0 := sumRow_real m0
  have e1 := sumRow_real (v106 h)
  have e2 := sumRow_real (v145 h)
  have e3 := sumRow_real m3
  have e4 := sumRow_real (v155 h)
  have e5 := lossRow_real h
  clear m0 m3
  pointwise [p9, e0, e1, e2, e3, e4, e5]
  clear e0 e1 e2 e3 e4 e5
  unfold Reals.rows Reals.share
  by_cases c : i.val < 6
  · rw [dif_pos c]
    rcases (by omega : i.val = 0 ∨ i.val = 1 ∨ i.val = 2 ∨ i.val = 3 ∨ i.val = 4 ∨ i.val = 5) with q | q | q | q | q | q <;> simp [q, -EReal.coe_mul]
  · rw [dif_neg c]
    have n0 : ¬ i.val = 0 := by omega
    have n1 : ¬ i.val = 1 := by omega
    have n2 : ¬ i.val = 2 := by omega
    have n3 : ¬ i.val = 3 := by omega
    have n4 : ¬ i.val = 4 := by omega
    have n5 : ¬ i.val = 5 := by omega
    simp only [if_neg n0, if_neg n1, if_neg n2, if_neg n3, if_neg n4, if_neg n5, Finset.sum_const_zero]
    rfl

omit h in
/-- The reference's run, its ten results read as real arrays. -/
theorem run (m : (ℓ : Loc nD τ sig) → Buf (Elt Ideal) ℓ) (a : Dev nD → Reals) (g : Dev nD → PrngReg) (h : ∀ c, Holds (a c) (StableHlo.launchContents m c)) :
    θ_run defs (onTc (τ := τ) (main (F := Ideal))) ⟨m, fun _ => 0, g⟩ fun r => ∀ c : Dev nD,
      r.2.mem ((c.tc : Thread nD τ).loc main_v188) = (fun j : S2048x1024.Idx => (((a c).dz1 (j 0) (j 1) : ℝ) : EReal))
      ∧ r.2.mem ((c.tc : Thread nD τ).loc main_v205) = (fun j : S2048x1024.Idx => (((a c).dz1 (j 0) (j 1) : ℝ) : EReal))
      ∧ r.2.mem ((c.tc : Thread nD τ).loc main_v206) = (fun j : S2048x1024.Idx => (((a c).h1 (j 0) (j 1) : ℝ) : EReal))
      ∧ r.2.mem ((c.tc : Thread nD τ).loc main_v207) = (fun j : S2048x4096.Idx => (((a c).du (j 0) (j 1) : ℝ) : EReal))
      ∧ r.2.mem ((c.tc : Thread nD τ).loc main_v208) = (fun j : S2048x4096.Idx => (((a c).rl (j 0) (j 1) * (a c).rl (j 0) (j 1) : ℝ) : EReal))
      ∧ r.2.mem ((c.tc : Thread nD τ).loc main_v209) = (fun j : S2048x1024.Idx => (((a c).dz2 (j 0) (j 1) : ℝ) : EReal))
      ∧ r.2.mem ((c.tc : Thread nD τ).loc main_v210) = (fun j : S2048x1024.Idx => (((a c).dpw (j 0) (j 1) : ℝ) : EReal))
      ∧ r.2.mem ((c.tc : Thread nD τ).loc main_v211) = (fun j : S2048x1024.Idx => (((a c).dgl (j 0) (j 1) : ℝ) : EReal))
      ∧ r.2.mem ((c.tc : Thread nD τ).loc main_v212) = (fun j : S2048x256.Idx => (((a c).p (j 0) (j 1) : ℝ) : EReal))
      ∧ r.2.mem ((c.tc : Thread nD τ).loc main_v204) = (fun j : S8x1024.Idx => (((a c).rows (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r hr c => ⟨(hr c).1.trans ?_, (hr c).2.1.trans ?_, (hr c).2.2.1.trans ?_, (hr c).2.2.2.1.trans ?_, (hr c).2.2.2.2.1.trans ?_, (hr c).2.2.2.2.2.1.trans ?_,
    (hr c).2.2.2.2.2.2.1.trans ?_, (hr c).2.2.2.2.2.2.2.1.trans ?_, (hr c).2.2.2.2.2.2.2.2.1.trans ?_, (hr c).2.2.2.2.2.2.2.2.2.1.trans ?_, (hr c).2.2.2.2.2.2.2.2.2.2⟩) (Value.run m g)
  · exact Eq.trans (b := p0 (StableHlo.launchContents m c)) rfl (funext fun j => by idx_vars j; exact p0_real (h c) _ _)
  · exact Eq.trans (b := p0 (StableHlo.launchContents m c)) rfl (funext fun j => by idx_vars j; exact p0_real (h c) _ _)
  · exact Eq.trans (b := res_main_v30 (StableHlo.launchContents m c)) rfl (funext fun j => by idx_vars j; exact v30 (h c) _ _)
  · exact Eq.trans (b := res_main_v153 (StableHlo.launchContents m c)) rfl (funext fun j => by idx_vars j; exact v153 (h c) _ _)
  · exact Eq.trans (b := res_main_v37 (StableHlo.launchContents m c)) rfl (funext fun j => by idx_vars j; exact v37 (h c) _ _)
  · exact Eq.trans (b := res_main_v139 (StableHlo.launchContents m c)) rfl (funext fun j => by idx_vars j; exact v139 (h c) _ _)
  · exact Eq.trans (b := mulf (F := Ideal) (φ := .f32) (s := S2048x1024) (res_main_v139 (StableHlo.launchContents m c)) (res_main_v52 (StableHlo.launchContents m c))) rfl (funext fun j => by
      idx_vars j
      have h1 := v139 (h c)
      have h2 := v52 (h c)
      unfold Is2 at *
      pointwise [h1, h2]
      simp only [← EReal.coe_mul]
      rfl)
  · exact Eq.trans (b := res_main_v145 (StableHlo.launchContents m c)) rfl (funext fun j => by idx_vars j; exact v145 (h c) _ _)
  · exact Eq.trans (b := StableHlo.launchContents m c (Proc.devRef .tc main_arg1)) rfl (funext fun j => by idx_vars j; exact (h c).p _ _)
  · exact Eq.trans (b := p9 (StableHlo.launchContents m c)) rfl (funext fun j => by idx_vars j; exact p9_real (h c) _ _)
end Cert.Mlp.Ref
-- ==== Proof.Mlp.Claim.lean ====
module

public import proofs.«01_k».proof.Defs
public import proofs.«01_k».proof.Proof.Gen.MlpStepIdeal
public import proofs.«01_k».proof.Proof.Gen.MlpStepRefIdeal
public import proofs.«01_k».proof.Proof.Gen.Pre_mlp_finite
public import proofs.«01_k».proof.Proof.Mlp.Kernel
public import proofs.«01_k».proof.Proof.Mlp.Reference

/-! # The feed-forward block with its loss and its gradients: kernel and reference agree on finite arguments -/

@[expose] public section
set_option maxRecDepth 16384
noncomputable section
namespace Cert.Mlp
open Cert.Lift Idealize.ShloMosaic Idealize.ShloMosaic.TcCoe Idealize.SL.Sem Cert.MlpStepIdeal

/-- The reals in the kernel's arguments. -/
def reals (m : (ℓ : Loc nD τ sig) → Buf (Elt Ideal) ℓ) (c : Dev nD) : Reals where
  z r k := EReal.toReal (m ((c.tc : Thread nD τ).loc main_arg0) (ix2 r k))
  p r k := EReal.toReal (m ((c.tc : Thread nD τ).loc main_arg1) (ix2 r k))
  t r k := EReal.toReal (m ((c.tc : Thread nD τ).loc main_arg2) (ix2 r k))
  g1 k := EReal.toReal (m ((c.tc : Thread nD τ).loc main_arg3) (ix1 k))
  b1 k := EReal.toReal (m ((c.tc : Thread nD τ).loc main_arg4) (ix1 k))
  wu r k := EReal.toReal (m ((c.tc : Thread nD τ).loc main_arg5) (ix2 r k))
  wd r k := EReal.toReal (m ((c.tc : Thread nD τ).loc main_arg6) (ix2 r k))
  wp r k := EReal.toReal (m ((c.tc : Thread nD τ).loc main_arg7) (ix2 r k))
  wg r k := EReal.toReal (m ((c.tc : Thread nD τ).loc main_arg8) (ix2 r k))
  bg k := EReal.toReal (m ((c.tc : Thread nD τ).loc main_arg9) (ix1 k))
  g2 k := EReal.toReal (m ((c.tc : Thread nD τ).loc main_arg10) (ix1 k))
  b2 k := EReal.toReal (m ((c.tc : Thread nD τ).loc main_arg11) (ix1 k))

open Cert.Pre_mlp_finite in
/-- Under the precondition the arguments are those reals. -/
theorem holds (m : (ℓ : Loc nD τ sig) → Buf (Elt Ideal) ℓ) (hp : Cert.Pre_MlpStepIdeal_mlp_finite m) (c : Dev nD) :
    Ker.Holds m c (reals m c) := by
  obtain ⟨h0, h1, h2, h3, h4, h5, h6, h7, h8, h9, h10, h11⟩ := hp c
  refine ⟨fun r l => ?_, fun r l => ?_, fun r l => ?_, fun l => ?_, fun l => ?_, fun r l => ?_, fun r l => ?_, fun r l => ?_, fun r l => ?_, fun l => ?_, fun l => ?_, fun l => ?_⟩
  · have h := congrFun h0 (ix2 r l)
    pointwise [fn, fn_part1] at h
    exact coe_of_test h
  · have h := congrFun h1 (ix2 r l)
    pointwise [fn, fn_part1] at h
    exact coe_of_test h
  · have h := congrFun h2 (ix2 r l)
    pointwise [fn, fn_part1] at h
    exact coe_of_test h
  · have h := congrFun h3 (ix1 l)
    pointwise [fn, fn_part1] at h
    exact coe_of_test h
  · have h := congrFun h4 (ix1 l)
    pointwise [fn, fn_part1] at h
    exact coe_of_test h
  · have h := congrFun h5 (ix2 r l)
    pointwise [fn, fn_part1] at h
    exact coe_of_test h
  · have h := congrFun h6 (ix2 r l)
    pointwise [fn, fn_part1] at h
    exact coe_of_test h
  · have h := congrFun h7 (ix2 r l)
    pointwise [fn, fn_part1] at h
    exact coe_of_test h
  · have h := congrFun h8 (ix2 r l)
    pointwise [fn, fn_part1] at h
    exact coe_of_test h
  · have h := congrFun h9 (ix1 l)
    pointwise [fn, fn_part1] at h
    exact coe_of_test h
  · have h := congrFun h10 (ix1 l)
    pointwise [fn, fn_part1] at h
    exact coe_of_test h
  · have h := congrFun h11 (ix1 l)
    pointwise [fn, fn_part1] at h
    exact coe_of_test h

/-- Kernel and reference return the same ten arrays. -/
theorem algebraic : Cert.algebraic_MlpStepIdeal_MlpStepRefIdeal_pre_mlp_finite := by
  intro m g m' g' hp hm
  have hk := holds m hp
  have hr : ∀ c, Ref.Holds (reals m c) (StableHlo.launchContents m' c) := fun c => by
    obtain ⟨e0, e1, e2, e3, e4, e5, e6, e7, e8, e9, e10, e11⟩ := hm c
    exact ⟨fun r l => (congrFun e0 _).trans ((hk c).z r l),
      fun r l => (congrFun e1 _).trans ((hk c).p r l),
      fun r l => (congrFun e2 _).trans ((hk c).t r l),
      fun l => (congrFun e3 _).trans ((hk c).g1 l),
      fun l => (congrFun e4 _).trans ((hk c).b1 l),
      fun r l => (congrFun e5 _).trans ((hk c).wu r l),
      fun r l => (congrFun e6 _).trans ((hk c).wd r l),
      fun r l => (congrFun e7 _).trans ((hk c).wp r l),
      fun r l => (congrFun e8 _).trans ((hk c).wg r l),
      fun l => (congrFun e9 _).trans ((hk c).bg l),
      fun l => (congrFun e10 _).trans ((hk c).g2 l),
      fun l => (congrFun e11 _).trans ((hk c).b2 l)⟩
  refine ⟨fun c j => (((reals m c).dz1 (j 0) (j 1) : ℝ) : EReal),
    fun c j => (((reals m c).dz1 (j 0) (j 1) : ℝ) : EReal),
    fun c j => (((reals m c).h1 (j 0) (j 1) : ℝ) : EReal),
    fun c j => (((reals m c).du (j 0) (j 1) : ℝ) : EReal),
    fun c j => (((reals m c).rl (j 0) (j 1) * (reals m c).rl (j 0) (j 1) : ℝ) : EReal),
    fun c j => (((reals m c).dz2 (j 0) (j 1) : ℝ) : EReal),
    fun c j => (((reals m c).dpw (j 0) (j 1) : ℝ) : EReal),
    fun c j => (((reals m c).dgl (j 0) (j 1) : ℝ) : EReal),
    fun c j => (((reals m c).p (j 0) (j 1) : ℝ) : EReal),
    fun c j => (((reals m c).rows (j 0) (j 1) : ℝ) : EReal), ?_,
    Ref.run m' (reals m) g' hr⟩
  exact (θ_run _ _ _).mono (fun r h c => ⟨(h c).1.trans (Ker.final8 (hk c)),
      (h c).2.1.trans (Ker.final9 (hk c)),
      (h c).2.2.1.trans (Ker.final10 (hk c)),
      (h c).2.2.2.1.trans (Ker.final11 (hk c)),
      (h c).2.2.2.2.1.trans (Ker.final12 (hk c)),
      (h c).2.2.2.2.2.1.trans (Ker.final13 (hk c)),
      (h c).2.2.2.2.2.2.1.trans (Ker.final14 (hk c)),
      (h c).2.2.2.2.2.2.2.1.trans (Ker.final15 (hk c)),
      (h c).2.2.2.2.2.2.2.2.1.trans (Ker.final16 (hk c)),
      (h c).2.2.2.2.2.2.2.2.2.1.trans (Ker.final17 (hk c)),
      (h c).2.2.2.2.2.2.2.2.2.2⟩)
    (Cert.MlpStepIdeal.Value.run_blocks m g)

/-- The reference alone: it terminates, keeps its arguments and leaves every counter at zero. -/
theorem ref_frame : Cert.quiescent_MlpStepRefIdeal := fun m g _ =>
  (θ_run _ _ _).mono (fun r h => ⟨fun c => (h c).2.2.2.2.2.2.2.2.2.2, sem_eq_zero_of_no_sems (by decide) r.2⟩) (Cert.MlpStepRefIdeal.Value.run m g)

end Cert.Mlp
-- ==== Proof.Gates.Math.lean ====
module

public import proofs.«01_k».proof.Proof.Prep.Math
public import Mathlib.Analysis.SpecialFunctions.Log.Basic
public import Mathlib.Algebra.BigOperators.Fin

/-! # The gates' gradient over the reals -/

@[expose] public section
noncomputable section
namespace Cert.Gates
open Cert.Prep

/-- The logarithm of one and the exponential, without overflow. -/
def sp (x : ℝ) : ℝ := max x 0 + Real.log (1 + Real.exp (-|x|))

theorem sp_eq (x : ℝ) : sp x = Real.log (1 + Real.exp x) := by
  unfold sp
  rcases le_total x 0 with h | h
  · rw [max_eq_right h, abs_of_nonpos h, neg_neg, zero_add]
  · rw [max_eq_left h, abs_of_nonneg h]
    have e : 1 + Real.exp x = Real.exp x * (1 + Real.exp (-x)) := by rw [mul_add, ← Real.exp_add, add_neg_cancel, Real.exp_zero]; ring
    rw [e, Real.log_mul (Real.exp_pos x).ne' (by positivity), Real.log_exp]
/-- The derivative of `sp`, as the exponential of a difference. -/
theorem exp_sub_sp (x : ℝ) : Real.exp (x - sp x) = logis x := by
  rw [sp_eq, Real.exp_sub, Real.exp_log (by positivity)]
  unfold logis
  rw [Real.exp_neg]
  have := Real.exp_pos x
  field_simp
  ring
theorem logis_neg (x : ℝ) : logis (-x) = 1 - logis x := by
  unfold logis
  rw [neg_neg, Real.exp_neg]
  have := Real.exp_pos x
  field_simp
  ring

/-- The reals in the arguments: the projection, the logarithms of the decay, the shift of its step, the forget gates' shift, and
the cotangents of the two delta-rule gates and of the gate sums at the queries and the keys. -/
structure Reals where
  p : Fin 2048 → Fin 3600 → ℝ
  al : Fin 4 → ℝ
  dt : Fin 4 → ℝ
  bf : Fin 8 → ℝ
  db : Fin 2048 → Fin 4 → ℝ
  dg : Fin 2048 → Fin 4 → ℝ
  dq : Fin 2048 → Fin 8 → ℝ
  dk : Fin 2048 → Fin 8 → ℝ

namespace Reals
variable (a : Reals) (r : Fin 2048) (l : Fin 128)
/-- The projection's gate columns, by lanes. -/
def raw : ℝ := if h : l.val < 8 then a.p r ⟨2048 + l.val, by omega⟩ else if h : l.val < 16 then a.p r ⟨3584 + l.val, by omega⟩ else 0
/-- The shifts, by lanes. -/
def bias : ℝ := if h : 4 ≤ l.val ∧ l.val < 8 then a.dt ⟨l.val - 4, by omega⟩ else if h : 8 ≤ l.val ∧ l.val < 16 then a.bf ⟨l.val - 8, by omega⟩ else 0
/-- The decays, by lanes. -/
def nexp : ℝ := if h : 4 ≤ l.val ∧ l.val < 8 then -Real.exp (a.al ⟨l.val - 4, by omega⟩) else 0
/-- The shifted columns. -/
def xb : ℝ := a.raw r l + a.bias l
/-- The cotangents, by lanes; the gate sums' before they are summed. -/
def d : ℝ := if h : l.val < 4 then a.db r ⟨l.val, h⟩ else if h : l.val < 8 then a.dg r ⟨l.val - 4, by omega⟩
  else if h : l.val < 16 then a.dq r ⟨l.val - 8, by omega⟩ - a.dk r ⟨l.val - 8, by omega⟩ else 0
/-- The sum over this row and the later ones. -/
def rc : ℝ := ∑ q : Fin 2048, if r.val ≤ q.val then a.d q l else 0
/-- The cotangent that a lane's gate receives. -/
def de : ℝ := if l.val < 8 then a.d r l else a.rc r l
/-- The gradient at the gates' columns. -/
def draw : ℝ := if l.val < 4 then a.de r l * logis (a.raw r l) * (1 - logis (a.raw r l)) else if l.val < 8 then a.de r l * a.nexp l * logis (a.xb r l)
  else if l.val < 16 then a.de r l * (1 - logis (a.xb r l)) else 0
/-- One row's share of the decay logarithms' gradient. -/
def dal : ℝ := if 4 ≤ l.val ∧ l.val < 8 then a.de r l * (a.nexp l * sp (a.xb r l)) else 0
/-- The two rows of sums. -/
def acc (i : Fin 8) (l : Fin 128) : ℝ := if i.val = 0 then ∑ r, a.draw r l else if i.val = 1 then ∑ r, a.dal r l else 0
end Reals
end Cert.Gates
-- ==== Proof.Gates.Pick.lean ====
module

public import proofs.«01_k».proof.Proof.Gates.Math

/-! # The gates' gradient: the cotangents picked out of wide arrays, and sums over later rows -/

@[expose] public section
noncomputable section
namespace Cert.Gates
namespace Reals
variable (a : Reals) (r : Fin 2048) (l : Fin 128)
/-- The delta-rule gates' cotangents in the first two channels of each head's 128. -/
def gat (k : Fin 512) : ℝ := if k.val % 128 = 0 then a.db r ⟨k.val / 128, by omega⟩ else if k.val % 128 = 1 then a.dg r ⟨k.val / 128, by omega⟩ else 0
/-- The queries' cotangents, each over its head's 64 channels. -/
def wid (k : Fin 512) : ℝ := a.dq r ⟨k.val / 64, by omega⟩
/-- The keys' cotangents, two heads to a group of eight rows. -/
def kr (h : Fin 4) (b : Fin 8) : ℝ := if hb : b.val < 2 then a.dk r ⟨2 * h.val + b.val, by omega⟩ else 0
/-- The host's rows of shifts and decays. -/
def prm (i : Fin 8) : ℝ := if i.val = 0 then a.bias l else if i.val = 1 then a.nexp l else 0
end Reals
/-- The three tables. -/
def tg (k : Fin 512) (l : Fin 128) : ℝ := if k.val = 128 * l.val ∨ (4 ≤ l.val ∧ k.val = 128 * (l.val - 4) + 1) then 1 else 0
def tc (k : Fin 512) (l : Fin 128) : ℝ := if 8 ≤ l.val ∧ k.val = 64 * (l.val - 8) then 1 else 0
def tk (h : Fin 4) (b : Fin 8) (l : Fin 128) : ℝ := if b.val < 2 ∧ l.val = 8 + 2 * h.val + b.val then 1 else 0

variable (a : Reals) (r : Fin 2048) (l : Fin 128)
/-- A sum against a table with one entry in the column. -/
theorem sum_one {n : ℕ} (f t : Fin n → ℝ) (k : Fin n) (hk : t k = 1) (h0 : ∀ j, j ≠ k → t j = 0) : ∑ j, f j * t j = f k := by
  rw [Finset.sum_eq_single k (fun j _ hj => by rw [h0 j hj, mul_zero]) (fun h => absurd (Finset.mem_univ k) h), hk, mul_one]
/-- A sum against an empty column. -/
theorem sum_none {n : ℕ} (f t : Fin n → ℝ) (h0 : ∀ j, t j = 0) : ∑ j, f j * t j = 0 :=
  Finset.sum_eq_zero fun j _ => by rw [h0 j, mul_zero]

theorem gat_pick : ∑ k, a.gat r k * tg k l = if h : l.val < 4 then a.db r ⟨l.val, h⟩ else if h : l.val < 8 then a.dg r ⟨l.val - 4, by omega⟩ else 0 := by
  by_cases h0 : l.val < 4
  · rw [dif_pos h0, sum_one (a.gat r) (fun k => tg k l) ⟨128 * l.val, by omega⟩]
    · unfold Reals.gat
      rw [if_pos (by show 128 * l.val % 128 = 0; omega)]
      exact congrArg (a.db r) (Fin.ext (by show 128 * l.val / 128 = l.val; omega))
    · exact if_pos (.inl rfl)
    · refine fun j hj => if_neg ?_
      have : j.val ≠ 128 * l.val := fun e => hj (Fin.ext e)
      omega
  · by_cases h1 : l.val < 8
    · rw [dif_neg h0, dif_pos h1, sum_one (a.gat r) (fun k => tg k l) ⟨128 * (l.val - 4) + 1, by omega⟩]
      · unfold Reals.gat
        rw [if_neg (by show ¬ ((128 * (l.val - 4) + 1) % 128 = 0); omega), if_pos (by show (128 * (l.val - 4) + 1) % 128 = 1; omega)]
        exact congrArg (a.dg r) (Fin.ext (by show (128 * (l.val - 4) + 1) / 128 = l.val - 4; omega))
      · exact if_pos (.inr ⟨by omega, rfl⟩)
      · refine fun j hj => if_neg ?_
        have : j.val ≠ 128 * (l.val - 4) + 1 := fun e => hj (Fin.ext e)
        omega
    · rw [dif_neg h0, dif_neg h1]
      exact sum_none _ _ fun j => if_neg (by omega)
theorem wid_pick : ∑ k, a.wid r k * tc k l = if h : 8 ≤ l.val ∧ l.val < 16 then a.dq r ⟨l.val - 8, by omega⟩ else 0 := by
  by_cases h0 : 8 ≤ l.val ∧ l.val < 16
  · rw [dif_pos h0, sum_one (a.wid r) (fun k => tc k l) ⟨64 * (l.val - 8), by omega⟩]
    · exact congrArg (a.dq r) (Fin.ext (by show 64 * (l.val - 8) / 64 = l.val - 8; omega))
    · exact if_pos ⟨h0.1, rfl⟩
    · refine fun j hj => if_neg ?_
      have : j.val ≠ 64 * (l.val - 8) := fun e => hj (Fin.ext e)
      omega
  · rw [dif_neg h0]
    exact sum_none _ _ fun j => if_neg (by omega)
theorem kr_pick (h : Fin 4) : ∑ b, a.kr r h b * tk h b l = if hl : 8 + 2 * h.val ≤ l.val ∧ l.val < 10 + 2 * h.val then a.dk r ⟨l.val - 8, by omega⟩ else 0 := by
  by_cases h0 : 8 + 2 * h.val ≤ l.val ∧ l.val < 10 + 2 * h.val
  · rw [dif_pos h0, sum_one (a.kr r h) (fun b => tk h b l) ⟨l.val - 8 - 2 * h.val, by omega⟩]
    · unfold Reals.kr
      rw [dif_pos (by show l.val - 8 - 2 * h.val < 2; omega)]
      exact congrArg (a.dk r) (Fin.ext (by show 2 * h.val + (l.val - 8 - 2 * h.val) = l.val - 8; omega))
    · exact if_pos ⟨by show l.val - 8 - 2 * h.val < 2; omega, by show l.val = 8 + 2 * h.val + (l.val - 8 - 2 * h.val); omega⟩
    · refine fun j hj => if_neg ?_
      have : j.val ≠ l.val - 8 - 2 * h.val := fun e => hj (Fin.ext e)
      omega
  · rw [dif_neg h0]
    exact sum_none _ _ fun j => if_neg (by omega)
/-- The kernel's products against the tables give the cotangents by lanes. -/
theorem d_eq : ∑ k, a.gat r k * tg k l + ∑ k, a.wid r k * tc k l - ∑ b, a.kr r 0 b * tk 0 b l - ∑ b, a.kr r 1 b * tk 1 b l - ∑ b, a.kr r 2 b * tk 2 b l
    - ∑ b, a.kr r 3 b * tk 3 b l = a.d r l := by
  have e : ∀ n : Fin 4, n.val < 4 := fun n => n.isLt
  rw [gat_pick, wid_pick, kr_pick, kr_pick, kr_pick, kr_pick]
  simp only [show (0 : Fin 4).val = 0 from rfl, show (1 : Fin 4).val = 1 from rfl, show (2 : Fin 4).val = 2 from rfl, show (3 : Fin 4).val = 3 from rfl]
  unfold Reals.d
  by_cases h0 : l.val < 4
  · rw [dif_pos h0, dif_pos h0, dif_neg (by omega), dif_neg (by omega), dif_neg (by omega), dif_neg (by omega), dif_neg (by omega)]
    ring
  · by_cases h1 : l.val < 8
    · rw [dif_neg h0, dif_neg h0, dif_pos h1, dif_pos h1, dif_neg (by omega), dif_neg (by omega), dif_neg (by omega), dif_neg (by omega), dif_neg (by omega)]
      ring
    · rw [dif_neg h0, dif_neg h0, dif_neg h1, dif_neg h1]
      by_cases h2 : l.val < 16
      · rw [dif_pos h2, dif_pos (by omega)]
        by_cases g0 : l.val < 10
        · rw [dif_pos (by omega), dif_neg (by omega), dif_neg (by omega), dif_neg (by omega)]
          ring
        · by_cases g1 : l.val < 12
          · rw [dif_neg (by omega), dif_pos (by omega), dif_neg (by omega), dif_neg (by omega)]
            ring
          · by_cases g2 : l.val < 14
            · rw [dif_neg (by omega), dif_neg (by omega), dif_pos (by omega), dif_neg (by omega)]
              ring
            · rw [dif_neg (by omega), dif_neg (by omega), dif_neg (by omega), dif_pos (by omega)]
              ring
      · rw [dif_neg h2, dif_neg (by omega), dif_neg (by omega), dif_neg (by omega), dif_neg (by omega), dif_neg (by omega)]
        ring

/-- The sum over the rows from `k` on. -/
def suf (f : Fin 2048 → ℝ) (k : ℕ) : ℝ := ∑ r : Fin 2048, if k ≤ r.val then f r else 0
/-- Row `p` of the band that is visited as number `n`, the last band first. -/
def row (n : ℕ) (p : Fin 128) : Fin 2048 := ⟨128 * (15 - n) + p.val, by omega⟩
theorem suf_top (f : Fin 2048 → ℝ) : suf f (128 * (16 - 0)) = 0 := Finset.sum_eq_zero fun r _ => if_neg (by have := r.isLt; omega)
theorem suf_all (f : Fin 2048 → ℝ) : suf f (128 * (16 - 16)) = ∑ r, f r := Finset.sum_congr rfl fun r _ => if_pos (by omega)
/-- The rows from row `p` of a band on are the band's and the later bands'. -/
theorem suf_band (f : Fin 2048 → ℝ) (n : ℕ) (hn : n < 16) (p : Fin 128) :
    suf f (row n p).val = ∑ q : Fin 128, (if p.val ≤ q.val then 1 else 0) * f (row n q) + suf f (128 * (16 - n)) := by
  have e : ∀ r : Fin 2048, (if (row n p).val ≤ r.val then f r else 0)
      = (if (row n p).val ≤ r.val ∧ r.val < 128 * (16 - n) then f r else 0) + if 128 * (16 - n) ≤ r.val then f r else 0 := fun r => by
    have : (row n p).val = 128 * (15 - n) + p.val := rfl
    have := p.isLt
    by_cases h0 : 128 * (16 - n) ≤ r.val
    · rw [if_pos (by omega), if_neg (by omega), if_pos h0, zero_add]
    · rw [if_neg h0, add_zero]
      by_cases h1 : (row n p).val ≤ r.val
      · rw [if_pos h1, if_pos ⟨h1, by omega⟩]
      · rw [if_neg h1, if_neg (by omega)]
  unfold suf
  rw [Finset.sum_congr rfl fun r _ => e r, Finset.sum_add_distrib]
  congr 1
  rw [Idealize.ShloMosaic.Fin.sum_univ_tiles 16 128 rfl, Finset.sum_eq_single (⟨15 - n, by omega⟩ : Fin 16)]
  · refine Finset.sum_congr rfl fun q _ => ?_
    have ev : (15 - n) * 128 + q.val = (row n q).val := by show _ = 128 * (15 - n) + q.val; omega
    have ef : f ⟨(15 - n) * 128 + q.val, by omega⟩ = f (row n q) := congrArg f (Fin.ext ev)
    show (if (row n p).val ≤ (15 - n) * 128 + q.val ∧ (15 - n) * 128 + q.val < 128 * (16 - n) then f ⟨(15 - n) * 128 + q.val, _⟩ else 0) = _
    rw [ef]
    have : (row n p).val = 128 * (15 - n) + p.val := rfl
    by_cases hq : p.val ≤ q.val
    · rw [if_pos (by omega), if_pos hq, one_mul]
    · rw [if_neg (by omega), if_neg hq, zero_mul]
  · refine fun t _ ht => Finset.sum_eq_zero fun q _ => if_neg ?_
    have ht' : t.val ≠ 15 - n := fun e => ht (Fin.ext e)
    have : (row n p).val = 128 * (15 - n) + p.val := rfl
    show ¬ ((row n p).val ≤ t.val * 128 + q.val ∧ t.val * 128 + q.val < 128 * (16 - n))
    omega
  · exact fun h => absurd (Finset.mem_univ _) h
end Cert.Gates
-- ==== Proof.Gates.Block.lean ====
module

public import proofs.«01_k».proof.Proof.Gen.GatesBwdIdeal
public import proofs.«01_k».proof.Proof.Gates.Pick
public import proofs.«01_k».proof.Proof.Math.Place
public import proofs.«01_k».proof.Proof.Gen.GatesBwdIdeal.Frame

/-! # The gates' kernel: the values of one band of 128 rows -/

@[expose] public section
set_option maxRecDepth 16384
noncomputable section
namespace Cert.Gates.Ker
open Cert.Lift Cert.Prep
open Idealize.ShloMosaic Idealize.ShloMosaic.TcCoe Idealize.SL.Sem Cert.GatesBwdIdeal Cert.GatesBwdIdeal.Gen

/-- The two one-hot products of one band. -/
theorem pay9 {v14 v25 : FVec Ideal S128x512 .f32} {v16 v27 : FVec Ideal S512x128 .bf16} {A B : Fin 128 → Fin 512 → ℝ} {G C : Fin 512 → Fin 128 → ℝ}
    (hA : Is2 (φ := .f32) v14 A) (hG : Is2 (φ := .bf16) v16 G) (hB : Is2 (φ := .f32) v25 B) (hC : Is2 (φ := .bf16) v27 C) :
    Is2 (φ := .f32) (k0_pay9 (F := Ideal) v14 v16 v25 v27) fun p l => ∑ k, A p k * G k l + ∑ k, B p k * C k l := fun p l => by
  unfold Is2 at *
  pointwise [k0_pay9, hA, hG, hB, hC]
  simp only [← EReal.coe_sub, sub_self, ← EReal.coe_mul, coe_sum, zero_mul, Finset.sum_const_zero, ← EReal.coe_add, add_zero, zero_add]

/-- The lane numbers. -/
abbrev lane : IVec S128x128 32 := iota .tc S128x128 32 [1] iota_S128x128_d1_w32
theorem slt4 : ∀ l : Fin 128, IntOp.cmpi CmpIPredicate.slt (BitVec.ofNat 32 l.val) 4#32 = if l.val < 4 then 1#1 else 0#1 := by decide +kernel
theorem slt8 : ∀ l : Fin 128, IntOp.cmpi CmpIPredicate.slt (BitVec.ofNat 32 l.val) 8#32 = if l.val < 8 then 1#1 else 0#1 := by decide +kernel
theorem slt16 : ∀ l : Fin 128, IntOp.cmpi CmpIPredicate.slt (BitVec.ofNat 32 l.val) 16#32 = if l.val < 16 then 1#1 else 0#1 := by decide +kernel
theorem sge4 : ∀ l : Fin 128, IntOp.cmpi CmpIPredicate.sge (BitVec.ofNat 32 l.val) 4#32 = if 4 ≤ l.val then 1#1 else 0#1 := by decide +kernel
theorem sle : ∀ p q : Fin 128, BitVec.setWidth 32 (IntOp.cmpi CmpIPredicate.sle (BitVec.ofNat 32 p.val) (BitVec.ofNat 32 q.val)) = if p.val ≤ q.val then 1#32 else 0#32 := by decide +kernel
/-- The upper triangle of ones. -/
theorem pay2 : Is2 (φ := .f32) (k0_pay2 (F := Ideal)) fun p q => if p.val ≤ q.val then 1 else 0 := fun p q => by
  pointwise [k0_pay2]
  rw [sle]
  by_cases h : p.val ≤ q.val
  · rw [if_pos h, if_pos h]
    show (((1#32 : BitVec 32).toInt : ℝ) : EReal) = ((1 : ℝ) : EReal)
    simp
  · rw [if_neg h, if_neg h]
    show (((0#32 : BitVec 32).toInt : ℝ) : EReal) = ((0 : ℝ) : EReal)
    simp
section
variable {v36 : FVec Ideal S128x128 .f32} {E : Fin 128 → Fin 128 → ℝ} (h : Is2 (φ := .f32) v36 E)
  {k0 k1 k2 k3 : FVec Ideal S1x8x128 .f32} {K0 K1 K2 K3 : Fin 8 → Fin 128 → ℝ} (h0 : ∀ b p, (k0 (ix3 0 b p) : EReal) = ((K0 b p : ℝ) : EReal))
  (h1 : ∀ b p, (k1 (ix3 0 b p) : EReal) = ((K1 b p : ℝ) : EReal)) (h2 : ∀ b p, (k2 (ix3 0 b p) : EReal) = ((K2 b p : ℝ) : EReal))
  (h3 : ∀ b p, (k3 (ix3 0 b p) : EReal) = ((K3 b p : ℝ) : EReal))
  {t0 t1 t2 t3 : FVec Ideal S1x8x128 .bf16} {T0 T1 T2 T3 : Fin 8 → Fin 128 → ℝ} (g0 : ∀ b l, (t0 (ix3 0 b l) : EReal) = ((T0 b l : ℝ) : EReal))
  (g1 : ∀ b p, (t1 (ix3 0 b p) : EReal) = ((T1 b p : ℝ) : EReal)) (g2 : ∀ b p, (t2 (ix3 0 b p) : EReal) = ((T2 b p : ℝ) : EReal))
  (g3 : ∀ b p, (t3 (ix3 0 b p) : EReal) = ((T3 b p : ℝ) : EReal))
include h h0 h1 g0 g1 in
theorem pay10 : Is2 (φ := .f32) (k0_pay10 (F := Ideal) v36 k0 t0 t0 k1 t1 t1) fun p l => E p l - ∑ b, K0 b p * T0 b l - ∑ b, K1 b p * T1 b l := fun p l => by
  unfold Is2 at h
  pointwise [k0_pay10, h, h0, h1, g0, g1]
  simp only [← EReal.coe_sub, sub_self, ← EReal.coe_mul, coe_sum, zero_mul, Finset.sum_const_zero, ← EReal.coe_add, add_zero, zero_add]
include h h2 h3 g2 g3 in
theorem pay14 : Is2 (φ := .f32) (k0_pay14 (F := Ideal) v36 (k0_pay12 k2) (k0_pay13 k2) t2 t2 k3 t3 t3) fun p l => E p l - ∑ b, K2 b p * T2 b l - ∑ b, K3 b p * T3 b l := fun p l => by
  unfold Is2 at h
  pointwise [k0_pay14, k0_pay12, k0_pay13, k0_pay11, h, h2, h3, g2, g3]
  simp only [← EReal.coe_sub, sub_self, ← EReal.coe_mul, coe_sum, zero_mul, Finset.sum_const_zero, ← EReal.coe_add, add_zero, zero_add]
end
section
variable {v4 v64 : FVec Ideal S128x128 .f32} {v67 v70 : FVec Ideal S8x128 .bf16} {v71 v74 v85 v88 : FVec Ideal S1x8x128 .bf16} {v79 : FVec Ideal S1x8x128 .f32}
  {v9 : FVec Ideal S1x128 .f32} {D L : Fin 128 → Fin 128 → ℝ} {c : Fin 128 → ℝ}
  (hD : Is2 (φ := .f32) (k0_pay14 (F := Ideal) v64 v67 v70 v71 v74 v79 v85 v88) D) (hL : Is2 (φ := .f32) v4 L) (hc : Is2 (φ := .f32) v9 fun _ => c)
include hD hL hc
theorem pay15 : Is2 (φ := .f32) (k0_pay15 (F := Ideal) v4 v9 v64 v67 v70 v71 v74 v79 v85 v88) fun p l => ∑ q, L p q * D q l + c l := fun p l => by
  unfold Is2 at *
  pointwise [k0_pay15, hD, hL, hc]
  simp only [← EReal.coe_sub, sub_self, ← EReal.coe_mul, coe_sum, mul_zero, Finset.sum_const_zero, ← EReal.coe_add, add_zero, zero_add]
theorem pay16 : Is2 (φ := .f32) (k0_pay16 (F := Ideal) v4 v9 v64 v67 v70 v71 v74 v79 v85 v88) fun _ l => ∑ q, L 0 q * D q l + c l := fun p l => by
  have h := pay15 hD hL hc
  unfold Is2 at h
  pointwise [k0_pay16]
  exact h 0 l
theorem pay17 : Is2 (φ := .f32) (k0_pay17 (F := Ideal) lane v4 v9 v64 v67 v70 v71 v74 v79 v85 v88) fun p l => if l.val < 8 then D p l else ∑ q, L p q * D q l + c l := fun p l => by
  have h := pay15 hD hL hc
  unfold Is2 at h hD
  pointwise [k0_pay17, lane, h, hD]
  rw [slt8]
  by_cases hl : l.val < 8
  · simp only [if_pos hl]
    rfl
  · simp only [if_neg hl]
    rfl
end
section
variable {v v107 : FVec Ideal S128x128 .f32} {v8 v10 : FVec Ideal S1x128 .f32} {D E : Fin 128 → Fin 128 → ℝ} {c s : Fin 128 → ℝ}
theorem pay18 (hc : Is2 (φ := .f32) v8 fun _ => c) (h : Is2 (φ := .f32) v D) : Is2 (φ := .f32) (k0_pay18 (F := Ideal) v8 v) fun p l => D p l + c l := fun p l => by
  unfold Is2 at *
  pointwise [k0_pay18, h, hc]
  rw [← EReal.coe_add]
theorem pay19 (h : Is2 (φ := .f32) v D) : Is2 (φ := .f32) (k0_pay19 (F := Ideal) v) fun p l => logis (D p l) := fun p l => by
  unfold Is2 at *
  pointwise [k0_pay19, h]
  simp only [zero_sub, logis_real]
theorem max_coe (x y : ℝ) : max (x : EReal) (y : EReal) = ((max x y : ℝ) : EReal) := ((EReal.coe_strictMono.monotone).map_max).symm
theorem exp_abs (x : ℝ) : Ideal.exp (0 - FloatOps.absf (F := Ideal) (φ := .f32) (x : EReal)) = ((Real.exp (-|x|) : ℝ) : EReal) := by
  rw [show FloatOps.absf (F := Ideal) (φ := .f32) (x : EReal) = max (x : EReal) (-(x : EReal)) from rfl, ← EReal.coe_neg, max_coe, ← abs_eq_max_neg, zero_sub, ← EReal.coe_neg]
  rfl
theorem pay20 (h : Is2 (φ := .f32) v D) (hc : Is2 (φ := .f32) v8 fun _ => c) : Is2 (φ := .f32) (k0_pay20 (F := Ideal) v8 v) fun p l => c l * sp (D p l) := fun p l => by
  unfold Is2 at *
  pointwise [k0_pay20, h, hc]
  have he := Real.exp_pos (-|D p l|)
  have h1 : ((1 + Real.exp (-|D p l|) : ℝ) : EReal) ≠ ((1 : ℝ) : EReal) := fun e => by
    have := EReal.coe_injective e
    linarith
  rw [exp_abs, ← EReal.coe_one, ← EReal.coe_add, if_neg h1, if_neg h1, ← EReal.coe_sub, Ideal.log_coe, if_neg (by linarith), add_sub_cancel_left, div_real he.ne', div_self he.ne',
    ← EReal.coe_mul, mul_one, ← EReal.coe_zero, max_coe, ← EReal.coe_add, ← EReal.coe_mul]
  rfl
/-- The gradient at the gates' columns. -/
theorem pay24 {X S : Fin 128 → Fin 128 → ℝ} {v13 v123 : FVec Ideal S128x128 .f32} (hx : Is2 (φ := .f32) v13 X) (hs : Is2 (φ := .f32) v123 S) (he : Is2 (φ := .f32) v107 E)
    (hc : Is2 (φ := .f32) v8 fun _ => c) :
    Is2 (φ := .f32) (k0_pay24 (F := Ideal) lane v8 v107 v123 (k0_pay21 lane) (k0_pay22 v13 v107 (Scalar.ofBits .f32 0x00000000#32)) (k0_pay23 lane)) fun p l =>
      if l.val < 4 then E p l * logis (X p l) * (1 - logis (X p l)) else if l.val < 8 then E p l * c l * S p l else if l.val < 16 then E p l * (1 - S p l) else 0 := fun p l => by
  unfold Is2 at *
  pointwise [k0_pay24, k0_pay21, k0_pay22, k0_pay23, lane, hx, hs, he, hc]
  rw [slt4, slt8, slt16]
  simp only [zero_sub, logis_real]
  simp only [← EReal.coe_one, ← EReal.coe_sub, ← EReal.coe_mul]
  by_cases h0 : l.val < 4
  · simp only [if_pos h0]
    rfl
  · by_cases h1 : l.val < 8
    · simp only [if_neg h0, if_pos h1]
      rfl
    · by_cases h2 : l.val < 16
      · simp only [if_neg h0, if_neg h1, if_pos h2]
        rfl
      · simp only [if_neg h0, if_neg h1, if_neg h2]
        rfl
/-- The sums over a band's rows, added to those so far. -/
theorem pay26 {m1 m2 : IVec S128x128 1} {v152 v123 : FVec Ideal S128x128 .f32} (h : Is2 (φ := .f32) (k0_pay24 (F := Ideal) lane v8 v107 v123 m1 v152 m2) D) (hs : Is2 (φ := .f32) v10 fun _ => s) :
    Is2 (φ := .f32) (k0_pay26 (F := Ideal) lane v8 v10 v107 v123 m1 v152 m2) fun _ l => s l + ∑ p, D p l := fun _ l => by
  unfold Is2 at *
  pointwise [k0_pay26, h, hs]
  simp only [coe_sum, zero_add, ← EReal.coe_add]
theorem pay27 (he : Is2 (φ := .f32) v107 E) (hd : Is2 (φ := .f32) v D) (hs : Is2 (φ := .f32) v10 fun _ => s) :
    Is2 (φ := .f32) (k0_pay27 (F := Ideal) lane v10 v107 v) fun _ l => s l + ∑ p, if 4 ≤ l.val ∧ l.val < 8 then E p l * D p l else 0 := fun _ l => by
  unfold Is2 at *
  pointwise [k0_pay27, lane, he, hd, hs]
  rw [sge4, slt8]
  by_cases h0 : 4 ≤ l.val
  · by_cases h1 : l.val < 8
    · simp only [if_pos h0, if_pos h1, if_pos (And.intro h0 h1), ← EReal.coe_mul]
      show ((s l : ℝ) : EReal) + ∑ x, ((E x l * D x l : ℝ) : EReal) = _
      rw [coe_sum, ← EReal.coe_add]
    · simp only [if_pos h0, if_neg h1, if_neg (fun h : 4 ≤ l.val ∧ l.val < 8 => h1 h.2)]
      show ((s l : ℝ) : EReal) + ∑ x : Fin 128, (0 : EReal) = _
      rw [Finset.sum_const_zero, Finset.sum_const_zero, add_zero, add_zero]
  · simp only [if_neg h0, if_neg (fun h : 4 ≤ l.val ∧ l.val < 8 => h0 h.1)]
    have e : ∀ b : BitVec 1, IntOp.andi (0#1) b = 0#1 := by decide
    simp only [e]
    show ((s l : ℝ) : EReal) + ∑ x : Fin 128, (0 : EReal) = _
    rw [Finset.sum_const_zero, Finset.sum_const_zero, add_zero, add_zero]
end
end Cert.Gates.Ker
-- ==== Proof.Gates.Band.lean ====
module

public import proofs.«01_k».proof.Proof.Gates.Block

/-! # The gates' kernel: its sixteen bands, the last one first -/

@[expose] public section
set_option maxRecDepth 16384
noncomputable section
namespace Cert.Gates.Ker
open Cert.Lift Cert.Prep
open Idealize.ShloMosaic Idealize.ShloMosaic.TcCoe Idealize.SL.Sem Cert.GatesBwdIdeal Cert.GatesBwdIdeal.Gen

/-- A band's 128 rows. -/
def ldx (x : Vec Ideal S2048x128 .f32) (n : ℕ) : Vec Ideal S128x128 .f32 := View.ld x (Rect.unit (s := S2048x128) ![128 * (15 - n), 0] S128x128.size (by
  intro i; fin_cases i
  · show 128 * (15 - n) + 128 ≤ 2048; omega
  · show 0 + 128 ≤ 128; omega))
def ldw (x : Vec Ideal S2048x512 .f32) (n : ℕ) : Vec Ideal S128x512 .f32 := View.ld x (Rect.unit (s := S2048x512) ![128 * (15 - n), 0] S128x512.size (by
  intro i; fin_cases i
  · show 128 * (15 - n) + 128 ≤ 2048; omega
  · show 0 + 512 ≤ 512; omega))
/-- One group of the keys' cotangents at a band's positions. -/
def ldk (x : Vec Ideal S4x8x2048 .f32) (h : Fin 4) (n : ℕ) : Vec Ideal S1x8x128 .f32 := View.ld x (Rect.unit (s := S4x8x2048) ![h.val, 0, 128 * (15 - n)] S1x8x128.size (by
  intro i; fin_cases i
  · show h.val + 1 ≤ 4; omega
  · show 0 + 8 ≤ 8; omega
  · show 128 * (15 - n) + 128 ≤ 2048; omega))
/-- One group's table. -/
def ldt (x : Vec Ideal S4x8x128 .bf16) (h : Fin 4) : Vec Ideal S1x8x128 .bf16 := View.ld x (Rect.unit (s := S4x8x128) ![h.val, 0, 0] S1x8x128.size (by
  intro i; fin_cases i
  · show h.val + 1 ≤ 4; omega
  · show 0 + 8 ≤ 8; omega
  · show 0 + 128 ≤ 128; omega))
theorem ldx_at (x : Vec Ideal S2048x128 .f32) (n : ℕ) (p l : Fin 128) : ldx x n (ix2 p l) = x (ix2 (row n p) l) := by
  refine congrArg x (funext fun i => Fin.ext ?_)
  fin_cases i
  · show 128 * (15 - n) + 1 * p.val = 128 * (15 - n) + p.val; omega
  · show 0 + 1 * l.val = l.val; omega
theorem ldw_at (x : Vec Ideal S2048x512 .f32) (n : ℕ) (p : Fin 128) (k : Fin 512) : ldw x n (ix2 p k) = x (ix2 (row n p) k) := by
  refine congrArg x (funext fun i => Fin.ext ?_)
  fin_cases i
  · show 128 * (15 - n) + 1 * p.val = 128 * (15 - n) + p.val; omega
  · show 0 + 1 * k.val = k.val; omega
theorem ldk_at (x : Vec Ideal S4x8x2048 .f32) (h : Fin 4) (n : ℕ) (b : Fin 8) (p : Fin 128) : ldk x h n (ix3 0 b p) = x (ix3 h b (row n p)) := by
  refine congrArg x (funext fun i => Fin.ext ?_)
  fin_cases i
  · show h.val + 1 * 0 = h.val; omega
  · show 0 + 1 * b.val = b.val; omega
  · show 128 * (15 - n) + 1 * p.val = 128 * (15 - n) + p.val; omega
theorem ldt_at (x : Vec Ideal S4x8x128 .bf16) (h : Fin 4) (b : Fin 8) (l : Fin 128) : ldt x h (ix3 0 b l) = x (ix3 h b l) := by
  refine congrArg x (funext fun i => Fin.ext ?_)
  fin_cases i
  · show h.val + 1 * 0 = h.val; omega
  · show 0 + 1 * b.val = b.val; omega
  · show 0 + 1 * l.val = l.val; omega

/-- A load of a whole table. -/
theorem ld_all (x : Vec Ideal S512x128 .bf16) (k : Fin 512) (l : Fin 128) : View.ld x r0_4 (ix2 k l) = x (ix2 k l) := by
  refine congrArg x (funext fun i => Fin.ext ?_)
  fin_cases i
  · show 0 + 1 * k.val = k.val; omega
  · show 0 + 1 * l.val = l.val; omega
/-- A load of one row. -/
theorem ld_row (x : Vec Ideal S8x128 .f32) {i : ℕ} (inb : ∀ x, (![i, 0] : Fin 2 → ℕ) x + (![1, 128] : Fin 2 → ℕ) x ≤ S8x128.size x) (hi : i < 8)
    (q : Fin 1) (l : Fin 128) : View.ld x (Rect.unit (s := S8x128) ![i, 0] ![1, 128] inb) (ix2 q l) = x (ix2 (⟨i, hi⟩ : Fin 8) l) := by
  refine congrArg x (funext fun x => Fin.ext ?_)
  fin_cases x
  · show i + 1 * q.val = i; omega
  · show 0 + 1 * l.val = l.val; omega

section
variable (x0 : Vec Ideal S2048x128 .f32) (x1 : Vec Ideal S8x128 .f32) (x2 x3 : Vec Ideal S2048x512 .f32) (x4 : Vec Ideal S4x8x2048 .f32)
  (x5 x6 : Vec Ideal S512x128 .bf16) (x7 : Vec Ideal S4x8x128 .bf16)
/-- The two one-hot products and the first two groups of keys. -/
def half (n : ℕ) : FVec Ideal S128x128 .f32 :=
  k0_pay10 (k0_pay9 (ldw x2 n) (View.ld x5 r0_4) (ldw x3 n) (View.ld x6 r0_4)) (ldk x4 0 n) (ldt x7 0) (ldt x7 0) (ldk x4 1 n) (ldt x7 1) (ldt x7 1)
/-- What the later bands' cotangents sum to. -/
def car : ℕ → FVec Ideal S1x128 .f32
  | 0 => k0_pay5
  | n + 1 => k0_pay16 k0_pay2 (car n) (half x2 x3 x4 x5 x6 x7 n) (k0_pay12 (ldk x4 2 n)) (k0_pay13 (ldk x4 2 n)) (ldt x7 2) (ldt x7 2) (ldk x4 3 n) (ldt x7 3) (ldt x7 3)
/-- The cotangents that a band's gates receive. -/
def dev (n : ℕ) : FVec Ideal S128x128 .f32 :=
  k0_pay17 lane k0_pay2 (car x2 x3 x4 x5 x6 x7 n) (half x2 x3 x4 x5 x6 x7 n) (k0_pay12 (ldk x4 2 n)) (k0_pay13 (ldk x4 2 n)) (ldt x7 2) (ldt x7 2) (ldk x4 3 n) (ldt x7 3) (ldt x7 3)
def shf (n : ℕ) : FVec Ideal S128x128 .f32 := k0_pay18 (k0_pay3 (View.ld x1 r0_0)) (k0_pay8 (ldx x0 n))
def val (n : ℕ) : FVec Ideal S128x128 .f32 :=
  k0_pay24 lane (k0_pay4 (View.ld x1 r0_1)) (dev x2 x3 x4 x5 x6 x7 n) (k0_pay19 (shf x0 x1 n)) (k0_pay21 lane)
    (k0_pay22 (k0_pay8 (ldx x0 n)) (dev x2 x3 x4 x5 x6 x7 n) (Scalar.ofBits .f32 0x00000000#32)) (k0_pay23 lane)
/-- The band that is stored. -/
def out (n : ℕ) : FVec Ideal S128x128 .bf16 := truncf .bf16 (val x0 x1 x2 x3 x4 x5 x6 x7 n) bitsLt_bf16_f32
/-- The sums over the rows so far. -/
def colS : ℕ → FVec Ideal S1x128 .f32
  | 0 => k0_pay6
  | n + 1 => k0_pay26 lane (k0_pay4 (View.ld x1 r0_1)) (colS n) (dev x2 x3 x4 x5 x6 x7 n) (k0_pay19 (shf x0 x1 n)) (k0_pay21 lane)
    (k0_pay22 (k0_pay8 (ldx x0 n)) (dev x2 x3 x4 x5 x6 x7 n) (Scalar.ofBits .f32 0x00000000#32)) (k0_pay23 lane)
def algS : ℕ → FVec Ideal S1x128 .f32
  | 0 => k0_pay7
  | n + 1 => k0_pay27 lane (algS n) (dev x2 x3 x4 x5 x6 x7 n) (k0_pay20 (k0_pay4 (View.ld x1 r0_1)) (shf x0 x1 n))
/-- The two rows of sums. -/
def sums : FVec Ideal S8x128 .f32 :=
  k0_pay1 lane (colS x0 x1 x2 x3 x4 x5 x6 x7 15) (algS x0 x1 x2 x3 x4 x5 x6 x7 15) (dev x2 x3 x4 x5 x6 x7 15) (k0_pay20 (k0_pay4 (View.ld x1 r0_1)) (shf x0 x1 15)) (val x0 x1 x2 x3 x4 x5 x6 x7 15)

theorem rect_in (n : ℕ) (hn : n < 16) : ∀ a, (![128 * (15 - n), 0] : Fin 2 → ℕ) a + (![128, 128] : Fin 2 → ℕ) a ≤ S2048x128.size a := fun a => by
  fin_cases a
  · show 128 * (15 - n) + 128 ≤ 2048; omega
  · show 0 + 128 ≤ 128; omega
/-- The bands stored so far, the last store first. -/
def stack : (n : ℕ) → n ≤ 16 → List (View.Piece (Elt Ideal) S2048x128 .bf16)
  | 0, _ => []
  | n + 1, hn => ⟨Rect.unit (s := S2048x128) ![128 * (15 - n), 0] ![128, 128] (rect_in n hn), out x0 x1 x2 x3 x4 x5 x6 x7 n⟩ :: stack n (Nat.le_of_succ_le hn)
/-- What the kernel leaves in its two windows. -/
theorem out8_eq : out0_8 x0 x1 x2 x3 x4 x5 x6 x7 = View.canon (stack x0 x1 x2 x3 x4 x5 x6 x7 16 le_rfl) := rfl
theorem out9_eq : out0_9 x0 x1 x2 x3 x4 x5 x6 x7 = View.canon [⟨r0_103, sums x0 x1 x2 x3 x4 x5 x6 x7⟩] := rfl
end

/-- The stores leave the values `G` in the rows from `lo` on. -/
def From {n w : ℕ} {e : EltTy} (L : List (View.Piece (Elt Ideal) ⟨2, ![n, w]⟩ e)) (G : Fin n → Fin w → Elt Ideal e) (lo : ℕ) : Prop :=
  ∀ (r : Fin n) (l : Fin w), lo ≤ r.val → View.canon L (ix2 r l) = G r l
theorem From.nil {n w : ℕ} {e : EltTy} (G : Fin n → Fin w → Elt Ideal e) : From [] G n := fun r _ h => absurd r.isLt (Nat.not_lt.2 h)
/-- A store of the rows before. -/
theorem From.cons {n w o m : ℕ} {e : EltTy} {L : List (View.Piece (Elt Ideal) ⟨2, ![n, w]⟩ e)} {G : Fin n → Fin w → Elt Ideal e} (h : From L G (o + m)) (hm : o + m ≤ n)
    {inb : ∀ a, (![o, 0] : Fin 2 → ℕ) a + (![m, w] : Fin 2 → ℕ) a ≤ (![n, w] : Fin 2 → ℕ) a}
    {p : (Rect.unit (s := ⟨2, ![n, w]⟩) ![o, 0] ![m, w] inb).shape.Idx → Elt Ideal e}
    (hp : ∀ (k : Fin m) (l : Fin w), p (ix2 k l) = G ⟨o + k.val, by omega⟩ l) :
    From ((⟨Rect.unit (s := ⟨2, ![n, w]⟩) ![o, 0] ![m, w] inb, p⟩ : View.Piece (Elt Ideal) ⟨2, ![n, w]⟩ e) :: L) G o := fun r l hr => by
  by_cases ho : r.val < o + m
  · have e : (Rect.unit (s := ⟨2, ![n, w]⟩) ![o, 0] ![m, w] inb).emb (ix2 (⟨r.val - o, by omega⟩ : Fin m) l) = ix2 r l := by
      funext a; apply Fin.ext; fin_cases a
      · show o + 1 * (r.val - o) = r.val; omega
      · show 0 + 1 * l.val = l.val; omega
    rw [← e, View.canon_cons_emb _ p L _, hp]
    exact congrArg (fun k => G k l) (Fin.ext (by show o + (r.val - o) = r.val; omega))
  · rw [View.canon_cons_of_not_mem _ L fun hmem => ho ?_]
    · exact h r l (by omega)
    · have := (Rect.mem_set_unit (inb := inb)).1 hmem 0
      change o ≤ r.val ∧ r.val < o + m at this
      exact this.2

/-- The staged blocks hold the reals `a`. -/
structure Blocks (a : Reals) (x0 : Vec Ideal S2048x128 .f32) (x1 : Vec Ideal S8x128 .f32) (x2 x3 : Vec Ideal S2048x512 .f32) (x4 : Vec Ideal S4x8x2048 .f32)
    (x5 x6 : Vec Ideal S512x128 .bf16) (x7 : Vec Ideal S4x8x128 .bf16) : Prop where
  raw : Is2 (φ := .f32) x0 a.raw
  prm : Is2 (φ := .f32) x1 fun i l => a.prm l i
  gat : Is2 (φ := .f32) x2 a.gat
  wid : Is2 (φ := .f32) x3 a.wid
  kr : ∀ h b r, (x4 (ix3 h b r) : EReal) = ((a.kr r h b : ℝ) : EReal)
  tg : Is2 (φ := .bf16) x5 tg
  tc : Is2 (φ := .bf16) x6 tc
  tk : ∀ h b l, (x7 (ix3 h b l) : EReal) = ((Gates.tk h b l : ℝ) : EReal)

/-- Two rows over six rows of zeros, as the kernel writes them. -/
def two (u w : FVec Ideal S1x128 .f32) : FVec Ideal S8x128 .f32 :=
  select (cmpi .eq (iota .tc S8x128 32 [0] iota_S8x128_d0_w32) (broadcast S8x128 0#32)) (broadcastTo S8x128 (shapeCast S1x128 u shapeCasts_S1x128_S1x128) broadcasts_S1x128_S8x128)
    (select (cmpi .eq (iota .tc S8x128 32 [0] iota_S8x128_d0_w32) (broadcast S8x128 1#32)) (broadcastTo S8x128 (shapeCast S1x128 w shapeCasts_S1x128_S1x128) broadcasts_S1x128_S8x128)
      (broadcast S8x128 (Scalar.ofBits .f32 0x00000000#32)))

section
variable {a : Reals} {x0 : Vec Ideal S2048x128 .f32} {x1 : Vec Ideal S8x128 .f32} {x2 x3 : Vec Ideal S2048x512 .f32} {x4 : Vec Ideal S4x8x2048 .f32}
  {x5 x6 : Vec Ideal S512x128 .bf16} {x7 : Vec Ideal S4x8x128 .bf16} (h : Blocks a x0 x1 x2 x3 x4 x5 x6 x7) (n : ℕ)
include h
theorem half_is : Is2 (φ := .f32) (half x2 x3 x4 x5 x6 x7 n) fun p l => ∑ k, a.gat (row n p) k * Gates.tg k l + ∑ k, a.wid (row n p) k * Gates.tc k l
    - ∑ b, a.kr (row n p) 0 b * Gates.tk 0 b l - ∑ b, a.kr (row n p) 1 b * Gates.tk 1 b l :=
  pay10 (pay9 (fun p k => (ldw_at x2 n p k).trans (h.gat _ _)) (fun k l => (ld_all x5 k l).trans (h.tg k l)) (fun p k => (ldw_at x3 n p k).trans (h.wid _ _))
      (fun k l => (ld_all x6 k l).trans (h.tc k l)))
    (fun b p => (ldk_at x4 0 n b p).trans (h.kr _ _ _)) (fun b p => (ldk_at x4 1 n b p).trans (h.kr _ _ _))
    (fun b l => (ldt_at x7 0 b l).trans (h.tk _ _ _)) (fun b l => (ldt_at x7 1 b l).trans (h.tk _ _ _))
theorem d_is : Is2 (φ := .f32) (k0_pay14 (F := Ideal) (half x2 x3 x4 x5 x6 x7 n) (k0_pay12 (ldk x4 2 n)) (k0_pay13 (ldk x4 2 n)) (ldt x7 2) (ldt x7 2) (ldk x4 3 n) (ldt x7 3) (ldt x7 3))
    fun p l => a.d (row n p) l := fun p l => by
  have e := pay14 (half_is h n) (fun b p => (ldk_at x4 2 n b p).trans (h.kr _ _ _)) (fun b p => (ldk_at x4 3 n b p).trans (h.kr _ _ _))
    (fun b l => (ldt_at x7 2 b l).trans (h.tk _ _ _)) (fun b l => (ldt_at x7 3 b l).trans (h.tk _ _ _)) p l
  exact e.trans (congrArg _ (d_eq a (row n p) l))
omit h in
/-- One band more of a sum over the later rows. -/
theorem suf_step (f : Fin 2048 → ℝ) (hn : n < 16) : suf f (128 * (16 - (n + 1))) = ∑ q : Fin 128, f (row n q) + suf f (128 * (16 - n)) := by
  have e := suf_band f n hn 0
  have ev : (row n 0).val = 128 * (16 - (n + 1)) := by show 128 * (15 - n) + 0 = _; omega
  rw [ev] at e
  rw [e]
  congr 1
  exact Finset.sum_congr rfl fun q _ => by rw [if_pos (show (0 : Fin 128).val ≤ q.val from Nat.zero_le _), one_mul]
theorem car_is : ∀ n, n ≤ 16 → Is2 (φ := .f32) (car x2 x3 x4 x5 x6 x7 n) fun _ l => suf (fun r => a.d r l) (128 * (16 - n))
  | 0, _ => fun i l => by
    show car x2 x3 x4 x5 x6 x7 0 (ix2 i l) = ((suf (fun r => a.d r l) (128 * (16 - 0)) : ℝ) : EReal)
    rw [suf_top]
    exact lit_zero
  | n + 1, hn => fun i l => by
    refine (pay16 (d_is h n) pay2 (car_is n (by omega)) i l).trans (congrArg _ ?_)
    beta_reduce
    rw [suf_step n _ (by omega)]
    congr 1
    exact Finset.sum_congr rfl fun q _ => by rw [if_pos (show (0 : Fin 128).val ≤ q.val from Nat.zero_le _), one_mul]
theorem dev_is (hn : n < 16) : Is2 (φ := .f32) (dev x2 x3 x4 x5 x6 x7 n) fun p l => a.de (row n p) l := fun p l => by
  refine (pay17 (d_is h n) pay2 (car_is h n (by omega)) p l).trans (congrArg _ ?_)
  beta_reduce
  unfold Reals.de
  rw [show a.rc (row n p) l = suf (fun r => a.d r l) (row n p).val from rfl, suf_band _ n hn p]
theorem raw_is : Is2 (φ := .f32) (k0_pay8 (F := Ideal) (ldx x0 n)) fun p l => a.raw (row n p) l := fun p l => by
  have hx : ∀ p l, (ldx x0 n (ix2 p l) : EReal) = ((a.raw (row n p) l : ℝ) : EReal) := fun p l => (ldx_at x0 n p l).trans (h.raw _ _)
  pointwise [k0_pay8, hx]
theorem bias_is : Is2 (φ := .f32) (k0_pay3 (F := Ideal) (View.ld x1 r0_0)) fun _ l => a.bias l := fun i l => by
  have hx : ∀ (i : Fin 1) (l : Fin 128), (View.ld x1 r0_0 (ix2 i l) : EReal) = ((a.bias l : ℝ) : EReal) := fun i l => (ld_row x1 _ (show 0 < 8 by decide) i l).trans (h.prm _ _)
  pointwise [k0_pay3, hx]
theorem nexp_is : Is2 (φ := .f32) (k0_pay4 (F := Ideal) (View.ld x1 r0_1)) fun _ l => a.nexp l := fun i l => by
  have hx : ∀ (i : Fin 1) (l : Fin 128), (View.ld x1 r0_1 (ix2 i l) : EReal) = ((a.nexp l : ℝ) : EReal) := fun i l => (ld_row x1 _ (show 1 < 8 by decide) i l).trans (h.prm _ _)
  pointwise [k0_pay4, hx]
theorem shf_is : Is2 (φ := .f32) (shf x0 x1 n) fun p l => a.xb (row n p) l := pay18 (bias_is h) (raw_is h n)
theorem val_is (hn : n < 16) : Is2 (φ := .f32) (val x0 x1 x2 x3 x4 x5 x6 x7 n) fun p l => a.draw (row n p) l :=
  pay24 (raw_is h n) (pay19 (shf_is h n)) (dev_is h n hn) (nexp_is h)
theorem colS_is : ∀ n, n ≤ 16 → Is2 (φ := .f32) (colS x0 x1 x2 x3 x4 x5 x6 x7 n) fun _ l => suf (fun r => a.draw r l) (128 * (16 - n))
  | 0, _ => fun i l => by
    show colS x0 x1 x2 x3 x4 x5 x6 x7 0 (ix2 i l) = ((suf (fun r => a.draw r l) (128 * (16 - 0)) : ℝ) : EReal)
    rw [suf_top]
    exact lit_zero
  | n + 1, hn => fun i l => by
    refine (pay26 (val_is h n (by omega)) (colS_is n (by omega)) i l).trans (congrArg _ ?_)
    beta_reduce
    rw [suf_step n _ (by omega), add_comm]
theorem algS_is : ∀ n, n ≤ 16 → Is2 (φ := .f32) (algS x0 x1 x2 x3 x4 x5 x6 x7 n) fun _ l => suf (fun r => a.dal r l) (128 * (16 - n))
  | 0, _ => fun i l => by
    show algS x0 x1 x2 x3 x4 x5 x6 x7 0 (ix2 i l) = ((suf (fun r => a.dal r l) (128 * (16 - 0)) : ℝ) : EReal)
    rw [suf_top]
    exact lit_zero
  | n + 1, hn => fun i l => by
    refine (pay27 (dev_is h n (by omega)) (pay20 (shf_is h n) (nexp_is h)) (algS_is n (by omega)) i l).trans (congrArg _ ?_)
    beta_reduce
    rw [suf_step n _ (by omega), add_comm]
    rfl
theorem sums_is : Is2 (φ := .f32) (sums x0 x1 x2 x3 x4 x5 x6 x7) a.acc := fun i l => by
  have hc : ∀ (i : Fin 1) (l : Fin 128), (colS x0 x1 x2 x3 x4 x5 x6 x7 16 (ix2 i l) : EReal) = ((∑ r, a.draw r l : ℝ) : EReal) := fun i l =>
    (colS_is h 16 le_rfl i l).trans (congrArg _ (suf_all _))
  have ha : ∀ (i : Fin 1) (l : Fin 128), (algS x0 x1 x2 x3 x4 x5 x6 x7 16 (ix2 i l) : EReal) = ((∑ r, a.dal r l : ℝ) : EReal) := fun i l =>
    (algS_is h 16 le_rfl i l).trans (congrArg _ (suf_all _))
  have e : sums x0 x1 x2 x3 x4 x5 x6 x7 = two (colS x0 x1 x2 x3 x4 x5 x6 x7 16) (algS x0 x1 x2 x3 x4 x5 x6 x7 16) := rfl
  rw [e]
  pointwise [two, hc, ha]
  unfold Reals.acc
  fin_cases i <;> simp [IntOp.cmpi, Scalar.select]
theorem stack_from : ∀ (n : ℕ) (hn : n ≤ 16), From (e := .bf16) (stack x0 x1 x2 x3 x4 x5 x6 x7 n hn) (fun r l => ((a.draw r l : ℝ) : EReal)) (128 * (16 - n))
  | 0, _ => From.nil _
  | n + 1, hn => by
    have e : 128 * (16 - (n + 1)) = 128 * (15 - n) := by omega
    rw [e]
    refine From.cons ?_ (show 128 * (15 - n) + 128 ≤ 2048 by omega) fun k l => val_is h n hn k l
    have e' : 128 * (15 - n) + 128 = 128 * (16 - n) := by omega
    rw [e']
    exact stack_from n _
/-- The kernel's first window holds the gradient at the gates' columns. -/
theorem out8_is : Is2 (φ := .bf16) (out0_8 (F := Ideal) x0 x1 x2 x3 x4 x5 x6 x7) a.draw := fun r l => by
  rw [out8_eq]
  exact stack_from h 16 le_rfl r l (Nat.zero_le _)
/-- Its second window holds the sums. -/
theorem out9_is : Is2 (φ := .f32) (out0_9 (F := Ideal) x0 x1 x2 x3 x4 x5 x6 x7) a.acc := fun i l => by
  rw [out9_eq]
  have A : From (e := .f32) (n := 8) (w := 128) [] (fun r l => ((a.acc r l : ℝ) : EReal)) (0 + 8) := From.nil _
  refine From.cons (p := sums x0 x1 x2 x3 x4 x5 x6 x7) A (by decide) (fun k l => (sums_is h k l).trans ?_) i l (Nat.zero_le _)
  exact congrArg (fun k => ((a.acc k l : ℝ) : EReal)) (Fin.ext (by show k.val = 0 + k.val; omega))
end
end Cert.Gates.Ker
-- ==== Proof.Gates.Host.lean ====
module

public import proofs.«01_k».proof.Proof.Gen.GatesBwdIdeal.Value
public import proofs.«01_k».proof.Proof.Gates.Band
public import Idealize.ShloMosaic.Lib.Pipeline.ValueKit

/-! # The gates' kernel: the arrays that the host lays out -/

@[expose] public section
set_option maxRecDepth 16384
noncomputable section
namespace Cert.Gates.Ker
open Cert.Lift Cert.Prep Cert.Gates Idealize.ShloMosaic Idealize.ShloMosaic.TcCoe Idealize.SL.Sem Cert.GatesBwdIdeal Cert.GatesBwdIdeal.Gen

/-- The projection's columns in the kernel's order. -/
def cols (x : FVec Ideal S2048x3600 .f32) : FVec Ideal S2048x3712 .f32 :=
  concatenate S2048x3712 1
    [⟨S2048x2048, extractStridedSlice S2048x2048 ![0, 0] x slices_S2048x3600_S2048x2048_0_0⟩,
     ⟨S2048x1536, extractStridedSlice S2048x1536 ![0, 2056] x slices_S2048x3600_S2048x1536_0_2056⟩,
     ⟨S2048x8, extractStridedSlice S2048x8 ![0, 2048] x slices_S2048x3600_S2048x8_0_2048⟩,
     ⟨S2048x8, extractStridedSlice S2048x8 ![0, 3592] x slices_S2048x3600_S2048x8_0_3592⟩,
     ⟨S2048x112, broadcastInDim S2048x112 ![] bcast_S_S2048x112 (constant S_ .f32 0x00000000#32)⟩]
    concatenates_S2048x2048_S2048x1536_S2048x8_S2048x8_S2048x112_S2048x3712_d1
/-- The rows of shifts and decays. -/
def shifts (dt : FVec Ideal S4 .f32) (bf : FVec Ideal S8 .f32) : FVec Ideal S128 .f32 :=
  concatenate S128 0 [⟨S4, broadcastInDim S4 ![] bcast_S_S4 (constant S_ .f32 0x00000000#32)⟩, ⟨S4, dt⟩, ⟨S0, broadcastInDim S0 ![] bcast_S_S0 (constant S_ .f32 0x00000000#32)⟩,
    ⟨S8, bf⟩, ⟨S112, broadcastInDim S112 ![] bcast_S_S112 (constant S_ .f32 0x00000000#32)⟩] concatenates_S4_S4_S0_S8_S112_S128_d0
def decays (al : FVec Ideal S4 .f32) : FVec Ideal S128 .f32 :=
  concatenate S128 0 [⟨S4, broadcastInDim S4 ![] bcast_S_S4 (constant S_ .f32 0x00000000#32)⟩, ⟨S4, Host.negf (Host.exp al)⟩,
    ⟨S120, broadcastInDim S120 ![] bcast_S_S120 (constant S_ .f32 0x00000000#32)⟩] concatenates_S4_S4_S120_S128_d0
def prmH (al dt : FVec Ideal S4 .f32) (bf : FVec Ideal S8 .f32) : FVec Ideal S8x128 .f32 :=
  concatenate S8x128 0 [⟨S1x128, broadcastInDim S1x128 ![1] bcast_S128_S1x128_1 (shifts dt bf)⟩, ⟨S1x128, broadcastInDim S1x128 ![1] bcast_S128_S1x128_1 (decays al)⟩,
    ⟨S6x128, broadcastInDim S6x128 ![] bcast_S_S6x128 (constant S_ .f32 0x00000000#32)⟩] concatenates_S1x128_S1x128_S6x128_S8x128_d0
/-- The delta-rule gates' cotangents, two channels of each head's 128. -/
def gatH (db dg : FVec Ideal S2048x4 .f32) : FVec Ideal S2048x512 .f32 :=
  shapeCast S2048x512 (concatenate S2048x4x128 2 [⟨S2048x4x1, broadcastInDim S2048x4x1 ![0, 1] bcast_S2048x4_S2048x4x1_0_1 db⟩,
    ⟨S2048x4x1, broadcastInDim S2048x4x1 ![0, 1] bcast_S2048x4_S2048x4x1_0_1 dg⟩,
    ⟨S2048x4x126, broadcastInDim S2048x4x126 ![] bcast_S_S2048x4x126 (constant S_ .f32 0x00000000#32)⟩] concatenates_S2048x4x1_S2048x4x1_S2048x4x126_S2048x4x128_d2)
    shapeCasts_S2048x4x128_S2048x512
/-- The queries' cotangents, each over its head's 64 channels. -/
def widH (x : FVec Ideal S2048x8 .f32) : FVec Ideal S2048x512 .f32 :=
  shapeCast S2048x512 (broadcastInDim S2048x8x64 ![0, 1, 2] bcast_S2048x8x1_S2048x8x64_0_1_2 (broadcastInDim S2048x8x1 ![0, 1] bcast_S2048x8_S2048x8x1_0_1 x))
    shapeCasts_S2048x8x64_S2048x512
/-- The keys' cotangents, two heads to a group of eight rows. -/
def krH (x : FVec Ideal S2048x8 .f32) : FVec Ideal S4x8x2048 .f32 :=
  concatenate S4x8x2048 1 [⟨S4x2x2048, shapeCast S4x2x2048 (transpose S8x2048 [1, 0] x transposes_S2048x8_S8x2048_1_0) shapeCasts_S8x2048_S4x2x2048⟩,
    ⟨S4x6x2048, broadcastInDim S4x6x2048 ![] bcast_S_S4x6x2048 (constant S_ .f32 0x00000000#32)⟩] concatenates_S4x2x2048_S4x6x2048_S4x8x2048_d1
/-- The tables. -/
def tgH : FVec Ideal S512x128 .bf16 := truncf .bf16 (show FVec Ideal S512x128 .f32 from fun i => FloatOps.ofBits .f32 (lit0 (S512x128.rowMajor i))) bitsLt_bf16_f32
def tcH : FVec Ideal S512x128 .bf16 := truncf .bf16 (show FVec Ideal S512x128 .f32 from fun i => FloatOps.ofBits .f32 (lit1 (S512x128.rowMajor i))) bitsLt_bf16_f32
def tkH : FVec Ideal S4x8x128 .bf16 := truncf .bf16 (show FVec Ideal S4x8x128 .f32 from fun i => FloatOps.ofBits .f32 (lit2 (S4x8x128.rowMajor i))) bitsLt_bf16_f32

section values
variable {a : Reals}
theorem cols_apply {x : FVec Ideal S2048x3600 .f32} (hx : Is2 (φ := .f32) x a.p) (r : Fin 2048) (l : Fin 128) :
    (cols x (ix2 r (⟨3584 + l.val, by omega⟩ : Fin 3712)) : EReal) = ((a.raw r l : ℝ) : EReal) := by
  unfold Is2 at hx
  pointwise [cols, hx]
  unfold Reals.raw
  rw [dif_neg (by omega), dif_neg (by omega)]
  by_cases h1 : l.val < 8
  · rw [dif_pos (by omega), dif_pos h1]
    exact congrArg (fun i => ((a.p r i : ℝ) : EReal)) (Fin.ext (by show 2048 + (3584 + l.val - 2048 - 1536) = 2048 + l.val; omega))
  · by_cases h2 : l.val < 16
    · rw [dif_neg (by omega), dif_pos (by omega), dif_neg h1, dif_pos h2]
      exact congrArg (fun i => ((a.p r i : ℝ) : EReal)) (Fin.ext (by show 3592 + (3584 + l.val - 2048 - 1536 - 8) = 3584 + l.val; omega))
    · rw [dif_neg (by omega), dif_neg (by omega), dif_neg h1, dif_neg h2]
      rfl
theorem shifts_apply {dt : FVec Ideal S4 .f32} {bf : FVec Ideal S8 .f32} (h0 : ∀ k, (dt (ix1 k) : EReal) = ((a.dt k : ℝ) : EReal))
    (h1 : ∀ k, (bf (ix1 k) : EReal) = ((a.bf k : ℝ) : EReal)) (l : Fin 128) : (shifts dt bf (ix1 l) : EReal) = ((a.bias l : ℝ) : EReal) := by
  pointwise [shifts, h0, h1]
  unfold Reals.bias
  by_cases h2 : l.val < 4
  · rw [dif_pos h2, dif_neg (by omega), dif_neg (by omega)]
    rfl
  · by_cases h3 : l.val < 8
    · rw [dif_neg h2, dif_pos (by omega), dif_pos (by omega)]
    · by_cases h4 : l.val < 16
      · rw [dif_neg h2, dif_neg (by omega), dif_neg (by omega), dif_pos (by omega), dif_neg (by omega), dif_pos (by omega)]
        exact congrArg (fun i => ((a.bf i : ℝ) : EReal)) (Fin.ext (by show l.val - 4 - 4 = l.val - 8; omega))
      · rw [dif_neg h2, dif_neg (by omega), dif_neg (by omega), dif_neg (by omega), dif_neg (by omega), dif_neg (by omega)]
        rfl
theorem decays_apply {al : FVec Ideal S4 .f32} (h0 : ∀ k, (al (ix1 k) : EReal) = ((a.al k : ℝ) : EReal)) (l : Fin 128) : (decays al (ix1 l) : EReal) = ((a.nexp l : ℝ) : EReal) := by
  pointwise [decays, h0]
  unfold Reals.nexp
  by_cases h1 : l.val < 4
  · rw [dif_pos h1, dif_neg (by omega)]
    rfl
  · by_cases h2 : l.val < 8
    · rw [dif_neg h1, dif_pos (by omega), dif_pos (by omega)]
      rfl
    · rw [dif_neg h1, dif_neg (by omega), dif_neg (by omega)]
      rfl
theorem prm_is {al dt : FVec Ideal S4 .f32} {bf : FVec Ideal S8 .f32} (h : ∀ k, (al (ix1 k) : EReal) = ((a.al k : ℝ) : EReal)) (h0 : ∀ k, (dt (ix1 k) : EReal) = ((a.dt k : ℝ) : EReal))
    (h1 : ∀ k, (bf (ix1 k) : EReal) = ((a.bf k : ℝ) : EReal)) : Is2 (φ := .f32) (prmH al dt bf) fun i l => a.prm l i := fun i l => by
  have e0 := shifts_apply h0 h1
  have e1 := decays_apply h
  pointwise [prmH, e0, e1]
  unfold Reals.prm
  split_ifs <;> first | (exfalso; omega) | rfl
theorem gat_is {db dg : FVec Ideal S2048x4 .f32} (h0 : Is2 (φ := .f32) db a.db) (h1 : Is2 (φ := .f32) dg a.dg) : Is2 (φ := .f32) (gatH db dg) a.gat := fun r k => by
  unfold Is2 at h0 h1
  pointwise [gatH, h0, h1]
  unfold Reals.gat
  by_cases h2 : k.val % 128 = 0
  · rw [dif_pos (by omega), if_pos h2]
  · by_cases h3 : k.val % 128 = 1
    · rw [dif_neg (by omega), dif_pos (by omega), if_neg h2, if_pos h3]
    · rw [dif_neg (by omega), dif_neg (by omega), if_neg h2, if_neg h3]
      rfl
theorem wid_is {x : FVec Ideal S2048x8 .f32} (h0 : Is2 (φ := .f32) x a.dq) : Is2 (φ := .f32) (widH x) a.wid := fun r k => by
  unfold Is2 at h0
  pointwise [widH, h0]
  rfl
theorem kr_is {x : FVec Ideal S2048x8 .f32} (h0 : Is2 (φ := .f32) x a.dk) (h : Fin 4) (b : Fin 8) (r : Fin 2048) : (krH x (ix3 h b r) : EReal) = ((a.kr r h b : ℝ) : EReal) := by
  unfold Is2 at h0
  pointwise [krH, h0]
  unfold Reals.kr
  split_ifs <;> first | (exfalso; omega) | rfl | exact congrArg (fun i => ((a.dk r i : ℝ) : EReal)) (Fin.ext (by dsimp only <;> omega))
end values

variable (m : (ℓ : Loc nD τ sig) → Buf (Elt Ideal) ℓ) (c : Dev nD)
theorem arr0 : V m c (Pipeline.arrRef spec0 0) = cols (m ((c.tc : Thread nD τ).loc main_arg0)) := by unfold V; rfl
theorem arr1 : V m c (Pipeline.arrRef spec0 1) = prmH (m ((c.tc : Thread nD τ).loc main_arg1)) (m ((c.tc : Thread nD τ).loc main_arg2)) (m ((c.tc : Thread nD τ).loc main_arg3)) := by unfold V; rfl
theorem arr2 : V m c (Pipeline.arrRef spec0 2) = gatH (m ((c.tc : Thread nD τ).loc main_arg4)) (m ((c.tc : Thread nD τ).loc main_arg5)) := by unfold V; rfl
theorem arr3 : V m c (Pipeline.arrRef spec0 3) = widH (m ((c.tc : Thread nD τ).loc main_arg6)) := by unfold V; rfl
theorem arr4 : V m c (Pipeline.arrRef spec0 4) = krH (m ((c.tc : Thread nD τ).loc main_arg7)) := by unfold V; rfl
theorem arr5 : V m c (Pipeline.arrRef spec0 5) = tgH := by unfold V; rfl
theorem arr6 : V m c (Pipeline.arrRef spec0 6) = tcH := by unfold V; rfl
theorem arr7 : V m c (Pipeline.arrRef spec0 7) = tkH := by unfold V; rfl

end Cert.Gates.Ker
-- ==== Proof.Gates.Bands.lean ====
module

public import Mathlib.Tactic.IntervalCases

/-! # Sixteen cases -/

@[expose] public section
namespace Cert.Gates

/-- What holds of each of sixteen bands holds of all. -/
theorem bands {P : ℕ → Prop} (h0 : P 0) (h1 : P 1) (h2 : P 2) (h3 : P 3) (h4 : P 4) (h5 : P 5) (h6 : P 6) (h7 : P 7) (h8 : P 8) (h9 : P 9)
    (h10 : P 10) (h11 : P 11) (h12 : P 12) (h13 : P 13) (h14 : P 14) (h15 : P 15) (b : ℕ) (hb : b < 16) : P b := by
  interval_cases b <;> assumption

end Cert.Gates
-- ==== Proof.Gates.TableG.lean ====
module

public import proofs.«01_k».proof.GatesBwdIdeal
public import proofs.«01_k».proof.Proof.Gates.Bands

/-! # The table that picks each head's two gates out of 512 channels -/

@[expose] public section
set_option maxRecDepth 16384
namespace Cert.Gates
open Cert.GatesBwdIdeal

/-- Rows 0 to 31. -/
theorem lit0_0 : ∀ (k : Fin 32) (l : Fin 128), lit0 ⟨(32 * 0 + k.val) * 128 + l.val, by omega⟩ = if (32 * 0 + k.val) = 128 * l.val ∨ (4 ≤ l.val ∧ (32 * 0 + k.val) = 128 * (l.val - 4) + 1) then 0x3F800000#32 else 0x00000000#32 := by decide +kernel
/-- Rows 32 to 63. -/
theorem lit0_1 : ∀ (k : Fin 32) (l : Fin 128), lit0 ⟨(32 * 1 + k.val) * 128 + l.val, by omega⟩ = if (32 * 1 + k.val) = 128 * l.val ∨ (4 ≤ l.val ∧ (32 * 1 + k.val) = 128 * (l.val - 4) + 1) then 0x3F800000#32 else 0x00000000#32 := by decide +kernel
/-- Rows 64 to 95. -/
theorem lit0_2 : ∀ (k : Fin 32) (l : Fin 128), lit0 ⟨(32 * 2 + k.val) * 128 + l.val, by omega⟩ = if (32 * 2 + k.val) = 128 * l.val ∨ (4 ≤ l.val ∧ (32 * 2 + k.val) = 128 * (l.val - 4) + 1) then 0x3F800000#32 else 0x00000000#32 := by decide +kernel
/-- Rows 96 to 127. -/
theorem lit0_3 : ∀ (k : Fin 32) (l : Fin 128), lit0 ⟨(32 * 3 + k.val) * 128 + l.val, by omega⟩ = if (32 * 3 + k.val) = 128 * l.val ∨ (4 ≤ l.val ∧ (32 * 3 + k.val) = 128 * (l.val - 4) + 1) then 0x3F800000#32 else 0x00000000#32 := by decide +kernel
/-- Rows 128 to 159. -/
theorem lit0_4 : ∀ (k : Fin 32) (l : Fin 128), lit0 ⟨(32 * 4 + k.val) * 128 + l.val, by omega⟩ = if (32 * 4 + k.val) = 128 * l.val ∨ (4 ≤ l.val ∧ (32 * 4 + k.val) = 128 * (l.val - 4) + 1) then 0x3F800000#32 else 0x00000000#32 := by decide +kernel
/-- Rows 160 to 191. -/
theorem lit0_5 : ∀ (k : Fin 32) (l : Fin 128), lit0 ⟨(32 * 5 + k.val) * 128 + l.val, by omega⟩ = if (32 * 5 + k.val) = 128 * l.val ∨ (4 ≤ l.val ∧ (32 * 5 + k.val) = 128 * (l.val - 4) + 1) then 0x3F800000#32 else 0x00000000#32 := by decide +kernel
/-- Rows 192 to 223. -/
theorem lit0_6 : ∀ (k : Fin 32) (l : Fin 128), lit0 ⟨(32 * 6 + k.val) * 128 + l.val, by omega⟩ = if (32 * 6 + k.val) = 128 * l.val ∨ (4 ≤ l.val ∧ (32 * 6 + k.val) = 128 * (l.val - 4) + 1) then 0x3F800000#32 else 0x00000000#32 := by decide +kernel
/-- Rows 224 to 255. -/
theorem lit0_7 : ∀ (k : Fin 32) (l : Fin 128), lit0 ⟨(32 * 7 + k.val) * 128 + l.val, by omega⟩ = if (32 * 7 + k.val) = 128 * l.val ∨ (4 ≤ l.val ∧ (32 * 7 + k.val) = 128 * (l.val - 4) + 1) then 0x3F800000#32 else 0x00000000#32 := by decide +kernel
/-- Rows 256 to 287. -/
theorem lit0_8 : ∀ (k : Fin 32) (l : Fin 128), lit0 ⟨(32 * 8 + k.val) * 128 + l.val, by omega⟩ = if (32 * 8 + k.val) = 128 * l.val ∨ (4 ≤ l.val ∧ (32 * 8 + k.val) = 128 * (l.val - 4) + 1) then 0x3F800000#32 else 0x00000000#32 := by decide +kernel
/-- Rows 288 to 319. -/
theorem lit0_9 : ∀ (k : Fin 32) (l : Fin 128), lit0 ⟨(32 * 9 + k.val) * 128 + l.val, by omega⟩ = if (32 * 9 + k.val) = 128 * l.val ∨ (4 ≤ l.val ∧ (32 * 9 + k.val) = 128 * (l.val - 4) + 1) then 0x3F800000#32 else 0x00000000#32 := by decide +kernel
/-- Rows 320 to 351. -/
theorem lit0_10 : ∀ (k : Fin 32) (l : Fin 128), lit0 ⟨(32 * 10 + k.val) * 128 + l.val, by omega⟩ = if (32 * 10 + k.val) = 128 * l.val ∨ (4 ≤ l.val ∧ (32 * 10 + k.val) = 128 * (l.val - 4) + 1) then 0x3F800000#32 else 0x00000000#32 := by decide +kernel
/-- Rows 352 to 383. -/
theorem lit0_11 : ∀ (k : Fin 32) (l : Fin 128), lit0 ⟨(32 * 11 + k.val) * 128 + l.val, by omega⟩ = if (32 * 11 + k.val) = 128 * l.val ∨ (4 ≤ l.val ∧ (32 * 11 + k.val) = 128 * (l.val - 4) + 1) then 0x3F800000#32 else 0x00000000#32 := by decide +kernel
/-- Rows 384 to 415. -/
theorem lit0_12 : ∀ (k : Fin 32) (l : Fin 128), lit0 ⟨(32 * 12 + k.val) * 128 + l.val, by omega⟩ = if (32 * 12 + k.val) = 128 * l.val ∨ (4 ≤ l.val ∧ (32 * 12 + k.val) = 128 * (l.val - 4) + 1) then 0x3F800000#32 else 0x00000000#32 := by decide +kernel
/-- Rows 416 to 447. -/
theorem lit0_13 : ∀ (k : Fin 32) (l : Fin 128), lit0 ⟨(32 * 13 + k.val) * 128 + l.val, by omega⟩ = if (32 * 13 + k.val) = 128 * l.val ∨ (4 ≤ l.val ∧ (32 * 13 + k.val) = 128 * (l.val - 4) + 1) then 0x3F800000#32 else 0x00000000#32 := by decide +kernel
/-- Rows 448 to 479. -/
theorem lit0_14 : ∀ (k : Fin 32) (l : Fin 128), lit0 ⟨(32 * 14 + k.val) * 128 + l.val, by omega⟩ = if (32 * 14 + k.val) = 128 * l.val ∨ (4 ≤ l.val ∧ (32 * 14 + k.val) = 128 * (l.val - 4) + 1) then 0x3F800000#32 else 0x00000000#32 := by decide +kernel
/-- Rows 480 to 511. -/
theorem lit0_15 : ∀ (k : Fin 32) (l : Fin 128), lit0 ⟨(32 * 15 + k.val) * 128 + l.val, by omega⟩ = if (32 * 15 + k.val) = 128 * l.val ∨ (4 ≤ l.val ∧ (32 * 15 + k.val) = 128 * (l.val - 4) + 1) then 0x3F800000#32 else 0x00000000#32 := by decide +kernel
/-- All rows, in bands of 32. -/
theorem lit0_rows (b : ℕ) (hb : b < 16) (k : Fin 32) (l : Fin 128) : lit0 ⟨(32 * b + k.val) * 128 + l.val, by omega⟩
    = if (32 * b + k.val) = 128 * l.val ∨ (4 ≤ l.val ∧ (32 * b + k.val) = 128 * (l.val - 4) + 1) then 0x3F800000#32 else 0x00000000#32 :=
  bands (P := fun b => ∀ (hb : b < 16) (k : Fin 32) (l : Fin 128), lit0 ⟨(32 * b + k.val) * 128 + l.val, by omega⟩
    = if (32 * b + k.val) = 128 * l.val ∨ (4 ≤ l.val ∧ (32 * b + k.val) = 128 * (l.val - 4) + 1) then 0x3F800000#32 else 0x00000000#32)
    (fun _ => lit0_0)    (fun _ => lit0_1)    (fun _ => lit0_2)    (fun _ => lit0_3)
    (fun _ => lit0_4)    (fun _ => lit0_5)    (fun _ => lit0_6)    (fun _ => lit0_7)
    (fun _ => lit0_8)    (fun _ => lit0_9)    (fun _ => lit0_10)    (fun _ => lit0_11)
    (fun _ => lit0_12)    (fun _ => lit0_13)    (fun _ => lit0_14)    (fun _ => lit0_15)
    b hb hb k l
/-- The table's words. -/
theorem lit0_at (k : Fin 512) (l : Fin 128) : lit0 ⟨k.val * 128 + l.val, by omega⟩ = if k.val = 128 * l.val ∨ (4 ≤ l.val ∧ k.val = 128 * (l.val - 4) + 1) then 0x3F800000#32 else 0x00000000#32 := by
  have e := lit0_rows (k.val / 32) (by omega) ⟨k.val % 32, by omega⟩ l
  simp only [show 32 * (k.val / 32) + k.val % 32 = k.val by omega] at e
  exact e

end Cert.Gates
-- ==== Proof.Gates.TableC.lean ====
module

public import proofs.«01_k».proof.GatesBwdIdeal
public import proofs.«01_k».proof.Proof.Gates.Bands

/-! # The table that picks each head's gate sum out of 512 channels -/

@[expose] public section
set_option maxRecDepth 16384
namespace Cert.Gates
open Cert.GatesBwdIdeal

/-- Rows 0 to 31. -/
theorem lit1_0 : ∀ (k : Fin 32) (l : Fin 128), lit1 ⟨(32 * 0 + k.val) * 128 + l.val, by omega⟩ = if 8 ≤ l.val ∧ (32 * 0 + k.val) = 64 * (l.val - 8) then 0x3F800000#32 else 0x00000000#32 := by decide +kernel
/-- Rows 32 to 63. -/
theorem lit1_1 : ∀ (k : Fin 32) (l : Fin 128), lit1 ⟨(32 * 1 + k.val) * 128 + l.val, by omega⟩ = if 8 ≤ l.val ∧ (32 * 1 + k.val) = 64 * (l.val - 8) then 0x3F800000#32 else 0x00000000#32 := by decide +kernel
/-- Rows 64 to 95. -/
theorem lit1_2 : ∀ (k : Fin 32) (l : Fin 128), lit1 ⟨(32 * 2 + k.val) * 128 + l.val, by omega⟩ = if 8 ≤ l.val ∧ (32 * 2 + k.val) = 64 * (l.val - 8) then 0x3F800000#32 else 0x00000000#32 := by decide +kernel
/-- Rows 96 to 127. -/
theorem lit1_3 : ∀ (k : Fin 32) (l : Fin 128), lit1 ⟨(32 * 3 + k.val) * 128 + l.val, by omega⟩ = if 8 ≤ l.val ∧ (32 * 3 + k.val) = 64 * (l.val - 8) then 0x3F800000#32 else 0x00000000#32 := by decide +kernel
/-- Rows 128 to 159. -/
theorem lit1_4 : ∀ (k : Fin 32) (l : Fin 128), lit1 ⟨(32 * 4 + k.val) * 128 + l.val, by omega⟩ = if 8 ≤ l.val ∧ (32 * 4 + k.val) = 64 * (l.val - 8) then 0x3F800000#32 else 0x00000000#32 := by decide +kernel
/-- Rows 160 to 191. -/
theorem lit1_5 : ∀ (k : Fin 32) (l : Fin 128), lit1 ⟨(32 * 5 + k.val) * 128 + l.val, by omega⟩ = if 8 ≤ l.val ∧ (32 * 5 + k.val) = 64 * (l.val - 8) then 0x3F800000#32 else 0x00000000#32 := by decide +kernel
/-- Rows 192 to 223. -/
theorem lit1_6 : ∀ (k : Fin 32) (l : Fin 128), lit1 ⟨(32 * 6 + k.val) * 128 + l.val, by omega⟩ = if 8 ≤ l.val ∧ (32 * 6 + k.val) = 64 * (l.val - 8) then 0x3F800000#32 else 0x00000000#32 := by decide +kernel
/-- Rows 224 to 255. -/
theorem lit1_7 : ∀ (k : Fin 32) (l : Fin 128), lit1 ⟨(32 * 7 + k.val) * 128 + l.val, by omega⟩ = if 8 ≤ l.val ∧ (32 * 7 + k.val) = 64 * (l.val - 8) then 0x3F800000#32 else 0x00000000#32 := by decide +kernel
/-- Rows 256 to 287. -/
theorem lit1_8 : ∀ (k : Fin 32) (l : Fin 128), lit1 ⟨(32 * 8 + k.val) * 128 + l.val, by omega⟩ = if 8 ≤ l.val ∧ (32 * 8 + k.val) = 64 * (l.val - 8) then 0x3F800000#32 else 0x00000000#32 := by decide +kernel
/-- Rows 288 to 319. -/
theorem lit1_9 : ∀ (k : Fin 32) (l : Fin 128), lit1 ⟨(32 * 9 + k.val) * 128 + l.val, by omega⟩ = if 8 ≤ l.val ∧ (32 * 9 + k.val) = 64 * (l.val - 8) then 0x3F800000#32 else 0x00000000#32 := by decide +kernel
/-- Rows 320 to 351. -/
theorem lit1_10 : ∀ (k : Fin 32) (l : Fin 128), lit1 ⟨(32 * 10 + k.val) * 128 + l.val, by omega⟩ = if 8 ≤ l.val ∧ (32 * 10 + k.val) = 64 * (l.val - 8) then 0x3F800000#32 else 0x00000000#32 := by decide +kernel
/-- Rows 352 to 383. -/
theorem lit1_11 : ∀ (k : Fin 32) (l : Fin 128), lit1 ⟨(32 * 11 + k.val) * 128 + l.val, by omega⟩ = if 8 ≤ l.val ∧ (32 * 11 + k.val) = 64 * (l.val - 8) then 0x3F800000#32 else 0x00000000#32 := by decide +kernel
/-- Rows 384 to 415. -/
theorem lit1_12 : ∀ (k : Fin 32) (l : Fin 128), lit1 ⟨(32 * 12 + k.val) * 128 + l.val, by omega⟩ = if 8 ≤ l.val ∧ (32 * 12 + k.val) = 64 * (l.val - 8) then 0x3F800000#32 else 0x00000000#32 := by decide +kernel
/-- Rows 416 to 447. -/
theorem lit1_13 : ∀ (k : Fin 32) (l : Fin 128), lit1 ⟨(32 * 13 + k.val) * 128 + l.val, by omega⟩ = if 8 ≤ l.val ∧ (32 * 13 + k.val) = 64 * (l.val - 8) then 0x3F800000#32 else 0x00000000#32 := by decide +kernel
/-- Rows 448 to 479. -/
theorem lit1_14 : ∀ (k : Fin 32) (l : Fin 128), lit1 ⟨(32 * 14 + k.val) * 128 + l.val, by omega⟩ = if 8 ≤ l.val ∧ (32 * 14 + k.val) = 64 * (l.val - 8) then 0x3F800000#32 else 0x00000000#32 := by decide +kernel
/-- Rows 480 to 511. -/
theorem lit1_15 : ∀ (k : Fin 32) (l : Fin 128), lit1 ⟨(32 * 15 + k.val) * 128 + l.val, by omega⟩ = if 8 ≤ l.val ∧ (32 * 15 + k.val) = 64 * (l.val - 8) then 0x3F800000#32 else 0x00000000#32 := by decide +kernel
/-- All rows, in bands of 32. -/
theorem lit1_rows (b : ℕ) (hb : b < 16) (k : Fin 32) (l : Fin 128) : lit1 ⟨(32 * b + k.val) * 128 + l.val, by omega⟩
    = if 8 ≤ l.val ∧ (32 * b + k.val) = 64 * (l.val - 8) then 0x3F800000#32 else 0x00000000#32 :=
  bands (P := fun b => ∀ (hb : b < 16) (k : Fin 32) (l : Fin 128), lit1 ⟨(32 * b + k.val) * 128 + l.val, by omega⟩
    = if 8 ≤ l.val ∧ (32 * b + k.val) = 64 * (l.val - 8) then 0x3F800000#32 else 0x00000000#32)
    (fun _ => lit1_0)    (fun _ => lit1_1)    (fun _ => lit1_2)    (fun _ => lit1_3)
    (fun _ => lit1_4)    (fun _ => lit1_5)    (fun _ => lit1_6)    (fun _ => lit1_7)
    (fun _ => lit1_8)    (fun _ => lit1_9)    (fun _ => lit1_10)    (fun _ => lit1_11)
    (fun _ => lit1_12)    (fun _ => lit1_13)    (fun _ => lit1_14)    (fun _ => lit1_15)
    b hb hb k l
/-- The table's words. -/
theorem lit1_at (k : Fin 512) (l : Fin 128) : lit1 ⟨k.val * 128 + l.val, by omega⟩ = if 8 ≤ l.val ∧ k.val = 64 * (l.val - 8) then 0x3F800000#32 else 0x00000000#32 := by
  have e := lit1_rows (k.val / 32) (by omega) ⟨k.val % 32, by omega⟩ l
  simp only [show 32 * (k.val / 32) + k.val % 32 = k.val by omega] at e
  exact e

end Cert.Gates
-- ==== Proof.Gates.TableK.lean ====
module

public import proofs.«01_k».proof.GatesBwdIdeal

/-! # The tables that put a pair of heads' rows at their lanes -/

@[expose] public section
set_option maxRecDepth 16384
namespace Cert.Gates
open Cert.GatesBwdIdeal

/-- The tables' words: of pair `h`, row `a`, lane `l`. -/
theorem lit2_at : ∀ (h : Fin 4) (a : Fin 8) (l : Fin 128), lit2 ⟨(h.val * 8 + a.val) * 128 + l.val, by omega⟩
    = if a.val < 2 ∧ l.val = 8 + 2 * h.val + a.val then 0x3F800000#32 else 0x00000000#32 := by decide +kernel

end Cert.Gates
-- ==== Proof.Gates.Kernel.lean ====
module

public import proofs.«01_k».proof.Proof.Gates.Host
public import proofs.«01_k».proof.Proof.Gates.TableG
public import proofs.«01_k».proof.Proof.Gates.TableC
public import proofs.«01_k».proof.Proof.Gates.TableK
public import proofs.«01_k».proof.Proof.Math.Rows

/-! # The gates' gradient: what the kernel computes -/

@[expose] public section
set_option maxRecDepth 16384
noncomputable section
namespace Cert.Gates.Ker
open Cert.Lift Cert.Prep Cert.Gates Idealize.ShloMosaic Idealize.ShloMosaic.TcCoe Idealize.SL.Sem Cert.GatesBwdIdeal Cert.GatesBwdIdeal.Gen
variable (m : (ℓ : Loc nD τ sig) → Buf (Elt Ideal) ℓ) (c : Dev nD)

/-- The blocks' places. -/
theorem idx : ∀ t : Fin cfg0.N, win0_0.index t = ![0, 28] ∧ win0_1.index t = ![0, 0] ∧ win0_2.index t = ![0, 0]
    ∧ win0_3.index t = ![0, 0] ∧ win0_4.index t = ![0, 0, 0] ∧ win0_5.index t = ![0, 0] ∧ win0_6.index t = ![0, 0] ∧ win0_7.index t = ![0, 0, 0]
    ∧ win0_8.index t = ![0, 0] ∧ win0_9.index t = ![0, 0] :=
  (by decide +kernel : ∀ t : Fin grid0.N, _)

theorem word_one : Ideal.ofBits .f32 0x3F800000#32 = ((1 : ℝ) : EReal) := by
  simp [Ideal.ofBits, Ideal.ieee, -EReal.coe_mul]; norm_num
/-- The words of one and zero, picked by a condition. -/
theorem pick_word (q : Prop) [Decidable q] : Ideal.ofBits .f32 (if q then 0x3F800000#32 else 0x00000000#32) = ((if q then 1 else 0 : ℝ) : EReal) := by
  split_ifs
  · exact word_one
  · exact lit_zero
theorem tg_is : Is2 (φ := .bf16) tgH tg := fun k l => by
  have e : S512x128.rowMajor (ix2 k l : S512x128.Idx) = ⟨k.val * 128 + l.val, by show _ < 65536; omega⟩ := Fin.ext (Shape.rowMajor_val_two _)
  show Ideal.ofBits .f32 (lit0 (S512x128.rowMajor (ix2 k l : S512x128.Idx))) = _
  rw [e, lit0_at]
  exact pick_word _
theorem tc_is : Is2 (φ := .bf16) tcH tc := fun k l => by
  have e : S512x128.rowMajor (ix2 k l : S512x128.Idx) = ⟨k.val * 128 + l.val, by show _ < 65536; omega⟩ := Fin.ext (Shape.rowMajor_val_two _)
  show Ideal.ofBits .f32 (lit1 (S512x128.rowMajor (ix2 k l : S512x128.Idx))) = _
  rw [e, lit1_at]
  exact pick_word _
theorem tk_is (h : Fin 4) (b : Fin 8) (l : Fin 128) : (tkH (ix3 h b l) : EReal) = ((tk h b l : ℝ) : EReal) := by
  have e : S4x8x128.rowMajor (ix3 h b l : S4x8x128.Idx) = ⟨(h.val * 8 + b.val) * 128 + l.val, by show _ < 4096; omega⟩ := Fin.ext (Shape.rowMajor_val_three _)
  show Ideal.ofBits .f32 (lit2 (S4x8x128.rowMajor (ix3 h b l : S4x8x128.Idx))) = _
  rw [e, lit2_at]
  exact pick_word _

/-- The kernel's argument arrays hold the reals `a`. -/
structure Holds (a : Reals) : Prop where
  p : Is2 (φ := .f32) (m ((c.tc : Thread nD τ).loc main_arg0)) a.p
  al : ∀ k : Fin 4, (m ((c.tc : Thread nD τ).loc main_arg1) (ix1 k) : EReal) = ((a.al k : ℝ) : EReal)
  dt : ∀ k : Fin 4, (m ((c.tc : Thread nD τ).loc main_arg2) (ix1 k) : EReal) = ((a.dt k : ℝ) : EReal)
  bf : ∀ k : Fin 8, (m ((c.tc : Thread nD τ).loc main_arg3) (ix1 k) : EReal) = ((a.bf k : ℝ) : EReal)
  db : Is2 (φ := .f32) (m ((c.tc : Thread nD τ).loc main_arg4)) a.db
  dg : Is2 (φ := .f32) (m ((c.tc : Thread nD τ).loc main_arg5)) a.dg
  dq : Is2 (φ := .f32) (m ((c.tc : Thread nD τ).loc main_arg6)) a.dq
  dk : Is2 (φ := .f32) (m ((c.tc : Thread nD τ).loc main_arg7)) a.dk

/-- The staged blocks, each read off its array. -/
theorem blk0 (t : Fin cfg0.N) (r : Fin 2048) (l : Fin 128) :
    (show FVec Ideal S2048x128 .f32 from iblk m c 0 t) (ix2 r l) = (show FVec Ideal S2048x3712 .f32 from V m c (Pipeline.arrRef spec0 0)) (ix2 r (⟨3584 + l.val, by omega⟩ : Fin 3712)) := by
  blk_ext [iblk, idx t]
theorem blk1 (t : Fin cfg0.N) (i : Fin 8) (l : Fin 128) :
    (show FVec Ideal S8x128 .f32 from iblk m c 1 t) (ix2 i l) = (show FVec Ideal S8x128 .f32 from V m c (Pipeline.arrRef spec0 1)) (ix2 i l) := by
  blk_ext [iblk, idx t]
theorem blk2 (t : Fin cfg0.N) (r : Fin 2048) (k : Fin 512) :
    (show FVec Ideal S2048x512 .f32 from iblk m c 2 t) (ix2 r k) = (show FVec Ideal S2048x512 .f32 from V m c (Pipeline.arrRef spec0 2)) (ix2 r k) := by
  blk_ext [iblk, idx t]
theorem blk3 (t : Fin cfg0.N) (r : Fin 2048) (k : Fin 512) :
    (show FVec Ideal S2048x512 .f32 from iblk m c 3 t) (ix2 r k) = (show FVec Ideal S2048x512 .f32 from V m c (Pipeline.arrRef spec0 3)) (ix2 r k) := by
  blk_ext [iblk, idx t]
theorem blk4 (t : Fin cfg0.N) (i : Fin 4) (b : Fin 8) (r : Fin 2048) :
    (show FVec Ideal S4x8x2048 .f32 from iblk m c 4 t) (ix3 i b r) = (show FVec Ideal S4x8x2048 .f32 from V m c (Pipeline.arrRef spec0 4)) (ix3 i b r) := by
  blk_ext [iblk, idx t]
theorem blk5 (t : Fin cfg0.N) (k : Fin 512) (l : Fin 128) :
    (show FVec Ideal S512x128 .bf16 from iblk m c 5 t) (ix2 k l) = (show FVec Ideal S512x128 .bf16 from V m c (Pipeline.arrRef spec0 5)) (ix2 k l) := by
  blk_ext [iblk, idx t]
theorem blk6 (t : Fin cfg0.N) (k : Fin 512) (l : Fin 128) :
    (show FVec Ideal S512x128 .bf16 from iblk m c 6 t) (ix2 k l) = (show FVec Ideal S512x128 .bf16 from V m c (Pipeline.arrRef spec0 6)) (ix2 k l) := by
  blk_ext [iblk, idx t]
theorem blk7 (t : Fin cfg0.N) (i : Fin 4) (b : Fin 8) (r : Fin 128) :
    (show FVec Ideal S4x8x128 .bf16 from iblk m c 7 t) (ix3 i b r) = (show FVec Ideal S4x8x128 .bf16 from V m c (Pipeline.arrRef spec0 7)) (ix3 i b r) := by
  blk_ext [iblk, idx t]

variable {m c} {a : Reals} (h : Holds m c a)
include h
/-- Their real values. -/
theorem blocks (t : Fin cfg0.N) : Blocks a (iblk m c 0 t) (iblk m c 1 t) (iblk m c 2 t) (iblk m c 3 t) (iblk m c 4 t) (iblk m c 5 t) (iblk m c 6 t) (iblk m c 7 t) where
  raw r l := (blk0 m c t r l).trans (by rw [arr0]; exact cols_apply h.p r l)
  prm i l := (blk1 m c t i l).trans (by rw [arr1]; exact prm_is h.al h.dt h.bf i l)
  gat r k := (blk2 m c t r k).trans (by rw [arr2]; exact gat_is h.db h.dg r k)
  wid r k := (blk3 m c t r k).trans (by rw [arr3]; exact wid_is h.dq r k)
  kr i b r := (blk4 m c t i b r).trans (by rw [arr4]; exact kr_is h.dk i b r)
  tg k l := (blk5 m c t k l).trans (by rw [arr5]; exact tg_is k l)
  tc k l := (blk6 m c t k l).trans (by rw [arr6]; exact tc_is k l)
  tk i b l := (blk7 m c t i b l).trans (by rw [arr7]; exact tk_is i b l)

/-- The gradient at the gates' columns. -/
theorem final8 : (dats m 0 c).arrAt 8 cfg0.N = fun j => ((a.draw (j 0) (j 1) : ℝ) : EReal) := by
  refine (dats m 0 c).arrAt_eq_of_covers 8 _ (by decide +kernel) fun t _ y => ?_
  blk_simp
  rw [after0_8]
  idx_vars y
  refine (out8_is (blocks h t) _ _).trans ?_
  congr 2
  all_goals apply Fin.ext; blk_simp [idx t]
/-- The sums. -/
theorem final9 : (dats m 0 c).arrAt 9 cfg0.N = fun j => ((a.acc (j 0) (j 1) : ℝ) : EReal) := by
  refine (dats m 0 c).arrAt_eq_of_covers 9 _ (by decide +kernel) fun t _ y => ?_
  blk_simp
  rw [after0_9]
  idx_vars y
  refine (out9_is (blocks h t) _ _).trans ?_
  congr 2
  all_goals apply Fin.ext; blk_simp [idx t]

end Cert.Gates.Ker
-- ==== Proof.Gates.Window.lean ====
module

public import proofs.«01_k».proof.Proof.Math.Lift

/-! # The sum over a row and the later ones, as the host's window sum has it -/

@[expose] public section
noncomputable section
namespace Cert.Gates
open Idealize.ShloMosaic

theorem foldl_add {ι : Type} (L : List ι) (f : ι → EReal) : ∀ v, L.foldl (fun r n => r + f n) v = v + (L.map f).sum := by
  induction L with
  | nil => intro v; simp
  | cons n L h => intro v; simp only [List.foldl_cons, h, List.map_cons, List.sum_cons, add_assoc]

/-- A window as long as the rows, with as much padding behind them, sums a row and the later ones. -/
theorem window_sum {n w : ℕ} (h : (⟨2, ![n, w]⟩ : Shape).ReduceWindows ![n, 1] ![1, 1] ![0, 0] ![n - 1, 0] ⟨2, ![n, w]⟩)
    (x : (⟨2, ![n, w]⟩ : Shape).Idx → EReal) (r : Fin n) (l : Fin w) :
    Ideal.hostReduceWindowAdd (s := ⟨2, ![n, w]⟩) (t := ⟨2, ![n, w]⟩) ![n, 1] ![1, 1] ![0, 0] ![n - 1, 0] h x 0 (ix2 r l)
      = ∑ q : Fin n, if r.val ≤ q.val then x (ix2 q l) else 0 := by
  unfold Ideal.hostReduceWindowAdd Host.reduceWindow
  dsimp only
  rw [foldl_add, zero_add, ← Fin.sum_univ_def,
    ← Equiv.sum_comp (Shape.rowMajor (⟨2, ![n, 1]⟩ : Shape))]
  simp only [Equiv.symm_apply_apply]
  rw [sum_idx2]
  have hs : ∀ q : Fin n, (∑ b : Fin 1, if hin : ∀ a : Fin 2, ![0, 0] a ≤ (ix2 r l (Fin.cast (by rfl) a) : Fin _).val * ![1, 1] a + (ix2 q b a : Fin _).val ∧
      (ix2 r l (Fin.cast (by rfl) a) : Fin _).val * ![1, 1] a + (ix2 q b a : Fin _).val - ![0, 0] a < ![n, w] a then
        x (fun a => ⟨(ix2 r l (Fin.cast (by rfl) a) : Fin _).val * ![1, 1] a + (ix2 q b a : Fin _).val - ![0, 0] a, (hin a).2⟩) else 0)
      = if hq : r.val + q.val < n then x (ix2 ⟨r.val + q.val, hq⟩ l) else 0 := fun q => by
    rw [Fin.sum_univ_one]
    by_cases hq : r.val + q.val < n
    · rw [dif_pos hq, dif_pos (fun a => by
        fin_cases a
        · show 0 ≤ r.val * 1 + q.val ∧ r.val * 1 + q.val - 0 < n; omega
        · show 0 ≤ l.val * 1 + 0 ∧ l.val * 1 + 0 - 0 < w; omega)]
      refine congrArg x (funext fun a => Fin.ext ?_)
      fin_cases a
      · show r.val * 1 + q.val - 0 = r.val + q.val; omega
      · show l.val * 1 + 0 - 0 = l.val; omega
    · rw [dif_neg hq, dif_neg fun hin => hq ?_]
      have : r.val * 1 + q.val - 0 < n := (hin 0).2
      omega
  refine (Finset.sum_congr rfl fun q _ => hs q).trans ?_
  have e1 := Finset.sum_range (fun i => if hi : r.val + i < n then x (ix2 ⟨r.val + i, hi⟩ l) else 0) (n := n)
  have e2 := Finset.sum_range (fun i => if r.val ≤ i then (if hi : i < n then x (ix2 ⟨i, hi⟩ l) else 0) else 0) (n := n)
  refine e1.symm.trans (Eq.trans ?_ (e2.trans (Finset.sum_congr rfl fun q _ => by rw [dif_pos q.isLt])))
  have f1 := Finset.sum_range_add (fun i => if r.val ≤ i then (if hi : i < n then x (ix2 ⟨i, hi⟩ l) else 0) else 0) r.val n
  have f2 := Finset.sum_range_add (fun i => if r.val ≤ i then (if hi : i < n then x (ix2 ⟨i, hi⟩ l) else 0) else 0) n r.val
  have z1 : (∑ i ∈ Finset.range r.val, if r.val ≤ i then (if hi : i < n then x (ix2 ⟨i, hi⟩ l) else 0) else 0) = 0 :=
    Finset.sum_eq_zero fun i hi => if_neg (by have := Finset.mem_range.mp hi; omega)
  have z2 : (∑ i ∈ Finset.range r.val, if r.val ≤ n + i then (if hi : n + i < n then x (ix2 ⟨n + i, hi⟩ l) else 0) else 0) = 0 :=
    Finset.sum_eq_zero fun i _ => by rw [dif_neg (by omega)]; exact ite_self _
  rw [z1, zero_add] at f1
  rw [z2, add_zero, add_comm n r.val] at f2
  rw [← f2, f1]
  exact Finset.sum_congr rfl fun i _ => (if_pos (by omega)).symm

end Cert.Gates
-- ==== Proof.Gates.Reference.lean ====
module

public import proofs.«01_k».proof.Proof.Gen.GatesBwdRefIdeal.Run
public import proofs.«01_k».proof.Proof.Gates.Math
public import proofs.«01_k».proof.Proof.Gates.Window
public import Idealize.ShloMosaic.Lib.Pipeline.ValueKit

/-! # The gates' gradient: what the reference computes -/

@[expose] public section
set_option maxRecDepth 16384
noncomputable section
namespace Cert.Gates.Ref
open Cert.Lift Cert.Prep Cert.GatesBwdRefIdeal Cert.GatesBwdRefIdeal.Gen Cert.GatesBwdRefIdeal.Value Idealize.ShloMosaic Idealize.ShloMosaic.TcCoe Idealize.SL.Sem

variable (a : Reals) (V0 : Valuation τ sig (Elt Ideal))

/-- One, everywhere. -/
def one4 : FVec Ideal S2048x4 .f32 := broadcastInDim S2048x4 ![] bcast_S_S2048x4 (constant S_ .f32 0x3F800000#32)
/-- The first gates' logistic. -/
def y5 : FVec Ideal S2048x4 .f32 := Host.divf one4 (addf one4 (Host.exp (Host.negf (extractStridedSlice S2048x4 ![0, 2048] (V0 (Proc.devRef .tc main_arg0)) slices_S2048x3600_S2048x4_0_2048))))
/-- The second gates' shifted columns. -/
def y6 : FVec Ideal S2048x4 .f32 := addf (extractStridedSlice S2048x4 ![0, 2052] (V0 (Proc.devRef .tc main_arg0)) slices_S2048x3600_S2048x4_0_2052) (broadcastInDim S2048x4 ![0, 1] bcast_S1x4_S2048x4_0_1 (broadcastInDim S1x4 ![1] bcast_S4_S1x4_1 (V0 (Proc.devRef .tc main_arg2))))
/-- The forget gates' shifted columns, negated. -/
def y8 : FVec Ideal S2048x8 .f32 := Host.negf (addf (extractStridedSlice S2048x8 ![0, 3592] (V0 (Proc.devRef .tc main_arg0)) slices_S2048x3600_S2048x8_0_3592) (broadcastInDim S2048x8 ![0, 1] bcast_S1x8_S2048x8_0_1 (broadcastInDim S1x8 ![1] bcast_S8_S1x8_1 (V0 (Proc.devRef .tc main_arg3)))))
section
variable {n : ℕ} (hb : S_.BroadcastsInDim ⟨2, ![2048, n]⟩ ![]) (y : FVec Ideal ⟨2, ![2048, n]⟩ .f32)
/-- A constant, everywhere. -/
def splat (w : BitVec 32) : FVec Ideal ⟨2, ![2048, n]⟩ .f32 := broadcastInDim ⟨2, ![2048, n]⟩ ![] hb (constant S_ .f32 w)
/-- The softplus. -/
def soft : FVec Ideal ⟨2, ![2048, n]⟩ .f32 := select (cmpf .une (subf y (splat hb 0x00000000#32)) (subf y (splat hb 0x00000000#32))) (addf y (splat hb 0x00000000#32))
  (addf (maximumf y (splat hb 0x00000000#32)) (Host.log1p (Host.exp (Host.negf (Host.absf (subf y (splat hb 0x00000000#32)))))))
/-- An infinity taken for zero. -/
def fin0 : FVec Ideal ⟨2, ![2048, n]⟩ .f32 := select (cmpf .oeq y (splat hb 0x7F800000#32)) (splat hb 0x00000000#32) y
/-- The softplus's derivative. -/
def dsoft : FVec Ideal ⟨2, ![2048, n]⟩ .f32 := Host.exp (subf (fin0 hb y) (fin0 hb (soft hb y)))
theorem max_coe (x y : ℝ) : max (x : EReal) (y : EReal) = ((max x y : ℝ) : EReal) := ((EReal.coe_strictMono.monotone).map_max).symm
theorem sp_coe (Y : ℝ) : max (Y : EReal) 0 + Ideal.log1p (Ideal.exp (-FloatOps.absf (F := Ideal) (φ := .f32) (Y : EReal))) = ((sp Y : ℝ) : EReal) := by
  rw [show FloatOps.absf (F := Ideal) (φ := .f32) (Y : EReal) = max (Y : EReal) (-(Y : EReal)) from rfl, ← EReal.coe_neg, max_coe, ← abs_eq_max_neg, ← EReal.coe_neg, ← EReal.coe_zero, max_coe]
  show _ + Ideal.log1p ((Real.exp (-|Y|) : ℝ) : EReal) = _
  have hp : ¬ (1 + Real.exp (-|Y|) ≤ 0) := by have := Real.exp_pos (-|Y|); linarith
  unfold Ideal.log1p
  rw [← EReal.coe_one, ← EReal.coe_add, Ideal.log_coe, if_neg hp, ← EReal.coe_add]
  rfl
theorem soft_real {Y : Fin 2048 → Fin n → ℝ} (hy : Is2 (φ := .f32) y Y) : Is2 (φ := .f32) (soft hb y) fun r l => sp (Y r l) := fun r l => by
  unfold Is2 at hy
  pointwise [soft, splat, hy]
  rw [if_neg (by simp)]
  exact sp_coe _
theorem fin0_real {Y : Fin 2048 → Fin n → ℝ} (hy : Is2 (φ := .f32) y Y) : Is2 (φ := .f32) (fin0 hb y) Y := fun r l => by
  unfold Is2 at hy
  pointwise [fin0, splat, hy]
  rw [if_neg (by rw [show Ideal.ofBits .f32 2139095040#32 = ⊤ from lit_top]; exact EReal.coe_ne_top _)]
theorem dsoft_real {Y : Fin 2048 → Fin n → ℝ} (hy : Is2 (φ := .f32) y Y) : Is2 (φ := .f32) (dsoft hb y) fun r l => logis (Y r l) := fun r l => by
  have h0 := fin0_real hb y hy
  have h1 := fin0_real hb _ (soft_real hb y hy)
  unfold Is2 at h0 h1
  pointwise [dsoft, h0, h1]
  rw [← EReal.coe_sub]
  show ((Real.exp _ : ℝ) : EReal) = _
  rw [exp_sub_sp]
end

/-- The cotangents of the gate sums. -/
def z8 : FVec Ideal S2048x8 .f32 := addf (V0 (Proc.devRef .tc main_arg6)) (Host.negf (V0 (Proc.devRef .tc main_arg7)))
/-- The sums over the later rows. -/
def y9 : FVec Ideal S2048x8 .f32 := Host.reduceWindowAdd ![2048, 1] ![1, 1] ![0, 0] ![2047, 0] (z8 V0) (broadcastInDim S_ ![] bcast_S_S_ (constant S_ .f32 0x00000000#32)) reduceWindows_S2048x8_S2048x8_w2048s1p0_2047_w1s1p0_0 h_S_
/-- The three groups' gradients. -/
def d0 : FVec Ideal S2048x4 .f32 := mulf (V0 (Proc.devRef .tc main_arg4)) (mulf (y5 V0) (subf one4 (y5 V0)))
def d1 : FVec Ideal S2048x4 .f32 := mulf (mulf (broadcastInDim S2048x4 ![0, 1] bcast_S1x4_S2048x4_0_1 (broadcastInDim S1x4 ![1] bcast_S4_S1x4_1 (Host.negf (Host.exp (V0 (Proc.devRef .tc main_arg1)))))) (V0 (Proc.devRef .tc main_arg5))) (dsoft bcast_S_S2048x4 (y6 V0))
def d2 : FVec Ideal S2048x8 .f32 := Host.negf (mulf (Host.negf (y9 V0)) (dsoft bcast_S_S2048x8 (y8 V0)))
/-- Their sums over the rows. -/
def s0 : FVec Ideal S4 .f32 := Host.reduceAdd (d0 V0) (constant S_ .f32 0x00000000#32) reducesTo_S2048x4_S4_d0 h_S_
def s1 : FVec Ideal S4 .f32 := Host.reduceAdd (shapeCast _ (Host.reduceAdd (d1 V0) (constant S_ .f32 0x00000000#32) reducesTo_S2048x4_S4_d0 h_S_) shapeCasts_S4_S1x4) (constant S_ .f32 0x00000000#32) reducesTo_S1x4_S4_d0 h_S_
def s2 : FVec Ideal S8 .f32 := Host.reduceAdd (shapeCast _ (Host.reduceAdd (d2 V0) (constant S_ .f32 0x00000000#32) reducesTo_S2048x8_S8_d0 h_S_) shapeCasts_S8_S1x8) (constant S_ .f32 0x00000000#32) reducesTo_S1x8_S8_d0 h_S_
def s3 : FVec Ideal S4 .f32 := mulf (Host.negf (Host.reduceAdd (shapeCast _ (Host.reduceAdd (mulf (V0 (Proc.devRef .tc main_arg5)) (soft bcast_S_S2048x4 (y6 V0))) (constant S_ .f32 0x00000000#32) reducesTo_S2048x4_S4_d0 h_S_) shapeCasts_S4_S1x4) (constant S_ .f32 0x00000000#32) reducesTo_S1x4_S4_d0 h_S_)) (Host.exp (V0 (Proc.devRef .tc main_arg1)))
/-- The two rows. -/
def q0 : FVec Ideal S1x128 .f32 := broadcastInDim S1x128 ![1] bcast_S128_S1x128_1 (concatenate S128 0 [⟨S4, s0 V0⟩, ⟨S4, s1 V0⟩, ⟨S8, s2 V0⟩, ⟨S112, broadcastInDim S112 ![] bcast_S_S112 (constant S_ .f32 0x00000000#32)⟩] concatenates_S4_S4_S8_S112_S128_d0)
def q1 : FVec Ideal S1x128 .f32 := broadcastInDim S1x128 ![1] bcast_S128_S1x128_1 (concatenate S128 0 [⟨S4, broadcastInDim S4 ![] bcast_S_S4 (constant S_ .f32 0x00000000#32)⟩, ⟨S4, s3 V0⟩, ⟨S120, broadcastInDim S120 ![] bcast_S_S120 (constant S_ .f32 0x00000000#32)⟩] concatenates_S4_S4_S120_S128_d0)
/-- The two results. -/
def p0 : FVec Ideal S2048x128 .bf16 := truncf .bf16 (concatenate S2048x128 1 [⟨S2048x4, d0 V0⟩, ⟨S2048x4, d1 V0⟩, ⟨S2048x8, d2 V0⟩, ⟨S2048x112, broadcastInDim S2048x112 ![] bcast_S_S2048x112 (constant S_ .f32 0x00000000#32)⟩] concatenates_S2048x4_S2048x4_S2048x8_S2048x112_S2048x128_d1) bitsLt_bf16_f32
def p1 : FVec Ideal S8x128 .f32 := concatenate S8x128 0 [⟨S1x128, q0 V0⟩, ⟨S1x128, q1 V0⟩, ⟨S6x128, broadcastInDim S6x128 ![] bcast_S_S6x128 (constant S_ .f32 0x00000000#32)⟩] concatenates_S1x128_S1x128_S6x128_S8x128_d0

/-- The reference's argument arrays hold the reals `a`. -/
structure Holds : Prop where
  p : Is2 (φ := .f32) (V0 (Proc.devRef .tc main_arg0)) a.p
  al : ∀ k : Fin 4, (V0 (Proc.devRef .tc main_arg1) (ix1 k) : EReal) = ((a.al k : ℝ) : EReal)
  dt : ∀ k : Fin 4, (V0 (Proc.devRef .tc main_arg2) (ix1 k) : EReal) = ((a.dt k : ℝ) : EReal)
  bf : ∀ k : Fin 8, (V0 (Proc.devRef .tc main_arg3) (ix1 k) : EReal) = ((a.bf k : ℝ) : EReal)
  db : Is2 (φ := .f32) (V0 (Proc.devRef .tc main_arg4)) a.db
  dg : Is2 (φ := .f32) (V0 (Proc.devRef .tc main_arg5)) a.dg
  dq : Is2 (φ := .f32) (V0 (Proc.devRef .tc main_arg6)) a.dq
  dk : Is2 (φ := .f32) (V0 (Proc.devRef .tc main_arg7)) a.dk

variable {a V0} (h : Holds a V0)
include h

/-- A group's column in the lanes. -/
def at4 (o : ℕ) (ho : o ≤ 4) (i : Fin 4) : Fin 128 := ⟨o + i.val, by omega⟩
def at8 (i : Fin 8) : Fin 128 := ⟨8 + i.val, by omega⟩
theorem y5_real : Is2 (φ := .f32) (y5 V0) fun r i => logis (a.p r ⟨2048 + i.val, by omega⟩) := fun r i => by
  have hp := h.p
  unfold Is2 at hp
  pointwise [y5, one4, hp]
  exact logis_real _
theorem y6_real : Is2 (φ := .f32) (y6 V0) fun r i => a.p r ⟨2052 + i.val, by omega⟩ + a.dt i := fun r i => by
  have hp := h.p
  have hd := h.dt
  unfold Is2 at hp
  pointwise [y6, hp, hd]
  rw [← EReal.coe_add]
theorem y8_real : Is2 (φ := .f32) (y8 V0) fun r i => -(a.p r ⟨3592 + i.val, by omega⟩ + a.bf i) := fun r i => by
  have hp := h.p
  have hd := h.bf
  unfold Is2 at hp
  pointwise [y8, hp, hd]
  rw [← EReal.coe_add, ← EReal.coe_neg]
theorem y9_real : Is2 (φ := .f32) (y9 V0) fun r i => a.rc r (at8 i) := fun r i => by
  have hq := h.dq
  have hk := h.dk
  unfold Is2 at hq hk
  have e : (y9 V0 (ix2 r i) : EReal) = ∑ q : Fin 2048, if r.val ≤ q.val then ((a.dq q i - a.dk q i : ℝ) : EReal) else 0 := by
    unfold y9 Host.reduceWindowAdd
    have e0 : ∀ j, (broadcastInDim S_ ![] bcast_S_S_ (constant (F := Ideal) S_ .f32 0x00000000#32)) j = (0 : EReal) := fun _ => lit_zero
    rw [e0]
    refine (window_sum reduceWindows_S2048x8_S2048x8_w2048s1p0_2047_w1s1p0_0 (z8 V0) r i).trans ?_
    · refine Finset.sum_congr rfl fun q _ => ?_
      pointwise [z8, hq, hk]
      rw [← EReal.coe_neg, ← EReal.coe_add, ← sub_eq_add_neg]
  rw [e]
  have e1 : ∀ q : Fin 2048, (if r.val ≤ q.val then ((a.dq q i - a.dk q i : ℝ) : EReal) else 0) = ((if r.val ≤ q.val then a.d q (at8 i) else 0 : ℝ) : EReal) := fun q => by
    have ed : a.d q (at8 i) = a.dq q i - a.dk q i := by
      unfold Reals.d at8
      rw [dif_neg (by show ¬ (8 + i.val < 4); omega), dif_neg (by show ¬ (8 + i.val < 8); omega), dif_pos (by show 8 + i.val < 16; omega)]
      simp only [Nat.add_sub_cancel_left]
    rw [ed]
    split_ifs
    · rfl
    · rfl
  simp only [e1, coe_sum]
  rfl
theorem d0_real : Is2 (φ := .f32) (d0 V0) fun r i => a.draw r (at4 0 (by omega) i) := fun r i => by
  have h5 := y5_real h
  have hb := h.db
  unfold Is2 at h5 hb
  pointwise [d0, one4, h5, hb]
  simp only [← EReal.coe_one, ← EReal.coe_sub, ← EReal.coe_mul]
  congr 1
  have e : (at4 0 (by omega) i).val = i.val := by show 0 + i.val = i.val; omega
  unfold Reals.draw Reals.de Reals.d Reals.raw
  simp only [e]
  rw [if_pos (by omega), if_pos (by omega), dif_pos (by omega), dif_pos (by omega)]
  ring
theorem d1_real : Is2 (φ := .f32) (d1 V0) fun r i => a.draw r (at4 4 (by omega) i) := fun r i => by
  have h6 := dsoft_real bcast_S_S2048x4 _ (y6_real h)
  have hb := h.dg
  have ha := h.al
  unfold Is2 at h6 hb
  pointwise [d1, h6, hb, ha]
  show -((Real.exp _ : ℝ) : EReal) * _ * _ = _
  simp only [← EReal.coe_neg, ← EReal.coe_mul]
  congr 1
  have e : (at4 4 (by omega) i).val = 4 + i.val := rfl
  unfold Reals.draw Reals.de Reals.d Reals.xb Reals.raw Reals.bias Reals.nexp
  simp only [e]
  rw [if_neg (by omega), if_pos (by omega), if_pos (by omega), dif_neg (by omega), dif_pos (by omega), dif_pos (by omega), dif_pos (by omega), dif_pos (by omega)]
  simp only [Nat.add_sub_cancel_left, ← Nat.add_assoc]
  ring
theorem d2_real : Is2 (φ := .f32) (d2 V0) fun r i => a.draw r (at8 i) := fun r i => by
  have h8 := dsoft_real bcast_S_S2048x8 _ (y8_real h)
  have h9 := y9_real h
  unfold Is2 at h8 h9
  pointwise [d2, h8, h9]
  simp only [← EReal.coe_neg, ← EReal.coe_mul]
  congr 1
  have e : (at8 i).val = 8 + i.val := rfl
  unfold Reals.draw Reals.de Reals.xb Reals.raw Reals.bias
  simp only [e]
  rw [if_neg (by omega), if_neg (by omega), if_pos (by omega), if_neg (by omega), dif_neg (by omega), dif_pos (by omega), dif_neg (by omega), dif_pos (by omega)]
  simp only [Nat.add_sub_cancel_left, ← Nat.add_assoc]
  rw [logis_neg]
  ring
theorem s0_real (i : Fin 4) : (s0 V0 (ix1 i) : EReal) = ((∑ r, a.draw r (at4 0 (by omega) i) : ℝ) : EReal) := by
  have hd := d0_real h
  unfold Is2 at hd
  pointwise [s0, hd]
  simp only [coe_sum, zero_add]
theorem s1_real (i : Fin 4) : (s1 V0 (ix1 i) : EReal) = ((∑ r, a.draw r (at4 4 (by omega) i) : ℝ) : EReal) := by
  have hd := d1_real h
  unfold Is2 at hd
  pointwise [s1, hd]
  simp only [coe_sum, zero_add, Fin.sum_univ_one]
theorem s2_real (i : Fin 8) : (s2 V0 (ix1 i) : EReal) = ((∑ r, a.draw r (at8 i) : ℝ) : EReal) := by
  have hd := d2_real h
  unfold Is2 at hd
  pointwise [s2, hd]
  simp only [coe_sum, zero_add, Fin.sum_univ_one]
theorem s3_real (i : Fin 4) : (s3 V0 (ix1 i) : EReal) = ((∑ r, a.dal r (at4 4 (by omega) i) : ℝ) : EReal) := by
  have hs := soft_real bcast_S_S2048x4 _ (y6_real h)
  have hg := h.dg
  have ha := h.al
  unfold Is2 at hs hg
  pointwise [s3, hs, hg, ha]
  show -_ * ((Real.exp _ : ℝ) : EReal) = _
  simp only [← EReal.coe_mul, coe_sum, zero_add, Fin.sum_univ_one, ← EReal.coe_neg]
  congr 1
  rw [← Finset.sum_neg_distrib, Finset.sum_mul]
  refine Finset.sum_congr rfl fun r _ => ?_
  have e : (at4 4 (by omega) i).val = 4 + i.val := rfl
  unfold Reals.dal Reals.de Reals.d Reals.xb Reals.raw Reals.bias Reals.nexp
  simp only [e]
  rw [if_pos (by omega), if_pos (by omega), dif_neg (by omega), dif_pos (by omega), dif_pos (by omega), dif_pos (by omega), dif_pos (by omega)]
  simp only [Nat.add_sub_cancel_left, ← Nat.add_assoc]
  ring
omit h in
/-- Nothing is asked of the lanes past the gates. -/
theorem draw_out (r : Fin 2048) (l : Fin 128) (hl : 16 ≤ l.val) : a.draw r l = 0 := by
  unfold Reals.draw
  rw [if_neg (by omega), if_neg (by omega), if_neg (by omega)]
omit h in
theorem dal_out (r : Fin 2048) (l : Fin 128) (hl : l.val < 4 ∨ 8 ≤ l.val) : a.dal r l = 0 := by
  unfold Reals.dal
  rw [if_neg (by omega)]
omit h in
/-- The groups side by side are the lanes. -/
theorem lanes (f : Fin 128 → ℝ) (hf : ∀ l : Fin 128, 16 ≤ l.val → f l = 0) (l : Fin 128) :
    (if h : l.val < 4 then ((f (at4 0 (by omega) ⟨l.val, h⟩) : ℝ) : EReal) else if h : l.val - 4 < 4 then ((f (at4 4 (by omega) ⟨l.val - 4, h⟩) : ℝ) : EReal)
      else if h : l.val - 4 - 4 < 8 then ((f (at8 ⟨l.val - 4 - 4, h⟩) : ℝ) : EReal) else 0) = ((f l : ℝ) : EReal) := by
  by_cases h0 : l.val < 4
  · rw [dif_pos h0]
    exact congrArg (fun k => ((f k : ℝ) : EReal)) (Fin.ext (by show 0 + l.val = _; omega))
  · by_cases h1 : l.val - 4 < 4
    · rw [dif_neg h0, dif_pos h1]
      exact congrArg (fun k => ((f k : ℝ) : EReal)) (Fin.ext (by show 4 + (l.val - 4) = _; omega))
    · by_cases h2 : l.val - 4 - 4 < 8
      · rw [dif_neg h0, dif_neg h1, dif_pos h2]
        exact congrArg (fun k => ((f k : ℝ) : EReal)) (Fin.ext (by show 8 + (l.val - 4 - 4) = _; omega))
      · rw [dif_neg h0, dif_neg h1, dif_neg h2, hf l (by omega)]
        rfl
theorem p0_real : Is2 (φ := .bf16) (p0 V0) a.draw := fun r l => by
  have h0 := d0_real h
  have h1 := d1_real h
  have h2 := d2_real h
  unfold Is2 at h0 h1 h2
  pointwise [p0, h0, h1, h2]
  exact lanes (a.draw r) (draw_out r) l
theorem q0_real : Is2 (φ := .f32) (q0 V0) fun _ l => ∑ r, a.draw r l := fun r l => by
  have h0 := s0_real h
  have h1 := s1_real h
  have h2 := s2_real h
  pointwise [q0, h0, h1, h2]
  exact lanes (fun l => ∑ r, a.draw r l) (fun l hl => Finset.sum_eq_zero fun r _ => draw_out r l hl) l
theorem q1_real : Is2 (φ := .f32) (q1 V0) fun _ l => ∑ r, a.dal r l := fun r l => by
  have h0 := s3_real h
  pointwise [q1, h0]
  by_cases h0 : l.val < 4
  · rw [dif_pos h0, Finset.sum_eq_zero fun r _ => dal_out r l (.inl h0)]
    rfl
  · by_cases h1 : l.val - 4 < 4
    · rw [dif_neg h0, dif_pos h1]
      exact congrArg (fun k => ((∑ r, a.dal r k : ℝ) : EReal)) (Fin.ext (by show 4 + (l.val - 4) = _; omega))
    · rw [dif_neg h0, dif_neg h1, Finset.sum_eq_zero fun r _ => dal_out r l (.inr (by omega))]
      rfl
theorem p1_real : Is2 (φ := .f32) (p1 V0) a.acc := fun i l => by
  have h0 := q0_real h
  have h1 := q1_real h
  unfold Is2 at h0 h1
  pointwise [p1, h0, h1]
  unfold Reals.acc
  by_cases e0 : i.val = 0
  · rw [dif_pos (by omega), if_pos e0]
  · by_cases e1 : i.val = 1
    · rw [dif_neg (by omega), dif_pos (by omega), if_neg e0, if_pos e1]
    · rw [dif_neg (by omega), dif_neg (by omega), if_neg e0, if_neg e1]
      rfl

omit h in
/-- The reference's run, its two results read as real arrays. -/
theorem run (m : (ℓ : Loc nD τ sig) → Buf (Elt Ideal) ℓ) (a : Dev nD → Reals) (g : Dev nD → PrngReg) (h : ∀ c, Holds (a c) (StableHlo.launchContents m c)) :
    θ_run defs (onTc (τ := τ) (main (F := Ideal))) ⟨m, fun _ => 0, g⟩ fun r => ∀ c : Dev nD,
      r.2.mem ((c.tc : Thread nD τ).loc main_v59) = (fun j : S2048x128.Idx => (((a c).draw (j 0) (j 1) : ℝ) : EReal))
      ∧ r.2.mem ((c.tc : Thread nD τ).loc main_v56) = (fun j : S8x128.Idx => (((a c).acc (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r hr c => ⟨(hr c).1.trans ?_, (hr c).2.1.trans ?_, (hr c).2.2⟩) (Value.run m g)
  · exact Eq.trans (b := p0 (StableHlo.launchContents m c)) rfl (funext fun j => by idx_vars j; exact p0_real (h c) _ _)
  · exact Eq.trans (b := p1 (StableHlo.launchContents m c)) rfl (funext fun j => by idx_vars j; exact p1_real (h c) _ _)
end Cert.Gates.Ref
-- ==== Proof.Gates.Claim.lean ====
module

public import proofs.«01_k».proof.Defs
public import proofs.«01_k».proof.Proof.Gen.GatesBwdIdeal
public import proofs.«01_k».proof.Proof.Gen.GatesBwdRefIdeal
public import proofs.«01_k».proof.Proof.Gen.Pre_gates_finite
public import proofs.«01_k».proof.Proof.Gates.Kernel
public import proofs.«01_k».proof.Proof.Gates.Reference

/-! # The gates' gradient: kernel and reference agree on finite arguments -/

@[expose] public section
set_option maxRecDepth 16384
noncomputable section
namespace Cert.Gates
open Cert.Lift Idealize.ShloMosaic Idealize.ShloMosaic.TcCoe Idealize.SL.Sem Cert.GatesBwdIdeal

/-- The reals in the kernel's arguments. -/
def reals (m : (ℓ : Loc nD τ sig) → Buf (Elt Ideal) ℓ) (c : Dev nD) : Reals where
  p r k := EReal.toReal (m ((c.tc : Thread nD τ).loc main_arg0) (ix2 r k))
  al k := EReal.toReal (m ((c.tc : Thread nD τ).loc main_arg1) (ix1 k))
  dt k := EReal.toReal (m ((c.tc : Thread nD τ).loc main_arg2) (ix1 k))
  bf k := EReal.toReal (m ((c.tc : Thread nD τ).loc main_arg3) (ix1 k))
  db r k := EReal.toReal (m ((c.tc : Thread nD τ).loc main_arg4) (ix2 r k))
  dg r k := EReal.toReal (m ((c.tc : Thread nD τ).loc main_arg5) (ix2 r k))
  dq r k := EReal.toReal (m ((c.tc : Thread nD τ).loc main_arg6) (ix2 r k))
  dk r k := EReal.toReal (m ((c.tc : Thread nD τ).loc main_arg7) (ix2 r k))

open Cert.Pre_gates_finite in
/-- Under the precondition the arguments are those reals. -/
theorem holds (m : (ℓ : Loc nD τ sig) → Buf (Elt Ideal) ℓ) (hp : Cert.Pre_GatesBwdIdeal_gates_finite m) (c : Dev nD) :
    Ker.Holds m c (reals m c) := by
  obtain ⟨h0, h1, h2, h3, h4, h5, h6, h7⟩ := hp c
  refine ⟨fun r l => ?_, fun l => ?_, fun l => ?_, fun l => ?_, fun r l => ?_, fun r l => ?_, fun r l => ?_, fun r l => ?_⟩
  · have h := congrFun h0 (ix2 r l)
    pointwise [fn, fn_part1] at h
    exact coe_of_test h
  · have h := congrFun h1 (ix1 l)
    pointwise [fn, fn_part1] at h
    exact coe_of_test h
  · have h := congrFun h2 (ix1 l)
    pointwise [fn, fn_part1] at h
    exact coe_of_test h
  · have h := congrFun h3 (ix1 l)
    pointwise [fn, fn_part1] at h
    exact coe_of_test h
  · have h := congrFun h4 (ix2 r l)
    pointwise [fn, fn_part1] at h
    exact coe_of_test h
  · have h := congrFun h5 (ix2 r l)
    pointwise [fn, fn_part1] at h
    exact coe_of_test h
  · have h := congrFun h6 (ix2 r l)
    pointwise [fn, fn_part1] at h
    exact coe_of_test h
  · have h := congrFun h7 (ix2 r l)
    pointwise [fn, fn_part1] at h
    exact coe_of_test h

/-- Kernel and reference return the same two arrays. -/
theorem algebraic : Cert.algebraic_GatesBwdIdeal_GatesBwdRefIdeal_pre_gates_finite := by
  intro m g m' g' hp hm
  have hk := holds m hp
  have hr : ∀ c, Ref.Holds (reals m c) (StableHlo.launchContents m' c) := fun c => by
    obtain ⟨e0, e1, e2, e3, e4, e5, e6, e7⟩ := hm c
    exact ⟨fun r l => (congrFun e0 _).trans ((hk c).p r l),
      fun l => (congrFun e1 _).trans ((hk c).al l),
      fun l => (congrFun e2 _).trans ((hk c).dt l),
      fun l => (congrFun e3 _).trans ((hk c).bf l),
      fun r l => (congrFun e4 _).trans ((hk c).db r l),
      fun r l => (congrFun e5 _).trans ((hk c).dg r l),
      fun r l => (congrFun e6 _).trans ((hk c).dq r l),
      fun r l => (congrFun e7 _).trans ((hk c).dk r l)⟩
  refine ⟨fun c j => (((reals m c).draw (j 0) (j 1) : ℝ) : EReal), fun c j => (((reals m c).acc (j 0) (j 1) : ℝ) : EReal), ?_, Ref.run m' (reals m) g' hr⟩
  exact (θ_run _ _ _).mono (fun r h c => ⟨(h c).1.trans (Ker.final8 (hk c)), (h c).2.1.trans (Ker.final9 (hk c)), (h c).2.2⟩)
    (Cert.GatesBwdIdeal.Value.run_blocks m g)

/-- The reference alone: it terminates, keeps its arguments and leaves every counter at zero. -/
theorem ref_frame : Cert.quiescent_GatesBwdRefIdeal := fun m g _ =>
  (θ_run _ _ _).mono (fun r h => ⟨fun c => (h c).2.2, sem_eq_zero_of_no_sems (by decide) r.2⟩) (Cert.GatesBwdRefIdeal.Value.run m g)

end Cert.Gates
-- ==== Proof.Conv.Math.lean ====
module

public import proofs.«01_k».proof.Proof.Prep.Math

/-! # The convolution, silu and l2 norm before the delta rule: the values over the reals -/

@[expose] public section
noncomputable section
namespace Cert.Conv
open Cert.Lift Cert.Prep

/-- The reals in the arguments: the convolved columns and the taps. -/
structure Reals where
  c : Fin 2048 → Fin 1536 → ℝ
  w : Fin 4 → Fin 1536 → ℝ

/-- The silu. -/
def swish (y : ℝ) : ℝ := y * logis y
/-- A head's row after the silu, divided by its norm where `b` says so. -/
def normed (b : Bool) (s : Fin 128 → ℝ) (l : Fin 128) : ℝ := if b then s l * rinv s else s l

namespace Reals
variable (a : Reals)
/-- The convolution. -/
def y (r : Fin 2048) (k : Fin 1536) : ℝ :=
  a.c r k * a.w 3 k + down 1 (fun i => a.c i k) r * a.w 2 k + down 2 (fun i => a.c i k) r * a.w 1 k + down 3 (fun i => a.c i k) r * a.w 0 k
/-- The silu of it. -/
def s (r : Fin 2048) (k : Fin 1536) : ℝ := swish (a.y r k)
/-- The result: the queries' and keys' heads are divided by their norms, the values' are not. -/
def o (r : Fin 2048) (k : Fin 1536) : ℝ := normed (decide (k.val < 1024)) (fun l => a.s r (lane k l)) ⟨k.val % 128, by omega⟩
end Reals
end Cert.Conv
-- ==== Proof.Conv.Block.lean ====
module

public import proofs.«01_k».proof.Proof.Gen.PrepFwdIdeal
public import proofs.«01_k».proof.Proof.Conv.Math
public import proofs.«01_k».proof.Proof.Math.Place
public import proofs.«01_k».proof.Proof.Gen.PrepFwdIdeal.Frame

/-! # The forward kernel before the delta rule: the values of one head of 128 channels

The kernel first convolves a head's columns with rows that turn around the ends, which is right from the fourth row on, and
then writes the first eight rows once more, from rows that are set to zero before the first. -/

@[expose] public section
set_option maxRecDepth 16384
noncomputable section
namespace Cert.Conv.Ker
open Cert.Lift Cert.Prep Idealize.ShloMosaic Idealize.ShloMosaic.TcCoe Idealize.SL.Sem Cert.PrepFwdIdeal Cert.PrepFwdIdeal.Gen

/-- Four taps over rows of any number, from the three rows above. -/
def four {n : ℕ} (W : Fin 4 → Fin 128 → ℝ) (X0 X1 X2 X3 : Fin n → Fin 128 → ℝ) (r : Fin n) (l : Fin 128) : ℝ :=
  X0 r l * W 3 l + X1 r l * W 2 l + X2 r l * W 1 l + X3 r l * W 0 l
/-- The rows `s` places down, those of the end before the first. -/
def around {n : ℕ} (s : ℕ) (C : Fin n → Fin 128 → ℝ) (r : Fin n) (l : Fin 128) : ℝ :=
  C ⟨(r.val + n - s) % n, Nat.mod_lt _ (by have := r.isLt; omega)⟩ l
/-- The rows `s` places down, zeros before the first. -/
def below {n : ℕ} (s : ℕ) (C : Fin n → Fin 128 → ℝ) (r : Fin n) (l : Fin 128) : ℝ :=
  if h : s ≤ r.val then C ⟨r.val - s, by omega⟩ l else 0

/-- From row `s` on, both are the same rows. -/
theorem around_eq {C : Fin 2048 → Fin 128 → ℝ} {s : ℕ} {r : Fin 2048} (hs : s ≤ r.val) (l : Fin 128) : around s C r l = down s (fun i => C i l) r := by
  have := r.isLt
  unfold around down
  rw [dif_pos hs]
  exact congrArg (fun i => C i l) (Fin.ext (by show (r.val + 2048 - s) % 2048 = r.val - s; omega))
/-- A masked turn's entry, times a tap. -/
theorem turned {C : Fin 8 → Fin 128 → ℝ} (s : ℕ) (hs : s < 8) (r : Fin 8) (l : Fin 128) (v : ℝ) :
    Scalar.select (IntOp.cmpi .sge (BitVec.ofNat 32 r.val) (BitVec.ofNat 32 s)) (((C ⟨(r.val + 8 - s) % 8, Nat.mod_lt _ (by omega)⟩ l : ℝ) : EReal) * ((v : ℝ) : EReal)) (0 : EReal)
      = ((below s C r l * v : ℝ) : EReal) := by
  have hr := r.isLt
  rw [select_ge (by omega) (by omega)]
  unfold below
  by_cases h : s ≤ r.val
  · rw [if_pos h, dif_pos h, ← EReal.coe_mul]
    exact congrArg (fun i => ((C i l * v : ℝ) : EReal)) (Fin.ext (by show (r.val + 8 - s) % 8 = r.val - s; omega))
  · rw [if_neg h, dif_neg h, zero_mul]; rfl

variable {w : FVec Ideal S4x128 .f32} {W : Fin 4 → Fin 128 → ℝ} (hw : Is2 (φ := .f32) w W)

/-- A head's row divided by its norm, or left as it is, as the kernel's text chooses. -/
theorem choice (i : ℕ) (hi : i < 12) (s : Fin 128 → ℝ) (l : Fin 128) :
    Scalar.select (Scalar.cmpi .slt (BitVec.ofNat 32 i) 8#32) (((s l : ℝ) : EReal) * Ideal.rsqrt ((((∑ k, s k * s k) + tiny : ℝ)) : EReal)) ((s l : ℝ) : EReal)
      = ((normed (decide (i < 8)) s l : ℝ) : EReal) := by
  rw [show Ideal.rsqrt ((((∑ k, s k * s k) + tiny : ℝ)) : EReal) = ((rinv s : ℝ) : EReal) from rsqrt_real (ss_pos s), ← EReal.coe_mul]
  rw [show Scalar.cmpi CmpIPredicate.slt (BitVec.ofNat 32 i) 8#32 = IntOp.cmpi CmpIPredicate.slt (BitVec.ofNat 32 i) (BitVec.ofNat 32 8) from rfl,
    select_lt (by omega) (by omega)]
  unfold normed
  by_cases h8 : i < 8
  · rw [if_pos h8, if_pos (decide_eq_true h8)]
  · rw [if_neg h8, if_neg (by simpa using h8)]

include hw in
/-- The first store: all rows, those above the first taken from the end. -/
theorem p2 {x : FVec Ideal S2048x128 .f32} {C : Fin 2048 → Fin 128 → ℝ} (hx : Is2 (φ := .f32) x C) (i : grid0.Coords) (hi : (i 0).val < 12) :
    Is2 (φ := .f32) (k0_pay2 (F := Ideal) i x w)
      (fun r => normed (decide ((i 0).val < 8)) fun l => swish (four W C (around 1 C) (around 2 C) (around 3 C) r l)) := fun r l => by
  unfold Is2 at *
  unfold k0_pay2
  pointwise [hx, hw]
  simp only [← EReal.coe_mul, ← EReal.coe_add, zero_sub, logis_real]
  simp only [lit_tiny, ← EReal.coe_mul, coe_sum, ← EReal.coe_add]
  exact choice (i 0).val hi (fun l => swish (four W C (around 1 C) (around 2 C) (around 3 C) r l)) l

include hw in
/-- The first eight rows' silu. -/
theorem p3 {x : FVec Ideal S8x128 .f32} {C : Fin 8 → Fin 128 → ℝ} (hx : Is2 (φ := .f32) x C) :
    Is2 (φ := .f32) (k0_pay3 (F := Ideal) x w) (fun r l => swish (four W C (below 1 C) (below 2 C) (below 3 C) r l)) := fun r l => by
  unfold Is2 at *
  unfold k0_pay3
  pointwise [hx, hw]
  have e1 := turned (C := C) 1 (by omega) r l (W 2 l)
  have e2 := turned (C := C) 2 (by omega) r l (W 1 l)
  have e3 := turned (C := C) 3 (by omega) r l (W 0 l)
  simp only [e1, e2, e3]
  simp only [← EReal.coe_mul, ← EReal.coe_add, zero_sub, logis_real]
  rfl

/-- The second store, of the first eight rows. -/
theorem p1 {x : FVec Ideal S8x128 .f32} {S : Fin 8 → Fin 128 → ℝ} (hs : Is2 (φ := .f32) (k0_pay3 (F := Ideal) x w) S) (i : ℕ) (hi : i < 12) :
    Is2 (φ := .f32) (k0_pay1 (F := Ideal) (BitVec.ofNat 32 i) (k0_pay3 x w) (k0_pay4 x w) (Scalar.ofBits .f32 0x358637BD#32))
      (fun r => normed (decide (i < 8)) (S r)) := fun r l => by
  unfold Is2 at *
  unfold k0_pay1 k0_pay4
  pointwise [hs]
  simp only [zero_add, lit_tiny, ← EReal.coe_mul, coe_sum, ← EReal.coe_add]
  exact choice i hi (S r) l
end Cert.Conv.Ker
-- ==== Proof.Conv.Kernel.lean ====
module

public import proofs.«01_k».proof.Proof.Gen.PrepFwdIdeal.Value
public import proofs.«01_k».proof.Proof.Conv.Block
public import Idealize.ShloMosaic.Lib.Pipeline.ValueKit
public import Idealize.ShloMosaic.Lib.WritesUnit

/-! # The forward kernel before the delta rule: what it computes

The pallas_call's grid goes through the 1536 channels in twelve heads of 128: the first four are the queries', the next four the
keys', the last four the values'. Each point writes its own columns of the result. -/

@[expose] public section
set_option maxRecDepth 16384
noncomputable section
namespace Cert.Conv
open Cert.Lift Cert.Prep
namespace Ker
open Cert.PrepFwdIdeal Cert.PrepFwdIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The blocks' places. -/
theorem idx : ∀ t : Fin cfg0.N, win0_0.index t = ![0, t.val] ∧ win0_1.index t = ![0, t.val] ∧ win0_2.index t = ![0, t.val]
    ∧ (grid0.coords t 0).val = t.val ∧ t.val < 12 :=
  (by decide +kernel : ∀ t : Fin grid0.N, _)

/-- Channel `l` of head `t`. -/
def chan (t : Fin cfg0.N) (l : Fin 128) : Fin 1536 := ⟨t.val * 128 + l.val, by have := (idx t).2.2.2.2; omega⟩

/-- The projection's 3600 columns in the kernel's order, in a width of 3712. -/
def cols (x : FVec Ideal S2048x3600 .f32) : FVec Ideal S2048x3712 .f32 :=
  concatenate S2048x3712 1
    [⟨S2048x2048, extractStridedSlice S2048x2048 ![0, 0] x slices_S2048x3600_S2048x2048_0_0⟩,
     ⟨S2048x1536, extractStridedSlice S2048x1536 ![0, 2056] x slices_S2048x3600_S2048x1536_0_2056⟩,
     ⟨S2048x8, extractStridedSlice S2048x8 ![0, 2048] x slices_S2048x3600_S2048x8_0_2048⟩,
     ⟨S2048x8, extractStridedSlice S2048x8 ![0, 3592] x slices_S2048x3600_S2048x8_0_3592⟩,
     ⟨S2048x112, broadcastInDim S2048x112 ![] bcast_S_S2048x112 (constant S_ .f32 0x00000000#32)⟩]
    concatenates_S2048x2048_S2048x1536_S2048x8_S2048x8_S2048x112_S2048x3712_d1
/-- The projection, as the host lays it out. -/
theorem arr0 : V m c (Pipeline.arrRef spec0 0) = cols (m ((c.tc : Thread nD τ).loc main_arg0)) := by
  unfold V
  rfl
theorem cols_apply (x : FVec Ideal S2048x3600 .f32) (r : Fin 2048) (k : Fin 1536) :
    cols x (ix2 r (⟨k.val, by omega⟩ : Fin 3712)) = x (ix2 r (⟨k.val, by omega⟩ : Fin 3600)) := by
  pointwise [cols]
  rw [dif_pos (by omega)]

/-- Head `t`'s columns of the projection. -/
theorem blk0 (t : Fin cfg0.N) (r : Fin 2048) (l : Fin 128) :
    (show FVec Ideal S2048x128 .f32 from iblk m c 0 t) (ix2 r l)
      = (show FVec Ideal S2048x3712 .f32 from V m c (Pipeline.arrRef spec0 0)) (ix2 r (⟨(chan t l).val, by omega⟩ : Fin 3712)) := by
  blk_ext [iblk, idx t, chan]
/-- Head `t`'s taps. -/
theorem blk1 (t : Fin cfg0.N) (i : Fin 4) (l : Fin 128) :
    (show FVec Ideal S4x128 .f32 from iblk m c 1 t) (ix2 i l) = (show FVec Ideal S4x1536 .f32 from m ((c.tc : Thread nD τ).loc main_arg1)) (ix2 i (chan t l)) := by
  blk_point [iblk, V, idx t, chan]

/-- The kernel's argument arrays hold the reals `a`. -/
structure Holds (a : Conv.Reals) : Prop where
  cc : ∀ (r : Fin 2048) (k : Fin 1536), (m ((c.tc : Thread nD τ).loc main_arg0) (ix2 r (⟨k.val, by omega⟩ : Fin 3600)) : EReal) = ((a.c r k : ℝ) : EReal)
  w : Is2 (φ := .f32) (m ((c.tc : Thread nD τ).loc main_arg1)) a.w

/-- Where an entry of whole rows from the first on lies. -/
theorem place {n : ℕ} {inb : ∀ a, (![0, 0] : Fin 2 → ℕ) a + (![n, 128] : Fin 2 → ℕ) a ≤ (![2048, 128] : Fin 2 → ℕ) a} {i : Fin n} {r : Fin 2048} (hr : 0 + 1 * i.val = r.val)
    (l : Fin 128) : (Rect.unit (s := S2048x128) ![0, 0] ![n, 128] inb).emb (ix2 i l) = ix2 r l := by
  funext b; apply Fin.ext; fin_cases b
  · exact hr
  · show 0 + 1 * l.val = l.val; omega

variable {m c} {a : Conv.Reals} (h : Holds m c a)

/-- One head's silu, of its columns. -/
theorem s_eq (a : Conv.Reals) (t : Fin cfg0.N) (r : Fin 2048) (l : Fin 128) :
    swish (four (fun i l => a.w i (chan t l)) (fun r l => a.c r (chan t l)) (fun r l => down 1 (fun i => a.c i (chan t l)) r)
      (fun r l => down 2 (fun i => a.c i (chan t l)) r) (fun r l => down 3 (fun i => a.c i (chan t l)) r) r l) = a.s r (chan t l) := rfl
/-- One head's result, of its silu. -/
theorem o_eq (a : Conv.Reals) (t : Fin cfg0.N) (r : Fin 2048) (l : Fin 128) :
    normed (decide (t.val < 8)) (fun l => a.s r (chan t l)) l = a.o r (chan t l) := by
  unfold Reals.o
  have e : ∀ k, lane (chan t l) k = chan t k := fun k => Fin.ext (by
    show (t.val * 128 + l.val) / 128 * 128 + k.val = t.val * 128 + k.val; omega)
  have e' : (⟨(chan t l).val % 128, by omega⟩ : Fin 128) = l := Fin.ext (by
    show (t.val * 128 + l.val) % 128 = l.val; omega)
  have e'' : decide ((chan t l).val < 1024) = decide (t.val < 8) :=
    decide_eq_decide.mpr (by show t.val * 128 + l.val < 1024 ↔ _; omega)
  simp only [e, e', e'']

include h

theorem bc (t : Fin cfg0.N) : Is2 (φ := .f32) (iblk m c 0 t) (fun r l => a.c r (chan t l)) := fun r l => by
  refine (blk0 m c t r l).trans ?_
  rw [arr0]
  exact (cols_apply _ _ _).trans (h.cc _ _)
theorem bw (t : Fin cfg0.N) : Is2 (φ := .f32) (iblk m c 1 t) (fun r l => a.w r (chan t l)) := fun r l =>
  (blk1 m c t r l).trans (h.w _ _)

/-- The first store, from the fourth row on. -/
theorem rest (t : Fin cfg0.N) (r : Fin 2048) (hr : 3 ≤ r.val) (l : Fin 128) :
    (k0_pay2 (F := Ideal) (grid0.coords t) (iblk m c 0 t) (iblk m c 1 t) (ix2 r l) : EReal) = ((a.o r (chan t l) : ℝ) : EReal) := by
  obtain ⟨-, -, -, hc, ht⟩ := idx t
  refine (p2 (bw h t) (bc h t) (grid0.coords t) (by omega) r l).trans (congrArg _ ?_)
  rw [hc, ← o_eq]
  refine congrArg (fun s => normed _ s l) (funext fun k => ?_)
  rw [← s_eq]
  unfold four
  rw [around_eq (by omega), around_eq (by omega), around_eq (by omega)]

/-- The second store. -/
theorem first (t : Fin cfg0.N) (x : FVec Ideal S8x128 .f32)
    (hx : ∀ (r : Fin 8) (l : Fin 128), x (ix2 r l) = (show FVec Ideal S2048x128 .f32 from iblk m c 0 t) (ix2 (⟨r.val, by omega⟩ : Fin 2048) l)) (r : Fin 8) (l : Fin 128) :
    (k0_pay1 (F := Ideal) (BitVec.ofNat 32 (grid0.coords t 0).val) (k0_pay3 x (iblk m c 1 t)) (k0_pay4 x (iblk m c 1 t)) (Scalar.ofBits .f32 0x358637BD#32) (ix2 r l) : EReal)
      = ((a.o ⟨r.val, by omega⟩ (chan t l) : ℝ) : EReal) := by
  obtain ⟨-, -, -, hc, ht⟩ := idx t
  have hb : Is2 (φ := .f32) x (fun (i : Fin 8) l => a.c ⟨i.val, by omega⟩ (chan t l)) := fun r l => (hx r l).trans (bc h t _ _)
  refine (p1 (p3 (bw h t) hb) (grid0.coords t 0).val (by omega) r l).trans (congrArg _ ?_)
  rw [hc, ← o_eq]
  rfl

/-- The result. -/
theorem final2 : (dats m 0 c).arrAt 2 cfg0.N = fun j => ((a.o (j 0) (j 1) : ℝ) : EReal) := by
  refine (dats m 0 c).arrAt_eq_of_covers 2 _ (by decide +kernel) fun t _ y => ?_
  blk_simp
  rw [after0_2]
  have e0 : ((View.whole main_v7).slice (win0_2.rect t)).emb y 0 = y 0 := by
    apply Fin.ext; blk_simp [idx t]
  have e1 : ((View.whole main_v7).slice (win0_2.rect t)).emb y 1 = chan t (y 1) := by
    apply Fin.ext; blk_simp [idx t, chan]
  unfold outsAt0 out0_A_2
  frame_out
  idx_vars y
  rw [e0, e1]
  by_cases hr : y0.val < 8
  · have e : (Rect.unit (s := S2048x128) ![0, 0] ![8, 128] inb_S2048x128_S8x128_0_0).emb (ix2 (⟨y0.val, hr⟩ : Fin 8) y1) = ix2 y0 y1 := place (by show 0 + 1 * y0.val = y0.val; omega) _
    rw [← e]
    refine (View.canon_cons_emb _ _ _ _).trans ?_
    exact first h t _ (fun r l => congrArg (iblk m c 0 t) (place (r := ⟨r.val, by omega⟩) (by show 0 + 1 * r.val = r.val; omega) l)) ⟨y0.val, hr⟩ y1
  · rw [View.canon_cons_of_not_mem _ _ fun hm => hr (by
      have := (Rect.mem_set_unit (inb := inb_S2048x128_S8x128_0_0)).1 hm 0
      change 0 ≤ y0.val ∧ y0.val < 0 + 8 at this
      omega)]
    have e : (Rect.unit (s := S2048x128) ![0, 0] ![2048, 128] inb_S2048x128_S2048x128_0_0).emb (ix2 y0 y1) = ix2 y0 y1 := place (by show 0 + 1 * y0.val = y0.val; omega) _
    rw [← e]
    refine (View.canon_cons_emb _ _ _ _).trans ?_
    exact rest h t y0 (by omega) y1

end Ker
end Cert.Conv
-- ==== Proof.Conv.Reference.lean ====
module

public import proofs.«01_k».proof.Proof.Gen.PrepFwdRefIdeal.Run
public import proofs.«01_k».proof.Proof.Conv.Math

/-! # The convolution, silu and l2 norm before the delta rule: what the reference computes -/

@[expose] public section
set_option maxRecDepth 16384
noncomputable section
namespace Cert.Conv
open Cert.Lift Cert.Prep
namespace Ref
open Cert.PrepFwdRefIdeal Cert.PrepFwdRefIdeal.Gen Cert.PrepFwdRefIdeal.Value Idealize.ShloMosaic Idealize.ShloMosaic.TcCoe Idealize.SL.Sem

/-- One tap's row for all rows. -/
def row (v : FVec Ideal S1x1536 .f32) : FVec Ideal S2048x1536 .f32 :=
  broadcastInDim S2048x1536 ![0, 1] bcast_S1x1536_S2048x1536_0_1 (broadcastInDim S1x1536 ![1] bcast_S1536_S1x1536_1 (shapeCast S1536 v shapeCasts_S1x1536_S1536))
/-- The rows moved down by one, two and three, after zeros. -/
def dn1 (c : FVec Ideal S2048x1536 .f32) : FVec Ideal S2048x1536 .f32 :=
  concatenate S2048x1536 0 [⟨S1x1536, broadcastInDim S1x1536 ![] bcast_S_S1x1536 (constant S_ .f32 0x00000000#32)⟩,
    ⟨S2047x1536, extractStridedSlice S2047x1536 ![0, 0] c slices_S2048x1536_S2047x1536_0_0⟩] concatenates_S1x1536_S2047x1536_S2048x1536_d0
def dn2 (c : FVec Ideal S2048x1536 .f32) : FVec Ideal S2048x1536 .f32 :=
  concatenate S2048x1536 0 [⟨S2x1536, broadcastInDim S2x1536 ![] bcast_S_S2x1536 (constant S_ .f32 0x00000000#32)⟩,
    ⟨S2046x1536, extractStridedSlice S2046x1536 ![0, 0] c slices_S2048x1536_S2046x1536_0_0⟩] concatenates_S2x1536_S2046x1536_S2048x1536_d0
def dn3 (c : FVec Ideal S2048x1536 .f32) : FVec Ideal S2048x1536 .f32 :=
  concatenate S2048x1536 0 [⟨S3x1536, broadcastInDim S3x1536 ![] bcast_S_S3x1536 (constant S_ .f32 0x00000000#32)⟩,
    ⟨S2045x1536, extractStridedSlice S2045x1536 ![0, 0] c slices_S2048x1536_S2045x1536_0_0⟩] concatenates_S3x1536_S2045x1536_S2048x1536_d0
/-- The convolution. -/
def conv (c : FVec Ideal S2048x1536 .f32) (w : FVec Ideal S4x1536 .f32) : FVec Ideal S2048x1536 .f32 :=
  addf (addf (addf (mulf c (row (extractStridedSlice S1x1536 ![3, 0] w slices_S4x1536_S1x1536_3_0)))
    (mulf (dn1 c) (row (extractStridedSlice S1x1536 ![2, 0] w slices_S4x1536_S1x1536_2_0))))
    (mulf (dn2 c) (row (extractStridedSlice S1x1536 ![1, 0] w slices_S4x1536_S1x1536_1_0))))
    (mulf (dn3 c) (row (extractStridedSlice S1x1536 ![0, 0] w slices_S4x1536_S1x1536_0_0)))
/-- The silu. -/
def act (y : FVec Ideal S2048x1536 .f32) : FVec Ideal S2048x1536 .f32 :=
  mulf y (Host.divf (broadcastInDim S2048x1536 ![] bcast_S_S2048x1536 (constant S_ .f32 0x3F800000#32))
    (addf (broadcastInDim S2048x1536 ![] bcast_S_S2048x1536 (constant S_ .f32 0x3F800000#32)) (Host.exp (Host.negf y))))
/-- Four heads, as an array of rank three. -/
def split (v : FVec Ideal S2048x512 .f32) : FVec Ideal S2048x4x128 .f32 := shapeCast S2048x4x128 v shapeCasts_S2048x512_S2048x4x128
/-- A head's rows divided by their norms. -/
def unit (v : FVec Ideal S2048x4x128 .f32) : FVec Ideal S2048x4x128 .f32 :=
  mulf v (broadcastInDim S2048x4x128 ![0, 1, 2] bcast_S2048x4x1_S2048x4x128_0_1_2 (Host.rsqrt
    (addf (broadcastInDim S2048x4x1 ![0, 1] bcast_S2048x4_S2048x4x1_0_1 (Host.reduceAdd (mulf v v) (constant S_ .f32 0x00000000#32) reducesTo_S2048x4x128_S2048x4_d2 h_S_))
      (broadcastInDim S2048x4x1 ![] bcast_S_S2048x4x1 (constant S_ .f32 0x358637BD#32)))))
/-- The result, of the silu. -/
def joined (z : FVec Ideal S2048x1536 .f32) : FVec Ideal S2048x1536 .f32 :=
  concatenate S2048x1536 1
    [⟨S2048x512, shapeCast S2048x512 (unit (split (extractStridedSlice S2048x512 ![0, 0] z slices_S2048x1536_S2048x512_0_0))) shapeCasts_S2048x4x128_S2048x512⟩,
     ⟨S2048x512, shapeCast S2048x512 (unit (split (extractStridedSlice S2048x512 ![0, 512] z slices_S2048x1536_S2048x512_0_512))) shapeCasts_S2048x4x128_S2048x512⟩,
     ⟨S2048x512, extractStridedSlice S2048x512 ![0, 1024] z slices_S2048x1536_S2048x512_0_1024⟩] concatenates_S2048x512_S2048x512_S2048x512_S2048x1536_d1
theorem res_eq (m : (ℓ : Loc nD τ sig) → Buf (Elt Ideal) ℓ) (c : Dev nD) :
    res_main_v57 m c = joined (act (conv (extractStridedSlice S2048x1536 ![0, 0] (m ((c.tc : Thread nD τ).loc main_arg0)) slices_S2048x3600_S2048x1536_0_0)
      (m ((c.tc : Thread nD τ).loc main_arg1)))) := by
  unfold res_main_v57
  rfl

section
variable {c : FVec Ideal S2048x1536 .f32} {C : Fin 2048 → Fin 1536 → ℝ} (hc : Is2 (φ := .f32) c C)
include hc
theorem dn1_real : Is2 (φ := .f32) (dn1 c) (fun r k => down 1 (fun i => C i k) r) := fun r k => by
  unfold Is2 at hc
  pointwise [dn1, hc, down]
  by_cases hr : 1 ≤ r.val
  · rw [dif_neg (by omega), dif_pos hr]
  · rw [dif_pos (by omega), dif_neg hr]; rfl
theorem dn2_real : Is2 (φ := .f32) (dn2 c) (fun r k => down 2 (fun i => C i k) r) := fun r k => by
  unfold Is2 at hc
  pointwise [dn2, hc, down]
  by_cases hr : 2 ≤ r.val
  · rw [dif_neg (by omega), dif_pos hr]
  · rw [dif_pos (by omega), dif_neg hr]; rfl
theorem dn3_real : Is2 (φ := .f32) (dn3 c) (fun r k => down 3 (fun i => C i k) r) := fun r k => by
  unfold Is2 at hc
  pointwise [dn3, hc, down]
  by_cases hr : 3 ≤ r.val
  · rw [dif_neg (by omega), dif_pos hr]
  · rw [dif_pos (by omega), dif_neg hr]; rfl
theorem conv_real {w : FVec Ideal S4x1536 .f32} {W : Fin 4 → Fin 1536 → ℝ} (hw : Is2 (φ := .f32) w W) :
    Is2 (φ := .f32) (conv c w) (Reals.y ⟨C, W⟩) := fun r k => by
  have h1 := dn1_real hc
  have h2 := dn2_real hc
  have h3 := dn3_real hc
  unfold Is2 at *
  pointwise [conv, row, hc, hw, h1, h2, h3]
  simp only [← EReal.coe_mul, ← EReal.coe_add]
  rfl
theorem act_real : Is2 (φ := .f32) (act c) (fun r k => swish (C r k)) := fun r k => by
  unfold Is2 at hc
  pointwise [act, hc]
  simp only [logis_real, ← EReal.coe_mul]
  rfl
end

/-- Heads divided by their norms. -/
theorem unit_real {v : FVec Ideal S2048x4x128 .f32} {X : Fin 2048 → Fin 4 → Fin 128 → ℝ} (hv : ∀ r i l, (v (ix3 r i l) : EReal) = ((X r i l : ℝ) : EReal))
    (r : Fin 2048) (i : Fin 4) (l : Fin 128) : (unit v (ix3 r i l) : EReal) = ((normed true (X r i) l : ℝ) : EReal) := by
  pointwise [unit, hv]
  simp only [zero_add, lit_tiny, coe_sum, ← EReal.coe_mul, ← EReal.coe_add]
  rw [show Ideal.rsqrt ((((∑ k, X r i k * X r i k) + tiny : ℝ)) : EReal) = ((rinv (X r i) : ℝ) : EReal) from rsqrt_real (ss_pos _), ← EReal.coe_mul]
  rfl
/-- The result, of the silu's reals. -/
theorem joined_real {z : FVec Ideal S2048x1536 .f32} (a : Conv.Reals) (hz : Is2 (φ := .f32) z a.s) : Is2 (φ := .f32) (joined z) a.o := fun r k => by
  have hs := hz
  unfold Is2 at hs
  have hq : ∀ r i l, (unit (split (extractStridedSlice S2048x512 ![0, 0] z slices_S2048x1536_S2048x512_0_0)) (ix3 r i l) : EReal)
      = ((normed true (fun l => a.s r ⟨i.val * 128 + l.val, by omega⟩) l : ℝ) : EReal) := unit_real fun r i l => by
    pointwise [split, hs]
  have hk : ∀ r i l, (unit (split (extractStridedSlice S2048x512 ![0, 512] z slices_S2048x1536_S2048x512_0_512)) (ix3 r i l) : EReal)
      = ((normed true (fun l => a.s r ⟨512 + (i.val * 128 + l.val), by omega⟩) l : ℝ) : EReal) := unit_real fun r i l => by
    pointwise [split, hs]
  unfold joined
  generalize unit (split (extractStridedSlice S2048x512 ![0, 0] z slices_S2048x1536_S2048x512_0_0)) = q at *
  generalize unit (split (extractStridedSlice S2048x512 ![0, 512] z slices_S2048x1536_S2048x512_0_512)) = u at *
  pointwise [hq, hk, hs]
  unfold Reals.o
  by_cases h1 : k.val < 512
  · rw [dif_pos h1, decide_eq_true (show k.val < 1024 by omega)]
    rfl
  · rw [dif_neg h1]
    by_cases h2 : k.val - 512 < 512
    · rw [dif_pos h2, decide_eq_true (show k.val < 1024 by omega)]
      refine congrArg _ (congrArg₂ (normed true) (funext fun l => congrArg (a.s r) (Fin.ext ?_)) (Fin.ext ?_))
      · show 512 + ((k.val - 512) / 128 * 128 + l.val) = k.val / 128 * 128 + l.val; omega
      · show (k.val - 512) % 128 = k.val % 128; omega
    · rw [dif_neg h2, decide_eq_false (show ¬k.val < 1024 by omega)]
      refine congrArg _ (congrArg (a.s r) (Fin.ext ?_))
      show 1024 + (k.val - 512 - 512) = k.val / 128 * 128 + k.val % 128; omega

/-- The reference's argument arrays hold the reals `a`. -/
structure Holds (m : (ℓ : Loc nD τ sig) → Buf (Elt Ideal) ℓ) (c : Dev nD) (a : Conv.Reals) : Prop where
  cc : ∀ (r : Fin 2048) (k : Fin 1536), (m ((c.tc : Thread nD τ).loc main_arg0) (ix2 r (⟨k.val, by omega⟩ : Fin 3600)) : EReal) = ((a.c r k : ℝ) : EReal)
  w : Is2 (φ := .f32) (m ((c.tc : Thread nD τ).loc main_arg1)) a.w

/-- What the reference returns. -/
theorem res_real {m : (ℓ : Loc nD τ sig) → Buf (Elt Ideal) ℓ} {c : Dev nD} {a : Conv.Reals} (h : Holds m c a) :
    Is2 (φ := .f32) (res_main_v57 m c) a.o := by
  rw [res_eq]
  refine joined_real a (act_real (conv_real (C := a.c) (fun r k => ?_) h.w))
  have hc := h.cc
  generalize m ((c.tc : Thread nD τ).loc main_arg0) = x at *
  pointwise [hc]

theorem run (m : (ℓ : Loc nD τ sig) → Buf (Elt Ideal) ℓ) (a : Dev nD → Conv.Reals) (g : Dev nD → PrngReg) (h : ∀ c, Holds m c (a c)) :
    θ_run defs (onTc (τ := τ) (main (F := Ideal))) ⟨m, fun _ => 0, g⟩ fun r => ∀ c : Dev nD,
      r.2.mem ((c.tc : Thread nD τ).loc main_v57) = (fun j : S2048x1536.Idx => (((a c).o (j 0) (j 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ⟨(hr c).1.trans (funext fun j => ?_), (hr c).2⟩) (Value.run m g)
  idx_vars j
  exact res_real (h c) _ _

end Ref
end Cert.Conv
-- ==== Proof.Conv.Claim.lean ====
module

public import proofs.«01_k».proof.Defs
public import proofs.«01_k».proof.Proof.Gen.PrepFwdIdeal
public import proofs.«01_k».proof.Proof.Gen.PrepFwdRefIdeal
public import proofs.«01_k».proof.Proof.Gen.Pre_prepf_finite
public import proofs.«01_k».proof.Proof.Conv.Kernel
public import proofs.«01_k».proof.Proof.Conv.Reference

/-! # The forward call before the delta rule: kernel and reference agree on finite arguments -/

@[expose] public section
set_option maxRecDepth 16384
noncomputable section
namespace Cert.Conv
open Cert.Lift Idealize.ShloMosaic Idealize.ShloMosaic.TcCoe Idealize.SL.Sem Cert.PrepFwdIdeal

/-- The reals in the kernel's arguments. -/
def reals (m : (ℓ : Loc nD τ sig) → Buf (Elt Ideal) ℓ) (c : Dev nD) : Conv.Reals where
  c r k := EReal.toReal (m ((c.tc : Thread nD τ).loc main_arg0) (ix2 r (⟨k.val, by omega⟩ : Fin 3600)))
  w i k := EReal.toReal (m ((c.tc : Thread nD τ).loc main_arg1) (ix2 i k))

open Cert.Pre_prepf_finite in
/-- Under the precondition the arguments are those reals. -/
theorem holds (m : (ℓ : Loc nD τ sig) → Buf (Elt Ideal) ℓ) (hp : Cert.Pre_PrepFwdIdeal_prepf_finite m) (c : Dev nD) :
    Ker.Holds m c (reals m c) := by
  obtain ⟨h0, h1⟩ := hp c
  refine ⟨fun r l => ?_, fun r l => ?_⟩
  · have h := congrFun h0 (ix2 r (⟨l.val, by omega⟩ : Fin 3600))
    pointwise [fn] at h
    exact coe_of_test h
  · have h := congrFun h1 (ix2 r l)
    pointwise [fn] at h
    exact coe_of_test h

/-- Kernel and reference return the same array. -/
theorem algebraic : Cert.algebraic_PrepFwdIdeal_PrepFwdRefIdeal_pre_prepf_finite := by
  intro m g m' g' hp hm
  have hk := holds m hp
  have hr : ∀ c, Ref.Holds m' c (reals m c) := fun c => by
    obtain ⟨e0, e1⟩ := hm c
    exact ⟨fun r l => (congrFun e0 _).trans ((hk c).cc r l), fun r l => (congrFun e1 _).trans ((hk c).w r l)⟩
  refine ⟨fun c j => (((reals m c).o (j 0) (j 1) : ℝ) : EReal), ?_, Ref.run m' (reals m) g' hr⟩
  exact (θ_run _ _ _).mono (fun r h c => ⟨(h c).1.trans (Ker.final2 (hk c)), (h c).2⟩)
    (Cert.PrepFwdIdeal.Value.run_blocks m g)

/-- The reference alone: it terminates, keeps its arguments and leaves every counter at zero. -/
theorem ref_frame : Cert.quiescent_PrepFwdRefIdeal := fun m g _ =>
  (θ_run _ _ _).mono (fun r h => ⟨fun c => (h c).2, sem_eq_zero_of_no_sems (by decide) r.2⟩) (Cert.PrepFwdRefIdeal.Value.run m g)

end Cert.Conv
-- ==== Proof.lean ====
module

public import proofs.«01_k».proof.Defs
public import proofs.«01_k».proof.Proof.Gen.InProjBwd
public import proofs.«01_k».proof.Proof.Gen.InProjBwd.Skeleton
public import proofs.«01_k».proof.Proof.Gen.InProjBwd.Launch
public import proofs.«01_k».proof.Proof.Gen.InProjBwd.Points
public import proofs.«01_k».proof.Proof.Gen.InProjBwd.Frame
public import proofs.«01_k».proof.Proof.Gen.InProjBwdIdeal
public import proofs.«01_k».proof.Proof.Gen.InProjBwdIdeal.Skeleton
public import proofs.«01_k».proof.Proof.Gen.InProjBwdIdeal.Launch
public import proofs.«01_k».proof.Proof.Gen.InProjBwdIdeal.Points
public import proofs.«01_k».proof.Proof.Gen.InProjBwdIdeal.Frame
public import proofs.«01_k».proof.Proof.Gen.InProjBwdIdeal.Value
public import proofs.«01_k».proof.Proof.Gen.InProjBwdRefIdeal.Run
public import proofs.«01_k».proof.Proof.Gen.InProjBwdRefIdeal
public import proofs.«01_k».proof.Proof.Gen.Pre_in_proj_finite
public import proofs.«01_k».proof.Proof.InProj.Claim
public import proofs.«01_k».proof.Proof.Fox.Claim
public import proofs.«01_k».proof.Proof.Gen.PrepBwd
public import proofs.«01_k».proof.Proof.Gen.PrepBwd.Skeleton
public import proofs.«01_k».proof.Proof.Gen.PrepBwd.Launch
public import proofs.«01_k».proof.Proof.Gen.PrepBwd.Points
public import proofs.«01_k».proof.Proof.Gen.PrepBwd.Frame
public import proofs.«01_k».proof.Proof.Gen.Pre_prep_finite
public import proofs.«01_k».proof.Proof.Prep.Claim
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.Pre_out_finite
public import proofs.«01_k».proof.Proof.OutStage.Claim
public import proofs.«01_k».proof.Proof.Gen.MlpStep
public import proofs.«01_k».proof.Proof.Gen.MlpStep.Skeleton
public import proofs.«01_k».proof.Proof.Gen.MlpStep.Launch
public import proofs.«01_k».proof.Proof.Gen.MlpStep.Points
public import proofs.«01_k».proof.Proof.Gen.MlpStep.Frame
public import proofs.«01_k».proof.Proof.Gen.Pre_mlp_finite
public import proofs.«01_k».proof.Proof.Mlp.Claim
public import proofs.«01_k».proof.Proof.Gen.GatesBwdIdeal
public import proofs.«01_k».proof.Proof.Gen.GatesBwdIdeal.Skeleton
public import proofs.«01_k».proof.Proof.Gen.GatesBwdIdeal.Launch
public import proofs.«01_k».proof.Proof.Gen.GatesBwdIdeal.Points
public import proofs.«01_k».proof.Proof.Gen.GatesBwdIdeal.Frame
public import proofs.«01_k».proof.Proof.Gen.Pre_gates_finite
public import proofs.«01_k».proof.Proof.Gates.Claim
public import proofs.«01_k».proof.Proof.Gen.PrepFwd
public import proofs.«01_k».proof.Proof.Gen.PrepFwd.Skeleton
public import proofs.«01_k».proof.Proof.Gen.PrepFwd.Launch
public import proofs.«01_k».proof.Proof.Gen.PrepFwd.Points
public import proofs.«01_k».proof.Proof.Gen.PrepFwd.Frame
public import proofs.«01_k».proof.Proof.Gen.Pre_prepf_finite
public import proofs.«01_k».proof.Proof.Conv.Claim
public import Idealize.ShloMosaic.Adequacy
public import Idealize.ShloMosaic.Init

@[expose] public section

noncomputable section

namespace Cert.Proof

open Idealize.ShloMosaic Idealize.SL.Sem Cert.InProjBwd

theorem claim : Cert.Claim := ⟨Cert.InProjBwd.Gen.facts, Cert.InProjBwdIdeal.Gen.facts, Cert.InProjBwdRefIdeal.Gen.facts,
  Cert.FoxBwd.Gen.facts, Cert.FoxBwdIdeal.Gen.facts, Cert.FoxBwdRefIdeal.Gen.facts,
  Cert.PrepBwd.Gen.facts, Cert.PrepBwdIdeal.Gen.facts, Cert.PrepBwdRefIdeal.Gen.facts,
  Cert.OutBwd.Gen.facts, Cert.OutBwdIdeal.Gen.facts, Cert.OutBwdRefIdeal.Gen.facts,
  Cert.MlpStep.Gen.facts, Cert.MlpStepIdeal.Gen.facts, Cert.MlpStepRefIdeal.Gen.facts,
  Cert.GatesBwdIdeal.Gen.facts, Cert.GatesBwdRefIdeal.Gen.facts,
  Cert.PrepFwd.Gen.facts, Cert.PrepFwdIdeal.Gen.facts, Cert.PrepFwdRefIdeal.Gen.facts,
  Cert.Pre_in_proj_finite.Gen.facts,
  Cert.Pre_fox_finite.Gen.facts,
  Cert.Pre_prep_finite.Gen.facts,
  Cert.Pre_out_finite.Gen.facts,
  Cert.Pre_mlp_finite.Gen.facts,
  Cert.Pre_gates_finite.Gen.facts,
  Cert.Pre_prepf_finite.Gen.facts,
  fun m ρ _ => Cert.InProjBwd.Gen.frame m ρ, fun m ρ _ => Cert.InProjBwdIdeal.Gen.frame m ρ, fun m ρ _ => Cert.InProjBwdIdeal.Gen.frame m ρ,
  Cert.InProj.ref_frame, fun m ρ _ => Cert.InProj.ref_frame m ρ trivial,
  Cert.Fox.word_frame, Cert.Fox.ideal_frame, fun m ρ _ => Cert.Fox.ideal_frame m ρ trivial,
  Cert.Fox.ref_frame, fun m ρ _ => Cert.Fox.ref_frame m ρ trivial,
  fun m ρ _ => Cert.PrepBwd.Gen.frame m ρ, fun m ρ _ => Cert.PrepBwdIdeal.Gen.frame m ρ, fun m ρ _ => Cert.PrepBwdIdeal.Gen.frame m ρ,
  Cert.Prep.ref_frame, fun m ρ _ => Cert.Prep.ref_frame m ρ trivial,
  fun m ρ _ => Cert.OutBwd.Gen.frame m ρ, fun m ρ _ => Cert.OutBwdIdeal.Gen.frame m ρ, fun m ρ _ => Cert.OutBwdIdeal.Gen.frame m ρ,
  Cert.OutStage.ref_frame, fun m ρ _ => Cert.OutStage.ref_frame m ρ trivial,
  fun m ρ _ => Cert.MlpStep.Gen.frame m ρ, fun m ρ _ => Cert.MlpStepIdeal.Gen.frame m ρ, fun m ρ _ => Cert.MlpStepIdeal.Gen.frame m ρ,
  Cert.Mlp.ref_frame, fun m ρ _ => Cert.Mlp.ref_frame m ρ trivial,
  fun m ρ _ => Cert.GatesBwdIdeal.Gen.frame m ρ, fun m ρ _ => Cert.GatesBwdIdeal.Gen.frame m ρ,
  Cert.Gates.ref_frame, fun m ρ _ => Cert.Gates.ref_frame m ρ trivial,
  fun m ρ _ => Cert.PrepFwd.Gen.frame m ρ, fun m ρ _ => Cert.PrepFwdIdeal.Gen.frame m ρ, fun m ρ _ => Cert.PrepFwdIdeal.Gen.frame m ρ,
  Cert.Conv.ref_frame, fun m ρ _ => Cert.Conv.ref_frame m ρ trivial,
  trivial, Cert.InProj.algebraic,
  Cert.Fox.preserves, Cert.Fox.algebraic,
  trivial, Cert.Prep.algebraic,
  trivial, Cert.OutStage.algebraic,
  trivial, Cert.Mlp.algebraic,
  Cert.Gates.algebraic,
  trivial, Cert.Conv.algebraic⟩

end Cert.Proof

end
